-- ==== Defs.lean ====
def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Dil (m : (ℓ : Loc Cert.Dil.nD Cert.Dil.τ Cert.Dil.sig) → Buf (Elt Bits) ℓ) : Prop :=
  True

def Pre_DilIdeal (m : (ℓ : Loc Cert.DilIdeal.nD Cert.DilIdeal.τ Cert.DilIdeal.sig) → Buf (Elt Ideal) ℓ) : Prop :=
  True

def Pre_DilIdeal_finite [hPre_finite : Cert.Pre_finite.Facts] (m : (ℓ : Loc Cert.DilIdeal.nD Cert.DilIdeal.τ Cert.DilIdeal.sig) → Buf (Elt Ideal) ℓ) : Prop :=
  ∀ c : Dev Cert.DilIdeal.nD,
    (Cert.Pre_finite.fn (F := Ideal) (m ((c.tc : Thread Cert.DilIdeal.nD Cert.DilIdeal.τ).loc Cert.DilIdeal.main_arg0)) (m ((c.tc : Thread Cert.DilIdeal.nD Cert.DilIdeal.τ).loc Cert.DilIdeal.main_arg1)) (m ((c.tc : Thread Cert.DilIdeal.nD Cert.DilIdeal.τ).loc Cert.DilIdeal.main_arg2)) (m ((c.tc : Thread Cert.DilIdeal.nD Cert.DilIdeal.τ).loc Cert.DilIdeal.main_arg3))) = (fun _ => 1#1)

def Pre_DilRefIdeal (m : (ℓ : Loc Cert.DilRefIdeal.nD Cert.DilRefIdeal.τ Cert.DilRefIdeal.sig) → Buf (Elt Ideal) ℓ) : Prop :=
  True

def Pre_DilRefIdeal_finite [hPre_finite : Cert.Pre_finite.Facts] (m : (ℓ : Loc Cert.DilRefIdeal.nD Cert.DilRefIdeal.τ Cert.DilRefIdeal.sig) → Buf (Elt Ideal) ℓ) : Prop :=
  ∀ c : Dev Cert.DilRefIdeal.nD,
    (Cert.Pre_finite.fn (F := Ideal) (m ((c.tc : Thread Cert.DilRefIdeal.nD Cert.DilRefIdeal.τ).loc Cert.DilRefIdeal.main_arg0)) (m ((c.tc : Thread Cert.DilRefIdeal.nD Cert.DilRefIdeal.τ).loc Cert.DilRefIdeal.main_arg1)) (m ((c.tc : Thread Cert.DilRefIdeal.nD Cert.DilRefIdeal.τ).loc Cert.DilRefIdeal.main_arg2)) (m ((c.tc : Thread Cert.DilRefIdeal.nD Cert.DilRefIdeal.τ).loc Cert.DilRefIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Aout (m : (ℓ : Loc Cert.Aout.nD Cert.Aout.τ Cert.Aout.sig) → Buf (Elt Bits) ℓ) : Prop :=
  True

def Pre_AoutIdeal (m : (ℓ : Loc Cert.AoutIdeal.nD Cert.AoutIdeal.τ Cert.AoutIdeal.sig) → Buf (Elt Ideal) ℓ) : Prop :=
  True

def Pre_AoutRefIdeal (m : (ℓ : Loc Cert.AoutRefIdeal.nD Cert.AoutRefIdeal.τ Cert.AoutRefIdeal.sig) → Buf (Elt Ideal) ℓ) : Prop :=
  True

def Pre_WgradKv (m : (ℓ : Loc Cert.WgradKv.nD Cert.WgradKv.τ Cert.WgradKv.sig) → Buf (Elt Bits) ℓ) : Prop :=
  True

def Pre_WgradKvIdeal (m : (ℓ : Loc Cert.WgradKvIdeal.nD Cert.WgradKvIdeal.τ Cert.WgradKvIdeal.sig) → Buf (Elt Ideal) ℓ) : Prop :=
  True

def Pre_WgradKvRefIdeal (m : (ℓ : Loc Cert.WgradKvRefIdeal.nD Cert.WgradKvRefIdeal.τ Cert.WgradKvRefIdeal.sig) → Buf (Elt Ideal) ℓ) : Prop :=
  True

def Pre_WgradIn (m : (ℓ : Loc Cert.WgradIn.nD Cert.WgradIn.τ Cert.WgradIn.sig) → Buf (Elt Bits) ℓ) : Prop :=
  True

def Pre_WgradInIdeal (m : (ℓ : Loc Cert.WgradInIdeal.nD Cert.WgradInIdeal.τ Cert.WgradInIdeal.sig) → Buf (Elt Ideal) ℓ) : Prop :=
  True

def Pre_WgradInRefIdeal (m : (ℓ : Loc Cert.WgradInRefIdeal.nD Cert.WgradInRefIdeal.τ Cert.WgradInRefIdeal.sig) → Buf (Elt Ideal) ℓ) : Prop :=
  True

def Pre_WgradQ (m : (ℓ : Loc Cert.WgradQ.nD Cert.WgradQ.τ Cert.WgradQ.sig) → Buf (Elt Bits) ℓ) : Prop :=
  True

def Pre_WgradQIdeal (m : (ℓ : Loc Cert.WgradQIdeal.nD Cert.WgradQIdeal.τ Cert.WgradQIdeal.sig) → Buf (Elt Ideal) ℓ) : Prop :=
  True

def Pre_WgradQRefIdeal (m : (ℓ : Loc Cert.WgradQRefIdeal.nD Cert.WgradQRefIdeal.τ Cert.WgradQRefIdeal.sig) → Buf (Elt Ideal) ℓ) : Prop :=
  True

def Pre_NormKv (m : (ℓ : Loc Cert.NormKv.nD Cert.NormKv.τ Cert.NormKv.sig) → Buf (Elt Bits) ℓ) : Prop :=
  True

def Pre_NormKvIdeal (m : (ℓ : Loc Cert.NormKvIdeal.nD Cert.NormKvIdeal.τ Cert.NormKvIdeal.sig) → Buf (Elt Ideal) ℓ) : Prop :=
  True

def Pre_NormKvRefIdeal (m : (ℓ : Loc Cert.NormKvRefIdeal.nD Cert.NormKvRefIdeal.τ Cert.NormKvRefIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_NormQ (m : (ℓ : Loc Cert.NormQ.nD Cert.NormQ.τ Cert.NormQ.sig) → Buf (Elt Bits) ℓ) : Prop :=
  True

def Pre_NormQIdeal (m : (ℓ : Loc Cert.NormQIdeal.nD Cert.NormQIdeal.τ Cert.NormQIdeal.sig) → Buf (Elt Ideal) ℓ) : Prop :=
  True

def Pre_NormQRefIdeal (m : (ℓ : Loc Cert.NormQRefIdeal.nD Cert.NormQRefIdeal.τ Cert.NormQRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamQuery (m : (ℓ : Loc Cert.AdamQuery.nD Cert.AdamQuery.τ Cert.AdamQuery.sig) → Buf (Elt Bits) ℓ) : Prop :=
  True

def Pre_AdamQueryIdeal (m : (ℓ : Loc Cert.AdamQueryIdeal.nD Cert.AdamQueryIdeal.τ Cert.AdamQueryIdeal.sig) → Buf (Elt Ideal) ℓ) : Prop :=
  True

def Pre_AdamQueryRefIdeal (m : (ℓ : Loc Cert.AdamQueryRefIdeal.nD Cert.AdamQueryRefIdeal.τ Cert.AdamQueryRefIdeal.sig) → Buf (Elt Ideal) ℓ) : Prop :=
  True

def Pre_AdamBout (m : (ℓ : Loc Cert.AdamBout.nD Cert.AdamBout.τ Cert.AdamBout.sig) → Buf (Elt Bits) ℓ) : Prop :=
  True

def Pre_AdamBoutIdeal (m : (ℓ : Loc Cert.AdamBoutIdeal.nD Cert.AdamBoutIdeal.τ Cert.AdamBoutIdeal.sig) → Buf (Elt Ideal) ℓ) : Prop :=
  True

def Pre_AdamBoutRefIdeal (m : (ℓ : Loc Cert.AdamBoutRefIdeal.nD Cert.AdamBoutRefIdeal.τ Cert.AdamBoutRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Doa (m : (ℓ : Loc Cert.Doa.nD Cert.Doa.τ Cert.Doa.sig) → Buf (Elt Bits) ℓ) : Prop :=
  True

def Pre_DoaIdeal (m : (ℓ : Loc Cert.DoaIdeal.nD Cert.DoaIdeal.τ Cert.DoaIdeal.sig) → Buf (Elt Ideal) ℓ) : Prop :=
  True

def Pre_DoaRefIdeal (m : (ℓ : Loc Cert.DoaRefIdeal.nD Cert.DoaRefIdeal.τ Cert.DoaRefIdeal.sig) → Buf (Elt Ideal) ℓ) : Prop :=
  True

def Pre_Bout (m : (ℓ : Loc Cert.Bout.nD Cert.Bout.τ Cert.Bout.sig) → Buf (Elt Bits) ℓ) : Prop :=
  True

def Pre_BoutIdeal (m : (ℓ : Loc Cert.BoutIdeal.nD Cert.BoutIdeal.τ Cert.BoutIdeal.sig) → Buf (Elt Ideal) ℓ) : Prop :=
  True

def Pre_BoutRefIdeal (m : (ℓ : Loc Cert.BoutRefIdeal.nD Cert.BoutRefIdeal.τ Cert.BoutRefIdeal.sig) → Buf (Elt Ideal) ℓ) : Prop :=
  True

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1))
      ∧ r.2.sem = fun _ => 0)

def quiescent_Dil [hDil : Cert.Dil.Facts] : Prop :=
  ∀ (m : (ℓ : Loc Cert.Dil.nD Cert.Dil.τ Cert.Dil.sig) → Buf (Elt Bits) ℓ) (g : Dev Cert.Dil.nD → PrngReg), Pre_Dil m →
    θ_run (Cert.Dil.defs (F := Bits)) (onTc (τ := Cert.Dil.τ) (Cert.Dil.main (F := Bits))) ⟨m, fun _ => 0, g⟩ (fun r => (∀ c : Dev Cert.Dil.nD,
      r.2.mem ((c.tc : Thread Cert.Dil.nD Cert.Dil.τ).loc Cert.Dil.main_arg0) = m ((c.tc : Thread Cert.Dil.nD Cert.Dil.τ).loc Cert.Dil.main_arg0)
      ∧ r.2.mem ((c.tc : Thread Cert.Dil.nD Cert.Dil.τ).loc Cert.Dil.main_arg1) = m ((c.tc : Thread Cert.Dil.nD Cert.Dil.τ).loc Cert.Dil.main_arg1)
      ∧ r.2.mem ((c.tc : Thread Cert.Dil.nD Cert.Dil.τ).loc Cert.Dil.main_arg2) = m ((c.tc : Thread Cert.Dil.nD Cert.Dil.τ).loc Cert.Dil.main_arg2)
      ∧ r.2.mem ((c.tc : Thread Cert.Dil.nD Cert.Dil.τ).loc Cert.Dil.main_arg3) = m ((c.tc : Thread Cert.Dil.nD Cert.Dil.τ).loc Cert.Dil.main_arg3))
      ∧ r.2.sem = fun _ => 0)

def quiescent_DilIdeal [hDilIdeal : Cert.DilIdeal.Facts] : Prop :=
  ∀ (m : (ℓ : Loc Cert.DilIdeal.nD Cert.DilIdeal.τ Cert.DilIdeal.sig) → Buf (Elt Ideal) ℓ) (g : Dev Cert.DilIdeal.nD → PrngReg), Pre_DilIdeal m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0)
      ∧ r.2.mem ((c.tc : Thread Cert.DilIdeal.nD Cert.DilIdeal.τ).loc Cert.DilIdeal.main_arg1) = m ((c.tc : Thread Cert.DilIdeal.nD Cert.DilIdeal.τ).loc Cert.DilIdeal.main_arg1)
      ∧ r.2.mem ((c.tc : Thread Cert.DilIdeal.nD Cert.DilIdeal.τ).loc Cert.DilIdeal.main_arg2) = m ((c.tc : Thread Cert.DilIdeal.nD Cert.DilIdeal.τ).loc Cert.DilIdeal.main_arg2)
      ∧ r.2.mem ((c.tc : Thread Cert.DilIdeal.nD Cert.DilIdeal.τ).loc Cert.DilIdeal.main_arg3) = m ((c.tc : Thread Cert.DilIdeal.nD Cert.DilIdeal.τ).loc Cert.DilIdeal.main_arg3))
      ∧ r.2.sem = fun _ => 0)

def quiescent_DilIdeal_pre_finite [hDilIdeal : Cert.DilIdeal.Facts] [hPre_finite : Cert.Pre_finite.Facts] : Prop :=
  ∀ (m : (ℓ : Loc Cert.DilIdeal.nD Cert.DilIdeal.τ Cert.DilIdeal.sig) → Buf (Elt Ideal) ℓ) (g : Dev Cert.DilIdeal.nD → PrngReg), Pre_DilIdeal_finite m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0)
      ∧ r.2.mem ((c.tc : Thread Cert.DilIdeal.nD Cert.DilIdeal.τ).loc Cert.DilIdeal.main_arg1) = m ((c.tc : Thread Cert.DilIdeal.nD Cert.DilIdeal.τ).loc Cert.DilIdeal.main_arg1)
      ∧ r.2.mem ((c.tc : Thread Cert.DilIdeal.nD Cert.DilIdeal.τ).loc Cert.DilIdeal.main_arg2) = m ((c.tc : Thread Cert.DilIdeal.nD Cert.DilIdeal.τ).loc Cert.DilIdeal.main_arg2)
      ∧ r.2.mem ((c.tc : Thread Cert.DilIdeal.nD Cert.DilIdeal.τ).loc Cert.DilIdeal.main_arg3) = m ((c.tc : Thread Cert.DilIdeal.nD Cert.DilIdeal.τ).loc Cert.DilIdeal.main_arg3))
      ∧ r.2.sem = fun _ => 0)

def quiescent_DilRefIdeal [hDilRefIdeal : Cert.DilRefIdeal.Facts] : Prop :=
  ∀ (m : (ℓ : Loc Cert.DilRefIdeal.nD Cert.DilRefIdeal.τ Cert.DilRefIdeal.sig) → Buf (Elt Ideal) ℓ) (g : Dev Cert.DilRefIdeal.nD → PrngReg), Pre_DilRefIdeal m →
    θ_run (Cert.DilRefIdeal.defs (F := Ideal)) (onTc (τ := Cert.DilRefIdeal.τ) (Cert.DilRefIdeal.main (F := Ideal))) ⟨m, fun _ => 0, g⟩ (fun r => (∀ c : Dev Cert.DilRefIdeal.nD,
      r.2.mem ((c.tc : Thread Cert.DilRefIdeal.nD Cert.DilRefIdeal.τ).loc Cert.DilRefIdeal.main_arg0) = m ((c.tc : Thread Cert.DilRefIdeal.nD Cert.DilRefIdeal.τ).loc Cert.DilRefIdeal.main_arg0)
      ∧ r.2.mem ((c.tc : Thread Cert.DilRefIdeal.nD Cert.DilRefIdeal.τ).loc Cert.DilRefIdeal.main_arg1) = m ((c.tc : Thread Cert.DilRefIdeal.nD Cert.DilRefIdeal.τ).loc Cert.DilRefIdeal.main_arg1)
      ∧ r.2.mem ((c.tc : Thread Cert.DilRefIdeal.nD Cert.DilRefIdeal.τ).loc Cert.DilRefIdeal.main_arg2) = m ((c.tc : Thread Cert.DilRefIdeal.nD Cert.DilRefIdeal.τ).loc Cert.DilRefIdeal.main_arg2)
      ∧ r.2.mem ((c.tc : Thread Cert.DilRefIdeal.nD Cert.DilRefIdeal.τ).loc Cert.DilRefIdeal.main_arg3) = m ((c.tc : Thread Cert.DilRefIdeal.nD Cert.DilRefIdeal.τ).loc Cert.DilRefIdeal.main_arg3))
      ∧ r.2.sem = fun _ => 0)

def quiescent_DilRefIdeal_pre_finite [hDilRefIdeal : Cert.DilRefIdeal.Facts] [hPre_finite : Cert.Pre_finite.Facts] : Prop :=
  ∀ (m : (ℓ : Loc Cert.DilRefIdeal.nD Cert.DilRefIdeal.τ Cert.DilRefIdeal.sig) → Buf (Elt Ideal) ℓ) (g : Dev Cert.DilRefIdeal.nD → PrngReg), Pre_DilRefIdeal_finite m →
    θ_run (Cert.DilRefIdeal.defs (F := Ideal)) (onTc (τ := Cert.DilRefIdeal.τ) (Cert.DilRefIdeal.main (F := Ideal))) ⟨m, fun _ => 0, g⟩ (fun r => (∀ c : Dev Cert.DilRefIdeal.nD,
      r.2.mem ((c.tc : Thread Cert.DilRefIdeal.nD Cert.DilRefIdeal.τ).loc Cert.DilRefIdeal.main_arg0) = m ((c.tc : Thread Cert.DilRefIdeal.nD Cert.DilRefIdeal.τ).loc Cert.DilRefIdeal.main_arg0)
      ∧ r.2.mem ((c.tc : Thread Cert.DilRefIdeal.nD Cert.DilRefIdeal.τ).loc Cert.DilRefIdeal.main_arg1) = m ((c.tc : Thread Cert.DilRefIdeal.nD Cert.DilRefIdeal.τ).loc Cert.DilRefIdeal.main_arg1)
      ∧ r.2.mem ((c.tc : Thread Cert.DilRefIdeal.nD Cert.DilRefIdeal.τ).loc Cert.DilRefIdeal.main_arg2) = m ((c.tc : Thread Cert.DilRefIdeal.nD Cert.DilRefIdeal.τ).loc Cert.DilRefIdeal.main_arg2)
      ∧ r.2.mem ((c.tc : Thread Cert.DilRefIdeal.nD Cert.DilRefIdeal.τ).loc Cert.DilRefIdeal.main_arg3) = m ((c.tc : Thread Cert.DilRefIdeal.nD Cert.DilRefIdeal.τ).loc Cert.DilRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_Aout [hAout : Cert.Aout.Facts] : Prop :=
  ∀ (m : (ℓ : Loc Cert.Aout.nD Cert.Aout.τ Cert.Aout.sig) → Buf (Elt Bits) ℓ) (g : Dev Cert.Aout.nD → PrngReg), Pre_Aout m →
    θ_run (Cert.Aout.defs (F := Bits)) (onTc (τ := Cert.Aout.τ) (Cert.Aout.main (F := Bits))) ⟨m, fun _ => 0, g⟩ (fun r => (∀ c : Dev Cert.Aout.nD,
      r.2.mem ((c.tc : Thread Cert.Aout.nD Cert.Aout.τ).loc Cert.Aout.main_arg0) = m ((c.tc : Thread Cert.Aout.nD Cert.Aout.τ).loc Cert.Aout.main_arg0)
      ∧ r.2.mem ((c.tc : Thread Cert.Aout.nD Cert.Aout.τ).loc Cert.Aout.main_arg1) = m ((c.tc : Thread Cert.Aout.nD Cert.Aout.τ).loc Cert.Aout.main_arg1)
      ∧ r.2.mem ((c.tc : Thread Cert.Aout.nD Cert.Aout.τ).loc Cert.Aout.main_arg2) = m ((c.tc : Thread Cert.Aout.nD Cert.Aout.τ).loc Cert.Aout.main_arg2))
      ∧ r.2.sem = fun _ => 0)

def quiescent_AoutIdeal [hAoutIdeal : Cert.AoutIdeal.Facts] : Prop :=
  ∀ (m : (ℓ : Loc Cert.AoutIdeal.nD Cert.AoutIdeal.τ Cert.AoutIdeal.sig) → Buf (Elt Ideal) ℓ) (g : Dev Cert.AoutIdeal.nD → PrngReg), Pre_AoutIdeal m →
    θ_run (Cert.AoutIdeal.defs (F := Ideal)) (onTc (τ := Cert.AoutIdeal.τ) (Cert.AoutIdeal.main (F := Ideal))) ⟨m, fun _ => 0, g⟩ (fun r => (∀ c : Dev Cert.AoutIdeal.nD,
      r.2.mem ((c.tc : Thread Cert.AoutIdeal.nD Cert.AoutIdeal.τ).loc Cert.AoutIdeal.main_arg0) = m ((c.tc : Thread Cert.AoutIdeal.nD Cert.AoutIdeal.τ).loc Cert.AoutIdeal.main_arg0)
      ∧ r.2.mem ((c.tc : Thread Cert.AoutIdeal.nD Cert.AoutIdeal.τ).loc Cert.AoutIdeal.main_arg1) = m ((c.tc : Thread Cert.AoutIdeal.nD Cert.AoutIdeal.τ).loc Cert.AoutIdeal.main_arg1)
      ∧ r.2.mem ((c.tc : Thread Cert.AoutIdeal.nD Cert.AoutIdeal.τ).loc Cert.AoutIdeal.main_arg2) = m ((c.tc : Thread Cert.AoutIdeal.nD Cert.AoutIdeal.τ).loc Cert.AoutIdeal.main_arg2))
      ∧ r.2.sem = fun _ => 0)

def quiescent_AoutRefIdeal [hAoutRefIdeal : Cert.AoutRefIdeal.Facts] : Prop :=
  ∀ (m : (ℓ : Loc Cert.AoutRefIdeal.nD Cert.AoutRefIdeal.τ Cert.AoutRefIdeal.sig) → Buf (Elt Ideal) ℓ) (g : Dev Cert.AoutRefIdeal.nD → PrngReg), Pre_AoutRefIdeal m →
    θ_run (Cert.AoutRefIdeal.defs (F := Ideal)) (onTc (τ := Cert.AoutRefIdeal.τ) (Cert.AoutRefIdeal.main (F := Ideal))) ⟨m, fun _ => 0, g⟩ (fun r => (∀ c : Dev Cert.AoutRefIdeal.nD,
      r.2.mem ((c.tc : Thread Cert.AoutRefIdeal.nD Cert.AoutRefIdeal.τ).loc Cert.AoutRefIdeal.main_arg0) = m ((c.tc : Thread Cert.AoutRefIdeal.nD Cert.AoutRefIdeal.τ).loc Cert.AoutRefIdeal.main_arg0)
      ∧ r.2.mem ((c.tc : Thread Cert.AoutRefIdeal.nD Cert.AoutRefIdeal.τ).loc Cert.AoutRefIdeal.main_arg1) = m ((c.tc : Thread Cert.AoutRefIdeal.nD Cert.AoutRefIdeal.τ).loc Cert.AoutRefIdeal.main_arg1)
      ∧ r.2.mem ((c.tc : Thread Cert.AoutRefIdeal.nD Cert.AoutRefIdeal.τ).loc Cert.AoutRefIdeal.main_arg2) = m ((c.tc : Thread Cert.AoutRefIdeal.nD Cert.AoutRefIdeal.τ).loc Cert.AoutRefIdeal.main_arg2))
      ∧ r.2.sem = fun _ => 0)

def quiescent_WgradKv [hWgradKv : Cert.WgradKv.Facts] : Prop :=
  ∀ (m : (ℓ : Loc Cert.WgradKv.nD Cert.WgradKv.τ Cert.WgradKv.sig) → Buf (Elt Bits) ℓ) (g : Dev Cert.WgradKv.nD → PrngReg), Pre_WgradKv m →
    θ_run (Cert.WgradKv.defs (F := Bits)) (onTc (τ := Cert.WgradKv.τ) (Cert.WgradKv.main (F := Bits))) ⟨m, fun _ => 0, g⟩ (fun r => (∀ c : Dev Cert.WgradKv.nD,
      r.2.mem ((c.tc : Thread Cert.WgradKv.nD Cert.WgradKv.τ).loc Cert.WgradKv.main_arg0) = m ((c.tc : Thread Cert.WgradKv.nD Cert.WgradKv.τ).loc Cert.WgradKv.main_arg0)
      ∧ r.2.mem ((c.tc : Thread Cert.WgradKv.nD Cert.WgradKv.τ).loc Cert.WgradKv.main_arg1) = m ((c.tc : Thread Cert.WgradKv.nD Cert.WgradKv.τ).loc Cert.WgradKv.main_arg1))
      ∧ r.2.sem = fun _ => 0)

def quiescent_WgradKvIdeal [hWgradKvIdeal : Cert.WgradKvIdeal.Facts] : Prop :=
  ∀ (m : (ℓ : Loc Cert.WgradKvIdeal.nD Cert.WgradKvIdeal.τ Cert.WgradKvIdeal.sig) → Buf (Elt Ideal) ℓ) (g : Dev Cert.WgradKvIdeal.nD → PrngReg), Pre_WgradKvIdeal m →
    θ_run (Cert.WgradKvIdeal.defs (F := Ideal)) (onTc (τ := Cert.WgradKvIdeal.τ) (Cert.WgradKvIdeal.main (F := Ideal))) ⟨m, fun _ => 0, g⟩ (fun r => (∀ c : Dev Cert.WgradKvIdeal.nD,
      r.2.mem ((c.tc : Thread Cert.WgradKvIdeal.nD Cert.WgradKvIdeal.τ).loc Cert.WgradKvIdeal.main_arg0) = m ((c.tc : Thread Cert.WgradKvIdeal.nD Cert.WgradKvIdeal.τ).loc Cert.WgradKvIdeal.main_arg0)
      ∧ r.2.mem ((c.tc : Thread Cert.WgradKvIdeal.nD Cert.WgradKvIdeal.τ).loc Cert.WgradKvIdeal.main_arg1) = m ((c.tc : Thread Cert.WgradKvIdeal.nD Cert.WgradKvIdeal.τ).loc Cert.WgradKvIdeal.main_arg1))
      ∧ r.2.sem = fun _ => 0)

def quiescent_WgradKvRefIdeal [hWgradKvRefIdeal : Cert.WgradKvRefIdeal.Facts] : Prop :=
  ∀ (m : (ℓ : Loc Cert.WgradKvRefIdeal.nD Cert.WgradKvRefIdeal.τ Cert.WgradKvRefIdeal.sig) → Buf (Elt Ideal) ℓ) (g : Dev Cert.WgradKvRefIdeal.nD → PrngReg), Pre_WgradKvRefIdeal m →
    θ_run (Cert.WgradKvRefIdeal.defs (F := Ideal)) (onTc (τ := Cert.WgradKvRefIdeal.τ) (Cert.WgradKvRefIdeal.main (F := Ideal))) ⟨m, fun _ => 0, g⟩ (fun r => (∀ c : Dev Cert.WgradKvRefIdeal.nD,
      r.2.mem ((c.tc : Thread Cert.WgradKvRefIdeal.nD Cert.WgradKvRefIdeal.τ).loc Cert.WgradKvRefIdeal.main_arg0) = m ((c.tc : Thread Cert.WgradKvRefIdeal.nD Cert.WgradKvRefIdeal.τ).loc Cert.WgradKvRefIdeal.main_arg0)
      ∧ r.2.mem ((c.tc : Thread Cert.WgradKvRefIdeal.nD Cert.WgradKvRefIdeal.τ).loc Cert.WgradKvRefIdeal.main_arg1) = m ((c.tc : Thread Cert.WgradKvRefIdeal.nD Cert.WgradKvRefIdeal.τ).loc Cert.WgradKvRefIdeal.main_arg1))
      ∧ r.2.sem = fun _ => 0)

def quiescent_WgradIn [hWgradIn : Cert.WgradIn.Facts] : Prop :=
  ∀ (m : (ℓ : Loc Cert.WgradIn.nD Cert.WgradIn.τ Cert.WgradIn.sig) → Buf (Elt Bits) ℓ) (g : Dev Cert.WgradIn.nD → PrngReg), Pre_WgradIn m →
    θ_run (Cert.WgradIn.defs (F := Bits)) (onTc (τ := Cert.WgradIn.τ) (Cert.WgradIn.main (F := Bits))) ⟨m, fun _ => 0, g⟩ (fun r => (∀ c : Dev Cert.WgradIn.nD,
      r.2.mem ((c.tc : Thread Cert.WgradIn.nD Cert.WgradIn.τ).loc Cert.WgradIn.main_arg0) = m ((c.tc : Thread Cert.WgradIn.nD Cert.WgradIn.τ).loc Cert.WgradIn.main_arg0)
      ∧ r.2.mem ((c.tc : Thread Cert.WgradIn.nD Cert.WgradIn.τ).loc Cert.WgradIn.main_arg1) = m ((c.tc : Thread Cert.WgradIn.nD Cert.WgradIn.τ).loc Cert.WgradIn.main_arg1))
      ∧ r.2.sem = fun _ => 0)

def quiescent_WgradInIdeal [hWgradInIdeal : Cert.WgradInIdeal.Facts] : Prop :=
  ∀ (m : (ℓ : Loc Cert.WgradInIdeal.nD Cert.WgradInIdeal.τ Cert.WgradInIdeal.sig) → Buf (Elt Ideal) ℓ) (g : Dev Cert.WgradInIdeal.nD → PrngReg), Pre_WgradInIdeal m →
    θ_run (Cert.WgradInIdeal.defs (F := Ideal)) (onTc (τ := Cert.WgradInIdeal.τ) (Cert.WgradInIdeal.main (F := Ideal))) ⟨m, fun _ => 0, g⟩ (fun r => (∀ c : Dev Cert.WgradInIdeal.nD,
      r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
      ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1))
      ∧ r.2.sem = fun _ => 0)

def quiescent_WgradInRefIdeal [hWgradInRefIdeal : Cert.WgradInRefIdeal.Facts] : Prop :=
  ∀ (m : (ℓ : Loc Cert.WgradInRefIdeal.nD Cert.WgradInRefIdeal.τ Cert.WgradInRefIdeal.sig) → Buf (Elt Ideal) ℓ) (g : Dev Cert.WgradInRefIdeal.nD → PrngReg), Pre_WgradInRefIdeal m →
    θ_run (Cert.WgradInRefIdeal.defs (F := Ideal)) (onTc (τ := Cert.WgradInRefIdeal.τ) (Cert.WgradInRefIdeal.main (F := Ideal))) ⟨m, fun _ => 0, g⟩ (fun r => (∀ c : Dev Cert.WgradInRefIdeal.nD,
      r.2.mem ((c.tc : Thread Cert.WgradInRefIdeal.nD Cert.WgradInRefIdeal.τ).loc Cert.WgradInRefIdeal.main_arg0) = m ((c.tc : Thread Cert.WgradInRefIdeal.nD Cert.WgradInRefIdeal.τ).loc Cert.WgradInRefIdeal.main_arg0)
      ∧ r.2.mem ((c.tc : Thread Cert.WgradInRefIdeal.nD Cert.WgradInRefIdeal.τ).loc Cert.WgradInRefIdeal.main_arg1) = m ((c.tc : Thread Cert.WgradInRefIdeal.nD Cert.WgradInRefIdeal.τ).loc Cert.WgradInRefIdeal.main_arg1))
      ∧ r.2.sem = fun _ => 0)

def quiescent_WgradQ [hWgradQ : Cert.WgradQ.Facts] : Prop :=
  ∀ (m : (ℓ : Loc Cert.WgradQ.nD Cert.WgradQ.τ Cert.WgradQ.sig) → Buf (Elt Bits) ℓ) (g : Dev Cert.WgradQ.nD → PrngReg), Pre_WgradQ m →
    θ_run (Cert.WgradQ.defs (F := Bits)) (onTc (τ := Cert.WgradQ.τ) (Cert.WgradQ.main (F := Bits))) ⟨m, fun _ => 0, g⟩ (fun r => (∀ c : Dev Cert.WgradQ.nD,
      r.2.mem ((c.tc : Thread Cert.WgradQ.nD Cert.WgradQ.τ).loc Cert.WgradQ.main_arg0) = m ((c.tc : Thread Cert.WgradQ.nD Cert.WgradQ.τ).loc Cert.WgradQ.main_arg0)
      ∧ r.2.mem ((c.tc : Thread Cert.WgradQ.nD Cert.WgradQ.τ).loc Cert.WgradQ.main_arg1) = m ((c.tc : Thread Cert.WgradQ.nD Cert.WgradQ.τ).loc Cert.WgradQ.main_arg1))
      ∧ r.2.sem = fun _ => 0)

def quiescent_WgradQIdeal [hWgradQIdeal : Cert.WgradQIdeal.Facts] : Prop :=
  ∀ (m : (ℓ : Loc Cert.WgradQIdeal.nD Cert.WgradQIdeal.τ Cert.WgradQIdeal.sig) → Buf (Elt Ideal) ℓ) (g : Dev Cert.WgradQIdeal.nD → PrngReg), Pre_WgradQIdeal m →
    θ_run (Cert.WgradQIdeal.defs (F := Ideal)) (onTc (τ := Cert.WgradQIdeal.τ) (Cert.WgradQIdeal.main (F := Ideal))) ⟨m, fun _ => 0, g⟩ (fun r => (∀ c : Dev Cert.WgradQIdeal.nD,
      r.2.mem ((c.tc : Thread Cert.WgradQIdeal.nD Cert.WgradQIdeal.τ).loc Cert.WgradQIdeal.main_arg0) = m ((c.tc : Thread Cert.WgradQIdeal.nD Cert.WgradQIdeal.τ).loc Cert.WgradQIdeal.main_arg0)
      ∧ r.2.mem ((c.tc : Thread Cert.WgradQIdeal.nD Cert.WgradQIdeal.τ).loc Cert.WgradQIdeal.main_arg1) = m ((c.tc : Thread Cert.WgradQIdeal.nD Cert.WgradQIdeal.τ).loc Cert.WgradQIdeal.main_arg1))
      ∧ r.2.sem = fun _ => 0)

def quiescent_WgradQRefIdeal [hWgradQRefIdeal : Cert.WgradQRefIdeal.Facts] : Prop :=
  ∀ (m : (ℓ : Loc Cert.WgradQRefIdeal.nD Cert.WgradQRefIdeal.τ Cert.WgradQRefIdeal.sig) → Buf (Elt Ideal) ℓ) (g : Dev Cert.WgradQRefIdeal.nD → PrngReg), Pre_WgradQRefIdeal m →
    θ_run (Cert.WgradQRefIdeal.defs (F := Ideal)) (onTc (τ := Cert.WgradQRefIdeal.τ) (Cert.WgradQRefIdeal.main (F := Ideal))) ⟨m, fun _ => 0, g⟩ (fun r => (∀ c : Dev Cert.WgradQRefIdeal.nD,
      r.2.mem ((c.tc : Thread Cert.WgradQRefIdeal.nD Cert.WgradQRefIdeal.τ).loc Cert.WgradQRefIdeal.main_arg0) = m ((c.tc : Thread Cert.WgradQRefIdeal.nD Cert.WgradQRefIdeal.τ).loc Cert.WgradQRefIdeal.main_arg0)
      ∧ r.2.mem ((c.tc : Thread Cert.WgradQRefIdeal.nD Cert.WgradQRefIdeal.τ).loc Cert.WgradQRefIdeal.main_arg1) = m ((c.tc : Thread Cert.WgradQRefIdeal.nD Cert.WgradQRefIdeal.τ).loc Cert.WgradQRefIdeal.main_arg1))
      ∧ r.2.sem = fun _ => 0)

def quiescent_NormKv [hNormKv : Cert.NormKv.Facts] : Prop :=
  ∀ (m : (ℓ : Loc Cert.NormKv.nD Cert.NormKv.τ Cert.NormKv.sig) → Buf (Elt Bits) ℓ) (g : Dev Cert.NormKv.nD → PrngReg), Pre_NormKv m →
    θ_run (Cert.NormKv.defs (F := Bits)) (onTc (τ := Cert.NormKv.τ) (Cert.NormKv.main (F := Bits))) ⟨m, fun _ => 0, g⟩ (fun r => (∀ c : Dev Cert.NormKv.nD,
      r.2.mem ((c.tc : Thread Cert.NormKv.nD Cert.NormKv.τ).loc Cert.NormKv.main_arg0) = m ((c.tc : Thread Cert.NormKv.nD Cert.NormKv.τ).loc Cert.NormKv.main_arg0)
      ∧ r.2.mem ((c.tc : Thread Cert.NormKv.nD Cert.NormKv.τ).loc Cert.NormKv.main_arg1) = m ((c.tc : Thread Cert.NormKv.nD Cert.NormKv.τ).loc Cert.NormKv.main_arg1)
      ∧ r.2.mem ((c.tc : Thread Cert.NormKv.nD Cert.NormKv.τ).loc Cert.NormKv.main_arg2) = m ((c.tc : Thread Cert.NormKv.nD Cert.NormKv.τ).loc Cert.NormKv.main_arg2)
      ∧ r.2.mem ((c.tc : Thread Cert.NormKv.nD Cert.NormKv.τ).loc Cert.NormKv.main_arg3) = m ((c.tc : Thread Cert.NormKv.nD Cert.NormKv.τ).loc Cert.NormKv.main_arg3)
      ∧ r.2.mem ((c.tc : Thread Cert.NormKv.nD Cert.NormKv.τ).loc Cert.NormKv.main_arg4) = m ((c.tc : Thread Cert.NormKv.nD Cert.NormKv.τ).loc Cert.NormKv.main_arg4))
      ∧ r.2.sem = fun _ => 0)

def quiescent_NormKvIdeal [hNormKvIdeal : Cert.NormKvIdeal.Facts] : Prop :=
  ∀ (m : (ℓ : Loc Cert.NormKvIdeal.nD Cert.NormKvIdeal.τ Cert.NormKvIdeal.sig) → Buf (Elt Ideal) ℓ) (g : Dev Cert.NormKvIdeal.nD → PrngReg), Pre_NormKvIdeal m →
    θ_run (Cert.NormKvIdeal.defs (F := Ideal)) (onTc (τ := Cert.NormKvIdeal.τ) (Cert.NormKvIdeal.main (F := Ideal))) ⟨m, fun _ => 0, g⟩ (fun r => (∀ c : Dev Cert.NormKvIdeal.nD,
      r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
      ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1)
      ∧ r.2.mem ((c.tc : Thread Cert.NormKvIdeal.nD Cert.NormKvIdeal.τ).loc Cert.NormKvIdeal.main_arg2) = m ((c.tc : Thread Cert.NormKvIdeal.nD Cert.NormKvIdeal.τ).loc Cert.NormKvIdeal.main_arg2)
      ∧ r.2.mem ((c.tc : Thread Cert.NormKvIdeal.nD Cert.NormKvIdeal.τ).loc Cert.NormKvIdeal.main_arg3) = m ((c.tc : Thread Cert.NormKvIdeal.nD Cert.NormKvIdeal.τ).loc Cert.NormKvIdeal.main_arg3)
      ∧ r.2.mem ((c.tc : Thread Cert.NormKvIdeal.nD Cert.NormKvIdeal.τ).loc Cert.NormKvIdeal.main_arg4) = m ((c.tc : Thread Cert.NormKvIdeal.nD Cert.NormKvIdeal.τ).loc Cert.NormKvIdeal.main_arg4))
      ∧ r.2.sem = fun _ => 0)

def quiescent_NormKvRefIdeal [hNormKvRefIdeal : Cert.NormKvRefIdeal.Facts] : Prop :=
  ∀ (m : (ℓ : Loc Cert.NormKvRefIdeal.nD Cert.NormKvRefIdeal.τ Cert.NormKvRefIdeal.sig) → Buf (Elt Ideal) ℓ) (g : Dev Cert.NormKvRefIdeal.nD → PrngReg), Pre_NormKvRefIdeal m →
    θ_run (Cert.NormKvRefIdeal.defs (F := Ideal)) (onTc (τ := Cert.NormKvRefIdeal.τ) (Cert.NormKvRefIdeal.main (F := Ideal))) ⟨m, fun _ => 0, g⟩ (fun r => (∀ c : Dev Cert.NormKvRefIdeal.nD,
      r.2.mem ((c.tc : Thread Cert.NormKvRefIdeal.nD Cert.NormKvRefIdeal.τ).loc Cert.NormKvRefIdeal.main_arg0) = m ((c.tc : Thread Cert.NormKvRefIdeal.nD Cert.NormKvRefIdeal.τ).loc Cert.NormKvRefIdeal.main_arg0)
      ∧ r.2.mem ((c.tc : Thread Cert.NormKvRefIdeal.nD Cert.NormKvRefIdeal.τ).loc Cert.NormKvRefIdeal.main_arg1) = m ((c.tc : Thread Cert.NormKvRefIdeal.nD Cert.NormKvRefIdeal.τ).loc Cert.NormKvRefIdeal.main_arg1)
      ∧ r.2.mem ((c.tc : Thread Cert.NormKvRefIdeal.nD Cert.NormKvRefIdeal.τ).loc Cert.NormKvRefIdeal.main_arg2) = m ((c.tc : Thread Cert.NormKvRefIdeal.nD Cert.NormKvRefIdeal.τ).loc Cert.NormKvRefIdeal.main_arg2)
      ∧ r.2.mem ((c.tc : Thread Cert.NormKvRefIdeal.nD Cert.NormKvRefIdeal.τ).loc Cert.NormKvRefIdeal.main_arg3) = m ((c.tc : Thread Cert.NormKvRefIdeal.nD Cert.NormKvRefIdeal.τ).loc Cert.NormKvRefIdeal.main_arg3)
      ∧ r.2.mem ((c.tc : Thread Cert.NormKvRefIdeal.nD Cert.NormKvRefIdeal.τ).loc Cert.NormKvRefIdeal.main_arg4) = m ((c.tc : Thread Cert.NormKvRefIdeal.nD Cert.NormKvRefIdeal.τ).loc Cert.NormKvRefIdeal.main_arg4))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3)
      ∧ r.2.mem ((c.tc : Thread Cert.NormIn.nD Cert.NormIn.τ).loc Cert.NormIn.main_arg4) = m ((c.tc : Thread Cert.NormIn.nD Cert.NormIn.τ).loc Cert.NormIn.main_arg4))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
      ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2)
      ∧ r.2.mem ((c.tc : Thread Cert.NormInRefIdeal.nD Cert.NormInRefIdeal.τ).loc Cert.NormInRefIdeal.main_arg3) = m ((c.tc : Thread Cert.NormInRefIdeal.nD Cert.NormInRefIdeal.τ).loc Cert.NormInRefIdeal.main_arg3)
      ∧ r.2.mem ((c.tc : Thread Cert.NormInRefIdeal.nD Cert.NormInRefIdeal.τ).loc Cert.NormInRefIdeal.main_arg4) = m ((c.tc : Thread Cert.NormInRefIdeal.nD Cert.NormInRefIdeal.τ).loc Cert.NormInRefIdeal.main_arg4))
      ∧ r.2.sem = fun _ => 0)

def quiescent_NormQ [hNormQ : Cert.NormQ.Facts] : Prop :=
  ∀ (m : (ℓ : Loc Cert.NormQ.nD Cert.NormQ.τ Cert.NormQ.sig) → Buf (Elt Bits) ℓ) (g : Dev Cert.NormQ.nD → PrngReg), Pre_NormQ m →
    θ_run (Cert.NormQ.defs (F := Bits)) (onTc (τ := Cert.NormQ.τ) (Cert.NormQ.main (F := Bits))) ⟨m, fun _ => 0, g⟩ (fun r => (∀ c : Dev Cert.NormQ.nD,
      r.2.mem ((c.tc : Thread Cert.NormQ.nD Cert.NormQ.τ).loc Cert.NormQ.main_arg0) = m ((c.tc : Thread Cert.NormQ.nD Cert.NormQ.τ).loc Cert.NormQ.main_arg0)
      ∧ r.2.mem ((c.tc : Thread Cert.NormQ.nD Cert.NormQ.τ).loc Cert.NormQ.main_arg1) = m ((c.tc : Thread Cert.NormQ.nD Cert.NormQ.τ).loc Cert.NormQ.main_arg1)
      ∧ r.2.mem ((c.tc : Thread Cert.NormQ.nD Cert.NormQ.τ).loc Cert.NormQ.main_arg2) = m ((c.tc : Thread Cert.NormQ.nD Cert.NormQ.τ).loc Cert.NormQ.main_arg2)
      ∧ r.2.mem ((c.tc : Thread Cert.NormQ.nD Cert.NormQ.τ).loc Cert.NormQ.main_arg3) = m ((c.tc : Thread Cert.NormQ.nD Cert.NormQ.τ).loc Cert.NormQ.main_arg3)
      ∧ r.2.mem ((c.tc : Thread Cert.NormQ.nD Cert.NormQ.τ).loc Cert.NormQ.main_arg4) = m ((c.tc : Thread Cert.NormQ.nD Cert.NormQ.τ).loc Cert.NormQ.main_arg4))
      ∧ r.2.sem = fun _ => 0)

def quiescent_NormQIdeal [hNormQIdeal : Cert.NormQIdeal.Facts] : Prop :=
  ∀ (m : (ℓ : Loc Cert.NormQIdeal.nD Cert.NormQIdeal.τ Cert.NormQIdeal.sig) → Buf (Elt Ideal) ℓ) (g : Dev Cert.NormQIdeal.nD → PrngReg), Pre_NormQIdeal m →
    θ_run (Cert.NormQIdeal.defs (F := Ideal)) (onTc (τ := Cert.NormQIdeal.τ) (Cert.NormQIdeal.main (F := Ideal))) ⟨m, fun _ => 0, g⟩ (fun r => (∀ c : Dev Cert.NormQIdeal.nD,
      r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
      ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1)
      ∧ r.2.mem ((c.tc : Thread Cert.NormQIdeal.nD Cert.NormQIdeal.τ).loc Cert.NormQIdeal.main_arg2) = m ((c.tc : Thread Cert.NormQIdeal.nD Cert.NormQIdeal.τ).loc Cert.NormQIdeal.main_arg2)
      ∧ r.2.mem ((c.tc : Thread Cert.NormQIdeal.nD Cert.NormQIdeal.τ).loc Cert.NormQIdeal.main_arg3) = m ((c.tc : Thread Cert.NormQIdeal.nD Cert.NormQIdeal.τ).loc Cert.NormQIdeal.main_arg3)
      ∧ r.2.mem ((c.tc : Thread Cert.NormQIdeal.nD Cert.NormQIdeal.τ).loc Cert.NormQIdeal.main_arg4) = m ((c.tc : Thread Cert.NormQIdeal.nD Cert.NormQIdeal.τ).loc Cert.NormQIdeal.main_arg4))
      ∧ r.2.sem = fun _ => 0)

def quiescent_NormQRefIdeal [hNormQRefIdeal : Cert.NormQRefIdeal.Facts] : Prop :=
  ∀ (m : (ℓ : Loc Cert.NormQRefIdeal.nD Cert.NormQRefIdeal.τ Cert.NormQRefIdeal.sig) → Buf (Elt Ideal) ℓ) (g : Dev Cert.NormQRefIdeal.nD → PrngReg), Pre_NormQRefIdeal m →
    θ_run (Cert.NormQRefIdeal.defs (F := Ideal)) (onTc (τ := Cert.NormQRefIdeal.τ) (Cert.NormQRefIdeal.main (F := Ideal))) ⟨m, fun _ => 0, g⟩ (fun r => (∀ c : Dev Cert.NormQRefIdeal.nD,
      r.2.mem ((c.tc : Thread Cert.NormQRefIdeal.nD Cert.NormQRefIdeal.τ).loc Cert.NormQRefIdeal.main_arg0) = m ((c.tc : Thread Cert.NormQRefIdeal.nD Cert.NormQRefIdeal.τ).loc Cert.NormQRefIdeal.main_arg0)
      ∧ r.2.mem ((c.tc : Thread Cert.NormQRefIdeal.nD Cert.NormQRefIdeal.τ).loc Cert.NormQRefIdeal.main_arg1) = m ((c.tc : Thread Cert.NormQRefIdeal.nD Cert.NormQRefIdeal.τ).loc Cert.NormQRefIdeal.main_arg1)
      ∧ r.2.mem ((c.tc : Thread Cert.NormQRefIdeal.nD Cert.NormQRefIdeal.τ).loc Cert.NormQRefIdeal.main_arg2) = m ((c.tc : Thread Cert.NormQRefIdeal.nD Cert.NormQRefIdeal.τ).loc Cert.NormQRefIdeal.main_arg2)
      ∧ r.2.mem ((c.tc : Thread Cert.NormQRefIdeal.nD Cert.NormQRefIdeal.τ).loc Cert.NormQRefIdeal.main_arg3) = m ((c.tc : Thread Cert.NormQRefIdeal.nD Cert.NormQRefIdeal.τ).loc Cert.NormQRefIdeal.main_arg3)
      ∧ r.2.mem ((c.tc : Thread Cert.NormQRefIdeal.nD Cert.NormQRefIdeal.τ).loc Cert.NormQRefIdeal.main_arg4) = m ((c.tc : Thread Cert.NormQRefIdeal.nD Cert.NormQRefIdeal.τ).loc Cert.NormQRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamQuery [hAdamQuery : Cert.AdamQuery.Facts] : Prop :=
  ∀ (m : (ℓ : Loc Cert.AdamQuery.nD Cert.AdamQuery.τ Cert.AdamQuery.sig) → Buf (Elt Bits) ℓ) (g : Dev Cert.AdamQuery.nD → PrngReg), Pre_AdamQuery m →
    θ_run (Cert.AdamQuery.defs (F := Bits)) (onTc (τ := Cert.AdamQuery.τ) (Cert.AdamQuery.main (F := Bits))) ⟨m, fun _ => 0, g⟩ (fun r => (∀ c : Dev Cert.AdamQuery.nD,
      r.2.mem ((c.tc : Thread Cert.AdamQuery.nD Cert.AdamQuery.τ).loc Cert.AdamQuery.main_arg0) = m ((c.tc : Thread Cert.AdamQuery.nD Cert.AdamQuery.τ).loc Cert.AdamQuery.main_arg0)
      ∧ r.2.mem ((c.tc : Thread Cert.AdamQuery.nD Cert.AdamQuery.τ).loc Cert.AdamQuery.main_arg1) = m ((c.tc : Thread Cert.AdamQuery.nD Cert.AdamQuery.τ).loc Cert.AdamQuery.main_arg1)
      ∧ r.2.mem ((c.tc : Thread Cert.AdamQuery.nD Cert.AdamQuery.τ).loc Cert.AdamQuery.main_arg2) = m ((c.tc : Thread Cert.AdamQuery.nD Cert.AdamQuery.τ).loc Cert.AdamQuery.main_arg2)
      ∧ r.2.mem ((c.tc : Thread Cert.AdamQuery.nD Cert.AdamQuery.τ).loc Cert.AdamQuery.main_arg3) = m ((c.tc : Thread Cert.AdamQuery.nD Cert.AdamQuery.τ).loc Cert.AdamQuery.main_arg3))
      ∧ r.2.sem = fun _ => 0)

def quiescent_AdamQueryIdeal [hAdamQueryIdeal : Cert.AdamQueryIdeal.Facts] : Prop :=
  ∀ (m : (ℓ : Loc Cert.AdamQueryIdeal.nD Cert.AdamQueryIdeal.τ Cert.AdamQueryIdeal.sig) → Buf (Elt Ideal) ℓ) (g : Dev Cert.AdamQueryIdeal.nD → PrngReg), Pre_AdamQueryIdeal m →
    θ_run (Cert.AdamQueryIdeal.defs (F := Ideal)) (onTc (τ := Cert.AdamQueryIdeal.τ) (Cert.AdamQueryIdeal.main (F := Ideal))) ⟨m, fun _ => 0, g⟩ (fun r => (∀ c : Dev Cert.AdamQueryIdeal.nD,
      r.2.mem ((c.tc : Thread Cert.AdamQueryIdeal.nD Cert.AdamQueryIdeal.τ).loc Cert.AdamQueryIdeal.main_arg0) = m ((c.tc : Thread Cert.AdamQueryIdeal.nD Cert.AdamQueryIdeal.τ).loc Cert.AdamQueryIdeal.main_arg0)
      ∧ r.2.mem ((c.tc : Thread Cert.AdamQueryIdeal.nD Cert.AdamQueryIdeal.τ).loc Cert.AdamQueryIdeal.main_arg1) = m ((c.tc : Thread Cert.AdamQueryIdeal.nD Cert.AdamQueryIdeal.τ).loc Cert.AdamQueryIdeal.main_arg1)
      ∧ r.2.mem ((c.tc : Thread Cert.AdamQueryIdeal.nD Cert.AdamQueryIdeal.τ).loc Cert.AdamQueryIdeal.main_arg2) = m ((c.tc : Thread Cert.AdamQueryIdeal.nD Cert.AdamQueryIdeal.τ).loc Cert.AdamQueryIdeal.main_arg2)
      ∧ r.2.mem ((c.tc : Thread Cert.AdamQueryIdeal.nD Cert.AdamQueryIdeal.τ).loc Cert.AdamQueryIdeal.main_arg3) = m ((c.tc : Thread Cert.AdamQueryIdeal.nD Cert.AdamQueryIdeal.τ).loc Cert.AdamQueryIdeal.main_arg3))
      ∧ r.2.sem = fun _ => 0)

def quiescent_AdamQueryRefIdeal [hAdamQueryRefIdeal : Cert.AdamQueryRefIdeal.Facts] : Prop :=
  ∀ (m : (ℓ : Loc Cert.AdamQueryRefIdeal.nD Cert.AdamQueryRefIdeal.τ Cert.AdamQueryRefIdeal.sig) → Buf (Elt Ideal) ℓ) (g : Dev Cert.AdamQueryRefIdeal.nD → PrngReg), Pre_AdamQueryRefIdeal m →
    θ_run (Cert.AdamQueryRefIdeal.defs (F := Ideal)) (onTc (τ := Cert.AdamQueryRefIdeal.τ) (Cert.AdamQueryRefIdeal.main (F := Ideal))) ⟨m, fun _ => 0, g⟩ (fun r => (∀ c : Dev Cert.AdamQueryRefIdeal.nD,
      r.2.mem ((c.tc : Thread Cert.AdamQueryRefIdeal.nD Cert.AdamQueryRefIdeal.τ).loc Cert.AdamQueryRefIdeal.main_arg0) = m ((c.tc : Thread Cert.AdamQueryRefIdeal.nD Cert.AdamQueryRefIdeal.τ).loc Cert.AdamQueryRefIdeal.main_arg0)
      ∧ r.2.mem ((c.tc : Thread Cert.AdamQueryRefIdeal.nD Cert.AdamQueryRefIdeal.τ).loc Cert.AdamQueryRefIdeal.main_arg1) = m ((c.tc : Thread Cert.AdamQueryRefIdeal.nD Cert.AdamQueryRefIdeal.τ).loc Cert.AdamQueryRefIdeal.main_arg1)
      ∧ r.2.mem ((c.tc : Thread Cert.AdamQueryRefIdeal.nD Cert.AdamQueryRefIdeal.τ).loc Cert.AdamQueryRefIdeal.main_arg2) = m ((c.tc : Thread Cert.AdamQueryRefIdeal.nD Cert.AdamQueryRefIdeal.τ).loc Cert.AdamQueryRefIdeal.main_arg2)
      ∧ r.2.mem ((c.tc : Thread Cert.AdamQueryRefIdeal.nD Cert.AdamQueryRefIdeal.τ).loc Cert.AdamQueryRefIdeal.main_arg3) = m ((c.tc : Thread Cert.AdamQueryRefIdeal.nD Cert.AdamQueryRefIdeal.τ).loc Cert.AdamQueryRefIdeal.main_arg3))
      ∧ r.2.sem = fun _ => 0)

def quiescent_AdamBout [hAdamBout : Cert.AdamBout.Facts] : Prop :=
  ∀ (m : (ℓ : Loc Cert.AdamBout.nD Cert.AdamBout.τ Cert.AdamBout.sig) → Buf (Elt Bits) ℓ) (g : Dev Cert.AdamBout.nD → PrngReg), Pre_AdamBout m →
    θ_run (Cert.AdamBout.defs (F := Bits)) (onTc (τ := Cert.AdamBout.τ) (Cert.AdamBout.main (F := Bits))) ⟨m, fun _ => 0, g⟩ (fun r => (∀ c : Dev Cert.AdamBout.nD,
      r.2.mem ((c.tc : Thread Cert.AdamBout.nD Cert.AdamBout.τ).loc Cert.AdamBout.main_arg0) = m ((c.tc : Thread Cert.AdamBout.nD Cert.AdamBout.τ).loc Cert.AdamBout.main_arg0)
      ∧ r.2.mem ((c.tc : Thread Cert.AdamBout.nD Cert.AdamBout.τ).loc Cert.AdamBout.main_arg1) = m ((c.tc : Thread Cert.AdamBout.nD Cert.AdamBout.τ).loc Cert.AdamBout.main_arg1)
      ∧ r.2.mem ((c.tc : Thread Cert.AdamBout.nD Cert.AdamBout.τ).loc Cert.AdamBout.main_arg2) = m ((c.tc : Thread Cert.AdamBout.nD Cert.AdamBout.τ).loc Cert.AdamBout.main_arg2)
      ∧ r.2.mem ((c.tc : Thread Cert.AdamBout.nD Cert.AdamBout.τ).loc Cert.AdamBout.main_arg3) = m ((c.tc : Thread Cert.AdamBout.nD Cert.AdamBout.τ).loc Cert.AdamBout.main_arg3))
      ∧ r.2.sem = fun _ => 0)

def quiescent_AdamBoutIdeal [hAdamBoutIdeal : Cert.AdamBoutIdeal.Facts] : Prop :=
  ∀ (m : (ℓ : Loc Cert.AdamBoutIdeal.nD Cert.AdamBoutIdeal.τ Cert.AdamBoutIdeal.sig) → Buf (Elt Ideal) ℓ) (g : Dev Cert.AdamBoutIdeal.nD → PrngReg), Pre_AdamBoutIdeal m →
    θ_run (Cert.AdamBoutIdeal.defs (F := Ideal)) (onTc (τ := Cert.AdamBoutIdeal.τ) (Cert.AdamBoutIdeal.main (F := Ideal))) ⟨m, fun _ => 0, g⟩ (fun r => (∀ c : Dev Cert.AdamBoutIdeal.nD,
      r.2.mem ((c.tc : Thread Cert.AdamBoutIdeal.nD Cert.AdamBoutIdeal.τ).loc Cert.AdamBoutIdeal.main_arg0) = m ((c.tc : Thread Cert.AdamBoutIdeal.nD Cert.AdamBoutIdeal.τ).loc Cert.AdamBoutIdeal.main_arg0)
      ∧ r.2.mem ((c.tc : Thread Cert.AdamBoutIdeal.nD Cert.AdamBoutIdeal.τ).loc Cert.AdamBoutIdeal.main_arg1) = m ((c.tc : Thread Cert.AdamBoutIdeal.nD Cert.AdamBoutIdeal.τ).loc Cert.AdamBoutIdeal.main_arg1)
      ∧ r.2.mem ((c.tc : Thread Cert.AdamBoutIdeal.nD Cert.AdamBoutIdeal.τ).loc Cert.AdamBoutIdeal.main_arg2) = m ((c.tc : Thread Cert.AdamBoutIdeal.nD Cert.AdamBoutIdeal.τ).loc Cert.AdamBoutIdeal.main_arg2)
      ∧ r.2.mem ((c.tc : Thread Cert.AdamBoutIdeal.nD Cert.AdamBoutIdeal.τ).loc Cert.AdamBoutIdeal.main_arg3) = m ((c.tc : Thread Cert.AdamBoutIdeal.nD Cert.AdamBoutIdeal.τ).loc Cert.AdamBoutIdeal.main_arg3))
      ∧ r.2.sem = fun _ => 0)

def quiescent_AdamBoutRefIdeal [hAdamBoutRefIdeal : Cert.AdamBoutRefIdeal.Facts] : Prop :=
  ∀ (m : (ℓ : Loc Cert.AdamBoutRefIdeal.nD Cert.AdamBoutRefIdeal.τ Cert.AdamBoutRefIdeal.sig) → Buf (Elt Ideal) ℓ) (g : Dev Cert.AdamBoutRefIdeal.nD → PrngReg), Pre_AdamBoutRefIdeal m →
    θ_run (Cert.AdamBoutRefIdeal.defs (F := Ideal)) (onTc (τ := Cert.AdamBoutRefIdeal.τ) (Cert.AdamBoutRefIdeal.main (F := Ideal))) ⟨m, fun _ => 0, g⟩ (fun r => (∀ c : Dev Cert.AdamBoutRefIdeal.nD,
      r.2.mem ((c.tc : Thread Cert.AdamBoutRefIdeal.nD Cert.AdamBoutRefIdeal.τ).loc Cert.AdamBoutRefIdeal.main_arg0) = m ((c.tc : Thread Cert.AdamBoutRefIdeal.nD Cert.AdamBoutRefIdeal.τ).loc Cert.AdamBoutRefIdeal.main_arg0)
      ∧ r.2.mem ((c.tc : Thread Cert.AdamBoutRefIdeal.nD Cert.AdamBoutRefIdeal.τ).loc Cert.AdamBoutRefIdeal.main_arg1) = m ((c.tc : Thread Cert.AdamBoutRefIdeal.nD Cert.AdamBoutRefIdeal.τ).loc Cert.AdamBoutRefIdeal.main_arg1)
      ∧ r.2.mem ((c.tc : Thread Cert.AdamBoutRefIdeal.nD Cert.AdamBoutRefIdeal.τ).loc Cert.AdamBoutRefIdeal.main_arg2) = m ((c.tc : Thread Cert.AdamBoutRefIdeal.nD Cert.AdamBoutRefIdeal.τ).loc Cert.AdamBoutRefIdeal.main_arg2)
      ∧ r.2.mem ((c.tc : Thread Cert.AdamBoutRefIdeal.nD Cert.AdamBoutRefIdeal.τ).loc Cert.AdamBoutRefIdeal.main_arg3) = m ((c.tc : Thread Cert.AdamBoutRefIdeal.nD Cert.AdamBoutRefIdeal.τ).loc Cert.AdamBoutRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Doa [hDoa : Cert.Doa.Facts] : Prop :=
  ∀ (m : (ℓ : Loc Cert.Doa.nD Cert.Doa.τ Cert.Doa.sig) → Buf (Elt Bits) ℓ) (g : Dev Cert.Doa.nD → PrngReg), Pre_Doa m →
    θ_run (Cert.Doa.defs (F := Bits)) (onTc (τ := Cert.Doa.τ) (Cert.Doa.main (F := Bits))) ⟨m, fun _ => 0, g⟩ (fun r => (∀ c : Dev Cert.Doa.nD,
      r.2.mem ((c.tc : Thread Cert.Doa.nD Cert.Doa.τ).loc Cert.Doa.main_arg0) = m ((c.tc : Thread Cert.Doa.nD Cert.Doa.τ).loc Cert.Doa.main_arg0)
      ∧ r.2.mem ((c.tc : Thread Cert.Doa.nD Cert.Doa.τ).loc Cert.Doa.main_arg1) = m ((c.tc : Thread Cert.Doa.nD Cert.Doa.τ).loc Cert.Doa.main_arg1))
      ∧ r.2.sem = fun _ => 0)

def quiescent_DoaIdeal [hDoaIdeal : Cert.DoaIdeal.Facts] : Prop :=
  ∀ (m : (ℓ : Loc Cert.DoaIdeal.nD Cert.DoaIdeal.τ Cert.DoaIdeal.sig) → Buf (Elt Ideal) ℓ) (g : Dev Cert.DoaIdeal.nD → PrngReg), Pre_DoaIdeal m →
    θ_run (Cert.DoaIdeal.defs (F := Ideal)) (onTc (τ := Cert.DoaIdeal.τ) (Cert.DoaIdeal.main (F := Ideal))) ⟨m, fun _ => 0, g⟩ (fun r => (∀ c : Dev Cert.DoaIdeal.nD,
      r.2.mem ((c.tc : Thread Cert.DoaIdeal.nD Cert.DoaIdeal.τ).loc Cert.DoaIdeal.main_arg0) = m ((c.tc : Thread Cert.DoaIdeal.nD Cert.DoaIdeal.τ).loc Cert.DoaIdeal.main_arg0)
      ∧ r.2.mem ((c.tc : Thread Cert.DoaIdeal.nD Cert.DoaIdeal.τ).loc Cert.DoaIdeal.main_arg1) = m ((c.tc : Thread Cert.DoaIdeal.nD Cert.DoaIdeal.τ).loc Cert.DoaIdeal.main_arg1))
      ∧ r.2.sem = fun _ => 0)

def quiescent_DoaRefIdeal [hDoaRefIdeal : Cert.DoaRefIdeal.Facts] : Prop :=
  ∀ (m : (ℓ : Loc Cert.DoaRefIdeal.nD Cert.DoaRefIdeal.τ Cert.DoaRefIdeal.sig) → Buf (Elt Ideal) ℓ) (g : Dev Cert.DoaRefIdeal.nD → PrngReg), Pre_DoaRefIdeal m →
    θ_run (Cert.DoaRefIdeal.defs (F := Ideal)) (onTc (τ := Cert.DoaRefIdeal.τ) (Cert.DoaRefIdeal.main (F := Ideal))) ⟨m, fun _ => 0, g⟩ (fun r => (∀ c : Dev Cert.DoaRefIdeal.nD,
      r.2.mem ((c.tc : Thread Cert.DoaRefIdeal.nD Cert.DoaRefIdeal.τ).loc Cert.DoaRefIdeal.main_arg0) = m ((c.tc : Thread Cert.DoaRefIdeal.nD Cert.DoaRefIdeal.τ).loc Cert.DoaRefIdeal.main_arg0)
      ∧ r.2.mem ((c.tc : Thread Cert.DoaRefIdeal.nD Cert.DoaRefIdeal.τ).loc Cert.DoaRefIdeal.main_arg1) = m ((c.tc : Thread Cert.DoaRefIdeal.nD Cert.DoaRefIdeal.τ).loc Cert.DoaRefIdeal.main_arg1))
      ∧ r.2.sem = fun _ => 0)

def quiescent_Bout [hBout : Cert.Bout.Facts] : Prop :=
  ∀ (m : (ℓ : Loc Cert.Bout.nD Cert.Bout.τ Cert.Bout.sig) → Buf (Elt Bits) ℓ) (g : Dev Cert.Bout.nD → PrngReg), Pre_Bout m →
    θ_run (Cert.Bout.defs (F := Bits)) (onTc (τ := Cert.Bout.τ) (Cert.Bout.main (F := Bits))) ⟨m, fun _ => 0, g⟩ (fun r => (∀ c : Dev Cert.Bout.nD,
      r.2.mem ((c.tc : Thread Cert.Bout.nD Cert.Bout.τ).loc Cert.Bout.main_arg0) = m ((c.tc : Thread Cert.Bout.nD Cert.Bout.τ).loc Cert.Bout.main_arg0)
      ∧ r.2.mem ((c.tc : Thread Cert.Bout.nD Cert.Bout.τ).loc Cert.Bout.main_arg1) = m ((c.tc : Thread Cert.Bout.nD Cert.Bout.τ).loc Cert.Bout.main_arg1)
      ∧ r.2.mem ((c.tc : Thread Cert.Bout.nD Cert.Bout.τ).loc Cert.Bout.main_arg2) = m ((c.tc : Thread Cert.Bout.nD Cert.Bout.τ).loc Cert.Bout.main_arg2))
      ∧ r.2.sem = fun _ => 0)

def quiescent_BoutIdeal [hBoutIdeal : Cert.BoutIdeal.Facts] : Prop :=
  ∀ (m : (ℓ : Loc Cert.BoutIdeal.nD Cert.BoutIdeal.τ Cert.BoutIdeal.sig) → Buf (Elt Ideal) ℓ) (g : Dev Cert.BoutIdeal.nD → PrngReg), Pre_BoutIdeal m →
    θ_run (Cert.BoutIdeal.defs (F := Ideal)) (onTc (τ := Cert.BoutIdeal.τ) (Cert.BoutIdeal.main (F := Ideal))) ⟨m, fun _ => 0, g⟩ (fun r => (∀ c : Dev Cert.BoutIdeal.nD,
      r.2.mem ((c.tc : Thread Cert.BoutIdeal.nD Cert.BoutIdeal.τ).loc Cert.BoutIdeal.main_arg0) = m ((c.tc : Thread Cert.BoutIdeal.nD Cert.BoutIdeal.τ).loc Cert.BoutIdeal.main_arg0)
      ∧ r.2.mem ((c.tc : Thread Cert.BoutIdeal.nD Cert.BoutIdeal.τ).loc Cert.BoutIdeal.main_arg1) = m ((c.tc : Thread Cert.BoutIdeal.nD Cert.BoutIdeal.τ).loc Cert.BoutIdeal.main_arg1)
      ∧ r.2.mem ((c.tc : Thread Cert.BoutIdeal.nD Cert.BoutIdeal.τ).loc Cert.BoutIdeal.main_arg2) = m ((c.tc : Thread Cert.BoutIdeal.nD Cert.BoutIdeal.τ).loc Cert.BoutIdeal.main_arg2))
      ∧ r.2.sem = fun _ => 0)

def quiescent_BoutRefIdeal [hBoutRefIdeal : Cert.BoutRefIdeal.Facts] : Prop :=
  ∀ (m : (ℓ : Loc Cert.BoutRefIdeal.nD Cert.BoutRefIdeal.τ Cert.BoutRefIdeal.sig) → Buf (Elt Ideal) ℓ) (g : Dev Cert.BoutRefIdeal.nD → PrngReg), Pre_BoutRefIdeal m →
    θ_run (Cert.BoutRefIdeal.defs (F := Ideal)) (onTc (τ := Cert.BoutRefIdeal.τ) (Cert.BoutRefIdeal.main (F := Ideal))) ⟨m, fun _ => 0, g⟩ (fun r => (∀ c : Dev Cert.BoutRefIdeal.nD,
      r.2.mem ((c.tc : Thread Cert.BoutRefIdeal.nD Cert.BoutRefIdeal.τ).loc Cert.BoutRefIdeal.main_arg0) = m ((c.tc : Thread Cert.BoutRefIdeal.nD Cert.BoutRefIdeal.τ).loc Cert.BoutRefIdeal.main_arg0)
      ∧ r.2.mem ((c.tc : Thread Cert.BoutRefIdeal.nD Cert.BoutRefIdeal.τ).loc Cert.BoutRefIdeal.main_arg1) = m ((c.tc : Thread Cert.BoutRefIdeal.nD Cert.BoutRefIdeal.τ).loc Cert.BoutRefIdeal.main_arg1)
      ∧ r.2.mem ((c.tc : Thread Cert.BoutRefIdeal.nD Cert.BoutRefIdeal.τ).loc Cert.BoutRefIdeal.main_arg2) = m ((c.tc : Thread Cert.BoutRefIdeal.nD Cert.BoutRefIdeal.τ).loc Cert.BoutRefIdeal.main_arg2))
      ∧ r.2.sem = fun _ => 0)

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v43) = v0 c
          ∧ r.2.mem ((c.tc : Thread Cert.NormRefIdeal.nD Cert.NormRefIdeal.τ).loc Cert.NormRefIdeal.main_v44) = v1 c
          ∧ r.2.mem ((c.tc : Thread Cert.NormRefIdeal.nD Cert.NormRefIdeal.τ).loc Cert.NormRefIdeal.main_v26) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)) →
    ∃ (v0 : (c : Dev Cert.WgradIdeal.nD) → Buf (Elt Ideal) ((c.tc : Thread Cert.WgradIdeal.nD Cert.WgradIdeal.τ).loc Cert.WgradIdeal.main_v0)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v0) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v6) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1))

def preserves_Dil_DilIdeal : Prop :=
  IdealRules.named_const.Statement Cert.DilIdeal.κ "minus_inf" .f32 0xF149F2CA#32 ⊥

def algebraic_DilIdeal_DilRefIdeal_pre_finite [hDilIdeal : Cert.DilIdeal.Facts] [hDilRefIdeal : Cert.DilRefIdeal.Facts] [hPre_finite : Cert.Pre_finite.Facts] : Prop :=
  ∀ (m : (ℓ : Loc Cert.DilIdeal.nD Cert.DilIdeal.τ Cert.DilIdeal.sig) → Buf (Elt Ideal) ℓ) (g : Dev Cert.DilIdeal.nD → PrngReg)
    (m' : (ℓ : Loc Cert.DilRefIdeal.nD Cert.DilRefIdeal.τ Cert.DilRefIdeal.sig) → Buf (Elt Ideal) ℓ) (g' : Dev Cert.DilRefIdeal.nD → PrngReg), Pre_DilIdeal_finite m →
    (∀ c : Dev Cert.DilIdeal.nD,
      m' ((c.tc : Thread Cert.DilRefIdeal.nD Cert.DilRefIdeal.τ).loc Cert.DilRefIdeal.main_arg0) = m ((c.tc : Thread Cert.DilIdeal.nD Cert.DilIdeal.τ).loc Cert.DilIdeal.main_arg0)
      ∧ m' ((c.tc : Thread Cert.DilRefIdeal.nD Cert.DilRefIdeal.τ).loc Cert.DilRefIdeal.main_arg1) = m ((c.tc : Thread Cert.DilIdeal.nD Cert.DilIdeal.τ).loc Cert.DilIdeal.main_arg1)
      ∧ m' ((c.tc : Thread Cert.DilRefIdeal.nD Cert.DilRefIdeal.τ).loc Cert.DilRefIdeal.main_arg2) = m ((c.tc : Thread Cert.DilIdeal.nD Cert.DilIdeal.τ).loc Cert.DilIdeal.main_arg2)
      ∧ m' ((c.tc : Thread Cert.DilRefIdeal.nD Cert.DilRefIdeal.τ).loc Cert.DilRefIdeal.main_arg3) = m ((c.tc : Thread Cert.DilIdeal.nD Cert.DilIdeal.τ).loc Cert.DilIdeal.main_arg3)) →
    ∃ (v0 : (c : Dev Cert.DilIdeal.nD) → Buf (Elt Ideal) ((c.tc : Thread Cert.DilIdeal.nD Cert.DilIdeal.τ).loc Cert.DilIdeal.main_v194_0)) (v1 : (c : Dev Cert.DilIdeal.nD) → Buf (Elt Ideal) ((c.tc : Thread Cert.DilIdeal.nD Cert.DilIdeal.τ).loc Cert.DilIdeal.main_v194_1)) (v2 : (c : Dev Cert.DilIdeal.nD) → Buf (Elt Ideal) ((c.tc : Thread Cert.DilIdeal.nD Cert.DilIdeal.τ).loc Cert.DilIdeal.main_v194_2)),
      θ_run (Cert.DilIdeal.defs (F := Ideal)) (onTc (τ := Cert.DilIdeal.τ) (Cert.DilIdeal.main (F := Ideal))) ⟨m, fun _ => 0, g⟩ (fun r => ∀ c : Dev Cert.DilIdeal.nD,
          r.2.mem ((c.tc : Thread Cert.DilIdeal.nD Cert.DilIdeal.τ).loc Cert.DilIdeal.main_v194_0) = v0 c
          ∧ r.2.mem ((c.tc : Thread Cert.DilIdeal.nD Cert.DilIdeal.τ).loc Cert.DilIdeal.main_v194_1) = v1 c
          ∧ r.2.mem ((c.tc : Thread Cert.DilIdeal.nD Cert.DilIdeal.τ).loc Cert.DilIdeal.main_v194_2) = v2 c
          ∧ r.2.mem ((c.tc : Thread Cert.DilIdeal.nD Cert.DilIdeal.τ).loc Cert.DilIdeal.main_arg0) = m ((c.tc : Thread Cert.DilIdeal.nD Cert.DilIdeal.τ).loc Cert.DilIdeal.main_arg0)
          ∧ r.2.mem ((c.tc : Thread Cert.DilIdeal.nD Cert.DilIdeal.τ).loc Cert.DilIdeal.main_arg1) = m ((c.tc : Thread Cert.DilIdeal.nD Cert.DilIdeal.τ).loc Cert.DilIdeal.main_arg1)
          ∧ r.2.mem ((c.tc : Thread Cert.DilIdeal.nD Cert.DilIdeal.τ).loc Cert.DilIdeal.main_arg2) = m ((c.tc : Thread Cert.DilIdeal.nD Cert.DilIdeal.τ).loc Cert.DilIdeal.main_arg2)
          ∧ r.2.mem ((c.tc : Thread Cert.DilIdeal.nD Cert.DilIdeal.τ).loc Cert.DilIdeal.main_arg3) = m ((c.tc : Thread Cert.DilIdeal.nD Cert.DilIdeal.τ).loc Cert.DilIdeal.main_arg3))
      ∧ θ_run (Cert.DilRefIdeal.defs (F := Ideal)) (onTc (τ := Cert.DilRefIdeal.τ) (Cert.DilRefIdeal.main (F := Ideal))) ⟨m', fun _ => 0, g'⟩ (fun r => ∀ c : Dev Cert.DilRefIdeal.nD,
          r.2.mem ((c.tc : Thread Cert.DilRefIdeal.nD Cert.DilRefIdeal.τ).loc Cert.DilRefIdeal.main_v182) = v0 c
          ∧ r.2.mem ((c.tc : Thread Cert.DilRefIdeal.nD Cert.DilRefIdeal.τ).loc Cert.DilRefIdeal.main_v199) = v1 c
          ∧ r.2.mem ((c.tc : Thread Cert.DilRefIdeal.nD Cert.DilRefIdeal.τ).loc Cert.DilRefIdeal.main_v216) = v2 c
          ∧ r.2.mem ((c.tc : Thread Cert.DilRefIdeal.nD Cert.DilRefIdeal.τ).loc Cert.DilRefIdeal.main_arg0) = m' ((c.tc : Thread Cert.DilRefIdeal.nD Cert.DilRefIdeal.τ).loc Cert.DilRefIdeal.main_arg0)
          ∧ r.2.mem ((c.tc : Thread Cert.DilRefIdeal.nD Cert.DilRefIdeal.τ).loc Cert.DilRefIdeal.main_arg1) = m' ((c.tc : Thread Cert.DilRefIdeal.nD Cert.DilRefIdeal.τ).loc Cert.DilRefIdeal.main_arg1)
          ∧ r.2.mem ((c.tc : Thread Cert.DilRefIdeal.nD Cert.DilRefIdeal.τ).loc Cert.DilRefIdeal.main_arg2) = m' ((c.tc : Thread Cert.DilRefIdeal.nD Cert.DilRefIdeal.τ).loc Cert.DilRefIdeal.main_arg2)
          ∧ r.2.mem ((c.tc : Thread Cert.DilRefIdeal.nD Cert.DilRefIdeal.τ).loc Cert.DilRefIdeal.main_arg3) = m' ((c.tc : Thread Cert.DilRefIdeal.nD Cert.DilRefIdeal.τ).loc Cert.DilRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v5) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v3) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_Aout_AoutIdeal : Prop :=
  True

def algebraic_AoutIdeal_AoutRefIdeal [hAoutIdeal : Cert.AoutIdeal.Facts] [hAoutRefIdeal : Cert.AoutRefIdeal.Facts] : Prop :=
  ∀ (m : (ℓ : Loc Cert.AoutIdeal.nD Cert.AoutIdeal.τ Cert.AoutIdeal.sig) → Buf (Elt Ideal) ℓ) (g : Dev Cert.AoutIdeal.nD → PrngReg)
    (m' : (ℓ : Loc Cert.AoutRefIdeal.nD Cert.AoutRefIdeal.τ Cert.AoutRefIdeal.sig) → Buf (Elt Ideal) ℓ) (g' : Dev Cert.AoutRefIdeal.nD → PrngReg), Pre_AoutIdeal m →
    (∀ c : Dev Cert.AoutIdeal.nD,
      m' ((c.tc : Thread Cert.AoutRefIdeal.nD Cert.AoutRefIdeal.τ).loc Cert.AoutRefIdeal.main_arg0) = m ((c.tc : Thread Cert.AoutIdeal.nD Cert.AoutIdeal.τ).loc Cert.AoutIdeal.main_arg0)
      ∧ m' ((c.tc : Thread Cert.AoutRefIdeal.nD Cert.AoutRefIdeal.τ).loc Cert.AoutRefIdeal.main_arg1) = m ((c.tc : Thread Cert.AoutIdeal.nD Cert.AoutIdeal.τ).loc Cert.AoutIdeal.main_arg1)
      ∧ m' ((c.tc : Thread Cert.AoutRefIdeal.nD Cert.AoutRefIdeal.τ).loc Cert.AoutRefIdeal.main_arg2) = m ((c.tc : Thread Cert.AoutIdeal.nD Cert.AoutIdeal.τ).loc Cert.AoutIdeal.main_arg2)) →
    ∃ (v0 : (c : Dev Cert.AoutIdeal.nD) → Buf (Elt Ideal) ((c.tc : Thread Cert.AoutIdeal.nD Cert.AoutIdeal.τ).loc Cert.AoutIdeal.main_v0)),
      θ_run (Cert.AoutIdeal.defs (F := Ideal)) (onTc (τ := Cert.AoutIdeal.τ) (Cert.AoutIdeal.main (F := Ideal))) ⟨m, fun _ => 0, g⟩ (fun r => ∀ c : Dev Cert.AoutIdeal.nD,
          r.2.mem ((c.tc : Thread Cert.AoutIdeal.nD Cert.AoutIdeal.τ).loc Cert.AoutIdeal.main_v0) = v0 c
          ∧ r.2.mem ((c.tc : Thread Cert.AoutIdeal.nD Cert.AoutIdeal.τ).loc Cert.AoutIdeal.main_arg0) = m ((c.tc : Thread Cert.AoutIdeal.nD Cert.AoutIdeal.τ).loc Cert.AoutIdeal.main_arg0)
          ∧ r.2.mem ((c.tc : Thread Cert.AoutIdeal.nD Cert.AoutIdeal.τ).loc Cert.AoutIdeal.main_arg1) = m ((c.tc : Thread Cert.AoutIdeal.nD Cert.AoutIdeal.τ).loc Cert.AoutIdeal.main_arg1)
          ∧ r.2.mem ((c.tc : Thread Cert.AoutIdeal.nD Cert.AoutIdeal.τ).loc Cert.AoutIdeal.main_arg2) = m ((c.tc : Thread Cert.AoutIdeal.nD Cert.AoutIdeal.τ).loc Cert.AoutIdeal.main_arg2))
      ∧ θ_run (Cert.AoutRefIdeal.defs (F := Ideal)) (onTc (τ := Cert.AoutRefIdeal.τ) (Cert.AoutRefIdeal.main (F := Ideal))) ⟨m', fun _ => 0, g'⟩ (fun r => ∀ c : Dev Cert.AoutRefIdeal.nD,
          r.2.mem ((c.tc : Thread Cert.AoutRefIdeal.nD Cert.AoutRefIdeal.τ).loc Cert.AoutRefIdeal.main_v3) = v0 c
          ∧ r.2.mem ((c.tc : Thread Cert.AoutRefIdeal.nD Cert.AoutRefIdeal.τ).loc Cert.AoutRefIdeal.main_arg0) = m' ((c.tc : Thread Cert.AoutRefIdeal.nD Cert.AoutRefIdeal.τ).loc Cert.AoutRefIdeal.main_arg0)
          ∧ r.2.mem ((c.tc : Thread Cert.AoutRefIdeal.nD Cert.AoutRefIdeal.τ).loc Cert.AoutRefIdeal.main_arg1) = m' ((c.tc : Thread Cert.AoutRefIdeal.nD Cert.AoutRefIdeal.τ).loc Cert.AoutRefIdeal.main_arg1)
          ∧ r.2.mem ((c.tc : Thread Cert.AoutRefIdeal.nD Cert.AoutRefIdeal.τ).loc Cert.AoutRefIdeal.main_arg2) = m' ((c.tc : Thread Cert.AoutRefIdeal.nD Cert.AoutRefIdeal.τ).loc Cert.AoutRefIdeal.main_arg2))

def preserves_WgradKv_WgradKvIdeal : Prop :=
  True

def algebraic_WgradKvIdeal_WgradKvRefIdeal [hWgradKvIdeal : Cert.WgradKvIdeal.Facts] [hWgradKvRefIdeal : Cert.WgradKvRefIdeal.Facts] : Prop :=
  ∀ (m : (ℓ : Loc Cert.WgradKvIdeal.nD Cert.WgradKvIdeal.τ Cert.WgradKvIdeal.sig) → Buf (Elt Ideal) ℓ) (g : Dev Cert.WgradKvIdeal.nD → PrngReg)
    (m' : (ℓ : Loc Cert.WgradKvRefIdeal.nD Cert.WgradKvRefIdeal.τ Cert.WgradKvRefIdeal.sig) → Buf (Elt Ideal) ℓ) (g' : Dev Cert.WgradKvRefIdeal.nD → PrngReg), Pre_WgradKvIdeal m →
    (∀ c : Dev Cert.WgradKvIdeal.nD,
      m' ((c.tc : Thread Cert.WgradKvRefIdeal.nD Cert.WgradKvRefIdeal.τ).loc Cert.WgradKvRefIdeal.main_arg0) = m ((c.tc : Thread Cert.WgradKvIdeal.nD Cert.WgradKvIdeal.τ).loc Cert.WgradKvIdeal.main_arg0)
      ∧ m' ((c.tc : Thread Cert.WgradKvRefIdeal.nD Cert.WgradKvRefIdeal.τ).loc Cert.WgradKvRefIdeal.main_arg1) = m ((c.tc : Thread Cert.WgradKvIdeal.nD Cert.WgradKvIdeal.τ).loc Cert.WgradKvIdeal.main_arg1)) →
    ∃ (v0 : (c : Dev Cert.WgradKvIdeal.nD) → Buf (Elt Ideal) ((c.tc : Thread Cert.WgradKvIdeal.nD Cert.WgradKvIdeal.τ).loc Cert.WgradKvIdeal.main_v0)),
      θ_run (Cert.WgradKvIdeal.defs (F := Ideal)) (onTc (τ := Cert.WgradKvIdeal.τ) (Cert.WgradKvIdeal.main (F := Ideal))) ⟨m, fun _ => 0, g⟩ (fun r => ∀ c : Dev Cert.WgradKvIdeal.nD,
          r.2.mem ((c.tc : Thread Cert.WgradKvIdeal.nD Cert.WgradKvIdeal.τ).loc Cert.WgradKvIdeal.main_v0) = v0 c
          ∧ r.2.mem ((c.tc : Thread Cert.WgradKvIdeal.nD Cert.WgradKvIdeal.τ).loc Cert.WgradKvIdeal.main_arg0) = m ((c.tc : Thread Cert.WgradKvIdeal.nD Cert.WgradKvIdeal.τ).loc Cert.WgradKvIdeal.main_arg0)
          ∧ r.2.mem ((c.tc : Thread Cert.WgradKvIdeal.nD Cert.WgradKvIdeal.τ).loc Cert.WgradKvIdeal.main_arg1) = m ((c.tc : Thread Cert.WgradKvIdeal.nD Cert.WgradKvIdeal.τ).loc Cert.WgradKvIdeal.main_arg1))
      ∧ θ_run (Cert.WgradKvRefIdeal.defs (F := Ideal)) (onTc (τ := Cert.WgradKvRefIdeal.τ) (Cert.WgradKvRefIdeal.main (F := Ideal))) ⟨m', fun _ => 0, g'⟩ (fun r => ∀ c : Dev Cert.WgradKvRefIdeal.nD,
          r.2.mem ((c.tc : Thread Cert.WgradKvRefIdeal.nD Cert.WgradKvRefIdeal.τ).loc Cert.WgradKvRefIdeal.main_v6) = v0 c
          ∧ r.2.mem ((c.tc : Thread Cert.WgradKvRefIdeal.nD Cert.WgradKvRefIdeal.τ).loc Cert.WgradKvRefIdeal.main_arg0) = m' ((c.tc : Thread Cert.WgradKvRefIdeal.nD Cert.WgradKvRefIdeal.τ).loc Cert.WgradKvRefIdeal.main_arg0)
          ∧ r.2.mem ((c.tc : Thread Cert.WgradKvRefIdeal.nD Cert.WgradKvRefIdeal.τ).loc Cert.WgradKvRefIdeal.main_arg1) = m' ((c.tc : Thread Cert.WgradKvRefIdeal.nD Cert.WgradKvRefIdeal.τ).loc Cert.WgradKvRefIdeal.main_arg1))

def preserves_WgradIn_WgradInIdeal : Prop :=
  True

def algebraic_WgradInIdeal_WgradInRefIdeal [hWgradInIdeal : Cert.WgradInIdeal.Facts] [hWgradInRefIdeal : Cert.WgradInRefIdeal.Facts] : Prop :=
  ∀ (m : (ℓ : Loc Cert.WgradInIdeal.nD Cert.WgradInIdeal.τ Cert.WgradInIdeal.sig) → Buf (Elt Ideal) ℓ) (g : Dev Cert.WgradInIdeal.nD → PrngReg)
    (m' : (ℓ : Loc Cert.WgradInRefIdeal.nD Cert.WgradInRefIdeal.τ Cert.WgradInRefIdeal.sig) → Buf (Elt Ideal) ℓ) (g' : Dev Cert.WgradInRefIdeal.nD → PrngReg), Pre_WgradInIdeal m →
    (∀ c : Dev Cert.WgradInIdeal.nD,
      m' ((c.tc : Thread Cert.WgradInRefIdeal.nD Cert.WgradInRefIdeal.τ).loc Cert.WgradInRefIdeal.main_arg0) = m ((c.tc : Thread Cert.WgradInIdeal.nD Cert.WgradInIdeal.τ).loc Cert.WgradInIdeal.main_arg0)
      ∧ m' ((c.tc : Thread Cert.WgradInRefIdeal.nD Cert.WgradInRefIdeal.τ).loc Cert.WgradInRefIdeal.main_arg1) = m ((c.tc : Thread Cert.WgradInIdeal.nD Cert.WgradInIdeal.τ).loc Cert.WgradInIdeal.main_arg1)) →
    ∃ (v0 : (c : Dev Cert.WgradInIdeal.nD) → Buf (Elt Ideal) ((c.tc : Thread Cert.WgradInIdeal.nD Cert.WgradInIdeal.τ).loc Cert.WgradInIdeal.main_v0)),
      θ_run (Cert.WgradInIdeal.defs (F := Ideal)) (onTc (τ := Cert.WgradInIdeal.τ) (Cert.WgradInIdeal.main (F := Ideal))) ⟨m, fun _ => 0, g⟩ (fun r => ∀ c : Dev Cert.WgradInIdeal.nD,
          r.2.mem ((c.tc : Thread Cert.WgradInIdeal.nD Cert.WgradInIdeal.τ).loc Cert.WgradInIdeal.main_v0) = v0 c
          ∧ r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
          ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1))
      ∧ θ_run (Cert.WgradInRefIdeal.defs (F := Ideal)) (onTc (τ := Cert.WgradInRefIdeal.τ) (Cert.WgradInRefIdeal.main (F := Ideal))) ⟨m', fun _ => 0, g'⟩ (fun r => ∀ c : Dev Cert.WgradInRefIdeal.nD,
          r.2.mem ((c.tc : Thread Cert.WgradInRefIdeal.nD Cert.WgradInRefIdeal.τ).loc Cert.WgradInRefIdeal.main_v6) = v0 c
          ∧ r.2.mem ((c.tc : Thread Cert.WgradInRefIdeal.nD Cert.WgradInRefIdeal.τ).loc Cert.WgradInRefIdeal.main_arg0) = m' ((c.tc : Thread Cert.WgradInRefIdeal.nD Cert.WgradInRefIdeal.τ).loc Cert.WgradInRefIdeal.main_arg0)
          ∧ r.2.mem ((c.tc : Thread Cert.WgradInRefIdeal.nD Cert.WgradInRefIdeal.τ).loc Cert.WgradInRefIdeal.main_arg1) = m' ((c.tc : Thread Cert.WgradInRefIdeal.nD Cert.WgradInRefIdeal.τ).loc Cert.WgradInRefIdeal.main_arg1))

def preserves_WgradQ_WgradQIdeal : Prop :=
  True

def algebraic_WgradQIdeal_WgradQRefIdeal [hWgradQIdeal : Cert.WgradQIdeal.Facts] [hWgradQRefIdeal : Cert.WgradQRefIdeal.Facts] : Prop :=
  ∀ (m : (ℓ : Loc Cert.WgradQIdeal.nD Cert.WgradQIdeal.τ Cert.WgradQIdeal.sig) → Buf (Elt Ideal) ℓ) (g : Dev Cert.WgradQIdeal.nD → PrngReg)
    (m' : (ℓ : Loc Cert.WgradQRefIdeal.nD Cert.WgradQRefIdeal.τ Cert.WgradQRefIdeal.sig) → Buf (Elt Ideal) ℓ) (g' : Dev Cert.WgradQRefIdeal.nD → PrngReg), Pre_WgradQIdeal m →
    (∀ c : Dev Cert.WgradQIdeal.nD,
      m' ((c.tc : Thread Cert.WgradQRefIdeal.nD Cert.WgradQRefIdeal.τ).loc Cert.WgradQRefIdeal.main_arg0) = m ((c.tc : Thread Cert.WgradQIdeal.nD Cert.WgradQIdeal.τ).loc Cert.WgradQIdeal.main_arg0)
      ∧ m' ((c.tc : Thread Cert.WgradQRefIdeal.nD Cert.WgradQRefIdeal.τ).loc Cert.WgradQRefIdeal.main_arg1) = m ((c.tc : Thread Cert.WgradQIdeal.nD Cert.WgradQIdeal.τ).loc Cert.WgradQIdeal.main_arg1)) →
    ∃ (v0 : (c : Dev Cert.WgradQIdeal.nD) → Buf (Elt Ideal) ((c.tc : Thread Cert.WgradQIdeal.nD Cert.WgradQIdeal.τ).loc Cert.WgradQIdeal.main_v0)),
      θ_run (Cert.WgradQIdeal.defs (F := Ideal)) (onTc (τ := Cert.WgradQIdeal.τ) (Cert.WgradQIdeal.main (F := Ideal))) ⟨m, fun _ => 0, g⟩ (fun r => ∀ c : Dev Cert.WgradQIdeal.nD,
          r.2.mem ((c.tc : Thread Cert.WgradQIdeal.nD Cert.WgradQIdeal.τ).loc Cert.WgradQIdeal.main_v0) = v0 c
          ∧ r.2.mem ((c.tc : Thread Cert.WgradQIdeal.nD Cert.WgradQIdeal.τ).loc Cert.WgradQIdeal.main_arg0) = m ((c.tc : Thread Cert.WgradQIdeal.nD Cert.WgradQIdeal.τ).loc Cert.WgradQIdeal.main_arg0)
          ∧ r.2.mem ((c.tc : Thread Cert.WgradQIdeal.nD Cert.WgradQIdeal.τ).loc Cert.WgradQIdeal.main_arg1) = m ((c.tc : Thread Cert.WgradQIdeal.nD Cert.WgradQIdeal.τ).loc Cert.WgradQIdeal.main_arg1))
      ∧ θ_run (Cert.WgradQRefIdeal.defs (F := Ideal)) (onTc (τ := Cert.WgradQRefIdeal.τ) (Cert.WgradQRefIdeal.main (F := Ideal))) ⟨m', fun _ => 0, g'⟩ (fun r => ∀ c : Dev Cert.WgradQRefIdeal.nD,
          r.2.mem ((c.tc : Thread Cert.WgradQRefIdeal.nD Cert.WgradQRefIdeal.τ).loc Cert.WgradQRefIdeal.main_v6) = v0 c
          ∧ r.2.mem ((c.tc : Thread Cert.WgradQRefIdeal.nD Cert.WgradQRefIdeal.τ).loc Cert.WgradQRefIdeal.main_arg0) = m' ((c.tc : Thread Cert.WgradQRefIdeal.nD Cert.WgradQRefIdeal.τ).loc Cert.WgradQRefIdeal.main_arg0)
          ∧ r.2.mem ((c.tc : Thread Cert.WgradQRefIdeal.nD Cert.WgradQRefIdeal.τ).loc Cert.WgradQRefIdeal.main_arg1) = m' ((c.tc : Thread Cert.WgradQRefIdeal.nD Cert.WgradQRefIdeal.τ).loc Cert.WgradQRefIdeal.main_arg1))

def preserves_NormKv_NormKvIdeal : Prop :=
  True

def algebraic_NormKvIdeal_NormKvRefIdeal [hNormKvIdeal : Cert.NormKvIdeal.Facts] [hNormKvRefIdeal : Cert.NormKvRefIdeal.Facts] : Prop :=
  ∀ (m : (ℓ : Loc Cert.NormKvIdeal.nD Cert.NormKvIdeal.τ Cert.NormKvIdeal.sig) → Buf (Elt Ideal) ℓ) (g : Dev Cert.NormKvIdeal.nD → PrngReg)
    (m' : (ℓ : Loc Cert.NormKvRefIdeal.nD Cert.NormKvRefIdeal.τ Cert.NormKvRefIdeal.sig) → Buf (Elt Ideal) ℓ) (g' : Dev Cert.NormKvRefIdeal.nD → PrngReg), Pre_NormKvIdeal m →
    (∀ c : Dev Cert.NormKvIdeal.nD,
      m' ((c.tc : Thread Cert.NormKvRefIdeal.nD Cert.NormKvRefIdeal.τ).loc Cert.NormKvRefIdeal.main_arg0) = m ((c.tc : Thread Cert.NormKvIdeal.nD Cert.NormKvIdeal.τ).loc Cert.NormKvIdeal.main_arg0)
      ∧ m' ((c.tc : Thread Cert.NormKvRefIdeal.nD Cert.NormKvRefIdeal.τ).loc Cert.NormKvRefIdeal.main_arg1) = m ((c.tc : Thread Cert.NormKvIdeal.nD Cert.NormKvIdeal.τ).loc Cert.NormKvIdeal.main_arg1)
      ∧ m' ((c.tc : Thread Cert.NormKvRefIdeal.nD Cert.NormKvRefIdeal.τ).loc Cert.NormKvRefIdeal.main_arg2) = m ((c.tc : Thread Cert.NormKvIdeal.nD Cert.NormKvIdeal.τ).loc Cert.NormKvIdeal.main_arg2)
      ∧ m' ((c.tc : Thread Cert.NormKvRefIdeal.nD Cert.NormKvRefIdeal.τ).loc Cert.NormKvRefIdeal.main_arg3) = m ((c.tc : Thread Cert.NormKvIdeal.nD Cert.NormKvIdeal.τ).loc Cert.NormKvIdeal.main_arg3)
      ∧ m' ((c.tc : Thread Cert.NormKvRefIdeal.nD Cert.NormKvRefIdeal.τ).loc Cert.NormKvRefIdeal.main_arg4) = m ((c.tc : Thread Cert.NormKvIdeal.nD Cert.NormKvIdeal.τ).loc Cert.NormKvIdeal.main_arg4)) →
    ∃ (v0 : (c : Dev Cert.NormKvIdeal.nD) → Buf (Elt Ideal) ((c.tc : Thread Cert.NormKvIdeal.nD Cert.NormKvIdeal.τ).loc Cert.NormKvIdeal.main_v0_0)) (v1 : (c : Dev Cert.NormKvIdeal.nD) → Buf (Elt Ideal) ((c.tc : Thread Cert.NormKvIdeal.nD Cert.NormKvIdeal.τ).loc Cert.NormKvIdeal.main_v0_1)) (v2 : (c : Dev Cert.NormKvIdeal.nD) → Buf (Elt Ideal) ((c.tc : Thread Cert.NormKvIdeal.nD Cert.NormKvIdeal.τ).loc Cert.NormKvIdeal.main_v0_2)),
      θ_run (Cert.NormKvIdeal.defs (F := Ideal)) (onTc (τ := Cert.NormKvIdeal.τ) (Cert.NormKvIdeal.main (F := Ideal))) ⟨m, fun _ => 0, g⟩ (fun r => ∀ c : Dev Cert.NormKvIdeal.nD,
          r.2.mem ((c.tc : Thread Cert.NormKvIdeal.nD Cert.NormKvIdeal.τ).loc Cert.NormKvIdeal.main_v0_0) = v0 c
          ∧ r.2.mem ((c.tc : Thread Cert.NormKvIdeal.nD Cert.NormKvIdeal.τ).loc Cert.NormKvIdeal.main_v0_1) = v1 c
          ∧ r.2.mem ((c.tc : Thread Cert.NormKvIdeal.nD Cert.NormKvIdeal.τ).loc Cert.NormKvIdeal.main_v0_2) = v2 c
          ∧ r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
          ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1)
          ∧ r.2.mem ((c.tc : Thread Cert.NormKvIdeal.nD Cert.NormKvIdeal.τ).loc Cert.NormKvIdeal.main_arg2) = m ((c.tc : Thread Cert.NormKvIdeal.nD Cert.NormKvIdeal.τ).loc Cert.NormKvIdeal.main_arg2)
          ∧ r.2.mem ((c.tc : Thread Cert.NormKvIdeal.nD Cert.NormKvIdeal.τ).loc Cert.NormKvIdeal.main_arg3) = m ((c.tc : Thread Cert.NormKvIdeal.nD Cert.NormKvIdeal.τ).loc Cert.NormKvIdeal.main_arg3)
          ∧ r.2.mem ((c.tc : Thread Cert.NormKvIdeal.nD Cert.NormKvIdeal.τ).loc Cert.NormKvIdeal.main_arg4) = m ((c.tc : Thread Cert.NormKvIdeal.nD Cert.NormKvIdeal.τ).loc Cert.NormKvIdeal.main_arg4))
      ∧ θ_run (Cert.NormKvRefIdeal.defs (F := Ideal)) (onTc (τ := Cert.NormKvRefIdeal.τ) (Cert.NormKvRefIdeal.main (F := Ideal))) ⟨m', fun _ => 0, g'⟩ (fun r => ∀ c : Dev Cert.NormKvRefIdeal.nD,
          r.2.mem ((c.tc : Thread Cert.NormKvRefIdeal.nD Cert.NormKvRefIdeal.τ).loc Cert.NormKvRefIdeal.main_v38) = v0 c
          ∧ r.2.mem ((c.tc : Thread Cert.NormKvRefIdeal.nD Cert.NormKvRefIdeal.τ).loc Cert.NormKvRefIdeal.main_v39) = v1 c
          ∧ r.2.mem ((c.tc : Thread Cert.NormKvRefIdeal.nD Cert.NormKvRefIdeal.τ).loc Cert.NormKvRefIdeal.main_v21) = v2 c
          ∧ r.2.mem ((c.tc : Thread Cert.NormKvRefIdeal.nD Cert.NormKvRefIdeal.τ).loc Cert.NormKvRefIdeal.main_arg0) = m' ((c.tc : Thread Cert.NormKvRefIdeal.nD Cert.NormKvRefIdeal.τ).loc Cert.NormKvRefIdeal.main_arg0)
          ∧ r.2.mem ((c.tc : Thread Cert.NormKvRefIdeal.nD Cert.NormKvRefIdeal.τ).loc Cert.NormKvRefIdeal.main_arg1) = m' ((c.tc : Thread Cert.NormKvRefIdeal.nD Cert.NormKvRefIdeal.τ).loc Cert.NormKvRefIdeal.main_arg1)
          ∧ r.2.mem ((c.tc : Thread Cert.NormKvRefIdeal.nD Cert.NormKvRefIdeal.τ).loc Cert.NormKvRefIdeal.main_arg2) = m' ((c.tc : Thread Cert.NormKvRefIdeal.nD Cert.NormKvRefIdeal.τ).loc Cert.NormKvRefIdeal.main_arg2)
          ∧ r.2.mem ((c.tc : Thread Cert.NormKvRefIdeal.nD Cert.NormKvRefIdeal.τ).loc Cert.NormKvRefIdeal.main_arg3) = m' ((c.tc : Thread Cert.NormKvRefIdeal.nD Cert.NormKvRefIdeal.τ).loc Cert.NormKvRefIdeal.main_arg3)
          ∧ r.2.mem ((c.tc : Thread Cert.NormKvRefIdeal.nD Cert.NormKvRefIdeal.τ).loc Cert.NormKvRefIdeal.main_arg4) = m' ((c.tc : Thread Cert.NormKvRefIdeal.nD Cert.NormKvRefIdeal.τ).loc Cert.NormKvRefIdeal.main_arg4))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)
      ∧ m' ((c.tc : Thread Cert.NormInRefIdeal.nD Cert.NormInRefIdeal.τ).loc Cert.NormInRefIdeal.main_arg2) = m ((c.tc : Thread Cert.NormInIdeal.nD Cert.NormInIdeal.τ).loc Cert.NormInIdeal.main_arg2)
      ∧ m' ((c.tc : Thread Cert.NormInRefIdeal.nD Cert.NormInRefIdeal.τ).loc Cert.NormInRefIdeal.main_arg3) = m ((c.tc : Thread Cert.NormInIdeal.nD Cert.NormInIdeal.τ).loc Cert.NormInIdeal.main_arg3)
      ∧ m' ((c.tc : Thread Cert.NormInRefIdeal.nD Cert.NormInRefIdeal.τ).loc Cert.NormInRefIdeal.main_arg4) = m ((c.tc : Thread Cert.NormInIdeal.nD Cert.NormInIdeal.τ).loc Cert.NormInIdeal.main_arg4)) →
    ∃ (v0 : (c : Dev Cert.NormInIdeal.nD) → Buf (Elt Ideal) ((c.tc : Thread Cert.NormInIdeal.nD Cert.NormInIdeal.τ).loc Cert.NormInIdeal.main_v0_0)) (v1 : (c : Dev Cert.NormInIdeal.nD) → Buf (Elt Ideal) ((c.tc : Thread Cert.NormInIdeal.nD Cert.NormInIdeal.τ).loc Cert.NormInIdeal.main_v0_1)) (v2 : (c : Dev Cert.NormInIdeal.nD) → Buf (Elt Ideal) ((c.tc : Thread Cert.NormInIdeal.nD Cert.NormInIdeal.τ).loc Cert.NormInIdeal.main_v0_2)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0_0) = v0 c
          ∧ r.2.mem ((c.tc : Thread Cert.NormInIdeal.nD Cert.NormInIdeal.τ).loc Cert.NormInIdeal.main_v0_1) = v1 c
          ∧ r.2.mem ((c.tc : Thread Cert.NormInIdeal.nD Cert.NormInIdeal.τ).loc Cert.NormInIdeal.main_v0_2) = v2 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
          ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v38) = v0 c
          ∧ r.2.mem ((c.tc : Thread Cert.NormInRefIdeal.nD Cert.NormInRefIdeal.τ).loc Cert.NormInRefIdeal.main_v39) = v1 c
          ∧ r.2.mem ((c.tc : Thread Cert.NormInRefIdeal.nD Cert.NormInRefIdeal.τ).loc Cert.NormInRefIdeal.main_v21) = v2 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1)
          ∧ r.2.mem ((c.tc : Thread Cert.NormInRefIdeal.nD Cert.NormInRefIdeal.τ).loc Cert.NormInRefIdeal.main_arg2) = m' ((c.tc : Thread Cert.NormInRefIdeal.nD Cert.NormInRefIdeal.τ).loc Cert.NormInRefIdeal.main_arg2)
          ∧ r.2.mem ((c.tc : Thread Cert.NormInRefIdeal.nD Cert.NormInRefIdeal.τ).loc Cert.NormInRefIdeal.main_arg3) = m' ((c.tc : Thread Cert.NormInRefIdeal.nD Cert.NormInRefIdeal.τ).loc Cert.NormInRefIdeal.main_arg3)
          ∧ r.2.mem ((c.tc : Thread Cert.NormInRefIdeal.nD Cert.NormInRefIdeal.τ).loc Cert.NormInRefIdeal.main_arg4) = m' ((c.tc : Thread Cert.NormInRefIdeal.nD Cert.NormInRefIdeal.τ).loc Cert.NormInRefIdeal.main_arg4))

def preserves_NormQ_NormQIdeal : Prop :=
  True

def algebraic_NormQIdeal_NormQRefIdeal [hNormQIdeal : Cert.NormQIdeal.Facts] [hNormQRefIdeal : Cert.NormQRefIdeal.Facts] : Prop :=
  ∀ (m : (ℓ : Loc Cert.NormQIdeal.nD Cert.NormQIdeal.τ Cert.NormQIdeal.sig) → Buf (Elt Ideal) ℓ) (g : Dev Cert.NormQIdeal.nD → PrngReg)
    (m' : (ℓ : Loc Cert.NormQRefIdeal.nD Cert.NormQRefIdeal.τ Cert.NormQRefIdeal.sig) → Buf (Elt Ideal) ℓ) (g' : Dev Cert.NormQRefIdeal.nD → PrngReg), Pre_NormQIdeal m →
    (∀ c : Dev Cert.NormQIdeal.nD,
      m' ((c.tc : Thread Cert.NormQRefIdeal.nD Cert.NormQRefIdeal.τ).loc Cert.NormQRefIdeal.main_arg0) = m ((c.tc : Thread Cert.NormQIdeal.nD Cert.NormQIdeal.τ).loc Cert.NormQIdeal.main_arg0)
      ∧ m' ((c.tc : Thread Cert.NormQRefIdeal.nD Cert.NormQRefIdeal.τ).loc Cert.NormQRefIdeal.main_arg1) = m ((c.tc : Thread Cert.NormQIdeal.nD Cert.NormQIdeal.τ).loc Cert.NormQIdeal.main_arg1)
      ∧ m' ((c.tc : Thread Cert.NormQRefIdeal.nD Cert.NormQRefIdeal.τ).loc Cert.NormQRefIdeal.main_arg2) = m ((c.tc : Thread Cert.NormQIdeal.nD Cert.NormQIdeal.τ).loc Cert.NormQIdeal.main_arg2)
      ∧ m' ((c.tc : Thread Cert.NormQRefIdeal.nD Cert.NormQRefIdeal.τ).loc Cert.NormQRefIdeal.main_arg3) = m ((c.tc : Thread Cert.NormQIdeal.nD Cert.NormQIdeal.τ).loc Cert.NormQIdeal.main_arg3)
      ∧ m' ((c.tc : Thread Cert.NormQRefIdeal.nD Cert.NormQRefIdeal.τ).loc Cert.NormQRefIdeal.main_arg4) = m ((c.tc : Thread Cert.NormQIdeal.nD Cert.NormQIdeal.τ).loc Cert.NormQIdeal.main_arg4)) →
    ∃ (v0 : (c : Dev Cert.NormQIdeal.nD) → Buf (Elt Ideal) ((c.tc : Thread Cert.NormQIdeal.nD Cert.NormQIdeal.τ).loc Cert.NormQIdeal.main_v0_0)) (v1 : (c : Dev Cert.NormQIdeal.nD) → Buf (Elt Ideal) ((c.tc : Thread Cert.NormQIdeal.nD Cert.NormQIdeal.τ).loc Cert.NormQIdeal.main_v0_1)) (v2 : (c : Dev Cert.NormQIdeal.nD) → Buf (Elt Ideal) ((c.tc : Thread Cert.NormQIdeal.nD Cert.NormQIdeal.τ).loc Cert.NormQIdeal.main_v0_2)),
      θ_run (Cert.NormQIdeal.defs (F := Ideal)) (onTc (τ := Cert.NormQIdeal.τ) (Cert.NormQIdeal.main (F := Ideal))) ⟨m, fun _ => 0, g⟩ (fun r => ∀ c : Dev Cert.NormQIdeal.nD,
          r.2.mem ((c.tc : Thread Cert.NormQIdeal.nD Cert.NormQIdeal.τ).loc Cert.NormQIdeal.main_v0_0) = v0 c
          ∧ r.2.mem ((c.tc : Thread Cert.NormQIdeal.nD Cert.NormQIdeal.τ).loc Cert.NormQIdeal.main_v0_1) = v1 c
          ∧ r.2.mem ((c.tc : Thread Cert.NormQIdeal.nD Cert.NormQIdeal.τ).loc Cert.NormQIdeal.main_v0_2) = v2 c
          ∧ r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
          ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1)
          ∧ r.2.mem ((c.tc : Thread Cert.NormQIdeal.nD Cert.NormQIdeal.τ).loc Cert.NormQIdeal.main_arg2) = m ((c.tc : Thread Cert.NormQIdeal.nD Cert.NormQIdeal.τ).loc Cert.NormQIdeal.main_arg2)
          ∧ r.2.mem ((c.tc : Thread Cert.NormQIdeal.nD Cert.NormQIdeal.τ).loc Cert.NormQIdeal.main_arg3) = m ((c.tc : Thread Cert.NormQIdeal.nD Cert.NormQIdeal.τ).loc Cert.NormQIdeal.main_arg3)
          ∧ r.2.mem ((c.tc : Thread Cert.NormQIdeal.nD Cert.NormQIdeal.τ).loc Cert.NormQIdeal.main_arg4) = m ((c.tc : Thread Cert.NormQIdeal.nD Cert.NormQIdeal.τ).loc Cert.NormQIdeal.main_arg4))
      ∧ θ_run (Cert.NormQRefIdeal.defs (F := Ideal)) (onTc (τ := Cert.NormQRefIdeal.τ) (Cert.NormQRefIdeal.main (F := Ideal))) ⟨m', fun _ => 0, g'⟩ (fun r => ∀ c : Dev Cert.NormQRefIdeal.nD,
          r.2.mem ((c.tc : Thread Cert.NormQRefIdeal.nD Cert.NormQRefIdeal.τ).loc Cert.NormQRefIdeal.main_v38) = v0 c
          ∧ r.2.mem ((c.tc : Thread Cert.NormQRefIdeal.nD Cert.NormQRefIdeal.τ).loc Cert.NormQRefIdeal.main_v39) = v1 c
          ∧ r.2.mem ((c.tc : Thread Cert.NormQRefIdeal.nD Cert.NormQRefIdeal.τ).loc Cert.NormQRefIdeal.main_v21) = v2 c
          ∧ r.2.mem ((c.tc : Thread Cert.NormQRefIdeal.nD Cert.NormQRefIdeal.τ).loc Cert.NormQRefIdeal.main_arg0) = m' ((c.tc : Thread Cert.NormQRefIdeal.nD Cert.NormQRefIdeal.τ).loc Cert.NormQRefIdeal.main_arg0)
          ∧ r.2.mem ((c.tc : Thread Cert.NormQRefIdeal.nD Cert.NormQRefIdeal.τ).loc Cert.NormQRefIdeal.main_arg1) = m' ((c.tc : Thread Cert.NormQRefIdeal.nD Cert.NormQRefIdeal.τ).loc Cert.NormQRefIdeal.main_arg1)
          ∧ r.2.mem ((c.tc : Thread Cert.NormQRefIdeal.nD Cert.NormQRefIdeal.τ).loc Cert.NormQRefIdeal.main_arg2) = m' ((c.tc : Thread Cert.NormQRefIdeal.nD Cert.NormQRefIdeal.τ).loc Cert.NormQRefIdeal.main_arg2)
          ∧ r.2.mem ((c.tc : Thread Cert.NormQRefIdeal.nD Cert.NormQRefIdeal.τ).loc Cert.NormQRefIdeal.main_arg3) = m' ((c.tc : Thread Cert.NormQRefIdeal.nD Cert.NormQRefIdeal.τ).loc Cert.NormQRefIdeal.main_arg3)
          ∧ r.2.mem ((c.tc : Thread Cert.NormQRefIdeal.nD Cert.NormQRefIdeal.τ).loc Cert.NormQRefIdeal.main_arg4) = m' ((c.tc : Thread Cert.NormQRefIdeal.nD Cert.NormQRefIdeal.τ).loc Cert.NormQRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamQuery_AdamQueryIdeal : Prop :=
  True

def algebraic_AdamQueryIdeal_AdamQueryRefIdeal [hAdamQueryIdeal : Cert.AdamQueryIdeal.Facts] [hAdamQueryRefIdeal : Cert.AdamQueryRefIdeal.Facts] : Prop :=
  ∀ (m : (ℓ : Loc Cert.AdamQueryIdeal.nD Cert.AdamQueryIdeal.τ Cert.AdamQueryIdeal.sig) → Buf (Elt Ideal) ℓ) (g : Dev Cert.AdamQueryIdeal.nD → PrngReg)
    (m' : (ℓ : Loc Cert.AdamQueryRefIdeal.nD Cert.AdamQueryRefIdeal.τ Cert.AdamQueryRefIdeal.sig) → Buf (Elt Ideal) ℓ) (g' : Dev Cert.AdamQueryRefIdeal.nD → PrngReg), Pre_AdamQueryIdeal m →
    (∀ c : Dev Cert.AdamQueryIdeal.nD,
      m' ((c.tc : Thread Cert.AdamQueryRefIdeal.nD Cert.AdamQueryRefIdeal.τ).loc Cert.AdamQueryRefIdeal.main_arg0) = m ((c.tc : Thread Cert.AdamQueryIdeal.nD Cert.AdamQueryIdeal.τ).loc Cert.AdamQueryIdeal.main_arg0)
      ∧ m' ((c.tc : Thread Cert.AdamQueryRefIdeal.nD Cert.AdamQueryRefIdeal.τ).loc Cert.AdamQueryRefIdeal.main_arg1) = m ((c.tc : Thread Cert.AdamQueryIdeal.nD Cert.AdamQueryIdeal.τ).loc Cert.AdamQueryIdeal.main_arg1)
      ∧ m' ((c.tc : Thread Cert.AdamQueryRefIdeal.nD Cert.AdamQueryRefIdeal.τ).loc Cert.AdamQueryRefIdeal.main_arg2) = m ((c.tc : Thread Cert.AdamQueryIdeal.nD Cert.AdamQueryIdeal.τ).loc Cert.AdamQueryIdeal.main_arg2)
      ∧ m' ((c.tc : Thread Cert.AdamQueryRefIdeal.nD Cert.AdamQueryRefIdeal.τ).loc Cert.AdamQueryRefIdeal.main_arg3) = m ((c.tc : Thread Cert.AdamQueryIdeal.nD Cert.AdamQueryIdeal.τ).loc Cert.AdamQueryIdeal.main_arg3)) →
    ∃ (v0 : (c : Dev Cert.AdamQueryIdeal.nD) → Buf (Elt Ideal) ((c.tc : Thread Cert.AdamQueryIdeal.nD Cert.AdamQueryIdeal.τ).loc Cert.AdamQueryIdeal.main_v0_0)) (v1 : (c : Dev Cert.AdamQueryIdeal.nD) → Buf (Elt Ideal) ((c.tc : Thread Cert.AdamQueryIdeal.nD Cert.AdamQueryIdeal.τ).loc Cert.AdamQueryIdeal.main_v0_1)) (v2 : (c : Dev Cert.AdamQueryIdeal.nD) → Buf (Elt Ideal) ((c.tc : Thread Cert.AdamQueryIdeal.nD Cert.AdamQueryIdeal.τ).loc Cert.AdamQueryIdeal.main_v0_2)) (v3 : (c : Dev Cert.AdamQueryIdeal.nD) → Buf (Elt Ideal) ((c.tc : Thread Cert.AdamQueryIdeal.nD Cert.AdamQueryIdeal.τ).loc Cert.AdamQueryIdeal.main_v0_3)),
      θ_run (Cert.AdamQueryIdeal.defs (F := Ideal)) (onTc (τ := Cert.AdamQueryIdeal.τ) (Cert.AdamQueryIdeal.main (F := Ideal))) ⟨m, fun _ => 0, g⟩ (fun r => ∀ c : Dev Cert.AdamQueryIdeal.nD,
          r.2.mem ((c.tc : Thread Cert.AdamQueryIdeal.nD Cert.AdamQueryIdeal.τ).loc Cert.AdamQueryIdeal.main_v0_0) = v0 c
          ∧ r.2.mem ((c.tc : Thread Cert.AdamQueryIdeal.nD Cert.AdamQueryIdeal.τ).loc Cert.AdamQueryIdeal.main_v0_1) = v1 c
          ∧ r.2.mem ((c.tc : Thread Cert.AdamQueryIdeal.nD Cert.AdamQueryIdeal.τ).loc Cert.AdamQueryIdeal.main_v0_2) = v2 c
          ∧ r.2.mem ((c.tc : Thread Cert.AdamQueryIdeal.nD Cert.AdamQueryIdeal.τ).loc Cert.AdamQueryIdeal.main_v0_3) = v3 c
          ∧ r.2.mem ((c.tc : Thread Cert.AdamQueryIdeal.nD Cert.AdamQueryIdeal.τ).loc Cert.AdamQueryIdeal.main_arg0) = m ((c.tc : Thread Cert.AdamQueryIdeal.nD Cert.AdamQueryIdeal.τ).loc Cert.AdamQueryIdeal.main_arg0)
          ∧ r.2.mem ((c.tc : Thread Cert.AdamQueryIdeal.nD Cert.AdamQueryIdeal.τ).loc Cert.AdamQueryIdeal.main_arg1) = m ((c.tc : Thread Cert.AdamQueryIdeal.nD Cert.AdamQueryIdeal.τ).loc Cert.AdamQueryIdeal.main_arg1)
          ∧ r.2.mem ((c.tc : Thread Cert.AdamQueryIdeal.nD Cert.AdamQueryIdeal.τ).loc Cert.AdamQueryIdeal.main_arg2) = m ((c.tc : Thread Cert.AdamQueryIdeal.nD Cert.AdamQueryIdeal.τ).loc Cert.AdamQueryIdeal.main_arg2)
          ∧ r.2.mem ((c.tc : Thread Cert.AdamQueryIdeal.nD Cert.AdamQueryIdeal.τ).loc Cert.AdamQueryIdeal.main_arg3) = m ((c.tc : Thread Cert.AdamQueryIdeal.nD Cert.AdamQueryIdeal.τ).loc Cert.AdamQueryIdeal.main_arg3))
      ∧ θ_run (Cert.AdamQueryRefIdeal.defs (F := Ideal)) (onTc (τ := Cert.AdamQueryRefIdeal.τ) (Cert.AdamQueryRefIdeal.main (F := Ideal))) ⟨m', fun _ => 0, g'⟩ (fun r => ∀ c : Dev Cert.AdamQueryRefIdeal.nD,
          r.2.mem ((c.tc : Thread Cert.AdamQueryRefIdeal.nD Cert.AdamQueryRefIdeal.τ).loc Cert.AdamQueryRefIdeal.main_v1) = v0 c
          ∧ r.2.mem ((c.tc : Thread Cert.AdamQueryRefIdeal.nD Cert.AdamQueryRefIdeal.τ).loc Cert.AdamQueryRefIdeal.main_v25) = v1 c
          ∧ r.2.mem ((c.tc : Thread Cert.AdamQueryRefIdeal.nD Cert.AdamQueryRefIdeal.τ).loc Cert.AdamQueryRefIdeal.main_v6) = v2 c
          ∧ r.2.mem ((c.tc : Thread Cert.AdamQueryRefIdeal.nD Cert.AdamQueryRefIdeal.τ).loc Cert.AdamQueryRefIdeal.main_v12) = v3 c
          ∧ r.2.mem ((c.tc : Thread Cert.AdamQueryRefIdeal.nD Cert.AdamQueryRefIdeal.τ).loc Cert.AdamQueryRefIdeal.main_arg0) = m' ((c.tc : Thread Cert.AdamQueryRefIdeal.nD Cert.AdamQueryRefIdeal.τ).loc Cert.AdamQueryRefIdeal.main_arg0)
          ∧ r.2.mem ((c.tc : Thread Cert.AdamQueryRefIdeal.nD Cert.AdamQueryRefIdeal.τ).loc Cert.AdamQueryRefIdeal.main_arg1) = m' ((c.tc : Thread Cert.AdamQueryRefIdeal.nD Cert.AdamQueryRefIdeal.τ).loc Cert.AdamQueryRefIdeal.main_arg1)
          ∧ r.2.mem ((c.tc : Thread Cert.AdamQueryRefIdeal.nD Cert.AdamQueryRefIdeal.τ).loc Cert.AdamQueryRefIdeal.main_arg2) = m' ((c.tc : Thread Cert.AdamQueryRefIdeal.nD Cert.AdamQueryRefIdeal.τ).loc Cert.AdamQueryRefIdeal.main_arg2)
          ∧ r.2.mem ((c.tc : Thread Cert.AdamQueryRefIdeal.nD Cert.AdamQueryRefIdeal.τ).loc Cert.AdamQueryRefIdeal.main_arg3) = m' ((c.tc : Thread Cert.AdamQueryRefIdeal.nD Cert.AdamQueryRefIdeal.τ).loc Cert.AdamQueryRefIdeal.main_arg3))

def preserves_AdamBout_AdamBoutIdeal : Prop :=
  True

def algebraic_AdamBoutIdeal_AdamBoutRefIdeal [hAdamBoutIdeal : Cert.AdamBoutIdeal.Facts] [hAdamBoutRefIdeal : Cert.AdamBoutRefIdeal.Facts] : Prop :=
  ∀ (m : (ℓ : Loc Cert.AdamBoutIdeal.nD Cert.AdamBoutIdeal.τ Cert.AdamBoutIdeal.sig) → Buf (Elt Ideal) ℓ) (g : Dev Cert.AdamBoutIdeal.nD → PrngReg)
    (m' : (ℓ : Loc Cert.AdamBoutRefIdeal.nD Cert.AdamBoutRefIdeal.τ Cert.AdamBoutRefIdeal.sig) → Buf (Elt Ideal) ℓ) (g' : Dev Cert.AdamBoutRefIdeal.nD → PrngReg), Pre_AdamBoutIdeal m →
    (∀ c : Dev Cert.AdamBoutIdeal.nD,
      m' ((c.tc : Thread Cert.AdamBoutRefIdeal.nD Cert.AdamBoutRefIdeal.τ).loc Cert.AdamBoutRefIdeal.main_arg0) = m ((c.tc : Thread Cert.AdamBoutIdeal.nD Cert.AdamBoutIdeal.τ).loc Cert.AdamBoutIdeal.main_arg0)
      ∧ m' ((c.tc : Thread Cert.AdamBoutRefIdeal.nD Cert.AdamBoutRefIdeal.τ).loc Cert.AdamBoutRefIdeal.main_arg1) = m ((c.tc : Thread Cert.AdamBoutIdeal.nD Cert.AdamBoutIdeal.τ).loc Cert.AdamBoutIdeal.main_arg1)
      ∧ m' ((c.tc : Thread Cert.AdamBoutRefIdeal.nD Cert.AdamBoutRefIdeal.τ).loc Cert.AdamBoutRefIdeal.main_arg2) = m ((c.tc : Thread Cert.AdamBoutIdeal.nD Cert.AdamBoutIdeal.τ).loc Cert.AdamBoutIdeal.main_arg2)
      ∧ m' ((c.tc : Thread Cert.AdamBoutRefIdeal.nD Cert.AdamBoutRefIdeal.τ).loc Cert.AdamBoutRefIdeal.main_arg3) = m ((c.tc : Thread Cert.AdamBoutIdeal.nD Cert.AdamBoutIdeal.τ).loc Cert.AdamBoutIdeal.main_arg3)) →
    ∃ (v0 : (c : Dev Cert.AdamBoutIdeal.nD) → Buf (Elt Ideal) ((c.tc : Thread Cert.AdamBoutIdeal.nD Cert.AdamBoutIdeal.τ).loc Cert.AdamBoutIdeal.main_v0_0)) (v1 : (c : Dev Cert.AdamBoutIdeal.nD) → Buf (Elt Ideal) ((c.tc : Thread Cert.AdamBoutIdeal.nD Cert.AdamBoutIdeal.τ).loc Cert.AdamBoutIdeal.main_v0_1)) (v2 : (c : Dev Cert.AdamBoutIdeal.nD) → Buf (Elt Ideal) ((c.tc : Thread Cert.AdamBoutIdeal.nD Cert.AdamBoutIdeal.τ).loc Cert.AdamBoutIdeal.main_v0_2)) (v3 : (c : Dev Cert.AdamBoutIdeal.nD) → Buf (Elt Ideal) ((c.tc : Thread Cert.AdamBoutIdeal.nD Cert.AdamBoutIdeal.τ).loc Cert.AdamBoutIdeal.main_v0_3)),
      θ_run (Cert.AdamBoutIdeal.defs (F := Ideal)) (onTc (τ := Cert.AdamBoutIdeal.τ) (Cert.AdamBoutIdeal.main (F := Ideal))) ⟨m, fun _ => 0, g⟩ (fun r => ∀ c : Dev Cert.AdamBoutIdeal.nD,
          r.2.mem ((c.tc : Thread Cert.AdamBoutIdeal.nD Cert.AdamBoutIdeal.τ).loc Cert.AdamBoutIdeal.main_v0_0) = v0 c
          ∧ r.2.mem ((c.tc : Thread Cert.AdamBoutIdeal.nD Cert.AdamBoutIdeal.τ).loc Cert.AdamBoutIdeal.main_v0_1) = v1 c
          ∧ r.2.mem ((c.tc : Thread Cert.AdamBoutIdeal.nD Cert.AdamBoutIdeal.τ).loc Cert.AdamBoutIdeal.main_v0_2) = v2 c
          ∧ r.2.mem ((c.tc : Thread Cert.AdamBoutIdeal.nD Cert.AdamBoutIdeal.τ).loc Cert.AdamBoutIdeal.main_v0_3) = v3 c
          ∧ r.2.mem ((c.tc : Thread Cert.AdamBoutIdeal.nD Cert.AdamBoutIdeal.τ).loc Cert.AdamBoutIdeal.main_arg0) = m ((c.tc : Thread Cert.AdamBoutIdeal.nD Cert.AdamBoutIdeal.τ).loc Cert.AdamBoutIdeal.main_arg0)
          ∧ r.2.mem ((c.tc : Thread Cert.AdamBoutIdeal.nD Cert.AdamBoutIdeal.τ).loc Cert.AdamBoutIdeal.main_arg1) = m ((c.tc : Thread Cert.AdamBoutIdeal.nD Cert.AdamBoutIdeal.τ).loc Cert.AdamBoutIdeal.main_arg1)
          ∧ r.2.mem ((c.tc : Thread Cert.AdamBoutIdeal.nD Cert.AdamBoutIdeal.τ).loc Cert.AdamBoutIdeal.main_arg2) = m ((c.tc : Thread Cert.AdamBoutIdeal.nD Cert.AdamBoutIdeal.τ).loc Cert.AdamBoutIdeal.main_arg2)
          ∧ r.2.mem ((c.tc : Thread Cert.AdamBoutIdeal.nD Cert.AdamBoutIdeal.τ).loc Cert.AdamBoutIdeal.main_arg3) = m ((c.tc : Thread Cert.AdamBoutIdeal.nD Cert.AdamBoutIdeal.τ).loc Cert.AdamBoutIdeal.main_arg3))
      ∧ θ_run (Cert.AdamBoutRefIdeal.defs (F := Ideal)) (onTc (τ := Cert.AdamBoutRefIdeal.τ) (Cert.AdamBoutRefIdeal.main (F := Ideal))) ⟨m', fun _ => 0, g'⟩ (fun r => ∀ c : Dev Cert.AdamBoutRefIdeal.nD,
          r.2.mem ((c.tc : Thread Cert.AdamBoutRefIdeal.nD Cert.AdamBoutRefIdeal.τ).loc Cert.AdamBoutRefIdeal.main_v1) = v0 c
          ∧ r.2.mem ((c.tc : Thread Cert.AdamBoutRefIdeal.nD Cert.AdamBoutRefIdeal.τ).loc Cert.AdamBoutRefIdeal.main_v25) = v1 c
          ∧ r.2.mem ((c.tc : Thread Cert.AdamBoutRefIdeal.nD Cert.AdamBoutRefIdeal.τ).loc Cert.AdamBoutRefIdeal.main_v6) = v2 c
          ∧ r.2.mem ((c.tc : Thread Cert.AdamBoutRefIdeal.nD Cert.AdamBoutRefIdeal.τ).loc Cert.AdamBoutRefIdeal.main_v12) = v3 c
          ∧ r.2.mem ((c.tc : Thread Cert.AdamBoutRefIdeal.nD Cert.AdamBoutRefIdeal.τ).loc Cert.AdamBoutRefIdeal.main_arg0) = m' ((c.tc : Thread Cert.AdamBoutRefIdeal.nD Cert.AdamBoutRefIdeal.τ).loc Cert.AdamBoutRefIdeal.main_arg0)
          ∧ r.2.mem ((c.tc : Thread Cert.AdamBoutRefIdeal.nD Cert.AdamBoutRefIdeal.τ).loc Cert.AdamBoutRefIdeal.main_arg1) = m' ((c.tc : Thread Cert.AdamBoutRefIdeal.nD Cert.AdamBoutRefIdeal.τ).loc Cert.AdamBoutRefIdeal.main_arg1)
          ∧ r.2.mem ((c.tc : Thread Cert.AdamBoutRefIdeal.nD Cert.AdamBoutRefIdeal.τ).loc Cert.AdamBoutRefIdeal.main_arg2) = m' ((c.tc : Thread Cert.AdamBoutRefIdeal.nD Cert.AdamBoutRefIdeal.τ).loc Cert.AdamBoutRefIdeal.main_arg2)
          ∧ r.2.mem ((c.tc : Thread Cert.AdamBoutRefIdeal.nD Cert.AdamBoutRefIdeal.τ).loc Cert.AdamBoutRefIdeal.main_arg3) = m' ((c.tc : Thread Cert.AdamBoutRefIdeal.nD Cert.AdamBoutRefIdeal.τ).loc Cert.AdamBoutRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)) (v3 : (c : Dev Cert.AdamKvIdeal.nD) → Buf (Elt Ideal) ((c.tc : Thread Cert.AdamKvIdeal.nD Cert.AdamKvIdeal.τ).loc Cert.AdamKvIdeal.main_v0_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_v0_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v1) = v0 c
          ∧ r.2.mem ((c.tc : Thread Cert.AdamKvRefIdeal.nD Cert.AdamKvRefIdeal.τ).loc Cert.AdamKvRefIdeal.main_v25) = v1 c
          ∧ r.2.mem ((c.tc : Thread Cert.AdamKvRefIdeal.nD Cert.AdamKvRefIdeal.τ).loc Cert.AdamKvRefIdeal.main_v6) = v2 c
          ∧ r.2.mem ((c.tc : Thread Cert.AdamKvRefIdeal.nD Cert.AdamKvRefIdeal.τ).loc Cert.AdamKvRefIdeal.main_v12) = v3 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v1) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v6) = v2 c
          ∧ r.2.mem ((c.tc : Thread Cert.AdamUpRefIdeal.nD Cert.AdamUpRefIdeal.τ).loc Cert.AdamUpRefIdeal.main_v12) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v6) = v2 c
          ∧ r.2.mem ((c.tc : Thread Cert.AdamDownRefIdeal.nD Cert.AdamDownRefIdeal.τ).loc Cert.AdamDownRefIdeal.main_v12) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v0) = v0 c
          ∧ r.2.mem ((c.tc : Thread Cert.AdamConvRefIdeal.nD Cert.AdamConvRefIdeal.τ).loc Cert.AdamConvRefIdeal.main_v24) = v1 c
          ∧ r.2.mem ((c.tc : Thread Cert.AdamConvRefIdeal.nD Cert.AdamConvRefIdeal.τ).loc Cert.AdamConvRefIdeal.main_v5) = v2 c
          ∧ r.2.mem ((c.tc : Thread Cert.AdamConvRefIdeal.nD Cert.AdamConvRefIdeal.τ).loc Cert.AdamConvRefIdeal.main_v11) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v49) = v0 c
          ∧ r.2.mem ((c.tc : Thread Cert.LossRefIdeal.nD Cert.LossRefIdeal.τ).loc Cert.LossRefIdeal.main_v48) = v1 c
          ∧ r.2.mem ((c.tc : Thread Cert.LossRefIdeal.nD Cert.LossRefIdeal.τ).loc Cert.LossRefIdeal.main_v50) = v2 c
          ∧ r.2.mem ((c.tc : Thread Cert.LossRefIdeal.nD Cert.LossRefIdeal.τ).loc Cert.LossRefIdeal.main_v32) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Doa_DoaIdeal : Prop :=
  True

def algebraic_DoaIdeal_DoaRefIdeal [hDoaIdeal : Cert.DoaIdeal.Facts] [hDoaRefIdeal : Cert.DoaRefIdeal.Facts] : Prop :=
  ∀ (m : (ℓ : Loc Cert.DoaIdeal.nD Cert.DoaIdeal.τ Cert.DoaIdeal.sig) → Buf (Elt Ideal) ℓ) (g : Dev Cert.DoaIdeal.nD → PrngReg)
    (m' : (ℓ : Loc Cert.DoaRefIdeal.nD Cert.DoaRefIdeal.τ Cert.DoaRefIdeal.sig) → Buf (Elt Ideal) ℓ) (g' : Dev Cert.DoaRefIdeal.nD → PrngReg), Pre_DoaIdeal m →
    (∀ c : Dev Cert.DoaIdeal.nD,
      m' ((c.tc : Thread Cert.DoaRefIdeal.nD Cert.DoaRefIdeal.τ).loc Cert.DoaRefIdeal.main_arg0) = m ((c.tc : Thread Cert.DoaIdeal.nD Cert.DoaIdeal.τ).loc Cert.DoaIdeal.main_arg0)
      ∧ m' ((c.tc : Thread Cert.DoaRefIdeal.nD Cert.DoaRefIdeal.τ).loc Cert.DoaRefIdeal.main_arg1) = m ((c.tc : Thread Cert.DoaIdeal.nD Cert.DoaIdeal.τ).loc Cert.DoaIdeal.main_arg1)) →
    ∃ (v0 : (c : Dev Cert.DoaIdeal.nD) → Buf (Elt Ideal) ((c.tc : Thread Cert.DoaIdeal.nD Cert.DoaIdeal.τ).loc Cert.DoaIdeal.main_v0)),
      θ_run (Cert.DoaIdeal.defs (F := Ideal)) (onTc (τ := Cert.DoaIdeal.τ) (Cert.DoaIdeal.main (F := Ideal))) ⟨m, fun _ => 0, g⟩ (fun r => ∀ c : Dev Cert.DoaIdeal.nD,
          r.2.mem ((c.tc : Thread Cert.DoaIdeal.nD Cert.DoaIdeal.τ).loc Cert.DoaIdeal.main_v0) = v0 c
          ∧ r.2.mem ((c.tc : Thread Cert.DoaIdeal.nD Cert.DoaIdeal.τ).loc Cert.DoaIdeal.main_arg0) = m ((c.tc : Thread Cert.DoaIdeal.nD Cert.DoaIdeal.τ).loc Cert.DoaIdeal.main_arg0)
          ∧ r.2.mem ((c.tc : Thread Cert.DoaIdeal.nD Cert.DoaIdeal.τ).loc Cert.DoaIdeal.main_arg1) = m ((c.tc : Thread Cert.DoaIdeal.nD Cert.DoaIdeal.τ).loc Cert.DoaIdeal.main_arg1))
      ∧ θ_run (Cert.DoaRefIdeal.defs (F := Ideal)) (onTc (τ := Cert.DoaRefIdeal.τ) (Cert.DoaRefIdeal.main (F := Ideal))) ⟨m', fun _ => 0, g'⟩ (fun r => ∀ c : Dev Cert.DoaRefIdeal.nD,
          r.2.mem ((c.tc : Thread Cert.DoaRefIdeal.nD Cert.DoaRefIdeal.τ).loc Cert.DoaRefIdeal.main_v5) = v0 c
          ∧ r.2.mem ((c.tc : Thread Cert.DoaRefIdeal.nD Cert.DoaRefIdeal.τ).loc Cert.DoaRefIdeal.main_arg0) = m' ((c.tc : Thread Cert.DoaRefIdeal.nD Cert.DoaRefIdeal.τ).loc Cert.DoaRefIdeal.main_arg0)
          ∧ r.2.mem ((c.tc : Thread Cert.DoaRefIdeal.nD Cert.DoaRefIdeal.τ).loc Cert.DoaRefIdeal.main_arg1) = m' ((c.tc : Thread Cert.DoaRefIdeal.nD Cert.DoaRefIdeal.τ).loc Cert.DoaRefIdeal.main_arg1))

def preserves_Bout_BoutIdeal : Prop :=
  True

def algebraic_BoutIdeal_BoutRefIdeal [hBoutIdeal : Cert.BoutIdeal.Facts] [hBoutRefIdeal : Cert.BoutRefIdeal.Facts] : Prop :=
  ∀ (m : (ℓ : Loc Cert.BoutIdeal.nD Cert.BoutIdeal.τ Cert.BoutIdeal.sig) → Buf (Elt Ideal) ℓ) (g : Dev Cert.BoutIdeal.nD → PrngReg)
    (m' : (ℓ : Loc Cert.BoutRefIdeal.nD Cert.BoutRefIdeal.τ Cert.BoutRefIdeal.sig) → Buf (Elt Ideal) ℓ) (g' : Dev Cert.BoutRefIdeal.nD → PrngReg), Pre_BoutIdeal m →
    (∀ c : Dev Cert.BoutIdeal.nD,
      m' ((c.tc : Thread Cert.BoutRefIdeal.nD Cert.BoutRefIdeal.τ).loc Cert.BoutRefIdeal.main_arg0) = m ((c.tc : Thread Cert.BoutIdeal.nD Cert.BoutIdeal.τ).loc Cert.BoutIdeal.main_arg0)
      ∧ m' ((c.tc : Thread Cert.BoutRefIdeal.nD Cert.BoutRefIdeal.τ).loc Cert.BoutRefIdeal.main_arg1) = m ((c.tc : Thread Cert.BoutIdeal.nD Cert.BoutIdeal.τ).loc Cert.BoutIdeal.main_arg1)
      ∧ m' ((c.tc : Thread Cert.BoutRefIdeal.nD Cert.BoutRefIdeal.τ).loc Cert.BoutRefIdeal.main_arg2) = m ((c.tc : Thread Cert.BoutIdeal.nD Cert.BoutIdeal.τ).loc Cert.BoutIdeal.main_arg2)) →
    ∃ (v0 : (c : Dev Cert.BoutIdeal.nD) → Buf (Elt Ideal) ((c.tc : Thread Cert.BoutIdeal.nD Cert.BoutIdeal.τ).loc Cert.BoutIdeal.main_v0)),
      θ_run (Cert.BoutIdeal.defs (F := Ideal)) (onTc (τ := Cert.BoutIdeal.τ) (Cert.BoutIdeal.main (F := Ideal))) ⟨m, fun _ => 0, g⟩ (fun r => ∀ c : Dev Cert.BoutIdeal.nD,
          r.2.mem ((c.tc : Thread Cert.BoutIdeal.nD Cert.BoutIdeal.τ).loc Cert.BoutIdeal.main_v0) = v0 c
          ∧ r.2.mem ((c.tc : Thread Cert.BoutIdeal.nD Cert.BoutIdeal.τ).loc Cert.BoutIdeal.main_arg0) = m ((c.tc : Thread Cert.BoutIdeal.nD Cert.BoutIdeal.τ).loc Cert.BoutIdeal.main_arg0)
          ∧ r.2.mem ((c.tc : Thread Cert.BoutIdeal.nD Cert.BoutIdeal.τ).loc Cert.BoutIdeal.main_arg1) = m ((c.tc : Thread Cert.BoutIdeal.nD Cert.BoutIdeal.τ).loc Cert.BoutIdeal.main_arg1)
          ∧ r.2.mem ((c.tc : Thread Cert.BoutIdeal.nD Cert.BoutIdeal.τ).loc Cert.BoutIdeal.main_arg2) = m ((c.tc : Thread Cert.BoutIdeal.nD Cert.BoutIdeal.τ).loc Cert.BoutIdeal.main_arg2))
      ∧ θ_run (Cert.BoutRefIdeal.defs (F := Ideal)) (onTc (τ := Cert.BoutRefIdeal.τ) (Cert.BoutRefIdeal.main (F := Ideal))) ⟨m', fun _ => 0, g'⟩ (fun r => ∀ c : Dev Cert.BoutRefIdeal.nD,
          r.2.mem ((c.tc : Thread Cert.BoutRefIdeal.nD Cert.BoutRefIdeal.τ).loc Cert.BoutRefIdeal.main_v3) = v0 c
          ∧ r.2.mem ((c.tc : Thread Cert.BoutRefIdeal.nD Cert.BoutRefIdeal.τ).loc Cert.BoutRefIdeal.main_arg0) = m' ((c.tc : Thread Cert.BoutRefIdeal.nD Cert.BoutRefIdeal.τ).loc Cert.BoutRefIdeal.main_arg0)
          ∧ r.2.mem ((c.tc : Thread Cert.BoutRefIdeal.nD Cert.BoutRefIdeal.τ).loc Cert.BoutRefIdeal.main_arg1) = m' ((c.tc : Thread Cert.BoutRefIdeal.nD Cert.BoutRefIdeal.τ).loc Cert.BoutRefIdeal.main_arg1)
          ∧ r.2.mem ((c.tc : Thread Cert.BoutRefIdeal.nD Cert.BoutRefIdeal.τ).loc Cert.BoutRefIdeal.main_arg2) = m' ((c.tc : Thread Cert.BoutRefIdeal.nD Cert.BoutRefIdeal.τ).loc Cert.BoutRefIdeal.main_arg2))

def Claim : Prop :=
  ∃ (hNorm : Cert.Norm.Facts) (hNormIdeal : Cert.NormIdeal.Facts) (hNormRefIdeal : Cert.NormRefIdeal.Facts) (hWgrad : Cert.Wgrad.Facts) (hWgradIdeal : Cert.WgradIdeal.Facts) (hWgradRefIdeal : Cert.WgradRefIdeal.Facts) (hDil : Cert.Dil.Facts) (hDilIdeal : Cert.DilIdeal.Facts) (hDilRefIdeal : Cert.DilRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hDact : Cert.Dact.Facts) (hDactIdeal : Cert.DactIdeal.Facts) (hDactRefIdeal : Cert.DactRefIdeal.Facts) (hProj : Cert.Proj.Facts) (hProjIdeal : Cert.ProjIdeal.Facts) (hProjRefIdeal : Cert.ProjRefIdeal.Facts) (hQuery : Cert.Query.Facts) (hQueryIdeal : Cert.QueryIdeal.Facts) (hQueryRefIdeal : Cert.QueryRefIdeal.Facts) (hAout : Cert.Aout.Facts) (hAoutIdeal : Cert.AoutIdeal.Facts) (hAoutRefIdeal : Cert.AoutRefIdeal.Facts) (hWgradKv : Cert.WgradKv.Facts) (hWgradKvIdeal : Cert.WgradKvIdeal.Facts) (hWgradKvRefIdeal : Cert.WgradKvRefIdeal.Facts) (hWgradIn : Cert.WgradIn.Facts) (hWgradInIdeal : Cert.WgradInIdeal.Facts) (hWgradInRefIdeal : Cert.WgradInRefIdeal.Facts) (hWgradQ : Cert.WgradQ.Facts) (hWgradQIdeal : Cert.WgradQIdeal.Facts) (hWgradQRefIdeal : Cert.WgradQRefIdeal.Facts) (hNormKv : Cert.NormKv.Facts) (hNormKvIdeal : Cert.NormKvIdeal.Facts) (hNormKvRefIdeal : Cert.NormKvRefIdeal.Facts) (hNormIn : Cert.NormIn.Facts) (hNormInIdeal : Cert.NormInIdeal.Facts) (hNormInRefIdeal : Cert.NormInRefIdeal.Facts) (hNormQ : Cert.NormQ.Facts) (hNormQIdeal : Cert.NormQIdeal.Facts) (hNormQRefIdeal : Cert.NormQRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamQuery : Cert.AdamQuery.Facts) (hAdamQueryIdeal : Cert.AdamQueryIdeal.Facts) (hAdamQueryRefIdeal : Cert.AdamQueryRefIdeal.Facts) (hAdamBout : Cert.AdamBout.Facts) (hAdamBoutIdeal : Cert.AdamBoutIdeal.Facts) (hAdamBoutRefIdeal : Cert.AdamBoutRefIdeal.Facts) (hAdamKv : Cert.AdamKv.Facts) (hAdamKvIdeal : Cert.AdamKvIdeal.Facts) (hAdamKvRefIdeal : Cert.AdamKvRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamConv : Cert.AdamConv.Facts) (hAdamConvIdeal : Cert.AdamConvIdeal.Facts) (hAdamConvRefIdeal : Cert.AdamConvRefIdeal.Facts) (hAdamSmall : Cert.AdamSmall.Facts) (hAdamSmallIdeal : Cert.AdamSmallIdeal.Facts) (hAdamSmallRefIdeal : Cert.AdamSmallRefIdeal.Facts) (hLoss : Cert.Loss.Facts) (hLossIdeal : Cert.LossIdeal.Facts) (hLossRefIdeal : Cert.LossRefIdeal.Facts) (hDoa : Cert.Doa.Facts) (hDoaIdeal : Cert.DoaIdeal.Facts) (hDoaRefIdeal : Cert.DoaRefIdeal.Facts) (hBout : Cert.Bout.Facts) (hBoutIdeal : Cert.BoutIdeal.Facts) (hBoutRefIdeal : Cert.BoutRefIdeal.Facts) (hPre_finite : Cert.Pre_finite.Facts),
    quiescent_Norm (hNorm := hNorm)
    ∧ quiescent_NormIdeal (hNormIdeal := hNormIdeal)
    ∧ quiescent_NormRefIdeal (hNormRefIdeal := hNormRefIdeal)
    ∧ quiescent_Wgrad (hWgrad := hWgrad)
    ∧ quiescent_WgradIdeal (hWgradIdeal := hWgradIdeal)
    ∧ quiescent_WgradRefIdeal (hWgradRefIdeal := hWgradRefIdeal)
    ∧ quiescent_Dil (hDil := hDil)
    ∧ quiescent_DilIdeal (hDilIdeal := hDilIdeal)
    ∧ quiescent_DilIdeal_pre_finite (hDilIdeal := hDilIdeal) (hPre_finite := hPre_finite)
    ∧ quiescent_DilRefIdeal (hDilRefIdeal := hDilRefIdeal)
    ∧ quiescent_DilRefIdeal_pre_finite (hDilRefIdeal := hDilRefIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Dact (hDact := hDact)
    ∧ quiescent_DactIdeal (hDactIdeal := hDactIdeal)
    ∧ quiescent_DactRefIdeal (hDactRefIdeal := hDactRefIdeal)
    ∧ quiescent_Proj (hProj := hProj)
    ∧ quiescent_ProjIdeal (hProjIdeal := hProjIdeal)
    ∧ quiescent_ProjRefIdeal (hProjRefIdeal := hProjRefIdeal)
    ∧ quiescent_Query (hQuery := hQuery)
    ∧ quiescent_QueryIdeal (hQueryIdeal := hQueryIdeal)
    ∧ quiescent_QueryRefIdeal (hQueryRefIdeal := hQueryRefIdeal)
    ∧ quiescent_Aout (hAout := hAout)
    ∧ quiescent_AoutIdeal (hAoutIdeal := hAoutIdeal)
    ∧ quiescent_AoutRefIdeal (hAoutRefIdeal := hAoutRefIdeal)
    ∧ quiescent_WgradKv (hWgradKv := hWgradKv)
    ∧ quiescent_WgradKvIdeal (hWgradKvIdeal := hWgradKvIdeal)
    ∧ quiescent_WgradKvRefIdeal (hWgradKvRefIdeal := hWgradKvRefIdeal)
    ∧ quiescent_WgradIn (hWgradIn := hWgradIn)
    ∧ quiescent_WgradInIdeal (hWgradInIdeal := hWgradInIdeal)
    ∧ quiescent_WgradInRefIdeal (hWgradInRefIdeal := hWgradInRefIdeal)
    ∧ quiescent_WgradQ (hWgradQ := hWgradQ)
    ∧ quiescent_WgradQIdeal (hWgradQIdeal := hWgradQIdeal)
    ∧ quiescent_WgradQRefIdeal (hWgradQRefIdeal := hWgradQRefIdeal)
    ∧ quiescent_NormKv (hNormKv := hNormKv)
    ∧ quiescent_NormKvIdeal (hNormKvIdeal := hNormKvIdeal)
    ∧ quiescent_NormKvRefIdeal (hNormKvRefIdeal := hNormKvRefIdeal)
    ∧ quiescent_NormIn (hNormIn := hNormIn)
    ∧ quiescent_NormInIdeal (hNormInIdeal := hNormInIdeal)
    ∧ quiescent_NormInRefIdeal (hNormInRefIdeal := hNormInRefIdeal)
    ∧ quiescent_NormQ (hNormQ := hNormQ)
    ∧ quiescent_NormQIdeal (hNormQIdeal := hNormQIdeal)
    ∧ quiescent_NormQRefIdeal (hNormQRefIdeal := hNormQRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamQuery (hAdamQuery := hAdamQuery)
    ∧ quiescent_AdamQueryIdeal (hAdamQueryIdeal := hAdamQueryIdeal)
    ∧ quiescent_AdamQueryRefIdeal (hAdamQueryRefIdeal := hAdamQueryRefIdeal)
    ∧ quiescent_AdamBout (hAdamBout := hAdamBout)
    ∧ quiescent_AdamBoutIdeal (hAdamBoutIdeal := hAdamBoutIdeal)
    ∧ quiescent_AdamBoutRefIdeal (hAdamBoutRefIdeal := hAdamBoutRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_Loss (hLoss := hLoss)
    ∧ quiescent_LossIdeal (hLossIdeal := hLossIdeal)
    ∧ quiescent_LossRefIdeal (hLossRefIdeal := hLossRefIdeal)
    ∧ quiescent_Doa (hDoa := hDoa)
    ∧ quiescent_DoaIdeal (hDoaIdeal := hDoaIdeal)
    ∧ quiescent_DoaRefIdeal (hDoaRefIdeal := hDoaRefIdeal)
    ∧ quiescent_Bout (hBout := hBout)
    ∧ quiescent_BoutIdeal (hBoutIdeal := hBoutIdeal)
    ∧ quiescent_BoutRefIdeal (hBoutRefIdeal := hBoutRefIdeal)
    ∧ preserves_Norm_NormIdeal
    ∧ algebraic_NormIdeal_NormRefIdeal (hNormIdeal := hNormIdeal) (hNormRefIdeal := hNormRefIdeal)
    ∧ preserves_Wgrad_WgradIdeal
    ∧ algebraic_WgradIdeal_WgradRefIdeal (hWgradIdeal := hWgradIdeal) (hWgradRefIdeal := hWgradRefIdeal)
    ∧ preserves_Dil_DilIdeal
    ∧ algebraic_DilIdeal_DilRefIdeal_pre_finite (hDilIdeal := hDilIdeal) (hDilRefIdeal := hDilRefIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Dact_DactIdeal
    ∧ algebraic_DactIdeal_DactRefIdeal (hDactIdeal := hDactIdeal) (hDactRefIdeal := hDactRefIdeal)
    ∧ preserves_Proj_ProjIdeal
    ∧ algebraic_ProjIdeal_ProjRefIdeal (hProjIdeal := hProjIdeal) (hProjRefIdeal := hProjRefIdeal)
    ∧ preserves_Query_QueryIdeal
    ∧ algebraic_QueryIdeal_QueryRefIdeal (hQueryIdeal := hQueryIdeal) (hQueryRefIdeal := hQueryRefIdeal)
    ∧ preserves_Aout_AoutIdeal
    ∧ algebraic_AoutIdeal_AoutRefIdeal (hAoutIdeal := hAoutIdeal) (hAoutRefIdeal := hAoutRefIdeal)
    ∧ preserves_WgradKv_WgradKvIdeal
    ∧ algebraic_WgradKvIdeal_WgradKvRefIdeal (hWgradKvIdeal := hWgradKvIdeal) (hWgradKvRefIdeal := hWgradKvRefIdeal)
    ∧ preserves_WgradIn_WgradInIdeal
    ∧ algebraic_WgradInIdeal_WgradInRefIdeal (hWgradInIdeal := hWgradInIdeal) (hWgradInRefIdeal := hWgradInRefIdeal)
    ∧ preserves_WgradQ_WgradQIdeal
    ∧ algebraic_WgradQIdeal_WgradQRefIdeal (hWgradQIdeal := hWgradQIdeal) (hWgradQRefIdeal := hWgradQRefIdeal)
    ∧ preserves_NormKv_NormKvIdeal
    ∧ algebraic_NormKvIdeal_NormKvRefIdeal (hNormKvIdeal := hNormKvIdeal) (hNormKvRefIdeal := hNormKvRefIdeal)
    ∧ preserves_NormIn_NormInIdeal
    ∧ algebraic_NormInIdeal_NormInRefIdeal (hNormInIdeal := hNormInIdeal) (hNormInRefIdeal := hNormInRefIdeal)
    ∧ preserves_NormQ_NormQIdeal
    ∧ algebraic_NormQIdeal_NormQRefIdeal (hNormQIdeal := hNormQIdeal) (hNormQRefIdeal := hNormQRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamQuery_AdamQueryIdeal
    ∧ algebraic_AdamQueryIdeal_AdamQueryRefIdeal (hAdamQueryIdeal := hAdamQueryIdeal) (hAdamQueryRefIdeal := hAdamQueryRefIdeal)
    ∧ preserves_AdamBout_AdamBoutIdeal
    ∧ algebraic_AdamBoutIdeal_AdamBoutRefIdeal (hAdamBoutIdeal := hAdamBoutIdeal) (hAdamBoutRefIdeal := hAdamBoutRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_Loss_LossIdeal
    ∧ algebraic_LossIdeal_LossRefIdeal (hLossIdeal := hLossIdeal) (hLossRefIdeal := hLossRefIdeal)
    ∧ preserves_Doa_DoaIdeal
    ∧ algebraic_DoaIdeal_DoaRefIdeal (hDoaIdeal := hDoaIdeal) (hDoaRefIdeal := hDoaRefIdeal)
    ∧ preserves_Bout_BoutIdeal
    ∧ algebraic_BoutIdeal_BoutRefIdeal (hBoutIdeal := hBoutIdeal) (hBoutRefIdeal := hBoutRefIdeal)
-- ==== Pre_finite.lean ====
abbrev S4096x1536 : Shape := ⟨2, ![4096, 1536]⟩
abbrev S4096x512 : Shape := ⟨2, ![4096, 512]⟩
abbrev S_ : Shape := ⟨0, ![]⟩

class Facts : Prop where
  bitsLt_bf16_f32 : FTy.bits .bf16 < FTy.bits .f32
  bcast_S_S4096x1536 : S_.BroadcastsInDim S4096x1536 (![] : Fin 0 → Fin S4096x1536.rank)
  concatenates_S4096x512_S4096x512_S4096x512_S4096x1536_d1 : Shape.Concatenates [S4096x512, S4096x512, S4096x512] S4096x1536 1

variable [Facts]

def fn {F : FTy → Type} [FloatOps F] (main_arg0 : FVec F S4096x1536 .bf16) (main_arg1 : FVec F S4096x1536 .bf16) (main_arg2 : FVec F S4096x1536 .bf16) (main_arg3 : FVec F S4096x512 .bf16) : IVec S4096x1536 1 :=
  let main_v0 : FVec F S4096x1536 .f32 := (extf .f32 · bitsLt_bf16_f32) main_arg0
  let main_v1 : FVec F S4096x1536 .f32 := Host.absf main_v0
  let main_cst : FVec F S_ .f32 := constant S_ .f32 0x7F800000#32
  let main_v2 : FVec F S4096x1536 .f32 := broadcastInDim S4096x1536 ![] bcast_S_S4096x1536 main_cst
  let main_v3 : IVec S4096x1536 1 := cmpf .olt main_v1 main_v2
  let main_v4 : FVec F S4096x1536 .f32 := (extf .f32 · bitsLt_bf16_f32) main_arg1
  let main_v5 : FVec F S4096x1536 .f32 := Host.absf main_v4
  let main_cst_0 : FVec F S_ .f32 := constant S_ .f32 0x7F800000#32
  let main_v6 : FVec F S4096x1536 .f32 := broadcastInDim S4096x1536 ![] bcast_S_S4096x1536 main_cst_0
  let main_v7 : IVec S4096x1536 1 := cmpf .olt main_v5 main_v6
  let main_v8 : IVec S4096x1536 1 := andi main_v3 main_v7
  let main_v9 : FVec F S4096x1536 .f32 := (extf .f32 · bitsLt_bf16_f32) main_arg2
  let main_v10 : FVec F S4096x1536 .f32 := Host.absf main_v9
  let main_cst_1 : FVec F S_ .f32 := constant S_ .f32 0x7F800000#32
  let main_v11 : FVec F S4096x1536 .f32 := broadcastInDim S4096x1536 ![] bcast_S_S4096x1536 main_cst_1
  let main_v12 : IVec S4096x1536 1 := cmpf .olt main_v10 main_v11
  let main_v13 : IVec S4096x1536 1 := andi main_v8 main_v12
  let main_v14 : FVec F S4096x1536 .bf16 := concatenate S4096x1536 1 [⟨S4096x512, main_arg3⟩, ⟨S4096x512, main_arg3⟩, ⟨S4096x512, main_arg3⟩] concatenates_S4096x512_S4096x512_S4096x512_S4096x1536_d1
  let main_v15 : FVec F S4096x1536 .f32 := (extf .f32 · bitsLt_bf16_f32) main_v14
  let main_v16 : FVec F S4096x1536 .f32 := Host.absf main_v15
  let main_cst_2 : FVec F S_ .f32 := constant S_ .f32 0x7F800000#32
  let main_v17 : FVec F S4096x1536 .f32 := broadcastInDim S4096x1536 ![] bcast_S_S4096x1536 main_cst_2
  let main_v18 : IVec S4096x1536 1 := cmpf .olt main_v16 main_v17
  let main_v19 : IVec S4096x1536 1 := andi main_v13 main_v18
  main_v19
-- ==== Norm.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .bf16⟩
  | .hbm, ⟨2, _⟩ => ⟨S4096x2816, .bf16⟩
  | .hbm, ⟨3, _⟩ => ⟨S1024x2816, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x2816, .bf16⟩
  | .local _ .vmem, ⟨4, _⟩ => ⟨S512x2816, .bf16⟩
  | .local _ .vmem, ⟨5, _⟩ => ⟨S1024x2816, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_24 : BitVec 32 := 0#32
  let v41 : BitVec 1 := Scalar.cmpi .ne v40 c0_i32_24
  v41

def k0_cond2 (i : grid0.Coords) : BitVec 1 :=
  let arg0 : BitVec 32 := BitVec.ofNat 32 (i 0).val
  let c0_i32_25 : BitVec 32 := 0#32
  let v42 : BitVec 1 := Scalar.cmpi .sgt arg0 c0_i32_25
  let v43 : BitVec 32 := Scalar.extui v42
  let c0_i32_26 : BitVec 32 := 0#32
  let v44 : BitVec 1 := Scalar.cmpi .ne v43 c0_i32_26
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormRefIdeal.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .bf16⟩
  | .hbm, ⟨2, _⟩ => ⟨S4096x2816, .bf16⟩
  | .hbm, ⟨3, _⟩ => ⟨S1024x2816, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1024x2816, .f32⟩
  | .hbm, ⟨8, _⟩ => ⟨S1024x2816, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Wgrad.lean ====
abbrev S4096x1024 : Shape := ⟨2, ![4096, 1024]⟩
abbrev S4096x2816 : Shape := ⟨2, ![4096, 2816]⟩
abbrev S1024x2816 : Shape := ⟨2, ![1024, 2816]⟩
abbrev S512x1024 : Shape := ⟨2, ![512, 1024]⟩
abbrev S512x2816 : Shape := ⟨2, ![512, 2816]⟩
abbrev S256x2816 : Shape := ⟨2, ![256, 2816]⟩
abbrev S512x256 : Shape := ⟨2, ![512, 256]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x2816, .bf16⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S1024x2816, .bf16⟩
  | .local _ .vmem, ⟨5, _⟩ => ⟨S1024x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg5 : BitVec 32 := Scf.iv c0_i32_1 c1_i32 k0_t1
  let c256_i32 : BitVec 32 := 256#32
  let v7 : BitVec 32 := Scalar.muli arg5 c256_i32
  v7
def k0_off1 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c256_i32 : BitVec 32 := 256#32
  let v7 : BitVec 32 := Scalar.muli arg5 c256_i32
  let v8 : BitVec 32 := v7
  let v9 : Index := Scalar.indexCast v8
  let c0 : Index := 0#32
  ![v9.toNat, 0]
def k0_off2 (k0_t1 : Fin k0_t1_loop.trips) : Fin 2 → Nat :=
  let c0_4 : Index := 0#32
  let c0_i32_1 : BitVec 32 := 0#32
  let c1_i32 : BitVec 32 := 1#32
  let arg5 : BitVec 32 := Scf.iv c0_i32_1 c1_i32 k0_t1
  let c256_i32 : BitVec 32 := 256#32
  let v7 : BitVec 32 := Scalar.muli arg5 c256_i32
  let v8 : BitVec 32 := v7
  let v11 : Index := Scalar.indexCast v8
  ![0, v11.toNat]
def k0_cond2 (i : grid0.Coords) : BitVec 1 :=
  let arg0 : BitVec 32 := BitVec.ofNat 32 (i 0).val
  let c7_i32 : BitVec 32 := 7#32
  let v4 : BitVec 1 := Scalar.cmpi .eq arg0 c7_i32
  let v5 : BitVec 32 := Scalar.extui v4
  let c0_i32_3 : BitVec 32 := 0#32
  let v6 : BitVec 1 := Scalar.cmpi .ne v5 c0_i32_3
  v6

@[reducible] def k0_t2_loop : Scf.Loop 32 :=
  let c0_i32_4 : BitVec 32 := 0#32
  let c4_i32_5 : BitVec 32 := 4#32
  let v7 : BitVec 32 := Scalar.addi c0_i32_4 c4_i32_5
  let c1_i32_6 : BitVec 32 := 1#32
  ⟨c0_i32_4, v7, c1_i32_6⟩
def k0_mult2 (k0_t2 : Fin k0_t2_loop.trips) : BitVec 32 :=
  let c0_i32_4 : BitVec 32 := 0#32
  let c1_i32_6 : BitVec 32 := 1#32
  let arg5 : BitVec 32 := Scf.iv c0_i32_4 c1_i32_6 k0_t2
  let c256_i32 : BitVec 32 := 256#32
  let v8 : BitVec 32 := Scalar.muli arg5 c256_i32
  v8
def k0_off3 (k0_t2 : Fin k0_t2_loop.trips) : Fin 2 → Nat :=
  let c0_i32_4 : BitVec 32 := 0#32
  let c1_i32_6 : BitVec 32 := 1#32
  let arg5 : BitVec 32 := Scf.iv c0_i32_4 c1_i32_6 k0_t2
  let c256_i32 : BitVec 32 := 256#32
  let v8 : BitVec 32 := Scalar.muli arg5 c256_i32
  let v9 : BitVec 32 := v8
  let v10 : Index := Scalar.indexCast v9
  let c0 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== WgradRefIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dil.lean ====
abbrev S4096x1536 : Shape := ⟨2, ![4096, 1536]⟩
abbrev S4096x512 : Shape := ⟨2, ![4096, 512]⟩
abbrev S3x1x4096x4096 : Shape := ⟨4, ![3, 1, 4096, 4096]⟩
abbrev S_ : Shape := ⟨0, ![]⟩
abbrev S24 : Shape := ⟨1, ![24]⟩
abbrev S3x8x1x1 : Shape := ⟨4, ![3, 8, 1, 1]⟩
abbrev S3x8x4096x4096 : Shape := ⟨4, ![3, 8, 4096, 4096]⟩
abbrev S4096x3x8x64 : Shape := ⟨4, ![4096, 3, 8, 64]⟩
abbrev S3x8x4096x64 : Shape := ⟨4, ![3, 8, 4096, 64]⟩
abbrev S3x8x4096 : Shape := ⟨3, ![3, 8, 4096]⟩
abbrev S3x8x4096x1 : Shape := ⟨4, ![3, 8, 4096, 1]⟩
abbrev S8x4096 : Shape := ⟨2, ![8, 4096]⟩
abbrev S1x8x4096 : Shape := ⟨3, ![1, 8, 4096]⟩
abbrev S8x4096x64 : Shape := ⟨3, ![8, 4096, 64]⟩
abbrev S4096x8x64 : Shape := ⟨3, ![4096, 8, 64]⟩
abbrev S4096x1x512 : Shape := ⟨3, ![4096, 1, 512]⟩
abbrev S1x4096x512 : Shape := ⟨3, ![1, 4096, 512]⟩
abbrev S1024x4x512 : Shape := ⟨3, ![1024, 4, 512]⟩
abbrev S4x1024x512 : Shape := ⟨3, ![4, 1024, 512]⟩
abbrev S256x16x512 : Shape := ⟨3, ![256, 16, 512]⟩
abbrev S16x256x512 : Shape := ⟨3, ![16, 256, 512]⟩
abbrev S3x4096x512 : Shape := ⟨3, ![3, 4096, 512]⟩
abbrev S4096x8 : Shape := ⟨2, ![4096, 8]⟩
abbrev S4096x128 : Shape := ⟨2, ![4096, 128]⟩
abbrev S4096x1x128 : Shape := ⟨3, ![4096, 1, 128]⟩
abbrev S1x4096x128 : Shape := ⟨3, ![1, 4096, 128]⟩
abbrev S1024x4x128 : Shape := ⟨3, ![1024, 4, 128]⟩
abbrev S4x1024x128 : Shape := ⟨3, ![4, 1024, 128]⟩
abbrev S256x16x128 : Shape := ⟨3, ![256, 16, 128]⟩
abbrev S16x256x128 : Shape := ⟨3, ![16, 256, 128]⟩
abbrev S3x4096x128 : Shape := ⟨3, ![3, 4096, 128]⟩
abbrev S1x128x512 : Shape := ⟨3, ![1, 128, 512]⟩
abbrev S1x128x128 : Shape := ⟨3, ![1, 128, 128]⟩
abbrev S1x128 : Shape := ⟨2, ![1, 128]⟩
abbrev S128x128 : Shape := ⟨2, ![128, 128]⟩
abbrev S1 : Shape := ⟨1, ![1]⟩
abbrev S1x128x1 : Shape := ⟨3, ![1, 128, 1]⟩
abbrev S128x1 : Shape := ⟨2, ![128, 1]⟩
abbrev S128x512 : Shape := ⟨2, ![128, 512]⟩

abbrev nBuf : Space → Nat
  | .hbm => 233
  | .vmem => 30
  | .smem => 1
  | _ => 0

abbrev hbmTy0_0 (i : Nat) : BufTy := match i % 128 with
  | 0 => ⟨S4096x1536, .bf16⟩
  | 1 => ⟨S4096x1536, .bf16⟩
  | 2 => ⟨S4096x1536, .bf16⟩
  | 3 => ⟨S4096x512, .bf16⟩
  | 4 => ⟨S4096x1536, .f32⟩
  | 5 => ⟨S4096x1536, .f32⟩
  | 6 => ⟨S3x1x4096x4096, .i32⟩
  | 7 => ⟨S3x1x4096x4096, .i32⟩
  | 8 => ⟨S3x1x4096x4096, .i32⟩
  | 9 => ⟨S_, .i32⟩
  | 10 => ⟨S3x1x4096x4096, .i32⟩
  | 11 => ⟨S3x1x4096x4096, .i1⟩
  | 12 => ⟨S_, .i32⟩
  | 13 => ⟨S3x1x4096x4096, .i32⟩
  | 14 => ⟨S3x1x4096x4096, .i1⟩
  | 15 => ⟨S_, .i32⟩
  | 16 => ⟨S_, .i32⟩
  | 17 => ⟨S3x1x4096x4096, .i32⟩
  | 18 => ⟨S3x1x4096x4096, .i32⟩
  | 19 => ⟨S3x1x4096x4096, .i32⟩
  | 20 => ⟨S_, .i32⟩
  | 21 => ⟨S3x1x4096x4096, .i32⟩
  | 22 => ⟨S3x1x4096x4096, .i32⟩
  | 23 => ⟨S3x1x4096x4096, .i32⟩
  | 24 => ⟨S_, .i32⟩
  | 25 => ⟨S3x1x4096x4096, .i32⟩
  | 26 => ⟨S3x1x4096x4096, .i1⟩
  | 27 => ⟨S_, .i32⟩
  | 28 => ⟨S3x1x4096x4096, .i32⟩
  | 29 => ⟨S3x1x4096x4096, .i32⟩
  | 30 => ⟨S3x1x4096x4096, .i32⟩
  | 31 => ⟨S3x1x4096x4096, .i1⟩
  | 32 => ⟨S3x1x4096x4096, .i1⟩
  | 33 => ⟨S3x1x4096x4096, .i32⟩
  | 34 => ⟨S_, .i32⟩
  | 35 => ⟨S3x1x4096x4096, .i32⟩
  | 36 => ⟨S3x1x4096x4096, .i1⟩
  | 37 => ⟨S3x1x4096x4096, .i1⟩
  | 38 => ⟨S24, .f32⟩
  | 39 => ⟨S_, .f32⟩
  | 40 => ⟨S24, .f32⟩
  | 41 => ⟨S24, .f32⟩
  | 42 => ⟨S_, .f32⟩
  | 43 => ⟨S24, .f32⟩
  | 44 => ⟨S24, .f32⟩
  | 45 => ⟨S_, .f32⟩
  | 46 => ⟨S24, .f32⟩
  | 47 => ⟨S24, .f32⟩
  | 48 => ⟨S_, .f32⟩
  | 49 => ⟨S24, .f32⟩
  | 50 => ⟨S24, .f32⟩
  | 51 => ⟨S24, .f32⟩
  | 52 => ⟨S3x8x1x1, .f32⟩
  | 53 => ⟨S3x8x1x1, .f32⟩
  | 54 => ⟨S3x1x4096x4096, .f32⟩
  | 55 => ⟨S3x8x4096x4096, .f32⟩
  | 56 => ⟨S3x8x4096x4096, .f32⟩
  | 57 => ⟨S3x8x4096x4096, .f32⟩
  | 58 => ⟨S4096x3x8x64, .f32⟩
  | 59 => ⟨S3x8x4096x64, .f32⟩
  | 60 => ⟨S4096x3x8x64, .f32⟩
  | 61 => ⟨S3x8x4096x64, .f32⟩
  | 62 => ⟨S3x8x4096x4096, .f32⟩
  | 63 => ⟨S_, .f32⟩
  | 64 => ⟨S3x8x4096x4096, .f32⟩
  | 65 => ⟨S3x8x4096x4096, .f32⟩
  | 66 => ⟨S3x8x4096x4096, .f32⟩
  | 67 => ⟨S_, .f32⟩
  | 68 => ⟨S_, .f32⟩
  | 69 => ⟨S3x8x4096x4096, .i1⟩
  | 70 => ⟨S3x8x4096x4096, .f32⟩
  | 71 => ⟨S3x8x4096x4096, .f32⟩
  | 72 => ⟨S_, .f32⟩
  | 73 => ⟨S3x8x4096, .f32⟩
  | 74 => ⟨S3x8x4096x1, .f32⟩
  | 75 => ⟨S3x8x4096x4096, .f32⟩
  | 76 => ⟨S3x8x4096x4096, .f32⟩
  | 77 => ⟨S3x8x4096x4096, .f32⟩
  | 78 => ⟨S_, .f32⟩
  | 79 => ⟨S3x8x4096, .f32⟩
  | 80 => ⟨S3x8x4096x1, .f32⟩
  | 81 => ⟨S3x8x4096x4096, .f32⟩
  | 82 => ⟨S3x8x4096x4096, .f32⟩
  | 83 => ⟨S3x8x4096x1, .f32⟩
  | 84 => ⟨S3x8x4096x1, .f32⟩
  | 85 => ⟨S3x8x4096, .f32⟩
  | 86 => ⟨S_, .f32⟩
  | 87 => ⟨S8x4096, .f32⟩
  | 88 => ⟨S1x8x4096, .f32⟩
  | 89 => ⟨S8x4096, .f32⟩
  | 90 => ⟨S8x4096, .f32⟩
  | 91 => ⟨S8x4096, .f32⟩
  | 92 => ⟨S1x8x4096, .f32⟩
  | 93 => ⟨S8x4096, .f32⟩
  | 94 => ⟨S8x4096, .f32⟩
  | 95 => ⟨S8x4096, .f32⟩
  | 96 => ⟨S8x4096, .f32⟩
  | 97 => ⟨S1x8x4096, .f32⟩
  | 98 => ⟨S8x4096, .f32⟩
  | 99 => ⟨S8x4096, .f32⟩
  | 100 => ⟨S8x4096, .f32⟩
  | 101 => ⟨S8x4096, .f32⟩
  | 102 => ⟨S8x4096, .f32⟩
  | 103 => ⟨S8x4096, .f32⟩
  | 104 => ⟨S1x8x4096, .f32⟩
  | 105 => ⟨S3x8x4096, .f32⟩
  | 106 => ⟨S3x8x4096, .f32⟩
  | 107 => ⟨S3x8x4096, .f32⟩
  | 108 => ⟨S3x8x4096x1, .f32⟩
  | 109 => ⟨S3x8x4096x4096, .f32⟩
  | 110 => ⟨S3x8x4096x4096, .f32⟩
  | 111 => ⟨S4096x1536, .f32⟩
  | 112 => ⟨S4096x3x8x64, .f32⟩
  | 113 => ⟨S3x8x4096x64, .f32⟩
  | 114 => ⟨S8x4096x64, .f32⟩
  | 115 => ⟨S4096x512, .f32⟩
  | 116 => ⟨S4096x8x64, .f32⟩
  | 117 => ⟨S8x4096x64, .f32⟩
  | 118 => ⟨S8x4096x64, .f32⟩
  | 119 => ⟨S_, .f32⟩
  | 120 => ⟨S8x4096, .f32⟩
  | 121 => ⟨S4096x512, .bf16⟩
  | 122 => ⟨S4096x1x512, .bf16⟩
  | 123 => ⟨S1x4096x512, .bf16⟩
  | 124 => ⟨S4096x512, .bf16⟩
  | 125 => ⟨S4096x512, .bf16⟩
  | 126 => ⟨S1024x4x512, .bf16⟩
  | 127 => ⟨S4x1024x512, .bf16⟩
  | _ => ⟨S4096x1536, .bf16⟩

abbrev hbmTy0_1 (i : Nat) : BufTy := match i % 128 with
  | 0 => ⟨S4096x512, .bf16⟩
  | 1 => ⟨S4096x512, .bf16⟩
  | 2 => ⟨S256x16x512, .bf16⟩
  | 3 => ⟨S16x256x512, .bf16⟩
  | 4 => ⟨S4096x512, .bf16⟩
  | 5 => ⟨S1x4096x512, .bf16⟩
  | 6 => ⟨S1x4096x512, .bf16⟩
  | 7 => ⟨S1x4096x512, .bf16⟩
  | 8 => ⟨S3x4096x512, .bf16⟩
  | 9 => ⟨S4096x512, .bf16⟩
  | 10 => ⟨S4096x1x512, .bf16⟩
  | 11 => ⟨S1x4096x512, .bf16⟩
  | 12 => ⟨S4096x512, .bf16⟩
  | 13 => ⟨S4096x512, .bf16⟩
  | 14 => ⟨S1024x4x512, .bf16⟩
  | 15 => ⟨S4x1024x512, .bf16⟩
  | 16 => ⟨S4096x512, .bf16⟩
  | 17 => ⟨S4096x512, .bf16⟩
  | 18 => ⟨S256x16x512, .bf16⟩
  | 19 => ⟨S16x256x512, .bf16⟩
  | 20 => ⟨S4096x512, .bf16⟩
  | 21 => ⟨S1x4096x512, .bf16⟩
  | 22 => ⟨S1x4096x512, .bf16⟩
  | 23 => ⟨S1x4096x512, .bf16⟩
  | 24 => ⟨S3x4096x512, .bf16⟩
  | 25 => ⟨S4096x512, .bf16⟩
  | 26 => ⟨S4096x1x512, .bf16⟩
  | 27 => ⟨S1x4096x512, .bf16⟩
  | 28 => ⟨S4096x512, .bf16⟩
  | 29 => ⟨S4096x512, .bf16⟩
  | 30 => ⟨S1024x4x512, .bf16⟩
  | 31 => ⟨S4x1024x512, .bf16⟩
  | 32 => ⟨S4096x512, .bf16⟩
  | 33 => ⟨S4096x512, .bf16⟩
  | 34 => ⟨S256x16x512, .bf16⟩
  | 35 => ⟨S16x256x512, .bf16⟩
  | 36 => ⟨S4096x512, .bf16⟩
  | 37 => ⟨S1x4096x512, .bf16⟩
  | 38 => ⟨S1x4096x512, .bf16⟩
  | 39 => ⟨S1x4096x512, .bf16⟩
  | 40 => ⟨S3x4096x512, .bf16⟩
  | 41 => ⟨S4096x1x512, .bf16⟩
  | 42 => ⟨S1x4096x512, .bf16⟩
  | 43 => ⟨S4096x512, .bf16⟩
  | 44 => ⟨S1024x4x512, .bf16⟩
  | 45 => ⟨S4x1024x512, .bf16⟩
  | 46 => ⟨S4096x512, .bf16⟩
  | 47 => ⟨S256x16x512, .bf16⟩
  | 48 => ⟨S16x256x512, .bf16⟩
  | 49 => ⟨S4096x512, .bf16⟩
  | 50 => ⟨S1x4096x512, .bf16⟩
  | 51 => ⟨S1x4096x512, .bf16⟩
  | 52 => ⟨S1x4096x512, .bf16⟩
  | 53 => ⟨S3x4096x512, .bf16⟩
  | 54 => ⟨S4096x8, .f32⟩
  | 55 => ⟨S_, .i32⟩
  | 56 => ⟨S_, .f32⟩
  | 57 => ⟨S4096x128, .f32⟩
  | 58 => ⟨S4096x1x128, .f32⟩
  | 59 => ⟨S1x4096x128, .f32⟩
  | 60 => ⟨S4096x128, .f32⟩
  | 61 => ⟨S1024x4x128, .f32⟩
  | 62 => ⟨S4x1024x128, .f32⟩
  | 63 => ⟨S4096x128, .f32⟩
  | 64 => ⟨S256x16x128, .f32⟩
  | 65 => ⟨S16x256x128, .f32⟩
  | 66 => ⟨S4096x128, .f32⟩
  | 67 => ⟨S1x4096x128, .f32⟩
  | 68 => ⟨S1x4096x128, .f32⟩
  | 69 => ⟨S1x4096x128, .f32⟩
  | 70 => ⟨S3x4096x128, .f32⟩
  | 71 => ⟨S4096x8, .f32⟩
  | 72 => ⟨S_, .i32⟩
  | 73 => ⟨S_, .f32⟩
  | 74 => ⟨S4096x128, .f32⟩
  | 75 => ⟨S4096x1x128, .f32⟩
  | 76 => ⟨S1x4096x128, .f32⟩
  | 77 => ⟨S4096x128, .f32⟩
  | 78 => ⟨S1024x4x128, .f32⟩
  | 79 => ⟨S4x1024x128, .f32⟩
  | 80 => ⟨S4096x128, .f32⟩
  | 81 => ⟨S256x16x128, .f32⟩
  | 82 => ⟨S16x256x128, .f32⟩
  | 83 => ⟨S4096x128, .f32⟩
  | 84 => ⟨S1x4096x128, .f32⟩
  | 85 => ⟨S1x4096x128, .f32⟩
  | 86 => ⟨S1x4096x128, .f32⟩
  | 87 => ⟨S3x4096x128, .f32⟩
  | 88 => ⟨S24, .f32⟩
  | 89 => ⟨S_, .f32⟩
  | 90 => ⟨S24, .f32⟩
  | 91 => ⟨S24, .f32⟩
  | 92 => ⟨S_, .f32⟩
  | 93 => ⟨S24, .f32⟩
  | 94 => ⟨S24, .f32⟩
  | 95 => ⟨S_, .f32⟩
  | 96 => ⟨S24, .f32⟩
  | 97 => ⟨S24, .f32⟩
  | 98 => ⟨S_, .f32⟩
  | 99 => ⟨S24, .f32⟩
  | 100 => ⟨S24, .f32⟩
  | 101 => ⟨S24, .f32⟩
  | 102 => ⟨S3x4096x512, .bf16⟩
  | 103 => ⟨S3x4096x512, .bf16⟩
  | 104 => ⟨S3x4096x512, .bf16⟩
  | _ => ⟨S4096x1536, .bf16⟩

abbrev hbmTy (i : Nat) : BufTy := match i / 128 with
  | 0 => hbmTy0_0 i
  | 1 => hbmTy0_1 i
  | _ => ⟨S4096x1536, .bf16⟩

abbrev bufTy : (tb : Table) → Fin (tcTables nBuf tb) → BufTy
  | .hbm, ⟨i, _⟩ => hbmTy i
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x128x512, .bf16⟩
  | .local _ .vmem, ⟨11, _⟩ => ⟨S1x128x512, .bf16⟩
  | .local _ .vmem, ⟨12, _⟩ => ⟨S1x128x512, .bf16⟩
  | .local _ .vmem, ⟨13, _⟩ => ⟨S1x128x512, .bf16⟩
  | .local _ .vmem, ⟨14, _⟩ => ⟨S1x128x512, .bf16⟩
  | .local _ .vmem, ⟨15, _⟩ => ⟨S1x128x512, .bf16⟩
  | .local _ .vmem, ⟨16, _⟩ => ⟨S1x128x128, .f32⟩
  | .local _ .vmem, ⟨17, _⟩ => ⟨S1x128x128, .f32⟩
  | .local _ .vmem, ⟨18, _⟩ => ⟨S1x128x128, .f32⟩
  | .local _ .vmem, ⟨19, _⟩ => ⟨S1x128x128, .f32⟩
  | .local _ .vmem, ⟨20, _⟩ => ⟨S1x128x128, .f32⟩
  | .local _ .vmem, ⟨21, _⟩ => ⟨S1x128x128, .f32⟩
  | .local _ .vmem, ⟨22, _⟩ => ⟨S1x128x128, .f32⟩
  | .local _ .vmem, ⟨23, _⟩ => ⟨S1x128x128, .f32⟩
  | .local _ .vmem, ⟨24, _⟩ => ⟨S1x128x512, .bf16⟩
  | .local _ .vmem, ⟨25, _⟩ => ⟨S1x128x512, .bf16⟩
  | .local _ .vmem, ⟨26, _⟩ => ⟨S1x128x512, .bf16⟩
  | .local _ .vmem, ⟨27, _⟩ => ⟨S1x128x512, .bf16⟩
  | .local _ .vmem, ⟨28, _⟩ => ⟨S1x128x512, .bf16⟩
  | .local _ .vmem, ⟨29, _⟩ => ⟨S1x128x512, .bf16⟩
  | .local _ .smem, ⟨0, _⟩ => ⟨S24, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_c_2 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_c_3 : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_c_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v47 : Ref sig .tc := ⟨.hbm, 71, rfl⟩
abbrev main_cst_12 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_13 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_15 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_c_16 : Ref sig .tc := ⟨.hbm, 183, rfl⟩
abbrev main_call3_v0 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_c_17 : Ref sig .tc := ⟨.hbm, 200, rfl⟩
abbrev main_call4_v0 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_cst_18 : Ref sig .tc := ⟨.hbm, 217, rfl⟩
abbrev main_v185 : Ref sig .tc := ⟨.hbm, 218, rfl⟩
abbrev main_v186 : Ref sig .tc := ⟨.hbm, 219, rfl⟩
abbrev main_cst_19 : Ref sig .tc := ⟨.hbm, 220, rfl⟩
abbrev main_v187 : Ref sig .tc := ⟨.hbm, 221, rfl⟩
abbrev main_v188 : Ref sig .tc := ⟨.hbm, 222, rfl⟩
abbrev main_cst_20 : Ref sig .tc := ⟨.hbm, 223, rfl⟩
abbrev main_v189 : Ref sig .tc := ⟨.hbm, 224, rfl⟩
abbrev main_v190 : Ref sig .tc := ⟨.hbm, 225, rfl⟩
abbrev main_cst_21 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194_0 : Ref sig .tc := ⟨.hbm, 230, rfl⟩
abbrev main_v194_1 : Ref sig .tc := ⟨.hbm, 231, rfl⟩
abbrev main_v194_2 : Ref sig .tc := ⟨.hbm, 232, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨2, ![3, 32], ![false, false]⟩

def k0_off1 (i : grid0.Coords) (c0_i32_305 : BitVec 32) (c0_i32_306 : BitVec 32) : Fin 1 → Nat :=
  let arg0 : BitVec 32 := BitVec.ofNat 32 (i 0).val
  let c8_i32_304 : BitVec 32 := 8#32
  let v395 : BitVec 32 := Scalar.muli arg0 c8_i32_304
  let v396 : BitVec 32 := Scalar.addi v395 c0_i32_305
  let v397 : BitVec 32 := Scalar.addi v396 c0_i32_306
  let v398 : Index := Scalar.indexCast v397
  ![v398.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  let c0_i32_0 : BitVec 32 := 0#32
  ![arg0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  let c0_i32_0 : BitVec 32 := 0#32
  ![arg0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  let c0_i32_0 : BitVec 32 := 0#32
  ![arg0.toNat, v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  let c0_i32_0 : BitVec 32 := 0#32
  ![arg0.toNat, v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== DilIdeal.lean ====
variable {F : FTy → Type} [FloatOps F] [Named F]
def κ : String → Option EReal := fun
  | "minus_inf" => some ⊥
  | _ => none
-- ==== DilRefIdeal.lean ====
abbrev S4096x1536 : Shape := ⟨2, ![4096, 1536]⟩
abbrev S4096x512 : Shape := ⟨2, ![4096, 512]⟩
abbrev S3x1x4096x4096 : Shape := ⟨4, ![3, 1, 4096, 4096]⟩
abbrev S_ : Shape := ⟨0, ![]⟩
abbrev S24 : Shape := ⟨1, ![24]⟩
abbrev S3x8x1x1 : Shape := ⟨4, ![3, 8, 1, 1]⟩
abbrev S3x8x4096x4096 : Shape := ⟨4, ![3, 8, 4096, 4096]⟩
abbrev S4096x3x8x64 : Shape := ⟨4, ![4096, 3, 8, 64]⟩
abbrev S3x8x4096x64 : Shape := ⟨4, ![3, 8, 4096, 64]⟩
abbrev S3x8x4096 : Shape := ⟨3, ![3, 8, 4096]⟩
abbrev S3x8x4096x1 : Shape := ⟨4, ![3, 8, 4096, 1]⟩
abbrev S8x4096 : Shape := ⟨2, ![8, 4096]⟩
abbrev S1x8x4096 : Shape := ⟨3, ![1, 8, 4096]⟩
abbrev S8x4096x64 : Shape := ⟨3, ![8, 4096, 64]⟩
abbrev S4096x8x64 : Shape := ⟨3, ![4096, 8, 64]⟩
abbrev S3x8x64x4096 : Shape := ⟨4, ![3, 8, 64, 4096]⟩
abbrev S4096x1x512 : Shape := ⟨3, ![4096, 1, 512]⟩
abbrev S1x4096x512 : Shape := ⟨3, ![1, 4096, 512]⟩
abbrev S1024x4x512 : Shape := ⟨3, ![1024, 4, 512]⟩
abbrev S4x1024x512 : Shape := ⟨3, ![4, 1024, 512]⟩
abbrev S256x16x512 : Shape := ⟨3, ![256, 16, 512]⟩
abbrev S16x256x512 : Shape := ⟨3, ![16, 256, 512]⟩
abbrev S3x4096x512 : Shape := ⟨3, ![3, 4096, 512]⟩

abbrev nBuf : Space → Nat
  | .hbm => 269
  | .vmem => 0
  | .smem => 0
  | _ => 0

abbrev hbmTy0_0 (i : Nat) : BufTy := match i % 128 with
  | 0 => ⟨S4096x1536, .bf16⟩
  | 1 => ⟨S4096x1536, .bf16⟩
  | 2 => ⟨S4096x1536, .bf16⟩
  | 3 => ⟨S4096x512, .bf16⟩
  | 4 => ⟨S4096x1536, .f32⟩
  | 5 => ⟨S4096x1536, .f32⟩
  | 6 => ⟨S4096x1536, .f32⟩
  | 7 => ⟨S3x1x4096x4096, .i32⟩
  | 8 => ⟨S3x1x4096x4096, .i32⟩
  | 9 => ⟨S3x1x4096x4096, .i32⟩
  | 10 => ⟨S_, .i32⟩
  | 11 => ⟨S3x1x4096x4096, .i32⟩
  | 12 => ⟨S3x1x4096x4096, .i1⟩
  | 13 => ⟨S_, .i32⟩
  | 14 => ⟨S3x1x4096x4096, .i32⟩
  | 15 => ⟨S3x1x4096x4096, .i1⟩
  | 16 => ⟨S_, .i32⟩
  | 17 => ⟨S_, .i32⟩
  | 18 => ⟨S3x1x4096x4096, .i32⟩
  | 19 => ⟨S3x1x4096x4096, .i32⟩
  | 20 => ⟨S3x1x4096x4096, .i32⟩
  | 21 => ⟨S_, .i32⟩
  | 22 => ⟨S3x1x4096x4096, .i32⟩
  | 23 => ⟨S3x1x4096x4096, .i32⟩
  | 24 => ⟨S3x1x4096x4096, .i32⟩
  | 25 => ⟨S_, .i32⟩
  | 26 => ⟨S3x1x4096x4096, .i32⟩
  | 27 => ⟨S3x1x4096x4096, .i1⟩
  | 28 => ⟨S_, .i32⟩
  | 29 => ⟨S3x1x4096x4096, .i32⟩
  | 30 => ⟨S3x1x4096x4096, .i32⟩
  | 31 => ⟨S3x1x4096x4096, .i32⟩
  | 32 => ⟨S3x1x4096x4096, .i1⟩
  | 33 => ⟨S3x1x4096x4096, .i1⟩
  | 34 => ⟨S3x1x4096x4096, .i32⟩
  | 35 => ⟨S_, .i32⟩
  | 36 => ⟨S3x1x4096x4096, .i32⟩
  | 37 => ⟨S3x1x4096x4096, .i1⟩
  | 38 => ⟨S3x1x4096x4096, .i1⟩
  | 39 => ⟨S24, .f32⟩
  | 40 => ⟨S_, .f32⟩
  | 41 => ⟨S24, .f32⟩
  | 42 => ⟨S24, .f32⟩
  | 43 => ⟨S_, .f32⟩
  | 44 => ⟨S24, .f32⟩
  | 45 => ⟨S24, .f32⟩
  | 46 => ⟨S_, .f32⟩
  | 47 => ⟨S24, .f32⟩
  | 48 => ⟨S24, .f32⟩
  | 49 => ⟨S_, .f32⟩
  | 50 => ⟨S24, .f32⟩
  | 51 => ⟨S24, .f32⟩
  | 52 => ⟨S24, .f32⟩
  | 53 => ⟨S3x8x1x1, .f32⟩
  | 54 => ⟨S3x8x1x1, .f32⟩
  | 55 => ⟨S3x1x4096x4096, .f32⟩
  | 56 => ⟨S3x8x4096x4096, .f32⟩
  | 57 => ⟨S3x8x4096x4096, .f32⟩
  | 58 => ⟨S3x8x4096x4096, .f32⟩
  | 59 => ⟨S4096x3x8x64, .f32⟩
  | 60 => ⟨S3x8x4096x64, .f32⟩
  | 61 => ⟨S4096x3x8x64, .f32⟩
  | 62 => ⟨S3x8x4096x64, .f32⟩
  | 63 => ⟨S3x8x4096x4096, .f32⟩
  | 64 => ⟨S_, .f32⟩
  | 65 => ⟨S3x8x4096x4096, .f32⟩
  | 66 => ⟨S3x8x4096x4096, .f32⟩
  | 67 => ⟨S3x8x4096x4096, .f32⟩
  | 68 => ⟨S_, .f32⟩
  | 69 => ⟨S_, .f32⟩
  | 70 => ⟨S3x8x4096x4096, .i1⟩
  | 71 => ⟨S3x8x4096x4096, .f32⟩
  | 72 => ⟨S3x8x4096x4096, .f32⟩
  | 73 => ⟨S_, .f32⟩
  | 74 => ⟨S3x8x4096x4096, .f32⟩
  | 75 => ⟨S_, .f32⟩
  | 76 => ⟨S3x8x4096, .f32⟩
  | 77 => ⟨S3x8x4096x1, .f32⟩
  | 78 => ⟨S3x8x4096x4096, .f32⟩
  | 79 => ⟨S3x8x4096x4096, .i1⟩
  | 80 => ⟨S3x8x4096x4096, .f32⟩
  | 81 => ⟨S_, .f32⟩
  | 82 => ⟨S3x8x4096, .f32⟩
  | 83 => ⟨S3x8x4096x1, .f32⟩
  | 84 => ⟨S3x8x4096x4096, .f32⟩
  | 85 => ⟨S3x8x4096x4096, .f32⟩
  | 86 => ⟨S3x8x4096x4096, .f32⟩
  | 87 => ⟨S_, .f32⟩
  | 88 => ⟨S3x8x4096, .f32⟩
  | 89 => ⟨S3x8x4096x1, .f32⟩
  | 90 => ⟨S3x8x4096x4096, .f32⟩
  | 91 => ⟨S3x8x4096x4096, .f32⟩
  | 92 => ⟨S3x8x4096x1, .f32⟩
  | 93 => ⟨S_, .f32⟩
  | 94 => ⟨S3x8x4096x1, .f32⟩
  | 95 => ⟨S3x8x4096x1, .f32⟩
  | 96 => ⟨S3x8x4096x1, .f32⟩
  | 97 => ⟨S3x8x4096x1, .f32⟩
  | 98 => ⟨S3x8x4096, .f32⟩
  | 99 => ⟨S4096x3x8x64, .f32⟩
  | 100 => ⟨S3x8x4096x64, .f32⟩
  | 101 => ⟨S3x8x4096x64, .f32⟩
  | 102 => ⟨S_, .f32⟩
  | 103 => ⟨S8x4096, .f32⟩
  | 104 => ⟨S1x8x4096, .f32⟩
  | 105 => ⟨S3x8x4096, .f32⟩
  | 106 => ⟨S3x8x4096, .i1⟩
  | 107 => ⟨S3x8x4096, .f32⟩
  | 108 => ⟨S_, .f32⟩
  | 109 => ⟨S8x4096, .f32⟩
  | 110 => ⟨S_, .f32⟩
  | 111 => ⟨S8x4096, .f32⟩
  | 112 => ⟨S8x4096, .f32⟩
  | 113 => ⟨S_, .f32⟩
  | 114 => ⟨S8x4096, .f32⟩
  | 115 => ⟨S8x4096, .i1⟩
  | 116 => ⟨S_, .f32⟩
  | 117 => ⟨S8x4096, .f32⟩
  | 118 => ⟨S8x4096, .i1⟩
  | 119 => ⟨S_, .f32⟩
  | 120 => ⟨S8x4096, .f32⟩
  | 121 => ⟨S_, .f32⟩
  | 122 => ⟨S8x4096, .f32⟩
  | 123 => ⟨S_, .f32⟩
  | 124 => ⟨S8x4096, .f32⟩
  | 125 => ⟨S8x4096, .f32⟩
  | 126 => ⟨S8x4096, .f32⟩
  | 127 => ⟨S1x8x4096, .f32⟩
  | _ => ⟨S4096x1536, .bf16⟩

abbrev hbmTy0_1 (i : Nat) : BufTy := match i % 128 with
  | 0 => ⟨S3x8x4096, .f32⟩
  | 1 => ⟨S3x8x4096, .f32⟩
  | 2 => ⟨S3x8x4096, .f32⟩
  | 3 => ⟨S_, .f32⟩
  | 4 => ⟨S8x4096, .f32⟩
  | 5 => ⟨S1x8x4096, .f32⟩
  | 6 => ⟨S3x8x4096, .f32⟩
  | 7 => ⟨S3x8x4096, .f32⟩
  | 8 => ⟨S1x8x4096, .f32⟩
  | 9 => ⟨S_, .f32⟩
  | 10 => ⟨S1x8x4096, .f32⟩
  | 11 => ⟨S1x8x4096, .f32⟩
  | 12 => ⟨S3x8x4096x1, .f32⟩
  | 13 => ⟨S3x8x4096x64, .f32⟩
  | 14 => ⟨S3x8x4096x64, .f32⟩
  | 15 => ⟨S_, .f32⟩
  | 16 => ⟨S8x4096x64, .f32⟩
  | 17 => ⟨S4096x8x64, .f32⟩
  | 18 => ⟨S4096x512, .f32⟩
  | 19 => ⟨S4096x512, .f32⟩
  | 20 => ⟨S4096x8x64, .f32⟩
  | 21 => ⟨S8x4096x64, .f32⟩
  | 22 => ⟨S3x8x4096x64, .f32⟩
  | 23 => ⟨S3x8x4096x64, .f32⟩
  | 24 => ⟨S3x8x4096x64, .f32⟩
  | 25 => ⟨S3x8x4096x64, .f32⟩
  | 26 => ⟨S_, .f32⟩
  | 27 => ⟨S3x8x4096, .f32⟩
  | 28 => ⟨S3x8x4096x1, .f32⟩
  | 29 => ⟨S_, .f32⟩
  | 30 => ⟨S3x8x4096, .f32⟩
  | 31 => ⟨S3x8x4096, .f32⟩
  | 32 => ⟨S3x8x4096, .f32⟩
  | 33 => ⟨S3x8x4096, .f32⟩
  | 34 => ⟨S_, .f32⟩
  | 35 => ⟨S8x4096, .f32⟩
  | 36 => ⟨S1x8x4096, .f32⟩
  | 37 => ⟨S1x8x4096, .f32⟩
  | 38 => ⟨S3x8x4096, .f32⟩
  | 39 => ⟨S3x8x4096, .f32⟩
  | 40 => ⟨S_, .f32⟩
  | 41 => ⟨S8x4096, .f32⟩
  | 42 => ⟨S3x8x4096, .f32⟩
  | 43 => ⟨S3x8x4096, .f32⟩
  | 44 => ⟨S3x8x4096, .f32⟩
  | 45 => ⟨S3x8x64x4096, .f32⟩
  | 46 => ⟨S3x8x4096x64, .f32⟩
  | 47 => ⟨S3x8x4096x4096, .f32⟩
  | 48 => ⟨S4096x3x8x64, .f32⟩
  | 49 => ⟨S4096x1536, .f32⟩
  | 50 => ⟨S3x8x4096x1, .f32⟩
  | 51 => ⟨S3x8x4096x1, .f32⟩
  | 52 => ⟨S3x8x4096x4096, .f32⟩
  | 53 => ⟨S3x8x4096x4096, .f32⟩
  | 54 => ⟨S3x8x4096x4096, .f32⟩
  | 55 => ⟨S_, .f32⟩
  | 56 => ⟨S3x8x4096, .f32⟩
  | 57 => ⟨S3x8x4096x1, .f32⟩
  | 58 => ⟨S3x8x4096x1, .f32⟩
  | 59 => ⟨S3x8x4096x1, .f32⟩
  | 60 => ⟨S3x8x4096x4096, .f32⟩
  | 61 => ⟨S3x8x4096x4096, .f32⟩
  | 62 => ⟨S_, .f32⟩
  | 63 => ⟨S3x8x4096, .f32⟩
  | 64 => ⟨S3x8x4096x4096, .f32⟩
  | 65 => ⟨S3x8x4096x4096, .f32⟩
  | 66 => ⟨S3x8x4096x4096, .f32⟩
  | 67 => ⟨S3x8x4096x4096, .f32⟩
  | 68 => ⟨S_, .f32⟩
  | 69 => ⟨S3x8x4096, .f32⟩
  | 70 => ⟨S3x8x4096x1, .f32⟩
  | 71 => ⟨S3x8x4096x1, .f32⟩
  | 72 => ⟨S_, .f32⟩
  | 73 => ⟨S3x8x4096, .f32⟩
  | 74 => ⟨S3x8x4096, .f32⟩
  | 75 => ⟨S3x8x4096x4096, .f32⟩
  | 76 => ⟨S3x8x4096x4096, .f32⟩
  | 77 => ⟨S3x8x4096x4096, .f32⟩
  | 78 => ⟨S_, .f32⟩
  | 79 => ⟨S3x8x4096x4096, .f32⟩
  | 80 => ⟨S3x8x4096x4096, .f32⟩
  | 81 => ⟨S_, .f32⟩
  | 82 => ⟨S3x8x4096x4096, .f32⟩
  | 83 => ⟨S3x8x4096x4096, .f32⟩
  | 84 => ⟨S3x8x4096x64, .f32⟩
  | 85 => ⟨S3x8x4096x64, .f32⟩
  | 86 => ⟨S4096x3x8x64, .f32⟩
  | 87 => ⟨S4096x1536, .f32⟩
  | 88 => ⟨S4096x3x8x64, .f32⟩
  | 89 => ⟨S4096x1536, .f32⟩
  | 90 => ⟨S4096x512, .f32⟩
  | 91 => ⟨S4096x1x512, .f32⟩
  | 92 => ⟨S1x4096x512, .f32⟩
  | 93 => ⟨S4096x512, .f32⟩
  | 94 => ⟨S4096x512, .f32⟩
  | 95 => ⟨S1024x4x512, .f32⟩
  | 96 => ⟨S4x1024x512, .f32⟩
  | 97 => ⟨S4096x512, .f32⟩
  | 98 => ⟨S4096x512, .f32⟩
  | 99 => ⟨S256x16x512, .f32⟩
  | 100 => ⟨S16x256x512, .f32⟩
  | 101 => ⟨S4096x512, .f32⟩
  | 102 => ⟨S1x4096x512, .f32⟩
  | 103 => ⟨S1x4096x512, .f32⟩
  | 104 => ⟨S1x4096x512, .f32⟩
  | 105 => ⟨S3x4096x512, .f32⟩
  | 106 => ⟨S3x4096x512, .bf16⟩
  | 107 => ⟨S4096x512, .f32⟩
  | 108 => ⟨S4096x1x512, .f32⟩
  | 109 => ⟨S1x4096x512, .f32⟩
  | 110 => ⟨S4096x512, .f32⟩
  | 111 => ⟨S4096x512, .f32⟩
  | 112 => ⟨S1024x4x512, .f32⟩
  | 113 => ⟨S4x1024x512, .f32⟩
  | 114 => ⟨S4096x512, .f32⟩
  | 115 => ⟨S4096x512, .f32⟩
  | 116 => ⟨S256x16x512, .f32⟩
  | 117 => ⟨S16x256x512, .f32⟩
  | 118 => ⟨S4096x512, .f32⟩
  | 119 => ⟨S1x4096x512, .f32⟩
  | 120 => ⟨S1x4096x512, .f32⟩
  | 121 => ⟨S1x4096x512, .f32⟩
  | 122 => ⟨S3x4096x512, .f32⟩
  | 123 => ⟨S3x4096x512, .bf16⟩
  | 124 => ⟨S4096x512, .f32⟩
  | 125 => ⟨S4096x1x512, .f32⟩
  | 126 => ⟨S1x4096x512, .f32⟩
  | 127 => ⟨S4096x512, .f32⟩
  | _ => ⟨S4096x1536, .bf16⟩

abbrev hbmTy0_2 (i : Nat) : BufTy := match i % 128 with
  | 0 => ⟨S4096x512, .f32⟩
  | 1 => ⟨S1024x4x512, .f32⟩
  | 2 => ⟨S4x1024x512, .f32⟩
  | 3 => ⟨S4096x512, .f32⟩
  | 4 => ⟨S4096x512, .f32⟩
  | 5 => ⟨S256x16x512, .f32⟩
  | 6 => ⟨S16x256x512, .f32⟩
  | 7 => ⟨S4096x512, .f32⟩
  | 8 => ⟨S1x4096x512, .f32⟩
  | 9 => ⟨S1x4096x512, .f32⟩
  | 10 => ⟨S1x4096x512, .f32⟩
  | 11 => ⟨S3x4096x512, .f32⟩
  | 12 => ⟨S3x4096x512, .bf16⟩
  | _ => ⟨S4096x1536, .bf16⟩

abbrev hbmTy (i : Nat) : BufTy := match i / 128 with
  | 0 => hbmTy0_0 i
  | 1 => hbmTy0_1 i
  | 2 => hbmTy0_2 i
  | _ => ⟨S4096x1536, .bf16⟩

abbrev bufTy : (tb : Table) → Fin (tcTables nBuf tb) → BufTy
  | .hbm, ⟨i, _⟩ => hbmTy i
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_c_2 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_c_3 : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_c_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_call2_v0 : Ref sig .tc := ⟨.hbm, 69, rfl⟩
abbrev main_v48_1 : Ref sig .tc := ⟨.hbm, 70, rfl⟩
abbrev main_call2_v2 : Ref sig .tc := ⟨.hbm, 71, rfl⟩
abbrev main_v48_0 : Ref sig .tc := ⟨.hbm, 72, rfl⟩
abbrev main_call2_cst : Ref sig .tc := ⟨.hbm, 73, rfl⟩
abbrev main_v48_2 : Ref sig .tc := ⟨.hbm, 74, rfl⟩
abbrev main_cst_12 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_15 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_17 : Ref sig .tc := ⟨.hbm, 108, rfl⟩
abbrev main_v77 : Ref sig .tc := ⟨.hbm, 109, rfl⟩
abbrev main_cst_18 : Ref sig .tc := ⟨.hbm, 110, rfl⟩
abbrev main_v78 : Ref sig .tc := ⟨.hbm, 111, rfl⟩
abbrev main_v79 : Ref sig .tc := ⟨.hbm, 112, rfl⟩
abbrev main_cst_19 : Ref sig .tc := ⟨.hbm, 113, rfl⟩
abbrev main_v80 : Ref sig .tc := ⟨.hbm, 114, rfl⟩
abbrev main_v81 : Ref sig .tc := ⟨.hbm, 115, rfl⟩
abbrev main_cst_20 : Ref sig .tc := ⟨.hbm, 116, rfl⟩
abbrev main_v82 : Ref sig .tc := ⟨.hbm, 117, rfl⟩
abbrev main_v83 : Ref sig .tc := ⟨.hbm, 118, rfl⟩
abbrev main_cst_21 : Ref sig .tc := ⟨.hbm, 119, rfl⟩
abbrev main_v84 : Ref sig .tc := ⟨.hbm, 120, rfl⟩
abbrev main_cst_22 : Ref sig .tc := ⟨.hbm, 121, rfl⟩
abbrev main_v85 : Ref sig .tc := ⟨.hbm, 122, rfl⟩
abbrev main_cst_23 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_24 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_25 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_26 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_27 : Ref sig .tc := ⟨.hbm, 154, rfl⟩
abbrev main_v113 : Ref sig .tc := ⟨.hbm, 155, rfl⟩
abbrev main_v114 : Ref sig .tc := ⟨.hbm, 156, rfl⟩
abbrev main_cst_28 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_29 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_30 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_31 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_cst_32 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_cst_33 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_cst_34 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_call3_cst : Ref sig .tc := ⟨.hbm, 206, rfl⟩
abbrev main_call3_v0 : Ref sig .tc := ⟨.hbm, 207, rfl⟩
abbrev main_v157 : Ref sig .tc := ⟨.hbm, 208, rfl⟩
abbrev main_cst_35 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩

abbrev nD : Nat := 1
abbrev τ : Topo := Topo.v7x

variable {F : FTy → Type} [FloatOps F]
-- ==== Up.lean ====
abbrev S4096x1024 : Shape := ⟨2, ![4096, 1024]⟩
abbrev S1024x2816 : Shape := ⟨2, ![1024, 2816]⟩
abbrev S4096x2816 : Shape := ⟨2, ![4096, 2816]⟩
abbrev S512x1024 : Shape := ⟨2, ![512, 1024]⟩
abbrev S512x2816 : Shape := ⟨2, ![512, 2816]⟩
abbrev S1024x256 : Shape := ⟨2, ![1024, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x2816, .bf16⟩
  | .local _ .vmem, ⟨3, _⟩ => ⟨S512x2816, .bf16⟩
  | .local _ .vmem, ⟨4, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_mult1 : BitVec 32 :=
  let c0_i32 : BitVec 32 := 0#32
  let c512_i32 : BitVec 32 := 512#32
  let v0 : BitVec 32 := Scalar.muli c0_i32 c512_i32
  v0
def k0_off1 : Fin 2 → Nat :=
  let c0_i32 : BitVec 32 := 0#32
  let c512_i32 : BitVec 32 := 512#32
  let v0 : BitVec 32 := Scalar.muli c0_i32 c512_i32
  let v1 : BitVec 32 := v0
  let v2 : Index := Scalar.indexCast v1
  let c0 : Index := 0#32
  ![v2.toNat, 0]
def k0_off2 : Fin 2 → Nat :=
  let c0_i32 : BitVec 32 := 0#32
  let c512_i32 : BitVec 32 := 512#32
  let v0 : BitVec 32 := Scalar.muli c0_i32 c512_i32
  let v1 : BitVec 32 := v0
  let v7 : Index := Scalar.indexCast v1
  let c0_2 : Index := 0#32
  ![v7.toNat, 0]
def k0_off3 : Fin 2 → Nat :=
  let c0_i32 : BitVec 32 := 0#32
  let c512_i32 : BitVec 32 := 512#32
  let v0 : BitVec 32 := Scalar.muli c0_i32 c512_i32
  let v1 : BitVec 32 := v0
  let v12 : Index := Scalar.indexCast v1
  let c256_5 : Index := 256#32
  ![v12.toNat, 256]
def k0_off4 : Fin 2 → Nat :=
  let c0_i32 : BitVec 32 := 0#32
  let c512_i32 : BitVec 32 := 512#32
  let v0 : BitVec 32 := Scalar.muli c0_i32 c512_i32
  let v1 : BitVec 32 := v0
  let v17 : Index := Scalar.indexCast v1
  let c512_8 : Index := 512#32
  ![v17.toNat, 512]
def k0_off5 : Fin 2 → Nat :=
  let c0_i32 : BitVec 32 := 0#32
  let c512_i32 : BitVec 32 := 512#32
  let v0 : BitVec 32 := Scalar.muli c0_i32 c512_i32
  let v1 : BitVec 32 := v0
  let v22 : Index := Scalar.indexCast v1
  let c768_11 : Index := 768#32
  ![v22.toNat, 768]
def k0_off6 : Fin 2 → Nat :=
  let c0_i32 : BitVec 32 := 0#32
  let c512_i32 : BitVec 32 := 512#32
  let v0 : BitVec 32 := Scalar.muli c0_i32 c512_i32
  let v1 : BitVec 32 := v0
  let v27 : Index := Scalar.indexCast v1
  let c1024_14 : Index := 1024#32
  ![v27.toNat, 1024]
def k0_off7 : Fin 2 → Nat :=
  let c0_i32 : BitVec 32 := 0#32
  let c512_i32 : BitVec 32 := 512#32
  let v0 : BitVec 32 := Scalar.muli c0_i32 c512_i32
  let v1 : BitVec 32 := v0
  let v32 : Index := Scalar.indexCast v1
  let c1280_17 : Index := 1280#32
  ![v32.toNat, 1280]
def k0_off8 : Fin 2 → Nat :=
  let c0_i32 : BitVec 32 := 0#32
  let c512_i32 : BitVec 32 := 512#32
  let v0 : BitVec 32 := Scalar.muli c0_i32 c512_i32
  let v1 : BitVec 32 := v0
  let v37 : Index := Scalar.indexCast v1
  let c1536_20 : Index := 1536#32
  ![v37.toNat, 1536]
def k0_off9 : Fin 2 → Nat :=
  let c0_i32 : BitVec 32 := 0#32
  let c512_i32 : BitVec 32 := 512#32
  let v0 : BitVec 32 := Scalar.muli c0_i32 c512_i32
  let v1 : BitVec 32 := v0
  let v42 : Index := Scalar.indexCast v1
  let c1792_23 : Index := 1792#32
  ![v42.toNat, 1792]
def k0_off10 : Fin 2 → Nat :=
  let c0_i32 : BitVec 32 := 0#32
  let c512_i32 : BitVec 32 := 512#32
  let v0 : BitVec 32 := Scalar.muli c0_i32 c512_i32
  let v1 : BitVec 32 := v0
  let v47 : Index := Scalar.indexCast v1
  let c2048_26 : Index := 2048#32
  ![v47.toNat, 2048]
def k0_off11 : Fin 2 → Nat :=
  let c0_i32 : BitVec 32 := 0#32
  let c512_i32 : BitVec 32 := 512#32
  let v0 : BitVec 32 := Scalar.muli c0_i32 c512_i32
  let v1 : BitVec 32 := v0
  let v52 : Index := Scalar.indexCast v1
  let c2304_29 : Index := 2304#32
  ![v52.toNat, 2304]
def k0_off12 : Fin 2 → Nat :=
  let c0_i32 : BitVec 32 := 0#32
  let c512_i32 : BitVec 32 := 512#32
  let v0 : BitVec 32 := Scalar.muli c0_i32 c512_i32
  let v1 : BitVec 32 := v0
  let v57 : Index := Scalar.indexCast v1
  let c2560_32 : Index := 2560#32
  ![v57.toNat, 2560]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpRefIdeal.lean ====
abbrev S4096x1024 : Shape := ⟨2, ![4096, 1024]⟩
abbrev S1024x2816 : Shape := ⟨2, ![1024, 2816]⟩
abbrev S4096x2816 : Shape := ⟨2, ![4096, 2816]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S4096x1024, .f32⟩
  | .hbm, ⟨3, _⟩ => ⟨S1024x2816, .f32⟩
  | .hbm, ⟨4, _⟩ => ⟨S4096x2816, .f32⟩
  | .hbm, ⟨5, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def k0_mult1 : BitVec 32 :=
  let c0_i32 : BitVec 32 := 0#32
  let c512_i32 : BitVec 32 := 512#32
  let v0 : BitVec 32 := Scalar.muli c0_i32 c512_i32
  v0
def k0_off1 : Fin 2 → Nat :=
  let c0_i32 : BitVec 32 := 0#32
  let c512_i32 : BitVec 32 := 512#32
  let v0 : BitVec 32 := Scalar.muli c0_i32 c512_i32
  let v1 : BitVec 32 := v0
  let v2 : Index := Scalar.indexCast v1
  let c0 : Index := 0#32
  ![v2.toNat, 0]
def k0_off2 : Fin 2 → Nat :=
  let c0_i32 : BitVec 32 := 0#32
  let c512_i32 : BitVec 32 := 512#32
  let v0 : BitVec 32 := Scalar.muli c0_i32 c512_i32
  let v1 : BitVec 32 := v0
  let v6 : Index := Scalar.indexCast v1
  let c0_2 : Index := 0#32
  ![v6.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dact.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_mult1 : BitVec 32 :=
  let c0_i32 : BitVec 32 := 0#32
  let c512_i32 : BitVec 32 := 512#32
  let v0 : BitVec 32 := Scalar.muli c0_i32 c512_i32
  v0
def k0_off1 : Fin 2 → Nat :=
  let c0_i32 : BitVec 32 := 0#32
  let c512_i32 : BitVec 32 := 512#32
  let v0 : BitVec 32 := Scalar.muli c0_i32 c512_i32
  let v1 : BitVec 32 := v0
  let v2 : Index := Scalar.indexCast v1
  let c0 : Index := 0#32
  ![v2.toNat, 0]
def k0_off2 : Fin 2 → Nat :=
  let c0_i32 : BitVec 32 := 0#32
  let c512_i32 : BitVec 32 := 512#32
  let v0 : BitVec 32 := Scalar.muli c0_i32 c512_i32
  let v1 : BitVec 32 := v0
  let v7 : Index := Scalar.indexCast v1
  let c0_2 : Index := 0#32
  ![v7.toNat, 0]
def k0_off3 : Fin 2 → Nat :=
  let c0_i32 : BitVec 32 := 0#32
  let c512_i32 : BitVec 32 := 512#32
  let v0 : BitVec 32 := Scalar.muli c0_i32 c512_i32
  let v1 : BitVec 32 := v0
  let v12 : Index := Scalar.indexCast v1
  let c256_5 : Index := 256#32
  ![v12.toNat, 256]
def k0_off4 : Fin 2 → Nat :=
  let c0_i32 : BitVec 32 := 0#32
  let c512_i32 : BitVec 32 := 512#32
  let v0 : BitVec 32 := Scalar.muli c0_i32 c512_i32
  let v1 : BitVec 32 := v0
  let v17 : Index := Scalar.indexCast v1
  let c512_8 : Index := 512#32
  ![v17.toNat, 512]
def k0_off5 : Fin 2 → Nat :=
  let c0_i32 : BitVec 32 := 0#32
  let c512_i32 : BitVec 32 := 512#32
  let v0 : BitVec 32 := Scalar.muli c0_i32 c512_i32
  let v1 : BitVec 32 := v0
  let v22 : Index := Scalar.indexCast v1
  let c768_11 : Index := 768#32
  ![v22.toNat, 768]
def k0_off6 : Fin 2 → Nat :=
  let c0_i32 : BitVec 32 := 0#32
  let c512_i32 : BitVec 32 := 512#32
  let v0 : BitVec 32 := Scalar.muli c0_i32 c512_i32
  let v1 : BitVec 32 := v0
  let v27 : Index := Scalar.indexCast v1
  let c1024_14 : Index := 1024#32
  ![v27.toNat, 1024]
def k0_off7 : Fin 2 → Nat :=
  let c0_i32 : BitVec 32 := 0#32
  let c512_i32 : BitVec 32 := 512#32
  let v0 : BitVec 32 := Scalar.muli c0_i32 c512_i32
  let v1 : BitVec 32 := v0
  let v32 : Index := Scalar.indexCast v1
  let c1280_17 : Index := 1280#32
  ![v32.toNat, 1280]
def k0_off8 : Fin 2 → Nat :=
  let c0_i32 : BitVec 32 := 0#32
  let c512_i32 : BitVec 32 := 512#32
  let v0 : BitVec 32 := Scalar.muli c0_i32 c512_i32
  let v1 : BitVec 32 := v0
  let v37 : Index := Scalar.indexCast v1
  let c1536_20 : Index := 1536#32
  ![v37.toNat, 1536]
def k0_off9 : Fin 2 → Nat :=
  let c0_i32 : BitVec 32 := 0#32
  let c512_i32 : BitVec 32 := 512#32
  let v0 : BitVec 32 := Scalar.muli c0_i32 c512_i32
  let v1 : BitVec 32 := v0
  let v42 : Index := Scalar.indexCast v1
  let c1792_23 : Index := 1792#32
  ![v42.toNat, 1792]
def k0_off10 : Fin 2 → Nat :=
  let c0_i32 : BitVec 32 := 0#32
  let c512_i32 : BitVec 32 := 512#32
  let v0 : BitVec 32 := Scalar.muli c0_i32 c512_i32
  let v1 : BitVec 32 := v0
  let v47 : Index := Scalar.indexCast v1
  let c2048_26 : Index := 2048#32
  ![v47.toNat, 2048]
def k0_off11 : Fin 2 → Nat :=
  let c0_i32 : BitVec 32 := 0#32
  let c512_i32 : BitVec 32 := 512#32
  let v0 : BitVec 32 := Scalar.muli c0_i32 c512_i32
  let v1 : BitVec 32 := v0
  let v52 : Index := Scalar.indexCast v1
  let c2304_29 : Index := 2304#32
  ![v52.toNat, 2304]
def k0_off12 : Fin 2 → Nat :=
  let c0_i32 : BitVec 32 := 0#32
  let c512_i32 : BitVec 32 := 512#32
  let v0 : BitVec 32 := Scalar.muli c0_i32 c512_i32
  let v1 : BitVec 32 := v0
  let v57 : Index := Scalar.indexCast v1
  let c2560_32 : Index := 2560#32
  ![v57.toNat, 2560]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DactRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .f32⟩
  | .hbm, ⟨3, _⟩ => ⟨S_, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proj.lean ====
abbrev S4096x1024 : Shape := ⟨2, ![4096, 1024]⟩
abbrev S1024x3072 : Shape := ⟨2, ![1024, 3072]⟩
abbrev S4096x3072 : Shape := ⟨2, ![4096, 3072]⟩
abbrev S512x1024 : Shape := ⟨2, ![512, 1024]⟩
abbrev S512x3072 : Shape := ⟨2, ![512, 3072]⟩
abbrev S1024x512 : Shape := ⟨2, ![1024, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_mult1 : BitVec 32 :=
  let c0_i32 : BitVec 32 := 0#32
  let c512_i32 : BitVec 32 := 512#32
  let v0 : BitVec 32 := Scalar.muli c0_i32 c512_i32
  v0
def k0_off1 : Fin 2 → Nat :=
  let c0_i32 : BitVec 32 := 0#32
  let c512_i32 : BitVec 32 := 512#32
  let v0 : BitVec 32 := Scalar.muli c0_i32 c512_i32
  let v1 : BitVec 32 := v0
  let v2 : Index := Scalar.indexCast v1
  let c0 : Index := 0#32
  ![v2.toNat, 0]
def k0_off2 : Fin 2 → Nat :=
  let c0_i32 : BitVec 32 := 0#32
  let c512_i32 : BitVec 32 := 512#32
  let v0 : BitVec 32 := Scalar.muli c0_i32 c512_i32
  let v1 : BitVec 32 := v0
  let v7 : Index := Scalar.indexCast v1
  let c0_2 : Index := 0#32
  ![v7.toNat, 0]
def k0_off3 : Fin 2 → Nat :=
  let c0_i32 : BitVec 32 := 0#32
  let c512_i32 : BitVec 32 := 512#32
  let v0 : BitVec 32 := Scalar.muli c0_i32 c512_i32
  let v1 : BitVec 32 := v0
  let v12 : Index := Scalar.indexCast v1
  let c512_5 : Index := 512#32
  ![v12.toNat, 512]
def k0_off4 : Fin 2 → Nat :=
  let c0_i32 : BitVec 32 := 0#32
  let c512_i32 : BitVec 32 := 512#32
  let v0 : BitVec 32 := Scalar.muli c0_i32 c512_i32
  let v1 : BitVec 32 := v0
  let v17 : Index := Scalar.indexCast v1
  let c1024_8 : Index := 1024#32
  ![v17.toNat, 1024]
def k0_off5 : Fin 2 → Nat :=
  let c0_i32 : BitVec 32 := 0#32
  let c512_i32 : BitVec 32 := 512#32
  let v0 : BitVec 32 := Scalar.muli c0_i32 c512_i32
  let v1 : BitVec 32 := v0
  let v22 : Index := Scalar.indexCast v1
  let c1536_11 : Index := 1536#32
  ![v22.toNat, 1536]
def k0_off6 : Fin 2 → Nat :=
  let c0_i32 : BitVec 32 := 0#32
  let c512_i32 : BitVec 32 := 512#32
  let v0 : BitVec 32 := Scalar.muli c0_i32 c512_i32
  let v1 : BitVec 32 := v0
  let v27 : Index := Scalar.indexCast v1
  let c2048_14 : Index := 2048#32
  ![v27.toNat, 2048]
def k0_off7 : Fin 2 → Nat :=
  let c0_i32 : BitVec 32 := 0#32
  let c512_i32 : BitVec 32 := 512#32
  let v0 : BitVec 32 := Scalar.muli c0_i32 c512_i32
  let v1 : BitVec 32 := v0
  let v32 : Index := Scalar.indexCast v1
  let c2560_17 : Index := 2560#32
  ![v32.toNat, 2560]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | .hbm, ⟨5, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Query.lean ====
abbrev S4096x1024 : Shape := ⟨2, ![4096, 1024]⟩
abbrev S1024x1536 : Shape := ⟨2, ![1024, 1536]⟩
abbrev S4096x1536 : Shape := ⟨2, ![4096, 1536]⟩
abbrev S512x1024 : Shape := ⟨2, ![512, 1024]⟩
abbrev S512x1536 : Shape := ⟨2, ![512, 1536]⟩
abbrev S1024x512 : Shape := ⟨2, ![1024, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1536, .bf16⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S512x1536, .bf16⟩
  | .local _ .vmem, ⟨4, _⟩ => ⟨S512x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_mult1 : BitVec 32 :=
  let c0_i32 : BitVec 32 := 0#32
  let c512_i32 : BitVec 32 := 512#32
  let v0 : BitVec 32 := Scalar.muli c0_i32 c512_i32
  v0
def k0_off1 : Fin 2 → Nat :=
  let c0_i32 : BitVec 32 := 0#32
  let c512_i32 : BitVec 32 := 512#32
  let v0 : BitVec 32 := Scalar.muli c0_i32 c512_i32
  let v1 : BitVec 32 := v0
  let v2 : Index := Scalar.indexCast v1
  let c0 : Index := 0#32
  ![v2.toNat, 0]
def k0_off2 : Fin 2 → Nat :=
  let c0_i32 : BitVec 32 := 0#32
  let c512_i32 : BitVec 32 := 512#32
  let v0 : BitVec 32 := Scalar.muli c0_i32 c512_i32
  let v1 : BitVec 32 := v0
  let v7 : Index := Scalar.indexCast v1
  let c0_2 : Index := 0#32
  ![v7.toNat, 0]
def k0_off3 : Fin 2 → Nat :=
  let c0_i32 : BitVec 32 := 0#32
  let c512_i32 : BitVec 32 := 512#32
  let v0 : BitVec 32 := Scalar.muli c0_i32 c512_i32
  let v1 : BitVec 32 := v0
  let v12 : Index := Scalar.indexCast v1
  let c512_5 : Index := 512#32
  ![v12.toNat, 512]
def k0_off4 : Fin 2 → Nat :=
  let c0_i32 : BitVec 32 := 0#32
  let c512_i32 : BitVec 32 := 512#32
  let v0 : BitVec 32 := Scalar.muli c0_i32 c512_i32
  let v1 : BitVec 32 := v0
  let v17 : Index := Scalar.indexCast v1
  let c1024_8 : Index := 1024#32
  ![v17.toNat, 1024]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueryRefIdeal.lean ====
abbrev S4096x1024 : Shape := ⟨2, ![4096, 1024]⟩
abbrev S1024x1536 : Shape := ⟨2, ![1024, 1536]⟩
abbrev S4096x1536 : Shape := ⟨2, ![4096, 1536]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1024, .f32⟩
  | .hbm, ⟨3, _⟩ => ⟨S1024x1536, .f32⟩
  | .hbm, ⟨4, _⟩ => ⟨S4096x1536, .f32⟩
  | .hbm, ⟨5, _⟩ => ⟨S4096x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Aout.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def k0_mult1 : BitVec 32 :=
  let c0_i32 : BitVec 32 := 0#32
  let c512_i32 : BitVec 32 := 512#32
  let v0 : BitVec 32 := Scalar.muli c0_i32 c512_i32
  v0
def k0_off1 : Fin 2 → Nat :=
  let c0_i32 : BitVec 32 := 0#32
  let c512_i32 : BitVec 32 := 512#32
  let v0 : BitVec 32 := Scalar.muli c0_i32 c512_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AoutRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== WgradKv.lean ====
abbrev S4096x1024 : Shape := ⟨2, ![4096, 1024]⟩
abbrev S4096x3072 : Shape := ⟨2, ![4096, 3072]⟩
abbrev S1024x3072 : Shape := ⟨2, ![1024, 3072]⟩
abbrev S512x1024 : Shape := ⟨2, ![512, 1024]⟩
abbrev S512x3072 : Shape := ⟨2, ![512, 3072]⟩
abbrev S256x3072 : Shape := ⟨2, ![256, 3072]⟩
abbrev S512x256 : Shape := ⟨2, ![512, 256]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .bf16⟩
  | .local _ .vmem, ⟨0, _⟩ => ⟨S512x1024, .bf16⟩
  | .local _ .vmem, ⟨1, _⟩ => ⟨S512x1024, .bf16⟩
  | .local _ .vmem, ⟨2, _⟩ => ⟨S512x3072, .bf16⟩
  | .local _ .vmem, ⟨3, _⟩ => ⟨S512x3072, .bf16⟩
  | .local _ .vmem, ⟨4, _⟩ => ⟨S1024x3072, .bf16⟩
  | .local _ .vmem, ⟨5, _⟩ => ⟨S1024x3072, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg5 : BitVec 32 := Scf.iv c0_i32_1 c1_i32 k0_t1
  let c256_i32 : BitVec 32 := 256#32
  let v7 : BitVec 32 := Scalar.muli arg5 c256_i32
  v7
def k0_off1 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c256_i32 : BitVec 32 := 256#32
  let v7 : BitVec 32 := Scalar.muli arg5 c256_i32
  let v8 : BitVec 32 := v7
  let v9 : Index := Scalar.indexCast v8
  let c0 : Index := 0#32
  ![v9.toNat, 0]
def k0_off2 (k0_t1 : Fin k0_t1_loop.trips) : Fin 2 → Nat :=
  let c0_4 : Index := 0#32
  let c0_i32_1 : BitVec 32 := 0#32
  let c1_i32 : BitVec 32 := 1#32
  let arg5 : BitVec 32 := Scf.iv c0_i32_1 c1_i32 k0_t1
  let c256_i32 : BitVec 32 := 256#32
  let v7 : BitVec 32 := Scalar.muli arg5 c256_i32
  let v8 : BitVec 32 := v7
  let v11 : Index := Scalar.indexCast v8
  ![0, v11.toNat]
def k0_cond2 (i : grid0.Coords) : BitVec 1 :=
  let arg0 : BitVec 32 := BitVec.ofNat 32 (i 0).val
  let c7_i32 : BitVec 32 := 7#32
  let v4 : BitVec 1 := Scalar.cmpi .eq arg0 c7_i32
  let v5 : BitVec 32 := Scalar.extui v4
  let c0_i32_3 : BitVec 32 := 0#32
  let v6 : BitVec 1 := Scalar.cmpi .ne v5 c0_i32_3
  v6

@[reducible] def k0_t2_loop : Scf.Loop 32 :=
  let c0_i32_4 : BitVec 32 := 0#32
  let c4_i32_5 : BitVec 32 := 4#32
  let v7 : BitVec 32 := Scalar.addi c0_i32_4 c4_i32_5
  let c1_i32_6 : BitVec 32 := 1#32
  ⟨c0_i32_4, v7, c1_i32_6⟩
def k0_mult2 (k0_t2 : Fin k0_t2_loop.trips) : BitVec 32 :=
  let c0_i32_4 : BitVec 32 := 0#32
  let c1_i32_6 : BitVec 32 := 1#32
  let arg5 : BitVec 32 := Scf.iv c0_i32_4 c1_i32_6 k0_t2
  let c256_i32 : BitVec 32 := 256#32
  let v8 : BitVec 32 := Scalar.muli arg5 c256_i32
  v8
def k0_off3 (k0_t2 : Fin k0_t2_loop.trips) : Fin 2 → Nat :=
  let c0_i32_4 : BitVec 32 := 0#32
  let c1_i32_6 : BitVec 32 := 1#32
  let arg5 : BitVec 32 := Scf.iv c0_i32_4 c1_i32_6 k0_t2
  let c256_i32 : BitVec 32 := 256#32
  let v8 : BitVec 32 := Scalar.muli arg5 c256_i32
  let v9 : BitVec 32 := v8
  let v10 : Index := Scalar.indexCast v9
  let c0 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== WgradKvRefIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WgradIn.lean ====
abbrev S4096x1024 : Shape := ⟨2, ![4096, 1024]⟩
abbrev S4096x3200 : Shape := ⟨2, ![4096, 3200]⟩
abbrev S1024x3200 : Shape := ⟨2, ![1024, 3200]⟩
abbrev S512x1024 : Shape := ⟨2, ![512, 1024]⟩
abbrev S512x3200 : Shape := ⟨2, ![512, 3200]⟩
abbrev S256x3200 : Shape := ⟨2, ![256, 3200]⟩
abbrev S512x256 : Shape := ⟨2, ![512, 256]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3200, .bf16⟩
  | .hbm, ⟨2, _⟩ => ⟨S1024x3200, .bf16⟩
  | .local _ .vmem, ⟨0, _⟩ => ⟨S512x1024, .bf16⟩
  | .local _ .vmem, ⟨1, _⟩ => ⟨S512x1024, .bf16⟩
  | .local _ .vmem, ⟨2, _⟩ => ⟨S512x3200, .bf16⟩
  | .local _ .vmem, ⟨3, _⟩ => ⟨S512x3200, .bf16⟩
  | .local _ .vmem, ⟨4, _⟩ => ⟨S1024x3200, .bf16⟩
  | .local _ .vmem, ⟨5, _⟩ => ⟨S1024x3200, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg5 : BitVec 32 := Scf.iv c0_i32_1 c1_i32 k0_t1
  let c256_i32 : BitVec 32 := 256#32
  let v7 : BitVec 32 := Scalar.muli arg5 c256_i32
  v7
def k0_off1 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c256_i32 : BitVec 32 := 256#32
  let v7 : BitVec 32 := Scalar.muli arg5 c256_i32
  let v8 : BitVec 32 := v7
  let v9 : Index := Scalar.indexCast v8
  let c0 : Index := 0#32
  ![v9.toNat, 0]
def k0_off2 (k0_t1 : Fin k0_t1_loop.trips) : Fin 2 → Nat :=
  let c0_4 : Index := 0#32
  let c0_i32_1 : BitVec 32 := 0#32
  let c1_i32 : BitVec 32 := 1#32
  let arg5 : BitVec 32 := Scf.iv c0_i32_1 c1_i32 k0_t1
  let c256_i32 : BitVec 32 := 256#32
  let v7 : BitVec 32 := Scalar.muli arg5 c256_i32
  let v8 : BitVec 32 := v7
  let v11 : Index := Scalar.indexCast v8
  ![0, v11.toNat]
def k0_cond2 (i : grid0.Coords) : BitVec 1 :=
  let arg0 : BitVec 32 := BitVec.ofNat 32 (i 0).val
  let c7_i32 : BitVec 32 := 7#32
  let v4 : BitVec 1 := Scalar.cmpi .eq arg0 c7_i32
  let v5 : BitVec 32 := Scalar.extui v4
  let c0_i32_3 : BitVec 32 := 0#32
  let v6 : BitVec 1 := Scalar.cmpi .ne v5 c0_i32_3
  v6

@[reducible] def k0_t2_loop : Scf.Loop 32 :=
  let c0_i32_4 : BitVec 32 := 0#32
  let c4_i32_5 : BitVec 32 := 4#32
  let v7 : BitVec 32 := Scalar.addi c0_i32_4 c4_i32_5
  let c1_i32_6 : BitVec 32 := 1#32
  ⟨c0_i32_4, v7, c1_i32_6⟩
def k0_mult2 (k0_t2 : Fin k0_t2_loop.trips) : BitVec 32 :=
  let c0_i32_4 : BitVec 32 := 0#32
  let c1_i32_6 : BitVec 32 := 1#32
  let arg5 : BitVec 32 := Scf.iv c0_i32_4 c1_i32_6 k0_t2
  let c256_i32 : BitVec 32 := 256#32
  let v8 : BitVec 32 := Scalar.muli arg5 c256_i32
  v8
def k0_off3 (k0_t2 : Fin k0_t2_loop.trips) : Fin 2 → Nat :=
  let c0_i32_4 : BitVec 32 := 0#32
  let c1_i32_6 : BitVec 32 := 1#32
  let arg5 : BitVec 32 := Scf.iv c0_i32_4 c1_i32_6 k0_t2
  let c256_i32 : BitVec 32 := 256#32
  let v8 : BitVec 32 := Scalar.muli arg5 c256_i32
  let v9 : BitVec 32 := v8
  let v10 : Index := Scalar.indexCast v9
  let c0 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== WgradInRefIdeal.lean ====
abbrev S4096x1024 : Shape := ⟨2, ![4096, 1024]⟩
abbrev S4096x3200 : Shape := ⟨2, ![4096, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3200, .bf16⟩
  | .hbm, ⟨2, _⟩ => ⟨S_, .f32⟩
  | .hbm, ⟨3, _⟩ => ⟨S1024x3200, .f32⟩
  | .hbm, ⟨4, _⟩ => ⟨S4096x1024, .f32⟩
  | .hbm, ⟨5, _⟩ => ⟨S4096x3200, .f32⟩
  | .hbm, ⟨6, _⟩ => ⟨S4096x3200, .f32⟩
  | .hbm, ⟨7, _⟩ => ⟨S3200x1024, .f32⟩
  | .hbm, ⟨8, _⟩ => ⟨S1024x3200, .f32⟩
  | .hbm, ⟨9, _⟩ => ⟨S1024x3200, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WgradQ.lean ====
abbrev S4096x1024 : Shape := ⟨2, ![4096, 1024]⟩
abbrev S4096x1536 : Shape := ⟨2, ![4096, 1536]⟩
abbrev S1024x1536 : Shape := ⟨2, ![1024, 1536]⟩
abbrev S512x1024 : Shape := ⟨2, ![512, 1024]⟩
abbrev S512x1536 : Shape := ⟨2, ![512, 1536]⟩
abbrev S256x1536 : Shape := ⟨2, ![256, 1536]⟩
abbrev S512x256 : Shape := ⟨2, ![512, 256]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S1024x1536, .bf16⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S1024x1536, .bf16⟩
  | .local _ .vmem, ⟨5, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg5 : BitVec 32 := Scf.iv c0_i32_1 c1_i32 k0_t1
  let c256_i32 : BitVec 32 := 256#32
  let v7 : BitVec 32 := Scalar.muli arg5 c256_i32
  v7
def k0_off1 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c256_i32 : BitVec 32 := 256#32
  let v7 : BitVec 32 := Scalar.muli arg5 c256_i32
  let v8 : BitVec 32 := v7
  let v9 : Index := Scalar.indexCast v8
  let c0 : Index := 0#32
  ![v9.toNat, 0]
def k0_off2 (k0_t1 : Fin k0_t1_loop.trips) : Fin 2 → Nat :=
  let c0_4 : Index := 0#32
  let c0_i32_1 : BitVec 32 := 0#32
  let c1_i32 : BitVec 32 := 1#32
  let arg5 : BitVec 32 := Scf.iv c0_i32_1 c1_i32 k0_t1
  let c256_i32 : BitVec 32 := 256#32
  let v7 : BitVec 32 := Scalar.muli arg5 c256_i32
  let v8 : BitVec 32 := v7
  let v11 : Index := Scalar.indexCast v8
  ![0, v11.toNat]
def k0_cond2 (i : grid0.Coords) : BitVec 1 :=
  let arg0 : BitVec 32 := BitVec.ofNat 32 (i 0).val
  let c7_i32 : BitVec 32 := 7#32
  let v4 : BitVec 1 := Scalar.cmpi .eq arg0 c7_i32
  let v5 : BitVec 32 := Scalar.extui v4
  let c0_i32_3 : BitVec 32 := 0#32
  let v6 : BitVec 1 := Scalar.cmpi .ne v5 c0_i32_3
  v6

@[reducible] def k0_t2_loop : Scf.Loop 32 :=
  let c0_i32_4 : BitVec 32 := 0#32
  let c4_i32_5 : BitVec 32 := 4#32
  let v7 : BitVec 32 := Scalar.addi c0_i32_4 c4_i32_5
  let c1_i32_6 : BitVec 32 := 1#32
  ⟨c0_i32_4, v7, c1_i32_6⟩
def k0_mult2 (k0_t2 : Fin k0_t2_loop.trips) : BitVec 32 :=
  let c0_i32_4 : BitVec 32 := 0#32
  let c1_i32_6 : BitVec 32 := 1#32
  let arg5 : BitVec 32 := Scf.iv c0_i32_4 c1_i32_6 k0_t2
  let c256_i32 : BitVec 32 := 256#32
  let v8 : BitVec 32 := Scalar.muli arg5 c256_i32
  v8
def k0_off3 (k0_t2 : Fin k0_t2_loop.trips) : Fin 2 → Nat :=
  let c0_i32_4 : BitVec 32 := 0#32
  let c1_i32_6 : BitVec 32 := 1#32
  let arg5 : BitVec 32 := Scf.iv c0_i32_4 c1_i32_6 k0_t2
  let c256_i32 : BitVec 32 := 256#32
  let v8 : BitVec 32 := Scalar.muli arg5 c256_i32
  let v9 : BitVec 32 := v8
  let v10 : Index := Scalar.indexCast v9
  let c0 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== WgradQRefIdeal.lean ====
abbrev S4096x1024 : Shape := ⟨2, ![4096, 1024]⟩
abbrev S4096x1536 : Shape := ⟨2, ![4096, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S_, .f32⟩
  | .hbm, ⟨3, _⟩ => ⟨S1024x1536, .f32⟩
  | .hbm, ⟨4, _⟩ => ⟨S4096x1024, .f32⟩
  | .hbm, ⟨5, _⟩ => ⟨S4096x1536, .f32⟩
  | .hbm, ⟨6, _⟩ => ⟨S4096x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== NormKv.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_19 : BitVec 32 := 0#32
  let v37 : BitVec 1 := Scalar.cmpi .ne v36 c0_i32_19
  v37

def k0_cond2 (i : grid0.Coords) : BitVec 1 :=
  let arg0 : BitVec 32 := BitVec.ofNat 32 (i 0).val
  let c0_i32_20 : BitVec 32 := 0#32
  let v38 : BitVec 1 := Scalar.cmpi .sgt arg0 c0_i32_20
  let v39 : BitVec 32 := Scalar.extui v38
  let c0_i32_21 : BitVec 32 := 0#32
  let v40 : BitVec 1 := Scalar.cmpi .ne v39 c0_i32_21
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormKvRefIdeal.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x3072, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x3072, .f32⟩
  | .hbm, ⟨26, _⟩ => ⟨S4096x3072, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== NormIn.lean ====
abbrev S4096x3200 : Shape := ⟨2, ![4096, 3200]⟩
abbrev S1024x3200 : Shape := ⟨2, ![1024, 3200]⟩
abbrev S4096x1024 : Shape := ⟨2, ![4096, 1024]⟩
abbrev S1x1024 : Shape := ⟨2, ![1, 1024]⟩
abbrev S512x3200 : Shape := ⟨2, ![512, 3200]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x3200, .bf16⟩
  | .hbm, ⟨1, _⟩ => ⟨S1024x3200, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x3200, .bf16⟩
  | .local _ .vmem, ⟨1, _⟩ => ⟨S512x3200, .bf16⟩
  | .local _ .vmem, ⟨2, _⟩ => ⟨S1024x3200, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_19 : BitVec 32 := 0#32
  let v37 : BitVec 1 := Scalar.cmpi .ne v36 c0_i32_19
  v37

def k0_cond2 (i : grid0.Coords) : BitVec 1 :=
  let arg0 : BitVec 32 := BitVec.ofNat 32 (i 0).val
  let c0_i32_20 : BitVec 32 := 0#32
  let v38 : BitVec 1 := Scalar.cmpi .sgt arg0 c0_i32_20
  let v39 : BitVec 32 := Scalar.extui v38
  let c0_i32_21 : BitVec 32 := 0#32
  let v40 : BitVec 1 := Scalar.cmpi .ne v39 c0_i32_21
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormInRefIdeal.lean ====
abbrev S4096x3200 : Shape := ⟨2, ![4096, 3200]⟩
abbrev S1024x3200 : Shape := ⟨2, ![1024, 3200]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x3200, .bf16⟩
  | .hbm, ⟨1, _⟩ => ⟨S1024x3200, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x3200, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x3200, .f32⟩
  | .hbm, ⟨26, _⟩ => ⟨S4096x3200, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== NormQ.lean ====
abbrev S4096x1536 : Shape := ⟨2, ![4096, 1536]⟩
abbrev S1024x1536 : Shape := ⟨2, ![1024, 1536]⟩
abbrev S4096x1024 : Shape := ⟨2, ![4096, 1024]⟩
abbrev S1x1024 : Shape := ⟨2, ![1, 1024]⟩
abbrev S512x1536 : Shape := ⟨2, ![512, 1536]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1024x1536, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_19 : BitVec 32 := 0#32
  let v37 : BitVec 1 := Scalar.cmpi .ne v36 c0_i32_19
  v37

def k0_cond2 (i : grid0.Coords) : BitVec 1 :=
  let arg0 : BitVec 32 := BitVec.ofNat 32 (i 0).val
  let c0_i32_20 : BitVec 32 := 0#32
  let v38 : BitVec 1 := Scalar.cmpi .sgt arg0 c0_i32_20
  let v39 : BitVec 32 := Scalar.extui v38
  let c0_i32_21 : BitVec 32 := 0#32
  let v40 : BitVec 1 := Scalar.cmpi .ne v39 c0_i32_21
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormQRefIdeal.lean ====
abbrev S4096x1536 : Shape := ⟨2, ![4096, 1536]⟩
abbrev S1024x1536 : Shape := ⟨2, ![1024, 1536]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1536, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1536, .f32⟩
  | .hbm, ⟨26, _⟩ => ⟨S4096x1536, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== AdamIn.lean ====
abbrev S1024x386 : Shape := ⟨2, ![1024, 386]⟩
abbrev S8x1024x386 : Shape := ⟨3, ![8, 1024, 386]⟩
abbrev S512x386 : Shape := ⟨2, ![512, 386]⟩
abbrev S8x512x386 : Shape := ⟨3, ![8, 512, 386]⟩
abbrev S1x512x386 : Shape := ⟨3, ![1, 512, 386]⟩

abbrev nBuf : Space → Nat
  | .hbm => 8
  | .vmem => 16
  | .smem => 0
  | _ => 0

abbrev bufTy : (tb : Table) → Fin (tcTables nBuf tb) → BufTy
  | .hbm, ⟨0, _⟩ => ⟨S1024x386, .f32⟩
  | .hbm, ⟨1, _⟩ => ⟨S1024x386, .f32⟩
  | .hbm, ⟨2, _⟩ => ⟨S1024x386, .f32⟩
  | .hbm, ⟨3, _⟩ => ⟨S8x1024x386, .bf16⟩
  | .hbm, ⟨4, _⟩ => ⟨S1024x386, .f32⟩
  | .hbm, ⟨5, _⟩ => ⟨S1024x386, .f32⟩
  | .hbm, ⟨6, _⟩ => ⟨S1024x386, .f32⟩
  | .hbm, ⟨7, _⟩ => ⟨S1024x386, .f32⟩
  | .local _ .vmem, ⟨0, _⟩ => ⟨S512x386, .f32⟩
  | .local _ .vmem, ⟨1, _⟩ => ⟨S512x386, .f32⟩
  | .local _ .vmem, ⟨2, _⟩ => ⟨S512x386, .f32⟩
  | .local _ .vmem, ⟨3, _⟩ => ⟨S512x386, .f32⟩
  | .local _ .vmem, ⟨4, _⟩ => ⟨S512x386, .f32⟩
  | .local _ .vmem, ⟨5, _⟩ => ⟨S512x386, .f32⟩
  | .local _ .vmem, ⟨6, _⟩ => ⟨S8x512x386, .bf16⟩
  | .local _ .vmem, ⟨7, _⟩ => ⟨S8x512x386, .bf16⟩
  | .local _ .vmem, ⟨8, _⟩ => ⟨S512x386, .f32⟩
  | .local _ .vmem, ⟨9, _⟩ => ⟨S512x386, .f32⟩
  | .local _ .vmem, ⟨10, _⟩ => ⟨S512x386, .f32⟩
  | .local _ .vmem, ⟨11, _⟩ => ⟨S512x386, .f32⟩
  | .local _ .vmem, ⟨12, _⟩ => ⟨S512x386, .f32⟩
  | .local _ .vmem, ⟨13, _⟩ => ⟨S512x386, .f32⟩
  | .local _ .vmem, ⟨14, _⟩ => ⟨S512x386, .f32⟩
  | .local _ .vmem, ⟨15, _⟩ => ⟨S512x386, .f32⟩
  | _, _ => ⟨S1024x386, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x386 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x386 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x386 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x386 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x386 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x386 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x386 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x386 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S1024x386 : Shape := ⟨2, ![1024, 386]⟩
abbrev S8x1024x386 : Shape := ⟨3, ![8, 1024, 386]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x386, .f32⟩
  | .hbm, ⟨1, _⟩ => ⟨S1024x386, .f32⟩
  | .hbm, ⟨2, _⟩ => ⟨S1024x386, .f32⟩
  | .hbm, ⟨3, _⟩ => ⟨S8x1024x386, .bf16⟩
  | .hbm, ⟨4, _⟩ => ⟨S8x1024x386, .f32⟩
  | .hbm, ⟨5, _⟩ => ⟨S_, .f32⟩
  | .hbm, ⟨6, _⟩ => ⟨S1024x386, .f32⟩
  | .hbm, ⟨7, _⟩ => ⟨S_, .f32⟩
  | .hbm, ⟨8, _⟩ => ⟨S1024x386, .f32⟩
  | .hbm, ⟨9, _⟩ => ⟨S1024x386, .f32⟩
  | .hbm, ⟨10, _⟩ => ⟨S_, .f32⟩
  | .hbm, ⟨11, _⟩ => ⟨S1024x386, .f32⟩
  | .hbm, ⟨12, _⟩ => ⟨S1024x386, .f32⟩
  | .hbm, ⟨13, _⟩ => ⟨S1024x386, .f32⟩
  | .hbm, ⟨14, _⟩ => ⟨S_, .f32⟩
  | .hbm, ⟨15, _⟩ => ⟨S1024x386, .f32⟩
  | .hbm, ⟨16, _⟩ => ⟨S1024x386, .f32⟩
  | .hbm, ⟨17, _⟩ => ⟨S1024x386, .f32⟩
  | .hbm, ⟨18, _⟩ => ⟨S_, .f32⟩
  | .hbm, ⟨19, _⟩ => ⟨S1024x386, .f32⟩
  | .hbm, ⟨20, _⟩ => ⟨S1024x386, .f32⟩
  | .hbm, ⟨21, _⟩ => ⟨S1024x386, .f32⟩
  | .hbm, ⟨22, _⟩ => ⟨S_, .f32⟩
  | .hbm, ⟨23, _⟩ => ⟨S1024x386, .f32⟩
  | .hbm, ⟨24, _⟩ => ⟨S1024x386, .f32⟩
  | .hbm, ⟨25, _⟩ => ⟨S_, .f32⟩
  | .hbm, ⟨26, _⟩ => ⟨S1024x386, .f32⟩
  | .hbm, ⟨27, _⟩ => ⟨S1024x386, .f32⟩
  | .hbm, ⟨28, _⟩ => ⟨S1024x386, .f32⟩
  | .hbm, ⟨29, _⟩ => ⟨S_, .f32⟩
  | .hbm, ⟨30, _⟩ => ⟨S1024x386, .f32⟩
  | .hbm, ⟨31, _⟩ => ⟨S1024x386, .f32⟩
  | .hbm, ⟨32, _⟩ => ⟨S1024x386, .f32⟩
  | .hbm, ⟨33, _⟩ => ⟨S_, .f32⟩
  | .hbm, ⟨34, _⟩ => ⟨S1024x386, .f32⟩
  | .hbm, ⟨35, _⟩ => ⟨S1024x386, .f32⟩
  | .hbm, ⟨36, _⟩ => ⟨S1024x386, .f32⟩
  | .hbm, ⟨37, _⟩ => ⟨S_, .f32⟩
  | .hbm, ⟨38, _⟩ => ⟨S1024x386, .f32⟩
  | .hbm, ⟨39, _⟩ => ⟨S1024x386, .f32⟩
  | _, _ => ⟨S1024x386, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S128x1024 : Shape := ⟨2, ![128, 1024]⟩
abbrev S8x128x1024 : Shape := ⟨3, ![8, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamQuery.lean ====
abbrev S1024x192 : Shape := ⟨2, ![1024, 192]⟩
abbrev S8x1024x192 : Shape := ⟨3, ![8, 1024, 192]⟩
abbrev S1x1024x192 : Shape := ⟨3, ![1, 1024, 192]⟩

abbrev nBuf : Space → Nat
  | .hbm => 8
  | .vmem => 8
  | .smem => 0
  | _ => 0

abbrev bufTy : (tb : Table) → Fin (tcTables nBuf tb) → BufTy
  | .hbm, ⟨0, _⟩ => ⟨S1024x192, .f32⟩
  | .hbm, ⟨1, _⟩ => ⟨S1024x192, .f32⟩
  | .hbm, ⟨2, _⟩ => ⟨S1024x192, .f32⟩
  | .hbm, ⟨3, _⟩ => ⟨S8x1024x192, .bf16⟩
  | .hbm, ⟨4, _⟩ => ⟨S1024x192, .f32⟩
  | .hbm, ⟨5, _⟩ => ⟨S1024x192, .f32⟩
  | .hbm, ⟨6, _⟩ => ⟨S1024x192, .f32⟩
  | .hbm, ⟨7, _⟩ => ⟨S1024x192, .f32⟩
  | .local _ .vmem, ⟨0, _⟩ => ⟨S1024x192, .f32⟩
  | .local _ .vmem, ⟨1, _⟩ => ⟨S1024x192, .f32⟩
  | .local _ .vmem, ⟨2, _⟩ => ⟨S1024x192, .f32⟩
  | .local _ .vmem, ⟨3, _⟩ => ⟨S8x1024x192, .bf16⟩
  | .local _ .vmem, ⟨4, _⟩ => ⟨S1024x192, .f32⟩
  | .local _ .vmem, ⟨5, _⟩ => ⟨S1024x192, .f32⟩
  | .local _ .vmem, ⟨6, _⟩ => ⟨S1024x192, .f32⟩
  | .local _ .vmem, ⟨7, _⟩ => ⟨S1024x192, .f32⟩
  | _, _ => ⟨S1024x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamQueryRefIdeal.lean ====
abbrev S1024x192 : Shape := ⟨2, ![1024, 192]⟩
abbrev S8x1024x192 : Shape := ⟨3, ![8, 1024, 192]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x192, .f32⟩
  | .hbm, ⟨1, _⟩ => ⟨S1024x192, .f32⟩
  | .hbm, ⟨2, _⟩ => ⟨S1024x192, .f32⟩
  | .hbm, ⟨3, _⟩ => ⟨S8x1024x192, .bf16⟩
  | .hbm, ⟨4, _⟩ => ⟨S8x1024x192, .f32⟩
  | .hbm, ⟨5, _⟩ => ⟨S_, .f32⟩
  | .hbm, ⟨6, _⟩ => ⟨S1024x192, .f32⟩
  | .hbm, ⟨7, _⟩ => ⟨S_, .f32⟩
  | .hbm, ⟨8, _⟩ => ⟨S1024x192, .f32⟩
  | .hbm, ⟨9, _⟩ => ⟨S1024x192, .f32⟩
  | .hbm, ⟨10, _⟩ => ⟨S_, .f32⟩
  | .hbm, ⟨11, _⟩ => ⟨S1024x192, .f32⟩
  | .hbm, ⟨12, _⟩ => ⟨S1024x192, .f32⟩
  | .hbm, ⟨13, _⟩ => ⟨S1024x192, .f32⟩
  | .hbm, ⟨14, _⟩ => ⟨S_, .f32⟩
  | .hbm, ⟨15, _⟩ => ⟨S1024x192, .f32⟩
  | .hbm, ⟨16, _⟩ => ⟨S1024x192, .f32⟩
  | .hbm, ⟨17, _⟩ => ⟨S1024x192, .f32⟩
  | .hbm, ⟨18, _⟩ => ⟨S_, .f32⟩
  | .hbm, ⟨19, _⟩ => ⟨S1024x192, .f32⟩
  | .hbm, ⟨20, _⟩ => ⟨S1024x192, .f32⟩
  | .hbm, ⟨21, _⟩ => ⟨S1024x192, .f32⟩
  | .hbm, ⟨22, _⟩ => ⟨S_, .f32⟩
  | .hbm, ⟨23, _⟩ => ⟨S1024x192, .f32⟩
  | .hbm, ⟨24, _⟩ => ⟨S1024x192, .f32⟩
  | .hbm, ⟨25, _⟩ => ⟨S_, .f32⟩
  | .hbm, ⟨26, _⟩ => ⟨S1024x192, .f32⟩
  | .hbm, ⟨27, _⟩ => ⟨S1024x192, .f32⟩
  | .hbm, ⟨28, _⟩ => ⟨S1024x192, .f32⟩
  | .hbm, ⟨29, _⟩ => ⟨S_, .f32⟩
  | .hbm, ⟨30, _⟩ => ⟨S1024x192, .f32⟩
  | .hbm, ⟨31, _⟩ => ⟨S1024x192, .f32⟩
  | .hbm, ⟨32, _⟩ => ⟨S1024x192, .f32⟩
  | .hbm, ⟨33, _⟩ => ⟨S_, .f32⟩
  | .hbm, ⟨34, _⟩ => ⟨S1024x192, .f32⟩
  | .hbm, ⟨35, _⟩ => ⟨S1024x192, .f32⟩
  | .hbm, ⟨36, _⟩ => ⟨S1024x192, .f32⟩
  | .hbm, ⟨37, _⟩ => ⟨S_, .f32⟩
  | .hbm, ⟨38, _⟩ => ⟨S1024x192, .f32⟩
  | .hbm, ⟨39, _⟩ => ⟨S1024x192, .f32⟩
  | _, _ => ⟨S1024x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamBout.lean ====
abbrev S512x128 : Shape := ⟨2, ![512, 128]⟩
abbrev S8x512x128 : Shape := ⟨3, ![8, 512, 128]⟩
abbrev S1x512x128 : Shape := ⟨3, ![1, 512, 128]⟩

abbrev nBuf : Space → Nat
  | .hbm => 8
  | .vmem => 8
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S8x512x128, .bf16⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S8x512x128, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBoutRefIdeal.lean ====
abbrev S512x128 : Shape := ⟨2, ![512, 128]⟩
abbrev S8x512x128 : Shape := ⟨3, ![8, 512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S8x512x128, .bf16⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamKv.lean ====
abbrev S1024x384 : Shape := ⟨2, ![1024, 384]⟩
abbrev S8x1024x384 : Shape := ⟨3, ![8, 1024, 384]⟩
abbrev S512x384 : Shape := ⟨2, ![512, 384]⟩
abbrev S8x512x384 : Shape := ⟨3, ![8, 512, 384]⟩
abbrev S1x512x384 : Shape := ⟨3, ![1, 512, 384]⟩

abbrev nBuf : Space → Nat
  | .hbm => 8
  | .vmem => 16
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S8x1024x384, .bf16⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S8x512x384, .bf16⟩
  | .local _ .vmem, ⟨7, _⟩ => ⟨S8x512x384, .bf16⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamKvRefIdeal.lean ====
abbrev S1024x384 : Shape := ⟨2, ![1024, 384]⟩
abbrev S8x1024x384 : Shape := ⟨3, ![8, 1024, 384]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S8x1024x384, .bf16⟩
  | .hbm, ⟨4, _⟩ => ⟨S8x1024x384, .f32⟩
  | .hbm, ⟨5, _⟩ => ⟨S_, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1024x384, .f32⟩
  | .hbm, ⟨10, _⟩ => ⟨S_, .f32⟩
  | .hbm, ⟨11, _⟩ => ⟨S1024x384, .f32⟩
  | .hbm, ⟨12, _⟩ => ⟨S1024x384, .f32⟩
  | .hbm, ⟨13, _⟩ => ⟨S1024x384, .f32⟩
  | .hbm, ⟨14, _⟩ => ⟨S_, .f32⟩
  | .hbm, ⟨15, _⟩ => ⟨S1024x384, .f32⟩
  | .hbm, ⟨16, _⟩ => ⟨S1024x384, .f32⟩
  | .hbm, ⟨17, _⟩ => ⟨S1024x384, .f32⟩
  | .hbm, ⟨18, _⟩ => ⟨S_, .f32⟩
  | .hbm, ⟨19, _⟩ => ⟨S1024x384, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S_, .f32⟩
  | .hbm, ⟨26, _⟩ => ⟨S1024x384, .f32⟩
  | .hbm, ⟨27, _⟩ => ⟨S1024x384, .f32⟩
  | .hbm, ⟨28, _⟩ => ⟨S1024x384, .f32⟩
  | .hbm, ⟨29, _⟩ => ⟨S_, .f32⟩
  | .hbm, ⟨30, _⟩ => ⟨S1024x384, .f32⟩
  | .hbm, ⟨31, _⟩ => ⟨S1024x384, .f32⟩
  | .hbm, ⟨32, _⟩ => ⟨S1024x384, .f32⟩
  | .hbm, ⟨33, _⟩ => ⟨S_, .f32⟩
  | .hbm, ⟨34, _⟩ => ⟨S1024x384, .f32⟩
  | .hbm, ⟨35, _⟩ => ⟨S1024x384, .f32⟩
  | .hbm, ⟨36, _⟩ => ⟨S1024x384, .f32⟩
  | .hbm, ⟨37, _⟩ => ⟨S_, .f32⟩
  | .hbm, ⟨38, _⟩ => ⟨S1024x384, .f32⟩
  | .hbm, ⟨39, _⟩ => ⟨S1024x384, .f32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUp.lean ====
abbrev S1024x704 : Shape := ⟨2, ![1024, 704]⟩
abbrev S8x1024x704 : Shape := ⟨3, ![8, 1024, 704]⟩
abbrev S256x704 : Shape := ⟨2, ![256, 704]⟩
abbrev S8x256x704 : Shape := ⟨3, ![8, 256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S8x1024x704, .bf16⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S8x256x704, .bf16⟩
  | .local _ .vmem, ⟨7, _⟩ => ⟨S8x256x704, .bf16⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S1024x704 : Shape := ⟨2, ![1024, 704]⟩
abbrev S8x1024x704 : Shape := ⟨3, ![8, 1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S8x1024x704, .bf16⟩
  | .hbm, ⟨4, _⟩ => ⟨S8x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamDown.lean ====
abbrev S352x1024 : Shape := ⟨2, ![352, 1024]⟩
abbrev S8x352x1024 : Shape := ⟨3, ![8, 352, 1024]⟩
abbrev S32x1024 : Shape := ⟨2, ![32, 1024]⟩
abbrev S8x32x1024 : Shape := ⟨3, ![8, 32, 1024]⟩
abbrev S1x32x1024 : Shape := ⟨3, ![1, 32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S8x352x1024, .bf16⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S8x32x1024, .bf16⟩
  | .local _ .vmem, ⟨7, _⟩ => ⟨S8x32x1024, .bf16⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S352x1024 : Shape := ⟨2, ![352, 1024]⟩
abbrev S8x352x1024 : Shape := ⟨3, ![8, 352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S8x352x1024, .bf16⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamConv.lean ====
abbrev S3x704 : Shape := ⟨2, ![3, 704]⟩
abbrev S8x3x704 : Shape := ⟨3, ![8, 3, 704]⟩
abbrev S1x3x704 : Shape := ⟨3, ![1, 3, 704]⟩

abbrev nBuf : Space → Nat
  | .hbm => 8
  | .vmem => 8
  | .smem => 0
  | _ => 0

abbrev bufTy : (tb : Table) → Fin (tcTables nBuf tb) → BufTy
  | .hbm, ⟨0, _⟩ => ⟨S3x704, .f32⟩
  | .hbm, ⟨1, _⟩ => ⟨S3x704, .f32⟩
  | .hbm, ⟨2, _⟩ => ⟨S3x704, .f32⟩
  | .hbm, ⟨3, _⟩ => ⟨S8x3x704, .f32⟩
  | .hbm, ⟨4, _⟩ => ⟨S3x704, .f32⟩
  | .hbm, ⟨5, _⟩ => ⟨S3x704, .f32⟩
  | .hbm, ⟨6, _⟩ => ⟨S3x704, .f32⟩
  | .hbm, ⟨7, _⟩ => ⟨S3x704, .f32⟩
  | .local _ .vmem, ⟨0, _⟩ => ⟨S3x704, .f32⟩
  | .local _ .vmem, ⟨1, _⟩ => ⟨S3x704, .f32⟩
  | .local _ .vmem, ⟨2, _⟩ => ⟨S3x704, .f32⟩
  | .local _ .vmem, ⟨3, _⟩ => ⟨S8x3x704, .f32⟩
  | .local _ .vmem, ⟨4, _⟩ => ⟨S3x704, .f32⟩
  | .local _ .vmem, ⟨5, _⟩ => ⟨S3x704, .f32⟩
  | .local _ .vmem, ⟨6, _⟩ => ⟨S3x704, .f32⟩
  | .local _ .vmem, ⟨7, _⟩ => ⟨S3x704, .f32⟩
  | _, _ => ⟨S3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvRefIdeal.lean ====
abbrev S3x704 : Shape := ⟨2, ![3, 704]⟩
abbrev S8x3x704 : Shape := ⟨3, ![8, 3, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S3x704, .f32⟩
  | .hbm, ⟨1, _⟩ => ⟨S3x704, .f32⟩
  | .hbm, ⟨2, _⟩ => ⟨S3x704, .f32⟩
  | .hbm, ⟨3, _⟩ => ⟨S8x3x704, .f32⟩
  | .hbm, ⟨4, _⟩ => ⟨S_, .f32⟩
  | .hbm, ⟨5, _⟩ => ⟨S3x704, .f32⟩
  | .hbm, ⟨6, _⟩ => ⟨S_, .f32⟩
  | .hbm, ⟨7, _⟩ => ⟨S3x704, .f32⟩
  | .hbm, ⟨8, _⟩ => ⟨S3x704, .f32⟩
  | .hbm, ⟨9, _⟩ => ⟨S_, .f32⟩
  | .hbm, ⟨10, _⟩ => ⟨S3x704, .f32⟩
  | .hbm, ⟨11, _⟩ => ⟨S3x704, .f32⟩
  | .hbm, ⟨12, _⟩ => ⟨S3x704, .f32⟩
  | .hbm, ⟨13, _⟩ => ⟨S_, .f32⟩
  | .hbm, ⟨14, _⟩ => ⟨S3x704, .f32⟩
  | .hbm, ⟨15, _⟩ => ⟨S3x704, .f32⟩
  | .hbm, ⟨16, _⟩ => ⟨S3x704, .f32⟩
  | .hbm, ⟨17, _⟩ => ⟨S_, .f32⟩
  | .hbm, ⟨18, _⟩ => ⟨S3x704, .f32⟩
  | .hbm, ⟨19, _⟩ => ⟨S3x704, .f32⟩
  | .hbm, ⟨20, _⟩ => ⟨S3x704, .f32⟩
  | .hbm, ⟨21, _⟩ => ⟨S_, .f32⟩
  | .hbm, ⟨22, _⟩ => ⟨S3x704, .f32⟩
  | .hbm, ⟨23, _⟩ => ⟨S3x704, .f32⟩
  | .hbm, ⟨24, _⟩ => ⟨S_, .f32⟩
  | .hbm, ⟨25, _⟩ => ⟨S3x704, .f32⟩
  | .hbm, ⟨26, _⟩ => ⟨S3x704, .f32⟩
  | .hbm, ⟨27, _⟩ => ⟨S3x704, .f32⟩
  | .hbm, ⟨28, _⟩ => ⟨S_, .f32⟩
  | .hbm, ⟨29, _⟩ => ⟨S3x704, .f32⟩
  | .hbm, ⟨30, _⟩ => ⟨S3x704, .f32⟩
  | .hbm, ⟨31, _⟩ => ⟨S3x704, .f32⟩
  | .hbm, ⟨32, _⟩ => ⟨S_, .f32⟩
  | .hbm, ⟨33, _⟩ => ⟨S3x704, .f32⟩
  | .hbm, ⟨34, _⟩ => ⟨S3x704, .f32⟩
  | .hbm, ⟨35, _⟩ => ⟨S3x704, .f32⟩
  | .hbm, ⟨36, _⟩ => ⟨S_, .f32⟩
  | .hbm, ⟨37, _⟩ => ⟨S3x704, .f32⟩
  | .hbm, ⟨38, _⟩ => ⟨S3x704, .f32⟩
  | _, _ => ⟨S3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSmall.lean ====
abbrev S144x128 : Shape := ⟨2, ![144, 128]⟩
abbrev S8x144x128 : Shape := ⟨3, ![8, 144, 128]⟩
abbrev S1x144x128 : Shape := ⟨3, ![1, 144, 128]⟩

abbrev nBuf : Space → Nat
  | .hbm => 8
  | .vmem => 8
  | .smem => 0
  | _ => 0

abbrev bufTy : (tb : Table) → Fin (tcTables nBuf tb) → BufTy
  | .hbm, ⟨0, _⟩ => ⟨S144x128, .f32⟩
  | .hbm, ⟨1, _⟩ => ⟨S144x128, .f32⟩
  | .hbm, ⟨2, _⟩ => ⟨S144x128, .f32⟩
  | .hbm, ⟨3, _⟩ => ⟨S8x144x128, .f32⟩
  | .hbm, ⟨4, _⟩ => ⟨S144x128, .f32⟩
  | .hbm, ⟨5, _⟩ => ⟨S144x128, .f32⟩
  | .hbm, ⟨6, _⟩ => ⟨S144x128, .f32⟩
  | .hbm, ⟨7, _⟩ => ⟨S144x128, .f32⟩
  | .local _ .vmem, ⟨0, _⟩ => ⟨S144x128, .f32⟩
  | .local _ .vmem, ⟨1, _⟩ => ⟨S144x128, .f32⟩
  | .local _ .vmem, ⟨2, _⟩ => ⟨S144x128, .f32⟩
  | .local _ .vmem, ⟨3, _⟩ => ⟨S8x144x128, .f32⟩
  | .local _ .vmem, ⟨4, _⟩ => ⟨S144x128, .f32⟩
  | .local _ .vmem, ⟨5, _⟩ => ⟨S144x128, .f32⟩
  | .local _ .vmem, ⟨6, _⟩ => ⟨S144x128, .f32⟩
  | .local _ .vmem, ⟨7, _⟩ => ⟨S144x128, .f32⟩
  | _, _ => ⟨S144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S144x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x144x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S144x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S144x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S144x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S144x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== AdamSmallRefIdeal.lean ====
abbrev S144x128 : Shape := ⟨2, ![144, 128]⟩
abbrev S8x144x128 : Shape := ⟨3, ![8, 144, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S144x128, .f32⟩
  | .hbm, ⟨1, _⟩ => ⟨S144x128, .f32⟩
  | .hbm, ⟨2, _⟩ => ⟨S144x128, .f32⟩
  | .hbm, ⟨3, _⟩ => ⟨S8x144x128, .f32⟩
  | .hbm, ⟨4, _⟩ => ⟨S_, .f32⟩
  | .hbm, ⟨5, _⟩ => ⟨S144x128, .f32⟩
  | .hbm, ⟨6, _⟩ => ⟨S_, .f32⟩
  | .hbm, ⟨7, _⟩ => ⟨S144x128, .f32⟩
  | .hbm, ⟨8, _⟩ => ⟨S144x128, .f32⟩
  | .hbm, ⟨9, _⟩ => ⟨S_, .f32⟩
  | .hbm, ⟨10, _⟩ => ⟨S144x128, .f32⟩
  | .hbm, ⟨11, _⟩ => ⟨S144x128, .f32⟩
  | .hbm, ⟨12, _⟩ => ⟨S144x128, .f32⟩
  | .hbm, ⟨13, _⟩ => ⟨S_, .f32⟩
  | .hbm, ⟨14, _⟩ => ⟨S144x128, .f32⟩
  | .hbm, ⟨15, _⟩ => ⟨S144x128, .f32⟩
  | .hbm, ⟨16, _⟩ => ⟨S144x128, .f32⟩
  | .hbm, ⟨17, _⟩ => ⟨S_, .f32⟩
  | .hbm, ⟨18, _⟩ => ⟨S144x128, .f32⟩
  | .hbm, ⟨19, _⟩ => ⟨S144x128, .f32⟩
  | .hbm, ⟨20, _⟩ => ⟨S144x128, .f32⟩
  | .hbm, ⟨21, _⟩ => ⟨S_, .f32⟩
  | .hbm, ⟨22, _⟩ => ⟨S144x128, .f32⟩
  | .hbm, ⟨23, _⟩ => ⟨S144x128, .f32⟩
  | .hbm, ⟨24, _⟩ => ⟨S_, .f32⟩
  | .hbm, ⟨25, _⟩ => ⟨S144x128, .f32⟩
  | .hbm, ⟨26, _⟩ => ⟨S144x128, .f32⟩
  | .hbm, ⟨27, _⟩ => ⟨S144x128, .f32⟩
  | .hbm, ⟨28, _⟩ => ⟨S_, .f32⟩
  | .hbm, ⟨29, _⟩ => ⟨S144x128, .f32⟩
  | .hbm, ⟨30, _⟩ => ⟨S144x128, .f32⟩
  | .hbm, ⟨31, _⟩ => ⟨S144x128, .f32⟩
  | .hbm, ⟨32, _⟩ => ⟨S_, .f32⟩
  | .hbm, ⟨33, _⟩ => ⟨S144x128, .f32⟩
  | .hbm, ⟨34, _⟩ => ⟨S144x128, .f32⟩
  | .hbm, ⟨35, _⟩ => ⟨S144x128, .f32⟩
  | .hbm, ⟨36, _⟩ => ⟨S_, .f32⟩
  | .hbm, ⟨37, _⟩ => ⟨S144x128, .f32⟩
  | .hbm, ⟨38, _⟩ => ⟨S144x128, .f32⟩
  | _, _ => ⟨S144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Loss.lean ====
abbrev S4096x1024 : Shape := ⟨2, ![4096, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S8x128, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v45 : BitVec 1 := Scalar.cmpi .eq arg0 c0_i32
  let v46 : BitVec 32 := Scalar.extui v45
  let c0_i32_19 : BitVec 32 := 0#32
  let v47 : BitVec 1 := Scalar.cmpi .ne v46 c0_i32_19
  v47

def k0_cond2 (i : grid0.Coords) : BitVec 1 :=
  let arg0 : BitVec 32 := BitVec.ofNat 32 (i 0).val
  let c0_i32_20 : BitVec 32 := 0#32
  let v48 : BitVec 1 := Scalar.cmpi .sgt arg0 c0_i32_20
  let v49 : BitVec 32 := Scalar.extui v48
  let c0_i32_21 : BitVec 32 := 0#32
  let v50 : BitVec 1 := Scalar.cmpi .ne v49 c0_i32_21
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x128 : Shape := ⟨2, ![8, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S8x128, .f32⟩
  | .hbm, ⟨69, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Doa.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_mult1 : BitVec 32 :=
  let c0_i32 : BitVec 32 := 0#32
  let c512_i32 : BitVec 32 := 512#32
  let v0 : BitVec 32 := Scalar.muli c0_i32 c512_i32
  v0
def k0_off1 : Fin 2 → Nat :=
  let c0_i32 : BitVec 32 := 0#32
  let c512_i32 : BitVec 32 := 512#32
  let v0 : BitVec 32 := Scalar.muli c0_i32 c512_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DoaRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Bout.lean ====
abbrev S4096x512 : Shape := ⟨2, ![4096, 512]⟩
abbrev S512x1024 : Shape := ⟨2, ![512, 1024]⟩
abbrev S4096x1024 : Shape := ⟨2, ![4096, 1024]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def k0_mult1 : BitVec 32 :=
  let c0_i32 : BitVec 32 := 0#32
  let c512_i32 : BitVec 32 := 512#32
  let v0 : BitVec 32 := Scalar.muli c0_i32 c512_i32
  v0
def k0_off1 : Fin 2 → Nat :=
  let c0_i32 : BitVec 32 := 0#32
  let c512_i32 : BitVec 32 := 512#32
  let v0 : BitVec 32 := Scalar.muli c0_i32 c512_i32
  let v1 : BitVec 32 := v0
  let v2 : Index := Scalar.indexCast v1
  let c0 : Index := 0#32
  ![v2.toNat, 0]
def k0_off2 : Fin 2 → Nat :=
  let c0_i32 : BitVec 32 := 0#32
  let c512_i32 : BitVec 32 := 512#32
  let v0 : BitVec 32 := Scalar.muli c0_i32 c512_i32
  let v1 : BitVec 32 := v0
  let v6 : Index := Scalar.indexCast v1
  let c0_2 : Index := 0#32
  ![v6.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== BoutRefIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.NormRow.lean ====
/-
  One row of the gradient of a root-mean-square norm, over the extended reals.

  The norm of a row `x` is `x / √(mean(x²) + ε)`, times a gain.  The kernel writes the gradient of the row as
  `r · (u − x̂ · mean(u · x̂)) + d`, where `r` is the reciprocal root, `x̂ = x · r`, `u` the incoming gradient times
  the gain and `d` the gradient of the residual branch.  The derivative of the forward lines is written
  `d + u · r + x · t + t · x` with `t` the gradient that reaches the mean of the squares.  They are equal for EVERY row:
  where an entry is infinite the reciprocal root is `0` and both are `d`; where all entries are finite the
  reciprocal root is a positive real number, over which sums distribute even when `u` is infinite.
-/
module

public import Idealize.ShloMosaic.PureOps.Ideal

@[expose] public section

noncomputable section

namespace Cert.NormRow

open Idealize.ShloMosaic

/-- The cast of the real numbers commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor distributes over a finite sum of extended reals. -/
theorem coe_mul_sum {ι : Type*} (s : Finset ι) (f : ι → EReal) (r : ℝ) (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

/-- A nonnegative real factor distributes over a difference of extended reals. -/
theorem coe_mul_sub (r : ℝ) (hr : 0 ≤ r) (a b : EReal) :
    (r : EReal) * (a - b) = (r : EReal) * a - (r : EReal) * b := by
  rw [sub_eq_add_neg, EReal.left_distrib_of_nonneg_of_ne_top (by exact_mod_cast hr) (EReal.coe_ne_top r),
    mul_neg, ← sub_eq_add_neg]

/-- Twice a value: `a + a = 2 · a`, at the infinities too. -/
theorem add_self (a : EReal) : a + a = ((2 : ℝ) : EReal) * a := by
  have h : ((2 : ℝ) : EReal) = 1 + 1 := by norm_cast
  rw [h, EReal.right_distrib_of_nonneg zero_le_one zero_le_one, one_mul]

/-- A square is nonnegative. -/
theorem sq_nonneg (a : EReal) : 0 ≤ a * a := by
  rcases le_total 0 a with h | h
  · exact mul_nonneg h h
  · have := mul_nonneg (a := -a) (b := -a) (by simpa using h) (by simpa using h)
    simpa using this

variable {n : Nat}

/-- The reciprocal root of a row. -/
def recip (N ε : EReal) (x : Fin n → EReal) : EReal :=
  Ideal.rsqrt (Ideal.div (∑ j, x j * x j) N + ε)

/-- The kernel's gradient of one entry, the incoming one being `u`. -/
def kernelDx (N ε : EReal) (x u : Fin n → EReal) (d : EReal) (q : Fin n) : EReal :=
  recip N ε x * (u q - x q * recip N ε x * Ideal.div (∑ j, u j * (x j * recip N ε x)) N) + d

/-- The gradient that reaches the mean of the squares. -/
def gradMean (N ε h : EReal) (x u : Fin n → EReal) : EReal :=
  Ideal.div ((∑ j, x j * u j) * (h * Ideal.div (recip N ε x) (Ideal.div (∑ j, x j * x j) N + ε))) N

/-- The derivative's entry. -/
def referenceDx (N ε h : EReal) (x u : Fin n → EReal) (d : EReal) (q : Fin n) : EReal :=
  d + u q * recip N ε x + x q * gradMean N ε h x u + gradMean N ε h x u * x q

/-- A row with an infinite entry: the sum of the squares is `+∞`. -/
theorem sum_sq_top (x : Fin n → EReal) (k : Fin n) (hk : x k * x k = ⊤) : ∑ j, x j * x j = ⊤ := by
  have h := Finset.single_le_sum (f := fun j => x j * x j) (fun j _ => sq_nonneg (x j)) (Finset.mem_univ k)
  exact top_le_iff.mp (hk ▸ h)

/-- The two forms of the gradient of one row are equal, with `N` and `ε` positive reals and `h = −½`. -/
theorem kernelDx_eq (N ε : ℝ) (hN : 0 < N) (hε : 0 < ε) (x u : Fin n → EReal) (d : EReal) (q : Fin n) :
    kernelDx N ε x u d q = referenceDx N ε ((-(1 / 2) : ℝ) : EReal) x u d q := by
  by_cases hx : ∃ k, x k = ⊤ ∨ x k = ⊥
  · obtain ⟨k, hk⟩ := hx
    have hs : ∑ j, x j * x j = ⊤ := sum_sq_top x k (by rcases hk with h | h <;> rw [h] <;> rfl)
    have hv : Ideal.div (∑ j, x j * x j) N + (ε : EReal) = ⊤ := by
      rw [hs, Ideal.div_coe hN.ne', EReal.top_mul_of_pos (by exact_mod_cast (one_div_pos.mpr hN))]
      exact EReal.top_add_coe ε
    have hr : recip (N : EReal) ε x = 0 := by unfold recip; rw [hv]; rfl
    unfold kernelDx referenceDx gradMean
    rw [hv, hr]
    simp [Ideal.div_coe hN.ne', Ideal.div, hN.ne']
  · have hx' : ∀ k, ∃ y : ℝ, x k = y := fun k => by
      push Not at hx
      exact ⟨(x k).toReal, (EReal.coe_toReal (hx k).1 (hx k).2).symm⟩
    choose y hy using hx'
    obtain rfl : x = fun k => (y k : EReal) := funext hy
    have hs : ∑ j, (y j : EReal) * (y j : EReal) = ((∑ j, y j * y j : ℝ) : EReal) := by
      simp only [← EReal.coe_mul]; exact (coe_sum _ fun j => y j * y j).symm
    set V : ℝ := (∑ j, y j * y j) * (1 / N) + ε with hV
    have hVpos : 0 < V := by
      have : 0 ≤ ∑ j, y j * y j := Finset.sum_nonneg fun j _ => mul_self_nonneg (y j)
      positivity
    have hv : Ideal.div (∑ j, (y j : EReal) * (y j : EReal)) N + (ε : EReal) = (V : EReal) := by
      rw [hs, Ideal.div_coe hN.ne', hV]; push_cast; rfl
    set r : ℝ := (Real.sqrt V)⁻¹ with hrdef
    have hr : recip (N : EReal) ε (fun k => (y k : EReal)) = (r : EReal) := by
      unfold recip; rw [hv, Ideal.rsqrt_coe, if_neg hVpos.not_gt, if_neg hVpos.ne']
    have hr0 : 0 < r := inv_pos.mpr (Real.sqrt_pos.mpr hVpos)
    have hr2 : r * r * V = 1 := by
      have := Real.mul_self_sqrt hVpos.le
      have h0 := (Real.sqrt_pos.mpr hVpos).ne'
      rw [hrdef]; field_simp; nlinarith [this]
    unfold kernelDx referenceDx gradMean
    rw [hv, hr]
    set S : EReal := ∑ j, (y j : EReal) * u j with hS
    have hsum : ∑ j, u j * ((y j : EReal) * (r : EReal)) = (r : EReal) * S := by
      rw [hS, coe_mul_sum _ _ r hr0.le]
      exact Finset.sum_congr rfl fun j _ => by ac_rfl
    rw [hsum, Ideal.div_coe hN.ne', Ideal.div_coe hN.ne', Ideal.div_coe hVpos.ne', coe_mul_sub r hr0.le]
    have hT : (y q : EReal) * (S * (((-(1 / 2) : ℝ) : EReal) * ((r : EReal) * ((1 / V : ℝ) : EReal))) * ((1 / N : ℝ) : EReal))
        = (((-(1 / 2)) * (r * (1 / V)) * (1 / N) : ℝ) : EReal) * ((y q : EReal) * S) := by
      push_cast; ac_rfl
    have hT' : S * (((-(1 / 2) : ℝ) : EReal) * ((r : EReal) * ((1 / V : ℝ) : EReal))) * ((1 / N : ℝ) : EReal) * (y q : EReal)
        = (((-(1 / 2)) * (r * (1 / V)) * (1 / N) : ℝ) : EReal) * ((y q : EReal) * S) := by
      push_cast; ac_rfl
    have hX : (r : EReal) * ((y q : EReal) * (r : EReal) * ((r : EReal) * S * ((1 / N : ℝ) : EReal)))
        = ((r * r * r * (1 / N) : ℝ) : EReal) * ((y q : EReal) * S) := by
      push_cast; ac_rfl
    have hc : ((2 : ℝ) : EReal) * ((((-(1 / 2)) * (r * (1 / V)) * (1 / N) : ℝ) : EReal) * ((y q : EReal) * S))
        = -(((r * r * r * (1 / N) : ℝ) : EReal) * ((y q : EReal) * S)) := by
      rw [← mul_assoc, ← EReal.coe_mul, ← EReal.neg_mul, ← EReal.coe_neg]
      congr 2
      have : r * (1 / V) = r * r * r := by
        rw [mul_one_div, div_eq_iff hVpos.ne']; linear_combination (-r) * hr2
      rw [this]; ring
    rw [hT, hT', hX, add_assoc (d + _), add_self, hc, sub_eq_add_neg, mul_comm (u q)]
    ac_rfl

end Cert.NormRow

end
-- ==== Proof.NormKernel.lean ====
/-
  The kernel that backs a gradient through two products and a root-mean-square norm, read as a function of its
  arguments: what each of the eight grid points writes, and the three result arrays after the run.
-/
module

public import proofs.«01_k».proof.Proof.Gen.NormIdeal.Value
public import proofs.«01_k».proof.Proof.NormRow
public import Idealize.ShloMosaic.Lib.Pointwise

@[expose] public section

set_option maxRecDepth 16384

noncomputable section

namespace Cert.NormIdeal.Value

open Cert.NormIdeal Cert.NormIdeal.Gen Cert.NormRow Idealize.ShloMosaic Idealize.ShloMosaic.TcCoe Idealize.SL.Sem
open Idealize.ShloMosaic.Pipeline (Dat)

/-- The length of a row, as the programs print it. -/
abbrev rowLen : EReal := Ideal.ofBits FTy.f32 0x44800000#32
/-- The norm's small positive constant, as the programs print it. -/
abbrev smallEps : EReal := Ideal.ofBits FTy.f32 0x358637BD#32

/-! ## The closed forms -/

section Forms

variable {n : Nat} (a : (⟨2, ![n, 2816]⟩ : Shape).Idx → EReal) (wa : S1024x2816.Idx → EReal)
  (b : (⟨2, ![n, 2816]⟩ : Shape).Idx → EReal) (wb : S1024x2816.Idx → EReal)
  (x : (⟨2, ![n, 1024]⟩ : Shape).Idx → EReal) (g : S1x1024.Idx → EReal) (d : (⟨2, ![n, 1024]⟩ : Shape).Idx → EReal)

/-- The gradient that reaches the norm's output: both products against the transposed weights. -/
def dy (p : Fin n) (q : Fin 1024) : EReal :=
  (∑ k : Fin 2816, a (ix2 p k) * wa (ix2 q k)) + ∑ k : Fin 2816, b (ix2 p k) * wb (ix2 q k)

/-- Row `p` of an array. -/
abbrev row (p : Fin n) : Fin 1024 → EReal := fun k => x (ix2 p k)

/-- The reciprocal root of row `p`. -/
def rr (p : Fin n) : EReal := recip rowLen smallEps (row x p)

/-- The gradient of the norm's argument at row `p`, column `q`. -/
def dxAt (p : Fin n) (q : Fin 1024) : EReal :=
  kernelDx rowLen smallEps (row x p) (fun k => dy a wa b wb p k * g (ix2 0 k)) (d (ix2 p q)) q

/-- What row `p` adds to the gradient of the gain at column `q`. -/
def dgAt (p : Fin n) (q : Fin 1024) : EReal := dy a wa b wb p q * (x (ix2 p q) * rr x p)

end Forms

/-! ## The payloads at an index -/

section Payloads

variable (v0 : Vec Ideal S512x2816 .bf16) (v1 : Vec Ideal S1024x2816 .bf16) (v3 : Vec Ideal S512x2816 .bf16)
  (v4 : Vec Ideal S1024x2816 .bf16) (v7 : Vec Ideal S512x1024 .f32) (v18 : Vec Ideal S1x1024 .f32) (v31 : Vec Ideal S512x1024 .f32)

theorem pay3_apply (p : Fin 512) (q : Fin 1024) : k0_pay3 v0 v1 v3 v4 (ix2 p q) = dy v0 v1 v3 v4 p q := by
  pointwise [k0_pay3]; rfl

theorem pay4_apply (p : Fin 512) : k0_pay4 v7 (ix2 p 0) = rr v7 p := by
  pointwise [k0_pay4]; rfl

theorem pay5_apply (p : Fin 512) (q : Fin 1024) : k0_pay5 v7 (ix2 p q) = v7 (ix2 p q) * rr v7 p := by
  pointwise [k0_pay5]; rw [pay4_apply]

theorem pay6_apply (p : Fin 512) (q : Fin 1024) :
    k0_pay6 v0 v1 v3 v4 v7 v18 v31 (ix2 p q) = dxAt v0 v1 v3 v4 v7 v18 v31 p q := by
  pointwise [k0_pay6, k0_pay5]
  simp only [pay3_apply, pay4_apply]
  rfl

theorem pay1_apply (q : Fin 1024) :
    k0_pay1 (k0_pay3 v0 v1 v3 v4) (k0_pay5 v7) (ix2 0 q) = ∑ p : Fin 512, dgAt v0 v1 v3 v4 v7 p q := by
  pointwise [k0_pay1]
  simp only [pay3_apply, pay5_apply]
  rfl

theorem pay2_apply (w : Vec Ideal S1x1024 .f32) (q : Fin 1024) :
    k0_pay2 (k0_pay3 v0 v1 v3 v4) (k0_pay5 v7) w (ix2 0 q) = w (ix2 0 q) + ∑ p : Fin 512, dgAt v0 v1 v3 v4 v7 p q := by
  rw [← pay1_apply]
  pointwise [k0_pay2]

end Payloads

/-! ## What the body leaves in the output buffers, in either case -/

theorem hz : (![0, 0] : Fin 2 → Nat) = fun _ => 0 := funext fun a => by fin_cases a <;> rfl

section Outs

variable {F : FTy → Type} [FloatOps F]
  (c : Dev nD) (i : grid0.Coords) (a1 : Memref sig .tc .vmem S512x2816 .bf16) (h1 : a1.IsWhole) (a2 : Memref sig .tc .vmem S1024x2816 .bf16) (h2 : a2.IsWhole) (a3 : Memref sig .tc .vmem S512x2816 .bf16) (h3 : a3.IsWhole) (a4 : Memref sig .tc .vmem S1024x2816 .bf16) (h4 : a4.IsWhole) (a5 : Memref sig .tc .vmem S512x1024 .f32) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole) (a9 : Memref sig .tc .vmem S512x1024 .bf16) (h9 : a9.IsWhole) (a10 : Memref sig .tc .vmem S1x1024 .f32) (h10 : a10.IsWhole)
  (x0 : Vec F S512x2816 .bf16) (x1 : Vec F S1024x2816 .bf16) (x2 : Vec F S512x2816 .bf16) (x3 : Vec F S1024x2816 .bf16) (x4 : Vec F S512x1024 .f32) (x5 : Vec F S1x1024 .f32) (x6 : Vec F S512x1024 .f32) (xo : Vec F S1x1024 .f32)

/-- At the first point the sum over the rows starts. -/
theorem outs_A (hc0 : cond0_0 i) (hc1 : ¬cond0_1 i) :
    out0_A_7 c i a1 h1 a2 h2 a3 h3 a4 h4 a5 h5 a6 h6 a7 h7 a8 h8 a9 h9 a10 h10 hc0 hc1 x0 x1 x2 x3 x4 x5 x6 = k0_pay6 x0 x1 x2 x3 x4 x5 x6
    ∧ out0_A_8 c i a1 h1 a2 h2 a3 h3 a4 h4 a5 h5 a6 h6 a7 h7 a8 h8 a9 h9 a10 h10 hc0 hc1 x0 x1 x2 x3 x4 x5 x6 = k0_pay7 x0 x1 x2 x3 x4 x5 x6
    ∧ out0_A_9 c i a1 h1 a2 h2 a3 h3 a4 h4 a5 h5 a6 h6 a7 h7 a8 h8 a9 h9 a10 h10 hc0 hc1 x0 x1 x2 x3 x4 x5 x6 = k0_pay1 (k0_pay3 x0 x1 x2 x3) (k0_pay5 x4) := by
  refine ⟨(View.read_writes_eq_canon _ _ _ (cover0_A_7 c i a1 h1 a2 h2 a3 h3 a4 h4 a5 h5 a6 h6 a7 h7 a8 h8 a9 h9 a10 h10 hc0 hc1 x0 x1 x2 x3 x4 x5 x6)).trans ?_,
    (View.read_writes_eq_canon _ _ _ (cover0_A_8 c i a1 h1 a2 h2 a3 h3 a4 h4 a5 h5 a6 h6 a7 h7 a8 h8 a9 h9 a10 h10 hc0 hc1 x0 x1 x2 x3 x4 x5 x6)).trans ?_,
    (View.read_writes_eq_canon _ _ _ (cover0_A_9 c i a1 h1 a2 h2 a3 h3 a4 h4 a5 h5 a6 h6 a7 h7 a8 h8 a9 h9 a10 h10 hc0 hc1 x0 x1 x2 x3 x4 x5 x6)).trans ?_⟩
  all_goals
    unfold kernelRun0_A
    dsimp only
    sl_unfold_words
    rw [View.canon_unit_zero hz]
    simp only [View.readAt_eq_ld, h1.read_unread, h2.read_unread, h3.read_unread, h4.read_unread, h5.read_unread,
      h6.read_unread, h7.read_unread, h10.read_unread, View.ld_unit_zero (S := S512x2816) hz, View.ld_unit_zero (S := S1024x2816) hz,
      View.ld_unit_zero (S := S512x1024) hz, View.ld_unit_zero (S := S1x1024) hz]

/-- At a later point it goes on from what the point before left. -/
theorem outs_B (hc0 : ¬cond0_0 i) (hc1 : cond0_1 i) :
    out0_B_7 c i a1 h1 a2 h2 a3 h3 a4 h4 a5 h5 a6 h6 a7 h7 a8 h8 a9 h9 a10 h10 hc0 hc1 x0 x1 x2 x3 x4 x5 x6 xo = k0_pay6 x0 x1 x2 x3 x4 x5 x6
    ∧ out0_B_8 c i a1 h1 a2 h2 a3 h3 a4 h4 a5 h5 a6 h6 a7 h7 a8 h8 a9 h9 a10 h10 hc0 hc1 x0 x1 x2 x3 x4 x5 x6 xo = k0_pay7 x0 x1 x2 x3 x4 x5 x6
    ∧ out0_B_9 c i a1 h1 a2 h2 a3 h3 a4 h4 a5 h5 a6 h6 a7 h7 a8 h8 a9 h9 a10 h10 hc0 hc1 x0 x1 x2 x3 x4 x5 x6 xo = k0_pay2 (k0_pay3 x0 x1 x2 x3) (k0_pay5 x4) xo := by
  refine ⟨(View.read_writes_eq_canon _ _ _ (cover0_B_7 c i a1 h1 a2 h2 a3 h3 a4 h4 a5 h5 a6 h6 a7 h7 a8 h8 a9 h9 a10 h10 hc0 hc1 x0 x1 x2 x3 x4 x5 x6 xo)).trans ?_,
    (View.read_writes_eq_canon _ _ _ (cover0_B_8 c i a1 h1 a2 h2 a3 h3 a4 h4 a5 h5 a6 h6 a7 h7 a8 h8 a9 h9 a10 h10 hc0 hc1 x0 x1 x2 x3 x4 x5 x6 xo)).trans ?_,
    (View.read_writes_eq_canon _ _ _ (cover0_B_9 c i a1 h1 a2 h2 a3 h3 a4 h4 a5 h5 a6 h6 a7 h7 a8 h8 a9 h9 a10 h10 hc0 hc1 x0 x1 x2 x3 x4 x5 x6 xo)).trans ?_⟩
  all_goals
    unfold kernelRun0_B
    dsimp only
    sl_unfold_words
    rw [View.canon_unit_zero hz]
    simp only [View.readAt_eq_ld, h1.read_unread, h2.read_unread, h3.read_unread, h4.read_unread, h5.read_unread,
      h6.read_unread, h7.read_unread, h10.read_unread, View.ld_unit_zero (S := S512x2816) hz, View.ld_unit_zero (S := S1024x2816) hz,
      View.ld_unit_zero (S := S512x1024) hz, View.ld_unit_zero (S := S1x1024) hz]

end Outs

end Cert.NormIdeal.Value

end
-- ==== Proof.AdamRow.lean ====
/-
  The optimiser at one element: from a weight, its two running means and the eight devices' shares of its gradient, the gradient
  (the sum of the shares), the two new running means and the change of the weight.
-/
module

public import Idealize.ShloMosaic.Lib.Pointwise
public import Idealize.ShloMosaic.Lib.Tactic

@[expose] public section

noncomputable section

namespace Cert.AdamRow

open Idealize.ShloMosaic

/-- The shares of the eight devices added in their order. -/
def total (f : Fin 8 → EReal) : EReal := f 0 + f 1 + f 2 + f 3 + f 4 + f 5 + f 6 + f 7

theorem total_eq (f : Fin 8 → EReal) : total f = ∑ d, f d := (Fin.sum_univ_eight f).symm

/-- The new running mean of the gradient. -/
def mean (m g : EReal) : EReal := Ideal.ofBits FTy.f32 0x3F666666#32 * m + Ideal.ofBits FTy.f32 0x3DCCCCCD#32 * g

/-- The new running mean of the gradient's square. -/
def square (v g : EReal) : EReal := Ideal.ofBits FTy.f32 0x3F7FBE77#32 * v + Ideal.ofBits FTy.f32 0x3A83126F#32 * (g * g)

/-- The change of the weight: the corrected mean over the root of the corrected mean of squares plus a small constant, with the decay
    of the weight, times minus the rate. -/
def change (w m v g : EReal) : EReal :=
  Ideal.ofBits FTy.f32 0xBA83126F#32
    * (Ideal.div (Ideal.div (mean m g) (Ideal.ofBits FTy.f32 0x3F26BD02#32))
        (Ideal.sqrt (Ideal.div (square v g) (Ideal.ofBits FTy.f32 0x3C231ACC#32)) + Ideal.ofBits FTy.f32 0x322BCC77#32)
      + Ideal.ofBits FTy.f32 0x3C23D70A#32 * w)

/-! ## The same over whole arrays -/

variable {a b : ℕ}

def totals (x : (⟨3, ![8, a, b]⟩ : Shape).Idx → EReal) (j : (⟨2, ![a, b]⟩ : Shape).Idx) : EReal := total fun d => x (ix3 d (j 0) (j 1))

def means (m : (⟨2, ![a, b]⟩ : Shape).Idx → EReal) (x : (⟨3, ![8, a, b]⟩ : Shape).Idx → EReal) (j : (⟨2, ![a, b]⟩ : Shape).Idx) : EReal :=
  mean (m j) (totals x j)

def squares (v : (⟨2, ![a, b]⟩ : Shape).Idx → EReal) (x : (⟨3, ![8, a, b]⟩ : Shape).Idx → EReal) (j : (⟨2, ![a, b]⟩ : Shape).Idx) : EReal :=
  square (v j) (totals x j)

def changes (w m v : (⟨2, ![a, b]⟩ : Shape).Idx → EReal) (x : (⟨3, ![8, a, b]⟩ : Shape).Idx → EReal) (j : (⟨2, ![a, b]⟩ : Shape).Idx) : EReal :=
  change (w j) (m j) (v j) (totals x j)

theorem totals_eq (x : (⟨3, ![8, a, b]⟩ : Shape).Idx → EReal) (p : Fin a) (q : Fin b) : totals x (ix2 p q) = ∑ d : Fin 8, x (ix3 d p q) :=
  total_eq _

/-- Two places of a matrix with the same coordinates are the same. -/
theorem place2 {i j : (⟨2, ![a, b]⟩ : Shape).Idx} (h0 : (i 0).val = (j 0).val) (h1 : (i 1).val = (j 1).val) : i = j :=
  funext fun z => Fin.ext (match z with | ⟨0, _⟩ => h0 | ⟨1, _⟩ => h1)

/-- Two places of a stack of matrices with the same coordinates are the same. -/
theorem place3 {c : ℕ} {i j : (⟨3, ![c, a, b]⟩ : Shape).Idx} (h0 : (i 0).val = (j 0).val) (h1 : (i 1).val = (j 1).val)
    (h2 : (i 2).val = (j 2).val) : i = j :=
  funext fun z => Fin.ext (match z with | ⟨0, _⟩ => h0 | ⟨1, _⟩ => h1 | ⟨2, _⟩ => h2)

/-- Equal arguments, equal change. -/
theorem change_congr {w w' m m' v v' g g' : EReal} (hw : w = w') (hm : m = m') (hv : v = v') (hg : g = g') :
    change w m v g = change w' m' v' g' := by rw [hw, hm, hv, hg]

/-- A place of a matrix is a row and a column. -/
theorem split2 (j : (⟨2, ![a, b]⟩ : Shape).Idx) : ∃ (p : Fin a) (q : Fin b), j = ix2 p q := ⟨j 0, j 1, eq_ix2 j⟩

/-- The blocks of a matrix are successive groups of whole rows. -/
abbrev Rows {n : ℕ} (f : Fin n → Fin 2 → ℕ) : Prop := ∀ t, f t 0 = t.val ∧ f t 1 = 0

/-- The blocks of a stack are successive groups of whole rows of each of its matrices. -/
abbrev Stacks {n : ℕ} (f : Fin n → Fin 3 → ℕ) : Prop := ∀ t, f t 0 = 0 ∧ f t 1 = t.val ∧ f t 2 = 0

/-- Where a place of such a block lies in the matrix. -/
theorem row2 {i : (⟨2, ![a, b]⟩ : Shape).Idx} {P : Fin a} {q : Fin b} {T x y t p : ℕ} (e : x = t ∧ y = 0)
    (h0 : (i 0).val = x * T + 1 * p) (h1 : (i 1).val = y * b + 1 * q.val) (hP : P.val = T * t + p) : i = ix2 P q := by
  obtain ⟨rfl, rfl⟩ := e
  exact place2 (h0.trans (by show _ = P.val; rw [hP, mul_comm, one_mul])) (h1.trans (by show _ = q.val; omega))

/-- Where a place of a block lies that is the whole matrix. -/
theorem whole2 {i : (⟨2, ![a, b]⟩ : Shape).Idx} {p : Fin a} {q : Fin b} {x y : ℕ} (e : x = 0 ∧ y = 0)
    (h0 : (i 0).val = x * a + 1 * p.val) (h1 : (i 1).val = y * b + 1 * q.val) : i = ix2 p q := by
  obtain ⟨rfl, rfl⟩ := e
  exact place2 (h0.trans (by show _ = p.val; omega)) (h1.trans (by show _ = q.val; omega))

/-- Where a place of such a block lies in the stack. -/
theorem row3 {i : (⟨3, ![8, a, b]⟩ : Shape).Idx} {d : Fin 8} {P : Fin a} {q : Fin b} {T x y z t p : ℕ} (e : z = 0 ∧ x = t ∧ y = 0)
    (h : (i 0).val = z * 8 + 1 * d.val) (h0 : (i 1).val = x * T + 1 * p) (h1 : (i 2).val = y * b + 1 * q.val) (hP : P.val = T * t + p) :
    i = ix3 d P q := by
  obtain ⟨rfl, rfl, rfl⟩ := e
  exact place3 (h.trans (by show _ = d.val; omega)) (h0.trans (by show _ = P.val; rw [hP, mul_comm, one_mul])) (h1.trans (by show _ = q.val; omega))

end Cert.AdamRow

end
-- ==== Proof.NormArrays.lean ====
/-
  The three result arrays of the norm-gradient kernel after its run, as functions of the argument arrays: the rows are
  visited in eight blocks of 512, each block's gradient written to its own place, the gain's gradient summed over
  the blocks.
-/
module

public import proofs.«01_k».proof.Proof.NormKernel
public import proofs.«01_k».proof.Proof.AdamRow

@[expose] public section

set_option maxRecDepth 16384

noncomputable section

namespace Cert.NormIdeal.Value

open Cert.NormIdeal Cert.NormIdeal.Gen Cert.AdamRow Cert.NormRow Idealize.ShloMosaic Idealize.ShloMosaic.TcCoe Idealize.SL.Sem
open Idealize.ShloMosaic.Pipeline (Dat)

/-! ## Where a block lies in its array -/

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = t.val ∧ win0_2.index t (1 : Fin 2) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 2) = t.val ∧ win0_4.index t (1 : Fin 2) = 0 := (by decide +kernel : ∀ t : Fin grid0.N, _)
theorem at5 : ∀ t : Fin cfg0.N, win0_5.index t (0 : Fin 2) = 0 ∧ win0_5.index t (1 : Fin 2) = 0 := (by decide +kernel : ∀ t : Fin grid0.N, _)
theorem at6 : ∀ t : Fin cfg0.N, win0_6.index t (0 : Fin 2) = t.val ∧ win0_6.index t (1 : Fin 2) = 0 := (by decide +kernel : ∀ t : Fin grid0.N, _)
theorem at7 : ∀ t : Fin cfg0.N, win0_7.index t (0 : Fin 2) = t.val ∧ win0_7.index t (1 : Fin 2) = 0 := (by decide +kernel : ∀ t : Fin grid0.N, _)
theorem at8 : ∀ t : Fin cfg0.N, win0_8.index t (0 : Fin 2) = t.val ∧ win0_8.index t (1 : Fin 2) = 0 := (by decide +kernel : ∀ t : Fin grid0.N, _)
theorem at9 : ∀ t : Fin cfg0.N, win0_9.index t (0 : Fin 2) = 0 ∧ win0_9.index t (1 : Fin 2) = 0 := (by decide +kernel : ∀ t : Fin grid0.N, _)

theorem lt8 (t : Fin cfg0.N) : t.val < 8 := lt_of_lt_of_eq t.isLt N_0

/-- Row `p` of block `t`, in the array. -/
def at_ (t : Fin cfg0.N) (p : Fin 512) : Fin 4096 := ⟨512 * t.val + p.val, by have := lt8 t; omega⟩

theorem emb0 (t : Fin cfg0.N) (p : Fin 512) (k : Fin 2816) : ((cfg0.win 0).blk t).view.emb (ix2 p k) = ix2 (at_ t p) k := row2 (at0 t) rfl rfl rfl
theorem emb1 (t : Fin cfg0.N) (p : Fin 1024) (k : Fin 2816) : ((cfg0.win 1).blk t).view.emb (ix2 p k) = ix2 p k := whole2 (at1 t) rfl rfl
theorem emb2 (t : Fin cfg0.N) (p : Fin 512) (k : Fin 2816) : ((cfg0.win 2).blk t).view.emb (ix2 p k) = ix2 (at_ t p) k := row2 (at2 t) rfl rfl rfl
theorem emb3 (t : Fin cfg0.N) (p : Fin 1024) (k : Fin 2816) : ((cfg0.win 3).blk t).view.emb (ix2 p k) = ix2 p k := whole2 (at3 t) rfl rfl
theorem emb4 (t : Fin cfg0.N) (p : Fin 512) (k : Fin 1024) : ((cfg0.win 4).blk t).view.emb (ix2 p k) = ix2 (at_ t p) k := row2 (at4 t) rfl rfl rfl
theorem emb5 (t : Fin cfg0.N) (k : Fin 1024) : ((cfg0.win 5).blk t).view.emb (ix2 (0 : Fin 1) k) = ix2 (0 : Fin 1) k := whole2 (at5 t) rfl rfl
theorem emb6 (t : Fin cfg0.N) (p : Fin 512) (k : Fin 1024) : ((cfg0.win 6).blk t).view.emb (ix2 p k) = ix2 (at_ t p) k := row2 (at6 t) rfl rfl rfl
theorem emb7 (t : Fin cfg0.N) (p : Fin 512) (k : Fin 1024) : ((cfg0.win 7).blk t).view.emb (ix2 p k) = ix2 (at_ t p) k := row2 (at7 t) rfl rfl rfl
theorem emb8 (t : Fin cfg0.N) (p : Fin 512) (k : Fin 1024) : ((cfg0.win 8).blk t).view.emb (ix2 p k) = ix2 (at_ t p) k := row2 (at8 t) rfl rfl rfl
theorem emb9 (t : Fin cfg0.N) (k : Fin 1024) : ((cfg0.win 9).blk t).view.emb (ix2 (0 : Fin 1) k) = ix2 (0 : Fin 1) k := whole2 (at9 t) rfl rfl

/-! ## The arrays -/

variable (m : (ℓ : Loc nD τ sig) → Buf (Elt Ideal) ℓ) (ρ : Dev nD → PrngReg)

/-- The norm argument's gradient, as one array. -/
def DX (c : Dev nD) : S4096x1024.Idx → EReal := fun j =>
  dxAt (n := 4096) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (j 0) (j 1)

/-- What row `p` of the arrays adds to the gain's gradient at column `q`. -/
def DGrow (c : Dev nD) (p : Fin 4096) (q : Fin 1024) : EReal :=
  dgAt (n := 4096) (m ((c : Thread nD τ).loc main_arg0)) (m ((c : Thread nD τ).loc main_arg1)) (m ((c : Thread nD τ).loc main_arg2))
    (m ((c : Thread nD τ).loc main_arg3)) (m ((c : Thread nD τ).loc main_arg4)) p q

/-- The gain's gradient. -/
def DG (c : Dev nD) : S1x1024.Idx → EReal := fun j => ∑ p : Fin 4096, DGrow m c p (j 1)

theorem iblk0_apply (c : Dev nD) (t : Fin cfg0.N) (p : Fin 512) (k : Fin 2816) :
    (iblk m c 0 t : Vec Ideal S512x2816 .bf16) (ix2 p k) = m ((c : Thread nD τ).loc main_arg0) (ix2 (at_ t p) k) := by
  show V m c main_arg0 (((cfg0.win 0).blk t).view.emb (ix2 p k)) = _; rw [emb0, V_main_arg0]
theorem iblk1_apply (c : Dev nD) (t : Fin cfg0.N) (p : Fin 1024) (k : Fin 2816) :
    (iblk m c 1 t : Vec Ideal S1024x2816 .bf16) (ix2 p k) = m ((c : Thread nD τ).loc main_arg1) (ix2 p k) := by
  show V m c main_arg1 (((cfg0.win 1).blk t).view.emb (ix2 p k)) = _; rw [emb1, V_main_arg1]
theorem iblk2_apply (c : Dev nD) (t : Fin cfg0.N) (p : Fin 512) (k : Fin 2816) :
    (iblk m c 2 t : Vec Ideal S512x2816 .bf16) (ix2 p k) = m ((c : Thread nD τ).loc main_arg2) (ix2 (at_ t p) k) := by
  show V m c main_arg2 (((cfg0.win 2).blk t).view.emb (ix2 p k)) = _; rw [emb2, V_main_arg2]
theorem iblk3_apply (c : Dev nD) (t : Fin cfg0.N) (p : Fin 1024) (k : Fin 2816) :
    (iblk m c 3 t : Vec Ideal S1024x2816 .bf16) (ix2 p k) = m ((c : Thread nD τ).loc main_arg3) (ix2 p k) := by
  show V m c main_arg3 (((cfg0.win 3).blk t).view.emb (ix2 p k)) = _; rw [emb3, V_main_arg3]
theorem iblk4_apply (c : Dev nD) (t : Fin cfg0.N) (p : Fin 512) (k : Fin 1024) :
    (iblk m c 4 t : Vec Ideal S512x1024 .f32) (ix2 p k) = m ((c : Thread nD τ).loc main_arg4) (ix2 (at_ t p) k) := by
  show V m c main_arg4 (((cfg0.win 4).blk t).view.emb (ix2 p k)) = _; rw [emb4, V_main_arg4]
theorem iblk5_apply (c : Dev nD) (t : Fin cfg0.N) (k : Fin 1024) :
    (iblk m c 5 t : Vec Ideal S1x1024 .f32) (ix2 0 k) = m ((c : Thread nD τ).loc main_arg5) (ix2 0 k) := by
  show V m c main_arg5 (((cfg0.win 5).blk t).view.emb (ix2 (0 : Fin 1) k)) = _; rw [emb5, V_main_arg5]
theorem iblk6_apply (c : Dev nD) (t : Fin cfg0.N) (p : Fin 512) (k : Fin 1024) :
    (iblk m c 6 t : Vec Ideal S512x1024 .f32) (ix2 p k) = m ((c : Thread nD τ).loc main_arg6) (ix2 (at_ t p) k) := by
  show V m c main_arg6 (((cfg0.win 6).blk t).view.emb (ix2 p k)) = _; rw [emb6, V_main_arg6]

theorem row_iblk (c : Dev nD) (t : Fin cfg0.N) (p : Fin 512) :
    row (n := 512) (iblk m c 4 t) p = row (n := 4096) (m ((c : Thread nD τ).loc main_arg4)) (at_ t p) :=
  funext fun k => iblk4_apply m c t p k

/-- The gradient of a row of the block is the gradient of that row of the array. -/
theorem dxAt_iblk (c : Dev nD) (t : Fin cfg0.N) (p : Fin 512) (q : Fin 1024) :
    dxAt (n := 512) (iblk m c 0 t) (iblk m c 1 t) (iblk m c 2 t) (iblk m c 3 t) (iblk m c 4 t) (iblk m c 5 t) (iblk m c 6 t) p q
      = DX m c (ix2 (at_ t p) q) := by
  simp only [DX, dxAt, dy, row_iblk, iblk0_apply, iblk1_apply, iblk2_apply, iblk3_apply, iblk4_apply, iblk5_apply, iblk6_apply]
  rfl

theorem dgAt_iblk (c : Dev nD) (t : Fin cfg0.N) (p : Fin 512) (q : Fin 1024) :
    dgAt (n := 512) (iblk m c 0 t) (iblk m c 1 t) (iblk m c 2 t) (iblk m c 3 t) (iblk m c 4 t) p q
      = DGrow m c (at_ t p) q := by
  simp only [DGrow, dgAt, rr, dy, row_iblk, iblk0_apply, iblk1_apply, iblk2_apply, iblk3_apply, iblk4_apply]

/-! ## The gradient of the norm's argument: one block a point -/

theorem outs7 (c : Dev nD) (t : Fin cfg0.N) : (outsAt0 m c t.val t.isLt).1
    = k0_pay6 (iblk m c 0 t) (iblk m c 1 t) (iblk m c 2 t) (iblk m c 3 t) (iblk m c 4 t) (iblk m c 5 t) (iblk m c 6 t) := by
  by_cases h : t.val % 8 = 0
  · have h1 : ¬1 ≤ t.val := by have := lt8 t; omega
    rw [outsAt0_A m c t h h1]; dsimp only; rw [(outs_A ..).1]
  · have h1 : 1 ≤ t.val := by omega
    rw [outsAt0_B m c t h h1]; dsimp only; rw [(outs_B ..).1]

theorem outs8 (c : Dev nD) (t : Fin cfg0.N) : (outsAt0 m c t.val t.isLt).2.1
    = k0_pay7 (iblk m c 0 t) (iblk m c 1 t) (iblk m c 2 t) (iblk m c 3 t) (iblk m c 4 t) (iblk m c 5 t) (iblk m c 6 t) := by
  by_cases h : t.val % 8 = 0
  · have h1 : ¬1 ≤ t.val := by have := lt8 t; omega
    rw [outsAt0_A m c t h h1]; dsimp only; rw [(outs_A ..).2.1]
  · have h1 : 1 ≤ t.val := by omega
    rw [outsAt0_B m c t h h1]; dsimp only; rw [(outs_B ..).2.1]

theorem flushed7_eq (c : Dev nD) (t : Fin cfg0.N) :
    (dats m 0 c).flushed 7 t = ((cfg0.win 7).blk t).view.read (Elt Ideal) (DX m c) := by
  rw [flushed7, outs7]
  funext j
  obtain ⟨p, q, rfl⟩ : ∃ (p : Fin 512) (q : Fin 1024), j = ix2 p q := ⟨j 0, j 1, eq_ix2 j⟩
  show k0_pay6 (F := Ideal) _ _ _ _ _ _ _ (ix2 p q) = DX m c (((cfg0.win 7).blk t).view.emb (ix2 p q))
  rw [emb7, pay6_apply, dxAt_iblk]

theorem flushed8_eq (c : Dev nD) (t : Fin cfg0.N) :
    (dats m 0 c).flushed 8 t = ((cfg0.win 8).blk t).view.read (Elt Ideal) (DX m c) := by
  rw [flushed8, outs8]
  funext j
  obtain ⟨p, q, rfl⟩ : ∃ (p : Fin 512) (q : Fin 1024), j = ix2 p q := ⟨j 0, j 1, eq_ix2 j⟩
  show k0_pay6 (F := Ideal) _ _ _ _ _ _ _ (ix2 p q) = DX m c (((cfg0.win 8).blk t).view.emb (ix2 p q))
  rw [emb8, pay6_apply, dxAt_iblk]

/-- The grid point whose block holds array row `i`, and the row's place in it. -/
theorem row_in_block (i : Fin 4096) : ∃ (t : Fin cfg0.N) (p : Fin 512), at_ t p = i :=
  ⟨⟨i.val / 512, by rw [show cfg0.N = 8 from N_0]; omega⟩, ⟨i.val % 512, by omega⟩, Fin.ext (by show 512 * (i.val / 512) + i.val % 512 = i.val; omega)⟩

theorem final7 (c : Dev nD) : (dats m 0 c).arrAt 7 cfg0.N = DX m c :=
  (dats m 0 c).arrAt_eq_of_cover 7 (DX m c) (fun t _ => flushed7_eq m c t) fun i => by
    obtain ⟨t, p, hp⟩ := row_in_block (i 0)
    refine ⟨t, flush0_7 t, ?_⟩
    have e : ((cfg0.win 7).blk t).view.emb (ix2 p (i 1 : Fin 1024)) = i :=
      (emb7 t p _).trans ((congrArg (fun z => ix2 z (i 1 : Fin 1024)) hp).trans (eq_ix2 i).symm)
    exact e ▸ ((cfg0.win 7).blk t).view.emb_mem_set (ix2 p (i 1 : Fin 1024))

theorem final8 (c : Dev nD) : (dats m 0 c).arrAt 8 cfg0.N = DX m c :=
  (dats m 0 c).arrAt_eq_of_cover 8 (DX m c) (fun t _ => flushed8_eq m c t) fun i => by
    obtain ⟨t, p, hp⟩ := row_in_block (i 0)
    refine ⟨t, flush0_8 t, ?_⟩
    have e : ((cfg0.win 8).blk t).view.emb (ix2 p (i 1 : Fin 1024)) = i :=
      (emb8 t p _).trans ((congrArg (fun z => ix2 z (i 1 : Fin 1024)) hp).trans (eq_ix2 i).symm)
    exact e ▸ ((cfg0.win 8).blk t).view.emb_mem_set (ix2 p (i 1 : Fin 1024))

/-! ## The gain's gradient: summed over the points -/

/-- A function of the array's rows, extended by zero past the last row. -/
def rowsExt (f : Fin 4096 → EReal) (n : Nat) : EReal := if h : n < 4096 then f ⟨n, h⟩ else 0

theorem outs9 (c : Dev nD) (q : Fin 1024) : ∀ (n : Nat) (h : n < cfg0.N),
    (outsAt0 m c n h).2.2 (ix2 0 q) = ∑ i ∈ Finset.range (512 * (n + 1)), rowsExt (fun p => DGrow m c p q) i := by
  have block (t : Fin cfg0.N) : ∑ p : Fin 512, dgAt (n := 512) (iblk m c 0 t) (iblk m c 1 t) (iblk m c 2 t) (iblk m c 3 t) (iblk m c 4 t) p q
      = ∑ k ∈ Finset.range 512, rowsExt (fun p => DGrow m c p q) (512 * t.val + k) := by
    rw [← Fin.sum_univ_eq_sum_range (fun k => rowsExt (fun p => DGrow m c p q) (512 * t.val + k)) 512]
    refine Finset.sum_congr rfl fun p _ => ?_
    rw [dgAt_iblk, rowsExt, dif_pos (show 512 * t.val + p.val < 4096 by have := lt8 t; omega)]
    rfl
  intro n
  induction n with
  | zero =>
    intro h
    rw [show outsAt0 m c 0 h = outsAt0 m c (⟨0, h⟩ : Fin cfg0.N).val (⟨0, h⟩ : Fin cfg0.N).isLt from rfl,
      outsAt0_A m c ⟨0, h⟩ (Nat.zero_mod _) (Nat.not_succ_le_zero 0)]
    dsimp only
    rw [(outs_A ..).2.2, pay1_apply, block]
    simp
  | succ n ih =>
    intro h
    have hN : n + 1 < 8 := lt_of_lt_of_eq h N_0
    have e := outsAt0_B m c ⟨n + 1, h⟩ (by dsimp only; omega) (by dsimp only; omega)
    rw [show outsAt0 m c (n + 1) h = outsAt0 m c (⟨n + 1, h⟩ : Fin cfg0.N).val (⟨n + 1, h⟩ : Fin cfg0.N).isLt from rfl, e]
    dsimp only
    rw [(outs_B ..).2.2, pay2_apply, block]
    simp only [Nat.add_sub_cancel]
    rw [ih, show 512 * (n + 1 + 1) = 512 * (n + 1) + 512 by ring, Finset.sum_range_add]

theorem flushed9_eq (c : Dev nD) (t : Fin cfg0.N) (hf : (cfg0.win 9).flush t = true) :
    (dats m 0 c).flushed 9 t = ((cfg0.win 9).blk t).view.read (Elt Ideal) (DG m c) := by
  have h7 : t.val = 7 := by have := (flush0_9 t).mp hf; have := lt8 t; omega
  rw [flushed9]
  funext j
  obtain ⟨p, q, rfl⟩ : ∃ (p : Fin 1) (q : Fin 1024), j = ix2 p q := ⟨j 0, j 1, eq_ix2 j⟩
  obtain rfl : p = 0 := Subsingleton.elim _ _
  show (outsAt0 m c t.val t.isLt).2.2 (ix2 0 q) = DG m c (((cfg0.win 9).blk t).view.emb (ix2 (0 : Fin 1) q))
  rw [emb9, outs9, h7]
  show ∑ i ∈ Finset.range 4096, _ = ∑ p : Fin 4096, DGrow m c p q
  rw [← Fin.sum_univ_eq_sum_range (rowsExt fun p => DGrow m c p q) 4096]
  exact Finset.sum_congr rfl fun p _ => dif_pos p.isLt

theorem final9 (c : Dev nD) : (dats m 0 c).arrAt 9 cfg0.N = DG m c :=
  (dats m 0 c).arrAt_eq_of_cover 9 (DG m c) (flushed9_eq m c) fun i => by
    have hN : 7 < cfg0.N := by rw [show cfg0.N = 8 from N_0]; decide
    refine ⟨⟨7, hN⟩, (flush0_9 _).mpr rfl, ?_⟩
    have e : ((cfg0.win 9).blk ⟨7, hN⟩).view.emb (ix2 (0 : Fin 1) (i 1 : Fin 1024)) = i :=
      (emb9 _ _).trans ((congrArg (fun z => ix2 z (i 1 : Fin 1024)) (Subsingleton.elim (0 : Fin 1) (i 0))).trans (eq_ix2 i).symm)
    exact e ▸ ((cfg0.win 9).blk ⟨7, hN⟩).view.emb_mem_set (ix2 (0 : Fin 1) (i 1 : Fin 1024))

/-- The run, its three results named. -/
theorem run : θ_run defs (onTc (τ := τ) (main (F := Ideal))) ⟨m, fun _ => 0, ρ⟩ fun r => ∀ c : Dev nD,
      r.2.mem ((c : Thread nD τ).loc main_v0_0) = DX m c
      ∧ r.2.mem ((c : Thread nD τ).loc main_v0_1) = DX m c
      ∧ r.2.mem ((c : Thread nD τ).loc main_v0_2) = DG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c),
    (h c).2.2.1.trans (final9 m c), (h c).2.2.2⟩) (run_blocks m ρ)

end Cert.NormIdeal.Value

end
-- ==== Proof.NormReference.lean ====
/-
  The derivative of the forward lines of the norm and the two products, read as the same functions of the arguments.
-/
module

public import proofs.«01_k».proof.Proof.Gen.NormRefIdeal.Read
public import proofs.«01_k».proof.Proof.NormArrays

@[expose] public section

set_option maxRecDepth 16384

noncomputable section

namespace Cert.NormRefIdeal.Read

open Cert.NormRefIdeal Cert.NormRefIdeal.Gen Cert.NormRow Idealize.ShloMosaic Idealize.ShloMosaic.TcCoe Idealize.SL.Sem Idealize.ShloMosaic.StableHlo
open Cert.NormIdeal.Value (dy row rr dxAt dgAt rowLen smallEps)

/-- The printed constants, as real numbers. -/
theorem rowLen_eq : rowLen = ((1024 : ℝ) : EReal) := by
  simp [rowLen, Ideal.ofBits, Ideal.ieee]; rw [← EReal.coe_mul]; norm_num
theorem smallEps_pos : ∃ ε : ℝ, 0 < ε ∧ smallEps = (ε : EReal) := by
  simp only [smallEps, Ideal.ofBits, Ideal.ieee]
  exact ⟨(8796093 : ℝ) * ((2 : ℝ) ^ 43)⁻¹, by positivity, by simp⟩
theorem minusHalf_eq : Ideal.ofBits FTy.f32 0xBF000000#32 = ((-(1 / 2) : ℝ) : EReal) := by
  simp [Ideal.ofBits, Ideal.ieee]; rw [← EReal.coe_mul]; norm_num

variable (x0 : (⟨S4096x2816, .bf16⟩ : BufTy).Contents (Elt Ideal)) (x1 : (⟨S1024x2816, .bf16⟩ : BufTy).Contents (Elt Ideal))
  (x2 : (⟨S4096x2816, .bf16⟩ : BufTy).Contents (Elt Ideal)) (x3 : (⟨S1024x2816, .bf16⟩ : BufTy).Contents (Elt Ideal))
  (x4 : (⟨S4096x1024, .f32⟩ : BufTy).Contents (Elt Ideal)) (x5 : (⟨S1x1024, .f32⟩ : BufTy).Contents (Elt Ideal))
  (x6 : (⟨S4096x1024, .f32⟩ : BufTy).Contents (Elt Ideal))

/-- The mean of the squares of a row plus the small constant. -/
theorem v8_apply (p : Fin 4096) : val_main_v8 (F := Ideal) x4 (ix2 p 0)
    = Ideal.div (∑ j, row x4 p j * row x4 p j) rowLen + smallEps := by
  pointwise [val_main_v8, val_main_v7, val_main_v6, val_main_v5, val_main_v4, val_main_v3, val_main_v2, val_main_cst, val_main_cst_0, val_main_cst_1]

theorem v9_apply (p : Fin 4096) : val_main_v9 (F := Ideal) x4 (ix2 p 0) = rr x4 p := by
  pointwise [val_main_v9]
  rw [v8_apply]; rfl

theorem v23_apply (p : Fin 4096) (q : Fin 1024) : val_main_v23 (F := Ideal) x0 x1 x2 x3 (ix2 p q) = dy x0 x1 x2 x3 p q := by
  pointwise [val_main_v23, val_main_v22, val_main_v21, val_main_v20, val_main_v19, val_main_v1, val_main_v0]
  exact add_comm _ _

theorem v28_apply (p : Fin 4096) (q : Fin 1024) :
    val_main_v28 (F := Ideal) x0 x1 x2 x3 x5 (ix2 p q) = dy x0 x1 x2 x3 p q * x5 (ix2 0 q) := by
  pointwise [val_main_v28, val_main_v27]
  rw [v23_apply]

theorem v39_apply (p : Fin 4096) (q : Fin 1024) :
    val_main_v39 (F := Ideal) x0 x1 x2 x3 x4 x5 (ix2 p q)
      = gradMean rowLen smallEps (Ideal.ofBits FTy.f32 0xBF000000#32) (row x4 p) (fun k => dy x0 x1 x2 x3 p k * x5 (ix2 0 k)) := by
  pointwise [val_main_v39, val_main_v38, val_main_v37, val_main_v36, val_main_v35, val_main_v31, val_main_v30, val_main_v29, val_main_v12,
    val_main_v11, val_main_v10, val_main_cst_2, val_main_cst_4, val_main_cst_5, val_main_cst_6]
  refine (Finset.sum_congr rfl fun z _ => ?_).trans (Fin.sum_univ_one fun _ => gradMean rowLen smallEps _ (row x4 p)
    fun k => dy x0 x1 x2 x3 p k * x5 (ix2 0 k))
  obtain rfl : z = 0 := Subsingleton.elim _ _
  simp only [v28_apply, v8_apply, v9_apply]
  rfl

/-- The derivative with respect to the norm's argument is the kernel's form of it. -/
theorem v43_apply (p : Fin 4096) (q : Fin 1024) :
    val_main_v43 (F := Ideal) x0 x1 x2 x3 x4 x5 x6 (ix2 p q) = dxAt x0 x1 x2 x3 x4 x5 x6 p q := by
  pointwise [val_main_v43, val_main_v42, val_main_v41, val_main_v40, val_main_v34, val_main_v33, val_main_v32]
  rw [v28_apply, v9_apply, v39_apply]
  obtain ⟨ε, hε, e⟩ := smallEps_pos
  unfold dxAt rr
  rw [e, rowLen_eq, kernelDx_eq 1024 ε (by norm_num) hε, minusHalf_eq]
  rfl

/-- The derivative with respect to the gain. -/
theorem v26_apply (q : Fin 1024) :
    val_main_v26 (F := Ideal) x0 x1 x2 x3 x4 (ix2 0 q) = ∑ p : Fin 4096, dgAt x0 x1 x2 x3 x4 p q := by
  pointwise [val_main_v26, val_main_v25, val_main_v24, val_main_v14, val_main_v13, val_main_cst_3]
  refine Finset.sum_congr rfl fun p _ => ?_
  rw [v9_apply, v23_apply, mul_comm]
  rfl

end Cert.NormRefIdeal.Read

end
-- ==== Proof.NormClaims.lean ====
/- The claims about the product with the norm's derivative, put together: the two programs end with the same three arrays. -/
module

public import proofs.«01_k».proof.Defs
public import proofs.«01_k».proof.Proof.Gen.Norm.Frame
public import proofs.«01_k».proof.Proof.Gen.NormIdeal.Frame
public import proofs.«01_k».proof.Proof.Gen.NormRefIdeal.Run
public import proofs.«01_k».proof.Proof.NormArrays
public import proofs.«01_k».proof.Proof.NormReference
public import Idealize.ShloMosaic.Lib.Quiescent

@[expose] public section

noncomputable section

namespace Cert.Proof

open Idealize.ShloMosaic Idealize.SL.Sem
open Cert.NormRefIdeal.Read

/-- The reference stops with its arguments unchanged; it has no semaphore whose counter could differ from zero. -/
theorem normRef_frame : quiescent_NormRefIdeal := fun m ρ _ =>
  (θ_run _ _ _).mono (fun r h => ⟨fun c => (h c).2.2.2, sem_eq_zero_of_no_sems (by decide) r.2⟩)
    (Cert.NormRefIdeal.Value.run (F := Ideal) m ρ)

/-- The kernel and the derivative of the norm after the two products end with equal results. -/
theorem norm_algebraic : algebraic_NormIdeal_NormRefIdeal := fun m ρ m' ρ' _ hag => by
  refine ⟨fun c => Cert.NormIdeal.Value.DX m c, fun c => Cert.NormIdeal.Value.DX m c, fun c => Cert.NormIdeal.Value.DG m c,
    Cert.NormIdeal.Value.run m ρ, (θ_run _ _ _).mono (fun r h c => ?_) (Cert.NormRefIdeal.Value.run (F := Ideal) m' ρ')⟩
  obtain ⟨h0, h1, h2, h3⟩ := h c
  obtain ⟨a0, a1, a2, a3, a4, a5, a6⟩ := hag c
  have e43 : ∀ (p : Fin 4096) (q : Fin 1024), Cert.NormRefIdeal.Value.res_main_v43 m' c (ix2 p q)
      = Cert.NormIdeal.Value.DX m c (ix2 p q) := fun p q => by
    rw [val_main_v43_eq, a0, a1, a2, a3, a4, a5, a6]
    exact v43_apply _ _ _ _ _ _ _ p q
  refine ⟨h0.trans (funext fun i => ?_), h1.trans (funext fun i => ?_), h2.trans (funext fun i => ?_), h3⟩
  · rw [eq_ix2 i]; exact e43 _ _
  · rw [eq_ix2 i, val_main_v44_eq]
    refine Eq.trans ?_ (e43 _ _)
    rw [val_main_v43_eq]; rfl
  · obtain ⟨p, q, rfl⟩ : ∃ (p : Fin 1) (q : Fin 1024), i = ix2 p q := ⟨i 0, i 1, eq_ix2 i⟩
    obtain rfl : p = 0 := Subsingleton.elim _ _
    rw [val_main_v26_eq, a0, a1, a2, a3, a4]
    exact v26_apply _ _ _ _ _ q

end Cert.Proof

end
-- ==== Proof.WgradKernel.lean ====
/-
  One grid point of the kernel that forms a weight's gradient: the product of a block of 512 rows of the activations,
  transposed, with the same rows of the gradients is added to an accumulator, 256 of its rows at a time.
-/
module

public import proofs.«01_k».proof.Proof.Gen.WgradIdeal.Value
public import Idealize.ShloMosaic.Lib.Pointwise
public import Idealize.ShloMosaic.Lib.Tactic

@[expose] public section

set_option maxRecDepth 16384

noncomputable section

namespace Cert.WgradIdeal.Value

open Cert.WgradIdeal Cert.WgradIdeal.Gen Idealize.ShloMosaic Idealize.ShloMosaic.TcCoe Idealize.SL.Sem

/-- What one point adds to the accumulator at row `p`, column `q`. -/
def addAt (x : Vec Ideal S512x1024 .bf16) (d : Vec Ideal S512x2816 .bf16) (p : Fin 1024) (q : Fin 2816) : EReal :=
  ∑ k : Fin 512, x (ix2 k p) * d (ix2 k q)

theorem pay1_apply (p : Fin 1024) (q : Fin 2816) : k0_pay1 (F := Ideal) (ix2 p q) = 0 := by
  pointwise [k0_pay1]

theorem pay2_apply (a : Vec Ideal S256x2816 .f32) (x : Vec Ideal S512x256 .bf16) (d : Vec Ideal S512x2816 .bf16) (p : Fin 256) (q : Fin 2816) :
    k0_pay2 (F := Ideal) a x d (ix2 p q) = a (ix2 p q) + ∑ k : Fin 512, x (ix2 k p) * d (ix2 k q) := by
  pointwise [k0_pay2]

theorem pay3_apply (a : Vec Ideal S256x2816 .f32) (p : Fin 256) (q : Fin 2816) : k0_pay3 (F := Ideal) a (ix2 p q) = a (ix2 p q) := by
  pointwise [k0_pay3]

theorem off1_eq : ∀ k : Fin k0_t1_loop.trips, k0_off1 k = ![256 * k.val, 0] := (by decide +kernel)
theorem off2_eq : ∀ k : Fin k0_t1_loop.trips, k0_off2 k = ![0, 256 * k.val] := (by decide +kernel)
theorem off3_eq : ∀ k : Fin k0_t2_loop.trips, k0_off3 k = ![256 * k.val, 0] := (by decide +kernel)
theorem trips1 : k0_t1_loop.trips = 4 := (by decide +kernel)
theorem trips2 : k0_t2_loop.trips = 4 := (by decide +kernel)

variable (𝒱 : Variants) (c : Dev nD) (bd : Option 𝒱.V) (i : grid0.Coords)
  (a1 : Memref sig .tc .vmem S512x1024 .bf16) (h1 : a1.IsWhole) (a2 : Memref sig .tc .vmem S512x2816 .bf16) (h2 : a2.IsWhole)
  (a3 : Memref sig .tc .vmem S1024x2816 .bf16) (h3 : a3.IsWhole) (a4 : Memref sig .tc .vmem S1024x2816 .f32) (h4 : a4.IsWhole)

/-- One trip of the accumulating loop stores one block of 256 rows. -/
theorem trip1_eq (X1 : BufTy.Contents (Elt Ideal) a1.view.ty) (X2 : BufTy.Contents (Elt Ideal) a2.view.ty) (f : BufTy.Contents (Elt Ideal) a4.view.ty)
    (k : Fin k0_t1_loop.trips) :
    tripL_k0_t1 (F := Ideal) 𝒱 c bd i a1 h1 a2 h2 a3 h3 a4 h4 X1 X2 k f
      = [⟨Rect.unit (s := S1024x2816) (k0_off1 k) S256x2816.size (k0_off1_inb k),
          k0_pay2 (F := Ideal) (View.readAt (Elt Ideal) a4.view (Rect.unit (s := S1024x2816) (k0_off1 k) S256x2816.size (k0_off1_inb k)).toLoadRect f)
            (View.readAt (Elt Ideal) a1.view (Rect.unit (s := S512x1024) (k0_off2 k) S512x256.size (k0_off2_inb k)).toLoadRect X1)
            (View.readAt (Elt Ideal) a2.view (Rect.unit (s := S512x2816) ![0, 0] S512x2816.size inb_S512x2816_S512x2816_0_0).toLoadRect X2)⟩] := by
  unfold tripL_k0_t1 trip_k0_t1
  rfl

/-- One trip of the emitting loop stores one block of 256 rows. -/
theorem trip2_eq (hk2 : k0_cond2 i = 1#1) (X4 : BufTy.Contents (Elt Ideal) a4.view.ty) (k : Fin k0_t2_loop.trips) :
    tripL_k0_t2 (F := Ideal) 𝒱 c bd i a1 h1 a2 h2 a3 h3 a4 h4 hk2 X4 k
      = [⟨Rect.unit (s := S1024x2816) (k0_off3 k) S256x2816.size (k0_off3_inb i k hk2),
          k0_pay3 (F := Ideal) (View.readAt (Elt Ideal) a4.view (Rect.unit (s := S1024x2816) (k0_off3 k) S256x2816.size (k0_off3_inb i k hk2)).toLoadRect X4)⟩] := by
  unfold tripL_k0_t2 trip_k0_t2
  rfl

/-- After `n` trips the first `256 n` rows have their addition, the others have what they held. -/
theorem read_loop1 (x : Vec Ideal S512x1024 .bf16) (d : Vec Ideal S512x2816 .bf16) (g : BufTy.Contents (Elt Ideal) a4.view.ty)
    (p : Fin 1024) (q : Fin 2816) : ∀ n : ℕ, n ≤ 4 →
    a4.view.read (Elt Ideal) (a4.view.writes (Elt Ideal) g
        (pb_k0_t1 (F := Ideal) 𝒱 c bd i a1 h1 a2 h2 a3 h3 a4 h4 (h1.unread x) (h2.unread d) g n)) (ix2 p q)
      = if p.val < 256 * n then a4.view.read (Elt Ideal) g (ix2 p q) + addAt x d p q else a4.view.read (Elt Ideal) g (ix2 p q) := by
  intro n
  induction n with
  | zero => intro _; rw [if_neg (by omega)]; rfl
  | succ n ih =>
    intro hn
    have hk : n < k0_t1_loop.trips := by rw [trips1]; omega
    rw [show n + 1 = (⟨n, hk⟩ : Fin k0_t1_loop.trips).val + 1 from rfl, pb_k0_t1_succ, trip1_eq]
    rw [List.singleton_append]
    by_cases hp : 256 * n ≤ p.val ∧ p.val < 256 * (n + 1)
    · have hin : (Rect.unit (s := S1024x2816) (k0_off1 ⟨n, hk⟩) S256x2816.size (k0_off1_inb ⟨n, hk⟩)).emb
          (ix2 (⟨p.val - 256 * n, by omega⟩ : Fin 256) q) = ix2 p q := by
        refine Rect.emb_eq_of_coords _ _ _ fun a => ?_
        match a with
        | ⟨0, _⟩ => show p.val = k0_off1 ⟨n, hk⟩ 0 + 1 * (p.val - 256 * n); rw [off1_eq]; show p.val = 256 * n + 1 * (p.val - 256 * n); omega
        | ⟨1, _⟩ => show q.val = k0_off1 ⟨n, hk⟩ 1 + 1 * q.val; rw [off1_eq]; show q.val = 0 + 1 * q.val; omega
      have hx (r : Fin 512) : (Rect.unit (s := S512x1024) (k0_off2 ⟨n, hk⟩) S512x256.size (k0_off2_inb ⟨n, hk⟩)).emb
          (ix2 r (⟨p.val - 256 * n, by omega⟩ : Fin 256)) = ix2 r p := by
        refine Rect.emb_eq_of_coords _ _ _ fun a => ?_
        match a with
        | ⟨0, _⟩ => show r.val = k0_off2 ⟨n, hk⟩ 0 + 1 * r.val; rw [off2_eq]; show r.val = 0 + 1 * r.val; omega
        | ⟨1, _⟩ => show p.val = k0_off2 ⟨n, hk⟩ 1 + 1 * (p.val - 256 * n); rw [off2_eq]; show p.val = 256 * n + 1 * (p.val - 256 * n); omega
      rw [View.read_writes_cons_hit a4.view g _ _ _ _ _ hin, pay2_apply, if_pos hp.2]
      refine congrArg₂ (· + ·) ?_ (Finset.sum_congr rfl fun r _ => congrArg₂ (· * ·) ?_ ?_)
      · refine (congrArg (a4.view.read (Elt Ideal) _) hin).trans ?_
        rw [ih (by omega), if_neg (by omega)]
      · refine (congrArg (a1.view.read (Elt Ideal) (h1.unread x)) (hx r)).trans ?_
        rw [h1.read_unread]
      · rw [View.readAt_eq_ld, h2.read_unread, View.ld_unit_zero (S := S512x2816) (by decide)]
    · rw [View.read_writes_cons_miss_of_axis a4.view g _ _ (ix2 p q) 0 (256 * n) 256
        (by show k0_off1 ⟨n, hk⟩ 0 = 256 * n; rw [off1_eq]; rfl) rfl rfl (by show p.val < 256 * n ∨ 256 * n + 256 ≤ p.val; omega), ih (by omega)]
      by_cases hq : p.val < 256 * n
      · rw [if_pos hq, if_pos (by dsimp only; omega)]
      · rw [if_neg hq, if_neg (by dsimp only; omega)]

/-- After the four trips every element has its addition. -/
theorem read_loop1_all (x : Vec Ideal S512x1024 .bf16) (d : Vec Ideal S512x2816 .bf16) (g : BufTy.Contents (Elt Ideal) a4.view.ty)
    (p : Fin 1024) (q : Fin 2816) :
    a4.view.read (Elt Ideal) (a4.view.writes (Elt Ideal) g
        (pb_k0_t1 (F := Ideal) 𝒱 c bd i a1 h1 a2 h2 a3 h3 a4 h4 (h1.unread x) (h2.unread d) g 4)) (ix2 p q)
      = a4.view.read (Elt Ideal) g (ix2 p q) + addAt x d p q := by
  rw [read_loop1 𝒱 c bd i a1 h1 a2 h2 a3 h3 a4 h4 x d g p q 4 le_rfl, if_pos (by omega)]

/-- After `n` trips of the emitting loop the first `256 n` rows of the result hold the accumulator's. -/
theorem read_loop2 (hk2 : k0_cond2 i = 1#1) (X4 : BufTy.Contents (Elt Ideal) a4.view.ty) (g : BufTy.Contents (Elt Ideal) a3.view.ty)
    (p : Fin 1024) (q : Fin 2816) : ∀ n : ℕ, n ≤ 4 → p.val < 256 * n →
    a3.view.read (Elt Ideal) (a3.view.writes (Elt Ideal) g
        (pb_k0_t2 (F := Ideal) 𝒱 c bd i a1 h1 a2 h2 a3 h3 a4 h4 hk2 X4 n)) (ix2 p q)
      = a4.view.read (Elt Ideal) X4 (ix2 p q) := by
  intro n
  induction n with
  | zero => intro _ h; omega
  | succ n ih =>
    intro hn hpn
    have hk : n < k0_t2_loop.trips := by rw [trips2]; omega
    rw [show n + 1 = (⟨n, hk⟩ : Fin k0_t2_loop.trips).val + 1 from rfl, pb_k0_t2_succ, trip2_eq]
    rw [List.singleton_append]
    by_cases hp : 256 * n ≤ p.val
    · have hin : (Rect.unit (s := S1024x2816) (k0_off3 ⟨n, hk⟩) S256x2816.size (k0_off3_inb i ⟨n, hk⟩ hk2)).emb
          (ix2 (⟨p.val - 256 * n, by omega⟩ : Fin 256) q) = ix2 p q := by
        refine Rect.emb_eq_of_coords _ _ _ fun a => ?_
        match a with
        | ⟨0, _⟩ => show p.val = k0_off3 ⟨n, hk⟩ 0 + 1 * (p.val - 256 * n); rw [off3_eq]; show p.val = 256 * n + 1 * (p.val - 256 * n); omega
        | ⟨1, _⟩ => show q.val = k0_off3 ⟨n, hk⟩ 1 + 1 * q.val; rw [off3_eq]; show q.val = 0 + 1 * q.val; omega
      rw [View.read_writes_cons_hit a3.view g _ _ _ _ _ hin, pay3_apply]
      exact congrArg (a4.view.read (Elt Ideal) X4) hin
    · rw [View.read_writes_cons_miss_of_axis a3.view g _ _ (ix2 p q) 0 (256 * n) 256
        (by show k0_off3 ⟨n, hk⟩ 0 = 256 * n; rw [off3_eq]; rfl) rfl rfl (by show p.val < 256 * n ∨ 256 * n + 256 ≤ p.val; omega)]
      exact ih (by omega) (by omega)

/-! ## The accumulator after a point, and the block emitted -/

theorem sout_A (hc0 : cond0_0 i) (hc1 : ¬cond0_1 i) (x : Vec Ideal S512x1024 .bf16) (d : Vec Ideal S512x2816 .bf16) (p : Fin 1024) (q : Fin 2816) :
    sout0_A_0 c i a1 h1 a2 h2 a3 h3 a4 h4 hc0 hc1 x d (ix2 p q) = addAt x d p q := by
  have hcov := scover0_A_0 c i a1 h1 a2 h2 a3 h3 a4 h4 hc0 hc1 x d
  unfold sout0_A_0
  rw [View.read_writes_eq_canon _ _ _ hcov, ← View.read_writes_eq_canon a4.view a4.view.junk _ hcov]
  unfold kernelRun0_A
  dsimp only
  sl_unfold_words
  rw [View.writes_append]
  refine (read_loop1_all Variants.none c none i a1 h1 a2 h2 a3 h3 a4 h4 x d _ p q).trans ?_
  rw [View.read_writes_cons_hit a4.view _ _ _ _ (ix2 p q) (ix2 p q)
    (Rect.emb_eq_of_coords _ _ _ fun a => by match a with | ⟨0, _⟩ => show p.val = 0 + 1 * p.val; omega | ⟨1, _⟩ => show q.val = 0 + 1 * q.val; omega),
    pay1_apply, zero_add]

theorem sout_B (hc0 : ¬cond0_0 i) (hc1 : ¬cond0_1 i) (x : Vec Ideal S512x1024 .bf16) (d : Vec Ideal S512x2816 .bf16) (a : Vec Ideal S1024x2816 .f32)
    (p : Fin 1024) (q : Fin 2816) :
    sout0_B_0 c i a1 h1 a2 h2 a3 h3 a4 h4 hc0 hc1 x d a (ix2 p q) = a (ix2 p q) + addAt x d p q := by
  have hcov := scover0_B_0 c i a1 h1 a2 h2 a3 h3 a4 h4 hc0 hc1 x d a
  unfold sout0_B_0
  rw [View.read_writes_eq_canon _ _ _ hcov, ← View.read_writes_eq_canon a4.view (h4.unread a) _ hcov]
  unfold kernelRun0_B
  dsimp only
  sl_unfold_words
  refine (read_loop1_all Variants.none c none i a1 h1 a2 h2 a3 h3 a4 h4 x d _ p q).trans ?_
  rw [h4.read_unread]

theorem out_C (hc0 : ¬cond0_0 i) (hc1 : cond0_1 i) (x : Vec Ideal S512x1024 .bf16) (d : Vec Ideal S512x2816 .bf16) (a : Vec Ideal S1024x2816 .f32)
    (p : Fin 1024) (q : Fin 2816) :
    out0_C_2 c i a1 h1 a2 h2 a3 h3 a4 h4 hc0 hc1 x d a (ix2 p q) = a (ix2 p q) + addAt x d p q := by
  have hcov := cover0_C_2 c i a1 h1 a2 h2 a3 h3 a4 h4 hc0 hc1 x d a
  unfold out0_C_2
  rw [View.read_writes_eq_canon _ _ _ hcov, ← View.read_writes_eq_canon a3.view a3.view.junk _ hcov]
  unfold kernelRun0_C
  dsimp only
  sl_unfold_words
  refine (read_loop2 Variants.none c none i a1 h1 a2 h2 a3 h3 a4 h4 hc1 _ _ p q 4 le_rfl (by omega)).trans ?_
  refine (read_loop1_all Variants.none c none i a1 h1 a2 h2 a3 h3 a4 h4 x d _ p q).trans ?_
  rw [h4.read_unread]

end Cert.WgradIdeal.Value

end
-- ==== Proof.WgradArrays.lean ====
/-
  The weight's gradient after the run of the kernel that forms it: the eight blocks of 512 rows are visited in turn, and the
  accumulator ends as the product over all 4096 rows.
-/
module

public import proofs.«01_k».proof.Proof.WgradKernel
public import proofs.«01_k».proof.Proof.AdamRow

@[expose] public section

set_option maxRecDepth 16384

noncomputable section

namespace Cert.WgradIdeal.Value

open Cert.WgradIdeal Cert.WgradIdeal.Gen Cert.AdamRow Idealize.ShloMosaic Idealize.ShloMosaic.TcCoe Idealize.SL.Sem
open Idealize.ShloMosaic.Pipeline (Dat)

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = t.val ∧ win0_1.index t (1 : Fin 2) = 0 := (by decide +kernel : ∀ t : Fin grid0.N, _)
theorem at2 : ∀ t : Fin cfg0.N, win0_2.index t (0 : Fin 2) = 0 ∧ win0_2.index t (1 : Fin 2) = 0 := (by decide +kernel : ∀ t : Fin grid0.N, _)

theorem lt8 (t : Fin cfg0.N) : t.val < 8 := lt_of_lt_of_eq t.isLt N_0

/-- Row `p` of block `t`, in the array. -/
def at_ (t : Fin cfg0.N) (p : Fin 512) : Fin 4096 := ⟨512 * t.val + p.val, by have := lt8 t; omega⟩

theorem emb0 (t : Fin cfg0.N) (p : Fin 512) (k : Fin 1024) : ((cfg0.win 0).blk t).view.emb (ix2 p k) = ix2 (at_ t p) k := row2 (at0 t) rfl rfl rfl
theorem emb1 (t : Fin cfg0.N) (p : Fin 512) (k : Fin 2816) : ((cfg0.win 1).blk t).view.emb (ix2 p k) = ix2 (at_ t p) k := row2 (at1 t) rfl rfl rfl
theorem emb2 (t : Fin cfg0.N) (p : Fin 1024) (k : Fin 2816) : ((cfg0.win 2).blk t).view.emb (ix2 p k) = ix2 p k := whole2 (at2 t) rfl rfl

variable (m : (ℓ : Loc nD τ sig) → Buf (Elt Ideal) ℓ) (ρ : Dev nD → PrngReg)

/-- What row `r` of the two arrays adds to their product at row `p`, column `q`. -/
def rowTerm (x : S4096x1024.Idx → EReal) (d : S4096x2816.Idx → EReal) (p : Fin 1024) (q : Fin 2816) (r : Fin 4096) : EReal :=
  x (ix2 r p) * d (ix2 r q)

/-- That, of the argument arrays. -/
abbrev term (c : Dev nD) (p : Fin 1024) (q : Fin 2816) : Fin 4096 → EReal :=
  rowTerm (m ((c : Thread nD τ).loc main_arg0)) (m ((c : Thread nD τ).loc main_arg1)) p q

/-- The weight's gradient. -/
def DW (c : Dev nD) : S1024x2816.Idx → EReal := fun j => ∑ r : Fin 4096, term m c (j 0) (j 1) r

theorem iblk0_apply (c : Dev nD) (t : Fin cfg0.N) (p : Fin 512) (k : Fin 1024) :
    (iblk m c 0 t : Vec Ideal S512x1024 .bf16) (ix2 p k) = m ((c : Thread nD τ).loc main_arg0) (ix2 (at_ t p) k) := by
  show V m c main_arg0 (((cfg0.win 0).blk t).view.emb (ix2 p k)) = _; rw [emb0, V_main_arg0]
theorem iblk1_apply (c : Dev nD) (t : Fin cfg0.N) (p : Fin 512) (k : Fin 2816) :
    (iblk m c 1 t : Vec Ideal S512x2816 .bf16) (ix2 p k) = m ((c : Thread nD τ).loc main_arg1) (ix2 (at_ t p) k) := by
  show V m c main_arg1 (((cfg0.win 1).blk t).view.emb (ix2 p k)) = _; rw [emb1, V_main_arg1]

/-- A function of the arrays' rows, extended by zero past the last row. -/
def rowsExt (f : Fin 4096 → EReal) (n : Nat) : EReal := if h : n < 4096 then f ⟨n, h⟩ else 0

theorem block (c : Dev nD) (t : Fin cfg0.N) (p : Fin 1024) (q : Fin 2816) :
    addAt (iblk m c 0 t) (iblk m c 1 t) p q = ∑ k ∈ Finset.range 512, rowsExt (term m c p q) (512 * t.val + k) := by
  rw [← Fin.sum_univ_eq_sum_range (fun k => rowsExt (term m c p q) (512 * t.val + k)) 512]
  refine Finset.sum_congr rfl fun r _ => ?_
  rw [iblk0_apply, iblk1_apply, rowsExt, dif_pos (show 512 * t.val + r.val < 4096 by have := lt8 t; omega)]
  rfl

/-- The accumulator after point `n`, before the last. -/
theorem acc_eq (c : Dev nD) (p : Fin 1024) (q : Fin 2816) : ∀ (n : Nat) (h : n < cfg0.N), n < 7 →
    (outsAt0 m c n h).2 (ix2 p q) = ∑ r ∈ Finset.range (512 * (n + 1)), rowsExt (term m c p q) r := by
  intro n
  induction n with
  | zero =>
    intro h _
    rw [show outsAt0 m c 0 h = outsAt0 m c (⟨0, h⟩ : Fin cfg0.N).val (⟨0, h⟩ : Fin cfg0.N).isLt from rfl,
      outsAt0_A m c ⟨0, h⟩ (Nat.zero_mod _) (by dsimp only; omega)]
    dsimp only
    rw [sout_A, block]
    simp
  | succ n ih =>
    intro h h7
    rw [show outsAt0 m c (n + 1) h = outsAt0 m c (⟨n + 1, h⟩ : Fin cfg0.N).val (⟨n + 1, h⟩ : Fin cfg0.N).isLt from rfl,
      outsAt0_B m c ⟨n + 1, h⟩ (by dsimp only; omega) (by dsimp only; omega)]
    dsimp only
    rw [sout_B, block]
    simp only [Nat.add_sub_cancel]
    rw [ih _ (by omega), show 512 * (n + 1 + 1) = 512 * (n + 1) + 512 by ring, Finset.sum_range_add]

theorem flushed2_dw (c : Dev nD) (t : Fin cfg0.N) (hf : (cfg0.win 2).flush t = true) :
    (dats m 0 c).flushed 2 t = ((cfg0.win 2).blk t).view.read (Elt Ideal) (DW m c) := by
  have h7 : t.val = 7 := by have := (flush0_2 t).mp hf; have := lt8 t; omega
  rw [flushed2]
  funext j
  obtain ⟨p, q, rfl⟩ : ∃ (p : Fin 1024) (q : Fin 2816), j = ix2 p q := ⟨j 0, j 1, eq_ix2 j⟩
  show (outsAt0 m c t.val t.isLt).1 (ix2 p q) = DW m c (((cfg0.win 2).blk t).view.emb (ix2 p q))
  rw [emb2, outsAt0_C m c t (by omega) (by omega)]
  dsimp only
  rw [out_C, acc_eq m c p q (t.val - 1) _ (by omega), block, h7]
  show ∑ r ∈ Finset.range (512 * 7), rowsExt (term m c p q) r + ∑ k ∈ Finset.range 512, rowsExt (term m c p q) (512 * 7 + k)
    = ∑ r : Fin 4096, term m c p q r
  rw [← Finset.sum_range_add, ← Fin.sum_univ_eq_sum_range (rowsExt (term m c p q)) 4096]
  exact Finset.sum_congr rfl fun r _ => dif_pos r.isLt

theorem final2_dw (c : Dev nD) : (dats m 0 c).arrAt 2 cfg0.N = DW m c :=
  (dats m 0 c).arrAt_eq_of_cover 2 (DW m c) (flushed2_dw m c) fun i => by
    have hN : 7 < cfg0.N := by rw [show cfg0.N = 8 from N_0]; decide
    refine ⟨⟨7, hN⟩, (flush0_2 _).mpr rfl, ?_⟩
    have e : ((cfg0.win 2).blk ⟨7, hN⟩).view.emb (ix2 (i 0 : Fin 1024) (i 1 : Fin 2816)) = i := (emb2 _ _ _).trans (eq_ix2 i).symm
    exact e ▸ ((cfg0.win 2).blk ⟨7, hN⟩).view.emb_mem_set (ix2 (i 0 : Fin 1024) (i 1 : Fin 2816))

/-- The run, its result named. -/
theorem run_dw : θ_run defs (onTc (τ := τ) (main (F := Ideal))) ⟨m, fun _ => 0, ρ⟩ fun r => ∀ c : Dev nD,
      r.2.mem ((c : Thread nD τ).loc main_v0) = DW m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2_dw m c), (h c).2⟩) (run_blocks m ρ)

end Cert.WgradIdeal.Value

end
-- ==== Proof.WgradClaims.lean ====
/- The claims about the weight's gradient, put together: the kernel and the derivative of the product end with the same array. -/
module

public import proofs.«01_k».proof.Defs
public import proofs.«01_k».proof.Proof.Gen.Wgrad.Frame
public import proofs.«01_k».proof.Proof.Gen.WgradIdeal.Frame
public import proofs.«01_k».proof.Proof.Gen.WgradRefIdeal.Run
public import proofs.«01_k».proof.Proof.Gen.WgradRefIdeal.Read
public import proofs.«01_k».proof.Proof.WgradArrays
public import Idealize.ShloMosaic.Lib.Quiescent

@[expose] public section

set_option maxRecDepth 16384

noncomputable section

namespace Cert.Proof

open Idealize.ShloMosaic Idealize.SL.Sem
open Cert.WgradRefIdeal Cert.WgradRefIdeal.Read

/-- The derivative of the product in the weight, at an index. -/
theorem wgradRef_apply (x : (⟨S4096x1024, .bf16⟩ : BufTy).Contents (Elt Ideal)) (d : (⟨S4096x2816, .bf16⟩ : BufTy).Contents (Elt Ideal))
    (p : Fin 1024) (q : Fin 2816) :
    val_main_v6 (F := Ideal) x d (ix2 p q) = ∑ r : Fin 4096, Cert.WgradIdeal.Value.rowTerm x d p q r := by
  pointwise [val_main_v6, val_main_v5, val_main_v4, val_main_v3, val_main_v1]
  exact Finset.sum_congr rfl fun r _ => mul_comm _ _

/-- The reference stops with its arguments unchanged; it has no semaphore whose counter could differ from zero. -/
theorem wgradRef_frame : quiescent_WgradRefIdeal := fun m ρ _ =>
  (θ_run _ _ _).mono (fun r h => ⟨fun c => (h c).2, sem_eq_zero_of_no_sems (by decide) r.2⟩)
    (Cert.WgradRefIdeal.Value.run (F := Ideal) m ρ)

/-- The kernel and the derivative of the product end with equal results. -/
theorem wgrad_algebraic : algebraic_WgradIdeal_WgradRefIdeal := fun m ρ m' ρ' _ hag => by
  refine ⟨fun c => Cert.WgradIdeal.Value.DW m c, Cert.WgradIdeal.Value.run_dw m ρ,
    (θ_run _ _ _).mono (fun r h c => ?_) (Cert.WgradRefIdeal.Value.run (F := Ideal) m' ρ')⟩
  obtain ⟨h0, h1⟩ := h c
  obtain ⟨a0, a1⟩ := hag c
  refine ⟨h0.trans (funext fun i => ?_), h1⟩
  rw [eq_ix2 i, val_main_v6_eq, a0, a1]
  exact wgradRef_apply _ _ _ _

end Cert.Proof

end
-- ==== Proof.DilTile.lean ====
/-
  The arithmetic of one tile of the dilated attention's gradient: a block of 128 queries against a block of 128 keys, for one
  head of a pair of heads that share 128 lanes. The functions below are the kernel's own operations on whole tiles; each is then
  read at an element.
-/
module

public import proofs.«01_k».proof.Proof.Gen.DilIdeal.Value
public import Idealize.ShloMosaic.Lib.Pointwise
public import Idealize.ShloMosaic.Lib.Tactic

@[expose] public section

set_option maxRecDepth 16384

noncomputable section

namespace Cert.DilIdeal.Value

open Cert.DilIdeal Cert.DilIdeal.Gen Idealize.ShloMosaic Idealize.ShloMosaic.TcCoe Idealize.SL.Sem

/-! ## The scalars of a grid point -/

/-- The number of blocks of one residue class, of the group `a`. -/
def perResidue (a : BitVec 32) : BitVec 32 :=
  Scalar.select (Scalar.cmpi .eq a 0#32) 32#32 (Scalar.select (Scalar.cmpi .eq a 1#32) 8#32 2#32)
/-- The dilation of the group `a`. -/
def dilW (a : BitVec 32) : BitVec 32 :=
  Scalar.select (Scalar.cmpi .eq a 0#32) 1#32 (Scalar.select (Scalar.cmpi .eq a 1#32) 4#32 16#32)
/-- A divisor, with one put for zero. -/
def divisor (n : BitVec 32) : BitVec 32 := Scalar.select (Scalar.cmpi .eq n 0#32) 1#32 n
/-- Whether `x` is no multiple of `n`, by a remainder of the divisor's sign. -/
def noMultiple (x n : BitVec 32) : BitVec 1 :=
  Scalar.cmpi .ne (Scalar.select (Scalar.andi (Scalar.xori (Scalar.cmpi .slt (Scalar.remsi x (divisor n)) 0#32)
    (Scalar.cmpi .slt (divisor n) 0#32)) (Scalar.cmpi .ne (Scalar.remsi x (divisor n)) 0#32))
    (Scalar.addi (Scalar.remsi x (divisor n)) (divisor n)) (Scalar.remsi x (divisor n))) 0#32

/-- The group's dilation at a grid point. -/
def dilAt (i : grid0.Coords) : BitVec 32 := dilW (BitVec.ofNat 32 (i 0).val)
/-- Whether the block before is of the same residue class. -/
def hasPrev (i : grid0.Coords) : BitVec 1 := noMultiple (BitVec.ofNat 32 (i 1).val) (perResidue (BitVec.ofNat 32 (i 0).val))
/-- Whether there is a block after. -/
def hasNext (i : grid0.Coords) : BitVec 1 := Scalar.cmpi .slt (Scalar.addi (BitVec.ofNat 32 (i 1).val) 1#32) 32#32
/-- Whether the block after is of the same residue class. -/
def sameNext (i : grid0.Coords) : BitVec 1 :=
  noMultiple (Scalar.addi (BitVec.ofNat 32 (i 1).val) 1#32) (perResidue (BitVec.ofNat 32 (i 0).val))

/-! ## Whole tiles -/

/-- A tile, outside the lanes of `mk` zero. -/
def lanesOf (mk : IVec S1x128 1) (x : Vec Ideal S1x128x128 .bf16) : FVec Ideal S128x128 .bf16 :=
  select (broadcastTo S128x128 (shapeCast S1x128 mk shapeCasts_S1x128_S1x128) broadcasts_S1x128_S128x128)
    (shapeCast S128x128 x shapeCasts_S1x128x128_S128x128) (broadcast S128x128 (Scalar.ofBits (F := Ideal) .bf16 0x0000#16))

/-- The same of a tile times an eighth. -/
def lanesEighth (mk : IVec S1x128 1) (x : Vec Ideal S1x128x128 .bf16) : FVec Ideal S128x128 .bf16 :=
  select (broadcastTo S128x128 (shapeCast S1x128 mk shapeCasts_S1x128_S1x128) broadcasts_S1x128_S128x128)
    (mulf (shapeCast S128x128 x shapeCasts_S1x128x128_S128x128) (broadcast S128x128 (Scalar.ofBits (F := Ideal) .bf16 0x3E00#16)))
    (broadcast S128x128 (Scalar.ofBits (F := Ideal) .bf16 0x0000#16))

/-- A tile's rows against another's rows. -/
def rowsRows (a b : FVec Ideal S128x128 .bf16) : FVec Ideal S128x128 .f32 :=
  matmul dot_S128x128_S128x128_S128x128_1_1_0_0_n_n none a b (constant S128x128 .f32 0x00000000#32)
/-- A tile's rows against another's columns. -/
def rowsCols (a b : FVec Ideal S128x128 .bf16) : FVec Ideal S128x128 .f32 :=
  matmul dot_S128x128_S128x128_S128x128_1_0_0_1_n_n none a b (constant S128x128 .f32 0x00000000#32)
/-- A tile's columns against another's columns. -/
def colsCols (a b : FVec Ideal S128x128 .bf16) : FVec Ideal S128x128 .f32 :=
  matmul dot_S128x128_S128x128_S128x128_0_0_1_1_n_n none a b (constant S128x128 .f32 0x00000000#32)

/-- The weights of a tile of queries (rows) and keys (columns). -/
def weights (mk : IVec S1x128 1) (ok : IVec S128x128 1) (bias : FVec Ideal S128x128 .f32) (sl : EReal)
    (q k : Vec Ideal S1x128x128 .bf16) (l : Vec Ideal S1x128x1 .f32) : FVec Ideal S128x128 .f32 :=
  exp (subf (select ok (subf (rowsRows (lanesEighth mk q) (shapeCast S128x128 k shapeCasts_S1x128x128_S128x128))
      (mulf (broadcast S128x128 (sl : Ideal .f32)) bias)) (broadcast S128x128 (Named.named (F := Ideal) κ "minus_inf" (φ := .f32) 0xF149F2CA#32)))
    (broadcastTo S128x128 (shapeCast S128x1 l shapeCasts_S1x128x1_S128x1) broadcasts_S128x1_S128x128))

/-- The weights as they enter a product. -/
def weightsB (mk : IVec S1x128 1) (ok : IVec S128x128 1) (bias : FVec Ideal S128x128 .f32) (sl : EReal)
    (q k : Vec Ideal S1x128x128 .bf16) (l : Vec Ideal S1x128x1 .f32) : FVec Ideal S128x128 .bf16 :=
  truncf .bf16 (weights mk ok bias sl q k l) bitsLt_bf16_f32

/-- The gradients of a tile's scores, as they enter a product. -/
def scoresB (mk : IVec S1x128 1) (ok : IVec S128x128 1) (bias : FVec Ideal S128x128 .f32) (sl : EReal)
    (q k : Vec Ideal S1x128x128 .bf16) (l : Vec Ideal S1x128x1 .f32) (o v : Vec Ideal S1x128x128 .bf16) (d : Vec Ideal S1x128x1 .f32) :
    FVec Ideal S128x128 .bf16 :=
  truncf .bf16 (mulf (weights mk ok bias sl q k l)
    (subf (rowsRows (lanesOf mk o) (shapeCast S128x128 v shapeCasts_S1x128x128_S128x128))
      (broadcastTo S128x128 (shapeCast S128x1 d shapeCasts_S1x128x1_S128x1) broadcasts_S128x1_S128x128))) bitsLt_bf16_f32

/-- A tile of zeros. -/
def zeroTile : FVec Ideal S128x128 .f32 := broadcast S128x128 (Scalar.ofBits (F := Ideal) .f32 0x00000000#32)

/-- The gradient of a pair of heads' queries. -/
def pairDq (s0c s0p s1c s1p : FVec Ideal S128x128 .bf16) (kc kp : Vec Ideal S1x128x128 .bf16) : FVec Ideal S128x128 .f32 :=
  addf (addf (addf (addf zeroTile (rowsCols s0c (lanesEighth k0_pay4 kc))) (rowsCols s0p (lanesEighth k0_pay4 kp)))
    (rowsCols s1c (lanesEighth k0_pay5 kc))) (rowsCols s1p (lanesEighth k0_pay5 kp))

/-- The gradient of a pair of heads' keys. -/
def pairDk (s0c s0n s1c s1n : FVec Ideal S128x128 .bf16) (qc qn : Vec Ideal S1x128x128 .bf16) : FVec Ideal S128x128 .f32 :=
  addf (addf (addf (addf zeroTile (colsCols s0c (lanesEighth k0_pay4 qc))) (colsCols s0n (lanesEighth k0_pay4 qn)))
    (colsCols s1c (lanesEighth k0_pay5 qc))) (colsCols s1n (lanesEighth k0_pay5 qn))

/-- The gradient of a pair of heads' values. -/
def pairDv (p0c p0n p1c p1n : FVec Ideal S128x128 .bf16) (oc on : Vec Ideal S1x128x128 .bf16) : FVec Ideal S128x128 .f32 :=
  addf (addf (addf (addf zeroTile (colsCols p0c (lanesOf k0_pay4 oc))) (colsCols p0n (lanesOf k0_pay4 on)))
    (colsCols p1c (lanesOf k0_pay5 oc))) (colsCols p1n (lanesOf k0_pay5 on))

end Cert.DilIdeal.Value

end
-- ==== Proof.DilKernel.lean ====
/-
  One grid point of the kernel of the dilated attention's gradient: the three blocks it writes are four pairs of heads side by
  side, each pair the tile arithmetic over the lanes it loads.
-/
module

public import proofs.«01_k».proof.Proof.DilTile

@[expose] public section

set_option maxRecDepth 16384
set_option maxHeartbeats 1600000

noncomputable section

namespace Cert.DilIdeal.Value

open Cert.DilIdeal Cert.DilIdeal.Gen Idealize.ShloMosaic Idealize.ShloMosaic.TcCoe Idealize.SL.Sem

/-- 128 lanes of a block, from lane `o`. -/
def ldCols (a : Memref sig .tc .vmem S1x128x512 .bf16) (h : a.IsWhole) (x : Vec Ideal S1x128x512 .bf16) (o : Nat)
    (hin : ∀ k : Fin 3, (![0, 0, o] : Fin 3 → Nat) k + S1x128x128.size k ≤ S1x128x512.size k) : Vec Ideal S1x128x128 .bf16 :=
  View.readAt (Elt Ideal) a.view (Rect.unit (s := S1x128x512) ![0, 0, o] S1x128x128.size hin).toLoadRect (h.unread x)
/-- One lane of a block of row statistics. -/
def ldStat (a : Memref sig .tc .vmem S1x128x128 .f32) (h : a.IsWhole) (x : Vec Ideal S1x128x128 .f32) (o : Nat)
    (hin : ∀ k : Fin 3, (![0, 0, o] : Fin 3 → Nat) k + S1x128x1.size k ≤ S1x128x128.size k) : Vec Ideal S1x128x1 .f32 :=
  View.readAt (Elt Ideal) a.view (Rect.unit (s := S1x128x128) ![0, 0, o] S1x128x1.size hin).toLoadRect (h.unread x)
/-- One head's slope. -/
def ldSlope (a : Memref sig .tc .smem S24 .f32) (h : a.IsWhole) (x : Vec Ideal S24 .f32) (i : grid0.Coords) (u w : BitVec 32)
    (hin : ∀ k : Fin 1, k0_off1 i u w k + S1.size k ≤ S24.size k) (h1 : 0 < S1.numel) : EReal :=
  View.readAt (Elt Ideal) a.view (Rect.unit (s := S24) (k0_off1 i u w) S1.size hin).toLoadRect (h.unread x) (Shape.Idx.first h1)

variable (c : Dev nD) (i : grid0.Coords) (a2 : Memref sig .tc .smem S24 .f32) (h2 : a2.IsWhole)
  (a3 : Memref sig .tc .vmem S1x128x512 .bf16) (h3 : a3.IsWhole)
  (a4 : Memref sig .tc .vmem S1x128x512 .bf16) (h4 : a4.IsWhole)
  (a5 : Memref sig .tc .vmem S1x128x512 .bf16) (h5 : a5.IsWhole)
  (a6 : Memref sig .tc .vmem S1x128x512 .bf16) (h6 : a6.IsWhole)
  (a7 : Memref sig .tc .vmem S1x128x512 .bf16) (h7 : a7.IsWhole)
  (a8 : Memref sig .tc .vmem S1x128x512 .bf16) (h8 : a8.IsWhole)
  (a9 : Memref sig .tc .vmem S1x128x512 .bf16) (h9 : a9.IsWhole)
  (a10 : Memref sig .tc .vmem S1x128x512 .bf16) (h10 : a10.IsWhole)
  (a11 : Memref sig .tc .vmem S1x128x128 .f32) (h11 : a11.IsWhole)
  (a12 : Memref sig .tc .vmem S1x128x128 .f32) (h12 : a12.IsWhole)
  (a13 : Memref sig .tc .vmem S1x128x128 .f32) (h13 : a13.IsWhole)
  (a14 : Memref sig .tc .vmem S1x128x128 .f32) (h14 : a14.IsWhole)
  (a15 : Memref sig .tc .vmem S1x128x512 .bf16) (h15 : a15.IsWhole)
  (a16 : Memref sig .tc .vmem S1x128x512 .bf16) (h16 : a16.IsWhole)
  (a17 : Memref sig .tc .vmem S1x128x512 .bf16) (h17 : a17.IsWhole)
  (x0 : Vec Ideal S24 .f32) (x1 x2 x3 x4 x5 x6 x7 x8 : Vec Ideal S1x128x512 .bf16) (x9 x10 x11 x12 : Vec Ideal S1x128x128 .f32)

/-- The block of the queries' gradient. -/
theorem out13_eq : out0_A_13 c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12
    = k0_pay1 (pairDq (scoresB k0_pay4 k0_pay9 (k0_pay8 (F := Ideal) (dilAt i)) (ldSlope a2 h2 x0 i 0#32 0#32 (k0_off1_inb i 0 0) (by decide)) (ldCols a3 h3 x1 0 inb_S1x128x512_S1x128x128_0_0_0) (ldCols a6 h6 x4 0 inb_S1x128x512_S1x128x128_0_0_0) (ldStat a11 h11 x9 0 inb_S1x128x128_S1x128x1_0_0_0) (ldCols a9 h9 x7 0 inb_S1x128x512_S1x128x128_0_0_0) (ldCols a8 h8 x6 0 inb_S1x128x512_S1x128x128_0_0_0) (ldStat a13 h13 x11 0 inb_S1x128x128_S1x128x1_0_0_0)) (scoresB k0_pay4 (k0_pay12 (hasPrev i)) (k0_pay10 (F := Ideal) (dilAt i)) (ldSlope a2 h2 x0 i 0#32 0#32 (k0_off1_inb i 0 0) (by decide)) (ldCols a3 h3 x1 0 inb_S1x128x512_S1x128x128_0_0_0) (ldCols a5 h5 x3 0 inb_S1x128x512_S1x128x128_0_0_0) (ldStat a11 h11 x9 0 inb_S1x128x128_S1x128x1_0_0_0) (ldCols a9 h9 x7 0 inb_S1x128x512_S1x128x128_0_0_0) (ldCols a7 h7 x5 0 inb_S1x128x512_S1x128x128_0_0_0) (ldStat a13 h13 x11 0 inb_S1x128x128_S1x128x1_0_0_0)) (scoresB k0_pay5 k0_pay9 (k0_pay8 (F := Ideal) (dilAt i)) (ldSlope a2 h2 x0 i 0#32 1#32 (k0_off1_inb i 0 1) (by decide)) (ldCols a3 h3 x1 0 inb_S1x128x512_S1x128x128_0_0_0) (ldCols a6 h6 x4 0 inb_S1x128x512_S1x128x128_0_0_0) (ldStat a11 h11 x9 1 inb_S1x128x128_S1x128x1_0_0_1) (ldCols a9 h9 x7 0 inb_S1x128x512_S1x128x128_0_0_0) (ldCols a8 h8 x6 0 inb_S1x128x512_S1x128x128_0_0_0) (ldStat a13 h13 x11 1 inb_S1x128x128_S1x128x1_0_0_1)) (scoresB k0_pay5 (k0_pay12 (hasPrev i)) (k0_pay10 (F := Ideal) (dilAt i)) (ldSlope a2 h2 x0 i 0#32 1#32 (k0_off1_inb i 0 1) (by decide)) (ldCols a3 h3 x1 0 inb_S1x128x512_S1x128x128_0_0_0) (ldCols a5 h5 x3 0 inb_S1x128x512_S1x128x128_0_0_0) (ldStat a11 h11 x9 1 inb_S1x128x128_S1x128x1_0_0_1) (ldCols a9 h9 x7 0 inb_S1x128x512_S1x128x128_0_0_0) (ldCols a7 h7 x5 0 inb_S1x128x512_S1x128x128_0_0_0) (ldStat a13 h13 x11 1 inb_S1x128x128_S1x128x1_0_0_1)) (ldCols a6 h6 x4 0 inb_S1x128x512_S1x128x128_0_0_0) (ldCols a5 h5 x3 0 inb_S1x128x512_S1x128x128_0_0_0))
      (pairDq (scoresB k0_pay4 k0_pay9 (k0_pay8 (F := Ideal) (dilAt i)) (ldSlope a2 h2 x0 i 2#32 0#32 (k0_off1_inb i 1 0) (by decide)) (ldCols a3 h3 x1 128 inb_S1x128x512_S1x128x128_0_0_128) (ldCols a6 h6 x4 128 inb_S1x128x512_S1x128x128_0_0_128) (ldStat a11 h11 x9 2 inb_S1x128x128_S1x128x1_0_0_2) (ldCols a9 h9 x7 128 inb_S1x128x512_S1x128x128_0_0_128) (ldCols a8 h8 x6 128 inb_S1x128x512_S1x128x128_0_0_128) (ldStat a13 h13 x11 2 inb_S1x128x128_S1x128x1_0_0_2)) (scoresB k0_pay4 (k0_pay12 (hasPrev i)) (k0_pay10 (F := Ideal) (dilAt i)) (ldSlope a2 h2 x0 i 2#32 0#32 (k0_off1_inb i 1 0) (by decide)) (ldCols a3 h3 x1 128 inb_S1x128x512_S1x128x128_0_0_128) (ldCols a5 h5 x3 128 inb_S1x128x512_S1x128x128_0_0_128) (ldStat a11 h11 x9 2 inb_S1x128x128_S1x128x1_0_0_2) (ldCols a9 h9 x7 128 inb_S1x128x512_S1x128x128_0_0_128) (ldCols a7 h7 x5 128 inb_S1x128x512_S1x128x128_0_0_128) (ldStat a13 h13 x11 2 inb_S1x128x128_S1x128x1_0_0_2)) (scoresB k0_pay5 k0_pay9 (k0_pay8 (F := Ideal) (dilAt i)) (ldSlope a2 h2 x0 i 2#32 1#32 (k0_off1_inb i 1 1) (by decide)) (ldCols a3 h3 x1 128 inb_S1x128x512_S1x128x128_0_0_128) (ldCols a6 h6 x4 128 inb_S1x128x512_S1x128x128_0_0_128) (ldStat a11 h11 x9 3 inb_S1x128x128_S1x128x1_0_0_3) (ldCols a9 h9 x7 128 inb_S1x128x512_S1x128x128_0_0_128) (ldCols a8 h8 x6 128 inb_S1x128x512_S1x128x128_0_0_128) (ldStat a13 h13 x11 3 inb_S1x128x128_S1x128x1_0_0_3)) (scoresB k0_pay5 (k0_pay12 (hasPrev i)) (k0_pay10 (F := Ideal) (dilAt i)) (ldSlope a2 h2 x0 i 2#32 1#32 (k0_off1_inb i 1 1) (by decide)) (ldCols a3 h3 x1 128 inb_S1x128x512_S1x128x128_0_0_128) (ldCols a5 h5 x3 128 inb_S1x128x512_S1x128x128_0_0_128) (ldStat a11 h11 x9 3 inb_S1x128x128_S1x128x1_0_0_3) (ldCols a9 h9 x7 128 inb_S1x128x512_S1x128x128_0_0_128) (ldCols a7 h7 x5 128 inb_S1x128x512_S1x128x128_0_0_128) (ldStat a13 h13 x11 3 inb_S1x128x128_S1x128x1_0_0_3)) (ldCols a6 h6 x4 128 inb_S1x128x512_S1x128x128_0_0_128) (ldCols a5 h5 x3 128 inb_S1x128x512_S1x128x128_0_0_128))
      (pairDq (scoresB k0_pay4 k0_pay9 (k0_pay8 (F := Ideal) (dilAt i)) (ldSlope a2 h2 x0 i 4#32 0#32 (k0_off1_inb i 2 0) (by decide)) (ldCols a3 h3 x1 256 inb_S1x128x512_S1x128x128_0_0_256) (ldCols a6 h6 x4 256 inb_S1x128x512_S1x128x128_0_0_256) (ldStat a11 h11 x9 4 inb_S1x128x128_S1x128x1_0_0_4) (ldCols a9 h9 x7 256 inb_S1x128x512_S1x128x128_0_0_256) (ldCols a8 h8 x6 256 inb_S1x128x512_S1x128x128_0_0_256) (ldStat a13 h13 x11 4 inb_S1x128x128_S1x128x1_0_0_4)) (scoresB k0_pay4 (k0_pay12 (hasPrev i)) (k0_pay10 (F := Ideal) (dilAt i)) (ldSlope a2 h2 x0 i 4#32 0#32 (k0_off1_inb i 2 0) (by decide)) (ldCols a3 h3 x1 256 inb_S1x128x512_S1x128x128_0_0_256) (ldCols a5 h5 x3 256 inb_S1x128x512_S1x128x128_0_0_256) (ldStat a11 h11 x9 4 inb_S1x128x128_S1x128x1_0_0_4) (ldCols a9 h9 x7 256 inb_S1x128x512_S1x128x128_0_0_256) (ldCols a7 h7 x5 256 inb_S1x128x512_S1x128x128_0_0_256) (ldStat a13 h13 x11 4 inb_S1x128x128_S1x128x1_0_0_4)) (scoresB k0_pay5 k0_pay9 (k0_pay8 (F := Ideal) (dilAt i)) (ldSlope a2 h2 x0 i 4#32 1#32 (k0_off1_inb i 2 1) (by decide)) (ldCols a3 h3 x1 256 inb_S1x128x512_S1x128x128_0_0_256) (ldCols a6 h6 x4 256 inb_S1x128x512_S1x128x128_0_0_256) (ldStat a11 h11 x9 5 inb_S1x128x128_S1x128x1_0_0_5) (ldCols a9 h9 x7 256 inb_S1x128x512_S1x128x128_0_0_256) (ldCols a8 h8 x6 256 inb_S1x128x512_S1x128x128_0_0_256) (ldStat a13 h13 x11 5 inb_S1x128x128_S1x128x1_0_0_5)) (scoresB k0_pay5 (k0_pay12 (hasPrev i)) (k0_pay10 (F := Ideal) (dilAt i)) (ldSlope a2 h2 x0 i 4#32 1#32 (k0_off1_inb i 2 1) (by decide)) (ldCols a3 h3 x1 256 inb_S1x128x512_S1x128x128_0_0_256) (ldCols a5 h5 x3 256 inb_S1x128x512_S1x128x128_0_0_256) (ldStat a11 h11 x9 5 inb_S1x128x128_S1x128x1_0_0_5) (ldCols a9 h9 x7 256 inb_S1x128x512_S1x128x128_0_0_256) (ldCols a7 h7 x5 256 inb_S1x128x512_S1x128x128_0_0_256) (ldStat a13 h13 x11 5 inb_S1x128x128_S1x128x1_0_0_5)) (ldCols a6 h6 x4 256 inb_S1x128x512_S1x128x128_0_0_256) (ldCols a5 h5 x3 256 inb_S1x128x512_S1x128x128_0_0_256))
      (pairDq (scoresB k0_pay4 k0_pay9 (k0_pay8 (F := Ideal) (dilAt i)) (ldSlope a2 h2 x0 i 6#32 0#32 (k0_off1_inb i 3 0) (by decide)) (ldCols a3 h3 x1 384 inb_S1x128x512_S1x128x128_0_0_384) (ldCols a6 h6 x4 384 inb_S1x128x512_S1x128x128_0_0_384) (ldStat a11 h11 x9 6 inb_S1x128x128_S1x128x1_0_0_6) (ldCols a9 h9 x7 384 inb_S1x128x512_S1x128x128_0_0_384) (ldCols a8 h8 x6 384 inb_S1x128x512_S1x128x128_0_0_384) (ldStat a13 h13 x11 6 inb_S1x128x128_S1x128x1_0_0_6)) (scoresB k0_pay4 (k0_pay12 (hasPrev i)) (k0_pay10 (F := Ideal) (dilAt i)) (ldSlope a2 h2 x0 i 6#32 0#32 (k0_off1_inb i 3 0) (by decide)) (ldCols a3 h3 x1 384 inb_S1x128x512_S1x128x128_0_0_384) (ldCols a5 h5 x3 384 inb_S1x128x512_S1x128x128_0_0_384) (ldStat a11 h11 x9 6 inb_S1x128x128_S1x128x1_0_0_6) (ldCols a9 h9 x7 384 inb_S1x128x512_S1x128x128_0_0_384) (ldCols a7 h7 x5 384 inb_S1x128x512_S1x128x128_0_0_384) (ldStat a13 h13 x11 6 inb_S1x128x128_S1x128x1_0_0_6)) (scoresB k0_pay5 k0_pay9 (k0_pay8 (F := Ideal) (dilAt i)) (ldSlope a2 h2 x0 i 6#32 1#32 (k0_off1_inb i 3 1) (by decide)) (ldCols a3 h3 x1 384 inb_S1x128x512_S1x128x128_0_0_384) (ldCols a6 h6 x4 384 inb_S1x128x512_S1x128x128_0_0_384) (ldStat a11 h11 x9 7 inb_S1x128x128_S1x128x1_0_0_7) (ldCols a9 h9 x7 384 inb_S1x128x512_S1x128x128_0_0_384) (ldCols a8 h8 x6 384 inb_S1x128x512_S1x128x128_0_0_384) (ldStat a13 h13 x11 7 inb_S1x128x128_S1x128x1_0_0_7)) (scoresB k0_pay5 (k0_pay12 (hasPrev i)) (k0_pay10 (F := Ideal) (dilAt i)) (ldSlope a2 h2 x0 i 6#32 1#32 (k0_off1_inb i 3 1) (by decide)) (ldCols a3 h3 x1 384 inb_S1x128x512_S1x128x128_0_0_384) (ldCols a5 h5 x3 384 inb_S1x128x512_S1x128x128_0_0_384) (ldStat a11 h11 x9 7 inb_S1x128x128_S1x128x1_0_0_7) (ldCols a9 h9 x7 384 inb_S1x128x512_S1x128x128_0_0_384) (ldCols a7 h7 x5 384 inb_S1x128x512_S1x128x128_0_0_384) (ldStat a13 h13 x11 7 inb_S1x128x128_S1x128x1_0_0_7)) (ldCols a6 h6 x4 384 inb_S1x128x512_S1x128x128_0_0_384) (ldCols a5 h5 x3 384 inb_S1x128x512_S1x128x128_0_0_384)) := by
  unfold out0_A_13
  rw [View.read_writes_eq_canon _ _ _ (cover0_A_13 c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12)]
  unfold kernelRun0_A
  dsimp only
  sl_unfold_words
  refine (View.canon_unit_zero (S := S1x128x512) (by decide) _ _).trans ?_
  rfl

/-- The block of the keys' gradient. -/
theorem out14_eq : out0_A_14 c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12
    = k0_pay1 (pairDk (scoresB k0_pay4 k0_pay9 (k0_pay8 (F := Ideal) (dilAt i)) (ldSlope a2 h2 x0 i 0#32 0#32 (k0_off1_inb i 0 0) (by decide)) (ldCols a3 h3 x1 0 inb_S1x128x512_S1x128x128_0_0_0) (ldCols a6 h6 x4 0 inb_S1x128x512_S1x128x128_0_0_0) (ldStat a11 h11 x9 0 inb_S1x128x128_S1x128x1_0_0_0) (ldCols a9 h9 x7 0 inb_S1x128x512_S1x128x128_0_0_0) (ldCols a8 h8 x6 0 inb_S1x128x512_S1x128x128_0_0_0) (ldStat a13 h13 x11 0 inb_S1x128x128_S1x128x1_0_0_0)) (scoresB k0_pay4 (k0_pay13 (hasNext i) (sameNext i)) (k0_pay10 (F := Ideal) (dilAt i)) (ldSlope a2 h2 x0 i 0#32 0#32 (k0_off1_inb i 0 0) (by decide)) (ldCols a4 h4 x2 0 inb_S1x128x512_S1x128x128_0_0_0) (ldCols a6 h6 x4 0 inb_S1x128x512_S1x128x128_0_0_0) (ldStat a12 h12 x10 0 inb_S1x128x128_S1x128x1_0_0_0) (ldCols a10 h10 x8 0 inb_S1x128x512_S1x128x128_0_0_0) (ldCols a8 h8 x6 0 inb_S1x128x512_S1x128x128_0_0_0) (ldStat a14 h14 x12 0 inb_S1x128x128_S1x128x1_0_0_0)) (scoresB k0_pay5 k0_pay9 (k0_pay8 (F := Ideal) (dilAt i)) (ldSlope a2 h2 x0 i 0#32 1#32 (k0_off1_inb i 0 1) (by decide)) (ldCols a3 h3 x1 0 inb_S1x128x512_S1x128x128_0_0_0) (ldCols a6 h6 x4 0 inb_S1x128x512_S1x128x128_0_0_0) (ldStat a11 h11 x9 1 inb_S1x128x128_S1x128x1_0_0_1) (ldCols a9 h9 x7 0 inb_S1x128x512_S1x128x128_0_0_0) (ldCols a8 h8 x6 0 inb_S1x128x512_S1x128x128_0_0_0) (ldStat a13 h13 x11 1 inb_S1x128x128_S1x128x1_0_0_1)) (scoresB k0_pay5 (k0_pay13 (hasNext i) (sameNext i)) (k0_pay10 (F := Ideal) (dilAt i)) (ldSlope a2 h2 x0 i 0#32 1#32 (k0_off1_inb i 0 1) (by decide)) (ldCols a4 h4 x2 0 inb_S1x128x512_S1x128x128_0_0_0) (ldCols a6 h6 x4 0 inb_S1x128x512_S1x128x128_0_0_0) (ldStat a12 h12 x10 1 inb_S1x128x128_S1x128x1_0_0_1) (ldCols a10 h10 x8 0 inb_S1x128x512_S1x128x128_0_0_0) (ldCols a8 h8 x6 0 inb_S1x128x512_S1x128x128_0_0_0) (ldStat a14 h14 x12 1 inb_S1x128x128_S1x128x1_0_0_1)) (ldCols a3 h3 x1 0 inb_S1x128x512_S1x128x128_0_0_0) (ldCols a4 h4 x2 0 inb_S1x128x512_S1x128x128_0_0_0))
      (pairDk (scoresB k0_pay4 k0_pay9 (k0_pay8 (F := Ideal) (dilAt i)) (ldSlope a2 h2 x0 i 2#32 0#32 (k0_off1_inb i 1 0) (by decide)) (ldCols a3 h3 x1 128 inb_S1x128x512_S1x128x128_0_0_128) (ldCols a6 h6 x4 128 inb_S1x128x512_S1x128x128_0_0_128) (ldStat a11 h11 x9 2 inb_S1x128x128_S1x128x1_0_0_2) (ldCols a9 h9 x7 128 inb_S1x128x512_S1x128x128_0_0_128) (ldCols a8 h8 x6 128 inb_S1x128x512_S1x128x128_0_0_128) (ldStat a13 h13 x11 2 inb_S1x128x128_S1x128x1_0_0_2)) (scoresB k0_pay4 (k0_pay13 (hasNext i) (sameNext i)) (k0_pay10 (F := Ideal) (dilAt i)) (ldSlope a2 h2 x0 i 2#32 0#32 (k0_off1_inb i 1 0) (by decide)) (ldCols a4 h4 x2 128 inb_S1x128x512_S1x128x128_0_0_128) (ldCols a6 h6 x4 128 inb_S1x128x512_S1x128x128_0_0_128) (ldStat a12 h12 x10 2 inb_S1x128x128_S1x128x1_0_0_2) (ldCols a10 h10 x8 128 inb_S1x128x512_S1x128x128_0_0_128) (ldCols a8 h8 x6 128 inb_S1x128x512_S1x128x128_0_0_128) (ldStat a14 h14 x12 2 inb_S1x128x128_S1x128x1_0_0_2)) (scoresB k0_pay5 k0_pay9 (k0_pay8 (F := Ideal) (dilAt i)) (ldSlope a2 h2 x0 i 2#32 1#32 (k0_off1_inb i 1 1) (by decide)) (ldCols a3 h3 x1 128 inb_S1x128x512_S1x128x128_0_0_128) (ldCols a6 h6 x4 128 inb_S1x128x512_S1x128x128_0_0_128) (ldStat a11 h11 x9 3 inb_S1x128x128_S1x128x1_0_0_3) (ldCols a9 h9 x7 128 inb_S1x128x512_S1x128x128_0_0_128) (ldCols a8 h8 x6 128 inb_S1x128x512_S1x128x128_0_0_128) (ldStat a13 h13 x11 3 inb_S1x128x128_S1x128x1_0_0_3)) (scoresB k0_pay5 (k0_pay13 (hasNext i) (sameNext i)) (k0_pay10 (F := Ideal) (dilAt i)) (ldSlope a2 h2 x0 i 2#32 1#32 (k0_off1_inb i 1 1) (by decide)) (ldCols a4 h4 x2 128 inb_S1x128x512_S1x128x128_0_0_128) (ldCols a6 h6 x4 128 inb_S1x128x512_S1x128x128_0_0_128) (ldStat a12 h12 x10 3 inb_S1x128x128_S1x128x1_0_0_3) (ldCols a10 h10 x8 128 inb_S1x128x512_S1x128x128_0_0_128) (ldCols a8 h8 x6 128 inb_S1x128x512_S1x128x128_0_0_128) (ldStat a14 h14 x12 3 inb_S1x128x128_S1x128x1_0_0_3)) (ldCols a3 h3 x1 128 inb_S1x128x512_S1x128x128_0_0_128) (ldCols a4 h4 x2 128 inb_S1x128x512_S1x128x128_0_0_128))
      (pairDk (scoresB k0_pay4 k0_pay9 (k0_pay8 (F := Ideal) (dilAt i)) (ldSlope a2 h2 x0 i 4#32 0#32 (k0_off1_inb i 2 0) (by decide)) (ldCols a3 h3 x1 256 inb_S1x128x512_S1x128x128_0_0_256) (ldCols a6 h6 x4 256 inb_S1x128x512_S1x128x128_0_0_256) (ldStat a11 h11 x9 4 inb_S1x128x128_S1x128x1_0_0_4) (ldCols a9 h9 x7 256 inb_S1x128x512_S1x128x128_0_0_256) (ldCols a8 h8 x6 256 inb_S1x128x512_S1x128x128_0_0_256) (ldStat a13 h13 x11 4 inb_S1x128x128_S1x128x1_0_0_4)) (scoresB k0_pay4 (k0_pay13 (hasNext i) (sameNext i)) (k0_pay10 (F := Ideal) (dilAt i)) (ldSlope a2 h2 x0 i 4#32 0#32 (k0_off1_inb i 2 0) (by decide)) (ldCols a4 h4 x2 256 inb_S1x128x512_S1x128x128_0_0_256) (ldCols a6 h6 x4 256 inb_S1x128x512_S1x128x128_0_0_256) (ldStat a12 h12 x10 4 inb_S1x128x128_S1x128x1_0_0_4) (ldCols a10 h10 x8 256 inb_S1x128x512_S1x128x128_0_0_256) (ldCols a8 h8 x6 256 inb_S1x128x512_S1x128x128_0_0_256) (ldStat a14 h14 x12 4 inb_S1x128x128_S1x128x1_0_0_4)) (scoresB k0_pay5 k0_pay9 (k0_pay8 (F := Ideal) (dilAt i)) (ldSlope a2 h2 x0 i 4#32 1#32 (k0_off1_inb i 2 1) (by decide)) (ldCols a3 h3 x1 256 inb_S1x128x512_S1x128x128_0_0_256) (ldCols a6 h6 x4 256 inb_S1x128x512_S1x128x128_0_0_256) (ldStat a11 h11 x9 5 inb_S1x128x128_S1x128x1_0_0_5) (ldCols a9 h9 x7 256 inb_S1x128x512_S1x128x128_0_0_256) (ldCols a8 h8 x6 256 inb_S1x128x512_S1x128x128_0_0_256) (ldStat a13 h13 x11 5 inb_S1x128x128_S1x128x1_0_0_5)) (scoresB k0_pay5 (k0_pay13 (hasNext i) (sameNext i)) (k0_pay10 (F := Ideal) (dilAt i)) (ldSlope a2 h2 x0 i 4#32 1#32 (k0_off1_inb i 2 1) (by decide)) (ldCols a4 h4 x2 256 inb_S1x128x512_S1x128x128_0_0_256) (ldCols a6 h6 x4 256 inb_S1x128x512_S1x128x128_0_0_256) (ldStat a12 h12 x10 5 inb_S1x128x128_S1x128x1_0_0_5) (ldCols a10 h10 x8 256 inb_S1x128x512_S1x128x128_0_0_256) (ldCols a8 h8 x6 256 inb_S1x128x512_S1x128x128_0_0_256) (ldStat a14 h14 x12 5 inb_S1x128x128_S1x128x1_0_0_5)) (ldCols a3 h3 x1 256 inb_S1x128x512_S1x128x128_0_0_256) (ldCols a4 h4 x2 256 inb_S1x128x512_S1x128x128_0_0_256))
      (pairDk (scoresB k0_pay4 k0_pay9 (k0_pay8 (F := Ideal) (dilAt i)) (ldSlope a2 h2 x0 i 6#32 0#32 (k0_off1_inb i 3 0) (by decide)) (ldCols a3 h3 x1 384 inb_S1x128x512_S1x128x128_0_0_384) (ldCols a6 h6 x4 384 inb_S1x128x512_S1x128x128_0_0_384) (ldStat a11 h11 x9 6 inb_S1x128x128_S1x128x1_0_0_6) (ldCols a9 h9 x7 384 inb_S1x128x512_S1x128x128_0_0_384) (ldCols a8 h8 x6 384 inb_S1x128x512_S1x128x128_0_0_384) (ldStat a13 h13 x11 6 inb_S1x128x128_S1x128x1_0_0_6)) (scoresB k0_pay4 (k0_pay13 (hasNext i) (sameNext i)) (k0_pay10 (F := Ideal) (dilAt i)) (ldSlope a2 h2 x0 i 6#32 0#32 (k0_off1_inb i 3 0) (by decide)) (ldCols a4 h4 x2 384 inb_S1x128x512_S1x128x128_0_0_384) (ldCols a6 h6 x4 384 inb_S1x128x512_S1x128x128_0_0_384) (ldStat a12 h12 x10 6 inb_S1x128x128_S1x128x1_0_0_6) (ldCols a10 h10 x8 384 inb_S1x128x512_S1x128x128_0_0_384) (ldCols a8 h8 x6 384 inb_S1x128x512_S1x128x128_0_0_384) (ldStat a14 h14 x12 6 inb_S1x128x128_S1x128x1_0_0_6)) (scoresB k0_pay5 k0_pay9 (k0_pay8 (F := Ideal) (dilAt i)) (ldSlope a2 h2 x0 i 6#32 1#32 (k0_off1_inb i 3 1) (by decide)) (ldCols a3 h3 x1 384 inb_S1x128x512_S1x128x128_0_0_384) (ldCols a6 h6 x4 384 inb_S1x128x512_S1x128x128_0_0_384) (ldStat a11 h11 x9 7 inb_S1x128x128_S1x128x1_0_0_7) (ldCols a9 h9 x7 384 inb_S1x128x512_S1x128x128_0_0_384) (ldCols a8 h8 x6 384 inb_S1x128x512_S1x128x128_0_0_384) (ldStat a13 h13 x11 7 inb_S1x128x128_S1x128x1_0_0_7)) (scoresB k0_pay5 (k0_pay13 (hasNext i) (sameNext i)) (k0_pay10 (F := Ideal) (dilAt i)) (ldSlope a2 h2 x0 i 6#32 1#32 (k0_off1_inb i 3 1) (by decide)) (ldCols a4 h4 x2 384 inb_S1x128x512_S1x128x128_0_0_384) (ldCols a6 h6 x4 384 inb_S1x128x512_S1x128x128_0_0_384) (ldStat a12 h12 x10 7 inb_S1x128x128_S1x128x1_0_0_7) (ldCols a10 h10 x8 384 inb_S1x128x512_S1x128x128_0_0_384) (ldCols a8 h8 x6 384 inb_S1x128x512_S1x128x128_0_0_384) (ldStat a14 h14 x12 7 inb_S1x128x128_S1x128x1_0_0_7)) (ldCols a3 h3 x1 384 inb_S1x128x512_S1x128x128_0_0_384) (ldCols a4 h4 x2 384 inb_S1x128x512_S1x128x128_0_0_384)) := by
  unfold out0_A_14
  rw [View.read_writes_eq_canon _ _ _ (cover0_A_14 c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12)]
  unfold kernelRun0_A
  dsimp only
  sl_unfold_words
  refine (View.canon_unit_zero (S := S1x128x512) (by decide) _ _).trans ?_
  rfl

/-- The block of the values' gradient. -/
theorem out15_eq : out0_A_15 c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12
    = k0_pay1 (pairDv (weightsB k0_pay4 k0_pay9 (k0_pay8 (F := Ideal) (dilAt i)) (ldSlope a2 h2 x0 i 0#32 0#32 (k0_off1_inb i 0 0) (by decide)) (ldCols a3 h3 x1 0 inb_S1x128x512_S1x128x128_0_0_0) (ldCols a6 h6 x4 0 inb_S1x128x512_S1x128x128_0_0_0) (ldStat a11 h11 x9 0 inb_S1x128x128_S1x128x1_0_0_0)) (weightsB k0_pay4 (k0_pay13 (hasNext i) (sameNext i)) (k0_pay10 (F := Ideal) (dilAt i)) (ldSlope a2 h2 x0 i 0#32 0#32 (k0_off1_inb i 0 0) (by decide)) (ldCols a4 h4 x2 0 inb_S1x128x512_S1x128x128_0_0_0) (ldCols a6 h6 x4 0 inb_S1x128x512_S1x128x128_0_0_0) (ldStat a12 h12 x10 0 inb_S1x128x128_S1x128x1_0_0_0)) (weightsB k0_pay5 k0_pay9 (k0_pay8 (F := Ideal) (dilAt i)) (ldSlope a2 h2 x0 i 0#32 1#32 (k0_off1_inb i 0 1) (by decide)) (ldCols a3 h3 x1 0 inb_S1x128x512_S1x128x128_0_0_0) (ldCols a6 h6 x4 0 inb_S1x128x512_S1x128x128_0_0_0) (ldStat a11 h11 x9 1 inb_S1x128x128_S1x128x1_0_0_1)) (weightsB k0_pay5 (k0_pay13 (hasNext i) (sameNext i)) (k0_pay10 (F := Ideal) (dilAt i)) (ldSlope a2 h2 x0 i 0#32 1#32 (k0_off1_inb i 0 1) (by decide)) (ldCols a4 h4 x2 0 inb_S1x128x512_S1x128x128_0_0_0) (ldCols a6 h6 x4 0 inb_S1x128x512_S1x128x128_0_0_0) (ldStat a12 h12 x10 1 inb_S1x128x128_S1x128x1_0_0_1)) (ldCols a9 h9 x7 0 inb_S1x128x512_S1x128x128_0_0_0) (ldCols a10 h10 x8 0 inb_S1x128x512_S1x128x128_0_0_0))
      (pairDv (weightsB k0_pay4 k0_pay9 (k0_pay8 (F := Ideal) (dilAt i)) (ldSlope a2 h2 x0 i 2#32 0#32 (k0_off1_inb i 1 0) (by decide)) (ldCols a3 h3 x1 128 inb_S1x128x512_S1x128x128_0_0_128) (ldCols a6 h6 x4 128 inb_S1x128x512_S1x128x128_0_0_128) (ldStat a11 h11 x9 2 inb_S1x128x128_S1x128x1_0_0_2)) (weightsB k0_pay4 (k0_pay13 (hasNext i) (sameNext i)) (k0_pay10 (F := Ideal) (dilAt i)) (ldSlope a2 h2 x0 i 2#32 0#32 (k0_off1_inb i 1 0) (by decide)) (ldCols a4 h4 x2 128 inb_S1x128x512_S1x128x128_0_0_128) (ldCols a6 h6 x4 128 inb_S1x128x512_S1x128x128_0_0_128) (ldStat a12 h12 x10 2 inb_S1x128x128_S1x128x1_0_0_2)) (weightsB k0_pay5 k0_pay9 (k0_pay8 (F := Ideal) (dilAt i)) (ldSlope a2 h2 x0 i 2#32 1#32 (k0_off1_inb i 1 1) (by decide)) (ldCols a3 h3 x1 128 inb_S1x128x512_S1x128x128_0_0_128) (ldCols a6 h6 x4 128 inb_S1x128x512_S1x128x128_0_0_128) (ldStat a11 h11 x9 3 inb_S1x128x128_S1x128x1_0_0_3)) (weightsB k0_pay5 (k0_pay13 (hasNext i) (sameNext i)) (k0_pay10 (F := Ideal) (dilAt i)) (ldSlope a2 h2 x0 i 2#32 1#32 (k0_off1_inb i 1 1) (by decide)) (ldCols a4 h4 x2 128 inb_S1x128x512_S1x128x128_0_0_128) (ldCols a6 h6 x4 128 inb_S1x128x512_S1x128x128_0_0_128) (ldStat a12 h12 x10 3 inb_S1x128x128_S1x128x1_0_0_3)) (ldCols a9 h9 x7 128 inb_S1x128x512_S1x128x128_0_0_128) (ldCols a10 h10 x8 128 inb_S1x128x512_S1x128x128_0_0_128))
      (pairDv (weightsB k0_pay4 k0_pay9 (k0_pay8 (F := Ideal) (dilAt i)) (ldSlope a2 h2 x0 i 4#32 0#32 (k0_off1_inb i 2 0) (by decide)) (ldCols a3 h3 x1 256 inb_S1x128x512_S1x128x128_0_0_256) (ldCols a6 h6 x4 256 inb_S1x128x512_S1x128x128_0_0_256) (ldStat a11 h11 x9 4 inb_S1x128x128_S1x128x1_0_0_4)) (weightsB k0_pay4 (k0_pay13 (hasNext i) (sameNext i)) (k0_pay10 (F := Ideal) (dilAt i)) (ldSlope a2 h2 x0 i 4#32 0#32 (k0_off1_inb i 2 0) (by decide)) (ldCols a4 h4 x2 256 inb_S1x128x512_S1x128x128_0_0_256) (ldCols a6 h6 x4 256 inb_S1x128x512_S1x128x128_0_0_256) (ldStat a12 h12 x10 4 inb_S1x128x128_S1x128x1_0_0_4)) (weightsB k0_pay5 k0_pay9 (k0_pay8 (F := Ideal) (dilAt i)) (ldSlope a2 h2 x0 i 4#32 1#32 (k0_off1_inb i 2 1) (by decide)) (ldCols a3 h3 x1 256 inb_S1x128x512_S1x128x128_0_0_256) (ldCols a6 h6 x4 256 inb_S1x128x512_S1x128x128_0_0_256) (ldStat a11 h11 x9 5 inb_S1x128x128_S1x128x1_0_0_5)) (weightsB k0_pay5 (k0_pay13 (hasNext i) (sameNext i)) (k0_pay10 (F := Ideal) (dilAt i)) (ldSlope a2 h2 x0 i 4#32 1#32 (k0_off1_inb i 2 1) (by decide)) (ldCols a4 h4 x2 256 inb_S1x128x512_S1x128x128_0_0_256) (ldCols a6 h6 x4 256 inb_S1x128x512_S1x128x128_0_0_256) (ldStat a12 h12 x10 5 inb_S1x128x128_S1x128x1_0_0_5)) (ldCols a9 h9 x7 256 inb_S1x128x512_S1x128x128_0_0_256) (ldCols a10 h10 x8 256 inb_S1x128x512_S1x128x128_0_0_256))
      (pairDv (weightsB k0_pay4 k0_pay9 (k0_pay8 (F := Ideal) (dilAt i)) (ldSlope a2 h2 x0 i 6#32 0#32 (k0_off1_inb i 3 0) (by decide)) (ldCols a3 h3 x1 384 inb_S1x128x512_S1x128x128_0_0_384) (ldCols a6 h6 x4 384 inb_S1x128x512_S1x128x128_0_0_384) (ldStat a11 h11 x9 6 inb_S1x128x128_S1x128x1_0_0_6)) (weightsB k0_pay4 (k0_pay13 (hasNext i) (sameNext i)) (k0_pay10 (F := Ideal) (dilAt i)) (ldSlope a2 h2 x0 i 6#32 0#32 (k0_off1_inb i 3 0) (by decide)) (ldCols a4 h4 x2 384 inb_S1x128x512_S1x128x128_0_0_384) (ldCols a6 h6 x4 384 inb_S1x128x512_S1x128x128_0_0_384) (ldStat a12 h12 x10 6 inb_S1x128x128_S1x128x1_0_0_6)) (weightsB k0_pay5 k0_pay9 (k0_pay8 (F := Ideal) (dilAt i)) (ldSlope a2 h2 x0 i 6#32 1#32 (k0_off1_inb i 3 1) (by decide)) (ldCols a3 h3 x1 384 inb_S1x128x512_S1x128x128_0_0_384) (ldCols a6 h6 x4 384 inb_S1x128x512_S1x128x128_0_0_384) (ldStat a11 h11 x9 7 inb_S1x128x128_S1x128x1_0_0_7)) (weightsB k0_pay5 (k0_pay13 (hasNext i) (sameNext i)) (k0_pay10 (F := Ideal) (dilAt i)) (ldSlope a2 h2 x0 i 6#32 1#32 (k0_off1_inb i 3 1) (by decide)) (ldCols a4 h4 x2 384 inb_S1x128x512_S1x128x128_0_0_384) (ldCols a6 h6 x4 384 inb_S1x128x512_S1x128x128_0_0_384) (ldStat a12 h12 x10 7 inb_S1x128x128_S1x128x1_0_0_7)) (ldCols a9 h9 x7 384 inb_S1x128x512_S1x128x128_0_0_384) (ldCols a10 h10 x8 384 inb_S1x128x512_S1x128x128_0_0_384)) := by
  unfold out0_A_15
  rw [View.read_writes_eq_canon _ _ _ (cover0_A_15 c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12)]
  unfold kernelRun0_A
  dsimp only
  sl_unfold_words
  refine (View.canon_unit_zero (S := S1x128x512) (by decide) _ _).trans ?_
  rfl

end Cert.DilIdeal.Value

end
-- ==== Proof.DilTileAt.lean ====
/-
  The tile arithmetic of the dilated attention's gradient read at an element, and with it the blocks that one grid point writes:
  for each of the eight heads a sum over the 128 rows of one block and a sum over those of a neighbouring block.
-/
module

public import proofs.«01_k».proof.Proof.DilKernel

@[expose] public section

set_option maxRecDepth 16384

noncomputable section

namespace Cert.DilIdeal.Value

open Cert.DilIdeal Cert.DilIdeal.Gen Idealize.ShloMosaic Idealize.ShloMosaic.TcCoe Idealize.SL.Sem

/-- An eighth, as the programs print it. -/
abbrev eighth : EReal := Ideal.ofBits FTy.bf16 0x3E00#16

/-! ## Elements -/

/-- The weight of a pair of a query and a key, from the key's allowance, the score and the query's log-sum. -/
def weightAt (ok : BitVec 1) (s l : EReal) : EReal := Ideal.exp (Scalar.select ok s ⊥ - l)

/-- The score of a pair: the scaled product of query and key, less the slope times the distance. -/
def scoreAt (sl bias : EReal) (q k : Fin 64 → EReal) : EReal := (∑ d : Fin 64, q d * eighth * k d) - sl * bias

/-- The gradient of a pair's score. -/
def gradAt (w : EReal) (o v : Fin 64 → EReal) (dl : EReal) : EReal := w * ((∑ d : Fin 64, o d * v d) - dl)

/-- Lane `d` of half `e`. -/
def lane (e : Fin 2) (d : Fin 64) : Fin 128 := ⟨64 * e.val + d.val, by omega⟩

/-- Column `d` of head `h`. -/
def hcol (h : Fin 8) (d : Fin 64) : Fin 512 := ⟨64 * h.val + d.val, by omega⟩

/-- Row `i` of head `h` in a block. -/
def hrow (x : Vec Ideal S1x128x512 .bf16) (h : Fin 8) (i : Fin 128) : Fin 64 → EReal := fun d => x (ix3 0 i (hcol h d))

/-- The lane of a head's row statistics. -/
def hlane (h : Fin 8) : Fin 128 := ⟨h.val, by omega⟩

/-- A mask of the lanes of half `e`. -/
def IsHalf (mk : IVec S1x128 1) (e : Fin 2) : Prop := ∀ l : Fin 128, mk (ix2 0 l) = if l.val / 64 = e.val then 1#1 else 0#1

theorem isHalf0 : IsHalf k0_pay4 0 := by
  intro l
  pointwise [k0_pay4]
  revert l; decide +kernel
theorem isHalf1 : IsHalf k0_pay5 1 := by
  intro l
  pointwise [k0_pay5]
  revert l; decide +kernel

theorem select_half {mk : IVec S1x128 1} {e : Fin 2} (hm : IsHalf mk e) (l : Fin 128) (x y : EReal) :
    Scalar.select (mk (ix2 0 l)) x y = if l.val / 64 = e.val then x else y := by
  rw [hm l]
  by_cases h : l.val / 64 = e.val
  · rw [if_pos h, if_pos h]; rfl
  · rw [if_neg h, if_neg h]; rfl

/-- A sum over the lanes that vanishes outside half `e` is one over that half. -/
theorem sum_half (e : Fin 2) (f : Fin 128 → EReal) :
    (∑ l : Fin 128, if l.val / 64 = e.val then f l else 0) = ∑ d : Fin 64, f (lane e d) := by
  rw [← Finset.sum_filter]
  symm
  refine Finset.sum_bij (fun d _ => lane e d) (fun d _ => ?_) (fun a _ b _ h => ?_) (fun l hl => ?_) (fun d _ => rfl)
  · rw [Finset.mem_filter]
    refine ⟨Finset.mem_univ _, ?_⟩
    show (64 * e.val + d.val) / 64 = e.val
    omega
  · have := congrArg Fin.val h
    apply Fin.ext
    change 64 * e.val + a.val = 64 * e.val + b.val at this
    omega
  · rw [Finset.mem_filter] at hl
    refine ⟨⟨l.val - 64 * e.val, by omega⟩, Finset.mem_univ _, ?_⟩
    apply Fin.ext
    show 64 * e.val + (l.val - 64 * e.val) = l.val
    omega

theorem lanesOf_apply {mk : IVec S1x128 1} {e : Fin 2} (hm : IsHalf mk e) (x : Vec Ideal S1x128x128 .bf16) (i l : Fin 128) :
    lanesOf mk x (ix2 i l) = if l.val / 64 = e.val then (x (ix3 0 i l) : EReal) else 0 := by
  pointwise [lanesOf]
  exact select_half hm l _ _

theorem lanesEighth_apply {mk : IVec S1x128 1} {e : Fin 2} (hm : IsHalf mk e) (x : Vec Ideal S1x128x128 .bf16) (i l : Fin 128) :
    lanesEighth mk x (ix2 i l) = if l.val / 64 = e.val then (x (ix3 0 i l) : EReal) * eighth else 0 := by
  pointwise [lanesEighth]
  exact select_half hm l _ _

theorem rowsRows_lanesOf {mk : IVec S1x128 1} {e : Fin 2} (hm : IsHalf mk e) (x v : Vec Ideal S1x128x128 .bf16) (i j : Fin 128) :
    rowsRows (lanesOf mk x) (shapeCast S128x128 v shapeCasts_S1x128x128_S128x128) (ix2 i j)
      = ∑ d : Fin 64, (x (ix3 0 i (lane e d)) : EReal) * (v (ix3 0 j (lane e d)) : EReal) := by
  pointwise [rowsRows]
  rw [← sum_half e (fun l => (x (ix3 0 i l) : EReal) * (v (ix3 0 j l) : EReal))]
  refine Finset.sum_congr rfl fun l _ => ?_
  rw [lanesOf_apply hm, ite_mul, zero_mul]

theorem rowsRows_lanesEighth {mk : IVec S1x128 1} {e : Fin 2} (hm : IsHalf mk e) (x v : Vec Ideal S1x128x128 .bf16) (i j : Fin 128) :
    rowsRows (lanesEighth mk x) (shapeCast S128x128 v shapeCasts_S1x128x128_S128x128) (ix2 i j)
      = ∑ d : Fin 64, (x (ix3 0 i (lane e d)) : EReal) * eighth * (v (ix3 0 j (lane e d)) : EReal) := by
  pointwise [rowsRows]
  rw [← sum_half e (fun l => (x (ix3 0 i l) : EReal) * eighth * (v (ix3 0 j l) : EReal))]
  refine Finset.sum_congr rfl fun l _ => ?_
  rw [lanesEighth_apply hm, ite_mul, zero_mul]

/-! ## The weights and the scores' gradients -/

section Tiles

variable {mk : IVec S1x128 1} {e : Fin 2} (hm : IsHalf mk e) (ok : IVec S128x128 1) (bias : FVec Ideal S128x128 .f32) (sl : EReal)
  (q k : Vec Ideal S1x128x128 .bf16) (l : Vec Ideal S1x128x1 .f32) (o v : Vec Ideal S1x128x128 .bf16) (d : Vec Ideal S1x128x1 .f32)
  (i j : Fin 128)

include hm in
theorem weights_apply : weights mk ok bias sl q k l (ix2 i j)
    = weightAt (ok (ix2 i j)) (scoreAt sl (bias (ix2 i j)) (fun a => q (ix3 0 i (lane e a))) (fun a => k (ix3 0 j (lane e a)))) (l (ix3 0 i 0)) := by
  pointwise [weights]
  rw [rowsRows_lanesEighth hm]
  rfl

include hm in
theorem weightsB_apply : weightsB mk ok bias sl q k l (ix2 i j)
    = weightAt (ok (ix2 i j)) (scoreAt sl (bias (ix2 i j)) (fun a => q (ix3 0 i (lane e a))) (fun a => k (ix3 0 j (lane e a)))) (l (ix3 0 i 0)) := by
  pointwise [weightsB]
  exact weights_apply hm ok bias sl q k l i j

include hm in
theorem scoresB_apply : scoresB mk ok bias sl q k l o v d (ix2 i j)
    = gradAt (weightAt (ok (ix2 i j)) (scoreAt sl (bias (ix2 i j)) (fun a => q (ix3 0 i (lane e a))) (fun a => k (ix3 0 j (lane e a)))) (l (ix3 0 i 0)))
        (fun a => o (ix3 0 i (lane e a))) (fun a => v (ix3 0 j (lane e a))) (d (ix3 0 i 0)) := by
  pointwise [scoresB]
  rw [weights_apply hm, rowsRows_lanesOf hm]
  rfl

end Tiles

/-! ## The pairs of heads -/

theorem half_of_lane (e e' : Fin 2) (d : Fin 64) : ((lane e d).val / 64 = e'.val) ↔ e = e' := by
  rw [Fin.ext_iff]
  show (64 * e.val + d.val) / 64 = e'.val ↔ _
  omega

theorem rowsCols_lanesEighth {mk : IVec S1x128 1} {e' : Fin 2} (hm : IsHalf mk e') (s : FVec Ideal S128x128 .bf16) (x : Vec Ideal S1x128x128 .bf16)
    (i : Fin 128) (e : Fin 2) (d : Fin 64) :
    rowsCols s (lanesEighth mk x) (ix2 i (lane e d)) = if e = e' then ∑ j : Fin 128, (s (ix2 i j) : EReal) * ((x (ix3 0 j (lane e d)) : EReal) * eighth) else 0 := by
  pointwise [rowsCols]
  simp only [lanesEighth_apply hm, half_of_lane]
  by_cases h : e = e'
  · simp only [if_pos h]
  · simp only [if_neg h, mul_zero, Finset.sum_const_zero]

theorem colsCols_lanesEighth {mk : IVec S1x128 1} {e' : Fin 2} (hm : IsHalf mk e') (s : FVec Ideal S128x128 .bf16) (x : Vec Ideal S1x128x128 .bf16)
    (i : Fin 128) (e : Fin 2) (d : Fin 64) :
    colsCols s (lanesEighth mk x) (ix2 i (lane e d)) = if e = e' then ∑ j : Fin 128, (s (ix2 j i) : EReal) * ((x (ix3 0 j (lane e d)) : EReal) * eighth) else 0 := by
  pointwise [colsCols]
  simp only [lanesEighth_apply hm, half_of_lane]
  by_cases h : e = e'
  · simp only [if_pos h]
  · simp only [if_neg h, mul_zero, Finset.sum_const_zero]

theorem colsCols_lanesOf {mk : IVec S1x128 1} {e' : Fin 2} (hm : IsHalf mk e') (s : FVec Ideal S128x128 .bf16) (x : Vec Ideal S1x128x128 .bf16)
    (i : Fin 128) (e : Fin 2) (d : Fin 64) :
    colsCols s (lanesOf mk x) (ix2 i (lane e d)) = if e = e' then ∑ j : Fin 128, (s (ix2 j i) : EReal) * (x (ix3 0 j (lane e d)) : EReal) else 0 := by
  pointwise [colsCols]
  simp only [lanesOf_apply hm, half_of_lane]
  by_cases h : e = e'
  · simp only [if_pos h]
  · simp only [if_neg h, mul_zero, Finset.sum_const_zero]

section Pairs

variable (a b c d : FVec Ideal S128x128 .bf16) (x y : Vec Ideal S1x128x128 .bf16) (i : Fin 128) (t : Fin 64)

theorem pairDq_0 : pairDq a b c d x y (ix2 i (lane 0 t)) = (∑ j : Fin 128, (a (ix2 i j) : EReal) * ((x (ix3 0 j (lane 0 t)) : EReal) * eighth))
    + ∑ j : Fin 128, (b (ix2 i j) : EReal) * ((y (ix3 0 j (lane 0 t)) : EReal) * eighth) := by
  pointwise [pairDq, zeroTile]
  simp [rowsCols_lanesEighth isHalf0, rowsCols_lanesEighth isHalf1]
theorem pairDq_1 : pairDq a b c d x y (ix2 i (lane 1 t)) = (∑ j : Fin 128, (c (ix2 i j) : EReal) * ((x (ix3 0 j (lane 1 t)) : EReal) * eighth))
    + ∑ j : Fin 128, (d (ix2 i j) : EReal) * ((y (ix3 0 j (lane 1 t)) : EReal) * eighth) := by
  pointwise [pairDq, zeroTile]
  simp [rowsCols_lanesEighth isHalf0, rowsCols_lanesEighth isHalf1]
theorem pairDk_0 : pairDk a b c d x y (ix2 i (lane 0 t)) = (∑ j : Fin 128, (a (ix2 j i) : EReal) * ((x (ix3 0 j (lane 0 t)) : EReal) * eighth))
    + ∑ j : Fin 128, (b (ix2 j i) : EReal) * ((y (ix3 0 j (lane 0 t)) : EReal) * eighth) := by
  pointwise [pairDk, zeroTile]
  simp [colsCols_lanesEighth isHalf0, colsCols_lanesEighth isHalf1]
theorem pairDk_1 : pairDk a b c d x y (ix2 i (lane 1 t)) = (∑ j : Fin 128, (c (ix2 j i) : EReal) * ((x (ix3 0 j (lane 1 t)) : EReal) * eighth))
    + ∑ j : Fin 128, (d (ix2 j i) : EReal) * ((y (ix3 0 j (lane 1 t)) : EReal) * eighth) := by
  pointwise [pairDk, zeroTile]
  simp [colsCols_lanesEighth isHalf0, colsCols_lanesEighth isHalf1]
theorem pairDv_0 : pairDv a b c d x y (ix2 i (lane 0 t)) = (∑ j : Fin 128, (a (ix2 j i) : EReal) * (x (ix3 0 j (lane 0 t)) : EReal))
    + ∑ j : Fin 128, (b (ix2 j i) : EReal) * (y (ix3 0 j (lane 0 t)) : EReal) := by
  pointwise [pairDv, zeroTile]
  simp [colsCols_lanesOf isHalf0, colsCols_lanesOf isHalf1]
theorem pairDv_1 : pairDv a b c d x y (ix2 i (lane 1 t)) = (∑ j : Fin 128, (c (ix2 j i) : EReal) * (x (ix3 0 j (lane 1 t)) : EReal))
    + ∑ j : Fin 128, (d (ix2 j i) : EReal) * (y (ix3 0 j (lane 1 t)) : EReal) := by
  pointwise [pairDv, zeroTile]
  simp [colsCols_lanesOf isHalf0, colsCols_lanesOf isHalf1]

end Pairs

/-- Four tiles side by side. -/
theorem pay1_apply (f : Fin 4 → FVec Ideal S128x128 .f32) (i : Fin 128) (p : Fin 4) (l : Fin 128) (h : 128 * p.val + l.val < 512) :
    k0_pay1 (f 0) (f 1) (f 2) (f 3) (ix3 0 i ⟨128 * p.val + l.val, h⟩) = f p (ix2 i l) := by
  pointwise [k0_pay1]
  match p with
  | ⟨0, _⟩ =>
    rw [dif_pos (by show 128 * 0 + l.val < 128; omega)]
    exact congrArg (fun x => f 0 (ix2 i x)) (Fin.ext (by show 128 * 0 + l.val = l.val; omega))
  | ⟨1, _⟩ =>
    rw [dif_neg (by show ¬(128 * 1 + l.val < 128); omega), dif_pos (by show 128 * 1 + l.val - 128 < 128; omega)]
    exact congrArg (fun x => f 1 (ix2 i x)) (Fin.ext (by show 128 * 1 + l.val - 128 = l.val; omega))
  | ⟨2, _⟩ =>
    rw [dif_neg (by show ¬(128 * 2 + l.val < 128); omega), dif_neg (by show ¬(128 * 2 + l.val - 128 < 128); omega), dif_pos (by show 128 * 2 + l.val - 128 - 128 < 128; omega)]
    exact congrArg (fun x => f 2 (ix2 i x)) (Fin.ext (by show 128 * 2 + l.val - 128 - 128 = l.val; omega))
  | ⟨3, _⟩ =>
    rw [dif_neg (by show ¬(128 * 3 + l.val < 128); omega), dif_neg (by show ¬(128 * 3 + l.val - 128 < 128); omega), dif_neg (by show ¬(128 * 3 + l.val - 128 - 128 < 128); omega)]
    exact congrArg (fun x => f 3 (ix2 i x)) (Fin.ext (by show 128 * 3 + l.val - 128 - 128 - 128 = l.val; omega))

/-! ## The loads -/

theorem ldCols_apply (a : Memref sig .tc .vmem S1x128x512 .bf16) (ha : a.IsWhole) (x : Vec Ideal S1x128x512 .bf16) (o : Nat) (hin)
    (i : Fin 128) (e : Fin 2) (d : Fin 64) (h : Fin 8) (ho : o + 64 * e.val = 64 * h.val) :
    ldCols a ha x o hin (ix3 0 i (lane e d)) = hrow x h i d := by
  unfold ldCols
  rw [View.readAt_eq_ld, ha.read_unread]
  refine congrArg x (Rect.emb_eq_of_coords _ _ _ fun k => ?_)
  match k with
  | ⟨0, _⟩ => rfl
  | ⟨1, _⟩ => show i.val = 0 + 1 * i.val; omega
  | ⟨2, _⟩ => show 64 * h.val + d.val = o + 1 * (64 * e.val + d.val); omega

theorem ldStat_apply (a : Memref sig .tc .vmem S1x128x128 .f32) (ha : a.IsWhole) (x : Vec Ideal S1x128x128 .f32) (o : Nat) (hin)
    (i : Fin 128) (h : Fin 8) (ho : o = h.val) : ldStat a ha x o hin (ix3 0 i 0) = x (ix3 0 i (hlane h)) := by
  unfold ldStat
  rw [View.readAt_eq_ld, ha.read_unread]
  refine congrArg x (Rect.emb_eq_of_coords _ _ _ fun k => ?_)
  match k with
  | ⟨0, _⟩ => rfl
  | ⟨1, _⟩ => show i.val = 0 + 1 * i.val; omega
  | ⟨2, _⟩ => show h.val = o + 1 * 0; omega

/-- The place of head `h`'s slope at a grid point. -/
def slopeIx (i : grid0.Coords) (h : Fin 8) : Fin 24 := ⟨8 * (i 0).val + h.val, by have : (i 0).val < 3 := (i 0).isLt; omega⟩

theorem off1_val : ∀ (a : Fin 3) (p : Fin 4) (e : Fin 2), (Scalar.indexCast (Scalar.addi (Scalar.addi (Scalar.muli (BitVec.ofNat 32 a.val) 8#32)
    (BitVec.ofNat 32 (2 * p.val))) (BitVec.ofNat 32 e.val)) : Index).toNat = 8 * a.val + 2 * p.val + e.val := by decide +kernel

theorem ldSlope_apply (a : Memref sig .tc .smem S24 .f32) (ha : a.IsWhole) (x : Vec Ideal S24 .f32) (i : grid0.Coords) (p : Fin 4) (e : Fin 2) (hin) (h1)
    (h : Fin 8) (ho : 2 * p.val + e.val = h.val) :
    ldSlope a ha x i (BitVec.ofNat 32 (2 * p.val)) (BitVec.ofNat 32 e.val) hin h1 = x (ix1 (slopeIx i h)) := by
  unfold ldSlope
  rw [View.readAt_eq_ld, ha.read_unread]
  refine congrArg x (Rect.emb_eq_of_coords _ _ _ fun k => ?_)
  match k with
  | ⟨0, _⟩ =>
    have := off1_val (i 0) p e
    show 8 * (i 0).val + h.val = (Scalar.indexCast (Scalar.addi (Scalar.addi (Scalar.muli (BitVec.ofNat 32 (i 0).val) 8#32)
      (BitVec.ofNat 32 (2 * p.val))) (BitVec.ofNat 32 e.val)) : Index).toNat + 1 * 0
    rw [this]; omega

end Cert.DilIdeal.Value

end
-- ==== Proof.DilBlock.lean ====
/-
  The three blocks that one grid point of the dilated attention's gradient writes, read at an element: a sum over the rows of the
  block at the same place and a sum over those of the block before it (after it, for keys and values), head by head.
-/
module

public import proofs.«01_k».proof.Proof.DilTileAt

@[expose] public section

set_option maxRecDepth 16384
set_option maxHeartbeats 1600000

noncomputable section

namespace Cert.DilIdeal.Value

open Cert.DilIdeal Cert.DilIdeal.Gen Idealize.ShloMosaic Idealize.ShloMosaic.TcCoe Idealize.SL.Sem

/-- The weight of query `r` and key `j` of head `h` in one tile. -/
def cellW (ok : IVec S128x128 1) (bias : FVec Ideal S128x128 .f32) (sl : EReal) (q k : Vec Ideal S1x128x512 .bf16) (l : Vec Ideal S1x128x128 .f32)
    (h : Fin 8) (r j : Fin 128) : EReal :=
  weightAt (ok (ix2 r j)) (scoreAt sl (bias (ix2 r j)) (hrow q h r) (hrow k h j)) (l (ix3 0 r (hlane h)))

/-- The gradient of their score. -/
def cellG (ok : IVec S128x128 1) (bias : FVec Ideal S128x128 .f32) (sl : EReal) (q k : Vec Ideal S1x128x512 .bf16) (l : Vec Ideal S1x128x128 .f32)
    (o v : Vec Ideal S1x128x512 .bf16) (d : Vec Ideal S1x128x128 .f32) (h : Fin 8) (r j : Fin 128) : EReal :=
  gradAt (cellW ok bias sl q k l h r j) (hrow o h r) (hrow v h j) (d (ix3 0 r (hlane h)))

section Loaded

variable {mk : IVec S1x128 1} {e : Fin 2} (hm : IsHalf mk e) (ok : IVec S128x128 1) (bias : FVec Ideal S128x128 .f32) (i : grid0.Coords)
  (h : Fin 8) (p : Fin 4) (hp : 2 * p.val + e.val = h.val) (o n : Nat) (ho : o = 128 * p.val) (hn : n = h.val)
  (u w : BitVec 32) (hu : u = BitVec.ofNat 32 (2 * p.val)) (hw : w = BitVec.ofNat 32 e.val)
  (asl : Memref sig .tc .smem S24 .f32) (has : asl.IsWhole) (xs : Vec Ideal S24 .f32)
  (aq ak ao av : Memref sig .tc .vmem S1x128x512 .bf16) (haq : aq.IsWhole) (hak : ak.IsWhole) (hao : ao.IsWhole) (hav : av.IsWhole)
  (q k x v : Vec Ideal S1x128x512 .bf16) (al ad : Memref sig .tc .vmem S1x128x128 .f32) (hal : al.IsWhole) (had : ad.IsWhole)
  (l d : Vec Ideal S1x128x128 .f32) (hin) (h1) (h2 h3 h4 h5 h6 h7) (r j : Fin 128)

include hm hp ho hn hu hw

theorem weightsB_ld : weightsB mk ok bias (ldSlope asl has xs i u w hin h1) (ldCols aq haq q o h2) (ldCols ak hak k o h3) (ldStat al hal l n h4) (ix2 r j)
    = cellW ok bias (xs (ix1 (slopeIx i h))) q k l h r j := by
  subst hu hw
  have hoe : o + 64 * e.val = 64 * h.val := by omega
  rw [weightsB_apply hm, ldSlope_apply asl has xs i p e hin h1 h hp]
  simp only [ldCols_apply _ _ _ _ _ _ _ _ h hoe, ldStat_apply _ _ _ _ _ _ h hn]
  rfl

theorem scoresB_ld : scoresB mk ok bias (ldSlope asl has xs i u w hin h1) (ldCols aq haq q o h2) (ldCols ak hak k o h3) (ldStat al hal l n h4)
      (ldCols ao hao x o h5) (ldCols av hav v o h6) (ldStat ad had d n h7) (ix2 r j)
    = cellG ok bias (xs (ix1 (slopeIx i h))) q k l x v d h r j := by
  subst hu hw
  have hoe : o + 64 * e.val = 64 * h.val := by omega
  rw [scoresB_apply hm, ldSlope_apply asl has xs i p e hin h1 h hp]
  simp only [ldCols_apply _ _ _ _ _ _ _ _ h hoe, ldStat_apply _ _ _ _ _ _ h hn]
  rfl

end Loaded

/-- A column of head `h`, as a lane of its half of its pair's 128 lanes. -/
theorem hcol_eq (h : Fin 8) (p : Fin 4) (e : Fin 2) (hp : 2 * p.val + e.val = h.val) (d : Fin 64) :
    hcol h d = ⟨128 * p.val + (lane e d).val, by show 128 * p.val + (64 * e.val + d.val) < 512; omega⟩ := by
  apply Fin.ext; show 64 * h.val + d.val = 128 * p.val + (64 * e.val + d.val); omega

variable (c : Dev nD) (i : grid0.Coords) (a2 : Memref sig .tc .smem S24 .f32) (h2 : a2.IsWhole)
  (a3 : Memref sig .tc .vmem S1x128x512 .bf16) (h3 : a3.IsWhole)
  (a4 : Memref sig .tc .vmem S1x128x512 .bf16) (h4 : a4.IsWhole)
  (a5 : Memref sig .tc .vmem S1x128x512 .bf16) (h5 : a5.IsWhole)
  (a6 : Memref sig .tc .vmem S1x128x512 .bf16) (h6 : a6.IsWhole)
  (a7 : Memref sig .tc .vmem S1x128x512 .bf16) (h7 : a7.IsWhole)
  (a8 : Memref sig .tc .vmem S1x128x512 .bf16) (h8 : a8.IsWhole)
  (a9 : Memref sig .tc .vmem S1x128x512 .bf16) (h9 : a9.IsWhole)
  (a10 : Memref sig .tc .vmem S1x128x512 .bf16) (h10 : a10.IsWhole)
  (a15 : Memref sig .tc .vmem S1x128x512 .bf16) (h15 : a15.IsWhole)
  (a16 : Memref sig .tc .vmem S1x128x512 .bf16) (h16 : a16.IsWhole)
  (a17 : Memref sig .tc .vmem S1x128x512 .bf16) (h17 : a17.IsWhole)
  (a11 : Memref sig .tc .vmem S1x128x128 .f32) (h11 : a11.IsWhole)
  (a12 : Memref sig .tc .vmem S1x128x128 .f32) (h12 : a12.IsWhole)
  (a13 : Memref sig .tc .vmem S1x128x128 .f32) (h13 : a13.IsWhole)
  (a14 : Memref sig .tc .vmem S1x128x128 .f32) (h14 : a14.IsWhole)
  (x0 : Vec Ideal S24 .f32) (x1 x2 x3 x4 x5 x6 x7 x8 : Vec Ideal S1x128x512 .bf16) (x9 x10 x11 x12 : Vec Ideal S1x128x128 .f32)
  (h : Fin 8) (r : Fin 128) (d : Fin 64)

/-- The block of the queries' gradient at an element. -/
theorem out13_apply : out0_A_13 c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 (ix3 0 r (hcol h d))
    = (∑ j : Fin 128, cellG k0_pay9 (k0_pay8 (F := Ideal) (dilAt i)) (x0 (ix1 (slopeIx i h))) x1 x4 x9 x7 x6 x11 h r j * (hrow x4 h j d * eighth))
      + ∑ j : Fin 128, cellG (k0_pay12 (hasPrev i)) (k0_pay10 (F := Ideal) (dilAt i)) (x0 (ix1 (slopeIx i h))) x1 x3 x9 x7 x5 x11 h r j * (hrow x3 h j d * eighth) := by
  rw [out13_eq]
  match h with
  | ⟨0, _⟩ =>
    refine ((congrArg _ (congrArg (fun x => ix3 0 r x) (hcol_eq 0 0 0 rfl d))).trans (pay1_apply (fun p => match p with | ⟨0, _⟩ => _ | ⟨1, _⟩ => _ | ⟨2, _⟩ => _ | ⟨3, _⟩ => _) r 0 (lane 0 d) _)).trans ?_
    refine (pairDq_0 _ _ _ _ _ _ r d).trans (congrArg₂ (· + ·) (Finset.sum_congr rfl fun j _ => ?_) (Finset.sum_congr rfl fun j _ => ?_))
    all_goals exact congrArg₂ (· * ·) (scoresB_ld isHalf0 _ _ i 0 0 rfl 0 0 rfl rfl _ _ rfl rfl ..) (congrArg (· * eighth) (ldCols_apply _ _ _ _ _ j 0 d 0 rfl))
  | ⟨1, _⟩ =>
    refine ((congrArg _ (congrArg (fun x => ix3 0 r x) (hcol_eq 1 0 1 rfl d))).trans (pay1_apply (fun p => match p with | ⟨0, _⟩ => _ | ⟨1, _⟩ => _ | ⟨2, _⟩ => _ | ⟨3, _⟩ => _) r 0 (lane 1 d) _)).trans ?_
    refine (pairDq_1 _ _ _ _ _ _ r d).trans (congrArg₂ (· + ·) (Finset.sum_congr rfl fun j _ => ?_) (Finset.sum_congr rfl fun j _ => ?_))
    all_goals exact congrArg₂ (· * ·) (scoresB_ld isHalf1 _ _ i 1 0 rfl 0 1 rfl rfl _ _ rfl rfl ..) (congrArg (· * eighth) (ldCols_apply _ _ _ _ _ j 1 d 1 rfl))
  | ⟨2, _⟩ =>
    refine ((congrArg _ (congrArg (fun x => ix3 0 r x) (hcol_eq 2 1 0 rfl d))).trans (pay1_apply (fun p => match p with | ⟨0, _⟩ => _ | ⟨1, _⟩ => _ | ⟨2, _⟩ => _ | ⟨3, _⟩ => _) r 1 (lane 0 d) _)).trans ?_
    refine (pairDq_0 _ _ _ _ _ _ r d).trans (congrArg₂ (· + ·) (Finset.sum_congr rfl fun j _ => ?_) (Finset.sum_congr rfl fun j _ => ?_))
    all_goals exact congrArg₂ (· * ·) (scoresB_ld isHalf0 _ _ i 2 1 rfl 128 2 rfl rfl _ _ rfl rfl ..) (congrArg (· * eighth) (ldCols_apply _ _ _ _ _ j 0 d 2 rfl))
  | ⟨3, _⟩ =>
    refine ((congrArg _ (congrArg (fun x => ix3 0 r x) (hcol_eq 3 1 1 rfl d))).trans (pay1_apply (fun p => match p with | ⟨0, _⟩ => _ | ⟨1, _⟩ => _ | ⟨2, _⟩ => _ | ⟨3, _⟩ => _) r 1 (lane 1 d) _)).trans ?_
    refine (pairDq_1 _ _ _ _ _ _ r d).trans (congrArg₂ (· + ·) (Finset.sum_congr rfl fun j _ => ?_) (Finset.sum_congr rfl fun j _ => ?_))
    all_goals exact congrArg₂ (· * ·) (scoresB_ld isHalf1 _ _ i 3 1 rfl 128 3 rfl rfl _ _ rfl rfl ..) (congrArg (· * eighth) (ldCols_apply _ _ _ _ _ j 1 d 3 rfl))
  | ⟨4, _⟩ =>
    refine ((congrArg _ (congrArg (fun x => ix3 0 r x) (hcol_eq 4 2 0 rfl d))).trans (pay1_apply (fun p => match p with | ⟨0, _⟩ => _ | ⟨1, _⟩ => _ | ⟨2, _⟩ => _ | ⟨3, _⟩ => _) r 2 (lane 0 d) _)).trans ?_
    refine (pairDq_0 _ _ _ _ _ _ r d).trans (congrArg₂ (· + ·) (Finset.sum_congr rfl fun j _ => ?_) (Finset.sum_congr rfl fun j _ => ?_))
    all_goals exact congrArg₂ (· * ·) (scoresB_ld isHalf0 _ _ i 4 2 rfl 256 4 rfl rfl _ _ rfl rfl ..) (congrArg (· * eighth) (ldCols_apply _ _ _ _ _ j 0 d 4 rfl))
  | ⟨5, _⟩ =>
    refine ((congrArg _ (congrArg (fun x => ix3 0 r x) (hcol_eq 5 2 1 rfl d))).trans (pay1_apply (fun p => match p with | ⟨0, _⟩ => _ | ⟨1, _⟩ => _ | ⟨2, _⟩ => _ | ⟨3, _⟩ => _) r 2 (lane 1 d) _)).trans ?_
    refine (pairDq_1 _ _ _ _ _ _ r d).trans (congrArg₂ (· + ·) (Finset.sum_congr rfl fun j _ => ?_) (Finset.sum_congr rfl fun j _ => ?_))
    all_goals exact congrArg₂ (· * ·) (scoresB_ld isHalf1 _ _ i 5 2 rfl 256 5 rfl rfl _ _ rfl rfl ..) (congrArg (· * eighth) (ldCols_apply _ _ _ _ _ j 1 d 5 rfl))
  | ⟨6, _⟩ =>
    refine ((congrArg _ (congrArg (fun x => ix3 0 r x) (hcol_eq 6 3 0 rfl d))).trans (pay1_apply (fun p => match p with | ⟨0, _⟩ => _ | ⟨1, _⟩ => _ | ⟨2, _⟩ => _ | ⟨3, _⟩ => _) r 3 (lane 0 d) _)).trans ?_
    refine (pairDq_0 _ _ _ _ _ _ r d).trans (congrArg₂ (· + ·) (Finset.sum_congr rfl fun j _ => ?_) (Finset.sum_congr rfl fun j _ => ?_))
    all_goals exact congrArg₂ (· * ·) (scoresB_ld isHalf0 _ _ i 6 3 rfl 384 6 rfl rfl _ _ rfl rfl ..) (congrArg (· * eighth) (ldCols_apply _ _ _ _ _ j 0 d 6 rfl))
  | ⟨7, _⟩ =>
    refine ((congrArg _ (congrArg (fun x => ix3 0 r x) (hcol_eq 7 3 1 rfl d))).trans (pay1_apply (fun p => match p with | ⟨0, _⟩ => _ | ⟨1, _⟩ => _ | ⟨2, _⟩ => _ | ⟨3, _⟩ => _) r 3 (lane 1 d) _)).trans ?_
    refine (pairDq_1 _ _ _ _ _ _ r d).trans (congrArg₂ (· + ·) (Finset.sum_congr rfl fun j _ => ?_) (Finset.sum_congr rfl fun j _ => ?_))
    all_goals exact congrArg₂ (· * ·) (scoresB_ld isHalf1 _ _ i 7 3 rfl 384 7 rfl rfl _ _ rfl rfl ..) (congrArg (· * eighth) (ldCols_apply _ _ _ _ _ j 1 d 7 rfl))

/-- The block of the keys' gradient at an element. -/
theorem out14_apply : out0_A_14 c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 (ix3 0 r (hcol h d))
    = (∑ j : Fin 128, cellG k0_pay9 (k0_pay8 (F := Ideal) (dilAt i)) (x0 (ix1 (slopeIx i h))) x1 x4 x9 x7 x6 x11 h j r * (hrow x1 h j d * eighth))
      + ∑ j : Fin 128, cellG (k0_pay13 (hasNext i) (sameNext i)) (k0_pay10 (F := Ideal) (dilAt i)) (x0 (ix1 (slopeIx i h))) x2 x4 x10 x8 x6 x12 h j r * (hrow x2 h j d * eighth) := by
  rw [out14_eq]
  match h with
  | ⟨0, _⟩ =>
    refine ((congrArg _ (congrArg (fun x => ix3 0 r x) (hcol_eq 0 0 0 rfl d))).trans (pay1_apply (fun p => match p with | ⟨0, _⟩ => _ | ⟨1, _⟩ => _ | ⟨2, _⟩ => _ | ⟨3, _⟩ => _) r 0 (lane 0 d) _)).trans ?_
    refine (pairDk_0 _ _ _ _ _ _ r d).trans (congrArg₂ (· + ·) (Finset.sum_congr rfl fun j _ => ?_) (Finset.sum_congr rfl fun j _ => ?_))
    all_goals exact congrArg₂ (· * ·) (scoresB_ld isHalf0 _ _ i 0 0 rfl 0 0 rfl rfl _ _ rfl rfl ..) (congrArg (· * eighth) (ldCols_apply _ _ _ _ _ j 0 d 0 rfl))
  | ⟨1, _⟩ =>
    refine ((congrArg _ (congrArg (fun x => ix3 0 r x) (hcol_eq 1 0 1 rfl d))).trans (pay1_apply (fun p => match p with | ⟨0, _⟩ => _ | ⟨1, _⟩ => _ | ⟨2, _⟩ => _ | ⟨3, _⟩ => _) r 0 (lane 1 d) _)).trans ?_
    refine (pairDk_1 _ _ _ _ _ _ r d).trans (congrArg₂ (· + ·) (Finset.sum_congr rfl fun j _ => ?_) (Finset.sum_congr rfl fun j _ => ?_))
    all_goals exact congrArg₂ (· * ·) (scoresB_ld isHalf1 _ _ i 1 0 rfl 0 1 rfl rfl _ _ rfl rfl ..) (congrArg (· * eighth) (ldCols_apply _ _ _ _ _ j 1 d 1 rfl))
  | ⟨2, _⟩ =>
    refine ((congrArg _ (congrArg (fun x => ix3 0 r x) (hcol_eq 2 1 0 rfl d))).trans (pay1_apply (fun p => match p with | ⟨0, _⟩ => _ | ⟨1, _⟩ => _ | ⟨2, _⟩ => _ | ⟨3, _⟩ => _) r 1 (lane 0 d) _)).trans ?_
    refine (pairDk_0 _ _ _ _ _ _ r d).trans (congrArg₂ (· + ·) (Finset.sum_congr rfl fun j _ => ?_) (Finset.sum_congr rfl fun j _ => ?_))
    all_goals exact congrArg₂ (· * ·) (scoresB_ld isHalf0 _ _ i 2 1 rfl 128 2 rfl rfl _ _ rfl rfl ..) (congrArg (· * eighth) (ldCols_apply _ _ _ _ _ j 0 d 2 rfl))
  | ⟨3, _⟩ =>
    refine ((congrArg _ (congrArg (fun x => ix3 0 r x) (hcol_eq 3 1 1 rfl d))).trans (pay1_apply (fun p => match p with | ⟨0, _⟩ => _ | ⟨1, _⟩ => _ | ⟨2, _⟩ => _ | ⟨3, _⟩ => _) r 1 (lane 1 d) _)).trans ?_
    refine (pairDk_1 _ _ _ _ _ _ r d).trans (congrArg₂ (· + ·) (Finset.sum_congr rfl fun j _ => ?_) (Finset.sum_congr rfl fun j _ => ?_))
    all_goals exact congrArg₂ (· * ·) (scoresB_ld isHalf1 _ _ i 3 1 rfl 128 3 rfl rfl _ _ rfl rfl ..) (congrArg (· * eighth) (ldCols_apply _ _ _ _ _ j 1 d 3 rfl))
  | ⟨4, _⟩ =>
    refine ((congrArg _ (congrArg (fun x => ix3 0 r x) (hcol_eq 4 2 0 rfl d))).trans (pay1_apply (fun p => match p with | ⟨0, _⟩ => _ | ⟨1, _⟩ => _ | ⟨2, _⟩ => _ | ⟨3, _⟩ => _) r 2 (lane 0 d) _)).trans ?_
    refine (pairDk_0 _ _ _ _ _ _ r d).trans (congrArg₂ (· + ·) (Finset.sum_congr rfl fun j _ => ?_) (Finset.sum_congr rfl fun j _ => ?_))
    all_goals exact congrArg₂ (· * ·) (scoresB_ld isHalf0 _ _ i 4 2 rfl 256 4 rfl rfl _ _ rfl rfl ..) (congrArg (· * eighth) (ldCols_apply _ _ _ _ _ j 0 d 4 rfl))
  | ⟨5, _⟩ =>
    refine ((congrArg _ (congrArg (fun x => ix3 0 r x) (hcol_eq 5 2 1 rfl d))).trans (pay1_apply (fun p => match p with | ⟨0, _⟩ => _ | ⟨1, _⟩ => _ | ⟨2, _⟩ => _ | ⟨3, _⟩ => _) r 2 (lane 1 d) _)).trans ?_
    refine (pairDk_1 _ _ _ _ _ _ r d).trans (congrArg₂ (· + ·) (Finset.sum_congr rfl fun j _ => ?_) (Finset.sum_congr rfl fun j _ => ?_))
    all_goals exact congrArg₂ (· * ·) (scoresB_ld isHalf1 _ _ i 5 2 rfl 256 5 rfl rfl _ _ rfl rfl ..) (congrArg (· * eighth) (ldCols_apply _ _ _ _ _ j 1 d 5 rfl))
  | ⟨6, _⟩ =>
    refine ((congrArg _ (congrArg (fun x => ix3 0 r x) (hcol_eq 6 3 0 rfl d))).trans (pay1_apply (fun p => match p with | ⟨0, _⟩ => _ | ⟨1, _⟩ => _ | ⟨2, _⟩ => _ | ⟨3, _⟩ => _) r 3 (lane 0 d) _)).trans ?_
    refine (pairDk_0 _ _ _ _ _ _ r d).trans (congrArg₂ (· + ·) (Finset.sum_congr rfl fun j _ => ?_) (Finset.sum_congr rfl fun j _ => ?_))
    all_goals exact congrArg₂ (· * ·) (scoresB_ld isHalf0 _ _ i 6 3 rfl 384 6 rfl rfl _ _ rfl rfl ..) (congrArg (· * eighth) (ldCols_apply _ _ _ _ _ j 0 d 6 rfl))
  | ⟨7, _⟩ =>
    refine ((congrArg _ (congrArg (fun x => ix3 0 r x) (hcol_eq 7 3 1 rfl d))).trans (pay1_apply (fun p => match p with | ⟨0, _⟩ => _ | ⟨1, _⟩ => _ | ⟨2, _⟩ => _ | ⟨3, _⟩ => _) r 3 (lane 1 d) _)).trans ?_
    refine (pairDk_1 _ _ _ _ _ _ r d).trans (congrArg₂ (· + ·) (Finset.sum_congr rfl fun j _ => ?_) (Finset.sum_congr rfl fun j _ => ?_))
    all_goals exact congrArg₂ (· * ·) (scoresB_ld isHalf1 _ _ i 7 3 rfl 384 7 rfl rfl _ _ rfl rfl ..) (congrArg (· * eighth) (ldCols_apply _ _ _ _ _ j 1 d 7 rfl))

/-- The block of the values' gradient at an element. -/
theorem out15_apply : out0_A_15 c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 (ix3 0 r (hcol h d))
    = (∑ j : Fin 128, cellW k0_pay9 (k0_pay8 (F := Ideal) (dilAt i)) (x0 (ix1 (slopeIx i h))) x1 x4 x9 h j r * hrow x7 h j d)
      + ∑ j : Fin 128, cellW (k0_pay13 (hasNext i) (sameNext i)) (k0_pay10 (F := Ideal) (dilAt i)) (x0 (ix1 (slopeIx i h))) x2 x4 x10 h j r * hrow x8 h j d := by
  rw [out15_eq]
  match h with
  | ⟨0, _⟩ =>
    refine ((congrArg _ (congrArg (fun x => ix3 0 r x) (hcol_eq 0 0 0 rfl d))).trans (pay1_apply (fun p => match p with | ⟨0, _⟩ => _ | ⟨1, _⟩ => _ | ⟨2, _⟩ => _ | ⟨3, _⟩ => _) r 0 (lane 0 d) _)).trans ?_
    refine (pairDv_0 _ _ _ _ _ _ r d).trans (congrArg₂ (· + ·) (Finset.sum_congr rfl fun j _ => ?_) (Finset.sum_congr rfl fun j _ => ?_))
    all_goals exact congrArg₂ (· * ·) (weightsB_ld isHalf0 _ _ i 0 0 rfl 0 0 rfl rfl _ _ rfl rfl ..) (ldCols_apply _ _ _ _ _ j 0 d 0 rfl)
  | ⟨1, _⟩ =>
    refine ((congrArg _ (congrArg (fun x => ix3 0 r x) (hcol_eq 1 0 1 rfl d))).trans (pay1_apply (fun p => match p with | ⟨0, _⟩ => _ | ⟨1, _⟩ => _ | ⟨2, _⟩ => _ | ⟨3, _⟩ => _) r 0 (lane 1 d) _)).trans ?_
    refine (pairDv_1 _ _ _ _ _ _ r d).trans (congrArg₂ (· + ·) (Finset.sum_congr rfl fun j _ => ?_) (Finset.sum_congr rfl fun j _ => ?_))
    all_goals exact congrArg₂ (· * ·) (weightsB_ld isHalf1 _ _ i 1 0 rfl 0 1 rfl rfl _ _ rfl rfl ..) (ldCols_apply _ _ _ _ _ j 1 d 1 rfl)
  | ⟨2, _⟩ =>
    refine ((congrArg _ (congrArg (fun x => ix3 0 r x) (hcol_eq 2 1 0 rfl d))).trans (pay1_apply (fun p => match p with | ⟨0, _⟩ => _ | ⟨1, _⟩ => _ | ⟨2, _⟩ => _ | ⟨3, _⟩ => _) r 1 (lane 0 d) _)).trans ?_
    refine (pairDv_0 _ _ _ _ _ _ r d).trans (congrArg₂ (· + ·) (Finset.sum_congr rfl fun j _ => ?_) (Finset.sum_congr rfl fun j _ => ?_))
    all_goals exact congrArg₂ (· * ·) (weightsB_ld isHalf0 _ _ i 2 1 rfl 128 2 rfl rfl _ _ rfl rfl ..) (ldCols_apply _ _ _ _ _ j 0 d 2 rfl)
  | ⟨3, _⟩ =>
    refine ((congrArg _ (congrArg (fun x => ix3 0 r x) (hcol_eq 3 1 1 rfl d))).trans (pay1_apply (fun p => match p with | ⟨0, _⟩ => _ | ⟨1, _⟩ => _ | ⟨2, _⟩ => _ | ⟨3, _⟩ => _) r 1 (lane 1 d) _)).trans ?_
    refine (pairDv_1 _ _ _ _ _ _ r d).trans (congrArg₂ (· + ·) (Finset.sum_congr rfl fun j _ => ?_) (Finset.sum_congr rfl fun j _ => ?_))
    all_goals exact congrArg₂ (· * ·) (weightsB_ld isHalf1 _ _ i 3 1 rfl 128 3 rfl rfl _ _ rfl rfl ..) (ldCols_apply _ _ _ _ _ j 1 d 3 rfl)
  | ⟨4, _⟩ =>
    refine ((congrArg _ (congrArg (fun x => ix3 0 r x) (hcol_eq 4 2 0 rfl d))).trans (pay1_apply (fun p => match p with | ⟨0, _⟩ => _ | ⟨1, _⟩ => _ | ⟨2, _⟩ => _ | ⟨3, _⟩ => _) r 2 (lane 0 d) _)).trans ?_
    refine (pairDv_0 _ _ _ _ _ _ r d).trans (congrArg₂ (· + ·) (Finset.sum_congr rfl fun j _ => ?_) (Finset.sum_congr rfl fun j _ => ?_))
    all_goals exact congrArg₂ (· * ·) (weightsB_ld isHalf0 _ _ i 4 2 rfl 256 4 rfl rfl _ _ rfl rfl ..) (ldCols_apply _ _ _ _ _ j 0 d 4 rfl)
  | ⟨5, _⟩ =>
    refine ((congrArg _ (congrArg (fun x => ix3 0 r x) (hcol_eq 5 2 1 rfl d))).trans (pay1_apply (fun p => match p with | ⟨0, _⟩ => _ | ⟨1, _⟩ => _ | ⟨2, _⟩ => _ | ⟨3, _⟩ => _) r 2 (lane 1 d) _)).trans ?_
    refine (pairDv_1 _ _ _ _ _ _ r d).trans (congrArg₂ (· + ·) (Finset.sum_congr rfl fun j _ => ?_) (Finset.sum_congr rfl fun j _ => ?_))
    all_goals exact congrArg₂ (· * ·) (weightsB_ld isHalf1 _ _ i 5 2 rfl 256 5 rfl rfl _ _ rfl rfl ..) (ldCols_apply _ _ _ _ _ j 1 d 5 rfl)
  | ⟨6, _⟩ =>
    refine ((congrArg _ (congrArg (fun x => ix3 0 r x) (hcol_eq 6 3 0 rfl d))).trans (pay1_apply (fun p => match p with | ⟨0, _⟩ => _ | ⟨1, _⟩ => _ | ⟨2, _⟩ => _ | ⟨3, _⟩ => _) r 3 (lane 0 d) _)).trans ?_
    refine (pairDv_0 _ _ _ _ _ _ r d).trans (congrArg₂ (· + ·) (Finset.sum_congr rfl fun j _ => ?_) (Finset.sum_congr rfl fun j _ => ?_))
    all_goals exact congrArg₂ (· * ·) (weightsB_ld isHalf0 _ _ i 6 3 rfl 384 6 rfl rfl _ _ rfl rfl ..) (ldCols_apply _ _ _ _ _ j 0 d 6 rfl)
  | ⟨7, _⟩ =>
    refine ((congrArg _ (congrArg (fun x => ix3 0 r x) (hcol_eq 7 3 1 rfl d))).trans (pay1_apply (fun p => match p with | ⟨0, _⟩ => _ | ⟨1, _⟩ => _ | ⟨2, _⟩ => _ | ⟨3, _⟩ => _) r 3 (lane 1 d) _)).trans ?_
    refine (pairDv_1 _ _ _ _ _ _ r d).trans (congrArg₂ (· + ·) (Finset.sum_congr rfl fun j _ => ?_) (Finset.sum_congr rfl fun j _ => ?_))
    all_goals exact congrArg₂ (· * ·) (weightsB_ld isHalf1 _ _ i 7 3 rfl 384 7 rfl rfl _ _ rfl rfl ..) (ldCols_apply _ _ _ _ _ j 1 d 7 rfl)

end Cert.DilIdeal.Value

end
-- ==== Proof.DilWords.lean ====
/-
  Which pairs of a query and a key the dilated attention relates, in the order in which the positions of one residue class stand
  together; and the words of the kernel that say so.
-/
module

public import proofs.«01_k».proof.Proof.DilBlock

@[expose] public section

set_option maxRecDepth 16384

noncomputable section

namespace Cert.DilIdeal.Value

open Cert.DilIdeal Cert.DilIdeal.Gen Idealize.ShloMosaic Idealize.ShloMosaic.TcCoe Idealize.SL.Sem

/-- The dilation of a group. -/
def dil (g : Fin 3) : Nat := match g with | ⟨0, _⟩ => 1 | ⟨1, _⟩ => 4 | ⟨2, _⟩ => 16

/-- The length of a residue class. -/
def len (g : Fin 3) : Nat := match g with | ⟨0, _⟩ => 4096 | ⟨1, _⟩ => 1024 | ⟨2, _⟩ => 256

/-- The positions of one residue class stand together: query `P` sees key `P'` of its class, no later and at most 128 places
before. -/
def Sees (g : Fin 3) (P P' : Fin 4096) : Prop := P'.val ≤ P.val ∧ P.val ≤ P'.val + 128 ∧ P.val / len g = P'.val / len g

instance (g : Fin 3) (P P' : Fin 4096) : Decidable (Sees g P P') := by unfold Sees; infer_instance

/-! ## Words -/

theorem sub_toInt (a b : Nat) (ha : a < 1073741824) (hb : b < 1073741824) :
    (IntOp.subi (BitVec.ofNat 32 a) (BitVec.ofNat 32 b)).toInt = (a : Int) - b := by
  show (BitVec.ofNat 32 a - BitVec.ofNat 32 b).toInt = _
  rw [BitVec.toInt_sub, BitVec.toInt_ofNat', BitVec.toInt_ofNat']
  simp only [Int.bmod]
  omega

theorem add_ofNat (a b : Nat) : IntOp.addi (BitVec.ofNat 32 a) (BitVec.ofNat 32 b) = BitVec.ofNat 32 (a + b) := by
  show BitVec.ofNat 32 a + BitVec.ofNat 32 b = _
  rw [BitVec.ofNat_add]

theorem mul_toInt (x w : BitVec 32) (a b : Int) (hx : x.toInt = a) (hw : w.toInt = b) (h : -2147483648 ≤ a * b ∧ a * b < 2147483648) :
    (IntOp.muli x w).toInt = a * b := by
  show (x * w).toInt = _
  rw [BitVec.toInt_mul, hx, hw]
  simp only [Int.bmod]
  generalize a * b = z at h ⊢
  omega

theorem cmp_sge (x y : BitVec 32) : IntOp.cmpi .sge x y = if y.toInt ≤ x.toInt then 1#1 else 0#1 := by
  unfold IntOp.cmpi
  simp only [BitVec.sle]
  by_cases h : y.toInt ≤ x.toInt <;> simp [h]

theorem cmp_sle (x y : BitVec 32) : IntOp.cmpi .sle x y = if x.toInt ≤ y.toInt then 1#1 else 0#1 := by
  unfold IntOp.cmpi
  simp only [BitVec.sle]
  by_cases h : x.toInt ≤ y.toInt <;> simp [h]

theorem dilW_toInt : ∀ g : Fin 3, (dilW (BitVec.ofNat 32 g.val)).toInt = (dil g : Int) := by decide +kernel

theorem dil_cases (g : Fin 3) : dil g = 1 ∨ dil g = 4 ∨ dil g = 16 := by revert g; decide

/-! ## The words of a tile -/

theorem pay9_apply (r j : Fin 128) : k0_pay9 (ix2 r j) = if j.val ≤ r.val then 1#1 else 0#1 := by
  pointwise [k0_pay9, k0_pay6]
  rw [cmp_sge, sub_toInt _ _ (by omega) (by omega)]
  refine if_congr ?_ rfl rfl
  rw [show (0#32 : BitVec 32).toInt = 0 from rfl]
  omega

theorem pay8_apply (g : Fin 3) (r j : Fin 128) : k0_pay8 (F := Ideal) (dilW (BitVec.ofNat 32 g.val)) (ix2 r j) = ((((r.val : ℝ) - j.val) * dil g : ℝ) : EReal) := by
  pointwise [k0_pay8, k0_pay6]
  have hd := dil_cases g
  rw [show (FloatOps.sitofp (F := Ideal) FTy.f32 (IntOp.muli (IntOp.subi (BitVec.ofNat 32 r.val) (BitVec.ofNat 32 j.val)) (dilW (BitVec.ofNat 32 g.val))))
    = (((IntOp.muli (IntOp.subi (BitVec.ofNat 32 r.val) (BitVec.ofNat 32 j.val)) (dilW (BitVec.ofNat 32 g.val))).toInt : ℝ) : EReal) from rfl,
    mul_toInt _ _ _ _ (sub_toInt _ _ (by omega) (by omega)) (dilW_toInt g) (by rcases hd with h | h | h <;> rw [h] <;> omega)]
  push_cast
  rfl

theorem pay10_apply (g : Fin 3) (r j : Fin 128) : k0_pay10 (F := Ideal) (dilW (BitVec.ofNat 32 g.val)) (ix2 r j) = ((((r.val : ℝ) + 128 - j.val) * dil g : ℝ) : EReal) := by
  pointwise [k0_pay10, k0_pay7]
  have hd := dil_cases g
  rw [add_ofNat, show (FloatOps.sitofp (F := Ideal) FTy.f32 (IntOp.muli (IntOp.subi (BitVec.ofNat 32 (r.val + 128)) (BitVec.ofNat 32 j.val)) (dilW (BitVec.ofNat 32 g.val))))
    = (((IntOp.muli (IntOp.subi (BitVec.ofNat 32 (r.val + 128)) (BitVec.ofNat 32 j.val)) (dilW (BitVec.ofNat 32 g.val))).toInt : ℝ) : EReal) from rfl,
    mul_toInt _ _ _ _ (sub_toInt _ _ (by omega) (by omega)) (dilW_toInt g) (by rcases hd with h | h | h <;> rw [h] <;> omega)]
  push_cast
  rfl

/-- The number of blocks of a residue class. -/
def blocks (g : Fin 3) : Nat := match g with | ⟨0, _⟩ => 32 | ⟨1, _⟩ => 8 | ⟨2, _⟩ => 2

theorem len_eq (g : Fin 3) : len g = 128 * blocks g := by revert g; decide

theorem noMultiple_eq : ∀ (g : Fin 3) (n : Fin 33), noMultiple (BitVec.ofNat 32 n.val) (perResidue (BitVec.ofNat 32 g.val)) = if n.val % blocks g = 0 then 0#1 else 1#1 := by
  decide +kernel

theorem and_if (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem near_eq (r j : Fin 128) : IntOp.cmpi .sle (IntOp.subi (IntOp.addi (BitVec.ofNat 32 r.val) 128#32) (BitVec.ofNat 32 j.val)) 128#32
    = if r.val ≤ j.val then 1#1 else 0#1 := by
  rw [show (128#32 : BitVec 32) = BitVec.ofNat 32 128 from rfl, add_ofNat, cmp_sle, sub_toInt _ _ (by omega) (by omega)]
  refine if_congr ?_ rfl rfl
  rw [show (BitVec.ofNat 32 128).toInt = 128 from rfl]
  push_cast
  omega

/-- The allowance of a pair of which the key is in the block before. -/
theorem pay12_apply (w : BitVec 1) (p : Prop) [Decidable p] (hw : w = if p then 1#1 else 0#1) (r j : Fin 128) :
    k0_pay12 w (ix2 r j) = if r.val ≤ j.val ∧ p then 1#1 else 0#1 := by
  pointwise [k0_pay12, k0_pay11, k0_pay7]
  rw [near_eq, hw, and_if]

theorem pay13_apply (w u : BitVec 1) (p q : Prop) [Decidable p] [Decidable q] (hw : w = if p then 1#1 else 0#1) (hu : u = if q then 1#1 else 0#1) (r j : Fin 128) :
    k0_pay13 w u (ix2 r j) = if r.val ≤ j.val ∧ p ∧ q then 1#1 else 0#1 := by
  pointwise [k0_pay13, k0_pay11, k0_pay7]
  rw [near_eq, hw, hu, show ∀ a b : BitVec 1, Scalar.andi a b = IntOp.andi a b from fun _ _ => rfl, and_if, and_if]

end Cert.DilIdeal.Value

end
-- ==== Proof.DilSums.lean ====
/-
  The sums of the dilated attention's gradient over the positions of a residue class, in the order in which the kernel holds
  them: of the 32 blocks of 128 positions, only a query's own block and the one before it hold keys that it sees.
-/
module

public import proofs.«01_k».proof.Proof.DilWords

@[expose] public section

set_option maxRecDepth 16384

noncomputable section

namespace Cert.DilIdeal.Value

open Cert.DilIdeal Cert.DilIdeal.Gen Idealize.ShloMosaic Idealize.ShloMosaic.TcCoe Idealize.SL.Sem

/-- Place `r` of block `n`. -/
def place (n : Fin 32) (r : Fin 128) : Fin 4096 := ⟨128 * n.val + r.val, by omega⟩
/-- The block after, or the last. -/
def after (n : Fin 32) : Fin 32 := ⟨min (n.val + 1) 31, by omega⟩
/-- The block before, or the first. -/
def before (n : Fin 32) : Fin 32 := ⟨n.val - 1, by omega⟩

theorem place_div (P : Fin 4096) : P = place ⟨P.val / 128, by omega⟩ ⟨P.val % 128, by omega⟩ :=
  Fin.ext (by show P.val = 128 * (P.val / 128) + P.val % 128; omega)

/-- A sum over the positions, block by block. -/
theorem sum_places (F : Fin 4096 → EReal) : ∑ P : Fin 4096, F P = ∑ n : Fin 32, ∑ r : Fin 128, F (place n r) := by
  rw [← Fintype.sum_prod_type']
  symm
  refine Fintype.sum_bijective (fun x : Fin 32 × Fin 128 => place x.1 x.2) ⟨fun a b h => ?_, fun P => ?_⟩ _ _ fun _ => rfl
  · have := congrArg Fin.val h
    change 128 * a.1.val + a.2.val = 128 * b.1.val + b.2.val at this
    exact Prod.ext (Fin.ext (by omega)) (Fin.ext (by omega))
  · exact ⟨(_, _), (place_div P).symm⟩

/-- A sum of which only block `n` and one other block, if it is another, hold terms. -/
theorem sum_two (n n' : Fin 32) (F : Fin 4096 → EReal) (A B : Fin 128 → EReal) (hA : ∀ j, A j = F (place n j))
    (hB : n' ≠ n → ∀ j, B j = F (place n' j)) (hB' : n' = n → ∀ j, B j = 0)
    (h0 : ∀ k, k ≠ n → k ≠ n' → ∀ j, F (place k j) = 0) : (∑ j, A j) + ∑ j, B j = ∑ P, F P := by
  rw [sum_places, ← Finset.add_sum_erase _ _ (Finset.mem_univ n), Finset.sum_congr rfl fun j _ => hA j]
  congr 1
  by_cases h : n' = n
  · rw [Finset.sum_congr rfl fun j _ => hB' h j, Finset.sum_const_zero]
    refine (Finset.sum_eq_zero fun k hk => Finset.sum_eq_zero fun j _ => h0 k (Finset.ne_of_mem_erase hk) ?_ j).symm
    rw [h]; exact Finset.ne_of_mem_erase hk
  · rw [← Finset.add_sum_erase _ _ (Finset.mem_erase.mpr ⟨h, Finset.mem_univ n'⟩), Finset.sum_congr rfl fun j _ => hB h j]
    conv_lhs => rw [← add_zero (∑ j, F (place n' j))]
    congr 1
    refine (Finset.sum_eq_zero fun k hk => Finset.sum_eq_zero fun j _ => h0 k ?_ ?_ j).symm
    · exact Finset.ne_of_mem_erase (Finset.mem_of_mem_erase hk)
    · exact Finset.ne_of_mem_erase hk

/-! ## Who sees whom, by blocks -/

theorem blocks_cases (g : Fin 3) : blocks g = 32 ∨ blocks g = 8 ∨ blocks g = 2 := by revert g; decide

theorem sees_same (g : Fin 3) (n : Fin 32) (r j : Fin 128) : Sees g (place n r) (place n j) ↔ j.val ≤ r.val := by
  unfold Sees place
  rw [len_eq]
  dsimp only
  rcases blocks_cases g with h | h | h <;> rw [h] <;> omega

theorem sees_before (g : Fin 3) (n n' : Fin 32) (hn : n.val = n'.val + 1) (r j : Fin 128) :
    Sees g (place n r) (place n' j) ↔ r.val ≤ j.val ∧ ¬ n.val % blocks g = 0 := by
  unfold Sees place
  rw [len_eq]
  dsimp only
  rcases blocks_cases g with h | h | h <;> rw [h] <;> omega

theorem sees_not (g : Fin 3) (n n' : Fin 32) (h1 : n' ≠ n) (h2 : n.val ≠ n'.val + 1) (r j : Fin 128) : ¬ Sees g (place n r) (place n' j) := by
  have : n'.val ≠ n.val := fun h => h1 (Fin.ext h)
  unfold Sees place
  dsimp only
  omega

/-! ## Pairs -/

variable (S : S24.Idx → EReal) (Q K X W : S3x4096x512.Idx → EReal) (L D : S3x4096x128.Idx → EReal)

/-- Head `h` of the row at a place. -/
def prow (A : S3x4096x512.Idx → EReal) (g : Fin 3) (h : Fin 8) (P : Fin 4096) : Fin 64 → EReal := fun d => A (ix3 g P (hcol h d))

/-- The place of a group's head among the slopes. -/
def slopeOf (g : Fin 3) (h : Fin 8) : Fin 24 := ⟨8 * g.val + h.val, by omega⟩

/-- The distance of two places, in time. -/
def far (g : Fin 3) (P P' : Fin 4096) : EReal := ((((P.val : ℝ) - P'.val) * dil g : ℝ) : EReal)

/-- The weight of query `P` and key `P'`. -/
def pairW (g : Fin 3) (h : Fin 8) (P P' : Fin 4096) : EReal :=
  weightAt (if Sees g P P' then 1#1 else 0#1) (scoreAt (S (ix1 (slopeOf g h))) (far g P P') (prow Q g h P) (prow K g h P')) (L (ix3 g P (hlane h)))

/-- The gradient of their score. -/
def pairG (g : Fin 3) (h : Fin 8) (P P' : Fin 4096) : EReal :=
  gradAt (pairW S Q K L g h P P') (prow X g h P) (prow W g h P') (D (ix3 g P (hlane h)))

theorem weightAt_zero (s l : EReal) : weightAt 0#1 s l = 0 := by
  show Ideal.exp (⊥ - l) = 0
  rw [sub_eq_add_neg, EReal.bot_add]; rfl

theorem gradAt_zero (o v : Fin 64 → EReal) (d : EReal) : gradAt 0 o v d = 0 := zero_mul _

theorem pairW_not (g : Fin 3) (h : Fin 8) (P P' : Fin 4096) (hn : ¬ Sees g P P') : pairW S Q K L g h P P' = 0 := by
  unfold pairW; rw [if_neg hn, weightAt_zero]
theorem pairG_not (g : Fin 3) (h : Fin 8) (P P' : Fin 4096) (hn : ¬ Sees g P P') : pairG S Q K X W L D g h P P' = 0 := by
  unfold pairG; rw [pairW_not _ _ _ _ _ _ _ _ hn, gradAt_zero]

/-! ## The blocks of a point, put in their arrays -/

/-- Block `n` of a group's rows. -/
def blkOf (A : S3x4096x512.Idx → EReal) (g : Fin 3) (n : Fin 32) : Vec Ideal S1x128x512 .bf16 := fun x => A (ix3 g (place n (x 1)) (x 2))
/-- Block `n` of a group's row statistics. -/
def statOf (A : S3x4096x128.Idx → EReal) (g : Fin 3) (n : Fin 32) : Vec Ideal S1x128x128 .f32 := fun x => A (ix3 g (place n (x 1)) (x 2))

variable (i : grid0.Coords) (g : Fin 3) (n : Fin 32) (h : Fin 8)

theorem cellW_same (hi : dilAt i = dilW (BitVec.ofNat 32 g.val)) (r j : Fin 128) :
    cellW k0_pay9 (k0_pay8 (F := Ideal) (dilAt i)) (S (ix1 (slopeOf g h))) (blkOf Q g n) (blkOf K g n) (statOf L g n) h r j
      = pairW S Q K L g h (place n r) (place n j) := by
  unfold cellW pairW
  rw [hi, pay9_apply, pay8_apply]
  have e : ((((r.val : ℝ) - j.val) * dil g : ℝ) : EReal) = far g (place n r) (place n j) := by
    unfold far place
    congr 2
    push_cast
    ring
  rw [e]
  congr 1
  exact if_congr (sees_same g n r j).symm rfl rfl

/-- A pair of which the key is in the block before, by what allows it. -/
theorem cellW_before (ok : IVec S128x128 1) (n' : Fin 32) (hn : n.val = n'.val + 1) (hi : dilAt i = dilW (BitVec.ofNat 32 g.val))
    (hok : ∀ r j : Fin 128, ok (ix2 r j) = if r.val ≤ j.val ∧ ¬ n.val % blocks g = 0 then 1#1 else 0#1) (r j : Fin 128) :
    cellW ok (k0_pay10 (F := Ideal) (dilAt i)) (S (ix1 (slopeOf g h))) (blkOf Q g n) (blkOf K g n') (statOf L g n) h r j
      = pairW S Q K L g h (place n r) (place n' j) := by
  unfold cellW pairW
  rw [hi, hok, pay10_apply]
  have e : ((((r.val : ℝ) + 128 - j.val) * dil g : ℝ) : EReal) = far g (place n r) (place n' j) := by
    unfold far place
    congr 2
    dsimp only
    rw [hn]
    push_cast
    ring
  rw [e]
  congr 1
  exact if_congr (sees_before g n n' hn r j).symm rfl rfl

theorem cellW_none (ok : IVec S128x128 1) (bias : FVec Ideal S128x128 .f32) (sl : EReal) (q k : Vec Ideal S1x128x512 .bf16) (l : Vec Ideal S1x128x128 .f32)
    (r j : Fin 128) (hok : ok (ix2 r j) = 0#1) : cellW ok bias sl q k l h r j = 0 := by
  unfold cellW; rw [hok, weightAt_zero]

theorem cellG_same (hi : dilAt i = dilW (BitVec.ofNat 32 g.val)) (r j : Fin 128) :
    cellG k0_pay9 (k0_pay8 (F := Ideal) (dilAt i)) (S (ix1 (slopeOf g h))) (blkOf Q g n) (blkOf K g n) (statOf L g n) (blkOf X g n) (blkOf W g n) (statOf D g n) h r j
      = pairG S Q K X W L D g h (place n r) (place n j) := by
  unfold cellG; rw [cellW_same S Q K L i g n h hi]; rfl

theorem cellG_before (ok : IVec S128x128 1) (n' : Fin 32) (hn : n.val = n'.val + 1) (hi : dilAt i = dilW (BitVec.ofNat 32 g.val))
    (hok : ∀ r j : Fin 128, ok (ix2 r j) = if r.val ≤ j.val ∧ ¬ n.val % blocks g = 0 then 1#1 else 0#1) (r j : Fin 128) :
    cellG ok (k0_pay10 (F := Ideal) (dilAt i)) (S (ix1 (slopeOf g h))) (blkOf Q g n) (blkOf K g n') (statOf L g n) (blkOf X g n) (blkOf W g n') (statOf D g n) h r j
      = pairG S Q K X W L D g h (place n r) (place n' j) := by
  unfold cellG; rw [cellW_before S Q K L i g n h ok n' hn hi hok]; rfl

theorem cellG_none (ok : IVec S128x128 1) (bias : FVec Ideal S128x128 .f32) (sl : EReal) (q k : Vec Ideal S1x128x512 .bf16) (l : Vec Ideal S1x128x128 .f32)
    (o v : Vec Ideal S1x128x512 .bf16) (d : Vec Ideal S1x128x128 .f32) (r j : Fin 128) (hok : ok (ix2 r j) = 0#1) :
    cellG ok bias sl q k l o v d h r j = 0 := by
  unfold cellG; rw [cellW_none h _ _ _ _ _ _ _ _ hok, gradAt_zero]

/-! ## The three sums -/

section Point

variable (hi : dilAt i = dilW (BitVec.ofNat 32 g.val)) (hprev : hasPrev i = if ¬ n.val % blocks g = 0 then 1#1 else 0#1)
  (hnext : hasNext i = if n.val < 31 then 1#1 else 0#1) (hsame : sameNext i = if ¬ (n.val + 1) % blocks g = 0 then 1#1 else 0#1)
  (r : Fin 128) (d : Fin 64)

include hi hprev in
theorem sum_dq : (∑ j : Fin 128, cellG k0_pay9 (k0_pay8 (F := Ideal) (dilAt i)) (S (ix1 (slopeOf g h))) (blkOf Q g n) (blkOf K g n) (statOf L g n) (blkOf X g n) (blkOf W g n) (statOf D g n) h r j
        * (hrow (blkOf K g n) h j d * eighth))
      + ∑ j : Fin 128, cellG (k0_pay12 (hasPrev i)) (k0_pay10 (F := Ideal) (dilAt i)) (S (ix1 (slopeOf g h))) (blkOf Q g n) (blkOf K g (before n)) (statOf L g n)
        (blkOf X g n) (blkOf W g (before n)) (statOf D g n) h r j * (hrow (blkOf K g (before n)) h j d * eighth)
    = ∑ P' : Fin 4096, pairG S Q K X W L D g h (place n r) P' * (K (ix3 g P' (hcol h d)) * eighth) := by
  refine sum_two n (before n) _ _ _ (fun j => ?_) (fun hne j => ?_) (fun he j => ?_) (fun k h1 h2 j => ?_)
  · rw [cellG_same S Q K X W L D i g n h hi]; rfl
  · have hn : n.val = (before n).val + 1 := by
      have : (before n).val ≠ n.val := fun e => hne (Fin.ext e)
      change n.val - 1 ≠ n.val at this
      show n.val = n.val - 1 + 1
      omega
    rw [cellG_before S Q K X W L D i g n h _ (before n) hn hi (fun r j => pay12_apply _ _ hprev r j)]; rfl
  · have h0 : n.val = 0 := by have := congrArg Fin.val he; change n.val - 1 = n.val at this; omega
    rw [cellG_none h _ _ _ _ _ _ _ _ _ _ _ (by rw [pay12_apply _ _ hprev, if_neg (by rw [h0]; simp)]), zero_mul]
  · rw [pairG_not _ _ _ _ _ _ _ _ _ _ _ (sees_not g n k h1 (fun e => h2 (Fin.ext (by show k.val = n.val - 1; omega))) r j), zero_mul]

theorem next_ok (hnext : hasNext i = if n.val < 31 then 1#1 else 0#1) (hsame : sameNext i = if ¬ (n.val + 1) % blocks g = 0 then 1#1 else 0#1)
    (n' : Fin 32) (hn : n'.val = n.val + 1) (r j : Fin 128) :
    k0_pay13 (hasNext i) (sameNext i) (ix2 r j) = if r.val ≤ j.val ∧ ¬ n'.val % blocks g = 0 then 1#1 else 0#1 := by
  rw [pay13_apply _ _ _ _ hnext hsame]
  refine if_congr ?_ rfl rfl
  rw [hn]
  omega

include hi hnext hsame in
theorem sum_dk : (∑ j : Fin 128, cellG k0_pay9 (k0_pay8 (F := Ideal) (dilAt i)) (S (ix1 (slopeOf g h))) (blkOf Q g n) (blkOf K g n) (statOf L g n) (blkOf X g n) (blkOf W g n) (statOf D g n) h j r
        * (hrow (blkOf Q g n) h j d * eighth))
      + ∑ j : Fin 128, cellG (k0_pay13 (hasNext i) (sameNext i)) (k0_pay10 (F := Ideal) (dilAt i)) (S (ix1 (slopeOf g h))) (blkOf Q g (after n)) (blkOf K g n) (statOf L g (after n))
        (blkOf X g (after n)) (blkOf W g n) (statOf D g (after n)) h j r * (hrow (blkOf Q g (after n)) h j d * eighth)
    = ∑ P : Fin 4096, pairG S Q K X W L D g h P (place n r) * (Q (ix3 g P (hcol h d)) * eighth) := by
  refine sum_two n (after n) _ _ _ (fun j => ?_) (fun hne j => ?_) (fun he j => ?_) (fun k h1 h2 j => ?_)
  · rw [cellG_same S Q K X W L D i g n h hi]; rfl
  · have hn : (after n).val = n.val + 1 := by
      have : (after n).val ≠ n.val := fun e => hne (Fin.ext e)
      change min (n.val + 1) 31 ≠ n.val at this
      show min (n.val + 1) 31 = n.val + 1
      omega
    rw [cellG_before S Q K X W L D i g (after n) h _ n hn hi (fun r j => next_ok i g n hnext hsame (after n) hn r j)]; rfl
  · have h0 : n.val = 31 := by have := congrArg Fin.val he; change min (n.val + 1) 31 = n.val at this; omega
    rw [cellG_none h _ _ _ _ _ _ _ _ _ _ _ (by rw [pay13_apply _ _ _ _ hnext hsame, if_neg (by omega)]), zero_mul]
  · rw [pairG_not _ _ _ _ _ _ _ _ _ _ _ (sees_not g k n (Ne.symm h1) (fun e => h2 (Fin.ext (by show k.val = min (n.val + 1) 31; omega))) j r), zero_mul]

include hi hnext hsame in
theorem sum_dv : (∑ j : Fin 128, cellW k0_pay9 (k0_pay8 (F := Ideal) (dilAt i)) (S (ix1 (slopeOf g h))) (blkOf Q g n) (blkOf K g n) (statOf L g n) h j r * hrow (blkOf X g n) h j d)
      + ∑ j : Fin 128, cellW (k0_pay13 (hasNext i) (sameNext i)) (k0_pay10 (F := Ideal) (dilAt i)) (S (ix1 (slopeOf g h))) (blkOf Q g (after n)) (blkOf K g n) (statOf L g (after n)) h j r
        * hrow (blkOf X g (after n)) h j d
    = ∑ P : Fin 4096, pairW S Q K L g h P (place n r) * X (ix3 g P (hcol h d)) := by
  refine sum_two n (after n) _ _ _ (fun j => ?_) (fun hne j => ?_) (fun he j => ?_) (fun k h1 h2 j => ?_)
  · rw [cellW_same S Q K L i g n h hi]; rfl
  · have hn : (after n).val = n.val + 1 := by
      have : (after n).val ≠ n.val := fun e => hne (Fin.ext e)
      change min (n.val + 1) 31 ≠ n.val at this
      show min (n.val + 1) 31 = n.val + 1
      omega
    rw [cellW_before S Q K L i g (after n) h _ n hn hi (fun r j => next_ok i g n hnext hsame (after n) hn r j)]; rfl
  · have h0 : n.val = 31 := by have := congrArg Fin.val he; change min (n.val + 1) 31 = n.val at this; omega
    rw [cellW_none h _ _ _ _ _ _ _ _ (by rw [pay13_apply _ _ _ _ hnext hsame, if_neg (by omega)]), zero_mul]
  · rw [pairW_not _ _ _ _ _ _ _ _ (sees_not g k n (Ne.symm h1) (fun e => h2 (Fin.ext (by show k.val = min (n.val + 1) 31; omega))) j r), zero_mul]

end Point

end Cert.DilIdeal.Value

end
-- ==== Proof.DilArrays.lean ====
/-
  The three gradients after the run of the kernel: at each of the 96 grid points, one block of 128 places of one group; together
  they are the whole arrays, each element a sum over all places of its residue class.
-/
module

public import proofs.«01_k».proof.Proof.DilSums

@[expose] public section

set_option maxRecDepth 16384

noncomputable section

namespace Cert.DilIdeal.Value

open Cert.DilIdeal Cert.DilIdeal.Gen Idealize.ShloMosaic Idealize.ShloMosaic.TcCoe Idealize.SL.Sem
open Idealize.ShloMosaic.Pipeline (Dat)

theorem lt96 (t : Fin cfg0.N) : t.val < 96 := lt_of_lt_of_eq t.isLt N_0

/-- The group of a grid point. -/
def grp (t : Fin cfg0.N) : Fin 3 := ⟨t.val / 32, by have := lt96 t; omega⟩
/-- The block of a grid point. -/
def blk (t : Fin cfg0.N) : Fin 32 := ⟨t.val % 32, by omega⟩

theorem coord0 : ∀ t : Fin cfg0.N, (grid0.coords t 0).val = t.val / 32 := (by decide +kernel : ∀ t : Fin grid0.N, _)
theorem coord1 : ∀ t : Fin cfg0.N, (grid0.coords t 1).val = t.val % 32 := (by decide +kernel : ∀ t : Fin grid0.N, _)

theorem at0 : ∀ t : Fin cfg0.N, win0_0.index t (0 : Fin 1) = 0 := (by decide +kernel : ∀ t : Fin grid0.N, _)
theorem at1 : ∀ t : Fin cfg0.N, win0_1.index t (0 : Fin 3) = t.val / 32 ∧ win0_1.index t (1 : Fin 3) = t.val % 32 ∧ win0_1.index t (2 : Fin 3) = 0 := (by decide +kernel : ∀ t : Fin grid0.N, _)
theorem at2 : ∀ t : Fin cfg0.N, win0_2.index t (0 : Fin 3) = t.val / 32 ∧ win0_2.index t (1 : Fin 3) = min (t.val % 32 + 1) 31 ∧ win0_2.index t (2 : Fin 3) = 0 := (by decide +kernel : ∀ t : Fin grid0.N, _)
theorem at3 : ∀ t : Fin cfg0.N, win0_3.index t (0 : Fin 3) = t.val / 32 ∧ win0_3.index t (1 : Fin 3) = t.val % 32 - 1 ∧ win0_3.index t (2 : Fin 3) = 0 := (by decide +kernel : ∀ t : Fin grid0.N, _)
theorem at4 : ∀ t : Fin cfg0.N, win0_4.index t (0 : Fin 3) = t.val / 32 ∧ win0_4.index t (1 : Fin 3) = t.val % 32 ∧ win0_4.index t (2 : Fin 3) = 0 := (by decide +kernel : ∀ t : Fin grid0.N, _)
theorem at5 : ∀ t : Fin cfg0.N, win0_5.index t (0 : Fin 3) = t.val / 32 ∧ win0_5.index t (1 : Fin 3) = t.val % 32 - 1 ∧ win0_5.index t (2 : Fin 3) = 0 := (by decide +kernel : ∀ t : Fin grid0.N, _)
theorem at6 : ∀ t : Fin cfg0.N, win0_6.index t (0 : Fin 3) = t.val / 32 ∧ win0_6.index t (1 : Fin 3) = t.val % 32 ∧ win0_6.index t (2 : Fin 3) = 0 := (by decide +kernel : ∀ t : Fin grid0.N, _)
theorem at7 : ∀ t : Fin cfg0.N, win0_7.index t (0 : Fin 3) = t.val / 32 ∧ win0_7.index t (1 : Fin 3) = t.val % 32 ∧ win0_7.index t (2 : Fin 3) = 0 := (by decide +kernel : ∀ t : Fin grid0.N, _)
theorem at8 : ∀ t : Fin cfg0.N, win0_8.index t (0 : Fin 3) = t.val / 32 ∧ win0_8.index t (1 : Fin 3) = min (t.val % 32 + 1) 31 ∧ win0_8.index t (2 : Fin 3) = 0 := (by decide +kernel : ∀ t : Fin grid0.N, _)
theorem at9 : ∀ t : Fin cfg0.N, win0_9.index t (0 : Fin 3) = t.val / 32 ∧ win0_9.index t (1 : Fin 3) = t.val % 32 ∧ win0_9.index t (2 : Fin 3) = 0 := (by decide +kernel : ∀ t : Fin grid0.N, _)
theorem at10 : ∀ t : Fin cfg0.N, win0_10.index t (0 : Fin 3) = t.val / 32 ∧ win0_10.index t (1 : Fin 3) = min (t.val % 32 + 1) 31 ∧ win0_10.index t (2 : Fin 3) = 0 := (by decide +kernel : ∀ t : Fin grid0.N, _)
theorem at11 : ∀ t : Fin cfg0.N, win0_11.index t (0 : Fin 3) = t.val / 32 ∧ win0_11.index t (1 : Fin 3) = t.val % 32 ∧ win0_11.index t (2 : Fin 3) = 0 := (by decide +kernel : ∀ t : Fin grid0.N, _)
theorem at12 : ∀ t : Fin cfg0.N, win0_12.index t (0 : Fin 3) = t.val / 32 ∧ win0_12.index t (1 : Fin 3) = min (t.val % 32 + 1) 31 ∧ win0_12.index t (2 : Fin 3) = 0 := (by decide +kernel : ∀ t : Fin grid0.N, _)
theorem at13 : ∀ t : Fin cfg0.N, win0_13.index t (0 : Fin 3) = t.val / 32 ∧ win0_13.index t (1 : Fin 3) = t.val % 32 ∧ win0_13.index t (2 : Fin 3) = 0 := (by decide +kernel : ∀ t : Fin grid0.N, _)
theorem at14 : ∀ t : Fin cfg0.N, win0_14.index t (0 : Fin 3) = t.val / 32 ∧ win0_14.index t (1 : Fin 3) = t.val % 32 ∧ win0_14.index t (2 : Fin 3) = 0 := (by decide +kernel : ∀ t : Fin grid0.N, _)
theorem at15 : ∀ t : Fin cfg0.N, win0_15.index t (0 : Fin 3) = t.val / 32 ∧ win0_15.index t (1 : Fin 3) = t.val % 32 ∧ win0_15.index t (2 : Fin 3) = 0 := (by decide +kernel : ∀ t : Fin grid0.N, _)

/-- Where a place of a block lies in its array. -/
theorem lies {b : ℕ} {i : (⟨3, ![3, 4096, b]⟩ : Shape).Idx} {t : Fin cfg0.N} {B : Fin 32} {z : Fin 1} {r : Fin 128} {l : Fin b} {x y w : ℕ}
    (e : x = t.val / 32 ∧ y = B.val ∧ w = 0) (h0 : (i 0).val = x * 1 + 1 * z.val) (h1 : (i 1).val = y * 128 + 1 * r.val)
    (h2 : (i 2).val = w * b + 1 * l.val) : i = ix3 (grp t) (place B r) l := by
  obtain ⟨rfl, rfl, rfl⟩ := e
  funext a; apply Fin.ext
  match a with
  | ⟨0, _⟩ => exact h0.trans (by show _ = t.val / 32; omega)
  | ⟨1, _⟩ => exact h1.trans (by show _ = 128 * B.val + r.val; omega)
  | ⟨2, _⟩ => exact h2.trans (by show _ = l.val; omega)

theorem emb0 (t : Fin cfg0.N) (k : Fin 24) : ((cfg0.win 0).blk t).view.emb (ix1 k) = ix1 k := by
  have e0 := at0 t
  funext a; apply Fin.ext
  match a with
  | ⟨0, _⟩ => show win0_0.index t (0 : Fin 1) * 24 + 1 * k.val = k.val; omega
theorem emb1 (t : Fin cfg0.N) (z : Fin 1) (r : Fin 128) (l : Fin 512) : ((cfg0.win 1).blk t).view.emb (ix3 z r l) = ix3 (grp t) (place (blk t) r) l := lies (at1 t) rfl rfl rfl
theorem emb2 (t : Fin cfg0.N) (z : Fin 1) (r : Fin 128) (l : Fin 512) : ((cfg0.win 2).blk t).view.emb (ix3 z r l) = ix3 (grp t) (place (after (blk t)) r) l := lies (at2 t) rfl rfl rfl
theorem emb3 (t : Fin cfg0.N) (z : Fin 1) (r : Fin 128) (l : Fin 512) : ((cfg0.win 3).blk t).view.emb (ix3 z r l) = ix3 (grp t) (place (before (blk t)) r) l := lies (at3 t) rfl rfl rfl
theorem emb4 (t : Fin cfg0.N) (z : Fin 1) (r : Fin 128) (l : Fin 512) : ((cfg0.win 4).blk t).view.emb (ix3 z r l) = ix3 (grp t) (place (blk t) r) l := lies (at4 t) rfl rfl rfl
theorem emb5 (t : Fin cfg0.N) (z : Fin 1) (r : Fin 128) (l : Fin 512) : ((cfg0.win 5).blk t).view.emb (ix3 z r l) = ix3 (grp t) (place (before (blk t)) r) l := lies (at5 t) rfl rfl rfl
theorem emb6 (t : Fin cfg0.N) (z : Fin 1) (r : Fin 128) (l : Fin 512) : ((cfg0.win 6).blk t).view.emb (ix3 z r l) = ix3 (grp t) (place (blk t) r) l := lies (at6 t) rfl rfl rfl
theorem emb7 (t : Fin cfg0.N) (z : Fin 1) (r : Fin 128) (l : Fin 512) : ((cfg0.win 7).blk t).view.emb (ix3 z r l) = ix3 (grp t) (place (blk t) r) l := lies (at7 t) rfl rfl rfl
theorem emb8 (t : Fin cfg0.N) (z : Fin 1) (r : Fin 128) (l : Fin 512) : ((cfg0.win 8).blk t).view.emb (ix3 z r l) = ix3 (grp t) (place (after (blk t)) r) l := lies (at8 t) rfl rfl rfl
theorem emb9 (t : Fin cfg0.N) (z : Fin 1) (r : Fin 128) (l : Fin 128) : ((cfg0.win 9).blk t).view.emb (ix3 z r l) = ix3 (grp t) (place (blk t) r) l := lies (at9 t) rfl rfl rfl
theorem emb10 (t : Fin cfg0.N) (z : Fin 1) (r : Fin 128) (l : Fin 128) : ((cfg0.win 10).blk t).view.emb (ix3 z r l) = ix3 (grp t) (place (after (blk t)) r) l := lies (at10 t) rfl rfl rfl
theorem emb11 (t : Fin cfg0.N) (z : Fin 1) (r : Fin 128) (l : Fin 128) : ((cfg0.win 11).blk t).view.emb (ix3 z r l) = ix3 (grp t) (place (blk t) r) l := lies (at11 t) rfl rfl rfl
theorem emb12 (t : Fin cfg0.N) (z : Fin 1) (r : Fin 128) (l : Fin 128) : ((cfg0.win 12).blk t).view.emb (ix3 z r l) = ix3 (grp t) (place (after (blk t)) r) l := lies (at12 t) rfl rfl rfl
theorem emb13 (t : Fin cfg0.N) (z : Fin 1) (r : Fin 128) (l : Fin 512) : ((cfg0.win 13).blk t).view.emb (ix3 z r l) = ix3 (grp t) (place (blk t) r) l := lies (at13 t) rfl rfl rfl
theorem emb14 (t : Fin cfg0.N) (z : Fin 1) (r : Fin 128) (l : Fin 512) : ((cfg0.win 14).blk t).view.emb (ix3 z r l) = ix3 (grp t) (place (blk t) r) l := lies (at14 t) rfl rfl rfl
theorem emb15 (t : Fin cfg0.N) (z : Fin 1) (r : Fin 128) (l : Fin 512) : ((cfg0.win 15).blk t).view.emb (ix3 z r l) = ix3 (grp t) (place (blk t) r) l := lies (at15 t) rfl rfl rfl

theorem coords_dil (t : Fin cfg0.N) : dilAt (grid0.coords t) = dilW (BitVec.ofNat 32 (grp t).val) := by
  unfold dilAt; rw [coord0]; rfl
theorem coords_prev (t : Fin cfg0.N) : hasPrev (grid0.coords t) = if ¬ (blk t).val % blocks (grp t) = 0 then 1#1 else 0#1 := by
  unfold hasPrev
  rw [coord0, coord1]
  refine (noMultiple_eq (grp t) ⟨t.val % 32, by omega⟩).trans ?_
  show (if t.val % 32 % blocks (grp t) = 0 then 0#1 else 1#1) = if ¬ t.val % 32 % blocks (grp t) = 0 then 1#1 else 0#1
  rw [ite_not]
theorem next_word : ∀ n : Fin 32, Scalar.cmpi .slt (Scalar.addi (BitVec.ofNat 32 n.val) 1#32) 32#32 = if n.val < 31 then 1#1 else 0#1 := by decide +kernel
theorem coords_next (t : Fin cfg0.N) : hasNext (grid0.coords t) = if (blk t).val < 31 then 1#1 else 0#1 := by
  unfold hasNext
  rw [coord1]
  exact next_word (blk t)
theorem coords_same (t : Fin cfg0.N) : sameNext (grid0.coords t) = if ¬ ((blk t).val + 1) % blocks (grp t) = 0 then 1#1 else 0#1 := by
  unfold sameNext
  rw [coord0, coord1, show ∀ x : BitVec 32, Scalar.addi x 1#32 = IntOp.addi x (BitVec.ofNat 32 1) from fun _ => rfl, add_ofNat]
  refine (noMultiple_eq (grp t) ⟨t.val % 32 + 1, by omega⟩).trans ?_
  show (if (t.val % 32 + 1) % blocks (grp t) = 0 then 0#1 else 1#1) = if ¬ (t.val % 32 + 1) % blocks (grp t) = 0 then 1#1 else 0#1
  rw [ite_not]
theorem coords_slope (t : Fin cfg0.N) (h : Fin 8) : slopeIx (grid0.coords t) h = slopeOf (grp t) h :=
  Fin.ext (by show 8 * (grid0.coords t 0).val + h.val = 8 * (t.val / 32) + h.val; rw [coord0])

variable (m : (ℓ : Loc nD τ sig) → Buf (Elt Ideal) ℓ) (ρ : Dev nD → PrngReg)

/-! ## The arrays that the kernel is handed -/

/-- The slopes. -/
def slopes (c : Dev nD) : S24.Idx → EReal := V m c main_v193
/-- The queries, the positions of a residue class standing together; and so keys, values and the result's gradient. -/
def qs (c : Dev nD) : S3x4096x512.Idx → EReal := V m c main_v108
def ks (c : Dev nD) : S3x4096x512.Idx → EReal := V m c main_v124
def vs (c : Dev nD) : S3x4096x512.Idx → EReal := V m c main_v140
def dos (c : Dev nD) : S3x4096x512.Idx → EReal := V m c main_v153
/-- The queries' log-sums, and the rows' products of the result and its gradient. -/
def lses (c : Dev nD) : S3x4096x128.Idx → EReal := V m c main_v168
def deltas (c : Dev nD) : S3x4096x128.Idx → EReal := V m c main_v183

/-- The head of a column. -/
def headOf (l : Fin 512) : Fin 8 := ⟨l.val / 64, by omega⟩

/-- The queries' gradient. -/
def DQ (c : Dev nD) : S3x4096x512.Idx → EReal := fun x =>
  ∑ P' : Fin 4096, pairG (slopes m c) (qs m c) (ks m c) (dos m c) (vs m c) (lses m c) (deltas m c) (x 0) (headOf (x 2)) (x 1) P'
    * (ks m c (ix3 (x 0) P' (x 2)) * eighth)
/-- The keys' gradient. -/
def DK (c : Dev nD) : S3x4096x512.Idx → EReal := fun x =>
  ∑ P : Fin 4096, pairG (slopes m c) (qs m c) (ks m c) (dos m c) (vs m c) (lses m c) (deltas m c) (x 0) (headOf (x 2)) P (x 1)
    * (qs m c (ix3 (x 0) P (x 2)) * eighth)
/-- The values' gradient. -/
def DV (c : Dev nD) : S3x4096x512.Idx → EReal := fun x =>
  ∑ P : Fin 4096, pairW (slopes m c) (qs m c) (ks m c) (lses m c) (x 0) (headOf (x 2)) P (x 1) * dos m c (ix3 (x 0) P (x 2))

/-! ## A point's blocks -/

theorem iblk0_eq (c : Dev nD) (t : Fin cfg0.N) : (iblk m c 0 t : Vec Ideal S24 .f32) = slopes m c := by
  funext x
  obtain ⟨k, rfl⟩ : ∃ k : Fin 24, x = ix1 k := ⟨x 0, eq_ix1 x⟩
  exact congrArg (V m c main_v193) (emb0 t k)
theorem iblk1_eq (c : Dev nD) (t : Fin cfg0.N) : (iblk m c 1 t : Vec Ideal S1x128x512 .bf16) = blkOf (qs m c) (grp t) (blk t) := by
  funext x
  obtain ⟨z, r, l, rfl⟩ : ∃ (z : Fin 1) (r : Fin 128) (l : Fin 512), x = ix3 z r l := ⟨x 0, x 1, x 2, eq_ix3 x⟩
  exact congrArg (V m c main_v108) (emb1 t z r l)
theorem iblk2_eq (c : Dev nD) (t : Fin cfg0.N) : (iblk m c 2 t : Vec Ideal S1x128x512 .bf16) = blkOf (qs m c) (grp t) (after (blk t)) := by
  funext x
  obtain ⟨z, r, l, rfl⟩ : ∃ (z : Fin 1) (r : Fin 128) (l : Fin 512), x = ix3 z r l := ⟨x 0, x 1, x 2, eq_ix3 x⟩
  exact congrArg (V m c main_v108) (emb2 t z r l)
theorem iblk3_eq (c : Dev nD) (t : Fin cfg0.N) : (iblk m c 3 t : Vec Ideal S1x128x512 .bf16) = blkOf (ks m c) (grp t) (before (blk t)) := by
  funext x
  obtain ⟨z, r, l, rfl⟩ : ∃ (z : Fin 1) (r : Fin 128) (l : Fin 512), x = ix3 z r l := ⟨x 0, x 1, x 2, eq_ix3 x⟩
  exact congrArg (V m c main_v124) (emb3 t z r l)
theorem iblk4_eq (c : Dev nD) (t : Fin cfg0.N) : (iblk m c 4 t : Vec Ideal S1x128x512 .bf16) = blkOf (ks m c) (grp t) (blk t) := by
  funext x
  obtain ⟨z, r, l, rfl⟩ : ∃ (z : Fin 1) (r : Fin 128) (l : Fin 512), x = ix3 z r l := ⟨x 0, x 1, x 2, eq_ix3 x⟩
  exact congrArg (V m c main_v124) (emb4 t z r l)
theorem iblk5_eq (c : Dev nD) (t : Fin cfg0.N) : (iblk m c 5 t : Vec Ideal S1x128x512 .bf16) = blkOf (vs m c) (grp t) (before (blk t)) := by
  funext x
  obtain ⟨z, r, l, rfl⟩ : ∃ (z : Fin 1) (r : Fin 128) (l : Fin 512), x = ix3 z r l := ⟨x 0, x 1, x 2, eq_ix3 x⟩
  exact congrArg (V m c main_v140) (emb5 t z r l)
theorem iblk6_eq (c : Dev nD) (t : Fin cfg0.N) : (iblk m c 6 t : Vec Ideal S1x128x512 .bf16) = blkOf (vs m c) (grp t) (blk t) := by
  funext x
  obtain ⟨z, r, l, rfl⟩ : ∃ (z : Fin 1) (r : Fin 128) (l : Fin 512), x = ix3 z r l := ⟨x 0, x 1, x 2, eq_ix3 x⟩
  exact congrArg (V m c main_v140) (emb6 t z r l)
theorem iblk7_eq (c : Dev nD) (t : Fin cfg0.N) : (iblk m c 7 t : Vec Ideal S1x128x512 .bf16) = blkOf (dos m c) (grp t) (blk t) := by
  funext x
  obtain ⟨z, r, l, rfl⟩ : ∃ (z : Fin 1) (r : Fin 128) (l : Fin 512), x = ix3 z r l := ⟨x 0, x 1, x 2, eq_ix3 x⟩
  exact congrArg (V m c main_v153) (emb7 t z r l)
theorem iblk8_eq (c : Dev nD) (t : Fin cfg0.N) : (iblk m c 8 t : Vec Ideal S1x128x512 .bf16) = blkOf (dos m c) (grp t) (after (blk t)) := by
  funext x
  obtain ⟨z, r, l, rfl⟩ : ∃ (z : Fin 1) (r : Fin 128) (l : Fin 512), x = ix3 z r l := ⟨x 0, x 1, x 2, eq_ix3 x⟩
  exact congrArg (V m c main_v153) (emb8 t z r l)
theorem iblk9_eq (c : Dev nD) (t : Fin cfg0.N) : (iblk m c 9 t : Vec Ideal S1x128x128 .f32) = statOf (lses m c) (grp t) (blk t) := by
  funext x
  obtain ⟨z, r, l, rfl⟩ : ∃ (z : Fin 1) (r : Fin 128) (l : Fin 128), x = ix3 z r l := ⟨x 0, x 1, x 2, eq_ix3 x⟩
  exact congrArg (V m c main_v168) (emb9 t z r l)
theorem iblk10_eq (c : Dev nD) (t : Fin cfg0.N) : (iblk m c 10 t : Vec Ideal S1x128x128 .f32) = statOf (lses m c) (grp t) (after (blk t)) := by
  funext x
  obtain ⟨z, r, l, rfl⟩ : ∃ (z : Fin 1) (r : Fin 128) (l : Fin 128), x = ix3 z r l := ⟨x 0, x 1, x 2, eq_ix3 x⟩
  exact congrArg (V m c main_v168) (emb10 t z r l)
theorem iblk11_eq (c : Dev nD) (t : Fin cfg0.N) : (iblk m c 11 t : Vec Ideal S1x128x128 .f32) = statOf (deltas m c) (grp t) (blk t) := by
  funext x
  obtain ⟨z, r, l, rfl⟩ : ∃ (z : Fin 1) (r : Fin 128) (l : Fin 128), x = ix3 z r l := ⟨x 0, x 1, x 2, eq_ix3 x⟩
  exact congrArg (V m c main_v183) (emb11 t z r l)
theorem iblk12_eq (c : Dev nD) (t : Fin cfg0.N) : (iblk m c 12 t : Vec Ideal S1x128x128 .f32) = statOf (deltas m c) (grp t) (after (blk t)) := by
  funext x
  obtain ⟨z, r, l, rfl⟩ : ∃ (z : Fin 1) (r : Fin 128) (l : Fin 128), x = ix3 z r l := ⟨x 0, x 1, x 2, eq_ix3 x⟩
  exact congrArg (V m c main_v183) (emb12 t z r l)

theorem head_hcol (h : Fin 8) (d : Fin 64) : headOf (hcol h d) = h := Fin.ext (by show (64 * h.val + d.val) / 64 = h.val; omega)
theorem hcol_head (l : Fin 512) : l = hcol (headOf l) ⟨l.val % 64, by omega⟩ := Fin.ext (by show l.val = 64 * (l.val / 64) + l.val % 64; omega)

theorem flushed13_eq (c : Dev nD) (t : Fin cfg0.N) : (dats m 0 c).flushed 13 t = ((cfg0.win 13).blk t).view.read (Elt Ideal) (DQ m c) := by
  rw [flushed13_A]
  funext x
  obtain ⟨z, r, l, rfl⟩ : ∃ (z : Fin 1) (r : Fin 128) (l : Fin 512), x = ix3 z r l := ⟨x 0, x 1, x 2, eq_ix3 x⟩
  obtain ⟨h, d, rfl⟩ : ∃ (h : Fin 8) (d : Fin 64), l = hcol h d := ⟨_, _, hcol_head l⟩
  obtain rfl : z = 0 := Subsingleton.elim _ _
  refine Eq.trans ?_ (congrArg (DQ m c) (emb13 t 0 r (hcol h d)).symm)
  refine (out13_apply ..).trans ?_
  rw [iblk0_eq, iblk1_eq, iblk3_eq, iblk4_eq, iblk5_eq, iblk6_eq, iblk7_eq, iblk9_eq, iblk11_eq, coords_slope]
  refine (sum_dq (slopes m c) (qs m c) (ks m c) (dos m c) (vs m c) (lses m c) (deltas m c) (grid0.coords t) (grp t) (blk t) h (coords_dil t) (coords_prev t) r d).trans ?_
  unfold DQ
  simp only [show (ix3 (grp t) (place (blk t) r) (hcol h d) : S3x4096x512.Idx) 0 = grp t from rfl, show (ix3 (grp t) (place (blk t) r) (hcol h d) : S3x4096x512.Idx) 1 = place (blk t) r from rfl,
    show (ix3 (grp t) (place (blk t) r) (hcol h d) : S3x4096x512.Idx) 2 = hcol h d from rfl, head_hcol]

theorem final13_eq (c : Dev nD) : (dats m 0 c).arrAt 13 cfg0.N = DQ m c :=
  (dats m 0 c).arrAt_eq_of_cover 13 (DQ m c) (fun t _ => flushed13_eq m c t) fun i => by
    obtain ⟨g, P, l, rfl⟩ : ∃ (g : Fin 3) (P : Fin 4096) (l : Fin 512), i = ix3 g P l := ⟨i 0, i 1, i 2, eq_ix3 i⟩
    have hN : 32 * g.val + P.val / 128 < cfg0.N := by rw [show cfg0.N = 96 from N_0]; omega
    refine ⟨⟨32 * g.val + P.val / 128, hN⟩, flush0_13 _, ?_⟩
    have e : ((cfg0.win 13).blk ⟨32 * g.val + P.val / 128, hN⟩).view.emb (ix3 0 (⟨P.val % 128, by omega⟩ : Fin 128) l) = ix3 g P l := by
      rw [emb13]
      have e1 : grp ⟨32 * g.val + P.val / 128, hN⟩ = g := Fin.ext (by show (32 * g.val + P.val / 128) / 32 = g.val; omega)
      have e2 : place (blk ⟨32 * g.val + P.val / 128, hN⟩) ⟨P.val % 128, by omega⟩ = P :=
        Fin.ext (by show 128 * ((32 * g.val + P.val / 128) % 32) + P.val % 128 = P.val; omega)
      rw [e1, e2]
    exact e ▸ ((cfg0.win 13).blk ⟨32 * g.val + P.val / 128, hN⟩).view.emb_mem_set (ix3 0 (⟨P.val % 128, by omega⟩ : Fin 128) l)

theorem flushed14_eq (c : Dev nD) (t : Fin cfg0.N) : (dats m 0 c).flushed 14 t = ((cfg0.win 14).blk t).view.read (Elt Ideal) (DK m c) := by
  rw [flushed14_A]
  funext x
  obtain ⟨z, r, l, rfl⟩ : ∃ (z : Fin 1) (r : Fin 128) (l : Fin 512), x = ix3 z r l := ⟨x 0, x 1, x 2, eq_ix3 x⟩
  obtain ⟨h, d, rfl⟩ : ∃ (h : Fin 8) (d : Fin 64), l = hcol h d := ⟨_, _, hcol_head l⟩
  obtain rfl : z = 0 := Subsingleton.elim _ _
  refine Eq.trans ?_ (congrArg (DK m c) (emb14 t 0 r (hcol h d)).symm)
  refine (out14_apply ..).trans ?_
  rw [iblk0_eq, iblk1_eq, iblk2_eq, iblk4_eq, iblk6_eq, iblk7_eq, iblk8_eq, iblk9_eq, iblk10_eq, iblk11_eq, iblk12_eq, coords_slope]
  refine (sum_dk (slopes m c) (qs m c) (ks m c) (dos m c) (vs m c) (lses m c) (deltas m c) (grid0.coords t) (grp t) (blk t) h (coords_dil t) (coords_next t) (coords_same t) r d).trans ?_
  unfold DK
  simp only [show (ix3 (grp t) (place (blk t) r) (hcol h d) : S3x4096x512.Idx) 0 = grp t from rfl, show (ix3 (grp t) (place (blk t) r) (hcol h d) : S3x4096x512.Idx) 1 = place (blk t) r from rfl,
    show (ix3 (grp t) (place (blk t) r) (hcol h d) : S3x4096x512.Idx) 2 = hcol h d from rfl, head_hcol]

theorem final14_eq (c : Dev nD) : (dats m 0 c).arrAt 14 cfg0.N = DK m c :=
  (dats m 0 c).arrAt_eq_of_cover 14 (DK m c) (fun t _ => flushed14_eq m c t) fun i => by
    obtain ⟨g, P, l, rfl⟩ : ∃ (g : Fin 3) (P : Fin 4096) (l : Fin 512), i = ix3 g P l := ⟨i 0, i 1, i 2, eq_ix3 i⟩
    have hN : 32 * g.val + P.val / 128 < cfg0.N := by rw [show cfg0.N = 96 from N_0]; omega
    refine ⟨⟨32 * g.val + P.val / 128, hN⟩, flush0_14 _, ?_⟩
    have e : ((cfg0.win 14).blk ⟨32 * g.val + P.val / 128, hN⟩).view.emb (ix3 0 (⟨P.val % 128, by omega⟩ : Fin 128) l) = ix3 g P l := by
      rw [emb14]
      have e1 : grp ⟨32 * g.val + P.val / 128, hN⟩ = g := Fin.ext (by show (32 * g.val + P.val / 128) / 32 = g.val; omega)
      have e2 : place (blk ⟨32 * g.val + P.val / 128, hN⟩) ⟨P.val % 128, by omega⟩ = P :=
        Fin.ext (by show 128 * ((32 * g.val + P.val / 128) % 32) + P.val % 128 = P.val; omega)
      rw [e1, e2]
    exact e ▸ ((cfg0.win 14).blk ⟨32 * g.val + P.val / 128, hN⟩).view.emb_mem_set (ix3 0 (⟨P.val % 128, by omega⟩ : Fin 128) l)

theorem flushed15_eq (c : Dev nD) (t : Fin cfg0.N) : (dats m 0 c).flushed 15 t = ((cfg0.win 15).blk t).view.read (Elt Ideal) (DV m c) := by
  rw [flushed15_A]
  funext x
  obtain ⟨z, r, l, rfl⟩ : ∃ (z : Fin 1) (r : Fin 128) (l : Fin 512), x = ix3 z r l := ⟨x 0, x 1, x 2, eq_ix3 x⟩
  obtain ⟨h, d, rfl⟩ : ∃ (h : Fin 8) (d : Fin 64), l = hcol h d := ⟨_, _, hcol_head l⟩
  obtain rfl : z = 0 := Subsingleton.elim _ _
  refine Eq.trans ?_ (congrArg (DV m c) (emb15 t 0 r (hcol h d)).symm)
  refine (out15_apply ..).trans ?_
  rw [iblk0_eq, iblk1_eq, iblk2_eq, iblk4_eq, iblk7_eq, iblk8_eq, iblk9_eq, iblk10_eq, coords_slope]
  refine (sum_dv (slopes m c) (qs m c) (ks m c) (dos m c) (lses m c) (grid0.coords t) (grp t) (blk t) h (coords_dil t) (coords_next t) (coords_same t) r d).trans ?_
  unfold DV
  simp only [show (ix3 (grp t) (place (blk t) r) (hcol h d) : S3x4096x512.Idx) 0 = grp t from rfl, show (ix3 (grp t) (place (blk t) r) (hcol h d) : S3x4096x512.Idx) 1 = place (blk t) r from rfl,
    show (ix3 (grp t) (place (blk t) r) (hcol h d) : S3x4096x512.Idx) 2 = hcol h d from rfl, head_hcol]

theorem final15_eq (c : Dev nD) : (dats m 0 c).arrAt 15 cfg0.N = DV m c :=
  (dats m 0 c).arrAt_eq_of_cover 15 (DV m c) (fun t _ => flushed15_eq m c t) fun i => by
    obtain ⟨g, P, l, rfl⟩ : ∃ (g : Fin 3) (P : Fin 4096) (l : Fin 512), i = ix3 g P l := ⟨i 0, i 1, i 2, eq_ix3 i⟩
    have hN : 32 * g.val + P.val / 128 < cfg0.N := by rw [show cfg0.N = 96 from N_0]; omega
    refine ⟨⟨32 * g.val + P.val / 128, hN⟩, flush0_15 _, ?_⟩
    have e : ((cfg0.win 15).blk ⟨32 * g.val + P.val / 128, hN⟩).view.emb (ix3 0 (⟨P.val % 128, by omega⟩ : Fin 128) l) = ix3 g P l := by
      rw [emb15]
      have e1 : grp ⟨32 * g.val + P.val / 128, hN⟩ = g := Fin.ext (by show (32 * g.val + P.val / 128) / 32 = g.val; omega)
      have e2 : place (blk ⟨32 * g.val + P.val / 128, hN⟩) ⟨P.val % 128, by omega⟩ = P :=
        Fin.ext (by show 128 * ((32 * g.val + P.val / 128) % 32) + P.val % 128 = P.val; omega)
      rw [e1, e2]
    exact e ▸ ((cfg0.win 15).blk ⟨32 * g.val + P.val / 128, hN⟩).view.emb_mem_set (ix3 0 (⟨P.val % 128, by omega⟩ : Fin 128) l)

/-- The run, its results named. -/
theorem run_dil : θ_run defs (onTc (τ := τ) (main (F := Ideal))) ⟨m, fun _ => 0, ρ⟩ fun r => ∀ c : Dev nD,
      r.2.mem ((c : Thread nD τ).loc main_v194_0) = DQ m c
      ∧ r.2.mem ((c : Thread nD τ).loc main_v194_1) = DK m c
      ∧ r.2.mem ((c : Thread nD τ).loc main_v194_2) = DV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final13_eq m c), (h c).2.1.trans (final14_eq m c), (h c).2.2.1.trans (final15_eq m c), (h c).2.2.2⟩) (run_blocks m ρ)

end Cert.DilIdeal.Value

end
-- ==== Proof.DilHost.lean ====
/-
  What the host prepares for the kernel of the dilated attention's gradient, one definition to an operation: the rows in the order
  of the residue classes, the queries' log-sums over all groups, and the products of the result and its gradient.
-/
module

public import proofs.«01_k».proof.Proof.DilArrays
public import Idealize.ShloMosaic.Lib.StableHlo.RunRead

@[expose] public section

set_option maxRecDepth 65536
set_option maxHeartbeats 4000000

noncomputable section

namespace Cert.DilIdeal.Value

open Cert.DilIdeal Cert.DilIdeal.Gen Idealize.ShloMosaic Idealize.ShloMosaic.TcCoe Idealize.SL.Sem

def h_v0 (a0 : FVec Ideal S4096x1536 .bf16) : FVec Ideal S4096x1536 .f32 := extf .f32 a0 bitsLt_bf16_f32
def h_v1 (a1 : FVec Ideal S4096x1536 .bf16) : FVec Ideal S4096x1536 .f32 := extf .f32 a1 bitsLt_bf16_f32
def h_v2 : IVec S3x1x4096x4096 32 := (iotaInDim S3x1x4096x4096 32 0)
def h_v3 : IVec S3x1x4096x4096 32 := (iotaInDim S3x1x4096x4096 32 2)
def h_v4 : IVec S3x1x4096x4096 32 := (iotaInDim S3x1x4096x4096 32 3)
def h_c : IVec S_ 32 := (constantI S_ 32 0#32)
def h_v5 : IVec S3x1x4096x4096 32 := (broadcastInDim S3x1x4096x4096 ![] bcast_S_S3x1x4096x4096) h_c
def h_v6 : IVec S3x1x4096x4096 1 := (cmpi .eq) h_v2 h_v5
def h_c_0 : IVec S_ 32 := (constantI S_ 32 1#32)
def h_v7 : IVec S3x1x4096x4096 32 := (broadcastInDim S3x1x4096x4096 ![] bcast_S_S3x1x4096x4096) h_c_0
def h_v8 : IVec S3x1x4096x4096 1 := (cmpi .eq) h_v2 h_v7
def h_c_1 : IVec S_ 32 := (constantI S_ 32 4#32)
def h_c_2 : IVec S_ 32 := (constantI S_ 32 16#32)
def h_call0_v0 : IVec S3x1x4096x4096 32 := (broadcastInDim S3x1x4096x4096 ![] bcast_S_S3x1x4096x4096) h_c_1
def h_call0_v1 : IVec S3x1x4096x4096 32 := (broadcastInDim S3x1x4096x4096 ![] bcast_S_S3x1x4096x4096) h_c_2
def h_v9 : IVec S3x1x4096x4096 32 := select h_v8 h_call0_v0 h_call0_v1
def h_c_3 : IVec S_ 32 := (constantI S_ 32 1#32)
def h_call1_v0 : IVec S3x1x4096x4096 32 := (broadcastInDim S3x1x4096x4096 ![] bcast_S_S3x1x4096x4096) h_c_3
def h_v10 : IVec S3x1x4096x4096 32 := select h_v6 h_call1_v0 h_v9
def h_v11 : IVec S3x1x4096x4096 32 := (subi) h_v3 h_v4
def h_c_4 : IVec S_ 32 := (constantI S_ 32 0#32)
def h_v12 : IVec S3x1x4096x4096 32 := (broadcastInDim S3x1x4096x4096 ![] bcast_S_S3x1x4096x4096) h_c_4
def h_v13 : IVec S3x1x4096x4096 1 := (cmpi .sge) h_v11 h_v12
def h_c_5 : IVec S_ 32 := (constantI S_ 32 128#32)
def h_v14 : IVec S3x1x4096x4096 32 := (broadcastInDim S3x1x4096x4096 ![] bcast_S_S3x1x4096x4096) h_c_5
def h_v15 : IVec S3x1x4096x4096 32 := (muli) h_v14 h_v10
def h_v16 : IVec S3x1x4096x4096 32 := (id) h_v15
def h_v17 : IVec S3x1x4096x4096 1 := (cmpi .sle) h_v11 h_v16
def h_v18 : IVec S3x1x4096x4096 1 := (andi) h_v13 h_v17
def h_v19 : IVec S3x1x4096x4096 32 := (Host.remsi) h_v11 h_v10
def h_c_6 : IVec S_ 32 := (constantI S_ 32 0#32)
def h_v20 : IVec S3x1x4096x4096 32 := (broadcastInDim S3x1x4096x4096 ![] bcast_S_S3x1x4096x4096) h_c_6
def h_v21 : IVec S3x1x4096x4096 1 := (cmpi .eq) h_v19 h_v20
def h_v22 : IVec S3x1x4096x4096 1 := (andi) h_v18 h_v21
def h_v23 : FVec Ideal S24 .f32 := (sitofp .f32 (iotaInDim S24 32 0))
def h_cst : FVec Ideal S_ .f32 := (constant S_ .f32 0x3F800000#32)
def h_v24 : FVec Ideal S24 .f32 := (broadcastInDim S24 ![] bcast_S_S24) h_cst
def h_v25 : FVec Ideal S24 .f32 := (addf) h_v24 h_v23
def h_cst_7 : FVec Ideal S_ .f32 := (constant S_ .f32 0xC1000000#32)
def h_v26 : FVec Ideal S24 .f32 := (broadcastInDim S24 ![] bcast_S_S24) h_cst_7
def h_v27 : FVec Ideal S24 .f32 := (mulf) h_v26 h_v25
def h_cst_8 : FVec Ideal S_ .f32 := (constant S_ .f32 0x41C00000#32)
def h_v28 : FVec Ideal S24 .f32 := (broadcastInDim S24 ![] bcast_S_S24) h_cst_8
def h_v29 : FVec Ideal S24 .f32 := (Host.divf) h_v27 h_v28
def h_cst_9 : FVec Ideal S_ .f32 := (constant S_ .f32 0x3F317218#32)
def h_v30 : FVec Ideal S24 .f32 := (broadcastInDim S24 ![] bcast_S_S24) h_cst_9
def h_v31 : FVec Ideal S24 .f32 := (mulf) h_v30 h_v29
def h_v32 : FVec Ideal S24 .f32 := (Host.exp) h_v31
def h_v33 : FVec Ideal S3x8x1x1 .f32 := shapeCast S3x8x1x1 h_v32 shapeCasts_S24_S3x8x1x1
def h_v34 : FVec Ideal S3x8x1x1 .f32 := (Host.negf) h_v33
def h_v35 : FVec Ideal S3x1x4096x4096 .f32 := (sitofp .f32) h_v11
def h_v36 : FVec Ideal S3x8x4096x4096 .f32 := (broadcastInDim S3x8x4096x4096 ![0, 1, 2, 3] bcast_S3x8x1x1_S3x8x4096x4096_0_1_2_3) h_v34
def h_v37 : FVec Ideal S3x8x4096x4096 .f32 := (broadcastInDim S3x8x4096x4096 ![0, 1, 2, 3] bcast_S3x1x4096x4096_S3x8x4096x4096_0_1_2_3) h_v35
def h_v38 : FVec Ideal S3x8x4096x4096 .f32 := (mulf) h_v36 h_v37
def h_v39 (a0 : FVec Ideal S4096x1536 .bf16) : FVec Ideal S4096x3x8x64 .f32 := shapeCast S4096x3x8x64 (h_v0 a0) shapeCasts_S4096x1536_S4096x3x8x64
def h_v40 (a0 : FVec Ideal S4096x1536 .bf16) : FVec Ideal S3x8x4096x64 .f32 := transpose S3x8x4096x64 [1, 2, 0, 3] (h_v39 a0) transposes_S4096x3x8x64_S3x8x4096x64_1_2_0_3
def h_v41 (a1 : FVec Ideal S4096x1536 .bf16) : FVec Ideal S4096x3x8x64 .f32 := shapeCast S4096x3x8x64 (h_v1 a1) shapeCasts_S4096x1536_S4096x3x8x64
def h_v42 (a1 : FVec Ideal S4096x1536 .bf16) : FVec Ideal S3x8x4096x64 .f32 := transpose S3x8x4096x64 [1, 2, 0, 3] (h_v41 a1) transposes_S4096x3x8x64_S3x8x4096x64_1_2_0_3
def h_v43 (a0 : FVec Ideal S4096x1536 .bf16) (a1 : FVec Ideal S4096x1536 .bf16) : FVec Ideal S3x8x4096x4096 .f32 := ((fun l r => Host.dotGeneral dot_S3x8x4096x64_S3x8x4096x64_S3x8x4096x4096_3_3_2_2_01_01 none l r)) (h_v40 a0) (h_v42 a1)
def h_cst_10 : FVec Ideal S_ .f32 := (constant S_ .f32 0x3E000000#32)
def h_v44 : FVec Ideal S3x8x4096x4096 .f32 := (broadcastInDim S3x8x4096x4096 ![] bcast_S_S3x8x4096x4096) h_cst_10
def h_v45 (a0 : FVec Ideal S4096x1536 .bf16) (a1 : FVec Ideal S4096x1536 .bf16) : FVec Ideal S3x8x4096x4096 .f32 := (mulf) (h_v43 a0 a1) h_v44
def h_v46 (a0 : FVec Ideal S4096x1536 .bf16) (a1 : FVec Ideal S4096x1536 .bf16) : FVec Ideal S3x8x4096x4096 .f32 := (addf) (h_v45 a0 a1) h_v38
def h_cst_11 : FVec Ideal S_ .f32 := (constant S_ .f32 0xFF800000#32)
def h_call2_v0 : FVec Ideal S_ .f32 := id h_cst_11
def h_call2_v1 : IVec S3x8x4096x4096 1 := (broadcastInDim S3x8x4096x4096 ![0, 1, 2, 3] bcast_S3x1x4096x4096_S3x8x4096x4096_0_1_2_3) h_v22
def h_call2_v2 : FVec Ideal S3x8x4096x4096 .f32 := (broadcastInDim S3x8x4096x4096 ![] bcast_S_S3x8x4096x4096) h_call2_v0
def h_v47 (a0 : FVec Ideal S4096x1536 .bf16) (a1 : FVec Ideal S4096x1536 .bf16) : FVec Ideal S3x8x4096x4096 .f32 := select h_call2_v1 (h_v46 a0 a1) h_call2_v2
def h_cst_12 : FVec Ideal S_ .f32 := (constant S_ .f32 0xFF800000#32)
def h_v48 (x47 : FVec Ideal S3x8x4096x4096 .f32) : FVec Ideal S3x8x4096 .f32 := ((fun x v => Host.reduce FloatOps.maximumf x v reducesTo_S3x8x4096x4096_S3x8x4096_d3 h_S_)) x47 h_cst_12
def h_v49 (x47 : FVec Ideal S3x8x4096x4096 .f32) : FVec Ideal S3x8x4096x1 .f32 := (broadcastInDim S3x8x4096x1 ![0, 1, 2] bcast_S3x8x4096_S3x8x4096x1_0_1_2) (h_v48 x47)
def h_v50 (x47 : FVec Ideal S3x8x4096x4096 .f32) : FVec Ideal S3x8x4096x4096 .f32 := (broadcastInDim S3x8x4096x4096 ![0, 1, 2, 3] bcast_S3x8x4096x1_S3x8x4096x4096_0_1_2_3) (h_v49 x47)
def h_v51 (x47 : FVec Ideal S3x8x4096x4096 .f32) : FVec Ideal S3x8x4096x4096 .f32 := (subf) x47 (h_v50 x47)
def h_v52 (x47 : FVec Ideal S3x8x4096x4096 .f32) : FVec Ideal S3x8x4096x4096 .f32 := (Host.exp) (h_v51 x47)
def h_cst_13 : FVec Ideal S_ .f32 := (constant S_ .f32 0x00000000#32)
def h_v53 (x47 : FVec Ideal S3x8x4096x4096 .f32) : FVec Ideal S3x8x4096 .f32 := ((fun x v => Host.reduceAdd x v reducesTo_S3x8x4096x4096_S3x8x4096_d3 h_S_)) (h_v52 x47) h_cst_13
def h_v54 (x47 : FVec Ideal S3x8x4096x4096 .f32) : FVec Ideal S3x8x4096x1 .f32 := (broadcastInDim S3x8x4096x1 ![0, 1, 2] bcast_S3x8x4096_S3x8x4096x1_0_1_2) (h_v53 x47)
def h_v55 (x47 : FVec Ideal S3x8x4096x4096 .f32) : FVec Ideal S3x8x4096x4096 .f32 := (broadcastInDim S3x8x4096x4096 ![0, 1, 2, 3] bcast_S3x8x4096x1_S3x8x4096x4096_0_1_2_3) (h_v54 x47)
def h_v56 (x47 : FVec Ideal S3x8x4096x4096 .f32) : FVec Ideal S3x8x4096x4096 .f32 := (Host.divf) (h_v52 x47) (h_v55 x47)
def h_v57 (x47 : FVec Ideal S3x8x4096x4096 .f32) : FVec Ideal S3x8x4096x1 .f32 := (Host.log) (h_v54 x47)
def h_v58 (x47 : FVec Ideal S3x8x4096x4096 .f32) : FVec Ideal S3x8x4096x1 .f32 := (addf) (h_v49 x47) (h_v57 x47)
def h_v59 (x47 : FVec Ideal S3x8x4096x4096 .f32) : FVec Ideal S3x8x4096 .f32 := shapeCast S3x8x4096 (h_v58 x47) shapeCasts_S3x8x4096x1_S3x8x4096
def h_cst_14 : FVec Ideal S_ .f32 := (constant S_ .f32 0xFF800000#32)
def h_v60 (x59 : FVec Ideal S3x8x4096 .f32) : FVec Ideal S8x4096 .f32 := ((fun x v => Host.reduce FloatOps.maximumf x v reducesTo_S3x8x4096_S8x4096_d0 h_S_)) x59 h_cst_14
def h_v61 (x59 : FVec Ideal S3x8x4096 .f32) : FVec Ideal S1x8x4096 .f32 := extractStridedSlice S1x8x4096 ![0, 0, 0] x59 slices_S3x8x4096_S1x8x4096_0_0_0
def h_v62 (x59 : FVec Ideal S3x8x4096 .f32) : FVec Ideal S8x4096 .f32 := shapeCast S8x4096 (h_v61 x59) shapeCasts_S1x8x4096_S8x4096
def h_v63 (x59 : FVec Ideal S3x8x4096 .f32) : FVec Ideal S8x4096 .f32 := (subf) (h_v62 x59) (h_v60 x59)
def h_v64 (x59 : FVec Ideal S3x8x4096 .f32) : FVec Ideal S8x4096 .f32 := (Host.exp) (h_v63 x59)
def h_v65 (x59 : FVec Ideal S3x8x4096 .f32) : FVec Ideal S1x8x4096 .f32 := extractStridedSlice S1x8x4096 ![1, 0, 0] x59 slices_S3x8x4096_S1x8x4096_1_0_0
def h_v66 (x59 : FVec Ideal S3x8x4096 .f32) : FVec Ideal S8x4096 .f32 := shapeCast S8x4096 (h_v65 x59) shapeCasts_S1x8x4096_S8x4096
def h_v67 (x59 : FVec Ideal S3x8x4096 .f32) : FVec Ideal S8x4096 .f32 := (subf) (h_v66 x59) (h_v60 x59)
def h_v68 (x59 : FVec Ideal S3x8x4096 .f32) : FVec Ideal S8x4096 .f32 := (Host.exp) (h_v67 x59)
def h_v69 (x59 : FVec Ideal S3x8x4096 .f32) : FVec Ideal S8x4096 .f32 := (addf) (h_v64 x59) (h_v68 x59)
def h_v70 (x59 : FVec Ideal S3x8x4096 .f32) : FVec Ideal S1x8x4096 .f32 := extractStridedSlice S1x8x4096 ![2, 0, 0] x59 slices_S3x8x4096_S1x8x4096_2_0_0
def h_v71 (x59 : FVec Ideal S3x8x4096 .f32) : FVec Ideal S8x4096 .f32 := shapeCast S8x4096 (h_v70 x59) shapeCasts_S1x8x4096_S8x4096
def h_v72 (x59 : FVec Ideal S3x8x4096 .f32) : FVec Ideal S8x4096 .f32 := (subf) (h_v71 x59) (h_v60 x59)
def h_v73 (x59 : FVec Ideal S3x8x4096 .f32) : FVec Ideal S8x4096 .f32 := (Host.exp) (h_v72 x59)
def h_v74 (x59 : FVec Ideal S3x8x4096 .f32) : FVec Ideal S8x4096 .f32 := (addf) (h_v69 x59) (h_v73 x59)
def h_v75 (x59 : FVec Ideal S3x8x4096 .f32) : FVec Ideal S8x4096 .f32 := (Host.log) (h_v74 x59)
def h_v76 (x59 : FVec Ideal S3x8x4096 .f32) : FVec Ideal S8x4096 .f32 := (addf) (h_v60 x59) (h_v75 x59)
def h_v77 (x76 : FVec Ideal S8x4096 .f32) : FVec Ideal S1x8x4096 .f32 := (broadcastInDim S1x8x4096 ![1, 2] bcast_S8x4096_S1x8x4096_1_2) x76
def h_v78 (x76 : FVec Ideal S8x4096 .f32) : FVec Ideal S3x8x4096 .f32 := (broadcastInDim S3x8x4096 ![0, 1, 2] bcast_S1x8x4096_S3x8x4096_0_1_2) (h_v77 x76)
def h_v79 (x59 : FVec Ideal S3x8x4096 .f32) (x76 : FVec Ideal S8x4096 .f32) : FVec Ideal S3x8x4096 .f32 := (subf) x59 (h_v78 x76)
def h_v80 (x59 : FVec Ideal S3x8x4096 .f32) (x76 : FVec Ideal S8x4096 .f32) : FVec Ideal S3x8x4096 .f32 := (Host.exp) (h_v79 x59 x76)
def h_v81 (x80 : FVec Ideal S3x8x4096 .f32) : FVec Ideal S3x8x4096x1 .f32 := (broadcastInDim S3x8x4096x1 ![0, 1, 2] bcast_S3x8x4096_S3x8x4096x1_0_1_2) x80
def h_v82 (x80 : FVec Ideal S3x8x4096 .f32) : FVec Ideal S3x8x4096x4096 .f32 := (broadcastInDim S3x8x4096x4096 ![0, 1, 2, 3] bcast_S3x8x4096x1_S3x8x4096x4096_0_1_2_3) (h_v81 x80)
def h_v83 (x56 : FVec Ideal S3x8x4096x4096 .f32) (x80 : FVec Ideal S3x8x4096 .f32) : FVec Ideal S3x8x4096x4096 .f32 := (mulf) (h_v82 x80) x56
def h_v84 (a2 : FVec Ideal S4096x1536 .bf16) : FVec Ideal S4096x1536 .f32 := extf .f32 a2 bitsLt_bf16_f32
def h_v85 (a2 : FVec Ideal S4096x1536 .bf16) : FVec Ideal S4096x3x8x64 .f32 := shapeCast S4096x3x8x64 (h_v84 a2) shapeCasts_S4096x1536_S4096x3x8x64
def h_v86 (a2 : FVec Ideal S4096x1536 .bf16) : FVec Ideal S3x8x4096x64 .f32 := transpose S3x8x4096x64 [1, 2, 0, 3] (h_v85 a2) transposes_S4096x3x8x64_S3x8x4096x64_1_2_0_3
def h_v87 (a2 : FVec Ideal S4096x1536 .bf16) (x56 : FVec Ideal S3x8x4096x4096 .f32) (x80 : FVec Ideal S3x8x4096 .f32) : FVec Ideal S8x4096x64 .f32 := ((fun l r => Host.dotGeneral dot_S3x8x4096x4096_S3x8x4096x64_S8x4096x64_03_02_2_3_1_1 none l r)) (h_v83 x56 x80) (h_v86 a2)
def h_v88 (a3 : FVec Ideal S4096x512 .bf16) : FVec Ideal S4096x512 .f32 := extf .f32 a3 bitsLt_bf16_f32
def h_v89 (a3 : FVec Ideal S4096x512 .bf16) : FVec Ideal S4096x8x64 .f32 := shapeCast S4096x8x64 (h_v88 a3) shapeCasts_S4096x512_S4096x8x64
def h_v90 (a3 : FVec Ideal S4096x512 .bf16) : FVec Ideal S8x4096x64 .f32 := transpose S8x4096x64 [1, 0, 2] (h_v89 a3) transposes_S4096x8x64_S8x4096x64_1_0_2
def h_v91 (a2 : FVec Ideal S4096x1536 .bf16) (a3 : FVec Ideal S4096x512 .bf16) (x56 : FVec Ideal S3x8x4096x4096 .f32) (x80 : FVec Ideal S3x8x4096 .f32) : FVec Ideal S8x4096x64 .f32 := (mulf) (h_v90 a3) (h_v87 a2 x56 x80)
def h_cst_15 : FVec Ideal S_ .f32 := (constant S_ .f32 0x00000000#32)
def h_v92 (a2 : FVec Ideal S4096x1536 .bf16) (a3 : FVec Ideal S4096x512 .bf16) (x56 : FVec Ideal S3x8x4096x4096 .f32) (x80 : FVec Ideal S3x8x4096 .f32) : FVec Ideal S8x4096 .f32 := ((fun x v => Host.reduceAdd x v reducesTo_S8x4096x64_S8x4096_d2 h_S_)) (h_v91 a2 a3 x56 x80) h_cst_15
def h_v93 (a0 : FVec Ideal S4096x1536 .bf16) : FVec Ideal S4096x512 .bf16 := extractStridedSlice S4096x512 ![0, 0] a0 slices_S4096x1536_S4096x512_0_0
def h_v94 (a0 : FVec Ideal S4096x1536 .bf16) : FVec Ideal S4096x1x512 .bf16 := shapeCast S4096x1x512 (h_v93 a0) shapeCasts_S4096x512_S4096x1x512
def h_v95 (a0 : FVec Ideal S4096x1536 .bf16) : FVec Ideal S1x4096x512 .bf16 := transpose S1x4096x512 [1, 0, 2] (h_v94 a0) transposes_S4096x1x512_S1x4096x512_1_0_2
def h_v96 (a0 : FVec Ideal S4096x1536 .bf16) : FVec Ideal S4096x512 .bf16 := shapeCast S4096x512 (h_v95 a0) shapeCasts_S1x4096x512_S4096x512
def h_v97 (a0 : FVec Ideal S4096x1536 .bf16) : FVec Ideal S4096x512 .bf16 := extractStridedSlice S4096x512 ![0, 512] a0 slices_S4096x1536_S4096x512_0_512
def h_v98 (a0 : FVec Ideal S4096x1536 .bf16) : FVec Ideal S1024x4x512 .bf16 := shapeCast S1024x4x512 (h_v97 a0) shapeCasts_S4096x512_S1024x4x512
def h_v99 (a0 : FVec Ideal S4096x1536 .bf16) : FVec Ideal S4x1024x512 .bf16 := transpose S4x1024x512 [1, 0, 2] (h_v98 a0) transposes_S1024x4x512_S4x1024x512_1_0_2
def h_v100 (a0 : FVec Ideal S4096x1536 .bf16) : FVec Ideal S4096x512 .bf16 := shapeCast S4096x512 (h_v99 a0) shapeCasts_S4x1024x512_S4096x512
def h_v101 (a0 : FVec Ideal S4096x1536 .bf16) : FVec Ideal S4096x512 .bf16 := extractStridedSlice S4096x512 ![0, 1024] a0 slices_S4096x1536_S4096x512_0_1024
def h_v102 (a0 : FVec Ideal S4096x1536 .bf16) : FVec Ideal S256x16x512 .bf16 := shapeCast S256x16x512 (h_v101 a0) shapeCasts_S4096x512_S256x16x512
def h_v103 (a0 : FVec Ideal S4096x1536 .bf16) : FVec Ideal S16x256x512 .bf16 := transpose S16x256x512 [1, 0, 2] (h_v102 a0) transposes_S256x16x512_S16x256x512_1_0_2
def h_v104 (a0 : FVec Ideal S4096x1536 .bf16) : FVec Ideal S4096x512 .bf16 := shapeCast S4096x512 (h_v103 a0) shapeCasts_S16x256x512_S4096x512
def h_v105 (a0 : FVec Ideal S4096x1536 .bf16) : FVec Ideal S1x4096x512 .bf16 := (broadcastInDim S1x4096x512 ![1, 2] bcast_S4096x512_S1x4096x512_1_2) (h_v96 a0)
def h_v106 (a0 : FVec Ideal S4096x1536 .bf16) : FVec Ideal S1x4096x512 .bf16 := (broadcastInDim S1x4096x512 ![1, 2] bcast_S4096x512_S1x4096x512_1_2) (h_v100 a0)
def h_v107 (a0 : FVec Ideal S4096x1536 .bf16) : FVec Ideal S1x4096x512 .bf16 := (broadcastInDim S1x4096x512 ![1, 2] bcast_S4096x512_S1x4096x512_1_2) (h_v104 a0)
def h_v108 (a0 : FVec Ideal S4096x1536 .bf16) : FVec Ideal S3x4096x512 .bf16 := concatenate S3x4096x512 0 [⟨S1x4096x512, (h_v105 a0)⟩, ⟨S1x4096x512, (h_v106 a0)⟩, ⟨S1x4096x512, (h_v107 a0)⟩] concatenates_S1x4096x512_S1x4096x512_S1x4096x512_S3x4096x512_d0
def h_v109 (a1 : FVec Ideal S4096x1536 .bf16) : FVec Ideal S4096x512 .bf16 := extractStridedSlice S4096x512 ![0, 0] a1 slices_S4096x1536_S4096x512_0_0
def h_v110 (a1 : FVec Ideal S4096x1536 .bf16) : FVec Ideal S4096x1x512 .bf16 := shapeCast S4096x1x512 (h_v109 a1) shapeCasts_S4096x512_S4096x1x512
def h_v111 (a1 : FVec Ideal S4096x1536 .bf16) : FVec Ideal S1x4096x512 .bf16 := transpose S1x4096x512 [1, 0, 2] (h_v110 a1) transposes_S4096x1x512_S1x4096x512_1_0_2
def h_v112 (a1 : FVec Ideal S4096x1536 .bf16) : FVec Ideal S4096x512 .bf16 := shapeCast S4096x512 (h_v111 a1) shapeCasts_S1x4096x512_S4096x512
def h_v113 (a1 : FVec Ideal S4096x1536 .bf16) : FVec Ideal S4096x512 .bf16 := extractStridedSlice S4096x512 ![0, 512] a1 slices_S4096x1536_S4096x512_0_512
def h_v114 (a1 : FVec Ideal S4096x1536 .bf16) : FVec Ideal S1024x4x512 .bf16 := shapeCast S1024x4x512 (h_v113 a1) shapeCasts_S4096x512_S1024x4x512
def h_v115 (a1 : FVec Ideal S4096x1536 .bf16) : FVec Ideal S4x1024x512 .bf16 := transpose S4x1024x512 [1, 0, 2] (h_v114 a1) transposes_S1024x4x512_S4x1024x512_1_0_2
def h_v116 (a1 : FVec Ideal S4096x1536 .bf16) : FVec Ideal S4096x512 .bf16 := shapeCast S4096x512 (h_v115 a1) shapeCasts_S4x1024x512_S4096x512
def h_v117 (a1 : FVec Ideal S4096x1536 .bf16) : FVec Ideal S4096x512 .bf16 := extractStridedSlice S4096x512 ![0, 1024] a1 slices_S4096x1536_S4096x512_0_1024
def h_v118 (a1 : FVec Ideal S4096x1536 .bf16) : FVec Ideal S256x16x512 .bf16 := shapeCast S256x16x512 (h_v117 a1) shapeCasts_S4096x512_S256x16x512
def h_v119 (a1 : FVec Ideal S4096x1536 .bf16) : FVec Ideal S16x256x512 .bf16 := transpose S16x256x512 [1, 0, 2] (h_v118 a1) transposes_S256x16x512_S16x256x512_1_0_2
def h_v120 (a1 : FVec Ideal S4096x1536 .bf16) : FVec Ideal S4096x512 .bf16 := shapeCast S4096x512 (h_v119 a1) shapeCasts_S16x256x512_S4096x512
def h_v121 (a1 : FVec Ideal S4096x1536 .bf16) : FVec Ideal S1x4096x512 .bf16 := (broadcastInDim S1x4096x512 ![1, 2] bcast_S4096x512_S1x4096x512_1_2) (h_v112 a1)
def h_v122 (a1 : FVec Ideal S4096x1536 .bf16) : FVec Ideal S1x4096x512 .bf16 := (broadcastInDim S1x4096x512 ![1, 2] bcast_S4096x512_S1x4096x512_1_2) (h_v116 a1)
def h_v123 (a1 : FVec Ideal S4096x1536 .bf16) : FVec Ideal S1x4096x512 .bf16 := (broadcastInDim S1x4096x512 ![1, 2] bcast_S4096x512_S1x4096x512_1_2) (h_v120 a1)
def h_v124 (a1 : FVec Ideal S4096x1536 .bf16) : FVec Ideal S3x4096x512 .bf16 := concatenate S3x4096x512 0 [⟨S1x4096x512, (h_v121 a1)⟩, ⟨S1x4096x512, (h_v122 a1)⟩, ⟨S1x4096x512, (h_v123 a1)⟩] concatenates_S1x4096x512_S1x4096x512_S1x4096x512_S3x4096x512_d0
def h_v125 (a2 : FVec Ideal S4096x1536 .bf16) : FVec Ideal S4096x512 .bf16 := extractStridedSlice S4096x512 ![0, 0] a2 slices_S4096x1536_S4096x512_0_0
def h_v126 (a2 : FVec Ideal S4096x1536 .bf16) : FVec Ideal S4096x1x512 .bf16 := shapeCast S4096x1x512 (h_v125 a2) shapeCasts_S4096x512_S4096x1x512
def h_v127 (a2 : FVec Ideal S4096x1536 .bf16) : FVec Ideal S1x4096x512 .bf16 := transpose S1x4096x512 [1, 0, 2] (h_v126 a2) transposes_S4096x1x512_S1x4096x512_1_0_2
def h_v128 (a2 : FVec Ideal S4096x1536 .bf16) : FVec Ideal S4096x512 .bf16 := shapeCast S4096x512 (h_v127 a2) shapeCasts_S1x4096x512_S4096x512
def h_v129 (a2 : FVec Ideal S4096x1536 .bf16) : FVec Ideal S4096x512 .bf16 := extractStridedSlice S4096x512 ![0, 512] a2 slices_S4096x1536_S4096x512_0_512
def h_v130 (a2 : FVec Ideal S4096x1536 .bf16) : FVec Ideal S1024x4x512 .bf16 := shapeCast S1024x4x512 (h_v129 a2) shapeCasts_S4096x512_S1024x4x512
def h_v131 (a2 : FVec Ideal S4096x1536 .bf16) : FVec Ideal S4x1024x512 .bf16 := transpose S4x1024x512 [1, 0, 2] (h_v130 a2) transposes_S1024x4x512_S4x1024x512_1_0_2
def h_v132 (a2 : FVec Ideal S4096x1536 .bf16) : FVec Ideal S4096x512 .bf16 := shapeCast S4096x512 (h_v131 a2) shapeCasts_S4x1024x512_S4096x512
def h_v133 (a2 : FVec Ideal S4096x1536 .bf16) : FVec Ideal S4096x512 .bf16 := extractStridedSlice S4096x512 ![0, 1024] a2 slices_S4096x1536_S4096x512_0_1024
def h_v134 (a2 : FVec Ideal S4096x1536 .bf16) : FVec Ideal S256x16x512 .bf16 := shapeCast S256x16x512 (h_v133 a2) shapeCasts_S4096x512_S256x16x512
def h_v135 (a2 : FVec Ideal S4096x1536 .bf16) : FVec Ideal S16x256x512 .bf16 := transpose S16x256x512 [1, 0, 2] (h_v134 a2) transposes_S256x16x512_S16x256x512_1_0_2
def h_v136 (a2 : FVec Ideal S4096x1536 .bf16) : FVec Ideal S4096x512 .bf16 := shapeCast S4096x512 (h_v135 a2) shapeCasts_S16x256x512_S4096x512
def h_v137 (a2 : FVec Ideal S4096x1536 .bf16) : FVec Ideal S1x4096x512 .bf16 := (broadcastInDim S1x4096x512 ![1, 2] bcast_S4096x512_S1x4096x512_1_2) (h_v128 a2)
def h_v138 (a2 : FVec Ideal S4096x1536 .bf16) : FVec Ideal S1x4096x512 .bf16 := (broadcastInDim S1x4096x512 ![1, 2] bcast_S4096x512_S1x4096x512_1_2) (h_v132 a2)
def h_v139 (a2 : FVec Ideal S4096x1536 .bf16) : FVec Ideal S1x4096x512 .bf16 := (broadcastInDim S1x4096x512 ![1, 2] bcast_S4096x512_S1x4096x512_1_2) (h_v136 a2)
def h_v140 (a2 : FVec Ideal S4096x1536 .bf16) : FVec Ideal S3x4096x512 .bf16 := concatenate S3x4096x512 0 [⟨S1x4096x512, (h_v137 a2)⟩, ⟨S1x4096x512, (h_v138 a2)⟩, ⟨S1x4096x512, (h_v139 a2)⟩] concatenates_S1x4096x512_S1x4096x512_S1x4096x512_S3x4096x512_d0
def h_v141 (a3 : FVec Ideal S4096x512 .bf16) : FVec Ideal S4096x1x512 .bf16 := shapeCast S4096x1x512 a3 shapeCasts_S4096x512_S4096x1x512
def h_v142 (a3 : FVec Ideal S4096x512 .bf16) : FVec Ideal S1x4096x512 .bf16 := transpose S1x4096x512 [1, 0, 2] (h_v141 a3) transposes_S4096x1x512_S1x4096x512_1_0_2
def h_v143 (a3 : FVec Ideal S4096x512 .bf16) : FVec Ideal S4096x512 .bf16 := shapeCast S4096x512 (h_v142 a3) shapeCasts_S1x4096x512_S4096x512
def h_v144 (a3 : FVec Ideal S4096x512 .bf16) : FVec Ideal S1024x4x512 .bf16 := shapeCast S1024x4x512 a3 shapeCasts_S4096x512_S1024x4x512
def h_v145 (a3 : FVec Ideal S4096x512 .bf16) : FVec Ideal S4x1024x512 .bf16 := transpose S4x1024x512 [1, 0, 2] (h_v144 a3) transposes_S1024x4x512_S4x1024x512_1_0_2
def h_v146 (a3 : FVec Ideal S4096x512 .bf16) : FVec Ideal S4096x512 .bf16 := shapeCast S4096x512 (h_v145 a3) shapeCasts_S4x1024x512_S4096x512
def h_v147 (a3 : FVec Ideal S4096x512 .bf16) : FVec Ideal S256x16x512 .bf16 := shapeCast S256x16x512 a3 shapeCasts_S4096x512_S256x16x512
def h_v148 (a3 : FVec Ideal S4096x512 .bf16) : FVec Ideal S16x256x512 .bf16 := transpose S16x256x512 [1, 0, 2] (h_v147 a3) transposes_S256x16x512_S16x256x512_1_0_2
def h_v149 (a3 : FVec Ideal S4096x512 .bf16) : FVec Ideal S4096x512 .bf16 := shapeCast S4096x512 (h_v148 a3) shapeCasts_S16x256x512_S4096x512
def h_v150 (a3 : FVec Ideal S4096x512 .bf16) : FVec Ideal S1x4096x512 .bf16 := (broadcastInDim S1x4096x512 ![1, 2] bcast_S4096x512_S1x4096x512_1_2) (h_v143 a3)
def h_v151 (a3 : FVec Ideal S4096x512 .bf16) : FVec Ideal S1x4096x512 .bf16 := (broadcastInDim S1x4096x512 ![1, 2] bcast_S4096x512_S1x4096x512_1_2) (h_v146 a3)
def h_v152 (a3 : FVec Ideal S4096x512 .bf16) : FVec Ideal S1x4096x512 .bf16 := (broadcastInDim S1x4096x512 ![1, 2] bcast_S4096x512_S1x4096x512_1_2) (h_v149 a3)
def h_v153 (a3 : FVec Ideal S4096x512 .bf16) : FVec Ideal S3x4096x512 .bf16 := concatenate S3x4096x512 0 [⟨S1x4096x512, (h_v150 a3)⟩, ⟨S1x4096x512, (h_v151 a3)⟩, ⟨S1x4096x512, (h_v152 a3)⟩] concatenates_S1x4096x512_S1x4096x512_S1x4096x512_S3x4096x512_d0
def h_v154 (x76 : FVec Ideal S8x4096 .f32) : FVec Ideal S4096x8 .f32 := transpose S4096x8 [1, 0] x76 transposes_S8x4096_S4096x8_1_0
def h_c_16 : IVec S_ 32 := (constantI S_ 32 0#32)
def h_call3_v0 : FVec Ideal S_ .f32 := (sitofp .f32) h_c_16
def h_v155 (x76 : FVec Ideal S8x4096 .f32) : FVec Ideal S4096x128 .f32 := (fun x v => pad S4096x128 ![0, 0] ![0, 120] ![0, 0] x v pads_S4096x8_S4096x128_000_01200 h_S_) (h_v154 x76) h_call3_v0
def h_v156 (x76 : FVec Ideal S8x4096 .f32) : FVec Ideal S4096x1x128 .f32 := shapeCast S4096x1x128 (h_v155 x76) shapeCasts_S4096x128_S4096x1x128
def h_v157 (x76 : FVec Ideal S8x4096 .f32) : FVec Ideal S1x4096x128 .f32 := transpose S1x4096x128 [1, 0, 2] (h_v156 x76) transposes_S4096x1x128_S1x4096x128_1_0_2
def h_v158 (x76 : FVec Ideal S8x4096 .f32) : FVec Ideal S4096x128 .f32 := shapeCast S4096x128 (h_v157 x76) shapeCasts_S1x4096x128_S4096x128
def h_v159 (x76 : FVec Ideal S8x4096 .f32) : FVec Ideal S1024x4x128 .f32 := shapeCast S1024x4x128 (h_v155 x76) shapeCasts_S4096x128_S1024x4x128
def h_v160 (x76 : FVec Ideal S8x4096 .f32) : FVec Ideal S4x1024x128 .f32 := transpose S4x1024x128 [1, 0, 2] (h_v159 x76) transposes_S1024x4x128_S4x1024x128_1_0_2
def h_v161 (x76 : FVec Ideal S8x4096 .f32) : FVec Ideal S4096x128 .f32 := shapeCast S4096x128 (h_v160 x76) shapeCasts_S4x1024x128_S4096x128
def h_v162 (x76 : FVec Ideal S8x4096 .f32) : FVec Ideal S256x16x128 .f32 := shapeCast S256x16x128 (h_v155 x76) shapeCasts_S4096x128_S256x16x128
def h_v163 (x76 : FVec Ideal S8x4096 .f32) : FVec Ideal S16x256x128 .f32 := transpose S16x256x128 [1, 0, 2] (h_v162 x76) transposes_S256x16x128_S16x256x128_1_0_2
def h_v164 (x76 : FVec Ideal S8x4096 .f32) : FVec Ideal S4096x128 .f32 := shapeCast S4096x128 (h_v163 x76) shapeCasts_S16x256x128_S4096x128
def h_v165 (x76 : FVec Ideal S8x4096 .f32) : FVec Ideal S1x4096x128 .f32 := (broadcastInDim S1x4096x128 ![1, 2] bcast_S4096x128_S1x4096x128_1_2) (h_v158 x76)
def h_v166 (x76 : FVec Ideal S8x4096 .f32) : FVec Ideal S1x4096x128 .f32 := (broadcastInDim S1x4096x128 ![1, 2] bcast_S4096x128_S1x4096x128_1_2) (h_v161 x76)
def h_v167 (x76 : FVec Ideal S8x4096 .f32) : FVec Ideal S1x4096x128 .f32 := (broadcastInDim S1x4096x128 ![1, 2] bcast_S4096x128_S1x4096x128_1_2) (h_v164 x76)
def h_v168 (x76 : FVec Ideal S8x4096 .f32) : FVec Ideal S3x4096x128 .f32 := concatenate S3x4096x128 0 [⟨S1x4096x128, (h_v165 x76)⟩, ⟨S1x4096x128, (h_v166 x76)⟩, ⟨S1x4096x128, (h_v167 x76)⟩] concatenates_S1x4096x128_S1x4096x128_S1x4096x128_S3x4096x128_d0
def h_v169 (x92 : FVec Ideal S8x4096 .f32) : FVec Ideal S4096x8 .f32 := transpose S4096x8 [1, 0] x92 transposes_S8x4096_S4096x8_1_0
def h_c_17 : IVec S_ 32 := (constantI S_ 32 0#32)
def h_call4_v0 : FVec Ideal S_ .f32 := (sitofp .f32) h_c_17
def h_v170 (x92 : FVec Ideal S8x4096 .f32) : FVec Ideal S4096x128 .f32 := (fun x v => pad S4096x128 ![0, 0] ![0, 120] ![0, 0] x v pads_S4096x8_S4096x128_000_01200 h_S_) (h_v169 x92) h_call4_v0
def h_v171 (x92 : FVec Ideal S8x4096 .f32) : FVec Ideal S4096x1x128 .f32 := shapeCast S4096x1x128 (h_v170 x92) shapeCasts_S4096x128_S4096x1x128
def h_v172 (x92 : FVec Ideal S8x4096 .f32) : FVec Ideal S1x4096x128 .f32 := transpose S1x4096x128 [1, 0, 2] (h_v171 x92) transposes_S4096x1x128_S1x4096x128_1_0_2
def h_v173 (x92 : FVec Ideal S8x4096 .f32) : FVec Ideal S4096x128 .f32 := shapeCast S4096x128 (h_v172 x92) shapeCasts_S1x4096x128_S4096x128
def h_v174 (x92 : FVec Ideal S8x4096 .f32) : FVec Ideal S1024x4x128 .f32 := shapeCast S1024x4x128 (h_v170 x92) shapeCasts_S4096x128_S1024x4x128
def h_v175 (x92 : FVec Ideal S8x4096 .f32) : FVec Ideal S4x1024x128 .f32 := transpose S4x1024x128 [1, 0, 2] (h_v174 x92) transposes_S1024x4x128_S4x1024x128_1_0_2
def h_v176 (x92 : FVec Ideal S8x4096 .f32) : FVec Ideal S4096x128 .f32 := shapeCast S4096x128 (h_v175 x92) shapeCasts_S4x1024x128_S4096x128
def h_v177 (x92 : FVec Ideal S8x4096 .f32) : FVec Ideal S256x16x128 .f32 := shapeCast S256x16x128 (h_v170 x92) shapeCasts_S4096x128_S256x16x128
def h_v178 (x92 : FVec Ideal S8x4096 .f32) : FVec Ideal S16x256x128 .f32 := transpose S16x256x128 [1, 0, 2] (h_v177 x92) transposes_S256x16x128_S16x256x128_1_0_2
def h_v179 (x92 : FVec Ideal S8x4096 .f32) : FVec Ideal S4096x128 .f32 := shapeCast S4096x128 (h_v178 x92) shapeCasts_S16x256x128_S4096x128
def h_v180 (x92 : FVec Ideal S8x4096 .f32) : FVec Ideal S1x4096x128 .f32 := (broadcastInDim S1x4096x128 ![1, 2] bcast_S4096x128_S1x4096x128_1_2) (h_v173 x92)
def h_v181 (x92 : FVec Ideal S8x4096 .f32) : FVec Ideal S1x4096x128 .f32 := (broadcastInDim S1x4096x128 ![1, 2] bcast_S4096x128_S1x4096x128_1_2) (h_v176 x92)
def h_v182 (x92 : FVec Ideal S8x4096 .f32) : FVec Ideal S1x4096x128 .f32 := (broadcastInDim S1x4096x128 ![1, 2] bcast_S4096x128_S1x4096x128_1_2) (h_v179 x92)
def h_v183 (x92 : FVec Ideal S8x4096 .f32) : FVec Ideal S3x4096x128 .f32 := concatenate S3x4096x128 0 [⟨S1x4096x128, (h_v180 x92)⟩, ⟨S1x4096x128, (h_v181 x92)⟩, ⟨S1x4096x128, (h_v182 x92)⟩] concatenates_S1x4096x128_S1x4096x128_S1x4096x128_S3x4096x128_d0
def h_v184 : FVec Ideal S24 .f32 := (sitofp .f32 (iotaInDim S24 32 0))
def h_cst_18 : FVec Ideal S_ .f32 := (constant S_ .f32 0x3F800000#32)
def h_v185 : FVec Ideal S24 .f32 := (broadcastInDim S24 ![] bcast_S_S24) h_cst_18
def h_v186 : FVec Ideal S24 .f32 := (addf) h_v185 h_v184
def h_cst_19 : FVec Ideal S_ .f32 := (constant S_ .f32 0xC1000000#32)
def h_v187 : FVec Ideal S24 .f32 := (broadcastInDim S24 ![] bcast_S_S24) h_cst_19
def h_v188 : FVec Ideal S24 .f32 := (mulf) h_v187 h_v186
def h_cst_20 : FVec Ideal S_ .f32 := (constant S_ .f32 0x41C00000#32)
def h_v189 : FVec Ideal S24 .f32 := (broadcastInDim S24 ![] bcast_S_S24) h_cst_20
def h_v190 : FVec Ideal S24 .f32 := (Host.divf) h_v188 h_v189
def h_cst_21 : FVec Ideal S_ .f32 := (constant S_ .f32 0x3F317218#32)
def h_v191 : FVec Ideal S24 .f32 := (broadcastInDim S24 ![] bcast_S_S24) h_cst_21
def h_v192 : FVec Ideal S24 .f32 := (mulf) h_v191 h_v190
def h_v193 : FVec Ideal S24 .f32 := (Host.exp) h_v192

variable (m : (ℓ : Loc nD τ sig) → Buf (Elt Ideal) ℓ)

theorem V_main_v193 (c : Dev nD) : V m c main_v193 = h_v193  := by
  show StableHlo.after (hostOps0 ++ hostOps0_1 ++ hostOps0_2 ++ hostOps0_3 ++ hostOps0_4 ++ hostOps0_5 ++ hostOps0_6 ++ hostOps0_7 ++ hostOps0_8 ++ hostOps0_9 ++ hostOps0_10) _ (Proc.devRef .tc main_v193) = _
  after_reads_simp
  rfl
theorem V_main_v108 (c : Dev nD) : V m c main_v108 = h_v108 (m ((c : Thread nD τ).loc main_arg0)) := by
  show StableHlo.after (hostOps0 ++ hostOps0_1 ++ hostOps0_2 ++ hostOps0_3 ++ hostOps0_4 ++ hostOps0_5 ++ hostOps0_6 ++ hostOps0_7 ++ hostOps0_8 ++ hostOps0_9 ++ hostOps0_10) _ (Proc.devRef .tc main_v108) = _
  after_reads_simp
  rfl
theorem V_main_v124 (c : Dev nD) : V m c main_v124 = h_v124 (m ((c : Thread nD τ).loc main_arg1)) := by
  show StableHlo.after (hostOps0 ++ hostOps0_1 ++ hostOps0_2 ++ hostOps0_3 ++ hostOps0_4 ++ hostOps0_5 ++ hostOps0_6 ++ hostOps0_7 ++ hostOps0_8 ++ hostOps0_9 ++ hostOps0_10) _ (Proc.devRef .tc main_v124) = _
  after_reads_simp
  rfl
theorem V_main_v140 (c : Dev nD) : V m c main_v140 = h_v140 (m ((c : Thread nD τ).loc main_arg2)) := by
  show StableHlo.after (hostOps0 ++ hostOps0_1 ++ hostOps0_2 ++ hostOps0_3 ++ hostOps0_4 ++ hostOps0_5 ++ hostOps0_6 ++ hostOps0_7 ++ hostOps0_8 ++ hostOps0_9 ++ hostOps0_10) _ (Proc.devRef .tc main_v140) = _
  after_reads_simp
  rfl
theorem V_main_v153 (c : Dev nD) : V m c main_v153 = h_v153 (m ((c : Thread nD τ).loc main_arg3)) := by
  show StableHlo.after (hostOps0 ++ hostOps0_1 ++ hostOps0_2 ++ hostOps0_3 ++ hostOps0_4 ++ hostOps0_5 ++ hostOps0_6 ++ hostOps0_7 ++ hostOps0_8 ++ hostOps0_9 ++ hostOps0_10) _ (Proc.devRef .tc main_v153) = _
  after_reads_simp
  rfl

/-- The host's line up to the groups' log-sums, from there to the groups' shares, and the rest. -/
def lineA : List (HloOp τ sig (Elt Ideal)) :=
  hostOps0 ++ hostOps0_1 ++ hostOps0_2 ++ hostOps0_3 ++ hostOps0_4 ++ hostOps0_5 ++ hostOps0_6.take 14
def lineB : List (HloOp τ sig (Elt Ideal)) := (hostOps0_6.drop 14).take 22
def lineC : List (HloOp τ sig (Elt Ideal)) :=
  hostOps0_6.drop 36 ++ hostOps0_7 ++ hostOps0_8 ++ hostOps0_9 ++ hostOps0_10

theorem V_lines (c : Dev nD) (b) : V m c b
    = StableHlo.after lineC (StableHlo.after lineB (StableHlo.after lineA fun b => m (c, b))) b := by
  rw [← StableHlo.after_append, ← StableHlo.after_append]
  rfl

variable (W : Valuation τ sig (Elt Ideal))

theorem A_main_v59 : StableHlo.after lineA W (Proc.devRef .tc main_v59) = (h_v59 (h_v47 (W (Proc.devRef .tc main_arg0)) (W (Proc.devRef .tc main_arg1)))) := by
  after_reads_simp
  rfl
theorem A_main_v56 : StableHlo.after lineA W (Proc.devRef .tc main_v56) = (h_v56 (h_v47 (W (Proc.devRef .tc main_arg0)) (W (Proc.devRef .tc main_arg1)))) := by
  after_reads_simp
  rfl
theorem A_main_arg2 : StableHlo.after lineA W (Proc.devRef .tc main_arg2) = W (Proc.devRef .tc main_arg2) := by
  after_reads_simp
theorem A_main_arg3 : StableHlo.after lineA W (Proc.devRef .tc main_arg3) = W (Proc.devRef .tc main_arg3) := by
  after_reads_simp
theorem B_main_v76 : StableHlo.after lineB W (Proc.devRef .tc main_v76) = (h_v76 (W (Proc.devRef .tc main_v59))) := by
  after_reads_simp
  rfl
theorem B_main_v80 : StableHlo.after lineB W (Proc.devRef .tc main_v80) = (h_v80 (W (Proc.devRef .tc main_v59)) (h_v76 (W (Proc.devRef .tc main_v59)))) := by
  after_reads_simp
  rfl
theorem B_main_v56 : StableHlo.after lineB W (Proc.devRef .tc main_v56) = W (Proc.devRef .tc main_v56) := by
  after_reads_simp
theorem B_main_arg2 : StableHlo.after lineB W (Proc.devRef .tc main_arg2) = W (Proc.devRef .tc main_arg2) := by
  after_reads_simp
theorem B_main_arg3 : StableHlo.after lineB W (Proc.devRef .tc main_arg3) = W (Proc.devRef .tc main_arg3) := by
  after_reads_simp
theorem C_main_v168 : StableHlo.after lineC W (Proc.devRef .tc main_v168) = (h_v168 (W (Proc.devRef .tc main_v76))) := by
  after_reads_simp
  rfl
theorem C_main_v183 : StableHlo.after lineC W (Proc.devRef .tc main_v183) = (h_v183 (h_v92 (W (Proc.devRef .tc main_arg2)) (W (Proc.devRef .tc main_arg3)) (W (Proc.devRef .tc main_v56)) (W (Proc.devRef .tc main_v80)))) := by
  after_reads_simp
  rfl
theorem V_main_v168 (c : Dev nD) : V m c main_v168 = (h_v168 (h_v76 (h_v59 (h_v47 (m ((c : Thread nD τ).loc main_arg0)) (m ((c : Thread nD τ).loc main_arg1)))))) := by
  rw [V_lines, C_main_v168, B_main_v76, A_main_v59]
theorem V_main_v183 (c : Dev nD) : V m c main_v183 = (h_v183 (h_v92 (m ((c : Thread nD τ).loc main_arg2)) (m ((c : Thread nD τ).loc main_arg3)) (h_v56 (h_v47 (m ((c : Thread nD τ).loc main_arg0)) (m ((c : Thread nD τ).loc main_arg1)))) (h_v80 (h_v59 (h_v47 (m ((c : Thread nD τ).loc main_arg0)) (m ((c : Thread nD τ).loc main_arg1)))) (h_v76 (h_v59 (h_v47 (m ((c : Thread nD τ).loc main_arg0)) (m ((c : Thread nD τ).loc main_arg1)))))))) := by
  rw [V_lines, C_main_v183, B_main_v80, A_main_v59, B_main_v56, A_main_v56, B_main_arg2, A_main_arg2, B_main_arg3, A_main_arg3]

end Cert.DilIdeal.Value

end
-- ==== Proof.DilGrad.lean ====
/-
  The gradient of the dilated attention over the real numbers.

  A query `t` of a head attends, in each of three groups, the keys at distances that are multiples of the group's dilation, up
  to 128 of them back; the groups' results are mixed by the softmax of their log-sums.  The two softmaxes together are ONE
  softmax over all the pairs (group, key): the weight of a pair is `exp (score - log-sum over all groups)`.  The derivative of the
  forward lines goes through both softmaxes, their row maxima and the mixing; the kernel uses the joint weight alone.
-/
module

public import proofs.«01_k».proof.Proof.NormRow
public import proofs.«01_k».proof.Proof.DilWords

@[expose] public section

noncomputable section

namespace Cert.DilGrad

open Cert.DilIdeal.Value (dil len)

/-! ## The greatest of finitely many values -/

/-- The greatest value is a real number when none is `⊤` and one is not `⊥`. -/
theorem fold_max_real {ι : Type*} [Fintype ι] (f : ι → EReal) (h : ∀ i, f i ≠ ⊤) (j : ι) (hj : f j ≠ ⊥) :
    Finset.univ.fold max ⊥ f = (((Finset.univ.fold max ⊥ f).toReal : ℝ) : EReal) := by
  refine (EReal.coe_toReal ?_ ?_).symm
  · exact ((Finset.fold_max_lt (s := Finset.univ) (f := f) (b := ⊥) ⊤).2 ⟨bot_lt_top, fun i _ => lt_top_iff_ne_top.2 (h i)⟩).ne
  · exact ((Finset.lt_fold_max (s := Finset.univ) (f := f) (b := ⊥) ⊥).2
      (Or.inr ⟨j, Finset.mem_univ j, bot_lt_iff_ne_bot.2 hj⟩)).ne'

/-! ## The derivative through the two softmaxes -/

section Chain

variable {γ ι : Type*} [Fintype γ] [Fintype ι] (p D : γ → ι → ℝ) (A : γ → ℝ)

/-- A group's sum of exponentials, the sum over the groups, a group's product of result and gradient, and the products' mean. -/
def rowSum (g : γ) : ℝ := ∑ u, p g u
def mixSum : ℝ := ∑ g, A g
def prodOf (g : γ) : ℝ := ∑ u, p g u / rowSum p g * D g u
def meanOf : ℝ := ∑ g, A g / mixSum A * prodOf p D g

/-- What reaches a group's log-sum. -/
def toLse (g : γ) : ℝ :=
  (prodOf p D g / mixSum A + -(∑ g', prodOf p D g' * (1 / (mixSum A * mixSum A)) * A g')) * A g

/-- What reaches a score, before the row's maximum is counted. -/
def toScore (g : γ) (u : ι) : ℝ :=
  (A g / mixSum A * D g u / rowSum p g
    + (toLse p D A g / rowSum p g + -(∑ u', A g / mixSum A * D g u' * (1 / (rowSum p g * rowSum p g)) * p g u'))) * p g u

theorem toLse_eq (hY : mixSum A ≠ 0) (g : γ) : toLse p D A g = A g / mixSum A * (prodOf p D g - meanOf p D A) := by
  have h : (∑ g', prodOf p D g' * (1 / (mixSum A * mixSum A)) * A g') = meanOf p D A / mixSum A := by
    rw [meanOf, Finset.sum_div]
    exact Finset.sum_congr rfl fun g' _ => by field_simp
  rw [toLse, h]
  field_simp
  ring

theorem toScore_eq (hY : mixSum A ≠ 0) (g : γ) (hl : rowSum p g ≠ 0) (u : ι) :
    toScore p D A g u = A g / mixSum A * (p g u / rowSum p g) * (D g u - meanOf p D A) := by
  have h : (∑ u', A g / mixSum A * D g u' * (1 / (rowSum p g * rowSum p g)) * p g u')
      = A g / mixSum A * prodOf p D g / rowSum p g := by
    rw [prodOf, Finset.mul_sum, Finset.sum_div]
    exact Finset.sum_congr rfl fun u' _ => by field_simp
  rw [toScore, h, toLse_eq p D A hY]
  field_simp
  ring

/-- Nothing reaches a row's maximum. -/
theorem toMax_eq (hY : mixSum A ≠ 0) (g : γ) (hl : rowSum p g ≠ 0) :
    toLse p D A g + ∑ u, -toScore p D A g u = 0 := by
  have h1 : ∑ u, p g u / rowSum p g = 1 := by
    rw [← Finset.sum_div]; exact div_self hl
  have h : ∑ u, -toScore p D A g u = -(A g / mixSum A * (prodOf p D g - meanOf p D A * 1)) := by
    rw [Finset.sum_neg_distrib, ← h1, prodOf, Finset.mul_sum, ← Finset.sum_sub_distrib, Finset.mul_sum]
    exact congrArg _ (Finset.sum_congr rfl fun u _ => by rw [toScore_eq p D A hY g hl]; ring)
  rw [h, toLse_eq p D A hY]
  ring

end Chain

/-! ## The step's own quantities -/

/-- Coordinate `d` of head `h` among a group's 512, and among the three groups' 1536; the head's slope in a group. -/
def hcol (h : Fin 8) (d : Fin 64) : Fin 512 := ⟨h.val * 64 + d.val, by omega⟩
def col (g : Fin 3) (h : Fin 8) (d : Fin 64) : Fin 1536 := ⟨g.val * 512 + h.val * 64 + d.val, by omega⟩
def slot (g : Fin 3) (h : Fin 8) : Fin 24 := ⟨g.val * 8 + h.val, by omega⟩

/-- Query `t` of group `g` attends key `u`. -/
def Valid (g : Fin 3) (t u : Fin 4096) : Prop := u.val ≤ t.val ∧ t.val - u.val ≤ 128 * dil g ∧ (t.val - u.val) % dil g = 0

instance (g : Fin 3) (t u : Fin 4096) : Decidable (Valid g t u) := inferInstanceAs (Decidable (_ ∧ _))

theorem valid_self (g : Fin 3) (t : Fin 4096) : Valid g t t := by
  refine ⟨le_refl _, ?_, ?_⟩ <;> simp

section Values

variable (Q K V : Fin 4096 → Fin 1536 → ℝ) (O : Fin 4096 → Fin 512 → ℝ) (sl : Fin 24 → ℝ)

/-- The score of a pair, and what the mask leaves of it. -/
def sc (g : Fin 3) (h : Fin 8) (t u : Fin 4096) : ℝ :=
  (∑ d : Fin 64, Q t (col g h d) * K u (col g h d)) * (1 / 8) + -sl (slot g h) * ((t.val : ℝ) - u.val)
def msk (g : Fin 3) (h : Fin 8) (t u : Fin 4096) : EReal := if Valid g t u then ((sc Q K sl g h t u : ℝ) : EReal) else ⊥

/-- A row's greatest score, its exponentials, its log-sum; the greatest log-sum of the three groups and the joint log-sum. -/
def rowMax (g : Fin 3) (h : Fin 8) (t : Fin 4096) : ℝ := (Finset.univ.fold max ⊥ (msk Q K sl g h t)).toReal
def pe (h : Fin 8) (t : Fin 4096) (g : Fin 3) (u : Fin 4096) : ℝ :=
  if Valid g t u then Real.exp (sc Q K sl g h t u - rowMax Q K sl g h t) else 0
def lse (g : Fin 3) (h : Fin 8) (t : Fin 4096) : ℝ := rowMax Q K sl g h t + Real.log (rowSum (pe Q K sl h t) g)
def top (h : Fin 8) (t : Fin 4096) : ℝ := (Finset.univ.fold max ⊥ fun g => ((lse Q K sl g h t : ℝ) : EReal)).toReal
def mix (h : Fin 8) (t : Fin 4096) (g : Fin 3) : ℝ := Real.exp (lse Q K sl g h t - top Q K sl h t)
def joint (h : Fin 8) (t : Fin 4096) : ℝ := top Q K sl h t + Real.log (mixSum (mix Q K sl h t))

/-- The joint weight of a pair, the product of the gradient and the values' row, and its mean over the pairs. -/
def wt (g : Fin 3) (h : Fin 8) (t u : Fin 4096) : ℝ :=
  if Valid g t u then Real.exp (sc Q K sl g h t u - joint Q K sl h t) else 0
def dov (h : Fin 8) (t : Fin 4096) (g : Fin 3) (u : Fin 4096) : ℝ := ∑ d : Fin 64, O t (hcol h d) * V u (col g h d)
def delta (h : Fin 8) (t : Fin 4096) : ℝ := meanOf (pe Q K sl h t) (dov V O h t) (mix Q K sl h t)

/-- The gradient of a score. -/
def ds (g : Fin 3) (h : Fin 8) (t u : Fin 4096) : ℝ := wt Q K sl g h t u * (dov V O h t g u - delta Q K V O sl h t)

theorem rowMax_eq (g : Fin 3) (h : Fin 8) (t : Fin 4096) :
    Finset.univ.fold max ⊥ (msk Q K sl g h t) = ((rowMax Q K sl g h t : ℝ) : EReal) := by
  refine fold_max_real _ (fun u => ?_) t ?_
  · unfold msk; split
    · exact EReal.coe_ne_top _
    · exact bot_ne_top
  · unfold msk; rw [if_pos (valid_self g t)]; exact EReal.coe_ne_bot _

theorem top_eq (h : Fin 8) (t : Fin 4096) :
    Finset.univ.fold max ⊥ (fun g => ((lse Q K sl g h t : ℝ) : EReal)) = ((top Q K sl h t : ℝ) : EReal) :=
  fold_max_real _ (fun _ => EReal.coe_ne_top _) 0 (EReal.coe_ne_bot _)

theorem rowSum_pos (g : Fin 3) (h : Fin 8) (t : Fin 4096) : 0 < rowSum (pe Q K sl h t) g := by
  refine Finset.sum_pos' (fun u _ => ?_) ⟨t, Finset.mem_univ t, ?_⟩
  · unfold pe; split
    · exact (Real.exp_pos _).le
    · exact le_refl _
  · unfold pe; rw [if_pos (valid_self g t)]; exact Real.exp_pos _

theorem mixSum_pos (h : Fin 8) (t : Fin 4096) : 0 < mixSum (mix Q K sl h t) :=
  Finset.sum_pos (fun _ _ => Real.exp_pos _) ⟨0, Finset.mem_univ _⟩

/-- The two softmaxes multiply to the joint one. -/
theorem mix_mul (g : Fin 3) (h : Fin 8) (t u : Fin 4096) :
    mix Q K sl h t g / mixSum (mix Q K sl h t) * (pe Q K sl h t g u / rowSum (pe Q K sl h t) g) = wt Q K sl g h t u := by
  have hl := rowSum_pos Q K sl g h t
  have hY := mixSum_pos Q K sl h t
  unfold wt
  rw [mix, pe, lse]
  split
  · rw [joint, show ∀ a b c e f : ℝ, a - (b + c) = (a - e) + (e + f - b) - c - f from fun a b c e f => by ring]
    rotate_left
    · exact rowMax Q K sl g h t
    · exact Real.log (rowSum (pe Q K sl h t) g)
    rw [Real.exp_sub _ (Real.log (rowSum (pe Q K sl h t) g)), Real.exp_sub _ (Real.log (mixSum (mix Q K sl h t))), Real.exp_add,
      Real.exp_log hl, Real.exp_log hY]
    ring
  · simp

/-- A group's share by the joint log-sum. -/
theorem exp_joint (g : Fin 3) (h : Fin 8) (t : Fin 4096) :
    Real.exp (lse Q K sl g h t - joint Q K sl h t) = mix Q K sl h t g / mixSum (mix Q K sl h t) := by
  rw [joint, ← sub_sub, Real.exp_sub, Real.exp_log (mixSum_pos Q K sl h t)]
  rfl

theorem toScore_ds (g : Fin 3) (h : Fin 8) (t u : Fin 4096) :
    toScore (pe Q K sl h t) (dov V O h t) (mix Q K sl h t) g u = ds Q K V O sl g h t u := by
  rw [toScore_eq _ _ _ (mixSum_pos Q K sl h t).ne' g (rowSum_pos Q K sl g h t).ne' u, mix_mul]
  rfl

theorem toMax_zero (g : Fin 3) (h : Fin 8) (t : Fin 4096) :
    toLse (pe Q K sl h t) (dov V O h t) (mix Q K sl h t) g
      + ∑ u, -toScore (pe Q K sl h t) (dov V O h t) (mix Q K sl h t) g u = 0 :=
  toMax_eq _ _ _ (mixSum_pos Q K sl h t).ne' g (rowSum_pos Q K sl g h t).ne'

end Values

end Cert.DilGrad

end
-- ==== Proof.DilMask.lean ====
/-
  The mask of a group over the whole square of (query, key), as the host computes it in 32-bit words: the distance is not negative,
  at most 128 dilations, and leaves no remainder by the dilation.
-/
module

public import proofs.«01_k».proof.Proof.DilGrad
public import Idealize.ShloMosaic.Lib.Pointwise

@[expose] public section

noncomputable section

namespace Cert.DilGrad

open Idealize.ShloMosaic
open Cert.DilIdeal.Value (dil dil_cases sub_toInt mul_toInt cmp_sge cmp_sle and_if)

/-- The dilation of a group and the distance of a pair, as words. -/
def dilWord (g : BitVec 32) : BitVec 32 :=
  Scalar.select (IntOp.cmpi .eq g 0#32) 1#32 (Scalar.select (IntOp.cmpi .eq g 1#32) 4#32 16#32)
def distWord (t u : Fin 4096) : BitVec 32 := IntOp.subi (BitVec.ofNat 32 t.val) (BitVec.ofNat 32 u.val)

theorem dilWord_eq : ∀ g : Fin 3, dilWord (BitVec.ofNat 32 g.val) = BitVec.ofNat 32 (dil g) := by decide +kernel

theorem distWord_toInt (t u : Fin 4096) : (distWord t u).toInt = (t.val : Int) - u.val :=
  sub_toInt _ _ (by omega) (by omega)

/-- The distance as a real number. -/
theorem dist_real (t u : Fin 4096) :
    FloatOps.sitofp (F := Ideal) FTy.f32 (distWord t u) = (((t.val : ℝ) - u.val : ℝ) : EReal) := by
  show (((distWord t u).toInt : ℝ) : EReal) = _
  rw [distWord_toInt]
  push_cast
  rfl

theorem cmp_eq (x y : BitVec 32) : IntOp.cmpi .eq x y = if x = y then 1#1 else 0#1 := by
  unfold IntOp.cmpi
  by_cases h : x = y
  · simp [h]
  · simp only [if_neg h, beq_eq_false_iff_ne.2 h]; rfl

/-- The remainder is zero when the dilation divides the distance. -/
theorem rem_zero (t u : Fin 4096) (n : Nat) (hn : n = 1 ∨ n = 4 ∨ n = 16) :
    IntOp.remsi ArithUnit.host (distWord t u) (BitVec.ofNat 32 n) = 0#32 ↔ ((t.val : Int) - u.val) % n = 0 := by
  have h0 : ¬ IntOp.SDivCorner (distWord t u) (BitVec.ofNat 32 n) := by
    rcases hn with rfl | rfl | rfl <;> simp [IntOp.SDivCorner]
  have hz : (BitVec.ofNat 32 n).toInt = n := by rcases hn with rfl | rfl | rfl <;> rfl
  rw [IntOp.remsi, if_neg h0, ← BitVec.toInt_inj, BitVec.toInt_srem, distWord_toInt, hz]
  show Int.tmod _ _ = 0 ↔ _
  rw [← Int.dvd_iff_tmod_eq_zero, Int.dvd_iff_emod_eq_zero]

theorem mask_word (g : Fin 3) (t u : Fin 4096) :
    IntOp.andi (IntOp.andi (IntOp.cmpi .sge (distWord t u) 0#32)
        (IntOp.cmpi .sle (distWord t u) (IntOp.muli 128#32 (dilWord (BitVec.ofNat 32 g.val)))))
      (IntOp.cmpi .eq (IntOp.remsi ArithUnit.host (distWord t u) (dilWord (BitVec.ofNat 32 g.val))) 0#32)
      = if Valid g t u then 1#1 else 0#1 := by
  have hd := dil_cases g
  have hz : (BitVec.ofNat 32 (dil g)).toInt = dil g := by rcases hd with h | h | h <;> rw [h] <;> rfl
  have h1 : (IntOp.muli 128#32 (BitVec.ofNat 32 (dil g))).toInt = 128 * (dil g : Int) :=
    mul_toInt _ _ 128 _ rfl hz (by omega)
  rw [dilWord_eq, cmp_sge, cmp_sle, cmp_eq, and_if, and_if, h1, distWord_toInt]
  refine if_congr ?_ rfl rfl
  rw [rem_zero t u _ hd]
  show ((0 : Int) ≤ _ ∧ _) ∧ _ ↔ _
  unfold Valid
  rcases hd with h | h | h <;> rw [h] <;> omega

/-! ## A last axis of extent one dropped or added -/

theorem cast_drop (y : (⟨4, ![3, 8, 4096, 1]⟩ : Shape).Idx → EReal) (hc : Shape.ShapeCasts ⟨4, ![3, 8, 4096, 1]⟩ ⟨3, ![3, 8, 4096]⟩)
    (g : Fin 3) (h : Fin 8) (t : Fin 4096) : shapeCast ⟨3, ![3, 8, 4096]⟩ y hc (ix3 g h t) = y (ix4 g h t 0) :=
  shapeCast_apply y hc (ix3 g h t) (ix4 g h t 0) (by
    rw [Shape.rowMajor_val_four, Shape.rowMajor_val_three]
    show ((g.val * 8 + h.val) * 4096 + t.val) * 1 + 0 = (g.val * 8 + h.val) * 4096 + t.val
    omega)

theorem cast_add (y : (⟨3, ![3, 8, 4096]⟩ : Shape).Idx → EReal) (hc : Shape.ShapeCasts ⟨3, ![3, 8, 4096]⟩ ⟨4, ![3, 8, 4096, 1]⟩)
    (g : Fin 3) (h : Fin 8) (t : Fin 4096) : shapeCast ⟨4, ![3, 8, 4096, 1]⟩ y hc (ix4 g h t 0) = y (ix3 g h t) :=
  shapeCast_apply y hc (ix4 g h t 0) (ix3 g h t) (by
    rw [Shape.rowMajor_val_four, Shape.rowMajor_val_three]
    show (g.val * 8 + h.val) * 4096 + t.val = ((g.val * 8 + h.val) * 4096 + t.val) * 1 + 0
    omega)

end Cert.DilGrad

end
-- ==== Proof.DilHostAt.lean ====
/-
  What the host prepares, read at an index, for arguments that are real numbers: the masked scores, the joint log-sum of a query
  and the mean of its products, and the rows in the order of the residue classes.
-/
module

public import proofs.«01_k».proof.Proof.DilHost
public import proofs.«01_k».proof.Proof.DilMask

@[expose] public section

set_option maxRecDepth 65536
set_option maxHeartbeats 4000000

noncomputable section

namespace Cert.DilIdeal.Value

open Cert.DilIdeal Cert.DilIdeal.Gen Idealize.ShloMosaic Idealize.ShloMosaic.TcCoe Idealize.SL.Sem
open Cert.DilGrad (Valid col slot distWord dist_real mask_word sc msk rowMax pe lse top mix joint wt dov delta rowSum mixSum)
open Cert.NormRow (coe_sum)

/-- An array of real numbers. -/
def up {m n : Nat} (Q : Fin m → Fin n → ℝ) : (⟨2, ![m, n]⟩ : Shape).Idx → EReal := fun i => ((Q (i 0) (i 1) : ℝ) : EReal)

theorem negInf_eq : Ideal.ofBits FTy.f32 0xFF800000#32 = ⊥ := by simp [Ideal.ofBits, Ideal.ieee]
theorem eighth32_eq : Ideal.ofBits FTy.f32 0x3E000000#32 = ((1 / 8 : ℝ) : EReal) := by
  simp [Ideal.ofBits, Ideal.ieee]
  rw [← EReal.coe_mul]
  norm_num

/-! ## The slopes -/

theorem div_real (a b : ℝ) (hb : b ≠ 0) : Ideal.div ((a : ℝ) : EReal) ((b : ℝ) : EReal) = ((a / b : ℝ) : EReal) := by
  rw [Ideal.div_coe hb, ← EReal.coe_mul, mul_one_div]

theorem slope_real (n : Fin 24) : ∃ r : ℝ, h_v32 (ix1 n) = ((r : ℝ) : EReal) := by
  pointwise [h_v32, h_v31, h_v30, h_v29, h_v28, h_v27, h_v26, h_v25, h_v24, h_v23, h_cst, h_cst_7, h_cst_8, h_cst_9]
  have h1 : ∃ a : ℝ, Ideal.ofBits FTy.f32 0x3F317218#32 = (a : EReal) := by
    simp [Ideal.ofBits, Ideal.ieee]
    exact ⟨_, (EReal.coe_mul _ _).symm⟩
  have h2 : ∃ a : ℝ, Ideal.ofBits FTy.f32 0xC1000000#32 = (a : EReal) := by
    simp [Ideal.ofBits, Ideal.ieee]
    exact ⟨_, by rw [← EReal.coe_mul, ← EReal.coe_neg]⟩
  have h3 : Ideal.ofBits FTy.f32 0x41C00000#32 = ((24 : ℝ) : EReal) := by
    simp [Ideal.ofBits, Ideal.ieee]
    rw [← EReal.coe_mul]
    norm_num
  obtain ⟨a, ha⟩ := h1
  obtain ⟨b, hb⟩ := h2
  have h4 : FloatOps.sitofp (F := Ideal) FTy.f32 (BitVec.ofNat 32 n.val) = (((BitVec.ofNat 32 n.val).toInt : ℝ) : EReal) := rfl
  rw [ha, hb, h3, h4, ← EReal.coe_one, ← EReal.coe_add, ← EReal.coe_mul, div_real _ _ (by norm_num), ← EReal.coe_mul, Ideal.exp_coe]
  exact ⟨_, rfl⟩

/-- The slope of a (group, head). -/
def slopeR (n : Fin 24) : ℝ := (h_v32 (ix1 n)).toReal

theorem h_v32_at (n : Fin 24) : h_v32 (ix1 n) = ((slopeR n : ℝ) : EReal) := by
  obtain ⟨r, hr⟩ := slope_real n
  rw [slopeR, hr, EReal.toReal_coe]

theorem h_v193_eq : h_v193 = h_v32 := rfl

/-! ## The scores -/

theorem h_v16_eq : h_v16 = h_v15 := rfl

theorem h_v22_at (g : Fin 3) (t u : Fin 4096) : h_v22 (ix4 g 0 t u) = if Valid g t u then 1#1 else 0#1 := by
  rw [← mask_word]
  pointwise [h_v22, h_v21, h_v20, h_v19, h_v18, h_v17, h_v16_eq, h_v15, h_v14, h_v13, h_v12, h_v11, h_v10, h_v9, h_v8, h_v7, h_v6, h_v5, h_v4, h_v3, h_v2, h_c, h_c_0, h_c_1, h_c_2, h_c_3, h_c_4, h_c_5, h_c_6, h_call0_v0, h_call0_v1, h_call1_v0]
  rfl

variable (Q K V : Fin 4096 → Fin 1536 → ℝ) (O : Fin 4096 → Fin 512 → ℝ)

theorem h_call2_v0_eq : h_call2_v0 = h_cst_11 := rfl

theorem dot_real (f k : Fin 64 → ℝ) : ∑ d, ((f d : ℝ) : EReal) * ((k d : ℝ) : EReal) = ((∑ d, f d * k d : ℝ) : EReal) := by
  rw [coe_sum]
  exact Finset.sum_congr rfl fun d _ => (EReal.coe_mul _ _).symm

theorem select_if (p : Prop) [Decidable p] (x y : EReal) :
    Scalar.select (if p then 1#1 else 0#1) x y = if p then x else y := by
  by_cases h : p <;> simp [h, Scalar.select]

theorem h_v47_at (g : Fin 3) (h : Fin 8) (t u : Fin 4096) :
    h_v47 (up Q) (up K) (ix4 g h t u) = msk Q K slopeR g h t u := by
  pointwise [h_v47, h_v46, h_v45, h_v44, h_v43, h_v42, h_v41, h_v40, h_v39, h_v38, h_v37, h_v36, h_v35, h_v34, h_v33, h_v1, h_v0, h_cst_10, h_cst_11, h_call2_v0_eq, h_call2_v1, h_call2_v2, h_v11, h_v3, h_v4]
  rw [h_v22_at, h_v32_at, select_if, msk]
  refine if_congr Iff.rfl ?_ negInf_eq
  rw [eighth32_eq]
  have hd := dist_real t u
  rw [distWord] at hd
  rw [hd, sc]
  refine Eq.trans (congrArg₂ (· + ·) (congrArg (· * _) (dot_real (fun d => Q t (col g h d)) fun d => K u (col g h d))) rfl) ?_
  rw [← EReal.coe_neg, ← EReal.coe_mul, ← EReal.coe_mul, ← EReal.coe_add]
  rfl

/-! ## The rows -/

theorem exp_mask (p : Prop) [Decidable p] (s M : ℝ) :
    Ideal.exp ((if p then ((s : ℝ) : EReal) else ⊥) - ((M : ℝ) : EReal)) = ((if p then Real.exp (s - M) else 0 : ℝ) : EReal) := by
  by_cases h : p
  · rw [if_pos h, if_pos h, ← EReal.coe_sub, Ideal.exp_coe]
  · rw [if_neg h, if_neg h, EReal.bot_sub]; rfl

theorem log_real (a : ℝ) (ha : 0 < a) : Ideal.log ((a : ℝ) : EReal) = ((Real.log a : ℝ) : EReal) := by
  rw [Ideal.log_coe, if_neg (not_le.2 ha)]

theorem log_at {s : Shape} (x : FVec Ideal s .f32) (i : s.Idx) : (Host.log x) i = Ideal.log (x i) := rfl
theorem addf_at {s : Shape} (x y : FVec Ideal s .f32) (i : s.Idx) : (addf x y) i = x i + y i := rfl

section Rows

variable {X : FVec Ideal S3x8x4096x4096 .f32} (hX : ∀ g h t u, X (ix4 g h t u) = msk Q K slopeR g h t u)
include hX

theorem h_v48_at (g : Fin 3) (h : Fin 8) (t : Fin 4096) : h_v48 X (ix3 g h t) = ((rowMax Q K slopeR g h t : ℝ) : EReal) := by
  pointwise [h_v48, h_cst_12]
  rw [negInf_eq, ← Cert.DilGrad.rowMax_eq]
  exact congrArg (fun f => Finset.univ.fold max ⊥ f) (funext fun u => hX g h t u)

theorem h_v49_at (g : Fin 3) (h : Fin 8) (t : Fin 4096) : h_v49 X (ix4 g h t 0) = ((rowMax Q K slopeR g h t : ℝ) : EReal) := by
  rw [← h_v48_at Q K hX]
  pointwise [h_v49]

theorem h_v52_at (g : Fin 3) (h : Fin 8) (t u : Fin 4096) : h_v52 X (ix4 g h t u) = ((pe Q K slopeR h t g u : ℝ) : EReal) := by
  pointwise [h_v52, h_v51, h_v50]
  rw [h_v49_at Q K hX, hX, msk, exp_mask]
  rfl

theorem h_v53_at (g : Fin 3) (h : Fin 8) (t : Fin 4096) : h_v53 X (ix3 g h t) = ((rowSum (pe Q K slopeR h t) g : ℝ) : EReal) := by
  pointwise [h_v53, h_cst_13]
  rw [rowSum, coe_sum]
  exact Finset.sum_congr rfl fun u _ => h_v52_at Q K hX g h t u

theorem h_v54_at (g : Fin 3) (h : Fin 8) (t : Fin 4096) : h_v54 X (ix4 g h t 0) = ((rowSum (pe Q K slopeR h t) g : ℝ) : EReal) := by
  rw [← h_v53_at Q K hX]
  pointwise [h_v54]

theorem h_v58_at (g : Fin 3) (h : Fin 8) (t : Fin 4096) : h_v58 X (ix4 g h t 0) = ((lse Q K slopeR g h t : ℝ) : EReal) := by
  rw [h_v58, h_v57, addf_at, log_at, h_v49_at Q K hX, h_v54_at Q K hX, log_real _ (Cert.DilGrad.rowSum_pos Q K slopeR g h t),
    ← EReal.coe_add, lse]

theorem h_v59_at (g : Fin 3) (h : Fin 8) (t : Fin 4096) : h_v59 X (ix3 g h t) = ((lse Q K slopeR g h t : ℝ) : EReal) := by
  rw [← h_v58_at Q K hX]
  exact Cert.DilGrad.cast_drop _ _ g h t

theorem h_v56_at (g : Fin 3) (h : Fin 8) (t u : Fin 4096) :
    h_v56 X (ix4 g h t u) = ((pe Q K slopeR h t g u / rowSum (pe Q K slopeR h t) g : ℝ) : EReal) := by
  pointwise [h_v56, h_v55]
  rw [h_v52_at Q K hX, h_v54_at Q K hX, div_real _ _ (Cert.DilGrad.rowSum_pos Q K slopeR g h t).ne']

end Rows

/-! ## The groups together -/

section Groups

variable {L : FVec Ideal S3x8x4096 .f32} (hL : ∀ g h t, L (ix3 g h t) = ((lse Q K slopeR g h t : ℝ) : EReal))
include hL

theorem h_v60_at (h : Fin 8) (t : Fin 4096) : h_v60 L (ix2 h t) = ((top Q K slopeR h t : ℝ) : EReal) := by
  pointwise [h_v60, h_cst_14]
  rw [negInf_eq, ← Cert.DilGrad.top_eq]
  exact congrArg (fun f => Finset.univ.fold max ⊥ f) (funext fun g => hL g h t)

theorem h_v76_at (h : Fin 8) (t : Fin 4096) : h_v76 L (ix2 h t) = ((joint Q K slopeR h t : ℝ) : EReal) := by
  pointwise [h_v76, h_v75, h_v74, h_v73, h_v72, h_v71, h_v70, h_v69, h_v68, h_v67, h_v66, h_v65, h_v64, h_v63, h_v62, h_v61]
  rw [h_v60_at Q K hL, hL, hL, hL, ← EReal.coe_sub, ← EReal.coe_sub, ← EReal.coe_sub, Ideal.exp_coe, Ideal.exp_coe, Ideal.exp_coe,
    ← EReal.coe_add, ← EReal.coe_add]
  have hm : Real.exp (lse Q K slopeR 0 h t - top Q K slopeR h t) + Real.exp (lse Q K slopeR 1 h t - top Q K slopeR h t)
      + Real.exp (lse Q K slopeR 2 h t - top Q K slopeR h t) = mixSum (mix Q K slopeR h t) := by
    rw [mixSum, Fin.sum_univ_three]; rfl
  rw [hm, log_real _ (Cert.DilGrad.mixSum_pos Q K slopeR h t), ← EReal.coe_add]
  rfl

variable {J : FVec Ideal S8x4096 .f32} (hJ : ∀ h t, J (ix2 h t) = ((joint Q K slopeR h t : ℝ) : EReal))
include hJ

theorem h_v80_at (g : Fin 3) (h : Fin 8) (t : Fin 4096) :
    h_v80 L J (ix3 g h t) = ((mix Q K slopeR h t g / mixSum (mix Q K slopeR h t) : ℝ) : EReal) := by
  pointwise [h_v80, h_v79, h_v78, h_v77]
  rw [hL, hJ, ← EReal.coe_sub, Ideal.exp_coe, Cert.DilGrad.exp_joint]

end Groups

section Mean

variable {N : FVec Ideal S3x8x4096x4096 .f32} {A : FVec Ideal S3x8x4096 .f32}
  (hN : ∀ g h t u, N (ix4 g h t u) = ((pe Q K slopeR h t g u / rowSum (pe Q K slopeR h t) g : ℝ) : EReal))
  (hA : ∀ g h t, A (ix3 g h t) = ((mix Q K slopeR h t g / mixSum (mix Q K slopeR h t) : ℝ) : EReal))
include hN hA

theorem h_v92_at (h : Fin 8) (t : Fin 4096) :
    h_v92 (up V) (up O) N A (ix2 h t) = ((delta Q K V O slopeR h t : ℝ) : EReal) := by
  pointwise [h_v92, h_v91, h_v90, h_v89, h_v88, h_v87, h_v86, h_v85, h_v84, h_v83, h_v82, h_v81, h_cst_15]
  simp only [hN, hA]
  have hs : delta Q K V O slopeR h t = ∑ d : Fin 64, O t (Cert.DilGrad.hcol h d) * ∑ g : Fin 3, ∑ u : Fin 4096,
      mix Q K slopeR h t g / mixSum (mix Q K slopeR h t) * (pe Q K slopeR h t g u / rowSum (pe Q K slopeR h t) g) * V u (col g h d) := by
    rw [delta, Cert.DilGrad.meanOf]
    simp only [Cert.DilGrad.prodOf, dov, Finset.mul_sum]
    refine Eq.trans ?_ Finset.sum_comm
    refine Finset.sum_congr rfl fun g _ => ?_
    refine Eq.trans ?_ Finset.sum_comm
    refine Finset.sum_congr rfl fun u _ => Finset.sum_congr rfl fun d _ => ?_
    ring
  rw [hs, coe_sum]
  refine Finset.sum_congr rfl fun d _ => ?_
  rw [EReal.coe_mul, coe_sum]
  refine congrArg₂ (· * ·) rfl (Finset.sum_congr rfl fun g _ => ?_)
  rw [coe_sum]
  refine Finset.sum_congr rfl fun u _ => ?_
  rw [EReal.coe_mul, EReal.coe_mul]
  rfl

end Mean

end Cert.DilIdeal.Value

end
-- ==== Proof.DilRefAt.lean ====
/-
  The reference's forward stages, read at an index, for arguments that are real numbers: scores, row maxima and sums, log-sums, and
  the softmax over the groups.
-/
module

public import proofs.«01_k».proof.Proof.DilHostAt
public import proofs.«01_k».proof.Proof.Gen.DilRefIdeal.Read

@[expose] public section

set_option maxRecDepth 65536
set_option maxHeartbeats 4000000

noncomputable section

namespace Cert.DilRefIdeal.Read

open Cert.DilRefIdeal Cert.DilRefIdeal.Gen Idealize.ShloMosaic Idealize.ShloMosaic.TcCoe Idealize.SL.Sem
open Cert.DilGrad
open Cert.DilIdeal.Value (up slopeR h_v32 h_v32_at negInf_eq eighth32_eq dot_real select_if exp_mask div_real log_real log_at addf_at)
open Cert.NormRow (coe_sum)

/-! Elementwise operations at an index. -/

theorem subf_at {s : Shape} (x y : FVec Ideal s .f32) (i : s.Idx) : (subf x y) i = x i - y i := rfl
theorem mulf_at {s : Shape} (x y : FVec Ideal s .f32) (i : s.Idx) : (mulf x y) i = x i * y i := rfl
theorem negf_at {s : Shape} (x : FVec Ideal s .f32) (i : s.Idx) : (Host.negf x) i = -x i := rfl
theorem divf_at {s : Shape} (x y : FVec Ideal s .f32) (i : s.Idx) : (Host.divf x y) i = Ideal.div (x i) (y i) := rfl
theorem exp_at {s : Shape} (x : FVec Ideal s .f32) (i : s.Idx) : (Host.exp x) i = Ideal.exp (x i) := rfl

variable (Q K V : Fin 4096 → Fin 1536 → ℝ) (O : Fin 4096 → Fin 512 → ℝ)

theorem slopes_eq : val_main_v33 (F := Ideal) = h_v32 := rfl

theorem where0_eq : val_main_v17 (F := Ideal) = val_main_v16 := rfl
theorem where1_eq : val_main_call2_v0 (F := Ideal) = val_main_cst_11 := rfl

theorem mask_at (g : Fin 3) (t u : Fin 4096) : val_main_v23 (F := Ideal) (ix4 g 0 t u) = if Valid g t u then 1#1 else 0#1 := by
  rw [← mask_word]
  pointwise [val_main_v23, val_main_v22, val_main_v21, val_main_v20, val_main_v19, val_main_v18, where0_eq, val_main_v16, val_main_v15, val_main_v14, val_main_v13, val_main_v12, val_main_v11, val_main_v10, val_main_v9, val_main_v8, val_main_v7, val_main_v6, val_main_v5, val_main_v4, val_main_v3, val_main_c, val_main_c_0, val_main_c_1, val_main_c_2, val_main_c_3, val_main_c_4, val_main_c_5, val_main_c_6, val_main_call0_v0, val_main_call0_v1, val_main_call1_v0]
  rfl

theorem scores_at (g : Fin 3) (h : Fin 8) (t u : Fin 4096) :
    val_main_v48_0 (F := Ideal) (up Q) (up K) (ix4 g h t u) = msk Q K slopeR g h t u := by
  pointwise [val_main_v48_0, val_main_v48_1, val_main_call2_v2, where1_eq, val_main_cst_11, val_main_v47, val_main_v46, val_main_v45, val_main_cst_10, val_main_v44, val_main_v43, val_main_v42, val_main_v41, val_main_v40, val_main_v39, val_main_v38, val_main_v37, val_main_v36, val_main_v35, val_main_v34, val_main_v1, val_main_v0, val_main_v12, val_main_v4, val_main_v5]
  rw [mask_at, slopes_eq, h_v32_at, select_if, msk]
  refine if_congr Iff.rfl ?_ negInf_eq
  rw [eighth32_eq]
  have hd := dist_real t u
  rw [distWord] at hd
  rw [hd, sc]
  refine Eq.trans (congrArg₂ (· + ·) (congrArg (· * _) (dot_real (fun d => Q t (col g h d)) fun d => K u (col g h d))) rfl) ?_
  rw [← EReal.coe_neg, ← EReal.coe_mul, ← EReal.coe_mul, ← EReal.coe_add]
  rfl

theorem v49_at (g : Fin 3) (h : Fin 8) (t : Fin 4096) :
    val_main_v49 (F := Ideal) (up Q) (up K) (ix3 g h t) = ((rowMax Q K slopeR g h t : ℝ) : EReal) := by
  pointwise [val_main_v49, val_main_cst_12]
  rw [negInf_eq, ← rowMax_eq]
  exact congrArg (fun f => Finset.univ.fold max ⊥ f) (funext fun u => scores_at Q K g h t u)

theorem v55_at (g : Fin 3) (h : Fin 8) (t : Fin 4096) :
    val_main_v55 (F := Ideal) (up Q) (up K) (ix4 g h t 0) = ((rowMax Q K slopeR g h t : ℝ) : EReal) := by
  rw [← v49_at Q K]
  pointwise [val_main_v55]

theorem v58_at (g : Fin 3) (h : Fin 8) (t u : Fin 4096) :
    val_main_v58 (F := Ideal) (up Q) (up K) (ix4 g h t u) = ((pe Q K slopeR h t g u : ℝ) : EReal) := by
  pointwise [val_main_v58, val_main_v57, val_main_v56]
  rw [v55_at Q K, scores_at, msk, exp_mask]
  rfl

theorem v59_at (g : Fin 3) (h : Fin 8) (t : Fin 4096) :
    val_main_v59 (F := Ideal) (up Q) (up K) (ix3 g h t) = ((rowSum (pe Q K slopeR h t) g : ℝ) : EReal) := by
  pointwise [val_main_v59, val_main_cst_14]
  rw [rowSum, coe_sum]
  exact Finset.sum_congr rfl fun u _ => v58_at Q K g h t u

theorem v60_at (g : Fin 3) (h : Fin 8) (t : Fin 4096) :
    val_main_v60 (F := Ideal) (up Q) (up K) (ix4 g h t 0) = ((rowSum (pe Q K slopeR h t) g : ℝ) : EReal) := by
  rw [← v59_at Q K]
  pointwise [val_main_v60]

theorem v62_at (g : Fin 3) (h : Fin 8) (t u : Fin 4096) :
    val_main_v62 (F := Ideal) (up Q) (up K) (ix4 g h t u) = ((pe Q K slopeR h t g u / rowSum (pe Q K slopeR h t) g : ℝ) : EReal) := by
  pointwise [val_main_v62, val_main_v61]
  rw [v58_at, v60_at, div_real _ _ (rowSum_pos Q K slopeR g h t).ne']

theorem v64_at (g : Fin 3) (h : Fin 8) (t : Fin 4096) : val_main_v64 (F := Ideal) (ix4 g h t 0) = ((1 : ℝ) : EReal) := by
  rw [EReal.coe_one]
  pointwise [val_main_v64, val_main_cst_15]

theorem v65_at (g : Fin 3) (h : Fin 8) (t : Fin 4096) : val_main_v65 (F := Ideal) (up Q) (up K) (ix4 g h t 0)
    = ((1 / (rowSum (pe Q K slopeR h t) g * rowSum (pe Q K slopeR h t) g) : ℝ) : EReal) := by
  have hl := (rowSum_pos Q K slopeR g h t).ne'
  rw [val_main_v65, divf_at, v64_at, val_main_v63, mulf_at, v60_at, ← EReal.coe_mul, div_real _ _ (mul_ne_zero hl hl)]

theorem v67_at (g : Fin 3) (h : Fin 8) (t : Fin 4096) :
    val_main_v67 (F := Ideal) (up Q) (up K) (ix4 g h t 0) = ((lse Q K slopeR g h t : ℝ) : EReal) := by
  rw [val_main_v67, val_main_v66, addf_at, log_at, v55_at, v60_at, log_real _ (rowSum_pos Q K slopeR g h t), ← EReal.coe_add, lse]

theorem v68_at (g : Fin 3) (h : Fin 8) (t : Fin 4096) :
    val_main_v68 (F := Ideal) (up Q) (up K) (ix3 g h t) = ((lse Q K slopeR g h t : ℝ) : EReal) := by
  rw [← v67_at]
  exact cast_drop _ _ g h t

/-! ## The softmax over the groups -/

theorem v72_at (h : Fin 8) (t : Fin 4096) :
    val_main_v72 (F := Ideal) (up Q) (up K) (ix2 h t) = ((top Q K slopeR h t : ℝ) : EReal) := by
  pointwise [val_main_v72, val_main_cst_16]
  rw [negInf_eq, ← top_eq]
  exact congrArg (fun f => Finset.univ.fold max ⊥ f) (funext fun g => v68_at Q K g h t)

theorem v79_at (h : Fin 8) (t : Fin 4096) :
    val_main_v79 (F := Ideal) (up Q) (up K) (ix2 h t) = ((top Q K slopeR h t : ℝ) : EReal) := by
  pointwise [val_main_v79, val_main_v78, val_main_cst_18]
  rw [v72_at, negInf_eq]
  exact max_eq_right bot_le

theorem v89_at (h : Fin 8) (t : Fin 4096) :
    val_main_v89 (F := Ideal) (up Q) (up K) (ix3 0 h t) = ((top Q K slopeR h t : ℝ) : EReal) := by
  rw [← v79_at]
  pointwise [val_main_v89]

theorem v90_at (g : Fin 3) (h : Fin 8) (t : Fin 4096) :
    val_main_v90 (F := Ideal) (up Q) (up K) (ix3 g h t) = ((top Q K slopeR h t : ℝ) : EReal) := by
  rw [← v89_at]
  pointwise [val_main_v90]

theorem v92_at (g : Fin 3) (h : Fin 8) (t : Fin 4096) :
    val_main_v92 (F := Ideal) (up Q) (up K) (ix3 g h t) = ((mix Q K slopeR h t g : ℝ) : EReal) := by
  rw [val_main_v92, exp_at, val_main_v91, subf_at, v68_at, v90_at, ← EReal.coe_sub, Ideal.exp_coe, mix]

theorem v93_at (h : Fin 8) (t : Fin 4096) :
    val_main_v93 (F := Ideal) (up Q) (up K) (ix2 h t) = ((mixSum (mix Q K slopeR h t) : ℝ) : EReal) := by
  pointwise [val_main_v93, val_main_cst_24]
  rw [mixSum, coe_sum]
  exact Finset.sum_congr rfl fun g _ => v92_at Q K g h t

theorem v94_at (h : Fin 8) (t : Fin 4096) :
    val_main_v94 (F := Ideal) (up Q) (up K) (ix3 0 h t) = ((mixSum (mix Q K slopeR h t) : ℝ) : EReal) := by
  rw [← v93_at]
  pointwise [val_main_v94]

theorem v95_at (g : Fin 3) (h : Fin 8) (t : Fin 4096) :
    val_main_v95 (F := Ideal) (up Q) (up K) (ix3 g h t) = ((mixSum (mix Q K slopeR h t) : ℝ) : EReal) := by
  rw [← v94_at]
  pointwise [val_main_v95]

theorem v96_at (g : Fin 3) (h : Fin 8) (t : Fin 4096) : val_main_v96 (F := Ideal) (up Q) (up K) (ix3 g h t)
    = ((mix Q K slopeR h t g / mixSum (mix Q K slopeR h t) : ℝ) : EReal) := by
  rw [val_main_v96, divf_at, v92_at, v95_at, div_real _ _ (mixSum_pos Q K slopeR h t).ne']

theorem v98_at (h : Fin 8) (t : Fin 4096) : val_main_v98 (F := Ideal) (ix3 0 h t) = ((1 : ℝ) : EReal) := by
  rw [EReal.coe_one]
  pointwise [val_main_v98, val_main_cst_25]

theorem v99_at (h : Fin 8) (t : Fin 4096) : val_main_v99 (F := Ideal) (up Q) (up K) (ix3 0 h t)
    = ((1 / (mixSum (mix Q K slopeR h t) * mixSum (mix Q K slopeR h t)) : ℝ) : EReal) := by
  have hl := (mixSum_pos Q K slopeR h t).ne'
  rw [val_main_v99, divf_at, v98_at, val_main_v97, mulf_at, v94_at, ← EReal.coe_mul, div_real _ _ (mul_ne_zero hl hl)]

theorem v100_at (g : Fin 3) (h : Fin 8) (t : Fin 4096) : val_main_v100 (F := Ideal) (up Q) (up K) (ix4 g h t 0)
    = ((mix Q K slopeR h t g / mixSum (mix Q K slopeR h t) : ℝ) : EReal) := by
  rw [← v96_at]
  pointwise [val_main_v100]

/-! ## The values, the result and the incoming gradient -/

theorem v70_at (g : Fin 3) (h : Fin 8) (u : Fin 4096) (d : Fin 64) :
    val_main_v70 (F := Ideal) (up V) (ix4 g h u d) = ((V u (col g h d) : ℝ) : EReal) := by
  pointwise [val_main_v70, val_main_v69, val_main_v2]
  rfl

theorem v71_at (g : Fin 3) (h : Fin 8) (t : Fin 4096) (d : Fin 64) : val_main_v71 (F := Ideal) (up Q) (up K) (up V) (ix4 g h t d)
    = ((∑ u, pe Q K slopeR h t g u / rowSum (pe Q K slopeR h t) g * V u (col g h d) : ℝ) : EReal) := by
  pointwise [val_main_v71]
  rw [coe_sum]
  refine Finset.sum_congr rfl fun u _ => ?_
  rw [v62_at, v70_at, EReal.coe_mul]

theorem v109_at (g : Fin 3) (h : Fin 8) (t : Fin 4096) (d : Fin 64) :
    val_main_v109 (F := Ideal) (up O) (ix4 g h t d) = ((O t (hcol h d) : ℝ) : EReal) := by
  pointwise [val_main_v109, val_main_v108, val_main_v107, val_main_v106]
  rfl

theorem v111_at (g : Fin 3) (h : Fin 8) (t : Fin 4096) (d : Fin 64) : val_main_v111 (F := Ideal) (up Q) (up K) (up O) (ix4 g h t d)
    = ((mix Q K slopeR h t g / mixSum (mix Q K slopeR h t) * O t (hcol h d) : ℝ) : EReal) := by
  pointwise [val_main_v111, val_main_v110]
  rw [v100_at, v109_at, EReal.coe_mul]

end Cert.DilRefIdeal.Read

end
-- ==== Proof.DilRefGrad.lean ====
/-
  The reference's backward stages, read at an index, for arguments that are real numbers: the derivative through the mixing and the
  row softmax, down to the score's gradient and the three products with it.
-/
module

public import proofs.«01_k».proof.Proof.DilRefAt

@[expose] public section

set_option maxRecDepth 65536
set_option maxHeartbeats 4000000

noncomputable section

namespace Cert.DilRefIdeal.Read

open Cert.DilRefIdeal Cert.DilRefIdeal.Gen Idealize.ShloMosaic Idealize.ShloMosaic.TcCoe Idealize.SL.Sem
open Cert.DilGrad
open Cert.DilIdeal.Value (up slopeR eighth32_eq dot_real select_if div_real addf_at)
open Cert.NormRow (coe_sum)

variable (Q K V : Fin 4096 → Fin 1536 → ℝ) (O : Fin 4096 → Fin 512 → ℝ)

/-! ## The mixing -/

theorem v112_at (g : Fin 3) (h : Fin 8) (t : Fin 4096) (d : Fin 64) :
    val_main_v112 (F := Ideal) (up Q) (up K) (up V) (up O) (ix4 g h t d)
      = ((O t (hcol h d) * ∑ u, pe Q K slopeR h t g u / rowSum (pe Q K slopeR h t) g * V u (col g h d) : ℝ) : EReal) := by
  rw [val_main_v112, mulf_at, v109_at, v71_at, ← EReal.coe_mul]

theorem v113_at (g : Fin 3) (h : Fin 8) (t : Fin 4096) : val_main_v113 (F := Ideal) (up Q) (up K) (up V) (up O) (ix3 g h t)
    = ((prodOf (pe Q K slopeR h t) (dov V O h t) g : ℝ) : EReal) := by
  have e : prodOf (pe Q K slopeR h t) (dov V O h t) g
      = ∑ d, O t (hcol h d) * ∑ u, pe Q K slopeR h t g u / rowSum (pe Q K slopeR h t) g * V u (col g h d) := by
    simp only [prodOf, dov, Finset.mul_sum]
    rw [Finset.sum_comm]
    exact Finset.sum_congr rfl fun d _ => Finset.sum_congr rfl fun u _ => by ring
  pointwise [val_main_v113, val_main_cst_27]
  rw [e, coe_sum]
  exact Finset.sum_congr rfl fun d _ => v112_at Q K V O g h t d

theorem v114_at (g : Fin 3) (h : Fin 8) (t : Fin 4096) : val_main_v114 (F := Ideal) (up Q) (up K) (up V) (up O) (ix4 g h t 0)
    = ((prodOf (pe Q K slopeR h t) (dov V O h t) g : ℝ) : EReal) := by
  rw [← v113_at]
  exact cast_add _ _ g h t

theorem v115_at (g : Fin 3) (h : Fin 8) (t : Fin 4096) : val_main_v115 (F := Ideal) (up Q) (up K) (up V) (up O) (ix3 g h t)
    = ((prodOf (pe Q K slopeR h t) (dov V O h t) g : ℝ) : EReal) := by
  pointwise [val_main_v115, val_main_cst_28]
  rw [Fin.sum_univ_one]
  exact v114_at Q K V O g h t

theorem v116_at (g : Fin 3) (h : Fin 8) (t : Fin 4096) : val_main_v116 (F := Ideal) (up Q) (up K) (ix3 g h t)
    = ((1 / (mixSum (mix Q K slopeR h t) * mixSum (mix Q K slopeR h t)) : ℝ) : EReal) := by
  rw [← v99_at]
  pointwise [val_main_v116]

theorem v118_at (g : Fin 3) (h : Fin 8) (t : Fin 4096) : val_main_v118 (F := Ideal) (up Q) (up K) (up V) (up O) (ix3 g h t)
    = ((prodOf (pe Q K slopeR h t) (dov V O h t) g * (1 / (mixSum (mix Q K slopeR h t) * mixSum (mix Q K slopeR h t)))
        * mix Q K slopeR h t g : ℝ) : EReal) := by
  rw [val_main_v118, mulf_at, v92_at, val_main_v117, mulf_at, v115_at, v116_at, ← EReal.coe_mul, ← EReal.coe_mul]

/-- What the groups' mean takes from each group. -/
abbrev back (h : Fin 8) (t : Fin 4096) : ℝ := ∑ g, prodOf (pe Q K slopeR h t) (dov V O h t) g
  * (1 / (mixSum (mix Q K slopeR h t) * mixSum (mix Q K slopeR h t))) * mix Q K slopeR h t g

theorem v119_at (h : Fin 8) (t : Fin 4096) :
    val_main_v119 (F := Ideal) (up Q) (up K) (up V) (up O) (ix2 h t) = ((back Q K V O h t : ℝ) : EReal) := by
  pointwise [val_main_v119, val_main_cst_29]
  rw [coe_sum]
  exact Finset.sum_congr rfl fun g _ => v118_at Q K V O g h t

theorem cast_front (y : (⟨2, ![8, 4096]⟩ : Shape).Idx → EReal) (hc : Shape.ShapeCasts ⟨2, ![8, 4096]⟩ ⟨3, ![1, 8, 4096]⟩)
    (h : Fin 8) (t : Fin 4096) : shapeCast ⟨3, ![1, 8, 4096]⟩ y hc (ix3 0 h t) = y (ix2 h t) :=
  shapeCast_apply y hc (ix3 0 h t) (ix2 h t) (by
    rw [Shape.rowMajor_val_three, Shape.rowMajor_val_two]
    show h.val * 4096 + t.val = (0 * 8 + h.val) * 4096 + t.val
    omega)

theorem v121_at (h : Fin 8) (t : Fin 4096) :
    val_main_v121 (F := Ideal) (up Q) (up K) (up V) (up O) (ix3 0 h t) = ((-back Q K V O h t : ℝ) : EReal) := by
  rw [val_main_v121, negf_at, EReal.coe_neg, ← v119_at]
  exact congrArg _ (cast_front _ _ h t)

theorem v124_at (h : Fin 8) (t : Fin 4096) :
    val_main_v124 (F := Ideal) (up Q) (up K) (up V) (up O) (ix2 h t) = ((-back Q K V O h t : ℝ) : EReal) := by
  pointwise [val_main_v124, val_main_cst_30]
  rw [Fin.sum_univ_one]
  exact v121_at Q K V O h t

theorem v125_at (g : Fin 3) (h : Fin 8) (t : Fin 4096) :
    val_main_v125 (F := Ideal) (up Q) (up K) (up V) (up O) (ix3 g h t) = ((-back Q K V O h t : ℝ) : EReal) := by
  rw [← v124_at]
  pointwise [val_main_v125]

theorem v122_at (g : Fin 3) (h : Fin 8) (t : Fin 4096) :
    val_main_v122 (F := Ideal) (up Q) (up K) (ix3 g h t) = ((mixSum (mix Q K slopeR h t) : ℝ) : EReal) := by
  rw [← v94_at]
  pointwise [val_main_v122]

theorem v127_at (g : Fin 3) (h : Fin 8) (t : Fin 4096) : val_main_v127 (F := Ideal) (up Q) (up K) (up V) (up O) (ix3 g h t)
    = ((toLse (pe Q K slopeR h t) (dov V O h t) (mix Q K slopeR h t) g : ℝ) : EReal) := by
  rw [val_main_v127, mulf_at, val_main_v126, addf_at, val_main_v123, divf_at, v115_at, v122_at, v125_at, v92_at,
    div_real _ _ (mixSum_pos Q K slopeR h t).ne', ← EReal.coe_add, ← EReal.coe_mul, toLse]

/-! ## The row softmax -/

theorem v130_at (g : Fin 3) (h : Fin 8) (t u : Fin 4096) : val_main_v130 (F := Ideal) (up Q) (up K) (up V) (up O) (ix4 g h t u)
    = ((mix Q K slopeR h t g / mixSum (mix Q K slopeR h t) * dov V O h t g u : ℝ) : EReal) := by
  pointwise [val_main_v130]
  rw [dov, Finset.mul_sum, coe_sum]
  refine Finset.sum_congr rfl fun d _ => ?_
  rw [v111_at, v70_at, ← EReal.coe_mul, mul_assoc]

theorem v133_at (g : Fin 3) (h : Fin 8) (t : Fin 4096) : val_main_v133 (F := Ideal) (up Q) (up K) (up V) (up O) (ix4 g h t 0)
    = ((toLse (pe Q K slopeR h t) (dov V O h t) (mix Q K slopeR h t) g : ℝ) : EReal) := by
  rw [← v127_at]
  pointwise [val_main_v133]

theorem v135_at (g : Fin 3) (h : Fin 8) (t u : Fin 4096) : val_main_v135 (F := Ideal) (up Q) (up K) (ix4 g h t u)
    = ((1 / (rowSum (pe Q K slopeR h t) g * rowSum (pe Q K slopeR h t) g) : ℝ) : EReal) := by
  rw [← v65_at]
  pointwise [val_main_v135]

theorem v142_at (g : Fin 3) (h : Fin 8) (t u : Fin 4096) : val_main_v142 (F := Ideal) (up Q) (up K) (ix4 g h t u)
    = ((rowSum (pe Q K slopeR h t) g : ℝ) : EReal) := by
  rw [← v60_at]
  pointwise [val_main_v142]

theorem v137_at (g : Fin 3) (h : Fin 8) (t u : Fin 4096) : val_main_v137 (F := Ideal) (up Q) (up K) (up V) (up O) (ix4 g h t u)
    = ((mix Q K slopeR h t g / mixSum (mix Q K slopeR h t) * dov V O h t g u
        * (1 / (rowSum (pe Q K slopeR h t) g * rowSum (pe Q K slopeR h t) g)) * pe Q K slopeR h t g u : ℝ) : EReal) := by
  rw [val_main_v137, mulf_at, val_main_v136, mulf_at, v130_at, v135_at, v58_at, ← EReal.coe_mul, ← EReal.coe_mul]

/-- What the row's sum takes from its pairs. -/
abbrev rowBack (g : Fin 3) (h : Fin 8) (t : Fin 4096) : ℝ := ∑ u, mix Q K slopeR h t g / mixSum (mix Q K slopeR h t) * dov V O h t g u
  * (1 / (rowSum (pe Q K slopeR h t) g * rowSum (pe Q K slopeR h t) g)) * pe Q K slopeR h t g u

theorem v138_at (g : Fin 3) (h : Fin 8) (t : Fin 4096) :
    val_main_v138 (F := Ideal) (up Q) (up K) (up V) (up O) (ix3 g h t) = ((rowBack Q K V O g h t : ℝ) : EReal) := by
  pointwise [val_main_v138, val_main_cst_31]
  rw [coe_sum]
  exact Finset.sum_congr rfl fun u _ => v137_at Q K V O g h t u

theorem v139_at (g : Fin 3) (h : Fin 8) (t : Fin 4096) :
    val_main_v139 (F := Ideal) (up Q) (up K) (up V) (up O) (ix4 g h t 0) = ((rowBack Q K V O g h t : ℝ) : EReal) := by
  rw [← v138_at]
  exact cast_add _ _ g h t

theorem v141_at (g : Fin 3) (h : Fin 8) (t : Fin 4096) : val_main_v141 (F := Ideal) (up Q) (up K) (up V) (up O) (ix4 g h t 0)
    = ((toLse (pe Q K slopeR h t) (dov V O h t) (mix Q K slopeR h t) g / rowSum (pe Q K slopeR h t) g
        + -rowBack Q K V O g h t : ℝ) : EReal) := by
  rw [val_main_v141, addf_at, val_main_v134, divf_at, val_main_v140, negf_at, v133_at, v60_at, v139_at,
    div_real _ _ (rowSum_pos Q K slopeR g h t).ne', ← EReal.coe_neg, ← EReal.coe_add]

theorem v144_at (g : Fin 3) (h : Fin 8) (t : Fin 4096) : val_main_v144 (F := Ideal) (up Q) (up K) (up V) (up O) (ix3 g h t)
    = ((toLse (pe Q K slopeR h t) (dov V O h t) (mix Q K slopeR h t) g / rowSum (pe Q K slopeR h t) g
        + -rowBack Q K V O g h t : ℝ) : EReal) := by
  pointwise [val_main_v144, val_main_cst_32]
  rw [Fin.sum_univ_one]
  exact v141_at Q K V O g h t

theorem v145_at (g : Fin 3) (h : Fin 8) (t u : Fin 4096) : val_main_v145 (F := Ideal) (up Q) (up K) (up V) (up O) (ix4 g h t u)
    = ((toLse (pe Q K slopeR h t) (dov V O h t) (mix Q K slopeR h t) g / rowSum (pe Q K slopeR h t) g
        + -rowBack Q K V O g h t : ℝ) : EReal) := by
  rw [← v144_at]
  pointwise [val_main_v145]

theorem v147_toScore (g : Fin 3) (h : Fin 8) (t u : Fin 4096) :
    val_main_v147 (F := Ideal) (up Q) (up K) (up V) (up O) (ix4 g h t u)
      = ((toScore (pe Q K slopeR h t) (dov V O h t) (mix Q K slopeR h t) g u : ℝ) : EReal) := by
  rw [val_main_v147, mulf_at, val_main_v146, addf_at, val_main_v143, divf_at, v130_at, v142_at, v145_at, v58_at,
    div_real _ _ (rowSum_pos Q K slopeR g h t).ne', ← EReal.coe_add, ← EReal.coe_mul, toScore]

/-! ## Nothing goes through the row's maximum -/

theorem v149_at (g : Fin 3) (h : Fin 8) (t : Fin 4096) : val_main_v149 (F := Ideal) (up Q) (up K) (up V) (up O) (ix3 g h t)
    = ((∑ u, -toScore (pe Q K slopeR h t) (dov V O h t) (mix Q K slopeR h t) g u : ℝ) : EReal) := by
  pointwise [val_main_v149, val_main_cst_33]
  rw [coe_sum]
  refine Finset.sum_congr rfl fun u _ => ?_
  rw [val_main_v148, negf_at, v147_toScore, EReal.coe_neg]

theorem v151_at (g : Fin 3) (h : Fin 8) (t : Fin 4096) :
    val_main_v151 (F := Ideal) (up Q) (up K) (up V) (up O) (ix4 g h t 0) = ((0 : ℝ) : EReal) := by
  rw [← toMax_zero Q K V O slopeR g h t, EReal.coe_add, ← v149_at, ← v133_at, val_main_v151, addf_at]
  exact congrArg _ (cast_add _ _ g h t)

theorem v152_at (g : Fin 3) (h : Fin 8) (t : Fin 4096) :
    val_main_v152 (F := Ideal) (up Q) (up K) (up V) (up O) (ix3 g h t) = ((0 : ℝ) : EReal) := by
  pointwise [val_main_v152, val_main_cst_34]
  rw [Fin.sum_univ_one]
  exact v151_at Q K V O g h t

theorem v50_at (g : Fin 3) (h : Fin 8) (t : Fin 4096) :
    val_main_v50 (F := Ideal) (up Q) (up K) (ix4 g h t 0) = ((rowMax Q K slopeR g h t : ℝ) : EReal) := by
  rw [← v49_at]
  exact cast_add _ _ g h t

theorem v51_at (g : Fin 3) (h : Fin 8) (t u : Fin 4096) :
    val_main_v51 (F := Ideal) (up Q) (up K) (ix4 g h t u) = ((rowMax Q K slopeR g h t : ℝ) : EReal) := by
  rw [← v50_at]
  pointwise [val_main_v51]

theorem ofBit_at {s : Shape} (x y : FVec Ideal s .f32) (i : s.Idx) :
    (uitofp .f32 (cmpf .oeq x y) : FVec Ideal s .f32) i = ((((Ideal.cmp .oeq (x i) (y i)).toNat : ℝ)) : EReal) := rfl

/-- Whether a pair holds its row's greatest score, as a number. -/
abbrev hits (g : Fin 3) (h : Fin 8) (t u : Fin 4096) : ℝ :=
  ((Ideal.cmp .oeq (msk Q K slopeR g h t u) ((rowMax Q K slopeR g h t : ℝ) : EReal)).toNat : ℝ)

theorem v53_at (g : Fin 3) (h : Fin 8) (t u : Fin 4096) :
    val_main_v53 (F := Ideal) (up Q) (up K) (ix4 g h t u) = ((hits Q K g h t u : ℝ) : EReal) := by
  rw [val_main_v53, val_main_v52, ofBit_at, scores_at, v51_at]

theorem v54_at (g : Fin 3) (h : Fin 8) (t : Fin 4096) :
    val_main_v54 (F := Ideal) (up Q) (up K) (ix3 g h t) = ((∑ u, hits Q K g h t u : ℝ) : EReal) := by
  pointwise [val_main_v54, val_main_cst_13]
  rw [coe_sum]
  exact Finset.sum_congr rfl fun u _ => v53_at Q K g h t u

theorem hits_pos (g : Fin 3) (h : Fin 8) (t : Fin 4096) : 0 < ∑ u, hits Q K g h t u := by
  obtain ⟨u, -, hu⟩ := Finset.exists_max_image Finset.univ (msk Q K slopeR g h t) ⟨t, Finset.mem_univ t⟩
  refine Finset.sum_pos' (fun v _ => Nat.cast_nonneg _) ⟨u, Finset.mem_univ u, ?_⟩
  have e : msk Q K slopeR g h t u = ((rowMax Q K slopeR g h t : ℝ) : EReal) := by
    rw [← rowMax_eq]
    exact le_antisymm ((Finset.le_fold_max _).2 (Or.inr ⟨u, Finset.mem_univ u, le_rfl⟩))
      ((Finset.fold_max_le _).2 ⟨bot_le, fun v hv => hu v hv⟩)
  rw [hits, e]
  simp [Ideal.cmp]

theorem v153_at (g : Fin 3) (h : Fin 8) (t : Fin 4096) :
    val_main_v153 (F := Ideal) (up Q) (up K) (up V) (up O) (ix3 g h t) = ((0 : ℝ) : EReal) := by
  rw [val_main_v153, divf_at, v152_at, v54_at, div_real _ _ (hits_pos Q K g h t).ne', zero_div]

theorem v154_at (g : Fin 3) (h : Fin 8) (t u : Fin 4096) :
    val_main_v154 (F := Ideal) (up Q) (up K) (up V) (up O) (ix4 g h t u) = ((0 : ℝ) : EReal) := by
  rw [← v153_at Q K V O g h t]
  pointwise [val_main_v154]

theorem v156_at (g : Fin 3) (h : Fin 8) (t u : Fin 4096) :
    val_main_v156 (F := Ideal) (up Q) (up K) (up V) (up O) (ix4 g h t u) = ((ds Q K V O slopeR g h t u : ℝ) : EReal) := by
  rw [val_main_v156, addf_at, val_main_v155, mulf_at, v147_toScore, v154_at, v53_at, toScore_ds, ← EReal.coe_mul, ← EReal.coe_add,
    zero_mul, add_zero]

/-! ## The score's gradient and the products with it -/

theorem v48_1_at (g : Fin 3) (h : Fin 8) (t u : Fin 4096) :
    val_main_v48_1 (F := Ideal) (ix4 g h t u) = if Valid g t u then 1#1 else 0#1 := by
  rw [← mask_at]
  pointwise [val_main_v48_1]

theorem select_at {s : Shape} (c : IVec s 1) (x y : FVec Ideal s .f32) (i : s.Idx) :
    (select c x y) i = Scalar.select (c i) (x i) (y i) := rfl

theorem call3_at (g : Fin 3) (h : Fin 8) (t u : Fin 4096) : val_main_call3_v0 (F := Ideal) (ix4 g h t u) = 0 := by
  pointwise [val_main_call3_v0, val_main_call3_cst]

theorem v157_at (g : Fin 3) (h : Fin 8) (t u : Fin 4096) :
    val_main_v157 (F := Ideal) (up Q) (up K) (up V) (up O) (ix4 g h t u) = ((ds Q K V O slopeR g h t u : ℝ) : EReal) := by
  rw [val_main_v157, select_at, v48_1_at, v156_at, call3_at, select_if]
  by_cases hv : Valid g t u
  · rw [if_pos hv]
  · rw [if_neg hv, ds, wt, if_neg hv, zero_mul, EReal.coe_zero]

theorem v158_at (g : Fin 3) (h : Fin 8) (t u : Fin 4096) : val_main_v158 (F := Ideal) (ix4 g h t u) = ((1 / 8 : ℝ) : EReal) := by
  rw [← eighth32_eq]
  pointwise [val_main_v158, val_main_cst_35]

theorem v159_at (g : Fin 3) (h : Fin 8) (t u : Fin 4096) : val_main_v159 (F := Ideal) (up Q) (up K) (up V) (up O) (ix4 g h t u)
    = ((ds Q K V O slopeR g h t u * (1 / 8) : ℝ) : EReal) := by
  rw [val_main_v159, mulf_at, v157_at, v158_at, ← EReal.coe_mul]

theorem v41_at (g : Fin 3) (h : Fin 8) (t : Fin 4096) (d : Fin 64) :
    val_main_v41 (F := Ideal) (up Q) (ix4 g h t d) = ((Q t (col g h d) : ℝ) : EReal) := by
  pointwise [val_main_v41, val_main_v40, val_main_v0]
  rfl

theorem v43_at (g : Fin 3) (h : Fin 8) (u : Fin 4096) (d : Fin 64) :
    val_main_v43 (F := Ideal) (up K) (ix4 g h u d) = ((K u (col g h d) : ℝ) : EReal) := by
  pointwise [val_main_v43, val_main_v42, val_main_v1]
  rfl

theorem v160_at (g : Fin 3) (h : Fin 8) (u : Fin 4096) (d : Fin 64) :
    val_main_v160 (F := Ideal) (up Q) (up K) (up V) (up O) (ix4 g h u d)
      = ((∑ t, ds Q K V O slopeR g h t u * (1 / 8) * Q t (col g h d) : ℝ) : EReal) := by
  pointwise [val_main_v160]
  rw [coe_sum]
  exact Finset.sum_congr rfl fun t _ => by rw [v159_at, v41_at, ← EReal.coe_mul]

theorem v161_at (g : Fin 3) (h : Fin 8) (t : Fin 4096) (d : Fin 64) :
    val_main_v161 (F := Ideal) (up Q) (up K) (up V) (up O) (ix4 g h t d)
      = ((∑ u, ds Q K V O slopeR g h t u * (1 / 8) * K u (col g h d) : ℝ) : EReal) := by
  pointwise [val_main_v161]
  rw [coe_sum]
  exact Finset.sum_congr rfl fun u _ => by rw [v159_at, v43_at, ← EReal.coe_mul]

theorem v128_at (g : Fin 3) (h : Fin 8) (u : Fin 4096) (d : Fin 64) : val_main_v128 (F := Ideal) (up Q) (up K) (up O) (ix4 g h d u)
    = ((∑ t, wt Q K slopeR g h t u * O t (hcol h d) : ℝ) : EReal) := by
  pointwise [val_main_v128]
  rw [coe_sum]
  refine Finset.sum_congr rfl fun t _ => ?_
  rw [v111_at, v62_at, ← EReal.coe_mul, ← mix_mul]
  exact congrArg _ (by ring)

/-! ## Back in the columns of the arguments -/

theorem ix4_congr {a b c e : Nat} {i i' : Fin a} {j j' : Fin b} {k k' : Fin c} {l l' : Fin e} (hi : i.val = i'.val) (hj : j.val = j'.val)
    (hk : k.val = k'.val) (hl : l.val = l'.val) : ix4 i j k l = ix4 i' j' k' l' := by
  rw [Fin.ext hi, Fin.ext hj, Fin.ext hk, Fin.ext hl]

theorem col_parts (g : Fin 3) (h : Fin 8) (d : Fin 64) : (col g h d).val / 512 = g.val ∧ (col g h d).val / 64 % 8 = h.val
    ∧ (col g h d).val % 64 = d.val := by
  have hg := g.isLt
  have hh := h.isLt
  have hd := d.isLt
  show (g.val * 512 + h.val * 64 + d.val) / 512 = _ ∧ (g.val * 512 + h.val * 64 + d.val) / 64 % 8 = _
    ∧ (g.val * 512 + h.val * 64 + d.val) % 64 = _
  omega

theorem v132_at (g : Fin 3) (h : Fin 8) (u : Fin 4096) (d : Fin 64) :
    val_main_v132 (F := Ideal) (up Q) (up K) (up O) (ix2 u (col g h d)) = ((∑ t, wt Q K slopeR g h t u * O t (hcol h d) : ℝ) : EReal) := by
  obtain ⟨h1, h2, h3⟩ := col_parts g h d
  rw [← v128_at]
  pointwise [val_main_v132, val_main_v131, val_main_v129]
  exact congrArg _ (ix4_congr h1 h2 h3 rfl)

theorem v163_at (g : Fin 3) (h : Fin 8) (u : Fin 4096) (d : Fin 64) :
    val_main_v163 (F := Ideal) (up Q) (up K) (up V) (up O) (ix2 u (col g h d))
      = ((∑ t, ds Q K V O slopeR g h t u * (1 / 8) * Q t (col g h d) : ℝ) : EReal) := by
  obtain ⟨h1, h2, h3⟩ := col_parts g h d
  rw [← v160_at]
  pointwise [val_main_v163, val_main_v162]
  exact congrArg _ (ix4_congr h1 h2 rfl h3)

theorem v165_at (g : Fin 3) (h : Fin 8) (t : Fin 4096) (d : Fin 64) :
    val_main_v165 (F := Ideal) (up Q) (up K) (up V) (up O) (ix2 t (col g h d))
      = ((∑ u, ds Q K V O slopeR g h t u * (1 / 8) * K u (col g h d) : ℝ) : EReal) := by
  obtain ⟨h1, h2, h3⟩ := col_parts g h d
  rw [← v161_at]
  pointwise [val_main_v165, val_main_v164]
  exact congrArg _ (ix4_congr h1 h2 rfl h3)

end Cert.DilRefIdeal.Read

end
-- ==== Proof.DilPerm.lean ====
/-
  The order in which the kernel keeps the positions — those of one residue class together — and the order of the arguments: the
  pairs, the weights and the gradients are the same in both.
-/
module

public import proofs.«01_k».proof.Proof.DilHostAt

@[expose] public section

set_option maxRecDepth 65536
set_option maxHeartbeats 4000000

noncomputable section

namespace Cert.DilPerm

open Idealize.ShloMosaic Idealize.ShloMosaic.TcCoe Idealize.SL.Sem
open Cert.DilIdeal Cert.DilIdeal.Value
open Cert.DilGrad (col slot Valid sc msk joint wt dov delta ds)
open Cert.NormRow (coe_sum)

theorem group_cases (g : Fin 3) : g = 0 ∨ g = 1 ∨ g = 2 := by revert g; decide

/-- Place `P` of a group's order is position `nat g P` of the sequence. -/
def nat (g : Fin 3) (P : Fin 4096) : Fin 4096 := ⟨P.val % len g * dil g + P.val / len g, by
  have hP := P.isLt
  obtain rfl | rfl | rfl := group_cases g
  · show P.val % 4096 * 1 + P.val / 4096 < 4096; omega
  · show P.val % 1024 * 4 + P.val / 1024 < 4096; omega
  · show P.val % 256 * 16 + P.val / 256 < 4096; omega⟩

/-- Position `t` stands at place `place' g t`. -/
def placeOf (g : Fin 3) (t : Fin 4096) : Fin 4096 := ⟨t.val % dil g * len g + t.val / dil g, by
  have hP := t.isLt
  obtain rfl | rfl | rfl := group_cases g
  · show t.val % 1 * 4096 + t.val / 1 < 4096; omega
  · show t.val % 4 * 1024 + t.val / 4 < 4096; omega
  · show t.val % 16 * 256 + t.val / 16 < 4096; omega⟩

/-- The two orders. -/
def natE (g : Fin 3) : Fin 4096 ≃ Fin 4096 where
  toFun := nat g
  invFun := placeOf g
  left_inv P := Fin.ext (by
    have hP := P.isLt
    obtain rfl | rfl | rfl := group_cases g
    · show (P.val % 4096 * 1 + P.val / 4096) % 1 * 4096 + (P.val % 4096 * 1 + P.val / 4096) / 1 = P.val; omega
    · show (P.val % 1024 * 4 + P.val / 1024) % 4 * 1024 + (P.val % 1024 * 4 + P.val / 1024) / 4 = P.val; omega
    · show (P.val % 256 * 16 + P.val / 256) % 16 * 256 + (P.val % 256 * 16 + P.val / 256) / 16 = P.val; omega)
  right_inv t := Fin.ext (by
    have hP := t.isLt
    obtain rfl | rfl | rfl := group_cases g
    · show (t.val % 1 * 4096 + t.val / 1) % 4096 * 1 + (t.val % 1 * 4096 + t.val / 1) / 4096 = t.val; omega
    · show (t.val % 4 * 1024 + t.val / 4) % 1024 * 4 + (t.val % 4 * 1024 + t.val / 4) / 1024 = t.val; omega
    · show (t.val % 16 * 256 + t.val / 16) % 256 * 16 + (t.val % 16 * 256 + t.val / 16) / 256 = t.val; omega)

/-- The same pairs. -/
theorem sees_iff (g : Fin 3) (P P' : Fin 4096) : Sees g P P' ↔ Valid g (nat g P) (nat g P') := by
  have hP := P.isLt
  have hP' := P'.isLt
  obtain rfl | rfl | rfl := group_cases g
  · show (P'.val ≤ P.val ∧ P.val ≤ P'.val + 128 ∧ P.val / 4096 = P'.val / 4096)
      ↔ (P'.val % 4096 * 1 + P'.val / 4096 ≤ P.val % 4096 * 1 + P.val / 4096
        ∧ P.val % 4096 * 1 + P.val / 4096 - (P'.val % 4096 * 1 + P'.val / 4096) ≤ 128 * 1
        ∧ (P.val % 4096 * 1 + P.val / 4096 - (P'.val % 4096 * 1 + P'.val / 4096)) % 1 = 0)
    omega
  · show (P'.val ≤ P.val ∧ P.val ≤ P'.val + 128 ∧ P.val / 1024 = P'.val / 1024)
      ↔ (P'.val % 1024 * 4 + P'.val / 1024 ≤ P.val % 1024 * 4 + P.val / 1024
        ∧ P.val % 1024 * 4 + P.val / 1024 - (P'.val % 1024 * 4 + P'.val / 1024) ≤ 128 * 4
        ∧ (P.val % 1024 * 4 + P.val / 1024 - (P'.val % 1024 * 4 + P'.val / 1024)) % 4 = 0)
    omega
  · show (P'.val ≤ P.val ∧ P.val ≤ P'.val + 128 ∧ P.val / 256 = P'.val / 256)
      ↔ (P'.val % 256 * 16 + P'.val / 256 ≤ P.val % 256 * 16 + P.val / 256
        ∧ P.val % 256 * 16 + P.val / 256 - (P'.val % 256 * 16 + P'.val / 256) ≤ 128 * 16
        ∧ (P.val % 256 * 16 + P.val / 256 - (P'.val % 256 * 16 + P'.val / 256)) % 16 = 0)
    omega

/-- The same distance between the positions of a pair. -/
theorem far_eq (g : Fin 3) (P P' : Fin 4096) (hs : Sees g P P') :
    ((P.val : ℝ) - P'.val) * dil g = ((nat g P).val : ℝ) - (nat g P').val := by
  have hP := P.isLt
  have hP' := P'.isLt
  have e : ((P.val : ℤ) - P'.val) * dil g = ((nat g P).val : ℤ) - (nat g P').val := by
    obtain ⟨h1, h2, h3⟩ := hs
    obtain rfl | rfl | rfl := group_cases g
    · change P.val / 4096 = P'.val / 4096 at h3
      show ((P.val : ℤ) - P'.val) * (1 : ℕ) = ((P.val % 4096 * 1 + P.val / 4096 : ℕ) : ℤ) - (P'.val % 4096 * 1 + P'.val / 4096 : ℕ)
      omega
    · change P.val / 1024 = P'.val / 1024 at h3
      show ((P.val : ℤ) - P'.val) * (4 : ℕ) = ((P.val % 1024 * 4 + P.val / 1024 : ℕ) : ℤ) - (P'.val % 1024 * 4 + P'.val / 1024 : ℕ)
      omega
    · change P.val / 256 = P'.val / 256 at h3
      show ((P.val : ℤ) - P'.val) * (16 : ℕ) = ((P.val % 256 * 16 + P.val / 256 : ℕ) : ℤ) - (P'.val % 256 * 16 + P'.val / 256 : ℕ)
      omega
  exact_mod_cast e

/-- Column `l` of group `g`. -/
def colOf (g : Fin 3) (l : Fin 512) : Fin 1536 := ⟨512 * g.val + l.val, by omega⟩

theorem colOf_hcol (g : Fin 3) (h : Fin 8) (d : Fin 64) : colOf g (hcol h d) = col g h d :=
  Fin.ext (by show 512 * g.val + (64 * h.val + d.val) = g.val * 512 + h.val * 64 + d.val; omega)
theorem hcol_eq (h : Fin 8) (d : Fin 64) : hcol h d = Cert.DilGrad.hcol h d :=
  Fin.ext (by show 64 * h.val + d.val = h.val * 64 + d.val; omega)
theorem slope_slot (g : Fin 3) (h : Fin 8) : slopeOf g h = slot g h :=
  Fin.ext (by show 8 * g.val + h.val = g.val * 8 + h.val; omega)

theorem eighth_eq : eighth = ((1 / 8 : ℝ) : EReal) := by
  unfold eighth
  simp [Ideal.ofBits, Ideal.ieee]
  rw [← EReal.coe_mul]
  norm_num

/-! ## The kernel's pairs -/

section Pairs

variable (Q K V : Fin 4096 → Fin 1536 → ℝ) (O : Fin 4096 → Fin 512 → ℝ) (sl : Fin 24 → ℝ)
variable (S : S24.Idx → EReal) (Qa Ka Va Oa : S3x4096x512.Idx → EReal) (La Da : S3x4096x128.Idx → EReal)
variable (hS : ∀ n, S (ix1 n) = ((sl n : ℝ) : EReal))
variable (hQ : ∀ g P l, Qa (ix3 g P l) = ((Q (nat g P) (colOf g l) : ℝ) : EReal))
variable (hK : ∀ g P l, Ka (ix3 g P l) = ((K (nat g P) (colOf g l) : ℝ) : EReal))
variable (hV : ∀ g P l, Va (ix3 g P l) = ((V (nat g P) (colOf g l) : ℝ) : EReal))
variable (hO : ∀ g P l, Oa (ix3 g P l) = ((O (nat g P) l : ℝ) : EReal))
variable (hL : ∀ g P h, La (ix3 g P (hlane h)) = ((joint Q K sl h (nat g P) : ℝ) : EReal))
variable (hD : ∀ g P h, Da (ix3 g P (hlane h)) = ((delta Q K V O sl h (nat g P) : ℝ) : EReal))

include hS hQ hK in
theorem score_real (g : Fin 3) (h : Fin 8) (P P' : Fin 4096) (hs : Sees g P P') :
    scoreAt (S (ix1 (slopeOf g h))) (far g P P') (prow Qa g h P) (prow Ka g h P') = ((sc Q K sl g h (nat g P) (nat g P') : ℝ) : EReal) := by
  have e : sc Q K sl g h (nat g P) (nat g P')
      = (∑ d, Q (nat g P) (col g h d) * (1 / 8) * K (nat g P') (col g h d)) - sl (slot g h) * (((P.val : ℝ) - P'.val) * dil g) := by
    rw [sc, far_eq g P P' hs, Finset.sum_mul, neg_mul, ← sub_eq_add_neg]
    exact congrArg (· - _) (Finset.sum_congr rfl fun d _ => by ring)
  rw [e, EReal.coe_sub, EReal.coe_mul, coe_sum, scoreAt, hS, slope_slot, far]
  refine congrArg (· - _) (Finset.sum_congr rfl fun d _ => ?_)
  rw [prow, prow, hQ, hK, colOf_hcol, eighth_eq, ← EReal.coe_mul, ← EReal.coe_mul]

include hS hQ hK hL in
theorem pairW_real (g : Fin 3) (h : Fin 8) (P P' : Fin 4096) :
    pairW S Qa Ka La g h P P' = ((wt Q K sl g h (nat g P) (nat g P') : ℝ) : EReal) := by
  by_cases hs : Sees g P P'
  · rw [pairW, weightAt, score_real Q K sl S Qa Ka hS hQ hK g h P P' hs, hL, if_pos hs, wt, if_pos ((sees_iff g P P').1 hs)]
    rw [show ∀ x y : EReal, Scalar.select 1#1 x y = x from fun _ _ => rfl, ← EReal.coe_sub, Ideal.exp_coe]
  · rw [pairW_not _ _ _ _ _ _ _ _ hs, wt, if_neg (fun hv => hs ((sees_iff g P P').2 hv)), EReal.coe_zero]

include hS hQ hK hV hO hL hD in
theorem pairG_real (g : Fin 3) (h : Fin 8) (P P' : Fin 4096) :
    pairG S Qa Ka Oa Va La Da g h P P' = ((ds Q K V O sl g h (nat g P) (nat g P') : ℝ) : EReal) := by
  rw [pairG, pairW_real Q K sl S Qa Ka La hS hQ hK hL, gradAt, hD, ds, EReal.coe_mul, EReal.coe_sub, dov, coe_sum]
  refine congrArg (_ * ·) (congrArg (· - _) (Finset.sum_congr rfl fun d _ => ?_))
  rw [prow, prow, hO, hV, colOf_hcol, hcol_eq, ← EReal.coe_mul]

/-! ## The sums over the pairs, in the sequence's order -/

include hS hQ hK hV hO hL hD in
theorem dq_real (g : Fin 3) (h : Fin 8) (P : Fin 4096) (d : Fin 64) :
    ∑ P', pairG S Qa Ka Oa Va La Da g h P P' * (Ka (ix3 g P' (hcol h d)) * eighth)
      = ((∑ u, ds Q K V O sl g h (nat g P) u * (1 / 8) * K u (col g h d) : ℝ) : EReal) := by
  rw [← Equiv.sum_comp (natE g) fun u => ds Q K V O sl g h (nat g P) u * (1 / 8) * K u (col g h d), coe_sum]
  refine Finset.sum_congr rfl fun P' _ => ?_
  rw [pairG_real Q K V O sl S Qa Ka Va Oa La Da hS hQ hK hV hO hL hD, hK, colOf_hcol, eighth_eq, ← EReal.coe_mul, ← EReal.coe_mul]
  exact congrArg _ (by show _ = ds Q K V O sl g h (nat g P) (nat g P') * (1 / 8) * K (nat g P') (col g h d); ring)

include hS hQ hK hV hO hL hD in
theorem dk_real (g : Fin 3) (h : Fin 8) (P' : Fin 4096) (d : Fin 64) :
    ∑ P, pairG S Qa Ka Oa Va La Da g h P P' * (Qa (ix3 g P (hcol h d)) * eighth)
      = ((∑ t, ds Q K V O sl g h t (nat g P') * (1 / 8) * Q t (col g h d) : ℝ) : EReal) := by
  rw [← Equiv.sum_comp (natE g) fun t => ds Q K V O sl g h t (nat g P') * (1 / 8) * Q t (col g h d), coe_sum]
  refine Finset.sum_congr rfl fun P _ => ?_
  rw [pairG_real Q K V O sl S Qa Ka Va Oa La Da hS hQ hK hV hO hL hD, hQ, colOf_hcol, eighth_eq, ← EReal.coe_mul, ← EReal.coe_mul]
  exact congrArg _ (by show _ = ds Q K V O sl g h (nat g P) (nat g P') * (1 / 8) * Q (nat g P) (col g h d); ring)

include hS hQ hK hO hL in
theorem dv_real (g : Fin 3) (h : Fin 8) (P' : Fin 4096) (d : Fin 64) :
    ∑ P, pairW S Qa Ka La g h P P' * Oa (ix3 g P (hcol h d))
      = ((∑ t, wt Q K sl g h t (nat g P') * O t (Cert.DilGrad.hcol h d) : ℝ) : EReal) := by
  rw [← Equiv.sum_comp (natE g) fun t => wt Q K sl g h t (nat g P') * O t (Cert.DilGrad.hcol h d), coe_sum]
  refine Finset.sum_congr rfl fun P _ => ?_
  rw [pairW_real Q K sl S Qa Ka La hS hQ hK hL, hO, hcol_eq, ← EReal.coe_mul]
  rfl

end Pairs

end Cert.DilPerm

end
-- ==== Proof.DilOrder.lean ====
/-
  The kernel's permuted arguments and the reference's permuted results, read at an index of the kernel's order.
-/
module

public import proofs.«01_k».proof.Proof.DilPerm
public import proofs.«01_k».proof.Proof.Gen.DilRefIdeal.Read

@[expose] public section

set_option maxRecDepth 65536
set_option maxHeartbeats 4000000

noncomputable section

namespace Cert.DilPerm

open Idealize.ShloMosaic Idealize.ShloMosaic.TcCoe Idealize.SL.Sem
open Cert.DilIdeal.Value
open Cert.DilRefIdeal.Read

theorem ix2_congr {a b : Nat} {i i' : Fin a} {j j' : Fin b} (hi : i.val = i'.val) (hj : j.val = j'.val) : ix2 i j = ix2 i' j' := by
  rw [Fin.ext hi, Fin.ext hj]

theorem nat_zero (P : Fin 4096) : (nat 0 P).val = P.val := by
  have hP := P.isLt
  show P.val % 4096 * 1 + P.val / 4096 = P.val
  omega

/-! ## The arguments -/

theorem q_perm (x : FVec Ideal Cert.DilIdeal.S4096x1536 .bf16) (g : Fin 3) (P : Fin 4096) (l : Fin 512) : h_v108 x (ix3 g P l) = x (ix2 (nat g P) (colOf g l)) := by
  obtain rfl | rfl | rfl := group_cases g <;>
    pointwise [h_v108, h_v107, h_v106, h_v105, h_v104, h_v103, h_v102, h_v101, h_v100, h_v99, h_v98, h_v97, h_v96, h_v95, h_v94, h_v93]
  · exact congrArg _ (ix2_congr (nat_zero P).symm (by show l.val = 512 * 0 + l.val; omega))
  · exact congrArg _ (ix2_congr rfl (by show 512 + l.val = 512 * 1 + l.val; omega))
  · exact congrArg _ (ix2_congr rfl (by show 1024 + l.val = 512 * 2 + l.val; omega))

theorem k_perm (x : FVec Ideal Cert.DilIdeal.S4096x1536 .bf16) (g : Fin 3) (P : Fin 4096) (l : Fin 512) : h_v124 x (ix3 g P l) = x (ix2 (nat g P) (colOf g l)) := by
  obtain rfl | rfl | rfl := group_cases g <;>
    pointwise [h_v124, h_v123, h_v122, h_v121, h_v120, h_v119, h_v118, h_v117, h_v116, h_v115, h_v114, h_v113, h_v112, h_v111, h_v110, h_v109]
  · exact congrArg _ (ix2_congr (nat_zero P).symm (by show l.val = 512 * 0 + l.val; omega))
  · exact congrArg _ (ix2_congr rfl (by show 512 + l.val = 512 * 1 + l.val; omega))
  · exact congrArg _ (ix2_congr rfl (by show 1024 + l.val = 512 * 2 + l.val; omega))

theorem v_perm (x : FVec Ideal Cert.DilIdeal.S4096x1536 .bf16) (g : Fin 3) (P : Fin 4096) (l : Fin 512) : h_v140 x (ix3 g P l) = x (ix2 (nat g P) (colOf g l)) := by
  obtain rfl | rfl | rfl := group_cases g <;>
    pointwise [h_v140, h_v139, h_v138, h_v137, h_v136, h_v135, h_v134, h_v133, h_v132, h_v131, h_v130, h_v129, h_v128, h_v127, h_v126, h_v125]
  · exact congrArg _ (ix2_congr (nat_zero P).symm (by show l.val = 512 * 0 + l.val; omega))
  · exact congrArg _ (ix2_congr rfl (by show 512 + l.val = 512 * 1 + l.val; omega))
  · exact congrArg _ (ix2_congr rfl (by show 1024 + l.val = 512 * 2 + l.val; omega))

theorem do_perm (x : FVec Ideal Cert.DilIdeal.S4096x512 .bf16) (g : Fin 3) (P : Fin 4096) (l : Fin 512) : h_v153 x (ix3 g P l) = x (ix2 (nat g P) l) := by
  obtain rfl | rfl | rfl := group_cases g <;>
    pointwise [h_v153, h_v152, h_v151, h_v150, h_v149, h_v148, h_v147, h_v146, h_v145, h_v144, h_v143, h_v142, h_v141]
  · exact congrArg _ (ix2_congr (nat_zero P).symm rfl)
  · exact congrArg _ (ix2_congr rfl rfl)
  · exact congrArg _ (ix2_congr rfl rfl)

theorem lse_perm (x : FVec Ideal Cert.DilIdeal.S8x4096 .f32) (g : Fin 3) (P : Fin 4096) (h : Fin 8) : h_v168 x (ix3 g P (hlane h)) = x (ix2 h (nat g P)) := by
  have hh := h.isLt
  have hP := P.isLt
  obtain rfl | rfl | rfl := group_cases g <;>
    pointwise [h_v168, h_v167, h_v166, h_v165, h_v164, h_v163, h_v162, h_v161, h_v160, h_v159, h_v158, h_v157, h_v156, h_v155, h_v154, h_c_16, h_call3_v0]
  · refine (dif_pos ?_).trans (congrArg x (ix2_congr rfl (nat_zero P).symm))
    exact hh
  · refine (dif_pos ?_).trans (congrArg x (ix2_congr rfl rfl))
    exact ⟨by omega, hh⟩
  · refine (dif_pos ?_).trans (congrArg x (ix2_congr rfl rfl))
    exact ⟨by omega, hh⟩

theorem delta_perm (x : FVec Ideal Cert.DilIdeal.S8x4096 .f32) (g : Fin 3) (P : Fin 4096) (h : Fin 8) : h_v183 x (ix3 g P (hlane h)) = x (ix2 h (nat g P)) := by
  have hh := h.isLt
  have hP := P.isLt
  obtain rfl | rfl | rfl := group_cases g <;>
    pointwise [h_v183, h_v182, h_v181, h_v180, h_v179, h_v178, h_v177, h_v176, h_v175, h_v174, h_v173, h_v172, h_v171, h_v170, h_v169, h_c_17, h_call4_v0]
  · refine (dif_pos ?_).trans (congrArg x (ix2_congr rfl (nat_zero P).symm))
    exact hh
  · refine (dif_pos ?_).trans (congrArg x (ix2_congr rfl rfl))
    exact ⟨by omega, hh⟩
  · refine (dif_pos ?_).trans (congrArg x (ix2_congr rfl rfl))
    exact ⟨by omega, hh⟩

/-! ## The results -/

theorem dq_perm (x0 x1 x2 : FVec Ideal Cert.DilIdeal.S4096x1536 .bf16) (x3 : FVec Ideal Cert.DilIdeal.S4096x512 .bf16) (g : Fin 3) (P : Fin 4096) (l : Fin 512) : val_main_v182 (F := Ideal) x0 x1 x2 x3 (ix3 g P l) = val_main_v165 (F := Ideal) x0 x1 x2 x3 (ix2 (nat g P) (colOf g l)) := by
  obtain rfl | rfl | rfl := group_cases g <;>
    pointwise [val_main_v182, val_main_v181, val_main_v180, val_main_v179, val_main_v178, val_main_v177, val_main_v176, val_main_v175, val_main_v174, val_main_v173, val_main_v172, val_main_v171, val_main_v170, val_main_v169, val_main_v168, val_main_v167, val_main_v166]
  · exact congrArg _ (ix2_congr (nat_zero P).symm (by show l.val = 512 * 0 + l.val; omega))
  · exact congrArg _ (ix2_congr rfl (by show 512 + l.val = 512 * 1 + l.val; omega))
  · exact congrArg _ (ix2_congr rfl (by show 1024 + l.val = 512 * 2 + l.val; omega))

theorem dk_perm (x0 x1 x2 : FVec Ideal Cert.DilIdeal.S4096x1536 .bf16) (x3 : FVec Ideal Cert.DilIdeal.S4096x512 .bf16) (g : Fin 3) (P : Fin 4096) (l : Fin 512) : val_main_v199 (F := Ideal) x0 x1 x2 x3 (ix3 g P l) = val_main_v163 (F := Ideal) x0 x1 x2 x3 (ix2 (nat g P) (colOf g l)) := by
  obtain rfl | rfl | rfl := group_cases g <;>
    pointwise [val_main_v199, val_main_v198, val_main_v197, val_main_v196, val_main_v195, val_main_v194, val_main_v193, val_main_v192, val_main_v191, val_main_v190, val_main_v189, val_main_v188, val_main_v187, val_main_v186, val_main_v185, val_main_v184, val_main_v183]
  · exact congrArg _ (ix2_congr (nat_zero P).symm (by show l.val = 512 * 0 + l.val; omega))
  · exact congrArg _ (ix2_congr rfl (by show 512 + l.val = 512 * 1 + l.val; omega))
  · exact congrArg _ (ix2_congr rfl (by show 1024 + l.val = 512 * 2 + l.val; omega))

theorem dv_perm (x0 x1 x2 : FVec Ideal Cert.DilIdeal.S4096x1536 .bf16) (x3 : FVec Ideal Cert.DilIdeal.S4096x512 .bf16) (g : Fin 3) (P : Fin 4096) (l : Fin 512) : val_main_v216 (F := Ideal) x0 x1 x3 (ix3 g P l) = val_main_v132 (F := Ideal) x0 x1 x3 (ix2 (nat g P) (colOf g l)) := by
  obtain rfl | rfl | rfl := group_cases g <;>
    pointwise [val_main_v216, val_main_v215, val_main_v214, val_main_v213, val_main_v212, val_main_v211, val_main_v210, val_main_v209, val_main_v208, val_main_v207, val_main_v206, val_main_v205, val_main_v204, val_main_v203, val_main_v202, val_main_v201, val_main_v200]
  · exact congrArg _ (ix2_congr (nat_zero P).symm (by show l.val = 512 * 0 + l.val; omega))
  · exact congrArg _ (ix2_congr rfl (by show 512 + l.val = 512 * 1 + l.val; omega))
  · exact congrArg _ (ix2_congr rfl (by show 1024 + l.val = 512 * 2 + l.val; omega))

end Cert.DilPerm

end
-- ==== Proof.DilFinite.lean ====
/- The precondition says that every element of every argument is a real number. -/
module

public import proofs.«01_k».proof.Pre_finite
public import proofs.«01_k».proof.Proof.DilHostAt

@[expose] public section

set_option maxRecDepth 65536

noncomputable section

namespace Cert.Pre_finite.Value

open Cert.Pre_finite Idealize.ShloMosaic Idealize.SL.Sem
open Cert.DilIdeal.Value (up)

instance facts : Facts where
  bitsLt_bf16_f32 := by decide
  bcast_S_S4096x1536 := by decide
  concatenates_S4096x512_S4096x512_S4096x512_S4096x1536_d1 := by decide

/-- An element's own test. -/
def small (x : EReal) : BitVec 1 := Ideal.cmp .olt (max x (-x)) (Ideal.ofBits FTy.f32 0x7F800000#32)

theorem posInf_eq : Ideal.ofBits FTy.f32 0x7F800000#32 = ⊤ := by simp [Ideal.ofBits, Ideal.ieee]

theorem real_of_small (x : EReal) (h : small x = 1#1) : x = ((x.toReal : ℝ) : EReal) := by
  have hx : max x (-x) < ⊤ := by
    by_contra hn
    have e : small x = 0#1 := by simp [small, Ideal.cmp, posInf_eq, hn]
    rw [e] at h
    exact absurd h (by decide)
  refine (EReal.coe_toReal (fun e => ?_) fun e => ?_).symm
  · exact absurd ((le_max_left x (-x)).trans_lt hx) (by rw [e]; exact lt_irrefl _)
  · exact absurd ((le_max_right x (-x)).trans_lt hx) (by rw [e, EReal.neg_bot]; exact lt_irrefl _)

variable (a0 a1 a2 : FVec Ideal S4096x1536 .bf16) (a3 : FVec Ideal S4096x512 .bf16)

/-- The last argument three times over, as wide as the others. -/
def wide : FVec Ideal S4096x1536 .bf16 := concatenate S4096x1536 1 [⟨S4096x512, a3⟩, ⟨S4096x512, a3⟩, ⟨S4096x512, a3⟩]
  Facts.concatenates_S4096x512_S4096x512_S4096x512_S4096x1536_d1

theorem fn_at (i : S4096x1536.Idx) : fn (F := Ideal) a0 a1 a2 a3 i
    = IntOp.andi (IntOp.andi (IntOp.andi (small (a0 i)) (small (a1 i))) (small (a2 i))) (small (wide a3 i)) := rfl

theorem wide_at (p : Fin 4096) (q : Fin 512) : wide a3 (ix2 p ⟨q.val, by omega⟩) = a3 (ix2 p q) := by
  pointwise [wide]

theorem and_one {x y : BitVec 1} (h : IntOp.andi x y = 1#1) : x = 1#1 ∧ y = 1#1 := by
  revert h
  revert x y
  decide

/-- Under the precondition the four arguments are arrays of real numbers. -/
theorem reals (h : fn (F := Ideal) a0 a1 a2 a3 = fun _ => 1#1) :
    (∃ Q : Fin 4096 → Fin 1536 → ℝ, a0 = up Q) ∧ (∃ K : Fin 4096 → Fin 1536 → ℝ, a1 = up K)
      ∧ (∃ V : Fin 4096 → Fin 1536 → ℝ, a2 = up V) ∧ ∃ O : Fin 4096 → Fin 512 → ℝ, a3 = up O := by
  have hi : ∀ i, ((small (a0 i) = 1#1 ∧ small (a1 i) = 1#1) ∧ small (a2 i) = 1#1) ∧ small (wide a3 i) = 1#1 := fun i => by
    have e := (fn_at a0 a1 a2 a3 i).symm.trans (congrFun h i)
    obtain ⟨e, e3⟩ := and_one e
    obtain ⟨e, e2⟩ := and_one e
    exact ⟨⟨and_one e, e2⟩, e3⟩
  refine ⟨⟨fun p q => (a0 (ix2 p q)).toReal, ?_⟩, ⟨fun p q => (a1 (ix2 p q)).toReal, ?_⟩,
    ⟨fun p q => (a2 (ix2 p q)).toReal, ?_⟩, fun p q => (a3 (ix2 p q)).toReal, ?_⟩ <;> funext i
  · rw [eq_ix2 i]; exact real_of_small _ (hi _).1.1.1
  · rw [eq_ix2 i]; exact real_of_small _ (hi _).1.1.2
  · rw [eq_ix2 i]; exact real_of_small _ (hi _).1.2
  · obtain ⟨p, q, rfl⟩ : ∃ (p : Fin 4096) (q : Fin 512), i = ix2 p q := ⟨i 0, i 1, eq_ix2 i⟩
    have e := (hi (ix2 p ⟨q.val, by omega⟩)).2
    rw [wide_at] at e
    exact real_of_small _ e

end Cert.Pre_finite.Value

end
-- ==== Proof.DilClaims.lean ====
/- The claims about the dilated attention's gradient, put together: the kernel and the derivative of the forward lines end with the
same three arrays. -/
module

public import proofs.«01_k».proof.Defs
public import proofs.«01_k».proof.Proof.Gen.Dil.Frame
public import proofs.«01_k».proof.Proof.Gen.DilIdeal.Frame
public import proofs.«01_k».proof.Proof.Gen.DilRefIdeal.Run
public import proofs.«01_k».proof.Proof.Gen.DilRefIdeal.Read
public import proofs.«01_k».proof.Proof.DilArrays
public import proofs.«01_k».proof.Proof.DilHost
public import proofs.«01_k».proof.Proof.DilRefGrad
public import proofs.«01_k».proof.Proof.DilOrder
public import proofs.«01_k».proof.Proof.DilFinite
public import Idealize.ShloMosaic.Lib.Quiescent

@[expose] public section

set_option maxRecDepth 16384

noncomputable section

namespace Cert.Proof

open Idealize.ShloMosaic Idealize.ShloMosaic.TcCoe Idealize.SL.Sem
open Cert.DilIdeal Cert.DilIdeal.Gen Cert.DilIdeal.Value
open Cert.DilRefIdeal.Read

section Arrays

variable (m : (ℓ : Loc nD τ sig) → Buf (Elt Ideal) ℓ) (c : Dev nD)
variable {Q K V : Fin 4096 → Fin 1536 → ℝ} {O : Fin 4096 → Fin 512 → ℝ}
variable (h0 : m ((c : Thread nD τ).loc main_arg0) = up Q) (h1 : m ((c : Thread nD τ).loc main_arg1) = up K)
variable (h2 : m ((c : Thread nD τ).loc main_arg2) = up V) (h3 : m ((c : Thread nD τ).loc main_arg3) = up O)

theorem slopes_real (n : Fin 24) : slopes m c (ix1 n) = ((slopeR n : ℝ) : EReal) := by
  rw [slopes, V_main_v193, h_v193_eq, h_v32_at]

include h0 in
theorem qs_real (g : Fin 3) (P : Fin 4096) (l : Fin 512) :
    qs m c (ix3 g P l) = ((Q (DilPerm.nat g P) (DilPerm.colOf g l) : ℝ) : EReal) := by
  rw [qs, V_main_v108, h0, DilPerm.q_perm]; rfl

include h1 in
theorem ks_real (g : Fin 3) (P : Fin 4096) (l : Fin 512) :
    ks m c (ix3 g P l) = ((K (DilPerm.nat g P) (DilPerm.colOf g l) : ℝ) : EReal) := by
  rw [ks, V_main_v124, h1, DilPerm.k_perm]; rfl

include h2 in
theorem vs_real (g : Fin 3) (P : Fin 4096) (l : Fin 512) :
    vs m c (ix3 g P l) = ((V (DilPerm.nat g P) (DilPerm.colOf g l) : ℝ) : EReal) := by
  rw [vs, V_main_v140, h2, DilPerm.v_perm]; rfl

include h3 in
theorem dos_real (g : Fin 3) (P : Fin 4096) (l : Fin 512) : dos m c (ix3 g P l) = ((O (DilPerm.nat g P) l : ℝ) : EReal) := by
  rw [dos, V_main_v153, h3, DilPerm.do_perm]; rfl

include h0 h1 in
theorem lses_real (g : Fin 3) (P : Fin 4096) (h : Fin 8) :
    lses m c (ix3 g P (hlane h)) = ((Cert.DilGrad.joint Q K slopeR h (DilPerm.nat g P) : ℝ) : EReal) := by
  rw [lses, V_main_v168, h0, h1, DilPerm.lse_perm]
  exact h_v76_at Q K (h_v59_at Q K (h_v47_at Q K)) _ _

include h0 h1 h2 h3 in
theorem deltas_real (g : Fin 3) (P : Fin 4096) (h : Fin 8) :
    deltas m c (ix3 g P (hlane h)) = ((Cert.DilGrad.delta Q K V O slopeR h (DilPerm.nat g P) : ℝ) : EReal) := by
  rw [deltas, V_main_v183, h0, h1, h2, h3, DilPerm.delta_perm]
  exact h_v92_at Q K V O (h_v56_at Q K (h_v47_at Q K))
    (h_v80_at Q K (h_v59_at Q K (h_v47_at Q K)) (h_v76_at Q K (h_v59_at Q K (h_v47_at Q K)))) _ _

include h0 h1 h2 h3

/-- The queries' gradient. -/
theorem dq_eq (i : S3x4096x512.Idx) : val_main_v182 (F := Ideal) (up Q) (up K) (up V) (up O) i = DQ m c i := by
  obtain ⟨g, P, l, rfl⟩ : ∃ (g : Fin 3) (P : Fin 4096) (l : Fin 512), i = ix3 g P l := ⟨i 0, i 1, i 2, eq_ix3 i⟩
  obtain ⟨h, d, rfl⟩ : ∃ (h : Fin 8) (d : Fin 64), l = hcol h d := ⟨_, _, hcol_head l⟩
  have e := DilPerm.dq_real Q K V O slopeR (slopes m c) (qs m c) (ks m c) (vs m c) (dos m c) (lses m c) (deltas m c) (slopes_real m c)
    (qs_real m c h0) (ks_real m c h1) (vs_real m c h2) (dos_real m c h3) (lses_real m c h0 h1) (deltas_real m c h0 h1 h2 h3) g h P d
  rw [DilPerm.dq_perm, DilPerm.colOf_hcol, v165_at, ← e, DQ, show (ix3 g P (hcol h d) : S3x4096x512.Idx) 0 = g from rfl,
    show (ix3 g P (hcol h d) : S3x4096x512.Idx) 1 = P from rfl, show (ix3 g P (hcol h d) : S3x4096x512.Idx) 2 = hcol h d from rfl, head_hcol]

/-- The keys' gradient. -/
theorem dk_eq (i : S3x4096x512.Idx) : val_main_v199 (F := Ideal) (up Q) (up K) (up V) (up O) i = DK m c i := by
  obtain ⟨g, P, l, rfl⟩ : ∃ (g : Fin 3) (P : Fin 4096) (l : Fin 512), i = ix3 g P l := ⟨i 0, i 1, i 2, eq_ix3 i⟩
  obtain ⟨h, d, rfl⟩ : ∃ (h : Fin 8) (d : Fin 64), l = hcol h d := ⟨_, _, hcol_head l⟩
  have e := DilPerm.dk_real Q K V O slopeR (slopes m c) (qs m c) (ks m c) (vs m c) (dos m c) (lses m c) (deltas m c) (slopes_real m c)
    (qs_real m c h0) (ks_real m c h1) (vs_real m c h2) (dos_real m c h3) (lses_real m c h0 h1) (deltas_real m c h0 h1 h2 h3) g h P d
  rw [DilPerm.dk_perm, DilPerm.colOf_hcol, v163_at, ← e, DK, show (ix3 g P (hcol h d) : S3x4096x512.Idx) 0 = g from rfl,
    show (ix3 g P (hcol h d) : S3x4096x512.Idx) 1 = P from rfl, show (ix3 g P (hcol h d) : S3x4096x512.Idx) 2 = hcol h d from rfl, head_hcol]

/-- The values' gradient. -/
theorem dv_eq (i : S3x4096x512.Idx) : val_main_v216 (F := Ideal) (up Q) (up K) (up O) i = DV m c i := by
  obtain ⟨g, P, l, rfl⟩ : ∃ (g : Fin 3) (P : Fin 4096) (l : Fin 512), i = ix3 g P l := ⟨i 0, i 1, i 2, eq_ix3 i⟩
  obtain ⟨h, d, rfl⟩ : ∃ (h : Fin 8) (d : Fin 64), l = hcol h d := ⟨_, _, hcol_head l⟩
  have e := DilPerm.dv_real Q K O slopeR (slopes m c) (qs m c) (ks m c) (dos m c) (lses m c) (slopes_real m c)
    (qs_real m c h0) (ks_real m c h1) (dos_real m c h3) (lses_real m c h0 h1) g h P d
  rw [DilPerm.dv_perm (x2 := up V), DilPerm.colOf_hcol, v132_at, ← e, DV, show (ix3 g P (hcol h d) : S3x4096x512.Idx) 0 = g from rfl,
    show (ix3 g P (hcol h d) : S3x4096x512.Idx) 1 = P from rfl, show (ix3 g P (hcol h d) : S3x4096x512.Idx) 2 = hcol h d from rfl, head_hcol]

end Arrays

/-- The reference stops with its arguments unchanged; it has no semaphore whose counter could differ from zero. -/
theorem dilRef_frame : quiescent_DilRefIdeal := fun m ρ _ =>
  (θ_run _ _ _).mono (fun r h => ⟨fun c => (h c).2.2.2, sem_eq_zero_of_no_sems (by decide) r.2⟩)
    (Cert.DilRefIdeal.Value.run (F := Ideal) m ρ)

theorem dilRef_frame_finite : quiescent_DilRefIdeal_pre_finite := fun m ρ _ => dilRef_frame m ρ trivial

/-- The mask's constant −1e30 stands for −∞. -/
theorem dil_preserves : preserves_Dil_DilIdeal := IdealRules.named_const.statement _ _ .f32 _ _ (show κ "minus_inf" = some ⊥ from rfl)

/-- The kernel and the derivative of the forward lines end with equal results. -/
theorem dil_algebraic : algebraic_DilIdeal_DilRefIdeal_pre_finite := fun m ρ m' ρ' hpre hag => by
  refine ⟨fun c => DQ m c, fun c => DK m c, fun c => DV m c, run_dil m ρ,
    (θ_run _ _ _).mono (fun r h c => ?_) (Cert.DilRefIdeal.Value.run (F := Ideal) m' ρ')⟩
  obtain ⟨e0, e1, e2, e3⟩ := h c
  obtain ⟨a0, a1, a2, a3⟩ := hag c
  obtain ⟨⟨Q, h0⟩, ⟨K, h1⟩, ⟨V, h2⟩, O, h3⟩ := Cert.Pre_finite.Value.reals _ _ _ _ (hpre c)
  have b0 : StableHlo.launchContents m' c (Proc.devRef .tc Cert.DilRefIdeal.main_arg0) = up Q := a0.trans h0
  have b1 : StableHlo.launchContents m' c (Proc.devRef .tc Cert.DilRefIdeal.main_arg1) = up K := a1.trans h1
  have b2 : StableHlo.launchContents m' c (Proc.devRef .tc Cert.DilRefIdeal.main_arg2) = up V := a2.trans h2
  have b3 : StableHlo.launchContents m' c (Proc.devRef .tc Cert.DilRefIdeal.main_arg3) = up O := a3.trans h3
  refine ⟨e0.trans (funext fun i => ?_), e1.trans (funext fun i => ?_), e2.trans (funext fun i => ?_), e3⟩ <;> clear e0 e1 e2 e3
  · rw [val_main_v182_eq, b0, b1, b2, b3]
    exact dq_eq m c h0 h1 h2 h3 i
  · rw [val_main_v199_eq, b0, b1, b2, b3]
    exact dk_eq m c h0 h1 h2 h3 i
  · rw [val_main_v216_eq, b0, b1, b3]
    exact dv_eq m c h0 h1 h2 h3 i

end Cert.Proof

end
-- ==== Proof.UpProduct.lean ====
/-
  The forward product with an up-projection: at each of the eight grid points 512 rows of the product, 256 columns at a time;
  together they are the whole array.
-/
module

public import proofs.«01_k».proof.Proof.Gen.UpIdeal.Value
public import Idealize.ShloMosaic.Lib.Pointwise
public import Idealize.ShloMosaic.Lib.Tactic
public import proofs.«01_k».proof.Proof.AdamRow

@[expose] public section

set_option maxRecDepth 16384

noncomputable section

namespace Cert.UpIdeal.Value

open Cert.UpIdeal Cert.UpIdeal.Gen Cert.AdamRow Idealize.ShloMosaic Idealize.ShloMosaic.TcCoe Idealize.SL.Sem
open Idealize.ShloMosaic.Pipeline (Dat)

/-! ## One block -/

theorem pay_apply (x : Vec Ideal S512x1024 .bf16) (w : Vec Ideal S1024x256 .bf16) (p : Fin 512) (q : Fin 256) :
    k0_pay1 (F := Ideal) x w (ix2 p q) = ∑ k : Fin 1024, x (ix2 p k) * w (ix2 k q) := by
  pointwise [k0_pay1]

/-- The product of a block of rows with the weight. -/
def prodAt (x : Vec Ideal S512x1024 .bf16) (w : Vec Ideal S1024x2816 .bf16) (j : S512x2816.Idx) : EReal :=
  ∑ k : Fin 1024, x (ix2 (j 0) k) * w (ix2 k (j 1))

/-- What is stored for the 256 columns from `o` on are those columns of the product. -/
theorem piece_apply (x : Vec Ideal S512x1024 .bf16) (w : Vec Ideal S1024x2816 .bf16) (o : Nat) (ho : o + 256 ≤ 2816)
    (inbW : ∀ a, (![0, o] : Fin 2 → Nat) a + S1024x256.size a ≤ S1024x2816.size a) (off : Fin 2 → Nat) (hoff : off = ![0, o])
    (inbO : ∀ a, off a + S512x256.size a ≤ S512x2816.size a) (y : S512x256.Idx) :
    k0_pay1 (F := Ideal) (View.ld x r0_0) (View.ld w (Rect.unit (s := S1024x2816) ![0, o] S1024x256.size inbW)) y
      = prodAt x w ((Rect.unit (s := S512x2816) off S512x256.size inbO).emb y) := by
  subst hoff
  obtain ⟨p, q, rfl⟩ : ∃ (p : Fin 512) (q : Fin 256), y = ix2 p q := ⟨y 0, y 1, eq_ix2 y⟩
  have hO : (Rect.unit (s := S512x2816) ![0, o] S512x256.size inbO).emb (ix2 p q) = ix2 p (⟨o + q.val, by omega⟩ : Fin 2816) := by
    refine Rect.emb_eq_of_coords _ _ _ fun a => ?_
    match a with
    | ⟨0, _⟩ => show p.val = 0 + 1 * p.val; omega
    | ⟨1, _⟩ => show o + q.val = o + 1 * q.val; omega
  rw [pay_apply, hO, View.ld_unit_zero (S := S512x1024) (by decide)]
  refine Finset.sum_congr rfl fun k _ => congrArg₂ (· * ·) rfl (congrArg w ?_)
  refine Rect.emb_eq_of_coords _ _ _ fun a => ?_
  match a with
  | ⟨0, _⟩ => show k.val = 0 + 1 * k.val; omega
  | ⟨1, _⟩ => show o + q.val = o + 1 * q.val; omega

/-- The 11 stores leave the product. -/
theorem out_apply (x : Vec Ideal S512x1024 .bf16) (w : Vec Ideal S1024x2816 .bf16) (j : S512x2816.Idx) :
    out0_2 (F := Ideal) x w j = prodAt x w j := by
  unfold out0_2
  refine View.canon_apply_of_pieces (Val := Elt Ideal) (e := .bf16) (prodAt x w) _ (fun pc hpc y => ?_) j (cover0_2 _ _ _ _ _ _ _ _ _ _ _ j)
  simp only [List.mem_cons, List.not_mem_nil, or_false] at hpc
  rcases hpc with rfl | rfl | rfl | rfl | rfl | rfl | rfl | rfl | rfl | rfl | rfl
  · exact piece_apply x w 2560 (by decide) _ k0_off12 (by decide) k0_off12_inb y
  · exact piece_apply x w 2304 (by decide) _ k0_off11 (by decide) k0_off11_inb y
  · exact piece_apply x w 2048 (by decide) _ k0_off10 (by decide) k0_off10_inb y
  · exact piece_apply x w 1792 (by decide) _ k0_off9 (by decide) k0_off9_inb y
  · exact piece_apply x w 1536 (by decide) _ k0_off8 (by decide) k0_off8_inb y
  · exact piece_apply x w 1280 (by decide) _ k0_off7 (by decide) k0_off7_inb y
  · exact piece_apply x w 1024 (by decide) _ k0_off6 (by decide) k0_off6_inb y
  · exact piece_apply x w 768 (by decide) _ k0_off5 (by decide) k0_off5_inb y
  · exact piece_apply x w 512 (by decide) _ k0_off4 (by decide) k0_off4_inb y
  · exact piece_apply x w 256 (by decide) _ k0_off3 (by decide) k0_off3_inb y
  · exact piece_apply x w 0 (by decide) _ k0_off2 (by decide) k0_off2_inb y

/-! ## The whole array -/

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = t.val ∧ win0_2.index t (1 : Fin 2) = 0 := (by decide +kernel : ∀ t : Fin grid0.N, _)

theorem lt8 (t : Fin cfg0.N) : t.val < 8 := lt_of_lt_of_eq t.isLt N_0

/-- Row `p` of block `t`, in the array. -/
def at_ (t : Fin cfg0.N) (p : Fin 512) : Fin 4096 := ⟨512 * t.val + p.val, by have := lt8 t; omega⟩

theorem emb0 (t : Fin cfg0.N) (p : Fin 512) (k : Fin 1024) : ((cfg0.win 0).blk t).view.emb (ix2 p k) = ix2 (at_ t p) k := row2 (at0 t) rfl rfl rfl
theorem emb1 (t : Fin cfg0.N) (p : Fin 1024) (k : Fin 2816) : ((cfg0.win 1).blk t).view.emb (ix2 p k) = ix2 p k := whole2 (at1 t) rfl rfl
theorem emb2 (t : Fin cfg0.N) (p : Fin 512) (k : Fin 2816) : ((cfg0.win 2).blk t).view.emb (ix2 p k) = ix2 (at_ t p) k := row2 (at2 t) rfl rfl rfl

/-- The product of two arrays. -/
def prod (x : S4096x1024.Idx → EReal) (w : S1024x2816.Idx → EReal) (j : S4096x2816.Idx) : EReal :=
  ∑ k : Fin 1024, x (ix2 (j 0) k) * w (ix2 k (j 1))

variable (m : (ℓ : Loc nD τ sig) → Buf (Elt Ideal) ℓ) (ρ : Dev nD → PrngReg)

/-- That, of the argument arrays. -/
def PR (c : Dev nD) : S4096x2816.Idx → EReal :=
  prod (m ((c : Thread nD τ).loc main_arg0)) (m ((c : Thread nD τ).loc main_arg1))

theorem iblk0_apply (c : Dev nD) (t : Fin cfg0.N) (p : Fin 512) (k : Fin 1024) :
    (iblk m c 0 t : Vec Ideal S512x1024 .bf16) (ix2 p k) = m ((c : Thread nD τ).loc main_arg0) (ix2 (at_ t p) k) := by
  show V m c main_arg0 (((cfg0.win 0).blk t).view.emb (ix2 p k)) = _; rw [emb0, V_main_arg0]
theorem iblk1_apply (c : Dev nD) (t : Fin cfg0.N) (p : Fin 1024) (k : Fin 2816) :
    (iblk m c 1 t : Vec Ideal S1024x2816 .bf16) (ix2 p k) = m ((c : Thread nD τ).loc main_arg1) (ix2 p k) := by
  show V m c main_arg1 (((cfg0.win 1).blk t).view.emb (ix2 p k)) = _; rw [emb1, V_main_arg1]

theorem flushed2_eq (c : Dev nD) (t : Fin cfg0.N) : (dats m 0 c).flushed 2 t = ((cfg0.win 2).blk t).view.read (Elt Ideal) (PR m c) := by
  rw [flushed2]
  funext j
  obtain ⟨p, q, rfl⟩ : ∃ (p : Fin 512) (q : Fin 2816), j = ix2 p q := ⟨j 0, j 1, eq_ix2 j⟩
  show out0_2 (F := Ideal) (iblk m c 0 t) (iblk m c 1 t) (ix2 p q) = PR m c (((cfg0.win 2).blk t).view.emb (ix2 p q))
  rw [emb2, out_apply]
  exact (Finset.sum_congr rfl fun k _ => congrArg₂ (fun a b : EReal => a * b) (iblk0_apply m c t p k) (iblk1_apply m c t k q) :
    prodAt (iblk m c 0 t) (iblk m c 1 t) (ix2 p q) = PR m c (ix2 (at_ t p) q))

theorem final2 (c : Dev nD) : (dats m 0 c).arrAt 2 cfg0.N = PR m c :=
  (dats m 0 c).arrAt_eq_of_cover 2 (PR m c) (fun t _ => flushed2_eq m c t) fun i => by
    obtain ⟨P, q, rfl⟩ : ∃ (P : Fin 4096) (q : Fin 2816), i = ix2 P q := ⟨i 0, i 1, eq_ix2 i⟩
    have hN : P.val / 512 < cfg0.N := by rw [show cfg0.N = 8 from N_0]; omega
    refine ⟨⟨P.val / 512, hN⟩, flush0_2 _, ?_⟩
    have e : ((cfg0.win 2).blk ⟨P.val / 512, hN⟩).view.emb (ix2 (⟨P.val % 512, by omega⟩ : Fin 512) q) = ix2 P q :=
      (emb2 _ _ _).trans (congrArg (fun z => ix2 z q) (Fin.ext (by show 512 * (P.val / 512) + P.val % 512 = P.val; omega)))
    exact e ▸ ((cfg0.win 2).blk ⟨P.val / 512, hN⟩).view.emb_mem_set (ix2 (⟨P.val % 512, by omega⟩ : Fin 512) q)

/-- The run, its result named. -/
theorem run_prod : θ_run defs (onTc (τ := τ) (main (F := Ideal))) ⟨m, fun _ => 0, ρ⟩ fun r => ∀ c : Dev nD,
      r.2.mem ((c : Thread nD τ).loc main_v0) = PR m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (run_blocks m ρ)

end Cert.UpIdeal.Value

end
-- ==== Proof.DownProduct.lean ====
/-
  The forward product with the down-projection and the residual: at each of the eight grid points 512 rows; together they are the
  whole array.
-/
module

public import proofs.«01_k».proof.Proof.Gen.DownIdeal.Value
public import Idealize.ShloMosaic.Lib.Pointwise
public import Idealize.ShloMosaic.Lib.Tactic
public import proofs.«01_k».proof.Proof.AdamRow

@[expose] public section

set_option maxRecDepth 16384

noncomputable section

namespace Cert.DownIdeal.Value

open Cert.DownIdeal Cert.DownIdeal.Gen Cert.AdamRow Idealize.ShloMosaic Idealize.ShloMosaic.TcCoe Idealize.SL.Sem
open Idealize.ShloMosaic.Pipeline (Dat)

/-! ## One block -/

theorem pay_apply (x : Vec Ideal S512x2816 .bf16) (w : Vec Ideal S2816x1024 .bf16) (r : Vec Ideal S512x1024 .f32) (p : Fin 512) (q : Fin 1024) :
    k0_pay1 (F := Ideal) x w r (ix2 p q) = (∑ k : Fin 2816, x (ix2 p k) * w (ix2 k q)) + r (ix2 p q) := by
  pointwise [k0_pay1]

/-- The one store leaves the product plus the residual. -/
theorem out_apply (x : Vec Ideal S512x2816 .bf16) (w : Vec Ideal S2816x1024 .bf16) (r : Vec Ideal S512x1024 .f32) (p : Fin 512) (q : Fin 1024) :
    out0_3 (F := Ideal) x w r (ix2 p q) = (∑ k : Fin 2816, x (ix2 p k) * w (ix2 k q)) + r (ix2 p q) := by
  unfold out0_3
  rw [View.canon_unit_zero (S := S512x1024) (by decide), View.ld_unit_zero (S := S512x2816) (by decide), View.ld_unit_zero (S := S2816x1024) (by decide),
    View.ld_unit_zero (S := S512x1024) (by decide)]
  exact pay_apply x w r p q

/-! ## The whole array -/

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = t.val ∧ win0_2.index t (1 : Fin 2) = 0 := (by decide +kernel : ∀ t : Fin grid0.N, _)
theorem at3 : ∀ t : Fin cfg0.N, win0_3.index t (0 : Fin 2) = t.val ∧ win0_3.index t (1 : Fin 2) = 0 := (by decide +kernel : ∀ t : Fin grid0.N, _)

theorem lt8 (t : Fin cfg0.N) : t.val < 8 := lt_of_lt_of_eq t.isLt N_0

/-- Row `p` of block `t`, in the array. -/
def at_ (t : Fin cfg0.N) (p : Fin 512) : Fin 4096 := ⟨512 * t.val + p.val, by have := lt8 t; omega⟩

theorem emb0 (t : Fin cfg0.N) (p : Fin 512) (k : Fin 2816) : ((cfg0.win 0).blk t).view.emb (ix2 p k) = ix2 (at_ t p) k := row2 (at0 t) rfl rfl rfl
theorem emb1 (t : Fin cfg0.N) (p : Fin 2816) (k : Fin 1024) : ((cfg0.win 1).blk t).view.emb (ix2 p k) = ix2 p k := whole2 (at1 t) rfl rfl
theorem emb2 (t : Fin cfg0.N) (p : Fin 512) (k : Fin 1024) : ((cfg0.win 2).blk t).view.emb (ix2 p k) = ix2 (at_ t p) k := row2 (at2 t) rfl rfl rfl
theorem emb3 (t : Fin cfg0.N) (p : Fin 512) (k : Fin 1024) : ((cfg0.win 3).blk t).view.emb (ix2 p k) = ix2 (at_ t p) k := row2 (at3 t) rfl rfl rfl

/-- A product of two arrays plus a third. -/
def prod (x : S4096x2816.Idx → EReal) (w : S2816x1024.Idx → EReal) (r : S4096x1024.Idx → EReal) (j : S4096x1024.Idx) : EReal :=
  (∑ k : Fin 2816, x (ix2 (j 0) k) * w (ix2 k (j 1))) + r j

variable (m : (ℓ : Loc nD τ sig) → Buf (Elt Ideal) ℓ) (ρ : Dev nD → PrngReg)

/-- That, of the argument arrays. -/
def PR (c : Dev nD) : S4096x1024.Idx → EReal :=
  prod (m ((c : Thread nD τ).loc main_arg0)) (m ((c : Thread nD τ).loc main_arg1)) (m ((c : Thread nD τ).loc main_arg2))

theorem iblk0_apply (c : Dev nD) (t : Fin cfg0.N) (p : Fin 512) (k : Fin 2816) :
    (iblk m c 0 t : Vec Ideal S512x2816 .bf16) (ix2 p k) = m ((c : Thread nD τ).loc main_arg0) (ix2 (at_ t p) k) := by
  show V m c main_arg0 (((cfg0.win 0).blk t).view.emb (ix2 p k)) = _; rw [emb0, V_main_arg0]
theorem iblk1_apply (c : Dev nD) (t : Fin cfg0.N) (p : Fin 2816) (k : Fin 1024) :
    (iblk m c 1 t : Vec Ideal S2816x1024 .bf16) (ix2 p k) = m ((c : Thread nD τ).loc main_arg1) (ix2 p k) := by
  show V m c main_arg1 (((cfg0.win 1).blk t).view.emb (ix2 p k)) = _; rw [emb1, V_main_arg1]
theorem iblk2_apply (c : Dev nD) (t : Fin cfg0.N) (p : Fin 512) (k : Fin 1024) :
    (iblk m c 2 t : Vec Ideal S512x1024 .f32) (ix2 p k) = m ((c : Thread nD τ).loc main_arg2) (ix2 (at_ t p) k) := by
  show V m c main_arg2 (((cfg0.win 2).blk t).view.emb (ix2 p k)) = _; rw [emb2, V_main_arg2]

theorem flushed3_eq (c : Dev nD) (t : Fin cfg0.N) : (dats m 0 c).flushed 3 t = ((cfg0.win 3).blk t).view.read (Elt Ideal) (PR m c) := by
  rw [flushed3]
  funext j
  obtain ⟨p, q, rfl⟩ : ∃ (p : Fin 512) (q : Fin 1024), j = ix2 p q := ⟨j 0, j 1, eq_ix2 j⟩
  show out0_3 (F := Ideal) (iblk m c 0 t) (iblk m c 1 t) (iblk m c 2 t) (ix2 p q) = PR m c (((cfg0.win 3).blk t).view.emb (ix2 p q))
  rw [emb3, out_apply, iblk2_apply]
  refine congrArg₂ (fun a b : EReal => a + b) (Finset.sum_congr rfl fun k _ => ?_) rfl
  exact congrArg₂ (fun a b : EReal => a * b) (iblk0_apply m c t p k) (iblk1_apply m c t k q)

theorem final3 (c : Dev nD) : (dats m 0 c).arrAt 3 cfg0.N = PR m c :=
  (dats m 0 c).arrAt_eq_of_cover 3 (PR m c) (fun t _ => flushed3_eq m c t) fun i => by
    obtain ⟨P, q, rfl⟩ : ∃ (P : Fin 4096) (q : Fin 1024), i = ix2 P q := ⟨i 0, i 1, eq_ix2 i⟩
    have hN : P.val / 512 < cfg0.N := by rw [show cfg0.N = 8 from N_0]; omega
    refine ⟨⟨P.val / 512, hN⟩, flush0_3 _, ?_⟩
    have e : ((cfg0.win 3).blk ⟨P.val / 512, hN⟩).view.emb (ix2 (⟨P.val % 512, by omega⟩ : Fin 512) q) = ix2 P q :=
      (emb3 _ _ _).trans (congrArg (fun z => ix2 z q) (Fin.ext (by show 512 * (P.val / 512) + P.val % 512 = P.val; omega)))
    exact e ▸ ((cfg0.win 3).blk ⟨P.val / 512, hN⟩).view.emb_mem_set (ix2 (⟨P.val % 512, by omega⟩ : Fin 512) q)

/-- The run, its result named. -/
theorem run_prod : θ_run defs (onTc (τ := τ) (main (F := Ideal))) ⟨m, fun _ => 0, ρ⟩ fun r => ∀ c : Dev nD,
      r.2.mem ((c : Thread nD τ).loc main_v0) = PR m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩) (run_blocks m ρ)

end Cert.DownIdeal.Value

end
-- ==== Proof.DactProduct.lean ====
/-
  The gradient that enters the gate, a product with the transposed down-projection: at each of the eight grid points 512 rows of
  it, 256 columns at a time; together they are the whole array.
-/
module

public import proofs.«01_k».proof.Proof.Gen.DactIdeal.Value
public import Idealize.ShloMosaic.Lib.Pointwise
public import Idealize.ShloMosaic.Lib.Tactic
public import proofs.«01_k».proof.Proof.AdamRow

@[expose] public section

set_option maxRecDepth 16384

noncomputable section

namespace Cert.DactIdeal.Value

open Cert.DactIdeal Cert.DactIdeal.Gen Cert.AdamRow Idealize.ShloMosaic Idealize.ShloMosaic.TcCoe Idealize.SL.Sem
open Idealize.ShloMosaic.Pipeline (Dat)

/-! ## One block -/

theorem pay_apply (x : Vec Ideal S512x1024 .bf16) (w : Vec Ideal S256x1024 .bf16) (p : Fin 512) (q : Fin 256) :
    k0_pay1 (F := Ideal) x w (ix2 p q) = ∑ k : Fin 1024, x (ix2 p k) * w (ix2 q k) := by
  pointwise [k0_pay1]

/-- The product of a block of rows with the transposed weight. -/
def prodAt (x : Vec Ideal S512x1024 .bf16) (w : Vec Ideal S2816x1024 .bf16) (j : S512x2816.Idx) : EReal :=
  ∑ k : Fin 1024, x (ix2 (j 0) k) * w (ix2 (j 1) k)

/-- What is stored for the 256 columns from `o` on are those columns of the product. -/
theorem piece_apply (x : Vec Ideal S512x1024 .bf16) (w : Vec Ideal S2816x1024 .bf16) (o : Nat) (ho : o + 256 ≤ 2816)
    (inbW : ∀ a, (![o, 0] : Fin 2 → Nat) a + S256x1024.size a ≤ S2816x1024.size a) (off : Fin 2 → Nat) (hoff : off = ![0, o])
    (inbO : ∀ a, off a + S512x256.size a ≤ S512x2816.size a) (y : S512x256.Idx) :
    k0_pay1 (F := Ideal) (View.ld x r0_0) (View.ld w (Rect.unit (s := S2816x1024) ![o, 0] S256x1024.size inbW)) y
      = prodAt x w ((Rect.unit (s := S512x2816) off S512x256.size inbO).emb y) := by
  subst hoff
  obtain ⟨p, q, rfl⟩ : ∃ (p : Fin 512) (q : Fin 256), y = ix2 p q := ⟨y 0, y 1, eq_ix2 y⟩
  have hO : (Rect.unit (s := S512x2816) ![0, o] S512x256.size inbO).emb (ix2 p q) = ix2 p (⟨o + q.val, by omega⟩ : Fin 2816) := by
    refine Rect.emb_eq_of_coords _ _ _ fun a => ?_
    match a with
    | ⟨0, _⟩ => show p.val = 0 + 1 * p.val; omega
    | ⟨1, _⟩ => show o + q.val = o + 1 * q.val; omega
  rw [pay_apply, hO, View.ld_unit_zero (S := S512x1024) (by decide)]
  refine Finset.sum_congr rfl fun k _ => congrArg₂ (· * ·) rfl (congrArg w ?_)
  refine Rect.emb_eq_of_coords _ _ _ fun a => ?_
  match a with
  | ⟨0, _⟩ => show o + q.val = o + 1 * q.val; omega
  | ⟨1, _⟩ => show k.val = 0 + 1 * k.val; omega

/-- The 11 stores leave the product. -/
theorem out_apply (x : Vec Ideal S512x1024 .bf16) (w : Vec Ideal S2816x1024 .bf16) (j : S512x2816.Idx) :
    out0_2 (F := Ideal) x w j = prodAt x w j := by
  unfold out0_2
  refine View.canon_apply_of_pieces (Val := Elt Ideal) (e := .bf16) (prodAt x w) _ (fun pc hpc y => ?_) j (cover0_2 _ _ _ _ _ _ _ _ _ _ _ j)
  simp only [List.mem_cons, List.not_mem_nil, or_false] at hpc
  rcases hpc with rfl | rfl | rfl | rfl | rfl | rfl | rfl | rfl | rfl | rfl | rfl
  · exact piece_apply x w 2560 (by decide) _ k0_off12 (by decide) k0_off12_inb y
  · exact piece_apply x w 2304 (by decide) _ k0_off11 (by decide) k0_off11_inb y
  · exact piece_apply x w 2048 (by decide) _ k0_off10 (by decide) k0_off10_inb y
  · exact piece_apply x w 1792 (by decide) _ k0_off9 (by decide) k0_off9_inb y
  · exact piece_apply x w 1536 (by decide) _ k0_off8 (by decide) k0_off8_inb y
  · exact piece_apply x w 1280 (by decide) _ k0_off7 (by decide) k0_off7_inb y
  · exact piece_apply x w 1024 (by decide) _ k0_off6 (by decide) k0_off6_inb y
  · exact piece_apply x w 768 (by decide) _ k0_off5 (by decide) k0_off5_inb y
  · exact piece_apply x w 512 (by decide) _ k0_off4 (by decide) k0_off4_inb y
  · exact piece_apply x w 256 (by decide) _ k0_off3 (by decide) k0_off3_inb y
  · exact piece_apply x w 0 (by decide) _ k0_off2 (by decide) k0_off2_inb y

/-! ## The whole array -/

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = t.val ∧ win0_2.index t (1 : Fin 2) = 0 := (by decide +kernel : ∀ t : Fin grid0.N, _)

theorem lt8 (t : Fin cfg0.N) : t.val < 8 := lt_of_lt_of_eq t.isLt N_0

/-- Row `p` of block `t`, in the array. -/
def at_ (t : Fin cfg0.N) (p : Fin 512) : Fin 4096 := ⟨512 * t.val + p.val, by have := lt8 t; omega⟩

theorem emb0 (t : Fin cfg0.N) (p : Fin 512) (k : Fin 1024) : ((cfg0.win 0).blk t).view.emb (ix2 p k) = ix2 (at_ t p) k := row2 (at0 t) rfl rfl rfl
theorem emb1 (t : Fin cfg0.N) (p : Fin 2816) (k : Fin 1024) : ((cfg0.win 1).blk t).view.emb (ix2 p k) = ix2 p k := whole2 (at1 t) rfl rfl
theorem emb2 (t : Fin cfg0.N) (p : Fin 512) (k : Fin 2816) : ((cfg0.win 2).blk t).view.emb (ix2 p k) = ix2 (at_ t p) k := row2 (at2 t) rfl rfl rfl

/-- The product of an array with the transpose of another. -/
def prod (x : S4096x1024.Idx → EReal) (w : S2816x1024.Idx → EReal) (j : S4096x2816.Idx) : EReal :=
  ∑ k : Fin 1024, x (ix2 (j 0) k) * w (ix2 (j 1) k)

variable (m : (ℓ : Loc nD τ sig) → Buf (Elt Ideal) ℓ) (ρ : Dev nD → PrngReg)

/-- That, of the argument arrays. -/
def PR (c : Dev nD) : S4096x2816.Idx → EReal :=
  prod (m ((c : Thread nD τ).loc main_arg0)) (m ((c : Thread nD τ).loc main_arg1))

theorem iblk0_apply (c : Dev nD) (t : Fin cfg0.N) (p : Fin 512) (k : Fin 1024) :
    (iblk m c 0 t : Vec Ideal S512x1024 .bf16) (ix2 p k) = m ((c : Thread nD τ).loc main_arg0) (ix2 (at_ t p) k) := by
  show V m c main_arg0 (((cfg0.win 0).blk t).view.emb (ix2 p k)) = _; rw [emb0, V_main_arg0]
theorem iblk1_apply (c : Dev nD) (t : Fin cfg0.N) (p : Fin 2816) (k : Fin 1024) :
    (iblk m c 1 t : Vec Ideal S2816x1024 .bf16) (ix2 p k) = m ((c : Thread nD τ).loc main_arg1) (ix2 p k) := by
  show V m c main_arg1 (((cfg0.win 1).blk t).view.emb (ix2 p k)) = _; rw [emb1, V_main_arg1]

theorem flushed2_eq (c : Dev nD) (t : Fin cfg0.N) : (dats m 0 c).flushed 2 t = ((cfg0.win 2).blk t).view.read (Elt Ideal) (PR m c) := by
  rw [flushed2]
  funext j
  obtain ⟨p, q, rfl⟩ : ∃ (p : Fin 512) (q : Fin 2816), j = ix2 p q := ⟨j 0, j 1, eq_ix2 j⟩
  show out0_2 (F := Ideal) (iblk m c 0 t) (iblk m c 1 t) (ix2 p q) = PR m c (((cfg0.win 2).blk t).view.emb (ix2 p q))
  rw [emb2, out_apply]
  exact (Finset.sum_congr rfl fun k _ => congrArg₂ (fun a b : EReal => a * b) (iblk0_apply m c t p k) (iblk1_apply m c t q k) :
    prodAt (iblk m c 0 t) (iblk m c 1 t) (ix2 p q) = PR m c (ix2 (at_ t p) q))

theorem final2 (c : Dev nD) : (dats m 0 c).arrAt 2 cfg0.N = PR m c :=
  (dats m 0 c).arrAt_eq_of_cover 2 (PR m c) (fun t _ => flushed2_eq m c t) fun i => by
    obtain ⟨P, q, rfl⟩ : ∃ (P : Fin 4096) (q : Fin 2816), i = ix2 P q := ⟨i 0, i 1, eq_ix2 i⟩
    have hN : P.val / 512 < cfg0.N := by rw [show cfg0.N = 8 from N_0]; omega
    refine ⟨⟨P.val / 512, hN⟩, flush0_2 _, ?_⟩
    have e : ((cfg0.win 2).blk ⟨P.val / 512, hN⟩).view.emb (ix2 (⟨P.val % 512, by omega⟩ : Fin 512) q) = ix2 P q :=
      (emb2 _ _ _).trans (congrArg (fun z => ix2 z q) (Fin.ext (by show 512 * (P.val / 512) + P.val % 512 = P.val; omega)))
    exact e ▸ ((cfg0.win 2).blk ⟨P.val / 512, hN⟩).view.emb_mem_set (ix2 (⟨P.val % 512, by omega⟩ : Fin 512) q)

/-- The run, its result named. -/
theorem run_prod : θ_run defs (onTc (τ := τ) (main (F := Ideal))) ⟨m, fun _ => 0, ρ⟩ fun r => ∀ c : Dev nD,
      r.2.mem ((c : Thread nD τ).loc main_v0) = PR m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (run_blocks m ρ)

end Cert.DactIdeal.Value

end
-- ==== Proof.FfnClaims.lean ====
/- The claims about the feed-forward products, put together: each call and its reference end with the same array. -/
module

public import proofs.«01_k».proof.Defs
public import proofs.«01_k».proof.Proof.Gen.Up.Frame
public import proofs.«01_k».proof.Proof.Gen.UpIdeal.Frame
public import proofs.«01_k».proof.Proof.Gen.UpRefIdeal.Run
public import proofs.«01_k».proof.Proof.Gen.UpRefIdeal.Read
public import proofs.«01_k».proof.Proof.Gen.Down.Frame
public import proofs.«01_k».proof.Proof.Gen.DownIdeal.Frame
public import proofs.«01_k».proof.Proof.Gen.DownRefIdeal.Run
public import proofs.«01_k».proof.Proof.Gen.DownRefIdeal.Read
public import proofs.«01_k».proof.Proof.Gen.Dact.Frame
public import proofs.«01_k».proof.Proof.Gen.DactIdeal.Frame
public import proofs.«01_k».proof.Proof.Gen.DactRefIdeal.Run
public import proofs.«01_k».proof.Proof.Gen.DactRefIdeal.Read
public import proofs.«01_k».proof.Proof.UpProduct
public import proofs.«01_k».proof.Proof.DownProduct
public import proofs.«01_k».proof.Proof.DactProduct
public import Idealize.ShloMosaic.Lib.Quiescent

@[expose] public section

set_option maxRecDepth 16384

noncomputable section

namespace Cert.Proof

open Idealize.ShloMosaic Idealize.SL.Sem

/-! ## The up-projection -/

section Up
open Cert.UpRefIdeal Cert.UpRefIdeal.Read

theorem upRef_apply (x : (⟨S4096x1024, .bf16⟩ : BufTy).Contents (Elt Ideal)) (w : (⟨S1024x2816, .bf16⟩ : BufTy).Contents (Elt Ideal))
    (p : Fin 4096) (q : Fin 2816) :
    val_main_v3 (F := Ideal) x w (ix2 p q) = Cert.UpIdeal.Value.prod x w (ix2 p q) := by
  pointwise [val_main_v3, val_main_v2, val_main_v1, val_main_v0]
  rfl

theorem upRef_frame : quiescent_UpRefIdeal := fun m ρ _ =>
  (θ_run _ _ _).mono (fun r h => ⟨fun c => (h c).2, sem_eq_zero_of_no_sems (by decide) r.2⟩)
    (Cert.UpRefIdeal.Value.run (F := Ideal) m ρ)

/-- The kernel and the product end with equal results. -/
theorem up_algebraic : algebraic_UpIdeal_UpRefIdeal := fun m ρ m' ρ' _ hag => by
  refine ⟨fun c => Cert.UpIdeal.Value.PR m c, Cert.UpIdeal.Value.run_prod m ρ,
    (θ_run _ _ _).mono (fun r h c => ?_) (Cert.UpRefIdeal.Value.run (F := Ideal) m' ρ')⟩
  obtain ⟨h0, h1⟩ := h c
  obtain ⟨a0, a1⟩ := hag c
  refine ⟨h0.trans (funext fun i => ?_), h1⟩
  rw [eq_ix2 i, val_main_v3_eq, a0, a1]
  exact upRef_apply _ _ _ _

end Up

/-! ## The down-projection with the residual -/

section Down
open Cert.DownRefIdeal Cert.DownRefIdeal.Read

theorem downRef_apply (x : (⟨S4096x2816, .bf16⟩ : BufTy).Contents (Elt Ideal)) (w : (⟨S2816x1024, .bf16⟩ : BufTy).Contents (Elt Ideal))
    (r : (⟨S4096x1024, .f32⟩ : BufTy).Contents (Elt Ideal)) (p : Fin 4096) (q : Fin 1024) :
    val_main_v3 (F := Ideal) x w r (ix2 p q) = Cert.DownIdeal.Value.prod x w r (ix2 p q) := by
  pointwise [val_main_v3, val_main_v2, val_main_v1, val_main_v0]
  exact add_comm _ _

theorem downRef_frame : quiescent_DownRefIdeal := fun m ρ _ =>
  (θ_run _ _ _).mono (fun r h => ⟨fun c => (h c).2, sem_eq_zero_of_no_sems (by decide) r.2⟩)
    (Cert.DownRefIdeal.Value.run (F := Ideal) m ρ)

/-- The kernel and the residual plus the product end with equal results. -/
theorem down_algebraic : algebraic_DownIdeal_DownRefIdeal := fun m ρ m' ρ' _ hag => by
  refine ⟨fun c => Cert.DownIdeal.Value.PR m c, Cert.DownIdeal.Value.run_prod m ρ,
    (θ_run _ _ _).mono (fun r h c => ?_) (Cert.DownRefIdeal.Value.run (F := Ideal) m' ρ')⟩
  obtain ⟨h0, h1⟩ := h c
  obtain ⟨a0, a1, a2⟩ := hag c
  refine ⟨h0.trans (funext fun i => ?_), h1⟩
  rw [eq_ix2 i, val_main_v3_eq, a0, a1, a2]
  exact downRef_apply _ _ _ _ _

end Down

/-! ## The gradient that enters the gate -/

section Dact
open Cert.DactRefIdeal Cert.DactRefIdeal.Read

theorem dactRef_apply (x : (⟨S4096x1024, .bf16⟩ : BufTy).Contents (Elt Ideal)) (w : (⟨S2816x1024, .bf16⟩ : BufTy).Contents (Elt Ideal))
    (p : Fin 4096) (q : Fin 2816) :
    val_main_v5 (F := Ideal) x w (ix2 p q) = Cert.DactIdeal.Value.prod x w (ix2 p q) := by
  pointwise [val_main_v5, val_main_v4, val_main_v3, val_main_v0]
  rfl

theorem dactRef_frame : quiescent_DactRefIdeal := fun m ρ _ =>
  (θ_run _ _ _).mono (fun r h => ⟨fun c => (h c).2, sem_eq_zero_of_no_sems (by decide) r.2⟩)
    (Cert.DactRefIdeal.Value.run (F := Ideal) m ρ)

/-- The kernel and the derivative of the product end with equal results. -/
theorem dact_algebraic : algebraic_DactIdeal_DactRefIdeal := fun m ρ m' ρ' _ hag => by
  refine ⟨fun c => Cert.DactIdeal.Value.PR m c, Cert.DactIdeal.Value.run_prod m ρ,
    (θ_run _ _ _).mono (fun r h c => ?_) (Cert.DactRefIdeal.Value.run (F := Ideal) m' ρ')⟩
  obtain ⟨h0, h1⟩ := h c
  obtain ⟨a0, a1⟩ := hag c
  refine ⟨h0.trans (funext fun i => ?_), h1⟩
  rw [eq_ix2 i, val_main_v5_eq, a0, a1]
  exact dactRef_apply _ _ _ _

end Dact

end Cert.Proof

end
-- ==== Proof.ProjProduct.lean ====
/-
  The forward product with a projection to queries, keys and values: at each of the eight grid points 512 rows of the
  product, 512 columns at a time; together they are the whole array.
-/
module

public import proofs.«01_k».proof.Proof.Gen.ProjIdeal.Value
public import Idealize.ShloMosaic.Lib.Pointwise
public import Idealize.ShloMosaic.Lib.Tactic
public import proofs.«01_k».proof.Proof.AdamRow

@[expose] public section

set_option maxRecDepth 16384

noncomputable section

namespace Cert.ProjIdeal.Value

open Cert.ProjIdeal Cert.ProjIdeal.Gen Cert.AdamRow Idealize.ShloMosaic Idealize.ShloMosaic.TcCoe Idealize.SL.Sem
open Idealize.ShloMosaic.Pipeline (Dat)

/-! ## One block -/

theorem pay_apply (x : Vec Ideal S512x1024 .bf16) (w : Vec Ideal S1024x512 .bf16) (p : Fin 512) (q : Fin 512) :
    k0_pay1 (F := Ideal) x w (ix2 p q) = ∑ k : Fin 1024, x (ix2 p k) * w (ix2 k q) := by
  pointwise [k0_pay1]

/-- The product of a block of rows with the weight. -/
def prodAt (x : Vec Ideal S512x1024 .bf16) (w : Vec Ideal S1024x3072 .bf16) (j : S512x3072.Idx) : EReal :=
  ∑ k : Fin 1024, x (ix2 (j 0) k) * w (ix2 k (j 1))

/-- What is stored for the 512 columns from `o` on are those columns of the product. -/
theorem piece_apply (x : Vec Ideal S512x1024 .bf16) (w : Vec Ideal S1024x3072 .bf16) (o : Nat) (ho : o + 512 ≤ 3072)
    (inbW : ∀ a, (![0, o] : Fin 2 → Nat) a + S1024x512.size a ≤ S1024x3072.size a) (off : Fin 2 → Nat) (hoff : off = ![0, o])
    (inbO : ∀ a, off a + S512x512.size a ≤ S512x3072.size a) (y : S512x512.Idx) :
    k0_pay1 (F := Ideal) (View.ld x r0_0) (View.ld w (Rect.unit (s := S1024x3072) ![0, o] S1024x512.size inbW)) y
      = prodAt x w ((Rect.unit (s := S512x3072) off S512x512.size inbO).emb y) := by
  subst hoff
  obtain ⟨p, q, rfl⟩ : ∃ (p : Fin 512) (q : Fin 512), y = ix2 p q := ⟨y 0, y 1, eq_ix2 y⟩
  have hO : (Rect.unit (s := S512x3072) ![0, o] S512x512.size inbO).emb (ix2 p q) = ix2 p (⟨o + q.val, by omega⟩ : Fin 3072) := by
    refine Rect.emb_eq_of_coords _ _ _ fun a => ?_
    match a with
    | ⟨0, _⟩ => show p.val = 0 + 1 * p.val; omega
    | ⟨1, _⟩ => show o + q.val = o + 1 * q.val; omega
  rw [pay_apply, hO, View.ld_unit_zero (S := S512x1024) (by decide)]
  refine Finset.sum_congr rfl fun k _ => congrArg₂ (· * ·) rfl (congrArg w ?_)
  refine Rect.emb_eq_of_coords _ _ _ fun a => ?_
  match a with
  | ⟨0, _⟩ => show k.val = 0 + 1 * k.val; omega
  | ⟨1, _⟩ => show o + q.val = o + 1 * q.val; omega

/-- The 6 stores leave the product. -/
theorem out_apply (x : Vec Ideal S512x1024 .bf16) (w : Vec Ideal S1024x3072 .bf16) (j : S512x3072.Idx) :
    out0_2 (F := Ideal) x w j = prodAt x w j := by
  unfold out0_2
  refine View.canon_apply_of_pieces (Val := Elt Ideal) (e := .bf16) (prodAt x w) _ (fun pc hpc y => ?_) j (cover0_2 _ _ _ _ _ _ j)
  simp only [List.mem_cons, List.not_mem_nil, or_false] at hpc
  rcases hpc with rfl | rfl | rfl | rfl | rfl | rfl
  · exact piece_apply x w 2560 (by decide) _ k0_off7 (by decide) k0_off7_inb y
  · exact piece_apply x w 2048 (by decide) _ k0_off6 (by decide) k0_off6_inb y
  · exact piece_apply x w 1536 (by decide) _ k0_off5 (by decide) k0_off5_inb y
  · exact piece_apply x w 1024 (by decide) _ k0_off4 (by decide) k0_off4_inb y
  · exact piece_apply x w 512 (by decide) _ k0_off3 (by decide) k0_off3_inb y
  · exact piece_apply x w 0 (by decide) _ k0_off2 (by decide) k0_off2_inb y

/-! ## The whole array -/

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = t.val ∧ win0_2.index t (1 : Fin 2) = 0 := (by decide +kernel : ∀ t : Fin grid0.N, _)

theorem lt8 (t : Fin cfg0.N) : t.val < 8 := lt_of_lt_of_eq t.isLt N_0

/-- Row `p` of block `t`, in the array. -/
def at_ (t : Fin cfg0.N) (p : Fin 512) : Fin 4096 := ⟨512 * t.val + p.val, by have := lt8 t; omega⟩

theorem emb0 (t : Fin cfg0.N) (p : Fin 512) (k : Fin 1024) : ((cfg0.win 0).blk t).view.emb (ix2 p k) = ix2 (at_ t p) k := row2 (at0 t) rfl rfl rfl
theorem emb1 (t : Fin cfg0.N) (p : Fin 1024) (k : Fin 3072) : ((cfg0.win 1).blk t).view.emb (ix2 p k) = ix2 p k := whole2 (at1 t) rfl rfl
theorem emb2 (t : Fin cfg0.N) (p : Fin 512) (k : Fin 3072) : ((cfg0.win 2).blk t).view.emb (ix2 p k) = ix2 (at_ t p) k := row2 (at2 t) rfl rfl rfl

/-- The product of two arrays. -/
def prod (x : S4096x1024.Idx → EReal) (w : S1024x3072.Idx → EReal) (j : S4096x3072.Idx) : EReal :=
  ∑ k : Fin 1024, x (ix2 (j 0) k) * w (ix2 k (j 1))

variable (m : (ℓ : Loc nD τ sig) → Buf (Elt Ideal) ℓ) (ρ : Dev nD → PrngReg)

/-- That, of the argument arrays. -/
def PR (c : Dev nD) : S4096x3072.Idx → EReal :=
  prod (m ((c : Thread nD τ).loc main_arg0)) (m ((c : Thread nD τ).loc main_arg1))

theorem iblk0_apply (c : Dev nD) (t : Fin cfg0.N) (p : Fin 512) (k : Fin 1024) :
    (iblk m c 0 t : Vec Ideal S512x1024 .bf16) (ix2 p k) = m ((c : Thread nD τ).loc main_arg0) (ix2 (at_ t p) k) := by
  show V m c main_arg0 (((cfg0.win 0).blk t).view.emb (ix2 p k)) = _; rw [emb0, V_main_arg0]
theorem iblk1_apply (c : Dev nD) (t : Fin cfg0.N) (p : Fin 1024) (k : Fin 3072) :
    (iblk m c 1 t : Vec Ideal S1024x3072 .bf16) (ix2 p k) = m ((c : Thread nD τ).loc main_arg1) (ix2 p k) := by
  show V m c main_arg1 (((cfg0.win 1).blk t).view.emb (ix2 p k)) = _; rw [emb1, V_main_arg1]

theorem flushed2_eq (c : Dev nD) (t : Fin cfg0.N) : (dats m 0 c).flushed 2 t = ((cfg0.win 2).blk t).view.read (Elt Ideal) (PR m c) := by
  rw [flushed2]
  funext j
  obtain ⟨p, q, rfl⟩ : ∃ (p : Fin 512) (q : Fin 3072), j = ix2 p q := ⟨j 0, j 1, eq_ix2 j⟩
  show out0_2 (F := Ideal) (iblk m c 0 t) (iblk m c 1 t) (ix2 p q) = PR m c (((cfg0.win 2).blk t).view.emb (ix2 p q))
  rw [emb2, out_apply]
  exact (Finset.sum_congr rfl fun k _ => congrArg₂ (fun a b : EReal => a * b) (iblk0_apply m c t p k) (iblk1_apply m c t k q) :
    prodAt (iblk m c 0 t) (iblk m c 1 t) (ix2 p q) = PR m c (ix2 (at_ t p) q))

theorem final2 (c : Dev nD) : (dats m 0 c).arrAt 2 cfg0.N = PR m c :=
  (dats m 0 c).arrAt_eq_of_cover 2 (PR m c) (fun t _ => flushed2_eq m c t) fun i => by
    obtain ⟨P, q, rfl⟩ : ∃ (P : Fin 4096) (q : Fin 3072), i = ix2 P q := ⟨i 0, i 1, eq_ix2 i⟩
    have hN : P.val / 512 < cfg0.N := by rw [show cfg0.N = 8 from N_0]; omega
    refine ⟨⟨P.val / 512, hN⟩, flush0_2 _, ?_⟩
    have e : ((cfg0.win 2).blk ⟨P.val / 512, hN⟩).view.emb (ix2 (⟨P.val % 512, by omega⟩ : Fin 512) q) = ix2 P q :=
      (emb2 _ _ _).trans (congrArg (fun z => ix2 z q) (Fin.ext (by show 512 * (P.val / 512) + P.val % 512 = P.val; omega)))
    exact e ▸ ((cfg0.win 2).blk ⟨P.val / 512, hN⟩).view.emb_mem_set (ix2 (⟨P.val % 512, by omega⟩ : Fin 512) q)

/-- The run, its result named. -/
theorem run_prod : θ_run defs (onTc (τ := τ) (main (F := Ideal))) ⟨m, fun _ => 0, ρ⟩ fun r => ∀ c : Dev nD,
      r.2.mem ((c : Thread nD τ).loc main_v0) = PR m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (run_blocks m ρ)

end Cert.ProjIdeal.Value

end
-- ==== Proof.QueryProduct.lean ====
/-
  The forward product with the second layer's query projection: at each of the eight grid points 512 rows of the
  product, 512 columns at a time; together they are the whole array.
-/
module

public import proofs.«01_k».proof.Proof.Gen.QueryIdeal.Value
public import Idealize.ShloMosaic.Lib.Pointwise
public import Idealize.ShloMosaic.Lib.Tactic
public import proofs.«01_k».proof.Proof.AdamRow

@[expose] public section

set_option maxRecDepth 16384

noncomputable section

namespace Cert.QueryIdeal.Value

open Cert.QueryIdeal Cert.QueryIdeal.Gen Cert.AdamRow Idealize.ShloMosaic Idealize.ShloMosaic.TcCoe Idealize.SL.Sem
open Idealize.ShloMosaic.Pipeline (Dat)

/-! ## One block -/

theorem pay_apply (x : Vec Ideal S512x1024 .bf16) (w : Vec Ideal S1024x512 .bf16) (p : Fin 512) (q : Fin 512) :
    k0_pay1 (F := Ideal) x w (ix2 p q) = ∑ k : Fin 1024, x (ix2 p k) * w (ix2 k q) := by
  pointwise [k0_pay1]

/-- The product of a block of rows with the weight. -/
def prodAt (x : Vec Ideal S512x1024 .bf16) (w : Vec Ideal S1024x1536 .bf16) (j : S512x1536.Idx) : EReal :=
  ∑ k : Fin 1024, x (ix2 (j 0) k) * w (ix2 k (j 1))

/-- What is stored for the 512 columns from `o` on are those columns of the product. -/
theorem piece_apply (x : Vec Ideal S512x1024 .bf16) (w : Vec Ideal S1024x1536 .bf16) (o : Nat) (ho : o + 512 ≤ 1536)
    (inbW : ∀ a, (![0, o] : Fin 2 → Nat) a + S1024x512.size a ≤ S1024x1536.size a) (off : Fin 2 → Nat) (hoff : off = ![0, o])
    (inbO : ∀ a, off a + S512x512.size a ≤ S512x1536.size a) (y : S512x512.Idx) :
    k0_pay1 (F := Ideal) (View.ld x r0_0) (View.ld w (Rect.unit (s := S1024x1536) ![0, o] S1024x512.size inbW)) y
      = prodAt x w ((Rect.unit (s := S512x1536) off S512x512.size inbO).emb y) := by
  subst hoff
  obtain ⟨p, q, rfl⟩ : ∃ (p : Fin 512) (q : Fin 512), y = ix2 p q := ⟨y 0, y 1, eq_ix2 y⟩
  have hO : (Rect.unit (s := S512x1536) ![0, o] S512x512.size inbO).emb (ix2 p q) = ix2 p (⟨o + q.val, by omega⟩ : Fin 1536) := by
    refine Rect.emb_eq_of_coords _ _ _ fun a => ?_
    match a with
    | ⟨0, _⟩ => show p.val = 0 + 1 * p.val; omega
    | ⟨1, _⟩ => show o + q.val = o + 1 * q.val; omega
  rw [pay_apply, hO, View.ld_unit_zero (S := S512x1024) (by decide)]
  refine Finset.sum_congr rfl fun k _ => congrArg₂ (· * ·) rfl (congrArg w ?_)
  refine Rect.emb_eq_of_coords _ _ _ fun a => ?_
  match a with
  | ⟨0, _⟩ => show k.val = 0 + 1 * k.val; omega
  | ⟨1, _⟩ => show o + q.val = o + 1 * q.val; omega

/-- The 3 stores leave the product. -/
theorem out_apply (x : Vec Ideal S512x1024 .bf16) (w : Vec Ideal S1024x1536 .bf16) (j : S512x1536.Idx) :
    out0_2 (F := Ideal) x w j = prodAt x w j := by
  unfold out0_2
  refine View.canon_apply_of_pieces (Val := Elt Ideal) (e := .bf16) (prodAt x w) _ (fun pc hpc y => ?_) j (cover0_2 _ _ _ j)
  simp only [List.mem_cons, List.not_mem_nil, or_false] at hpc
  rcases hpc with rfl | rfl | rfl
  · exact piece_apply x w 1024 (by decide) _ k0_off4 (by decide) k0_off4_inb y
  · exact piece_apply x w 512 (by decide) _ k0_off3 (by decide) k0_off3_inb y
  · exact piece_apply x w 0 (by decide) _ k0_off2 (by decide) k0_off2_inb y

/-! ## The whole array -/

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = t.val ∧ win0_2.index t (1 : Fin 2) = 0 := (by decide +kernel : ∀ t : Fin grid0.N, _)

theorem lt8 (t : Fin cfg0.N) : t.val < 8 := lt_of_lt_of_eq t.isLt N_0

/-- Row `p` of block `t`, in the array. -/
def at_ (t : Fin cfg0.N) (p : Fin 512) : Fin 4096 := ⟨512 * t.val + p.val, by have := lt8 t; omega⟩

theorem emb0 (t : Fin cfg0.N) (p : Fin 512) (k : Fin 1024) : ((cfg0.win 0).blk t).view.emb (ix2 p k) = ix2 (at_ t p) k := row2 (at0 t) rfl rfl rfl
theorem emb1 (t : Fin cfg0.N) (p : Fin 1024) (k : Fin 1536) : ((cfg0.win 1).blk t).view.emb (ix2 p k) = ix2 p k := whole2 (at1 t) rfl rfl
theorem emb2 (t : Fin cfg0.N) (p : Fin 512) (k : Fin 1536) : ((cfg0.win 2).blk t).view.emb (ix2 p k) = ix2 (at_ t p) k := row2 (at2 t) rfl rfl rfl

/-- The product of two arrays. -/
def prod (x : S4096x1024.Idx → EReal) (w : S1024x1536.Idx → EReal) (j : S4096x1536.Idx) : EReal :=
  ∑ k : Fin 1024, x (ix2 (j 0) k) * w (ix2 k (j 1))

variable (m : (ℓ : Loc nD τ sig) → Buf (Elt Ideal) ℓ) (ρ : Dev nD → PrngReg)

/-- That, of the argument arrays. -/
def PR (c : Dev nD) : S4096x1536.Idx → EReal :=
  prod (m ((c : Thread nD τ).loc main_arg0)) (m ((c : Thread nD τ).loc main_arg1))

theorem iblk0_apply (c : Dev nD) (t : Fin cfg0.N) (p : Fin 512) (k : Fin 1024) :
    (iblk m c 0 t : Vec Ideal S512x1024 .bf16) (ix2 p k) = m ((c : Thread nD τ).loc main_arg0) (ix2 (at_ t p) k) := by
  show V m c main_arg0 (((cfg0.win 0).blk t).view.emb (ix2 p k)) = _; rw [emb0, V_main_arg0]
theorem iblk1_apply (c : Dev nD) (t : Fin cfg0.N) (p : Fin 1024) (k : Fin 1536) :
    (iblk m c 1 t : Vec Ideal S1024x1536 .bf16) (ix2 p k) = m ((c : Thread nD τ).loc main_arg1) (ix2 p k) := by
  show V m c main_arg1 (((cfg0.win 1).blk t).view.emb (ix2 p k)) = _; rw [emb1, V_main_arg1]

theorem flushed2_eq (c : Dev nD) (t : Fin cfg0.N) : (dats m 0 c).flushed 2 t = ((cfg0.win 2).blk t).view.read (Elt Ideal) (PR m c) := by
  rw [flushed2]
  funext j
  obtain ⟨p, q, rfl⟩ : ∃ (p : Fin 512) (q : Fin 1536), j = ix2 p q := ⟨j 0, j 1, eq_ix2 j⟩
  show out0_2 (F := Ideal) (iblk m c 0 t) (iblk m c 1 t) (ix2 p q) = PR m c (((cfg0.win 2).blk t).view.emb (ix2 p q))
  rw [emb2, out_apply]
  exact (Finset.sum_congr rfl fun k _ => congrArg₂ (fun a b : EReal => a * b) (iblk0_apply m c t p k) (iblk1_apply m c t k q) :
    prodAt (iblk m c 0 t) (iblk m c 1 t) (ix2 p q) = PR m c (ix2 (at_ t p) q))

theorem final2 (c : Dev nD) : (dats m 0 c).arrAt 2 cfg0.N = PR m c :=
  (dats m 0 c).arrAt_eq_of_cover 2 (PR m c) (fun t _ => flushed2_eq m c t) fun i => by
    obtain ⟨P, q, rfl⟩ : ∃ (P : Fin 4096) (q : Fin 1536), i = ix2 P q := ⟨i 0, i 1, eq_ix2 i⟩
    have hN : P.val / 512 < cfg0.N := by rw [show cfg0.N = 8 from N_0]; omega
    refine ⟨⟨P.val / 512, hN⟩, flush0_2 _, ?_⟩
    have e : ((cfg0.win 2).blk ⟨P.val / 512, hN⟩).view.emb (ix2 (⟨P.val % 512, by omega⟩ : Fin 512) q) = ix2 P q :=
      (emb2 _ _ _).trans (congrArg (fun z => ix2 z q) (Fin.ext (by show 512 * (P.val / 512) + P.val % 512 = P.val; omega)))
    exact e ▸ ((cfg0.win 2).blk ⟨P.val / 512, hN⟩).view.emb_mem_set (ix2 (⟨P.val % 512, by omega⟩ : Fin 512) q)

/-- The run, its result named. -/
theorem run_prod : θ_run defs (onTc (τ := τ) (main (F := Ideal))) ⟨m, fun _ => 0, ρ⟩ fun r => ∀ c : Dev nD,
      r.2.mem ((c : Thread nD τ).loc main_v0) = PR m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (run_blocks m ρ)

end Cert.QueryIdeal.Value

end
-- ==== Proof.AoutProduct.lean ====
/-
  The output projection of the first layer's attention with the residual: at each of the eight grid points 512 rows of
  it; together they are the whole array.
-/
module

public import proofs.«01_k».proof.Proof.Gen.AoutIdeal.Value
public import Idealize.ShloMosaic.Lib.Pointwise
public import Idealize.ShloMosaic.Lib.Tactic
public import proofs.«01_k».proof.Proof.AdamRow

@[expose] public section

set_option maxRecDepth 16384

noncomputable section

namespace Cert.AoutIdeal.Value

open Cert.AoutIdeal Cert.AoutIdeal.Gen Cert.AdamRow Idealize.ShloMosaic Idealize.ShloMosaic.TcCoe Idealize.SL.Sem
open Idealize.ShloMosaic.Pipeline (Dat)

/-! ## One block -/

theorem pay_apply (x : Vec Ideal S512x1024 .bf16) (w : Vec Ideal S1024x1024 .bf16) (r : Vec Ideal S512x1024 .f32) (p : Fin 512) (q : Fin 1024) :
    k0_pay1 (F := Ideal) x w r (ix2 p q) = (∑ k : Fin 1024, x (ix2 p k) * w (ix2 k q)) + r (ix2 p q) := by
  pointwise [k0_pay1]

/-- The one store leaves the product plus the residual. -/
theorem out_apply (x : Vec Ideal S512x1024 .bf16) (w : Vec Ideal S1024x1024 .bf16) (r : Vec Ideal S512x1024 .f32) (p : Fin 512) (q : Fin 1024) :
    out0_3 (F := Ideal) x w r (ix2 p q) = (∑ k : Fin 1024, x (ix2 p k) * w (ix2 k q)) + r (ix2 p q) := by
  unfold out0_3
  rw [View.canon_unit_zero (S := S512x1024) (by decide), View.ld_unit_zero (S := S512x1024) (by decide), View.ld_unit_zero (S := S1024x1024) (by decide),
    View.ld_unit_zero (S := S512x1024) (by decide)]
  exact pay_apply x w r p q

/-! ## The whole array -/

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = t.val ∧ win0_2.index t (1 : Fin 2) = 0 := (by decide +kernel : ∀ t : Fin grid0.N, _)
theorem at3 : ∀ t : Fin cfg0.N, win0_3.index t (0 : Fin 2) = t.val ∧ win0_3.index t (1 : Fin 2) = 0 := (by decide +kernel : ∀ t : Fin grid0.N, _)

theorem lt8 (t : Fin cfg0.N) : t.val < 8 := lt_of_lt_of_eq t.isLt N_0

/-- Row `p` of block `t`, in the array. -/
def at_ (t : Fin cfg0.N) (p : Fin 512) : Fin 4096 := ⟨512 * t.val + p.val, by have := lt8 t; omega⟩

theorem emb0 (t : Fin cfg0.N) (p : Fin 512) (k : Fin 1024) : ((cfg0.win 0).blk t).view.emb (ix2 p k) = ix2 (at_ t p) k := row2 (at0 t) rfl rfl rfl
theorem emb1 (t : Fin cfg0.N) (p : Fin 1024) (k : Fin 1024) : ((cfg0.win 1).blk t).view.emb (ix2 p k) = ix2 p k := whole2 (at1 t) rfl rfl
theorem emb2 (t : Fin cfg0.N) (p : Fin 512) (k : Fin 1024) : ((cfg0.win 2).blk t).view.emb (ix2 p k) = ix2 (at_ t p) k := row2 (at2 t) rfl rfl rfl
theorem emb3 (t : Fin cfg0.N) (p : Fin 512) (k : Fin 1024) : ((cfg0.win 3).blk t).view.emb (ix2 p k) = ix2 (at_ t p) k := row2 (at3 t) rfl rfl rfl

/-- A product of two arrays plus a third. -/
def prod (x : S4096x1024.Idx → EReal) (w : S1024x1024.Idx → EReal) (r : S4096x1024.Idx → EReal) (j : S4096x1024.Idx) : EReal :=
  (∑ k : Fin 1024, x (ix2 (j 0) k) * w (ix2 k (j 1))) + r j

variable (m : (ℓ : Loc nD τ sig) → Buf (Elt Ideal) ℓ) (ρ : Dev nD → PrngReg)

/-- That, of the argument arrays. -/
def PR (c : Dev nD) : S4096x1024.Idx → EReal :=
  prod (m ((c : Thread nD τ).loc main_arg0)) (m ((c : Thread nD τ).loc main_arg1)) (m ((c : Thread nD τ).loc main_arg2))

theorem iblk0_apply (c : Dev nD) (t : Fin cfg0.N) (p : Fin 512) (k : Fin 1024) :
    (iblk m c 0 t : Vec Ideal S512x1024 .bf16) (ix2 p k) = m ((c : Thread nD τ).loc main_arg0) (ix2 (at_ t p) k) := by
  show V m c main_arg0 (((cfg0.win 0).blk t).view.emb (ix2 p k)) = _; rw [emb0, V_main_arg0]
theorem iblk1_apply (c : Dev nD) (t : Fin cfg0.N) (p : Fin 1024) (k : Fin 1024) :
    (iblk m c 1 t : Vec Ideal S1024x1024 .bf16) (ix2 p k) = m ((c : Thread nD τ).loc main_arg1) (ix2 p k) := by
  show V m c main_arg1 (((cfg0.win 1).blk t).view.emb (ix2 p k)) = _; rw [emb1, V_main_arg1]
theorem iblk2_apply (c : Dev nD) (t : Fin cfg0.N) (p : Fin 512) (k : Fin 1024) :
    (iblk m c 2 t : Vec Ideal S512x1024 .f32) (ix2 p k) = m ((c : Thread nD τ).loc main_arg2) (ix2 (at_ t p) k) := by
  show V m c main_arg2 (((cfg0.win 2).blk t).view.emb (ix2 p k)) = _; rw [emb2, V_main_arg2]

theorem flushed3_eq (c : Dev nD) (t : Fin cfg0.N) : (dats m 0 c).flushed 3 t = ((cfg0.win 3).blk t).view.read (Elt Ideal) (PR m c) := by
  rw [flushed3]
  funext j
  obtain ⟨p, q, rfl⟩ : ∃ (p : Fin 512) (q : Fin 1024), j = ix2 p q := ⟨j 0, j 1, eq_ix2 j⟩
  show out0_3 (F := Ideal) (iblk m c 0 t) (iblk m c 1 t) (iblk m c 2 t) (ix2 p q) = PR m c (((cfg0.win 3).blk t).view.emb (ix2 p q))
  rw [emb3, out_apply, iblk2_apply]
  refine congrArg₂ (fun a b : EReal => a + b) (Finset.sum_congr rfl fun k _ => ?_) rfl
  exact congrArg₂ (fun a b : EReal => a * b) (iblk0_apply m c t p k) (iblk1_apply m c t k q)

theorem final3 (c : Dev nD) : (dats m 0 c).arrAt 3 cfg0.N = PR m c :=
  (dats m 0 c).arrAt_eq_of_cover 3 (PR m c) (fun t _ => flushed3_eq m c t) fun i => by
    obtain ⟨P, q, rfl⟩ : ∃ (P : Fin 4096) (q : Fin 1024), i = ix2 P q := ⟨i 0, i 1, eq_ix2 i⟩
    have hN : P.val / 512 < cfg0.N := by rw [show cfg0.N = 8 from N_0]; omega
    refine ⟨⟨P.val / 512, hN⟩, flush0_3 _, ?_⟩
    have e : ((cfg0.win 3).blk ⟨P.val / 512, hN⟩).view.emb (ix2 (⟨P.val % 512, by omega⟩ : Fin 512) q) = ix2 P q :=
      (emb3 _ _ _).trans (congrArg (fun z => ix2 z q) (Fin.ext (by show 512 * (P.val / 512) + P.val % 512 = P.val; omega)))
    exact e ▸ ((cfg0.win 3).blk ⟨P.val / 512, hN⟩).view.emb_mem_set (ix2 (⟨P.val % 512, by omega⟩ : Fin 512) q)

/-- The run, its result named. -/
theorem run_prod : θ_run defs (onTc (τ := τ) (main (F := Ideal))) ⟨m, fun _ => 0, ρ⟩ fun r => ∀ c : Dev nD,
      r.2.mem ((c : Thread nD τ).loc main_v0) = PR m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩) (run_blocks m ρ)

end Cert.AoutIdeal.Value

end
-- ==== Proof.ProjClaims.lean ====
/- The claims about the attentions' projections, put together: each call and its reference end with the same array. -/
module

public import proofs.«01_k».proof.Defs
public import proofs.«01_k».proof.Proof.Gen.Proj.Frame
public import proofs.«01_k».proof.Proof.Gen.ProjIdeal.Frame
public import proofs.«01_k».proof.Proof.Gen.ProjRefIdeal.Run
public import proofs.«01_k».proof.Proof.Gen.ProjRefIdeal.Read
public import proofs.«01_k».proof.Proof.ProjProduct
public import proofs.«01_k».proof.Proof.Gen.Query.Frame
public import proofs.«01_k».proof.Proof.Gen.QueryIdeal.Frame
public import proofs.«01_k».proof.Proof.Gen.QueryRefIdeal.Run
public import proofs.«01_k».proof.Proof.Gen.QueryRefIdeal.Read
public import proofs.«01_k».proof.Proof.QueryProduct
public import proofs.«01_k».proof.Proof.Gen.Aout.Frame
public import proofs.«01_k».proof.Proof.Gen.AoutIdeal.Frame
public import proofs.«01_k».proof.Proof.Gen.AoutRefIdeal.Run
public import proofs.«01_k».proof.Proof.Gen.AoutRefIdeal.Read
public import proofs.«01_k».proof.Proof.AoutProduct
public import Idealize.ShloMosaic.Lib.Quiescent

@[expose] public section

set_option maxRecDepth 16384

noncomputable section

namespace Cert.Proof

open Idealize.ShloMosaic Idealize.SL.Sem

/-! ## Queries, keys and values -/

section Proj
open Cert.ProjRefIdeal Cert.ProjRefIdeal.Read

theorem projRef_apply (x : (⟨S4096x1024, .bf16⟩ : BufTy).Contents (Elt Ideal)) (w : (⟨S1024x3072, .bf16⟩ : BufTy).Contents (Elt Ideal))
    (p : Fin 4096) (q : Fin 3072) :
    val_main_v3 (F := Ideal) x w (ix2 p q) = Cert.ProjIdeal.Value.prod x w (ix2 p q) := by
  pointwise [val_main_v3, val_main_v2, val_main_v1, val_main_v0]
  rfl

theorem projRef_frame : quiescent_ProjRefIdeal := fun m ρ _ =>
  (θ_run _ _ _).mono (fun r h => ⟨fun c => (h c).2, sem_eq_zero_of_no_sems (by decide) r.2⟩)
    (Cert.ProjRefIdeal.Value.run (F := Ideal) m ρ)

/-- The kernel and the product end with equal results. -/
theorem proj_algebraic : algebraic_ProjIdeal_ProjRefIdeal := fun m ρ m' ρ' _ hag => by
  refine ⟨fun c => Cert.ProjIdeal.Value.PR m c, Cert.ProjIdeal.Value.run_prod m ρ,
    (θ_run _ _ _).mono (fun r h c => ?_) (Cert.ProjRefIdeal.Value.run (F := Ideal) m' ρ')⟩
  obtain ⟨h0, h1⟩ := h c
  obtain ⟨a0, a1⟩ := hag c
  refine ⟨h0.trans (funext fun i => ?_), h1⟩
  rw [eq_ix2 i, val_main_v3_eq, a0, a1]
  exact projRef_apply _ _ _ _

end Proj

/-! ## The second layer's queries -/

section Query
open Cert.QueryRefIdeal Cert.QueryRefIdeal.Read

theorem queryRef_apply (x : (⟨S4096x1024, .bf16⟩ : BufTy).Contents (Elt Ideal)) (w : (⟨S1024x1536, .bf16⟩ : BufTy).Contents (Elt Ideal))
    (p : Fin 4096) (q : Fin 1536) :
    val_main_v3 (F := Ideal) x w (ix2 p q) = Cert.QueryIdeal.Value.prod x w (ix2 p q) := by
  pointwise [val_main_v3, val_main_v2, val_main_v1, val_main_v0]
  rfl

theorem queryRef_frame : quiescent_QueryRefIdeal := fun m ρ _ =>
  (θ_run _ _ _).mono (fun r h => ⟨fun c => (h c).2, sem_eq_zero_of_no_sems (by decide) r.2⟩)
    (Cert.QueryRefIdeal.Value.run (F := Ideal) m ρ)

/-- The kernel and the product end with equal results. -/
theorem query_algebraic : algebraic_QueryIdeal_QueryRefIdeal := fun m ρ m' ρ' _ hag => by
  refine ⟨fun c => Cert.QueryIdeal.Value.PR m c, Cert.QueryIdeal.Value.run_prod m ρ,
    (θ_run _ _ _).mono (fun r h c => ?_) (Cert.QueryRefIdeal.Value.run (F := Ideal) m' ρ')⟩
  obtain ⟨h0, h1⟩ := h c
  obtain ⟨a0, a1⟩ := hag c
  refine ⟨h0.trans (funext fun i => ?_), h1⟩
  rw [eq_ix2 i, val_main_v3_eq, a0, a1]
  exact queryRef_apply _ _ _ _

end Query

/-! ## The output projection with the residual -/

section Aout
open Cert.AoutRefIdeal Cert.AoutRefIdeal.Read

theorem aoutRef_apply (x : (⟨S4096x1024, .bf16⟩ : BufTy).Contents (Elt Ideal)) (w : (⟨S1024x1024, .bf16⟩ : BufTy).Contents (Elt Ideal))
    (r : (⟨S4096x1024, .f32⟩ : BufTy).Contents (Elt Ideal)) (p : Fin 4096) (q : Fin 1024) :
    val_main_v3 (F := Ideal) x w r (ix2 p q) = Cert.AoutIdeal.Value.prod x w r (ix2 p q) := by
  pointwise [val_main_v3, val_main_v2, val_main_v1, val_main_v0]
  exact add_comm _ _

theorem aoutRef_frame : quiescent_AoutRefIdeal := fun m ρ _ =>
  (θ_run _ _ _).mono (fun r h => ⟨fun c => (h c).2, sem_eq_zero_of_no_sems (by decide) r.2⟩)
    (Cert.AoutRefIdeal.Value.run (F := Ideal) m ρ)

/-- The kernel and the residual plus the product end with equal results. -/
theorem aout_algebraic : algebraic_AoutIdeal_AoutRefIdeal := fun m ρ m' ρ' _ hag => by
  refine ⟨fun c => Cert.AoutIdeal.Value.PR m c, Cert.AoutIdeal.Value.run_prod m ρ,
    (θ_run _ _ _).mono (fun r h c => ?_) (Cert.AoutRefIdeal.Value.run (F := Ideal) m' ρ')⟩
  obtain ⟨h0, h1⟩ := h c
  obtain ⟨a0, a1, a2⟩ := hag c
  refine ⟨h0.trans (funext fun i => ?_), h1⟩
  rw [eq_ix2 i, val_main_v3_eq, a0, a1, a2]
  exact aoutRef_apply _ _ _ _ _

end Aout

end Cert.Proof

end
-- ==== Proof.WgradKvKernel.lean ====
/-
  One grid point of the kernel that forms the gradient of the weight of the keys' and values' projection: the product of a block of 512 rows of the activations,
  transposed, with the same rows of the gradients is added to an accumulator, 256 of its rows at a time.
-/
module

public import proofs.«01_k».proof.Proof.Gen.WgradKvIdeal.Value
public import Idealize.ShloMosaic.Lib.Pointwise
public import Idealize.ShloMosaic.Lib.Tactic

@[expose] public section

set_option maxRecDepth 16384

noncomputable section

namespace Cert.WgradKvIdeal.Value

open Cert.WgradKvIdeal Cert.WgradKvIdeal.Gen Idealize.ShloMosaic Idealize.ShloMosaic.TcCoe Idealize.SL.Sem

/-- What one point adds to the accumulator at row `p`, column `q`. -/
def addAt (x : Vec Ideal S512x1024 .bf16) (d : Vec Ideal S512x3072 .bf16) (p : Fin 1024) (q : Fin 3072) : EReal :=
  ∑ k : Fin 512, x (ix2 k p) * d (ix2 k q)

theorem pay1_apply (p : Fin 1024) (q : Fin 3072) : k0_pay1 (F := Ideal) (ix2 p q) = 0 := by
  pointwise [k0_pay1]

theorem pay2_apply (a : Vec Ideal S256x3072 .f32) (x : Vec Ideal S512x256 .bf16) (d : Vec Ideal S512x3072 .bf16) (p : Fin 256) (q : Fin 3072) :
    k0_pay2 (F := Ideal) a x d (ix2 p q) = a (ix2 p q) + ∑ k : Fin 512, x (ix2 k p) * d (ix2 k q) := by
  pointwise [k0_pay2]

theorem pay3_apply (a : Vec Ideal S256x3072 .f32) (p : Fin 256) (q : Fin 3072) : k0_pay3 (F := Ideal) a (ix2 p q) = a (ix2 p q) := by
  pointwise [k0_pay3]

theorem off1_eq : ∀ k : Fin k0_t1_loop.trips, k0_off1 k = ![256 * k.val, 0] := (by decide +kernel)
theorem off2_eq : ∀ k : Fin k0_t1_loop.trips, k0_off2 k = ![0, 256 * k.val] := (by decide +kernel)
theorem off3_eq : ∀ k : Fin k0_t2_loop.trips, k0_off3 k = ![256 * k.val, 0] := (by decide +kernel)
theorem trips1 : k0_t1_loop.trips = 4 := (by decide +kernel)
theorem trips2 : k0_t2_loop.trips = 4 := (by decide +kernel)

variable (𝒱 : Variants) (c : Dev nD) (bd : Option 𝒱.V) (i : grid0.Coords)
  (a1 : Memref sig .tc .vmem S512x1024 .bf16) (h1 : a1.IsWhole) (a2 : Memref sig .tc .vmem S512x3072 .bf16) (h2 : a2.IsWhole)
  (a3 : Memref sig .tc .vmem S1024x3072 .bf16) (h3 : a3.IsWhole) (a4 : Memref sig .tc .vmem S1024x3072 .f32) (h4 : a4.IsWhole)

/-- One trip of the accumulating loop stores one block of 256 rows. -/
theorem trip1_eq (X1 : BufTy.Contents (Elt Ideal) a1.view.ty) (X2 : BufTy.Contents (Elt Ideal) a2.view.ty) (f : BufTy.Contents (Elt Ideal) a4.view.ty)
    (k : Fin k0_t1_loop.trips) :
    tripL_k0_t1 (F := Ideal) 𝒱 c bd i a1 h1 a2 h2 a3 h3 a4 h4 X1 X2 k f
      = [⟨Rect.unit (s := S1024x3072) (k0_off1 k) S256x3072.size (k0_off1_inb k),
          k0_pay2 (F := Ideal) (View.readAt (Elt Ideal) a4.view (Rect.unit (s := S1024x3072) (k0_off1 k) S256x3072.size (k0_off1_inb k)).toLoadRect f)
            (View.readAt (Elt Ideal) a1.view (Rect.unit (s := S512x1024) (k0_off2 k) S512x256.size (k0_off2_inb k)).toLoadRect X1)
            (View.readAt (Elt Ideal) a2.view (Rect.unit (s := S512x3072) ![0, 0] S512x3072.size inb_S512x3072_S512x3072_0_0).toLoadRect X2)⟩] := by
  unfold tripL_k0_t1 trip_k0_t1
  rfl

/-- One trip of the emitting loop stores one block of 256 rows. -/
theorem trip2_eq (hk2 : k0_cond2 i = 1#1) (X4 : BufTy.Contents (Elt Ideal) a4.view.ty) (k : Fin k0_t2_loop.trips) :
    tripL_k0_t2 (F := Ideal) 𝒱 c bd i a1 h1 a2 h2 a3 h3 a4 h4 hk2 X4 k
      = [⟨Rect.unit (s := S1024x3072) (k0_off3 k) S256x3072.size (k0_off3_inb i k hk2),
          k0_pay3 (F := Ideal) (View.readAt (Elt Ideal) a4.view (Rect.unit (s := S1024x3072) (k0_off3 k) S256x3072.size (k0_off3_inb i k hk2)).toLoadRect X4)⟩] := by
  unfold tripL_k0_t2 trip_k0_t2
  rfl

/-- After `n` trips the first `256 n` rows have their addition, the others have what they held. -/
theorem read_loop1 (x : Vec Ideal S512x1024 .bf16) (d : Vec Ideal S512x3072 .bf16) (g : BufTy.Contents (Elt Ideal) a4.view.ty)
    (p : Fin 1024) (q : Fin 3072) : ∀ n : ℕ, n ≤ 4 →
    a4.view.read (Elt Ideal) (a4.view.writes (Elt Ideal) g
        (pb_k0_t1 (F := Ideal) 𝒱 c bd i a1 h1 a2 h2 a3 h3 a4 h4 (h1.unread x) (h2.unread d) g n)) (ix2 p q)
      = if p.val < 256 * n then a4.view.read (Elt Ideal) g (ix2 p q) + addAt x d p q else a4.view.read (Elt Ideal) g (ix2 p q) := by
  intro n
  induction n with
  | zero => intro _; rw [if_neg (by omega)]; rfl
  | succ n ih =>
    intro hn
    have hk : n < k0_t1_loop.trips := by rw [trips1]; omega
    rw [show n + 1 = (⟨n, hk⟩ : Fin k0_t1_loop.trips).val + 1 from rfl, pb_k0_t1_succ, trip1_eq]
    rw [List.singleton_append]
    by_cases hp : 256 * n ≤ p.val ∧ p.val < 256 * (n + 1)
    · have hin : (Rect.unit (s := S1024x3072) (k0_off1 ⟨n, hk⟩) S256x3072.size (k0_off1_inb ⟨n, hk⟩)).emb
          (ix2 (⟨p.val - 256 * n, by omega⟩ : Fin 256) q) = ix2 p q := by
        refine Rect.emb_eq_of_coords _ _ _ fun a => ?_
        match a with
        | ⟨0, _⟩ => show p.val = k0_off1 ⟨n, hk⟩ 0 + 1 * (p.val - 256 * n); rw [off1_eq]; show p.val = 256 * n + 1 * (p.val - 256 * n); omega
        | ⟨1, _⟩ => show q.val = k0_off1 ⟨n, hk⟩ 1 + 1 * q.val; rw [off1_eq]; show q.val = 0 + 1 * q.val; omega
      have hx (r : Fin 512) : (Rect.unit (s := S512x1024) (k0_off2 ⟨n, hk⟩) S512x256.size (k0_off2_inb ⟨n, hk⟩)).emb
          (ix2 r (⟨p.val - 256 * n, by omega⟩ : Fin 256)) = ix2 r p := by
        refine Rect.emb_eq_of_coords _ _ _ fun a => ?_
        match a with
        | ⟨0, _⟩ => show r.val = k0_off2 ⟨n, hk⟩ 0 + 1 * r.val; rw [off2_eq]; show r.val = 0 + 1 * r.val; omega
        | ⟨1, _⟩ => show p.val = k0_off2 ⟨n, hk⟩ 1 + 1 * (p.val - 256 * n); rw [off2_eq]; show p.val = 256 * n + 1 * (p.val - 256 * n); omega
      rw [View.read_writes_cons_hit a4.view g _ _ _ _ _ hin, pay2_apply, if_pos hp.2]
      refine congrArg₂ (· + ·) ?_ (Finset.sum_congr rfl fun r _ => congrArg₂ (· * ·) ?_ ?_)
      · refine (congrArg (a4.view.read (Elt Ideal) _) hin).trans ?_
        rw [ih (by omega), if_neg (by omega)]
      · refine (congrArg (a1.view.read (Elt Ideal) (h1.unread x)) (hx r)).trans ?_
        rw [h1.read_unread]
      · rw [View.readAt_eq_ld, h2.read_unread, View.ld_unit_zero (S := S512x3072) (by decide)]
    · rw [View.read_writes_cons_miss_of_axis a4.view g _ _ (ix2 p q) 0 (256 * n) 256
        (by show k0_off1 ⟨n, hk⟩ 0 = 256 * n; rw [off1_eq]; rfl) rfl rfl (by show p.val < 256 * n ∨ 256 * n + 256 ≤ p.val; omega), ih (by omega)]
      by_cases hq : p.val < 256 * n
      · rw [if_pos hq, if_pos (by dsimp only; omega)]
      · rw [if_neg hq, if_neg (by dsimp only; omega)]

/-- After the four trips every element has its addition. -/
theorem read_loop1_all (x : Vec Ideal S512x1024 .bf16) (d : Vec Ideal S512x3072 .bf16) (g : BufTy.Contents (Elt Ideal) a4.view.ty)
    (p : Fin 1024) (q : Fin 3072) :
    a4.view.read (Elt Ideal) (a4.view.writes (Elt Ideal) g
        (pb_k0_t1 (F := Ideal) 𝒱 c bd i a1 h1 a2 h2 a3 h3 a4 h4 (h1.unread x) (h2.unread d) g 4)) (ix2 p q)
      = a4.view.read (Elt Ideal) g (ix2 p q) + addAt x d p q := by
  rw [read_loop1 𝒱 c bd i a1 h1 a2 h2 a3 h3 a4 h4 x d g p q 4 le_rfl, if_pos (by omega)]

/-- After `n` trips of the emitting loop the first `256 n` rows of the result hold the accumulator's. -/
theorem read_loop2 (hk2 : k0_cond2 i = 1#1) (X4 : BufTy.Contents (Elt Ideal) a4.view.ty) (g : BufTy.Contents (Elt Ideal) a3.view.ty)
    (p : Fin 1024) (q : Fin 3072) : ∀ n : ℕ, n ≤ 4 → p.val < 256 * n →
    a3.view.read (Elt Ideal) (a3.view.writes (Elt Ideal) g
        (pb_k0_t2 (F := Ideal) 𝒱 c bd i a1 h1 a2 h2 a3 h3 a4 h4 hk2 X4 n)) (ix2 p q)
      = a4.view.read (Elt Ideal) X4 (ix2 p q) := by
  intro n
  induction n with
  | zero => intro _ h; omega
  | succ n ih =>
    intro hn hpn
    have hk : n < k0_t2_loop.trips := by rw [trips2]; omega
    rw [show n + 1 = (⟨n, hk⟩ : Fin k0_t2_loop.trips).val + 1 from rfl, pb_k0_t2_succ, trip2_eq]
    rw [List.singleton_append]
    by_cases hp : 256 * n ≤ p.val
    · have hin : (Rect.unit (s := S1024x3072) (k0_off3 ⟨n, hk⟩) S256x3072.size (k0_off3_inb i ⟨n, hk⟩ hk2)).emb
          (ix2 (⟨p.val - 256 * n, by omega⟩ : Fin 256) q) = ix2 p q := by
        refine Rect.emb_eq_of_coords _ _ _ fun a => ?_
        match a with
        | ⟨0, _⟩ => show p.val = k0_off3 ⟨n, hk⟩ 0 + 1 * (p.val - 256 * n); rw [off3_eq]; show p.val = 256 * n + 1 * (p.val - 256 * n); omega
        | ⟨1, _⟩ => show q.val = k0_off3 ⟨n, hk⟩ 1 + 1 * q.val; rw [off3_eq]; show q.val = 0 + 1 * q.val; omega
      rw [View.read_writes_cons_hit a3.view g _ _ _ _ _ hin, pay3_apply]
      exact congrArg (a4.view.read (Elt Ideal) X4) hin
    · rw [View.read_writes_cons_miss_of_axis a3.view g _ _ (ix2 p q) 0 (256 * n) 256
        (by show k0_off3 ⟨n, hk⟩ 0 = 256 * n; rw [off3_eq]; rfl) rfl rfl (by show p.val < 256 * n ∨ 256 * n + 256 ≤ p.val; omega)]
      exact ih (by omega) (by omega)

/-! ## The accumulator after a point, and the block emitted -/

theorem sout_A (hc0 : cond0_0 i) (hc1 : ¬cond0_1 i) (x : Vec Ideal S512x1024 .bf16) (d : Vec Ideal S512x3072 .bf16) (p : Fin 1024) (q : Fin 3072) :
    sout0_A_0 c i a1 h1 a2 h2 a3 h3 a4 h4 hc0 hc1 x d (ix2 p q) = addAt x d p q := by
  have hcov := scover0_A_0 c i a1 h1 a2 h2 a3 h3 a4 h4 hc0 hc1 x d
  unfold sout0_A_0
  rw [View.read_writes_eq_canon _ _ _ hcov, ← View.read_writes_eq_canon a4.view a4.view.junk _ hcov]
  unfold kernelRun0_A
  dsimp only
  sl_unfold_words
  rw [View.writes_append]
  refine (read_loop1_all Variants.none c none i a1 h1 a2 h2 a3 h3 a4 h4 x d _ p q).trans ?_
  rw [View.read_writes_cons_hit a4.view _ _ _ _ (ix2 p q) (ix2 p q)
    (Rect.emb_eq_of_coords _ _ _ fun a => by match a with | ⟨0, _⟩ => show p.val = 0 + 1 * p.val; omega | ⟨1, _⟩ => show q.val = 0 + 1 * q.val; omega),
    pay1_apply, zero_add]

theorem sout_B (hc0 : ¬cond0_0 i) (hc1 : ¬cond0_1 i) (x : Vec Ideal S512x1024 .bf16) (d : Vec Ideal S512x3072 .bf16) (a : Vec Ideal S1024x3072 .f32)
    (p : Fin 1024) (q : Fin 3072) :
    sout0_B_0 c i a1 h1 a2 h2 a3 h3 a4 h4 hc0 hc1 x d a (ix2 p q) = a (ix2 p q) + addAt x d p q := by
  have hcov := scover0_B_0 c i a1 h1 a2 h2 a3 h3 a4 h4 hc0 hc1 x d a
  unfold sout0_B_0
  rw [View.read_writes_eq_canon _ _ _ hcov, ← View.read_writes_eq_canon a4.view (h4.unread a) _ hcov]
  unfold kernelRun0_B
  dsimp only
  sl_unfold_words
  refine (read_loop1_all Variants.none c none i a1 h1 a2 h2 a3 h3 a4 h4 x d _ p q).trans ?_
  rw [h4.read_unread]

theorem out_C (hc0 : ¬cond0_0 i) (hc1 : cond0_1 i) (x : Vec Ideal S512x1024 .bf16) (d : Vec Ideal S512x3072 .bf16) (a : Vec Ideal S1024x3072 .f32)
    (p : Fin 1024) (q : Fin 3072) :
    out0_C_2 c i a1 h1 a2 h2 a3 h3 a4 h4 hc0 hc1 x d a (ix2 p q) = a (ix2 p q) + addAt x d p q := by
  have hcov := cover0_C_2 c i a1 h1 a2 h2 a3 h3 a4 h4 hc0 hc1 x d a
  unfold out0_C_2
  rw [View.read_writes_eq_canon _ _ _ hcov, ← View.read_writes_eq_canon a3.view a3.view.junk _ hcov]
  unfold kernelRun0_C
  dsimp only
  sl_unfold_words
  refine (read_loop2 Variants.none c none i a1 h1 a2 h2 a3 h3 a4 h4 hc1 _ _ p q 4 le_rfl (by omega)).trans ?_
  refine (read_loop1_all Variants.none c none i a1 h1 a2 h2 a3 h3 a4 h4 x d _ p q).trans ?_
  rw [h4.read_unread]

end Cert.WgradKvIdeal.Value

end
-- ==== Proof.WgradKvArrays.lean ====
/-
  The gradient of the weight of the keys' and values' projection after the run of the kernel that forms it: the eight blocks of 512 rows are visited in turn, and the
  accumulator ends as the product over all 4096 rows.
-/
module

public import proofs.«01_k».proof.Proof.WgradKvKernel
public import proofs.«01_k».proof.Proof.AdamRow

@[expose] public section

set_option maxRecDepth 16384

noncomputable section

namespace Cert.WgradKvIdeal.Value

open Cert.WgradKvIdeal Cert.WgradKvIdeal.Gen Cert.AdamRow Idealize.ShloMosaic Idealize.ShloMosaic.TcCoe Idealize.SL.Sem
open Idealize.ShloMosaic.Pipeline (Dat)

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = t.val ∧ win0_1.index t (1 : Fin 2) = 0 := (by decide +kernel : ∀ t : Fin grid0.N, _)
theorem at2 : ∀ t : Fin cfg0.N, win0_2.index t (0 : Fin 2) = 0 ∧ win0_2.index t (1 : Fin 2) = 0 := (by decide +kernel : ∀ t : Fin grid0.N, _)

theorem lt8 (t : Fin cfg0.N) : t.val < 8 := lt_of_lt_of_eq t.isLt N_0

/-- Row `p` of block `t`, in the array. -/
def at_ (t : Fin cfg0.N) (p : Fin 512) : Fin 4096 := ⟨512 * t.val + p.val, by have := lt8 t; omega⟩

theorem emb0 (t : Fin cfg0.N) (p : Fin 512) (k : Fin 1024) : ((cfg0.win 0).blk t).view.emb (ix2 p k) = ix2 (at_ t p) k := row2 (at0 t) rfl rfl rfl
theorem emb1 (t : Fin cfg0.N) (p : Fin 512) (k : Fin 3072) : ((cfg0.win 1).blk t).view.emb (ix2 p k) = ix2 (at_ t p) k := row2 (at1 t) rfl rfl rfl
theorem emb2 (t : Fin cfg0.N) (p : Fin 1024) (k : Fin 3072) : ((cfg0.win 2).blk t).view.emb (ix2 p k) = ix2 p k := whole2 (at2 t) rfl rfl

variable (m : (ℓ : Loc nD τ sig) → Buf (Elt Ideal) ℓ) (ρ : Dev nD → PrngReg)

/-- What row `r` of the two arrays adds to their product at row `p`, column `q`. -/
def rowTerm (x : S4096x1024.Idx → EReal) (d : S4096x3072.Idx → EReal) (p : Fin 1024) (q : Fin 3072) (r : Fin 4096) : EReal :=
  x (ix2 r p) * d (ix2 r q)

/-- That, of the argument arrays. -/
abbrev term (c : Dev nD) (p : Fin 1024) (q : Fin 3072) : Fin 4096 → EReal :=
  rowTerm (m ((c : Thread nD τ).loc main_arg0)) (m ((c : Thread nD τ).loc main_arg1)) p q

/-- The weight's gradient. -/
def DW (c : Dev nD) : S1024x3072.Idx → EReal := fun j => ∑ r : Fin 4096, term m c (j 0) (j 1) r

theorem iblk0_apply (c : Dev nD) (t : Fin cfg0.N) (p : Fin 512) (k : Fin 1024) :
    (iblk m c 0 t : Vec Ideal S512x1024 .bf16) (ix2 p k) = m ((c : Thread nD τ).loc main_arg0) (ix2 (at_ t p) k) := by
  show V m c main_arg0 (((cfg0.win 0).blk t).view.emb (ix2 p k)) = _; rw [emb0, V_main_arg0]
theorem iblk1_apply (c : Dev nD) (t : Fin cfg0.N) (p : Fin 512) (k : Fin 3072) :
    (iblk m c 1 t : Vec Ideal S512x3072 .bf16) (ix2 p k) = m ((c : Thread nD τ).loc main_arg1) (ix2 (at_ t p) k) := by
  show V m c main_arg1 (((cfg0.win 1).blk t).view.emb (ix2 p k)) = _; rw [emb1, V_main_arg1]

/-- A function of the arrays' rows, extended by zero past the last row. -/
def rowsExt (f : Fin 4096 → EReal) (n : Nat) : EReal := if h : n < 4096 then f ⟨n, h⟩ else 0

theorem block (c : Dev nD) (t : Fin cfg0.N) (p : Fin 1024) (q : Fin 3072) :
    addAt (iblk m c 0 t) (iblk m c 1 t) p q = ∑ k ∈ Finset.range 512, rowsExt (term m c p q) (512 * t.val + k) := by
  rw [← Fin.sum_univ_eq_sum_range (fun k => rowsExt (term m c p q) (512 * t.val + k)) 512]
  refine Finset.sum_congr rfl fun r _ => ?_
  rw [iblk0_apply, iblk1_apply, rowsExt, dif_pos (show 512 * t.val + r.val < 4096 by have := lt8 t; omega)]
  rfl

/-- The accumulator after point `n`, before the last. -/
theorem acc_eq (c : Dev nD) (p : Fin 1024) (q : Fin 3072) : ∀ (n : Nat) (h : n < cfg0.N), n < 7 →
    (outsAt0 m c n h).2 (ix2 p q) = ∑ r ∈ Finset.range (512 * (n + 1)), rowsExt (term m c p q) r := by
  intro n
  induction n with
  | zero =>
    intro h _
    rw [show outsAt0 m c 0 h = outsAt0 m c (⟨0, h⟩ : Fin cfg0.N).val (⟨0, h⟩ : Fin cfg0.N).isLt from rfl,
      outsAt0_A m c ⟨0, h⟩ (Nat.zero_mod _) (by dsimp only; omega)]
    dsimp only
    rw [sout_A, block]
    simp
  | succ n ih =>
    intro h h7
    rw [show outsAt0 m c (n + 1) h = outsAt0 m c (⟨n + 1, h⟩ : Fin cfg0.N).val (⟨n + 1, h⟩ : Fin cfg0.N).isLt from rfl,
      outsAt0_B m c ⟨n + 1, h⟩ (by dsimp only; omega) (by dsimp only; omega)]
    dsimp only
    rw [sout_B, block]
    simp only [Nat.add_sub_cancel]
    rw [ih _ (by omega), show 512 * (n + 1 + 1) = 512 * (n + 1) + 512 by ring, Finset.sum_range_add]

theorem flushed2_dw (c : Dev nD) (t : Fin cfg0.N) (hf : (cfg0.win 2).flush t = true) :
    (dats m 0 c).flushed 2 t = ((cfg0.win 2).blk t).view.read (Elt Ideal) (DW m c) := by
  have h7 : t.val = 7 := by have := (flush0_2 t).mp hf; have := lt8 t; omega
  rw [flushed2]
  funext j
  obtain ⟨p, q, rfl⟩ : ∃ (p : Fin 1024) (q : Fin 3072), j = ix2 p q := ⟨j 0, j 1, eq_ix2 j⟩
  show (outsAt0 m c t.val t.isLt).1 (ix2 p q) = DW m c (((cfg0.win 2).blk t).view.emb (ix2 p q))
  rw [emb2, outsAt0_C m c t (by omega) (by omega)]
  dsimp only
  rw [out_C, acc_eq m c p q (t.val - 1) _ (by omega), block, h7]
  show ∑ r ∈ Finset.range (512 * 7), rowsExt (term m c p q) r + ∑ k ∈ Finset.range 512, rowsExt (term m c p q) (512 * 7 + k)
    = ∑ r : Fin 4096, term m c p q r
  rw [← Finset.sum_range_add, ← Fin.sum_univ_eq_sum_range (rowsExt (term m c p q)) 4096]
  exact Finset.sum_congr rfl fun r _ => dif_pos r.isLt

theorem final2_dw (c : Dev nD) : (dats m 0 c).arrAt 2 cfg0.N = DW m c :=
  (dats m 0 c).arrAt_eq_of_cover 2 (DW m c) (flushed2_dw m c) fun i => by
    have hN : 7 < cfg0.N := by rw [show cfg0.N = 8 from N_0]; decide
    refine ⟨⟨7, hN⟩, (flush0_2 _).mpr rfl, ?_⟩
    have e : ((cfg0.win 2).blk ⟨7, hN⟩).view.emb (ix2 (i 0 : Fin 1024) (i 1 : Fin 3072)) = i := (emb2 _ _ _).trans (eq_ix2 i).symm
    exact e ▸ ((cfg0.win 2).blk ⟨7, hN⟩).view.emb_mem_set (ix2 (i 0 : Fin 1024) (i 1 : Fin 3072))

/-- The run, its result named. -/
theorem run_dw : θ_run defs (onTc (τ := τ) (main (F := Ideal))) ⟨m, fun _ => 0, ρ⟩ fun r => ∀ c : Dev nD,
      r.2.mem ((c : Thread nD τ).loc main_v0) = DW m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2_dw m c), (h c).2⟩) (run_blocks m ρ)

end Cert.WgradKvIdeal.Value

end
-- ==== Proof.WgradKvClaims.lean ====
/- The claims about the gradient of the weight of the keys' and values' projection, put together: the kernel and the derivative of the product end with the same array. -/
module

public import proofs.«01_k».proof.Defs
public import proofs.«01_k».proof.Proof.Gen.WgradKv.Frame
public import proofs.«01_k».proof.Proof.Gen.WgradKvIdeal.Frame
public import proofs.«01_k».proof.Proof.Gen.WgradKvRefIdeal.Run
public import proofs.«01_k».proof.Proof.Gen.WgradKvRefIdeal.Read
public import proofs.«01_k».proof.Proof.WgradKvArrays
public import Idealize.ShloMosaic.Lib.Quiescent

@[expose] public section

set_option maxRecDepth 16384

noncomputable section

namespace Cert.Proof

open Idealize.ShloMosaic Idealize.SL.Sem
open Cert.WgradKvRefIdeal Cert.WgradKvRefIdeal.Read

/-- The derivative of the product in the weight, at an index. -/
theorem wgradKvRef_apply (x : (⟨S4096x1024, .bf16⟩ : BufTy).Contents (Elt Ideal)) (d : (⟨S4096x3072, .bf16⟩ : BufTy).Contents (Elt Ideal))
    (p : Fin 1024) (q : Fin 3072) :
    val_main_v6 (F := Ideal) x d (ix2 p q) = ∑ r : Fin 4096, Cert.WgradKvIdeal.Value.rowTerm x d p q r := by
  pointwise [val_main_v6, val_main_v5, val_main_v4, val_main_v3, val_main_v1]
  exact Finset.sum_congr rfl fun r _ => mul_comm _ _

/-- The reference stops with its arguments unchanged; it has no semaphore whose counter could differ from zero. -/
theorem wgradKvRef_frame : quiescent_WgradKvRefIdeal := fun m ρ _ =>
  (θ_run _ _ _).mono (fun r h => ⟨fun c => (h c).2, sem_eq_zero_of_no_sems (by decide) r.2⟩)
    (Cert.WgradKvRefIdeal.Value.run (F := Ideal) m ρ)

/-- The kernel and the derivative of the product end with equal results. -/
theorem wgradKv_algebraic : algebraic_WgradKvIdeal_WgradKvRefIdeal := fun m ρ m' ρ' _ hag => by
  refine ⟨fun c => Cert.WgradKvIdeal.Value.DW m c, Cert.WgradKvIdeal.Value.run_dw m ρ,
    (θ_run _ _ _).mono (fun r h c => ?_) (Cert.WgradKvRefIdeal.Value.run (F := Ideal) m' ρ')⟩
  obtain ⟨h0, h1⟩ := h c
  obtain ⟨a0, a1⟩ := hag c
  refine ⟨h0.trans (funext fun i => ?_), h1⟩
  rw [eq_ix2 i, val_main_v6_eq, a0, a1]
  exact wgradKvRef_apply _ _ _ _

end Cert.Proof

end
-- ==== Proof.WgradInKernel.lean ====
/-
  One grid point of the kernel that forms the gradient of the weight of the first layer's projection: the product of a block of 512 rows of the activations,
  transposed, with the same rows of the gradients is added to an accumulator, 256 of its rows at a time.
-/
module

public import proofs.«01_k».proof.Proof.Gen.WgradInIdeal.Value
public import Idealize.ShloMosaic.Lib.Pointwise
public import Idealize.ShloMosaic.Lib.Tactic

@[expose] public section

set_option maxRecDepth 16384

noncomputable section

namespace Cert.WgradInIdeal.Value

open Cert.WgradInIdeal Cert.WgradInIdeal.Gen Idealize.ShloMosaic Idealize.ShloMosaic.TcCoe Idealize.SL.Sem

/-- What one point adds to the accumulator at row `p`, column `q`. -/
def addAt (x : Vec Ideal S512x1024 .bf16) (d : Vec Ideal S512x3200 .bf16) (p : Fin 1024) (q : Fin 3200) : EReal :=
  ∑ k : Fin 512, x (ix2 k p) * d (ix2 k q)

theorem pay1_apply (p : Fin 1024) (q : Fin 3200) : k0_pay1 (F := Ideal) (ix2 p q) = 0 := by
  pointwise [k0_pay1]

theorem pay2_apply (a : Vec Ideal S256x3200 .f32) (x : Vec Ideal S512x256 .bf16) (d : Vec Ideal S512x3200 .bf16) (p : Fin 256) (q : Fin 3200) :
    k0_pay2 (F := Ideal) a x d (ix2 p q) = a (ix2 p q) + ∑ k : Fin 512, x (ix2 k p) * d (ix2 k q) := by
  pointwise [k0_pay2]

theorem pay3_apply (a : Vec Ideal S256x3200 .f32) (p : Fin 256) (q : Fin 3200) : k0_pay3 (F := Ideal) a (ix2 p q) = a (ix2 p q) := by
  pointwise [k0_pay3]

theorem off1_eq : ∀ k : Fin k0_t1_loop.trips, k0_off1 k = ![256 * k.val, 0] := (by decide +kernel)
theorem off2_eq : ∀ k : Fin k0_t1_loop.trips, k0_off2 k = ![0, 256 * k.val] := (by decide +kernel)
theorem off3_eq : ∀ k : Fin k0_t2_loop.trips, k0_off3 k = ![256 * k.val, 0] := (by decide +kernel)
theorem trips1 : k0_t1_loop.trips = 4 := (by decide +kernel)
theorem trips2 : k0_t2_loop.trips = 4 := (by decide +kernel)

variable (𝒱 : Variants) (c : Dev nD) (bd : Option 𝒱.V) (i : grid0.Coords)
  (a1 : Memref sig .tc .vmem S512x1024 .bf16) (h1 : a1.IsWhole) (a2 : Memref sig .tc .vmem S512x3200 .bf16) (h2 : a2.IsWhole)
  (a3 : Memref sig .tc .vmem S1024x3200 .bf16) (h3 : a3.IsWhole) (a4 : Memref sig .tc .vmem S1024x3200 .f32) (h4 : a4.IsWhole)

/-- One trip of the accumulating loop stores one block of 256 rows. -/
theorem trip1_eq (X1 : BufTy.Contents (Elt Ideal) a1.view.ty) (X2 : BufTy.Contents (Elt Ideal) a2.view.ty) (f : BufTy.Contents (Elt Ideal) a4.view.ty)
    (k : Fin k0_t1_loop.trips) :
    tripL_k0_t1 (F := Ideal) 𝒱 c bd i a1 h1 a2 h2 a3 h3 a4 h4 X1 X2 k f
      = [⟨Rect.unit (s := S1024x3200) (k0_off1 k) S256x3200.size (k0_off1_inb k),
          k0_pay2 (F := Ideal) (View.readAt (Elt Ideal) a4.view (Rect.unit (s := S1024x3200) (k0_off1 k) S256x3200.size (k0_off1_inb k)).toLoadRect f)
            (View.readAt (Elt Ideal) a1.view (Rect.unit (s := S512x1024) (k0_off2 k) S512x256.size (k0_off2_inb k)).toLoadRect X1)
            (View.readAt (Elt Ideal) a2.view (Rect.unit (s := S512x3200) ![0, 0] S512x3200.size inb_S512x3200_S512x3200_0_0).toLoadRect X2)⟩] := by
  unfold tripL_k0_t1 trip_k0_t1
  rfl

/-- One trip of the emitting loop stores one block of 256 rows. -/
theorem trip2_eq (hk2 : k0_cond2 i = 1#1) (X4 : BufTy.Contents (Elt Ideal) a4.view.ty) (k : Fin k0_t2_loop.trips) :
    tripL_k0_t2 (F := Ideal) 𝒱 c bd i a1 h1 a2 h2 a3 h3 a4 h4 hk2 X4 k
      = [⟨Rect.unit (s := S1024x3200) (k0_off3 k) S256x3200.size (k0_off3_inb i k hk2),
          k0_pay3 (F := Ideal) (View.readAt (Elt Ideal) a4.view (Rect.unit (s := S1024x3200) (k0_off3 k) S256x3200.size (k0_off3_inb i k hk2)).toLoadRect X4)⟩] := by
  unfold tripL_k0_t2 trip_k0_t2
  rfl

/-- After `n` trips the first `256 n` rows have their addition, the others have what they held. -/
theorem read_loop1 (x : Vec Ideal S512x1024 .bf16) (d : Vec Ideal S512x3200 .bf16) (g : BufTy.Contents (Elt Ideal) a4.view.ty)
    (p : Fin 1024) (q : Fin 3200) : ∀ n : ℕ, n ≤ 4 →
    a4.view.read (Elt Ideal) (a4.view.writes (Elt Ideal) g
        (pb_k0_t1 (F := Ideal) 𝒱 c bd i a1 h1 a2 h2 a3 h3 a4 h4 (h1.unread x) (h2.unread d) g n)) (ix2 p q)
      = if p.val < 256 * n then a4.view.read (Elt Ideal) g (ix2 p q) + addAt x d p q else a4.view.read (Elt Ideal) g (ix2 p q) := by
  intro n
  induction n with
  | zero => intro _; rw [if_neg (by omega)]; rfl
  | succ n ih =>
    intro hn
    have hk : n < k0_t1_loop.trips := by rw [trips1]; omega
    rw [show n + 1 = (⟨n, hk⟩ : Fin k0_t1_loop.trips).val + 1 from rfl, pb_k0_t1_succ, trip1_eq]
    rw [List.singleton_append]
    by_cases hp : 256 * n ≤ p.val ∧ p.val < 256 * (n + 1)
    · have hin : (Rect.unit (s := S1024x3200) (k0_off1 ⟨n, hk⟩) S256x3200.size (k0_off1_inb ⟨n, hk⟩)).emb
          (ix2 (⟨p.val - 256 * n, by omega⟩ : Fin 256) q) = ix2 p q := by
        refine Rect.emb_eq_of_coords _ _ _ fun a => ?_
        match a with
        | ⟨0, _⟩ => show p.val = k0_off1 ⟨n, hk⟩ 0 + 1 * (p.val - 256 * n); rw [off1_eq]; show p.val = 256 * n + 1 * (p.val - 256 * n); omega
        | ⟨1, _⟩ => show q.val = k0_off1 ⟨n, hk⟩ 1 + 1 * q.val; rw [off1_eq]; show q.val = 0 + 1 * q.val; omega
      have hx (r : Fin 512) : (Rect.unit (s := S512x1024) (k0_off2 ⟨n, hk⟩) S512x256.size (k0_off2_inb ⟨n, hk⟩)).emb
          (ix2 r (⟨p.val - 256 * n, by omega⟩ : Fin 256)) = ix2 r p := by
        refine Rect.emb_eq_of_coords _ _ _ fun a => ?_
        match a with
        | ⟨0, _⟩ => show r.val = k0_off2 ⟨n, hk⟩ 0 + 1 * r.val; rw [off2_eq]; show r.val = 0 + 1 * r.val; omega
        | ⟨1, _⟩ => show p.val = k0_off2 ⟨n, hk⟩ 1 + 1 * (p.val - 256 * n); rw [off2_eq]; show p.val = 256 * n + 1 * (p.val - 256 * n); omega
      rw [View.read_writes_cons_hit a4.view g _ _ _ _ _ hin, pay2_apply, if_pos hp.2]
      refine congrArg₂ (· + ·) ?_ (Finset.sum_congr rfl fun r _ => congrArg₂ (· * ·) ?_ ?_)
      · refine (congrArg (a4.view.read (Elt Ideal) _) hin).trans ?_
        rw [ih (by omega), if_neg (by omega)]
      · refine (congrArg (a1.view.read (Elt Ideal) (h1.unread x)) (hx r)).trans ?_
        rw [h1.read_unread]
      · rw [View.readAt_eq_ld, h2.read_unread, View.ld_unit_zero (S := S512x3200) (by decide)]
    · rw [View.read_writes_cons_miss_of_axis a4.view g _ _ (ix2 p q) 0 (256 * n) 256
        (by show k0_off1 ⟨n, hk⟩ 0 = 256 * n; rw [off1_eq]; rfl) rfl rfl (by show p.val < 256 * n ∨ 256 * n + 256 ≤ p.val; omega), ih (by omega)]
      by_cases hq : p.val < 256 * n
      · rw [if_pos hq, if_pos (by dsimp only; omega)]
      · rw [if_neg hq, if_neg (by dsimp only; omega)]

/-- After the four trips every element has its addition. -/
theorem read_loop1_all (x : Vec Ideal S512x1024 .bf16) (d : Vec Ideal S512x3200 .bf16) (g : BufTy.Contents (Elt Ideal) a4.view.ty)
    (p : Fin 1024) (q : Fin 3200) :
    a4.view.read (Elt Ideal) (a4.view.writes (Elt Ideal) g
        (pb_k0_t1 (F := Ideal) 𝒱 c bd i a1 h1 a2 h2 a3 h3 a4 h4 (h1.unread x) (h2.unread d) g 4)) (ix2 p q)
      = a4.view.read (Elt Ideal) g (ix2 p q) + addAt x d p q := by
  rw [read_loop1 𝒱 c bd i a1 h1 a2 h2 a3 h3 a4 h4 x d g p q 4 le_rfl, if_pos (by omega)]

/-- After `n` trips of the emitting loop the first `256 n` rows of the result hold the accumulator's. -/
theorem read_loop2 (hk2 : k0_cond2 i = 1#1) (X4 : BufTy.Contents (Elt Ideal) a4.view.ty) (g : BufTy.Contents (Elt Ideal) a3.view.ty)
    (p : Fin 1024) (q : Fin 3200) : ∀ n : ℕ, n ≤ 4 → p.val < 256 * n →
    a3.view.read (Elt Ideal) (a3.view.writes (Elt Ideal) g
        (pb_k0_t2 (F := Ideal) 𝒱 c bd i a1 h1 a2 h2 a3 h3 a4 h4 hk2 X4 n)) (ix2 p q)
      = a4.view.read (Elt Ideal) X4 (ix2 p q) := by
  intro n
  induction n with
  | zero => intro _ h; omega
  | succ n ih =>
    intro hn hpn
    have hk : n < k0_t2_loop.trips := by rw [trips2]; omega
    rw [show n + 1 = (⟨n, hk⟩ : Fin k0_t2_loop.trips).val + 1 from rfl, pb_k0_t2_succ, trip2_eq]
    rw [List.singleton_append]
    by_cases hp : 256 * n ≤ p.val
    · have hin : (Rect.unit (s := S1024x3200) (k0_off3 ⟨n, hk⟩) S256x3200.size (k0_off3_inb i ⟨n, hk⟩ hk2)).emb
          (ix2 (⟨p.val - 256 * n, by omega⟩ : Fin 256) q) = ix2 p q := by
        refine Rect.emb_eq_of_coords _ _ _ fun a => ?_
        match a with
        | ⟨0, _⟩ => show p.val = k0_off3 ⟨n, hk⟩ 0 + 1 * (p.val - 256 * n); rw [off3_eq]; show p.val = 256 * n + 1 * (p.val - 256 * n); omega
        | ⟨1, _⟩ => show q.val = k0_off3 ⟨n, hk⟩ 1 + 1 * q.val; rw [off3_eq]; show q.val = 0 + 1 * q.val; omega
      rw [View.read_writes_cons_hit a3.view g _ _ _ _ _ hin, pay3_apply]
      exact congrArg (a4.view.read (Elt Ideal) X4) hin
    · rw [View.read_writes_cons_miss_of_axis a3.view g _ _ (ix2 p q) 0 (256 * n) 256
        (by show k0_off3 ⟨n, hk⟩ 0 = 256 * n; rw [off3_eq]; rfl) rfl rfl (by show p.val < 256 * n ∨ 256 * n + 256 ≤ p.val; omega)]
      exact ih (by omega) (by omega)

/-! ## The accumulator after a point, and the block emitted -/

theorem sout_A (hc0 : cond0_0 i) (hc1 : ¬cond0_1 i) (x : Vec Ideal S512x1024 .bf16) (d : Vec Ideal S512x3200 .bf16) (p : Fin 1024) (q : Fin 3200) :
    sout0_A_0 c i a1 h1 a2 h2 a3 h3 a4 h4 hc0 hc1 x d (ix2 p q) = addAt x d p q := by
  have hcov := scover0_A_0 c i a1 h1 a2 h2 a3 h3 a4 h4 hc0 hc1 x d
  unfold sout0_A_0
  rw [View.read_writes_eq_canon _ _ _ hcov, ← View.read_writes_eq_canon a4.view a4.view.junk _ hcov]
  unfold kernelRun0_A
  dsimp only
  sl_unfold_words
  rw [View.writes_append]
  refine (read_loop1_all Variants.none c none i a1 h1 a2 h2 a3 h3 a4 h4 x d _ p q).trans ?_
  rw [View.read_writes_cons_hit a4.view _ _ _ _ (ix2 p q) (ix2 p q)
    (Rect.emb_eq_of_coords _ _ _ fun a => by match a with | ⟨0, _⟩ => show p.val = 0 + 1 * p.val; omega | ⟨1, _⟩ => show q.val = 0 + 1 * q.val; omega),
    pay1_apply, zero_add]

theorem sout_B (hc0 : ¬cond0_0 i) (hc1 : ¬cond0_1 i) (x : Vec Ideal S512x1024 .bf16) (d : Vec Ideal S512x3200 .bf16) (a : Vec Ideal S1024x3200 .f32)
    (p : Fin 1024) (q : Fin 3200) :
    sout0_B_0 c i a1 h1 a2 h2 a3 h3 a4 h4 hc0 hc1 x d a (ix2 p q) = a (ix2 p q) + addAt x d p q := by
  have hcov := scover0_B_0 c i a1 h1 a2 h2 a3 h3 a4 h4 hc0 hc1 x d a
  unfold sout0_B_0
  rw [View.read_writes_eq_canon _ _ _ hcov, ← View.read_writes_eq_canon a4.view (h4.unread a) _ hcov]
  unfold kernelRun0_B
  dsimp only
  sl_unfold_words
  refine (read_loop1_all Variants.none c none i a1 h1 a2 h2 a3 h3 a4 h4 x d _ p q).trans ?_
  rw [h4.read_unread]

theorem out_C (hc0 : ¬cond0_0 i) (hc1 : cond0_1 i) (x : Vec Ideal S512x1024 .bf16) (d : Vec Ideal S512x3200 .bf16) (a : Vec Ideal S1024x3200 .f32)
    (p : Fin 1024) (q : Fin 3200) :
    out0_C_2 c i a1 h1 a2 h2 a3 h3 a4 h4 hc0 hc1 x d a (ix2 p q) = a (ix2 p q) + addAt x d p q := by
  have hcov := cover0_C_2 c i a1 h1 a2 h2 a3 h3 a4 h4 hc0 hc1 x d a
  unfold out0_C_2
  rw [View.read_writes_eq_canon _ _ _ hcov, ← View.read_writes_eq_canon a3.view a3.view.junk _ hcov]
  unfold kernelRun0_C
  dsimp only
  sl_unfold_words
  refine (read_loop2 Variants.none c none i a1 h1 a2 h2 a3 h3 a4 h4 hc1 _ _ p q 4 le_rfl (by omega)).trans ?_
  refine (read_loop1_all Variants.none c none i a1 h1 a2 h2 a3 h3 a4 h4 x d _ p q).trans ?_
  rw [h4.read_unread]

end Cert.WgradInIdeal.Value

end
-- ==== Proof.WgradInArrays.lean ====
/-
  The gradient of the weight of the first layer's projection after the run of the kernel that forms it: the eight blocks of 512 rows are visited in turn, and the
  accumulator ends as the product over all 4096 rows.
-/
module

public import proofs.«01_k».proof.Proof.WgradInKernel
public import proofs.«01_k».proof.Proof.AdamRow

@[expose] public section

set_option maxRecDepth 16384

noncomputable section

namespace Cert.WgradInIdeal.Value

open Cert.WgradInIdeal Cert.WgradInIdeal.Gen Cert.AdamRow Idealize.ShloMosaic Idealize.ShloMosaic.TcCoe Idealize.SL.Sem
open Idealize.ShloMosaic.Pipeline (Dat)

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = t.val ∧ win0_1.index t (1 : Fin 2) = 0 := (by decide +kernel : ∀ t : Fin grid0.N, _)
theorem at2 : ∀ t : Fin cfg0.N, win0_2.index t (0 : Fin 2) = 0 ∧ win0_2.index t (1 : Fin 2) = 0 := (by decide +kernel : ∀ t : Fin grid0.N, _)

theorem lt8 (t : Fin cfg0.N) : t.val < 8 := lt_of_lt_of_eq t.isLt N_0

/-- Row `p` of block `t`, in the array. -/
def at_ (t : Fin cfg0.N) (p : Fin 512) : Fin 4096 := ⟨512 * t.val + p.val, by have := lt8 t; omega⟩

theorem emb0 (t : Fin cfg0.N) (p : Fin 512) (k : Fin 1024) : ((cfg0.win 0).blk t).view.emb (ix2 p k) = ix2 (at_ t p) k := row2 (at0 t) rfl rfl rfl
theorem emb1 (t : Fin cfg0.N) (p : Fin 512) (k : Fin 3200) : ((cfg0.win 1).blk t).view.emb (ix2 p k) = ix2 (at_ t p) k := row2 (at1 t) rfl rfl rfl
theorem emb2 (t : Fin cfg0.N) (p : Fin 1024) (k : Fin 3200) : ((cfg0.win 2).blk t).view.emb (ix2 p k) = ix2 p k := whole2 (at2 t) rfl rfl

variable (m : (ℓ : Loc nD τ sig) → Buf (Elt Ideal) ℓ) (ρ : Dev nD → PrngReg)

/-- What row `r` of the two arrays adds to their product at row `p`, column `q`. -/
def rowTerm (x : S4096x1024.Idx → EReal) (d : S4096x3200.Idx → EReal) (p : Fin 1024) (q : Fin 3200) (r : Fin 4096) : EReal :=
  x (ix2 r p) * d (ix2 r q)

/-- That, of the argument arrays. -/
abbrev term (c : Dev nD) (p : Fin 1024) (q : Fin 3200) : Fin 4096 → EReal :=
  rowTerm (m ((c : Thread nD τ).loc main_arg0)) (m ((c : Thread nD τ).loc main_arg1)) p q

/-- The weight's gradient. -/
def DW (c : Dev nD) : S1024x3200.Idx → EReal := fun j => ∑ r : Fin 4096, term m c (j 0) (j 1) r

theorem iblk0_apply (c : Dev nD) (t : Fin cfg0.N) (p : Fin 512) (k : Fin 1024) :
    (iblk m c 0 t : Vec Ideal S512x1024 .bf16) (ix2 p k) = m ((c : Thread nD τ).loc main_arg0) (ix2 (at_ t p) k) := by
  show V m c main_arg0 (((cfg0.win 0).blk t).view.emb (ix2 p k)) = _; rw [emb0, V_main_arg0]
theorem iblk1_apply (c : Dev nD) (t : Fin cfg0.N) (p : Fin 512) (k : Fin 3200) :
    (iblk m c 1 t : Vec Ideal S512x3200 .bf16) (ix2 p k) = m ((c : Thread nD τ).loc main_arg1) (ix2 (at_ t p) k) := by
  show V m c main_arg1 (((cfg0.win 1).blk t).view.emb (ix2 p k)) = _; rw [emb1, V_main_arg1]

/-- A function of the arrays' rows, extended by zero past the last row. -/
def rowsExt (f : Fin 4096 → EReal) (n : Nat) : EReal := if h : n < 4096 then f ⟨n, h⟩ else 0

theorem block (c : Dev nD) (t : Fin cfg0.N) (p : Fin 1024) (q : Fin 3200) :
    addAt (iblk m c 0 t) (iblk m c 1 t) p q = ∑ k ∈ Finset.range 512, rowsExt (term m c p q) (512 * t.val + k) := by
  rw [← Fin.sum_univ_eq_sum_range (fun k => rowsExt (term m c p q) (512 * t.val + k)) 512]
  refine Finset.sum_congr rfl fun r _ => ?_
  rw [iblk0_apply, iblk1_apply, rowsExt, dif_pos (show 512 * t.val + r.val < 4096 by have := lt8 t; omega)]
  rfl

/-- The accumulator after point `n`, before the last. -/
theorem acc_eq (c : Dev nD) (p : Fin 1024) (q : Fin 3200) : ∀ (n : Nat) (h : n < cfg0.N), n < 7 →
    (outsAt0 m c n h).2 (ix2 p q) = ∑ r ∈ Finset.range (512 * (n + 1)), rowsExt (term m c p q) r := by
  intro n
  induction n with
  | zero =>
    intro h _
    rw [show outsAt0 m c 0 h = outsAt0 m c (⟨0, h⟩ : Fin cfg0.N).val (⟨0, h⟩ : Fin cfg0.N).isLt from rfl,
      outsAt0_A m c ⟨0, h⟩ (Nat.zero_mod _) (by dsimp only; omega)]
    dsimp only
    rw [sout_A, block]
    simp
  | succ n ih =>
    intro h h7
    rw [show outsAt0 m c (n + 1) h = outsAt0 m c (⟨n + 1, h⟩ : Fin cfg0.N).val (⟨n + 1, h⟩ : Fin cfg0.N).isLt from rfl,
      outsAt0_B m c ⟨n + 1, h⟩ (by dsimp only; omega) (by dsimp only; omega)]
    dsimp only
    rw [sout_B, block]
    simp only [Nat.add_sub_cancel]
    rw [ih _ (by omega), show 512 * (n + 1 + 1) = 512 * (n + 1) + 512 by ring, Finset.sum_range_add]

theorem flushed2_dw (c : Dev nD) (t : Fin cfg0.N) (hf : (cfg0.win 2).flush t = true) :
    (dats m 0 c).flushed 2 t = ((cfg0.win 2).blk t).view.read (Elt Ideal) (DW m c) := by
  have h7 : t.val = 7 := by have := (flush0_2 t).mp hf; have := lt8 t; omega
  rw [flushed2]
  funext j
  obtain ⟨p, q, rfl⟩ : ∃ (p : Fin 1024) (q : Fin 3200), j = ix2 p q := ⟨j 0, j 1, eq_ix2 j⟩
  show (outsAt0 m c t.val t.isLt).1 (ix2 p q) = DW m c (((cfg0.win 2).blk t).view.emb (ix2 p q))
  rw [emb2, outsAt0_C m c t (by omega) (by omega)]
  dsimp only
  rw [out_C, acc_eq m c p q (t.val - 1) _ (by omega), block, h7]
  show ∑ r ∈ Finset.range (512 * 7), rowsExt (term m c p q) r + ∑ k ∈ Finset.range 512, rowsExt (term m c p q) (512 * 7 + k)
    = ∑ r : Fin 4096, term m c p q r
  rw [← Finset.sum_range_add, ← Fin.sum_univ_eq_sum_range (rowsExt (term m c p q)) 4096]
  exact Finset.sum_congr rfl fun r _ => dif_pos r.isLt

theorem final2_dw (c : Dev nD) : (dats m 0 c).arrAt 2 cfg0.N = DW m c :=
  (dats m 0 c).arrAt_eq_of_cover 2 (DW m c) (flushed2_dw m c) fun i => by
    have hN : 7 < cfg0.N := by rw [show cfg0.N = 8 from N_0]; decide
    refine ⟨⟨7, hN⟩, (flush0_2 _).mpr rfl, ?_⟩
    have e : ((cfg0.win 2).blk ⟨7, hN⟩).view.emb (ix2 (i 0 : Fin 1024) (i 1 : Fin 3200)) = i := (emb2 _ _ _).trans (eq_ix2 i).symm
    exact e ▸ ((cfg0.win 2).blk ⟨7, hN⟩).view.emb_mem_set (ix2 (i 0 : Fin 1024) (i 1 : Fin 3200))

/-- The run, its result named. -/
theorem run_dw : θ_run defs (onTc (τ := τ) (main (F := Ideal))) ⟨m, fun _ => 0, ρ⟩ fun r => ∀ c : Dev nD,
      r.2.mem ((c : Thread nD τ).loc main_v0) = DW m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2_dw m c), (h c).2⟩) (run_blocks m ρ)

end Cert.WgradInIdeal.Value

end
-- ==== Proof.WgradInClaims.lean ====
/- The claims about the gradient of the weight of the first layer's projection, put together: the kernel and the derivative of the product end with the same array. -/
module

public import proofs.«01_k».proof.Defs
public import proofs.«01_k».proof.Proof.Gen.WgradIn.Frame
public import proofs.«01_k».proof.Proof.Gen.WgradInIdeal.Frame
public import proofs.«01_k».proof.Proof.Gen.WgradInRefIdeal.Run
public import proofs.«01_k».proof.Proof.Gen.WgradInRefIdeal.Read
public import proofs.«01_k».proof.Proof.WgradInArrays
public import Idealize.ShloMosaic.Lib.Quiescent

@[expose] public section

set_option maxRecDepth 16384

noncomputable section

namespace Cert.Proof

open Idealize.ShloMosaic Idealize.SL.Sem
open Cert.WgradInRefIdeal Cert.WgradInRefIdeal.Read

/-- The derivative of the product in the weight, at an index. -/
theorem wgradInRef_apply (x : (⟨S4096x1024, .bf16⟩ : BufTy).Contents (Elt Ideal)) (d : (⟨S4096x3200, .bf16⟩ : BufTy).Contents (Elt Ideal))
    (p : Fin 1024) (q : Fin 3200) :
    val_main_v6 (F := Ideal) x d (ix2 p q) = ∑ r : Fin 4096, Cert.WgradInIdeal.Value.rowTerm x d p q r := by
  pointwise [val_main_v6, val_main_v5, val_main_v4, val_main_v3, val_main_v1]
  exact Finset.sum_congr rfl fun r _ => mul_comm _ _

/-- The reference stops with its arguments unchanged; it has no semaphore whose counter could differ from zero. -/
theorem wgradInRef_frame : quiescent_WgradInRefIdeal := fun m ρ _ =>
  (θ_run _ _ _).mono (fun r h => ⟨fun c => (h c).2, sem_eq_zero_of_no_sems (by decide) r.2⟩)
    (Cert.WgradInRefIdeal.Value.run (F := Ideal) m ρ)

/-- The kernel and the derivative of the product end with equal results. -/
theorem wgradIn_algebraic : algebraic_WgradInIdeal_WgradInRefIdeal := fun m ρ m' ρ' _ hag => by
  refine ⟨fun c => Cert.WgradInIdeal.Value.DW m c, Cert.WgradInIdeal.Value.run_dw m ρ,
    (θ_run _ _ _).mono (fun r h c => ?_) (Cert.WgradInRefIdeal.Value.run (F := Ideal) m' ρ')⟩
  obtain ⟨h0, h1⟩ := h c
  obtain ⟨a0, a1⟩ := hag c
  refine ⟨h0.trans (funext fun i => ?_), h1⟩
  rw [eq_ix2 i, val_main_v6_eq, a0, a1]
  exact wgradInRef_apply _ _ _ _

end Cert.Proof

end
-- ==== Proof.WgradQKernel.lean ====
/-
  One grid point of the kernel that forms the gradient of the weight of the second layer's queries: the product of a block of 512 rows of the activations,
  transposed, with the same rows of the gradients is added to an accumulator, 256 of its rows at a time.
-/
module

public import proofs.«01_k».proof.Proof.Gen.WgradQIdeal.Value
public import Idealize.ShloMosaic.Lib.Pointwise
public import Idealize.ShloMosaic.Lib.Tactic

@[expose] public section

set_option maxRecDepth 16384

noncomputable section

namespace Cert.WgradQIdeal.Value

open Cert.WgradQIdeal Cert.WgradQIdeal.Gen Idealize.ShloMosaic Idealize.ShloMosaic.TcCoe Idealize.SL.Sem

/-- What one point adds to the accumulator at row `p`, column `q`. -/
def addAt (x : Vec Ideal S512x1024 .bf16) (d : Vec Ideal S512x1536 .bf16) (p : Fin 1024) (q : Fin 1536) : EReal :=
  ∑ k : Fin 512, x (ix2 k p) * d (ix2 k q)

theorem pay1_apply (p : Fin 1024) (q : Fin 1536) : k0_pay1 (F := Ideal) (ix2 p q) = 0 := by
  pointwise [k0_pay1]

theorem pay2_apply (a : Vec Ideal S256x1536 .f32) (x : Vec Ideal S512x256 .bf16) (d : Vec Ideal S512x1536 .bf16) (p : Fin 256) (q : Fin 1536) :
    k0_pay2 (F := Ideal) a x d (ix2 p q) = a (ix2 p q) + ∑ k : Fin 512, x (ix2 k p) * d (ix2 k q) := by
  pointwise [k0_pay2]

theorem pay3_apply (a : Vec Ideal S256x1536 .f32) (p : Fin 256) (q : Fin 1536) : k0_pay3 (F := Ideal) a (ix2 p q) = a (ix2 p q) := by
  pointwise [k0_pay3]

theorem off1_eq : ∀ k : Fin k0_t1_loop.trips, k0_off1 k = ![256 * k.val, 0] := (by decide +kernel)
theorem off2_eq : ∀ k : Fin k0_t1_loop.trips, k0_off2 k = ![0, 256 * k.val] := (by decide +kernel)
theorem off3_eq : ∀ k : Fin k0_t2_loop.trips, k0_off3 k = ![256 * k.val, 0] := (by decide +kernel)
theorem trips1 : k0_t1_loop.trips = 4 := (by decide +kernel)
theorem trips2 : k0_t2_loop.trips = 4 := (by decide +kernel)

variable (𝒱 : Variants) (c : Dev nD) (bd : Option 𝒱.V) (i : grid0.Coords)
  (a1 : Memref sig .tc .vmem S512x1024 .bf16) (h1 : a1.IsWhole) (a2 : Memref sig .tc .vmem S512x1536 .bf16) (h2 : a2.IsWhole)
  (a3 : Memref sig .tc .vmem S1024x1536 .bf16) (h3 : a3.IsWhole) (a4 : Memref sig .tc .vmem S1024x1536 .f32) (h4 : a4.IsWhole)

/-- One trip of the accumulating loop stores one block of 256 rows. -/
theorem trip1_eq (X1 : BufTy.Contents (Elt Ideal) a1.view.ty) (X2 : BufTy.Contents (Elt Ideal) a2.view.ty) (f : BufTy.Contents (Elt Ideal) a4.view.ty)
    (k : Fin k0_t1_loop.trips) :
    tripL_k0_t1 (F := Ideal) 𝒱 c bd i a1 h1 a2 h2 a3 h3 a4 h4 X1 X2 k f
      = [⟨Rect.unit (s := S1024x1536) (k0_off1 k) S256x1536.size (k0_off1_inb k),
          k0_pay2 (F := Ideal) (View.readAt (Elt Ideal) a4.view (Rect.unit (s := S1024x1536) (k0_off1 k) S256x1536.size (k0_off1_inb k)).toLoadRect f)
            (View.readAt (Elt Ideal) a1.view (Rect.unit (s := S512x1024) (k0_off2 k) S512x256.size (k0_off2_inb k)).toLoadRect X1)
            (View.readAt (Elt Ideal) a2.view (Rect.unit (s := S512x1536) ![0, 0] S512x1536.size inb_S512x1536_S512x1536_0_0).toLoadRect X2)⟩] := by
  unfold tripL_k0_t1 trip_k0_t1
  rfl

/-- One trip of the emitting loop stores one block of 256 rows. -/
theorem trip2_eq (hk2 : k0_cond2 i = 1#1) (X4 : BufTy.Contents (Elt Ideal) a4.view.ty) (k : Fin k0_t2_loop.trips) :
    tripL_k0_t2 (F := Ideal) 𝒱 c bd i a1 h1 a2 h2 a3 h3 a4 h4 hk2 X4 k
      = [⟨Rect.unit (s := S1024x1536) (k0_off3 k) S256x1536.size (k0_off3_inb i k hk2),
          k0_pay3 (F := Ideal) (View.readAt (Elt Ideal) a4.view (Rect.unit (s := S1024x1536) (k0_off3 k) S256x1536.size (k0_off3_inb i k hk2)).toLoadRect X4)⟩] := by
  unfold tripL_k0_t2 trip_k0_t2
  rfl

/-- After `n` trips the first `256 n` rows have their addition, the others have what they held. -/
theorem read_loop1 (x : Vec Ideal S512x1024 .bf16) (d : Vec Ideal S512x1536 .bf16) (g : BufTy.Contents (Elt Ideal) a4.view.ty)
    (p : Fin 1024) (q : Fin 1536) : ∀ n : ℕ, n ≤ 4 →
    a4.view.read (Elt Ideal) (a4.view.writes (Elt Ideal) g
        (pb_k0_t1 (F := Ideal) 𝒱 c bd i a1 h1 a2 h2 a3 h3 a4 h4 (h1.unread x) (h2.unread d) g n)) (ix2 p q)
      = if p.val < 256 * n then a4.view.read (Elt Ideal) g (ix2 p q) + addAt x d p q else a4.view.read (Elt Ideal) g (ix2 p q) := by
  intro n
  induction n with
  | zero => intro _; rw [if_neg (by omega)]; rfl
  | succ n ih =>
    intro hn
    have hk : n < k0_t1_loop.trips := by rw [trips1]; omega
    rw [show n + 1 = (⟨n, hk⟩ : Fin k0_t1_loop.trips).val + 1 from rfl, pb_k0_t1_succ, trip1_eq]
    rw [List.singleton_append]
    by_cases hp : 256 * n ≤ p.val ∧ p.val < 256 * (n + 1)
    · have hin : (Rect.unit (s := S1024x1536) (k0_off1 ⟨n, hk⟩) S256x1536.size (k0_off1_inb ⟨n, hk⟩)).emb
          (ix2 (⟨p.val - 256 * n, by omega⟩ : Fin 256) q) = ix2 p q := by
        refine Rect.emb_eq_of_coords _ _ _ fun a => ?_
        match a with
        | ⟨0, _⟩ => show p.val = k0_off1 ⟨n, hk⟩ 0 + 1 * (p.val - 256 * n); rw [off1_eq]; show p.val = 256 * n + 1 * (p.val - 256 * n); omega
        | ⟨1, _⟩ => show q.val = k0_off1 ⟨n, hk⟩ 1 + 1 * q.val; rw [off1_eq]; show q.val = 0 + 1 * q.val; omega
      have hx (r : Fin 512) : (Rect.unit (s := S512x1024) (k0_off2 ⟨n, hk⟩) S512x256.size (k0_off2_inb ⟨n, hk⟩)).emb
          (ix2 r (⟨p.val - 256 * n, by omega⟩ : Fin 256)) = ix2 r p := by
        refine Rect.emb_eq_of_coords _ _ _ fun a => ?_
        match a with
        | ⟨0, _⟩ => show r.val = k0_off2 ⟨n, hk⟩ 0 + 1 * r.val; rw [off2_eq]; show r.val = 0 + 1 * r.val; omega
        | ⟨1, _⟩ => show p.val = k0_off2 ⟨n, hk⟩ 1 + 1 * (p.val - 256 * n); rw [off2_eq]; show p.val = 256 * n + 1 * (p.val - 256 * n); omega
      rw [View.read_writes_cons_hit a4.view g _ _ _ _ _ hin, pay2_apply, if_pos hp.2]
      refine congrArg₂ (· + ·) ?_ (Finset.sum_congr rfl fun r _ => congrArg₂ (· * ·) ?_ ?_)
      · refine (congrArg (a4.view.read (Elt Ideal) _) hin).trans ?_
        rw [ih (by omega), if_neg (by omega)]
      · refine (congrArg (a1.view.read (Elt Ideal) (h1.unread x)) (hx r)).trans ?_
        rw [h1.read_unread]
      · rw [View.readAt_eq_ld, h2.read_unread, View.ld_unit_zero (S := S512x1536) (by decide)]
    · rw [View.read_writes_cons_miss_of_axis a4.view g _ _ (ix2 p q) 0 (256 * n) 256
        (by show k0_off1 ⟨n, hk⟩ 0 = 256 * n; rw [off1_eq]; rfl) rfl rfl (by show p.val < 256 * n ∨ 256 * n + 256 ≤ p.val; omega), ih (by omega)]
      by_cases hq : p.val < 256 * n
      · rw [if_pos hq, if_pos (by dsimp only; omega)]
      · rw [if_neg hq, if_neg (by dsimp only; omega)]

/-- After the four trips every element has its addition. -/
theorem read_loop1_all (x : Vec Ideal S512x1024 .bf16) (d : Vec Ideal S512x1536 .bf16) (g : BufTy.Contents (Elt Ideal) a4.view.ty)
    (p : Fin 1024) (q : Fin 1536) :
    a4.view.read (Elt Ideal) (a4.view.writes (Elt Ideal) g
        (pb_k0_t1 (F := Ideal) 𝒱 c bd i a1 h1 a2 h2 a3 h3 a4 h4 (h1.unread x) (h2.unread d) g 4)) (ix2 p q)
      = a4.view.read (Elt Ideal) g (ix2 p q) + addAt x d p q := by
  rw [read_loop1 𝒱 c bd i a1 h1 a2 h2 a3 h3 a4 h4 x d g p q 4 le_rfl, if_pos (by omega)]

/-- After `n` trips of the emitting loop the first `256 n` rows of the result hold the accumulator's. -/
theorem read_loop2 (hk2 : k0_cond2 i = 1#1) (X4 : BufTy.Contents (Elt Ideal) a4.view.ty) (g : BufTy.Contents (Elt Ideal) a3.view.ty)
    (p : Fin 1024) (q : Fin 1536) : ∀ n : ℕ, n ≤ 4 → p.val < 256 * n →
    a3.view.read (Elt Ideal) (a3.view.writes (Elt Ideal) g
        (pb_k0_t2 (F := Ideal) 𝒱 c bd i a1 h1 a2 h2 a3 h3 a4 h4 hk2 X4 n)) (ix2 p q)
      = a4.view.read (Elt Ideal) X4 (ix2 p q) := by
  intro n
  induction n with
  | zero => intro _ h; omega
  | succ n ih =>
    intro hn hpn
    have hk : n < k0_t2_loop.trips := by rw [trips2]; omega
    rw [show n + 1 = (⟨n, hk⟩ : Fin k0_t2_loop.trips).val + 1 from rfl, pb_k0_t2_succ, trip2_eq]
    rw [List.singleton_append]
    by_cases hp : 256 * n ≤ p.val
    · have hin : (Rect.unit (s := S1024x1536) (k0_off3 ⟨n, hk⟩) S256x1536.size (k0_off3_inb i ⟨n, hk⟩ hk2)).emb
          (ix2 (⟨p.val - 256 * n, by omega⟩ : Fin 256) q) = ix2 p q := by
        refine Rect.emb_eq_of_coords _ _ _ fun a => ?_
        match a with
        | ⟨0, _⟩ => show p.val = k0_off3 ⟨n, hk⟩ 0 + 1 * (p.val - 256 * n); rw [off3_eq]; show p.val = 256 * n + 1 * (p.val - 256 * n); omega
        | ⟨1, _⟩ => show q.val = k0_off3 ⟨n, hk⟩ 1 + 1 * q.val; rw [off3_eq]; show q.val = 0 + 1 * q.val; omega
      rw [View.read_writes_cons_hit a3.view g _ _ _ _ _ hin, pay3_apply]
      exact congrArg (a4.view.read (Elt Ideal) X4) hin
    · rw [View.read_writes_cons_miss_of_axis a3.view g _ _ (ix2 p q) 0 (256 * n) 256
        (by show k0_off3 ⟨n, hk⟩ 0 = 256 * n; rw [off3_eq]; rfl) rfl rfl (by show p.val < 256 * n ∨ 256 * n + 256 ≤ p.val; omega)]
      exact ih (by omega) (by omega)

/-! ## The accumulator after a point, and the block emitted -/

theorem sout_A (hc0 : cond0_0 i) (hc1 : ¬cond0_1 i) (x : Vec Ideal S512x1024 .bf16) (d : Vec Ideal S512x1536 .bf16) (p : Fin 1024) (q : Fin 1536) :
    sout0_A_0 c i a1 h1 a2 h2 a3 h3 a4 h4 hc0 hc1 x d (ix2 p q) = addAt x d p q := by
  have hcov := scover0_A_0 c i a1 h1 a2 h2 a3 h3 a4 h4 hc0 hc1 x d
  unfold sout0_A_0
  rw [View.read_writes_eq_canon _ _ _ hcov, ← View.read_writes_eq_canon a4.view a4.view.junk _ hcov]
  unfold kernelRun0_A
  dsimp only
  sl_unfold_words
  rw [View.writes_append]
  refine (read_loop1_all Variants.none c none i a1 h1 a2 h2 a3 h3 a4 h4 x d _ p q).trans ?_
  rw [View.read_writes_cons_hit a4.view _ _ _ _ (ix2 p q) (ix2 p q)
    (Rect.emb_eq_of_coords _ _ _ fun a => by match a with | ⟨0, _⟩ => show p.val = 0 + 1 * p.val; omega | ⟨1, _⟩ => show q.val = 0 + 1 * q.val; omega),
    pay1_apply, zero_add]

theorem sout_B (hc0 : ¬cond0_0 i) (hc1 : ¬cond0_1 i) (x : Vec Ideal S512x1024 .bf16) (d : Vec Ideal S512x1536 .bf16) (a : Vec Ideal S1024x1536 .f32)
    (p : Fin 1024) (q : Fin 1536) :
    sout0_B_0 c i a1 h1 a2 h2 a3 h3 a4 h4 hc0 hc1 x d a (ix2 p q) = a (ix2 p q) + addAt x d p q := by
  have hcov := scover0_B_0 c i a1 h1 a2 h2 a3 h3 a4 h4 hc0 hc1 x d a
  unfold sout0_B_0
  rw [View.read_writes_eq_canon _ _ _ hcov, ← View.read_writes_eq_canon a4.view (h4.unread a) _ hcov]
  unfold kernelRun0_B
  dsimp only
  sl_unfold_words
  refine (read_loop1_all Variants.none c none i a1 h1 a2 h2 a3 h3 a4 h4 x d _ p q).trans ?_
  rw [h4.read_unread]

theorem out_C (hc0 : ¬cond0_0 i) (hc1 : cond0_1 i) (x : Vec Ideal S512x1024 .bf16) (d : Vec Ideal S512x1536 .bf16) (a : Vec Ideal S1024x1536 .f32)
    (p : Fin 1024) (q : Fin 1536) :
    out0_C_2 c i a1 h1 a2 h2 a3 h3 a4 h4 hc0 hc1 x d a (ix2 p q) = a (ix2 p q) + addAt x d p q := by
  have hcov := cover0_C_2 c i a1 h1 a2 h2 a3 h3 a4 h4 hc0 hc1 x d a
  unfold out0_C_2
  rw [View.read_writes_eq_canon _ _ _ hcov, ← View.read_writes_eq_canon a3.view a3.view.junk _ hcov]
  unfold kernelRun0_C
  dsimp only
  sl_unfold_words
  refine (read_loop2 Variants.none c none i a1 h1 a2 h2 a3 h3 a4 h4 hc1 _ _ p q 4 le_rfl (by omega)).trans ?_
  refine (read_loop1_all Variants.none c none i a1 h1 a2 h2 a3 h3 a4 h4 x d _ p q).trans ?_
  rw [h4.read_unread]

end Cert.WgradQIdeal.Value

end
-- ==== Proof.WgradQArrays.lean ====
/-
  The gradient of the weight of the second layer's queries after the run of the kernel that forms it: the eight blocks of 512 rows are visited in turn, and the
  accumulator ends as the product over all 4096 rows.
-/
module

public import proofs.«01_k».proof.Proof.WgradQKernel
public import proofs.«01_k».proof.Proof.AdamRow

@[expose] public section

set_option maxRecDepth 16384

noncomputable section

namespace Cert.WgradQIdeal.Value

open Cert.WgradQIdeal Cert.WgradQIdeal.Gen Cert.AdamRow Idealize.ShloMosaic Idealize.ShloMosaic.TcCoe Idealize.SL.Sem
open Idealize.ShloMosaic.Pipeline (Dat)

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = t.val ∧ win0_1.index t (1 : Fin 2) = 0 := (by decide +kernel : ∀ t : Fin grid0.N, _)
theorem at2 : ∀ t : Fin cfg0.N, win0_2.index t (0 : Fin 2) = 0 ∧ win0_2.index t (1 : Fin 2) = 0 := (by decide +kernel : ∀ t : Fin grid0.N, _)

theorem lt8 (t : Fin cfg0.N) : t.val < 8 := lt_of_lt_of_eq t.isLt N_0

/-- Row `p` of block `t`, in the array. -/
def at_ (t : Fin cfg0.N) (p : Fin 512) : Fin 4096 := ⟨512 * t.val + p.val, by have := lt8 t; omega⟩

theorem emb0 (t : Fin cfg0.N) (p : Fin 512) (k : Fin 1024) : ((cfg0.win 0).blk t).view.emb (ix2 p k) = ix2 (at_ t p) k := row2 (at0 t) rfl rfl rfl
theorem emb1 (t : Fin cfg0.N) (p : Fin 512) (k : Fin 1536) : ((cfg0.win 1).blk t).view.emb (ix2 p k) = ix2 (at_ t p) k := row2 (at1 t) rfl rfl rfl
theorem emb2 (t : Fin cfg0.N) (p : Fin 1024) (k : Fin 1536) : ((cfg0.win 2).blk t).view.emb (ix2 p k) = ix2 p k := whole2 (at2 t) rfl rfl

variable (m : (ℓ : Loc nD τ sig) → Buf (Elt Ideal) ℓ) (ρ : Dev nD → PrngReg)

/-- What row `r` of the two arrays adds to their product at row `p`, column `q`. -/
def rowTerm (x : S4096x1024.Idx → EReal) (d : S4096x1536.Idx → EReal) (p : Fin 1024) (q : Fin 1536) (r : Fin 4096) : EReal :=
  x (ix2 r p) * d (ix2 r q)

/-- That, of the argument arrays. -/
abbrev term (c : Dev nD) (p : Fin 1024) (q : Fin 1536) : Fin 4096 → EReal :=
  rowTerm (m ((c : Thread nD τ).loc main_arg0)) (m ((c : Thread nD τ).loc main_arg1)) p q

/-- The weight's gradient. -/
def DW (c : Dev nD) : S1024x1536.Idx → EReal := fun j => ∑ r : Fin 4096, term m c (j 0) (j 1) r

theorem iblk0_apply (c : Dev nD) (t : Fin cfg0.N) (p : Fin 512) (k : Fin 1024) :
    (iblk m c 0 t : Vec Ideal S512x1024 .bf16) (ix2 p k) = m ((c : Thread nD τ).loc main_arg0) (ix2 (at_ t p) k) := by
  show V m c main_arg0 (((cfg0.win 0).blk t).view.emb (ix2 p k)) = _; rw [emb0, V_main_arg0]
theorem iblk1_apply (c : Dev nD) (t : Fin cfg0.N) (p : Fin 512) (k : Fin 1536) :
    (iblk m c 1 t : Vec Ideal S512x1536 .bf16) (ix2 p k) = m ((c : Thread nD τ).loc main_arg1) (ix2 (at_ t p) k) := by
  show V m c main_arg1 (((cfg0.win 1).blk t).view.emb (ix2 p k)) = _; rw [emb1, V_main_arg1]

/-- A function of the arrays' rows, extended by zero past the last row. -/
def rowsExt (f : Fin 4096 → EReal) (n : Nat) : EReal := if h : n < 4096 then f ⟨n, h⟩ else 0

theorem block (c : Dev nD) (t : Fin cfg0.N) (p : Fin 1024) (q : Fin 1536) :
    addAt (iblk m c 0 t) (iblk m c 1 t) p q = ∑ k ∈ Finset.range 512, rowsExt (term m c p q) (512 * t.val + k) := by
  rw [← Fin.sum_univ_eq_sum_range (fun k => rowsExt (term m c p q) (512 * t.val + k)) 512]
  refine Finset.sum_congr rfl fun r _ => ?_
  rw [iblk0_apply, iblk1_apply, rowsExt, dif_pos (show 512 * t.val + r.val < 4096 by have := lt8 t; omega)]
  rfl

/-- The accumulator after point `n`, before the last. -/
theorem acc_eq (c : Dev nD) (p : Fin 1024) (q : Fin 1536) : ∀ (n : Nat) (h : n < cfg0.N), n < 7 →
    (outsAt0 m c n h).2 (ix2 p q) = ∑ r ∈ Finset.range (512 * (n + 1)), rowsExt (term m c p q) r := by
  intro n
  induction n with
  | zero =>
    intro h _
    rw [show outsAt0 m c 0 h = outsAt0 m c (⟨0, h⟩ : Fin cfg0.N).val (⟨0, h⟩ : Fin cfg0.N).isLt from rfl,
      outsAt0_A m c ⟨0, h⟩ (Nat.zero_mod _) (by dsimp only; omega)]
    dsimp only
    rw [sout_A, block]
    simp
  | succ n ih =>
    intro h h7
    rw [show outsAt0 m c (n + 1) h = outsAt0 m c (⟨n + 1, h⟩ : Fin cfg0.N).val (⟨n + 1, h⟩ : Fin cfg0.N).isLt from rfl,
      outsAt0_B m c ⟨n + 1, h⟩ (by dsimp only; omega) (by dsimp only; omega)]
    dsimp only
    rw [sout_B, block]
    simp only [Nat.add_sub_cancel]
    rw [ih _ (by omega), show 512 * (n + 1 + 1) = 512 * (n + 1) + 512 by ring, Finset.sum_range_add]

theorem flushed2_dw (c : Dev nD) (t : Fin cfg0.N) (hf : (cfg0.win 2).flush t = true) :
    (dats m 0 c).flushed 2 t = ((cfg0.win 2).blk t).view.read (Elt Ideal) (DW m c) := by
  have h7 : t.val = 7 := by have := (flush0_2 t).mp hf; have := lt8 t; omega
  rw [flushed2]
  funext j
  obtain ⟨p, q, rfl⟩ : ∃ (p : Fin 1024) (q : Fin 1536), j = ix2 p q := ⟨j 0, j 1, eq_ix2 j⟩
  show (outsAt0 m c t.val t.isLt).1 (ix2 p q) = DW m c (((cfg0.win 2).blk t).view.emb (ix2 p q))
  rw [emb2, outsAt0_C m c t (by omega) (by omega)]
  dsimp only
  rw [out_C, acc_eq m c p q (t.val - 1) _ (by omega), block, h7]
  show ∑ r ∈ Finset.range (512 * 7), rowsExt (term m c p q) r + ∑ k ∈ Finset.range 512, rowsExt (term m c p q) (512 * 7 + k)
    = ∑ r : Fin 4096, term m c p q r
  rw [← Finset.sum_range_add, ← Fin.sum_univ_eq_sum_range (rowsExt (term m c p q)) 4096]
  exact Finset.sum_congr rfl fun r _ => dif_pos r.isLt

theorem final2_dw (c : Dev nD) : (dats m 0 c).arrAt 2 cfg0.N = DW m c :=
  (dats m 0 c).arrAt_eq_of_cover 2 (DW m c) (flushed2_dw m c) fun i => by
    have hN : 7 < cfg0.N := by rw [show cfg0.N = 8 from N_0]; decide
    refine ⟨⟨7, hN⟩, (flush0_2 _).mpr rfl, ?_⟩
    have e : ((cfg0.win 2).blk ⟨7, hN⟩).view.emb (ix2 (i 0 : Fin 1024) (i 1 : Fin 1536)) = i := (emb2 _ _ _).trans (eq_ix2 i).symm
    exact e ▸ ((cfg0.win 2).blk ⟨7, hN⟩).view.emb_mem_set (ix2 (i 0 : Fin 1024) (i 1 : Fin 1536))

/-- The run, its result named. -/
theorem run_dw : θ_run defs (onTc (τ := τ) (main (F := Ideal))) ⟨m, fun _ => 0, ρ⟩ fun r => ∀ c : Dev nD,
      r.2.mem ((c : Thread nD τ).loc main_v0) = DW m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2_dw m c), (h c).2⟩) (run_blocks m ρ)

end Cert.WgradQIdeal.Value

end
-- ==== Proof.WgradQClaims.lean ====
/- The claims about the gradient of the weight of the second layer's queries, put together: the kernel and the derivative of the product end with the same array. -/
module

public import proofs.«01_k».proof.Defs
public import proofs.«01_k».proof.Proof.Gen.WgradQ.Frame
public import proofs.«01_k».proof.Proof.Gen.WgradQIdeal.Frame
public import proofs.«01_k».proof.Proof.Gen.WgradQRefIdeal.Run
public import proofs.«01_k».proof.Proof.Gen.WgradQRefIdeal.Read
public import proofs.«01_k».proof.Proof.WgradQArrays
public import Idealize.ShloMosaic.Lib.Quiescent

@[expose] public section

set_option maxRecDepth 16384

noncomputable section

namespace Cert.Proof

open Idealize.ShloMosaic Idealize.SL.Sem
open Cert.WgradQRefIdeal Cert.WgradQRefIdeal.Read

/-- The derivative of the product in the weight, at an index. -/
theorem wgradQRef_apply (x : (⟨S4096x1024, .bf16⟩ : BufTy).Contents (Elt Ideal)) (d : (⟨S4096x1536, .bf16⟩ : BufTy).Contents (Elt Ideal))
    (p : Fin 1024) (q : Fin 1536) :
    val_main_v6 (F := Ideal) x d (ix2 p q) = ∑ r : Fin 4096, Cert.WgradQIdeal.Value.rowTerm x d p q r := by
  pointwise [val_main_v6, val_main_v5, val_main_v4, val_main_v3, val_main_v1]
  exact Finset.sum_congr rfl fun r _ => mul_comm _ _

/-- The reference stops with its arguments unchanged; it has no semaphore whose counter could differ from zero. -/
theorem wgradQRef_frame : quiescent_WgradQRefIdeal := fun m ρ _ =>
  (θ_run _ _ _).mono (fun r h => ⟨fun c => (h c).2, sem_eq_zero_of_no_sems (by decide) r.2⟩)
    (Cert.WgradQRefIdeal.Value.run (F := Ideal) m ρ)

/-- The kernel and the derivative of the product end with equal results. -/
theorem wgradQ_algebraic : algebraic_WgradQIdeal_WgradQRefIdeal := fun m ρ m' ρ' _ hag => by
  refine ⟨fun c => Cert.WgradQIdeal.Value.DW m c, Cert.WgradQIdeal.Value.run_dw m ρ,
    (θ_run _ _ _).mono (fun r h c => ?_) (Cert.WgradQRefIdeal.Value.run (F := Ideal) m' ρ')⟩
  obtain ⟨h0, h1⟩ := h c
  obtain ⟨a0, a1⟩ := hag c
  refine ⟨h0.trans (funext fun i => ?_), h1⟩
  rw [eq_ix2 i, val_main_v6_eq, a0, a1]
  exact wgradQRef_apply _ _ _ _

end Cert.Proof

end
-- ==== Proof.NormKvKernel.lean ====
/-
  The kernel that backs the keys' and values' gradients through the projection and the
  root-mean-square norm before it, read as a function of its arguments: what each of the eight grid points writes.
-/
module

public import proofs.«01_k».proof.Proof.Gen.NormKvIdeal.Value
public import proofs.«01_k».proof.Proof.NormRow
public import Idealize.ShloMosaic.Lib.Pointwise

@[expose] public section

set_option maxRecDepth 16384

noncomputable section

namespace Cert.NormKvIdeal.Value

open Cert.NormKvIdeal Cert.NormKvIdeal.Gen Cert.NormRow Idealize.ShloMosaic Idealize.ShloMosaic.TcCoe Idealize.SL.Sem
open Idealize.ShloMosaic.Pipeline (Dat)

/-- The length of a row, as the programs print it. -/
abbrev rowLen : EReal := Ideal.ofBits FTy.f32 0x44800000#32
/-- The norm's small positive constant, as the programs print it. -/
abbrev smallEps : EReal := Ideal.ofBits FTy.f32 0x358637BD#32

/-! ## The closed forms -/

section Forms

variable {n : Nat} (a : (⟨2, ![n, 3072]⟩ : Shape).Idx → EReal) (w : S1024x3072.Idx → EReal)
  (x : (⟨2, ![n, 1024]⟩ : Shape).Idx → EReal) (g : S1x1024.Idx → EReal) (d : (⟨2, ![n, 1024]⟩ : Shape).Idx → EReal)

/-- The gradient that reaches the norm's output: the product with the transposed weight. -/
def dy (p : Fin n) (q : Fin 1024) : EReal := ∑ k : Fin 3072, a (ix2 p k) * w (ix2 q k)

/-- Row `p` of an array. -/
abbrev row (p : Fin n) : Fin 1024 → EReal := fun k => x (ix2 p k)

/-- The reciprocal root of row `p`. -/
def rr (p : Fin n) : EReal := recip rowLen smallEps (row x p)

/-- The gradient of the norm's argument at row `p`, column `q`. -/
def dxAt (p : Fin n) (q : Fin 1024) : EReal :=
  kernelDx rowLen smallEps (row x p) (fun k => dy a w p k * g (ix2 0 k)) (d (ix2 p q)) q

/-- What row `p` adds to the gradient of the gain at column `q`. -/
def dgAt (p : Fin n) (q : Fin 1024) : EReal := dy a w p q * (x (ix2 p q) * rr x p)

end Forms

/-! ## The payloads at an index -/

section Payloads

variable (v0 : Vec Ideal S512x3072 .bf16) (v1 : Vec Ideal S1024x3072 .bf16) (v3 : Vec Ideal S512x1024 .f32)
  (v14 : Vec Ideal S1x1024 .f32) (v27 : Vec Ideal S512x1024 .f32)

theorem pay2_apply (p : Fin 512) (q : Fin 1024) : k0_pay2 v0 v1 (ix2 p q) = dy v0 v1 p q := by
  pointwise [k0_pay2]; rfl

theorem pay3_apply (p : Fin 512) : k0_pay3 v3 (ix2 p 0) = rr v3 p := by
  pointwise [k0_pay3]; rfl

theorem pay4_apply (p : Fin 512) (q : Fin 1024) : k0_pay4 v3 (ix2 p q) = v3 (ix2 p q) * rr v3 p := by
  pointwise [k0_pay4]; rw [pay3_apply]

theorem pay5_apply (p : Fin 512) (q : Fin 1024) : k0_pay5 v0 v1 v3 v14 v27 (ix2 p q) = dxAt v0 v1 v3 v14 v27 p q := by
  pointwise [k0_pay5, k0_pay4]
  simp only [pay2_apply, pay3_apply]
  rfl

theorem pay7_apply (q : Fin 1024) : k0_pay7 v0 v1 v3 (ix2 0 q) = ∑ p : Fin 512, dgAt v0 v1 v3 p q := by
  pointwise [k0_pay7]
  simp only [pay2_apply, pay4_apply]
  rfl

theorem pay1_apply (w : Vec Ideal S1x1024 .f32) (q : Fin 1024) :
    k0_pay1 (k0_pay7 v0 v1 v3) w (ix2 0 q) = w (ix2 0 q) + ∑ p : Fin 512, dgAt v0 v1 v3 p q := by
  rw [← pay7_apply]
  pointwise [k0_pay1]

end Payloads

/-! ## What the body leaves in the output buffers, in either case -/

theorem hz : (![0, 0] : Fin 2 → Nat) = fun _ => 0 := funext fun a => by fin_cases a <;> rfl

section Outs

variable {F : FTy → Type} [FloatOps F]
  (c : Dev nD) (i : grid0.Coords) (a1 : Memref sig .tc .vmem S512x3072 .bf16) (h1 : a1.IsWhole) (a2 : Memref sig .tc .vmem S1024x3072 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole)
  (x0 : Vec F S512x3072 .bf16) (x1 : Vec F S1024x3072 .bf16) (x2 : Vec F S512x1024 .f32) (x3 : Vec F S1x1024 .f32) (x4 : Vec F S512x1024 .f32) (xo : Vec F S1x1024 .f32)

/-- At the first point the sum over the rows starts. -/
theorem outs_A (hc0 : cond0_0 i) (hc1 : ¬cond0_1 i) :
    out0_A_5 c i a1 h1 a2 h2 a3 h3 a4 h4 a5 h5 a6 h6 a7 h7 a8 h8 hc0 hc1 x0 x1 x2 x3 x4 = k0_pay5 x0 x1 x2 x3 x4
    ∧ out0_A_6 c i a1 h1 a2 h2 a3 h3 a4 h4 a5 h5 a6 h6 a7 h7 a8 h8 hc0 hc1 x0 x1 x2 x3 x4 = k0_pay6 x0 x1 x2 x3 x4
    ∧ out0_A_7 c i a1 h1 a2 h2 a3 h3 a4 h4 a5 h5 a6 h6 a7 h7 a8 h8 hc0 hc1 x0 x1 x2 x3 x4 = k0_pay7 x0 x1 x2 := by
  refine ⟨(View.read_writes_eq_canon _ _ _ (cover0_A_5 c i a1 h1 a2 h2 a3 h3 a4 h4 a5 h5 a6 h6 a7 h7 a8 h8 hc0 hc1 x0 x1 x2 x3 x4)).trans ?_,
    (View.read_writes_eq_canon _ _ _ (cover0_A_6 c i a1 h1 a2 h2 a3 h3 a4 h4 a5 h5 a6 h6 a7 h7 a8 h8 hc0 hc1 x0 x1 x2 x3 x4)).trans ?_,
    (View.read_writes_eq_canon _ _ _ (cover0_A_7 c i a1 h1 a2 h2 a3 h3 a4 h4 a5 h5 a6 h6 a7 h7 a8 h8 hc0 hc1 x0 x1 x2 x3 x4)).trans ?_⟩
  all_goals
    unfold kernelRun0_A
    dsimp only
    sl_unfold_words
    rw [View.canon_unit_zero hz]
    simp only [View.readAt_eq_ld, h1.read_unread, h2.read_unread, h3.read_unread, h4.read_unread, h5.read_unread, h8.read_unread,
      View.ld_unit_zero (S := S512x3072) hz, View.ld_unit_zero (S := S1024x3072) hz, View.ld_unit_zero (S := S512x1024) hz,
      View.ld_unit_zero (S := S1x1024) hz]

/-- At a later point it goes on from what the point before left. -/
theorem outs_B (hc0 : ¬cond0_0 i) (hc1 : cond0_1 i) :
    out0_B_5 c i a1 h1 a2 h2 a3 h3 a4 h4 a5 h5 a6 h6 a7 h7 a8 h8 hc0 hc1 x0 x1 x2 x3 x4 xo = k0_pay5 x0 x1 x2 x3 x4
    ∧ out0_B_6 c i a1 h1 a2 h2 a3 h3 a4 h4 a5 h5 a6 h6 a7 h7 a8 h8 hc0 hc1 x0 x1 x2 x3 x4 xo = k0_pay6 x0 x1 x2 x3 x4
    ∧ out0_B_7 c i a1 h1 a2 h2 a3 h3 a4 h4 a5 h5 a6 h6 a7 h7 a8 h8 hc0 hc1 x0 x1 x2 x3 x4 xo = k0_pay1 (k0_pay7 x0 x1 x2) xo := by
  refine ⟨(View.read_writes_eq_canon _ _ _ (cover0_B_5 c i a1 h1 a2 h2 a3 h3 a4 h4 a5 h5 a6 h6 a7 h7 a8 h8 hc0 hc1 x0 x1 x2 x3 x4 xo)).trans ?_,
    (View.read_writes_eq_canon _ _ _ (cover0_B_6 c i a1 h1 a2 h2 a3 h3 a4 h4 a5 h5 a6 h6 a7 h7 a8 h8 hc0 hc1 x0 x1 x2 x3 x4 xo)).trans ?_,
    (View.read_writes_eq_canon _ _ _ (cover0_B_7 c i a1 h1 a2 h2 a3 h3 a4 h4 a5 h5 a6 h6 a7 h7 a8 h8 hc0 hc1 x0 x1 x2 x3 x4 xo)).trans ?_⟩
  all_goals
    unfold kernelRun0_B
    dsimp only
    sl_unfold_words
    rw [View.canon_unit_zero hz]
    simp only [View.readAt_eq_ld, h1.read_unread, h2.read_unread, h3.read_unread, h4.read_unread, h5.read_unread, h8.read_unread,
      View.ld_unit_zero (S := S512x3072) hz, View.ld_unit_zero (S := S1024x3072) hz, View.ld_unit_zero (S := S512x1024) hz,
      View.ld_unit_zero (S := S1x1024) hz]

end Outs

end Cert.NormKvIdeal.Value

end
-- ==== Proof.NormKvArrays.lean ====
/-
  The three result arrays of the norm-gradient kernel after its run, as functions of the argument arrays: the rows are
  visited in eight blocks of 512, each block's gradient written to its own place, the gain's gradient summed over
  the blocks.
-/
module

public import proofs.«01_k».proof.Proof.NormKvKernel
public import proofs.«01_k».proof.Proof.AdamRow

@[expose] public section

set_option maxRecDepth 16384

noncomputable section

namespace Cert.NormKvIdeal.Value

open Cert.NormKvIdeal Cert.NormKvIdeal.Gen Cert.AdamRow Cert.NormRow Idealize.ShloMosaic Idealize.ShloMosaic.TcCoe Idealize.SL.Sem
open Idealize.ShloMosaic.Pipeline (Dat)

/-! ## Where a block lies in its array -/

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = t.val ∧ win0_2.index t (1 : Fin 2) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 2) = t.val ∧ win0_4.index t (1 : Fin 2) = 0 := (by decide +kernel : ∀ t : Fin grid0.N, _)
theorem at5 : ∀ t : Fin cfg0.N, win0_5.index t (0 : Fin 2) = t.val ∧ win0_5.index t (1 : Fin 2) = 0 := (by decide +kernel : ∀ t : Fin grid0.N, _)
theorem at6 : ∀ t : Fin cfg0.N, win0_6.index t (0 : Fin 2) = t.val ∧ win0_6.index t (1 : Fin 2) = 0 := (by decide +kernel : ∀ t : Fin grid0.N, _)
theorem at7 : ∀ t : Fin cfg0.N, win0_7.index t (0 : Fin 2) = 0 ∧ win0_7.index t (1 : Fin 2) = 0 := (by decide +kernel : ∀ t : Fin grid0.N, _)

theorem lt8 (t : Fin cfg0.N) : t.val < 8 := lt_of_lt_of_eq t.isLt N_0

/-- Row `p` of block `t`, in the array. -/
def at_ (t : Fin cfg0.N) (p : Fin 512) : Fin 4096 := ⟨512 * t.val + p.val, by have := lt8 t; omega⟩

theorem emb0 (t : Fin cfg0.N) (p : Fin 512) (k : Fin 3072) : ((cfg0.win 0).blk t).view.emb (ix2 p k) = ix2 (at_ t p) k := row2 (at0 t) rfl rfl rfl
theorem emb1 (t : Fin cfg0.N) (p : Fin 1024) (k : Fin 3072) : ((cfg0.win 1).blk t).view.emb (ix2 p k) = ix2 p k := whole2 (at1 t) rfl rfl
theorem emb2 (t : Fin cfg0.N) (p : Fin 512) (k : Fin 1024) : ((cfg0.win 2).blk t).view.emb (ix2 p k) = ix2 (at_ t p) k := row2 (at2 t) rfl rfl rfl
theorem emb3 (t : Fin cfg0.N) (k : Fin 1024) : ((cfg0.win 3).blk t).view.emb (ix2 (0 : Fin 1) k) = ix2 (0 : Fin 1) k := whole2 (at3 t) rfl rfl
theorem emb4 (t : Fin cfg0.N) (p : Fin 512) (k : Fin 1024) : ((cfg0.win 4).blk t).view.emb (ix2 p k) = ix2 (at_ t p) k := row2 (at4 t) rfl rfl rfl
theorem emb5 (t : Fin cfg0.N) (p : Fin 512) (k : Fin 1024) : ((cfg0.win 5).blk t).view.emb (ix2 p k) = ix2 (at_ t p) k := row2 (at5 t) rfl rfl rfl
theorem emb6 (t : Fin cfg0.N) (p : Fin 512) (k : Fin 1024) : ((cfg0.win 6).blk t).view.emb (ix2 p k) = ix2 (at_ t p) k := row2 (at6 t) rfl rfl rfl
theorem emb7 (t : Fin cfg0.N) (k : Fin 1024) : ((cfg0.win 7).blk t).view.emb (ix2 (0 : Fin 1) k) = ix2 (0 : Fin 1) k := whole2 (at7 t) rfl rfl

/-! ## The arrays -/

variable (m : (ℓ : Loc nD τ sig) → Buf (Elt Ideal) ℓ) (ρ : Dev nD → PrngReg)

/-- The norm argument's gradient, as one array. -/
def DX (c : Dev nD) : S4096x1024.Idx → EReal := fun j =>
  dxAt (n := 4096) (m ((c : Thread nD τ).loc main_arg0)) (m ((c : Thread nD τ).loc main_arg1)) (m ((c : Thread nD τ).loc main_arg2)) (m ((c : Thread nD τ).loc main_arg3)) (m ((c : Thread nD τ).loc main_arg4))
    (j 0) (j 1)

/-- What row `p` of the arrays adds to the gain's gradient at column `q`. -/
def DGrow (c : Dev nD) (p : Fin 4096) (q : Fin 1024) : EReal :=
  dgAt (n := 4096) (m ((c : Thread nD τ).loc main_arg0)) (m ((c : Thread nD τ).loc main_arg1)) (m ((c : Thread nD τ).loc main_arg2)) p q

/-- The gain's gradient. -/
def DG (c : Dev nD) : S1x1024.Idx → EReal := fun j => ∑ p : Fin 4096, DGrow m c p (j 1)

theorem iblk0_apply (c : Dev nD) (t : Fin cfg0.N) (p : Fin 512) (k : Fin 3072) :
    (iblk m c 0 t : Vec Ideal S512x3072 .bf16) (ix2 p k) = m ((c : Thread nD τ).loc main_arg0) (ix2 (at_ t p) k) := by
  show V m c main_arg0 (((cfg0.win 0).blk t).view.emb (ix2 p k)) = _; rw [emb0, V_main_arg0]
theorem iblk1_apply (c : Dev nD) (t : Fin cfg0.N) (p : Fin 1024) (k : Fin 3072) :
    (iblk m c 1 t : Vec Ideal S1024x3072 .bf16) (ix2 p k) = m ((c : Thread nD τ).loc main_arg1) (ix2 p k) := by
  show V m c main_arg1 (((cfg0.win 1).blk t).view.emb (ix2 p k)) = _; rw [emb1, V_main_arg1]
theorem iblk2_apply (c : Dev nD) (t : Fin cfg0.N) (p : Fin 512) (k : Fin 1024) :
    (iblk m c 2 t : Vec Ideal S512x1024 .f32) (ix2 p k) = m ((c : Thread nD τ).loc main_arg2) (ix2 (at_ t p) k) := by
  show V m c main_arg2 (((cfg0.win 2).blk t).view.emb (ix2 p k)) = _; rw [emb2, V_main_arg2]
theorem iblk3_apply (c : Dev nD) (t : Fin cfg0.N) (k : Fin 1024) :
    (iblk m c 3 t : Vec Ideal S1x1024 .f32) (ix2 0 k) = m ((c : Thread nD τ).loc main_arg3) (ix2 0 k) := by
  show V m c main_arg3 (((cfg0.win 3).blk t).view.emb (ix2 (0 : Fin 1) k)) = _; rw [emb3, V_main_arg3]
theorem iblk4_apply (c : Dev nD) (t : Fin cfg0.N) (p : Fin 512) (k : Fin 1024) :
    (iblk m c 4 t : Vec Ideal S512x1024 .f32) (ix2 p k) = m ((c : Thread nD τ).loc main_arg4) (ix2 (at_ t p) k) := by
  show V m c main_arg4 (((cfg0.win 4).blk t).view.emb (ix2 p k)) = _; rw [emb4, V_main_arg4]

theorem row_iblk (c : Dev nD) (t : Fin cfg0.N) (p : Fin 512) :
    row (n := 512) (iblk m c 2 t) p = row (n := 4096) (m ((c : Thread nD τ).loc main_arg2)) (at_ t p) :=
  funext fun k => iblk2_apply m c t p k

/-- The gradient of a row of the block is the gradient of that row of the array. -/
theorem dxAt_iblk (c : Dev nD) (t : Fin cfg0.N) (p : Fin 512) (q : Fin 1024) :
    dxAt (n := 512) (iblk m c 0 t) (iblk m c 1 t) (iblk m c 2 t) (iblk m c 3 t) (iblk m c 4 t) p q
      = DX m c (ix2 (at_ t p) q) := by
  simp only [DX, dxAt, dy, row_iblk, iblk0_apply, iblk1_apply, iblk2_apply, iblk3_apply, iblk4_apply]
  rfl

theorem dgAt_iblk (c : Dev nD) (t : Fin cfg0.N) (p : Fin 512) (q : Fin 1024) :
    dgAt (n := 512) (iblk m c 0 t) (iblk m c 1 t) (iblk m c 2 t) p q
      = DGrow m c (at_ t p) q := by
  simp only [DGrow, dgAt, rr, dy, row_iblk, iblk0_apply, iblk1_apply, iblk2_apply]

/-! ## The gradient of the norm's argument: one block a point -/

theorem outs5 (c : Dev nD) (t : Fin cfg0.N) : (outsAt0 m c t.val t.isLt).1
    = k0_pay5 (iblk m c 0 t) (iblk m c 1 t) (iblk m c 2 t) (iblk m c 3 t) (iblk m c 4 t) := by
  by_cases h : t.val % 8 = 0
  · have h1 : ¬1 ≤ t.val := by have := lt8 t; omega
    rw [outsAt0_A m c t h h1]; dsimp only; rw [(outs_A ..).1]
  · have h1 : 1 ≤ t.val := by omega
    rw [outsAt0_B m c t h h1]; dsimp only; rw [(outs_B ..).1]

theorem outs6 (c : Dev nD) (t : Fin cfg0.N) : (outsAt0 m c t.val t.isLt).2.1
    = k0_pay6 (iblk m c 0 t) (iblk m c 1 t) (iblk m c 2 t) (iblk m c 3 t) (iblk m c 4 t) := by
  by_cases h : t.val % 8 = 0
  · have h1 : ¬1 ≤ t.val := by have := lt8 t; omega
    rw [outsAt0_A m c t h h1]; dsimp only; rw [(outs_A ..).2.1]
  · have h1 : 1 ≤ t.val := by omega
    rw [outsAt0_B m c t h h1]; dsimp only; rw [(outs_B ..).2.1]

theorem flushed5_eq (c : Dev nD) (t : Fin cfg0.N) :
    (dats m 0 c).flushed 5 t = ((cfg0.win 5).blk t).view.read (Elt Ideal) (DX m c) := by
  rw [flushed5, outs5]
  funext j
  obtain ⟨p, q, rfl⟩ : ∃ (p : Fin 512) (q : Fin 1024), j = ix2 p q := ⟨j 0, j 1, eq_ix2 j⟩
  show k0_pay5 (F := Ideal) _ _ _ _ _ (ix2 p q) = DX m c (((cfg0.win 5).blk t).view.emb (ix2 p q))
  rw [emb5, pay5_apply, dxAt_iblk]

theorem flushed6_eq (c : Dev nD) (t : Fin cfg0.N) :
    (dats m 0 c).flushed 6 t = ((cfg0.win 6).blk t).view.read (Elt Ideal) (DX m c) := by
  rw [flushed6, outs6]
  funext j
  obtain ⟨p, q, rfl⟩ : ∃ (p : Fin 512) (q : Fin 1024), j = ix2 p q := ⟨j 0, j 1, eq_ix2 j⟩
  show k0_pay5 (F := Ideal) _ _ _ _ _ (ix2 p q) = DX m c (((cfg0.win 6).blk t).view.emb (ix2 p q))
  rw [emb6, pay5_apply, dxAt_iblk]

/-- The grid point whose block holds array row `i`, and the row's place in it. -/
theorem row_in_block (i : Fin 4096) : ∃ (t : Fin cfg0.N) (p : Fin 512), at_ t p = i :=
  ⟨⟨i.val / 512, by rw [show cfg0.N = 8 from N_0]; omega⟩, ⟨i.val % 512, by omega⟩, Fin.ext (by show 512 * (i.val / 512) + i.val % 512 = i.val; omega)⟩

theorem final5 (c : Dev nD) : (dats m 0 c).arrAt 5 cfg0.N = DX m c :=
  (dats m 0 c).arrAt_eq_of_cover 5 (DX m c) (fun t _ => flushed5_eq m c t) fun i => by
    obtain ⟨t, p, hp⟩ := row_in_block (i 0)
    refine ⟨t, flush0_5 t, ?_⟩
    have e : ((cfg0.win 5).blk t).view.emb (ix2 p (i 1 : Fin 1024)) = i :=
      (emb5 t p _).trans ((congrArg (fun z => ix2 z (i 1 : Fin 1024)) hp).trans (eq_ix2 i).symm)
    exact e ▸ ((cfg0.win 5).blk t).view.emb_mem_set (ix2 p (i 1 : Fin 1024))

theorem final6 (c : Dev nD) : (dats m 0 c).arrAt 6 cfg0.N = DX m c :=
  (dats m 0 c).arrAt_eq_of_cover 6 (DX m c) (fun t _ => flushed6_eq m c t) fun i => by
    obtain ⟨t, p, hp⟩ := row_in_block (i 0)
    refine ⟨t, flush0_6 t, ?_⟩
    have e : ((cfg0.win 6).blk t).view.emb (ix2 p (i 1 : Fin 1024)) = i :=
      (emb6 t p _).trans ((congrArg (fun z => ix2 z (i 1 : Fin 1024)) hp).trans (eq_ix2 i).symm)
    exact e ▸ ((cfg0.win 6).blk t).view.emb_mem_set (ix2 p (i 1 : Fin 1024))

/-! ## The gain's gradient: summed over the points -/

/-- A function of the array's rows, extended by zero past the last row. -/
def rowsExt (f : Fin 4096 → EReal) (n : Nat) : EReal := if h : n < 4096 then f ⟨n, h⟩ else 0

theorem outs7 (c : Dev nD) (q : Fin 1024) : ∀ (n : Nat) (h : n < cfg0.N),
    (outsAt0 m c n h).2.2 (ix2 0 q) = ∑ i ∈ Finset.range (512 * (n + 1)), rowsExt (fun p => DGrow m c p q) i := by
  have block (t : Fin cfg0.N) : ∑ p : Fin 512, dgAt (n := 512) (iblk m c 0 t) (iblk m c 1 t) (iblk m c 2 t) p q
      = ∑ k ∈ Finset.range 512, rowsExt (fun p => DGrow m c p q) (512 * t.val + k) := by
    rw [← Fin.sum_univ_eq_sum_range (fun k => rowsExt (fun p => DGrow m c p q) (512 * t.val + k)) 512]
    refine Finset.sum_congr rfl fun p _ => ?_
    rw [dgAt_iblk, rowsExt, dif_pos (show 512 * t.val + p.val < 4096 by have := lt8 t; omega)]
    rfl
  intro n
  induction n with
  | zero =>
    intro h
    rw [show outsAt0 m c 0 h = outsAt0 m c (⟨0, h⟩ : Fin cfg0.N).val (⟨0, h⟩ : Fin cfg0.N).isLt from rfl,
      outsAt0_A m c ⟨0, h⟩ (Nat.zero_mod _) (Nat.not_succ_le_zero 0)]
    dsimp only
    rw [(outs_A ..).2.2, pay7_apply, block]
    simp
  | succ n ih =>
    intro h
    have hN : n + 1 < 8 := lt_of_lt_of_eq h N_0
    have e := outsAt0_B m c ⟨n + 1, h⟩ (by dsimp only; omega) (by dsimp only; omega)
    rw [show outsAt0 m c (n + 1) h = outsAt0 m c (⟨n + 1, h⟩ : Fin cfg0.N).val (⟨n + 1, h⟩ : Fin cfg0.N).isLt from rfl, e]
    dsimp only
    rw [(outs_B ..).2.2, pay1_apply, block]
    simp only [Nat.add_sub_cancel]
    rw [ih, show 512 * (n + 1 + 1) = 512 * (n + 1) + 512 by ring, Finset.sum_range_add]

theorem flushed7_eq (c : Dev nD) (t : Fin cfg0.N) (hf : (cfg0.win 7).flush t = true) :
    (dats m 0 c).flushed 7 t = ((cfg0.win 7).blk t).view.read (Elt Ideal) (DG m c) := by
  have h7 : t.val = 7 := by have := (flush0_7 t).mp hf; have := lt8 t; omega
  rw [flushed7]
  funext j
  obtain ⟨p, q, rfl⟩ : ∃ (p : Fin 1) (q : Fin 1024), j = ix2 p q := ⟨j 0, j 1, eq_ix2 j⟩
  obtain rfl : p = 0 := Subsingleton.elim _ _
  show (outsAt0 m c t.val t.isLt).2.2 (ix2 0 q) = DG m c (((cfg0.win 7).blk t).view.emb (ix2 (0 : Fin 1) q))
  rw [emb7, outs7, h7]
  show ∑ i ∈ Finset.range 4096, _ = ∑ p : Fin 4096, DGrow m c p q
  rw [← Fin.sum_univ_eq_sum_range (rowsExt fun p => DGrow m c p q) 4096]
  exact Finset.sum_congr rfl fun p _ => dif_pos p.isLt

theorem final7 (c : Dev nD) : (dats m 0 c).arrAt 7 cfg0.N = DG m c :=
  (dats m 0 c).arrAt_eq_of_cover 7 (DG m c) (flushed7_eq m c) fun i => by
    have hN : 7 < cfg0.N := by rw [show cfg0.N = 8 from N_0]; decide
    refine ⟨⟨7, hN⟩, (flush0_7 _).mpr rfl, ?_⟩
    have e : ((cfg0.win 7).blk ⟨7, hN⟩).view.emb (ix2 (0 : Fin 1) (i 1 : Fin 1024)) = i :=
      (emb7 _ _).trans ((congrArg (fun z => ix2 z (i 1 : Fin 1024)) (Subsingleton.elim (0 : Fin 1) (i 0))).trans (eq_ix2 i).symm)
    exact e ▸ ((cfg0.win 7).blk ⟨7, hN⟩).view.emb_mem_set (ix2 (0 : Fin 1) (i 1 : Fin 1024))

/-- The run, its three results named. -/
theorem run : θ_run defs (onTc (τ := τ) (main (F := Ideal))) ⟨m, fun _ => 0, ρ⟩ fun r => ∀ c : Dev nD,
      r.2.mem ((c : Thread nD τ).loc main_v0_0) = DX m c
      ∧ r.2.mem ((c : Thread nD τ).loc main_v0_1) = DX m c
      ∧ r.2.mem ((c : Thread nD τ).loc main_v0_2) = DG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c),
    (h c).2.2.1.trans (final7 m c), (h c).2.2.2⟩) (run_blocks m ρ)

end Cert.NormKvIdeal.Value

end
-- ==== Proof.NormKvClaims.lean ====
/- The claims about NormKv, put together: the derivative of the norm and the product after it is read as the same functions
  of the arguments as the kernel, so the two end with the same three arrays. -/
module

public import proofs.«01_k».proof.Defs
public import proofs.«01_k».proof.Proof.Gen.NormKv.Frame
public import proofs.«01_k».proof.Proof.Gen.NormKvIdeal.Frame
public import proofs.«01_k».proof.Proof.Gen.NormKvRefIdeal.Run
public import proofs.«01_k».proof.Proof.Gen.NormKvRefIdeal.Read
public import proofs.«01_k».proof.Proof.NormKvArrays
public import proofs.«01_k».proof.Proof.NormReference
public import Idealize.ShloMosaic.Lib.Quiescent

@[expose] public section

set_option maxRecDepth 16384

noncomputable section

namespace Cert.NormKvRefIdeal.Read

open Cert.NormKvRefIdeal Cert.NormKvRefIdeal.Gen Cert.NormRow Idealize.ShloMosaic Idealize.ShloMosaic.TcCoe Idealize.SL.Sem Idealize.ShloMosaic.StableHlo
open Cert.NormKvIdeal.Value (dy row rr dxAt dgAt rowLen smallEps)

variable (x0 : (⟨S4096x3072, .bf16⟩ : BufTy).Contents (Elt Ideal)) (x1 : (⟨S1024x3072, .bf16⟩ : BufTy).Contents (Elt Ideal))
  (x2 : (⟨S4096x1024, .f32⟩ : BufTy).Contents (Elt Ideal)) (x3 : (⟨S1x1024, .f32⟩ : BufTy).Contents (Elt Ideal))
  (x4 : (⟨S4096x1024, .f32⟩ : BufTy).Contents (Elt Ideal))

/-- The mean of the squares of a row plus the small constant. -/
theorem v7_apply (p : Fin 4096) : val_main_v7 (F := Ideal) x2 (ix2 p 0)
    = Ideal.div (∑ j, row x2 p j * row x2 p j) rowLen + smallEps := by
  pointwise [val_main_v7, val_main_v6, val_main_v5, val_main_v4, val_main_v3, val_main_v2, val_main_v1, val_main_cst, val_main_cst_0, val_main_cst_1]

theorem v8_apply (p : Fin 4096) : val_main_v8 (F := Ideal) x2 (ix2 p 0) = rr x2 p := by
  pointwise [val_main_v8]
  rw [v7_apply]; rfl

theorem v18_apply (p : Fin 4096) (q : Fin 1024) : val_main_v18 (F := Ideal) x0 x1 (ix2 p q) = dy x0 x1 p q := by
  pointwise [val_main_v18, val_main_v17, val_main_v0]
  rfl

theorem v23_apply (p : Fin 4096) (q : Fin 1024) :
    val_main_v23 (F := Ideal) x0 x1 x3 (ix2 p q) = dy x0 x1 p q * x3 (ix2 0 q) := by
  pointwise [val_main_v23, val_main_v22]
  rw [v18_apply]

theorem v34_apply (p : Fin 4096) (q : Fin 1024) :
    val_main_v34 (F := Ideal) x0 x1 x2 x3 (ix2 p q)
      = gradMean rowLen smallEps (Ideal.ofBits FTy.f32 0xBF000000#32) (row x2 p) (fun k => dy x0 x1 p k * x3 (ix2 0 k)) := by
  pointwise [val_main_v34, val_main_v33, val_main_v32, val_main_v31, val_main_v30, val_main_v26, val_main_v25, val_main_v24, val_main_v11,
    val_main_v10, val_main_v9, val_main_cst_2, val_main_cst_4, val_main_cst_5, val_main_cst_6]
  refine (Finset.sum_congr rfl fun z _ => ?_).trans (Fin.sum_univ_one fun _ => gradMean rowLen smallEps _ (row x2 p)
    fun k => dy x0 x1 p k * x3 (ix2 0 k))
  obtain rfl : z = 0 := Subsingleton.elim _ _
  simp only [v23_apply, v7_apply, v8_apply]
  rfl

/-- The derivative with respect to the norm's argument is the kernel's form of it. -/
theorem v38_apply (p : Fin 4096) (q : Fin 1024) :
    val_main_v38 (F := Ideal) x0 x1 x2 x3 x4 (ix2 p q) = dxAt x0 x1 x2 x3 x4 p q := by
  pointwise [val_main_v38, val_main_v37, val_main_v36, val_main_v35, val_main_v29, val_main_v28, val_main_v27]
  rw [v23_apply, v8_apply, v34_apply]
  obtain ⟨ε, hε, e⟩ : ∃ ε : ℝ, 0 < ε ∧ smallEps = (ε : EReal) := Cert.NormRefIdeal.Read.smallEps_pos
  unfold dxAt rr
  rw [e, show rowLen = ((1024 : ℝ) : EReal) from Cert.NormRefIdeal.Read.rowLen_eq, kernelDx_eq 1024 ε (by norm_num) hε,
    Cert.NormRefIdeal.Read.minusHalf_eq]
  rfl

/-- The derivative with respect to the gain. -/
theorem v21_apply (q : Fin 1024) :
    val_main_v21 (F := Ideal) x0 x1 x2 (ix2 0 q) = ∑ p : Fin 4096, dgAt x0 x1 x2 p q := by
  pointwise [val_main_v21, val_main_v20, val_main_v19, val_main_v13, val_main_v12, val_main_cst_3]
  refine Finset.sum_congr rfl fun p _ => ?_
  rw [v8_apply, v18_apply, mul_comm]
  rfl

end Cert.NormKvRefIdeal.Read

namespace Cert.Proof

open Idealize.ShloMosaic Idealize.SL.Sem
open Cert.NormKvRefIdeal.Read

/-- The reference stops with its arguments unchanged; it has no semaphore whose counter could differ from zero. -/
theorem normKvRef_frame : quiescent_NormKvRefIdeal := fun m ρ _ =>
  (θ_run _ _ _).mono (fun r h => ⟨fun c => (h c).2.2.2, sem_eq_zero_of_no_sems (by decide) r.2⟩)
    (Cert.NormKvRefIdeal.Value.run (F := Ideal) m ρ)

/-- The kernel and the derivative of the norm after the product end with equal results. -/
theorem normKv_algebraic : algebraic_NormKvIdeal_NormKvRefIdeal := fun m ρ m' ρ' _ hag => by
  refine ⟨fun c => Cert.NormKvIdeal.Value.DX m c, fun c => Cert.NormKvIdeal.Value.DX m c, fun c => Cert.NormKvIdeal.Value.DG m c,
    Cert.NormKvIdeal.Value.run m ρ, (θ_run _ _ _).mono (fun r h c => ?_) (Cert.NormKvRefIdeal.Value.run (F := Ideal) m' ρ')⟩
  obtain ⟨h0, h1, h2, h3⟩ := h c
  obtain ⟨a0, a1, a2, a3, a4⟩ := hag c
  have e38 : ∀ (p : Fin 4096) (q : Fin 1024), Cert.NormKvRefIdeal.Value.res_main_v38 m' c (ix2 p q)
      = Cert.NormKvIdeal.Value.DX m c (ix2 p q) := fun p q => by
    rw [val_main_v38_eq, a0, a1, a2, a3, a4]
    exact v38_apply _ _ _ _ _ p q
  refine ⟨h0.trans (funext fun i => ?_), h1.trans (funext fun i => ?_), h2.trans (funext fun i => ?_), h3⟩
  · rw [eq_ix2 i]; exact e38 _ _
  · rw [eq_ix2 i, val_main_v39_eq]
    refine Eq.trans ?_ (e38 _ _)
    rw [val_main_v38_eq]; rfl
  · obtain ⟨p, q, rfl⟩ : ∃ (p : Fin 1) (q : Fin 1024), i = ix2 p q := ⟨i 0, i 1, eq_ix2 i⟩
    obtain rfl : p = 0 := Subsingleton.elim _ _
    rw [val_main_v21_eq, a0, a1, a2]
    exact v21_apply _ _ _ q

end Cert.Proof

end
-- ==== Proof.NormInKernel.lean ====
/-
  The kernel that backs the first layer's projected gradients through the projection and the
  root-mean-square norm before it, read as a function of its arguments: what each of the eight grid points writes.
-/
module

public import proofs.«01_k».proof.Proof.Gen.NormInIdeal.Value
public import proofs.«01_k».proof.Proof.NormRow
public import Idealize.ShloMosaic.Lib.Pointwise

@[expose] public section

set_option maxRecDepth 16384

noncomputable section

namespace Cert.NormInIdeal.Value

open Cert.NormInIdeal Cert.NormInIdeal.Gen Cert.NormRow Idealize.ShloMosaic Idealize.ShloMosaic.TcCoe Idealize.SL.Sem
open Idealize.ShloMosaic.Pipeline (Dat)

/-- The length of a row, as the programs print it. -/
abbrev rowLen : EReal := Ideal.ofBits FTy.f32 0x44800000#32
/-- The norm's small positive constant, as the programs print it. -/
abbrev smallEps : EReal := Ideal.ofBits FTy.f32 0x358637BD#32

/-! ## The closed forms -/

section Forms

variable {n : Nat} (a : (⟨2, ![n, 3200]⟩ : Shape).Idx → EReal) (w : S1024x3200.Idx → EReal)
  (x : (⟨2, ![n, 1024]⟩ : Shape).Idx → EReal) (g : S1x1024.Idx → EReal) (d : (⟨2, ![n, 1024]⟩ : Shape).Idx → EReal)

/-- The gradient that reaches the norm's output: the product with the transposed weight. -/
def dy (p : Fin n) (q : Fin 1024) : EReal := ∑ k : Fin 3200, a (ix2 p k) * w (ix2 q k)

/-- Row `p` of an array. -/
abbrev row (p : Fin n) : Fin 1024 → EReal := fun k => x (ix2 p k)

/-- The reciprocal root of row `p`. -/
def rr (p : Fin n) : EReal := recip rowLen smallEps (row x p)

/-- The gradient of the norm's argument at row `p`, column `q`. -/
def dxAt (p : Fin n) (q : Fin 1024) : EReal :=
  kernelDx rowLen smallEps (row x p) (fun k => dy a w p k * g (ix2 0 k)) (d (ix2 p q)) q

/-- What row `p` adds to the gradient of the gain at column `q`. -/
def dgAt (p : Fin n) (q : Fin 1024) : EReal := dy a w p q * (x (ix2 p q) * rr x p)

end Forms

/-! ## The payloads at an index -/

section Payloads

variable (v0 : Vec Ideal S512x3200 .bf16) (v1 : Vec Ideal S1024x3200 .bf16) (v3 : Vec Ideal S512x1024 .f32)
  (v14 : Vec Ideal S1x1024 .f32) (v27 : Vec Ideal S512x1024 .f32)

theorem pay2_apply (p : Fin 512) (q : Fin 1024) : k0_pay2 v0 v1 (ix2 p q) = dy v0 v1 p q := by
  pointwise [k0_pay2]; rfl

theorem pay3_apply (p : Fin 512) : k0_pay3 v3 (ix2 p 0) = rr v3 p := by
  pointwise [k0_pay3]; rfl

theorem pay4_apply (p : Fin 512) (q : Fin 1024) : k0_pay4 v3 (ix2 p q) = v3 (ix2 p q) * rr v3 p := by
  pointwise [k0_pay4]; rw [pay3_apply]

theorem pay5_apply (p : Fin 512) (q : Fin 1024) : k0_pay5 v0 v1 v3 v14 v27 (ix2 p q) = dxAt v0 v1 v3 v14 v27 p q := by
  pointwise [k0_pay5, k0_pay4]
  simp only [pay2_apply, pay3_apply]
  rfl

theorem pay7_apply (q : Fin 1024) : k0_pay7 v0 v1 v3 (ix2 0 q) = ∑ p : Fin 512, dgAt v0 v1 v3 p q := by
  pointwise [k0_pay7]
  simp only [pay2_apply, pay4_apply]
  rfl

theorem pay1_apply (w : Vec Ideal S1x1024 .f32) (q : Fin 1024) :
    k0_pay1 (k0_pay7 v0 v1 v3) w (ix2 0 q) = w (ix2 0 q) + ∑ p : Fin 512, dgAt v0 v1 v3 p q := by
  rw [← pay7_apply]
  pointwise [k0_pay1]

end Payloads

/-! ## What the body leaves in the output buffers, in either case -/

theorem hz : (![0, 0] : Fin 2 → Nat) = fun _ => 0 := funext fun a => by fin_cases a <;> rfl

section Outs

variable {F : FTy → Type} [FloatOps F]
  (c : Dev nD) (i : grid0.Coords) (a1 : Memref sig .tc .vmem S512x3200 .bf16) (h1 : a1.IsWhole) (a2 : Memref sig .tc .vmem S1024x3200 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole)
  (x0 : Vec F S512x3200 .bf16) (x1 : Vec F S1024x3200 .bf16) (x2 : Vec F S512x1024 .f32) (x3 : Vec F S1x1024 .f32) (x4 : Vec F S512x1024 .f32) (xo : Vec F S1x1024 .f32)

/-- At the first point the sum over the rows starts. -/
theorem outs_A (hc0 : cond0_0 i) (hc1 : ¬cond0_1 i) :
    out0_A_5 c i a1 h1 a2 h2 a3 h3 a4 h4 a5 h5 a6 h6 a7 h7 a8 h8 hc0 hc1 x0 x1 x2 x3 x4 = k0_pay5 x0 x1 x2 x3 x4
    ∧ out0_A_6 c i a1 h1 a2 h2 a3 h3 a4 h4 a5 h5 a6 h6 a7 h7 a8 h8 hc0 hc1 x0 x1 x2 x3 x4 = k0_pay6 x0 x1 x2 x3 x4
    ∧ out0_A_7 c i a1 h1 a2 h2 a3 h3 a4 h4 a5 h5 a6 h6 a7 h7 a8 h8 hc0 hc1 x0 x1 x2 x3 x4 = k0_pay7 x0 x1 x2 := by
  refine ⟨(View.read_writes_eq_canon _ _ _ (cover0_A_5 c i a1 h1 a2 h2 a3 h3 a4 h4 a5 h5 a6 h6 a7 h7 a8 h8 hc0 hc1 x0 x1 x2 x3 x4)).trans ?_,
    (View.read_writes_eq_canon _ _ _ (cover0_A_6 c i a1 h1 a2 h2 a3 h3 a4 h4 a5 h5 a6 h6 a7 h7 a8 h8 hc0 hc1 x0 x1 x2 x3 x4)).trans ?_,
    (View.read_writes_eq_canon _ _ _ (cover0_A_7 c i a1 h1 a2 h2 a3 h3 a4 h4 a5 h5 a6 h6 a7 h7 a8 h8 hc0 hc1 x0 x1 x2 x3 x4)).trans ?_⟩
  all_goals
    unfold kernelRun0_A
    dsimp only
    sl_unfold_words
    rw [View.canon_unit_zero hz]
    simp only [View.readAt_eq_ld, h1.read_unread, h2.read_unread, h3.read_unread, h4.read_unread, h5.read_unread, h8.read_unread,
      View.ld_unit_zero (S := S512x3200) hz, View.ld_unit_zero (S := S1024x3200) hz, View.ld_unit_zero (S := S512x1024) hz,
      View.ld_unit_zero (S := S1x1024) hz]

/-- At a later point it goes on from what the point before left. -/
theorem outs_B (hc0 : ¬cond0_0 i) (hc1 : cond0_1 i) :
    out0_B_5 c i a1 h1 a2 h2 a3 h3 a4 h4 a5 h5 a6 h6 a7 h7 a8 h8 hc0 hc1 x0 x1 x2 x3 x4 xo = k0_pay5 x0 x1 x2 x3 x4
    ∧ out0_B_6 c i a1 h1 a2 h2 a3 h3 a4 h4 a5 h5 a6 h6 a7 h7 a8 h8 hc0 hc1 x0 x1 x2 x3 x4 xo = k0_pay6 x0 x1 x2 x3 x4
    ∧ out0_B_7 c i a1 h1 a2 h2 a3 h3 a4 h4 a5 h5 a6 h6 a7 h7 a8 h8 hc0 hc1 x0 x1 x2 x3 x4 xo = k0_pay1 (k0_pay7 x0 x1 x2) xo := by
  refine ⟨(View.read_writes_eq_canon _ _ _ (cover0_B_5 c i a1 h1 a2 h2 a3 h3 a4 h4 a5 h5 a6 h6 a7 h7 a8 h8 hc0 hc1 x0 x1 x2 x3 x4 xo)).trans ?_,
    (View.read_writes_eq_canon _ _ _ (cover0_B_6 c i a1 h1 a2 h2 a3 h3 a4 h4 a5 h5 a6 h6 a7 h7 a8 h8 hc0 hc1 x0 x1 x2 x3 x4 xo)).trans ?_,
    (View.read_writes_eq_canon _ _ _ (cover0_B_7 c i a1 h1 a2 h2 a3 h3 a4 h4 a5 h5 a6 h6 a7 h7 a8 h8 hc0 hc1 x0 x1 x2 x3 x4 xo)).trans ?_⟩
  all_goals
    unfold kernelRun0_B
    dsimp only
    sl_unfold_words
    rw [View.canon_unit_zero hz]
    simp only [View.readAt_eq_ld, h1.read_unread, h2.read_unread, h3.read_unread, h4.read_unread, h5.read_unread, h8.read_unread,
      View.ld_unit_zero (S := S512x3200) hz, View.ld_unit_zero (S := S1024x3200) hz, View.ld_unit_zero (S := S512x1024) hz,
      View.ld_unit_zero (S := S1x1024) hz]

end Outs

end Cert.NormInIdeal.Value

end
-- ==== Proof.NormInArrays.lean ====
/-
  The three result arrays of the norm-gradient kernel after its run, as functions of the argument arrays: the rows are
  visited in eight blocks of 512, each block's gradient written to its own place, the gain's gradient summed over
  the blocks.
-/
module

public import proofs.«01_k».proof.Proof.NormInKernel
public import proofs.«01_k».proof.Proof.AdamRow

@[expose] public section

set_option maxRecDepth 16384

noncomputable section

namespace Cert.NormInIdeal.Value

open Cert.NormInIdeal Cert.NormInIdeal.Gen Cert.AdamRow Cert.NormRow Idealize.ShloMosaic Idealize.ShloMosaic.TcCoe Idealize.SL.Sem
open Idealize.ShloMosaic.Pipeline (Dat)

/-! ## Where a block lies in its array -/

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = t.val ∧ win0_2.index t (1 : Fin 2) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 2) = t.val ∧ win0_4.index t (1 : Fin 2) = 0 := (by decide +kernel : ∀ t : Fin grid0.N, _)
theorem at5 : ∀ t : Fin cfg0.N, win0_5.index t (0 : Fin 2) = t.val ∧ win0_5.index t (1 : Fin 2) = 0 := (by decide +kernel : ∀ t : Fin grid0.N, _)
theorem at6 : ∀ t : Fin cfg0.N, win0_6.index t (0 : Fin 2) = t.val ∧ win0_6.index t (1 : Fin 2) = 0 := (by decide +kernel : ∀ t : Fin grid0.N, _)
theorem at7 : ∀ t : Fin cfg0.N, win0_7.index t (0 : Fin 2) = 0 ∧ win0_7.index t (1 : Fin 2) = 0 := (by decide +kernel : ∀ t : Fin grid0.N, _)

theorem lt8 (t : Fin cfg0.N) : t.val < 8 := lt_of_lt_of_eq t.isLt N_0

/-- Row `p` of block `t`, in the array. -/
def at_ (t : Fin cfg0.N) (p : Fin 512) : Fin 4096 := ⟨512 * t.val + p.val, by have := lt8 t; omega⟩

theorem emb0 (t : Fin cfg0.N) (p : Fin 512) (k : Fin 3200) : ((cfg0.win 0).blk t).view.emb (ix2 p k) = ix2 (at_ t p) k := row2 (at0 t) rfl rfl rfl
theorem emb1 (t : Fin cfg0.N) (p : Fin 1024) (k : Fin 3200) : ((cfg0.win 1).blk t).view.emb (ix2 p k) = ix2 p k := whole2 (at1 t) rfl rfl
theorem emb2 (t : Fin cfg0.N) (p : Fin 512) (k : Fin 1024) : ((cfg0.win 2).blk t).view.emb (ix2 p k) = ix2 (at_ t p) k := row2 (at2 t) rfl rfl rfl
theorem emb3 (t : Fin cfg0.N) (k : Fin 1024) : ((cfg0.win 3).blk t).view.emb (ix2 (0 : Fin 1) k) = ix2 (0 : Fin 1) k := whole2 (at3 t) rfl rfl
theorem emb4 (t : Fin cfg0.N) (p : Fin 512) (k : Fin 1024) : ((cfg0.win 4).blk t).view.emb (ix2 p k) = ix2 (at_ t p) k := row2 (at4 t) rfl rfl rfl
theorem emb5 (t : Fin cfg0.N) (p : Fin 512) (k : Fin 1024) : ((cfg0.win 5).blk t).view.emb (ix2 p k) = ix2 (at_ t p) k := row2 (at5 t) rfl rfl rfl
theorem emb6 (t : Fin cfg0.N) (p : Fin 512) (k : Fin 1024) : ((cfg0.win 6).blk t).view.emb (ix2 p k) = ix2 (at_ t p) k := row2 (at6 t) rfl rfl rfl
theorem emb7 (t : Fin cfg0.N) (k : Fin 1024) : ((cfg0.win 7).blk t).view.emb (ix2 (0 : Fin 1) k) = ix2 (0 : Fin 1) k := whole2 (at7 t) rfl rfl

/-! ## The arrays -/

variable (m : (ℓ : Loc nD τ sig) → Buf (Elt Ideal) ℓ) (ρ : Dev nD → PrngReg)

/-- The norm argument's gradient, as one array. -/
def DX (c : Dev nD) : S4096x1024.Idx → EReal := fun j =>
  dxAt (n := 4096) (m ((c : Thread nD τ).loc main_arg0)) (m ((c : Thread nD τ).loc main_arg1)) (m ((c : Thread nD τ).loc main_arg2)) (m ((c : Thread nD τ).loc main_arg3)) (m ((c : Thread nD τ).loc main_arg4))
    (j 0) (j 1)

/-- What row `p` of the arrays adds to the gain's gradient at column `q`. -/
def DGrow (c : Dev nD) (p : Fin 4096) (q : Fin 1024) : EReal :=
  dgAt (n := 4096) (m ((c : Thread nD τ).loc main_arg0)) (m ((c : Thread nD τ).loc main_arg1)) (m ((c : Thread nD τ).loc main_arg2)) p q

/-- The gain's gradient. -/
def DG (c : Dev nD) : S1x1024.Idx → EReal := fun j => ∑ p : Fin 4096, DGrow m c p (j 1)

theorem iblk0_apply (c : Dev nD) (t : Fin cfg0.N) (p : Fin 512) (k : Fin 3200) :
    (iblk m c 0 t : Vec Ideal S512x3200 .bf16) (ix2 p k) = m ((c : Thread nD τ).loc main_arg0) (ix2 (at_ t p) k) := by
  show V m c main_arg0 (((cfg0.win 0).blk t).view.emb (ix2 p k)) = _; rw [emb0, V_main_arg0]
theorem iblk1_apply (c : Dev nD) (t : Fin cfg0.N) (p : Fin 1024) (k : Fin 3200) :
    (iblk m c 1 t : Vec Ideal S1024x3200 .bf16) (ix2 p k) = m ((c : Thread nD τ).loc main_arg1) (ix2 p k) := by
  show V m c main_arg1 (((cfg0.win 1).blk t).view.emb (ix2 p k)) = _; rw [emb1, V_main_arg1]
theorem iblk2_apply (c : Dev nD) (t : Fin cfg0.N) (p : Fin 512) (k : Fin 1024) :
    (iblk m c 2 t : Vec Ideal S512x1024 .f32) (ix2 p k) = m ((c : Thread nD τ).loc main_arg2) (ix2 (at_ t p) k) := by
  show V m c main_arg2 (((cfg0.win 2).blk t).view.emb (ix2 p k)) = _; rw [emb2, V_main_arg2]
theorem iblk3_apply (c : Dev nD) (t : Fin cfg0.N) (k : Fin 1024) :
    (iblk m c 3 t : Vec Ideal S1x1024 .f32) (ix2 0 k) = m ((c : Thread nD τ).loc main_arg3) (ix2 0 k) := by
  show V m c main_arg3 (((cfg0.win 3).blk t).view.emb (ix2 (0 : Fin 1) k)) = _; rw [emb3, V_main_arg3]
theorem iblk4_apply (c : Dev nD) (t : Fin cfg0.N) (p : Fin 512) (k : Fin 1024) :
    (iblk m c 4 t : Vec Ideal S512x1024 .f32) (ix2 p k) = m ((c : Thread nD τ).loc main_arg4) (ix2 (at_ t p) k) := by
  show V m c main_arg4 (((cfg0.win 4).blk t).view.emb (ix2 p k)) = _; rw [emb4, V_main_arg4]

theorem row_iblk (c : Dev nD) (t : Fin cfg0.N) (p : Fin 512) :
    row (n := 512) (iblk m c 2 t) p = row (n := 4096) (m ((c : Thread nD τ).loc main_arg2)) (at_ t p) :=
  funext fun k => iblk2_apply m c t p k

/-- The gradient of a row of the block is the gradient of that row of the array. -/
theorem dxAt_iblk (c : Dev nD) (t : Fin cfg0.N) (p : Fin 512) (q : Fin 1024) :
    dxAt (n := 512) (iblk m c 0 t) (iblk m c 1 t) (iblk m c 2 t) (iblk m c 3 t) (iblk m c 4 t) p q
      = DX m c (ix2 (at_ t p) q) := by
  simp only [DX, dxAt, dy, row_iblk, iblk0_apply, iblk1_apply, iblk2_apply, iblk3_apply, iblk4_apply]
  rfl

theorem dgAt_iblk (c : Dev nD) (t : Fin cfg0.N) (p : Fin 512) (q : Fin 1024) :
    dgAt (n := 512) (iblk m c 0 t) (iblk m c 1 t) (iblk m c 2 t) p q
      = DGrow m c (at_ t p) q := by
  simp only [DGrow, dgAt, rr, dy, row_iblk, iblk0_apply, iblk1_apply, iblk2_apply]

/-! ## The gradient of the norm's argument: one block a point -/

theorem outs5 (c : Dev nD) (t : Fin cfg0.N) : (outsAt0 m c t.val t.isLt).1
    = k0_pay5 (iblk m c 0 t) (iblk m c 1 t) (iblk m c 2 t) (iblk m c 3 t) (iblk m c 4 t) := by
  by_cases h : t.val % 8 = 0
  · have h1 : ¬1 ≤ t.val := by have := lt8 t; omega
    rw [outsAt0_A m c t h h1]; dsimp only; rw [(outs_A ..).1]
  · have h1 : 1 ≤ t.val := by omega
    rw [outsAt0_B m c t h h1]; dsimp only; rw [(outs_B ..).1]

theorem outs6 (c : Dev nD) (t : Fin cfg0.N) : (outsAt0 m c t.val t.isLt).2.1
    = k0_pay6 (iblk m c 0 t) (iblk m c 1 t) (iblk m c 2 t) (iblk m c 3 t) (iblk m c 4 t) := by
  by_cases h : t.val % 8 = 0
  · have h1 : ¬1 ≤ t.val := by have := lt8 t; omega
    rw [outsAt0_A m c t h h1]; dsimp only; rw [(outs_A ..).2.1]
  · have h1 : 1 ≤ t.val := by omega
    rw [outsAt0_B m c t h h1]; dsimp only; rw [(outs_B ..).2.1]

theorem flushed5_eq (c : Dev nD) (t : Fin cfg0.N) :
    (dats m 0 c).flushed 5 t = ((cfg0.win 5).blk t).view.read (Elt Ideal) (DX m c) := by
  rw [flushed5, outs5]
  funext j
  obtain ⟨p, q, rfl⟩ : ∃ (p : Fin 512) (q : Fin 1024), j = ix2 p q := ⟨j 0, j 1, eq_ix2 j⟩
  show k0_pay5 (F := Ideal) _ _ _ _ _ (ix2 p q) = DX m c (((cfg0.win 5).blk t).view.emb (ix2 p q))
  rw [emb5, pay5_apply, dxAt_iblk]

theorem flushed6_eq (c : Dev nD) (t : Fin cfg0.N) :
    (dats m 0 c).flushed 6 t = ((cfg0.win 6).blk t).view.read (Elt Ideal) (DX m c) := by
  rw [flushed6, outs6]
  funext j
  obtain ⟨p, q, rfl⟩ : ∃ (p : Fin 512) (q : Fin 1024), j = ix2 p q := ⟨j 0, j 1, eq_ix2 j⟩
  show k0_pay5 (F := Ideal) _ _ _ _ _ (ix2 p q) = DX m c (((cfg0.win 6).blk t).view.emb (ix2 p q))
  rw [emb6, pay5_apply, dxAt_iblk]

/-- The grid point whose block holds array row `i`, and the row's place in it. -/
theorem row_in_block (i : Fin 4096) : ∃ (t : Fin cfg0.N) (p : Fin 512), at_ t p = i :=
  ⟨⟨i.val / 512, by rw [show cfg0.N = 8 from N_0]; omega⟩, ⟨i.val % 512, by omega⟩, Fin.ext (by show 512 * (i.val / 512) + i.val % 512 = i.val; omega)⟩

theorem final5 (c : Dev nD) : (dats m 0 c).arrAt 5 cfg0.N = DX m c :=
  (dats m 0 c).arrAt_eq_of_cover 5 (DX m c) (fun t _ => flushed5_eq m c t) fun i => by
    obtain ⟨t, p, hp⟩ := row_in_block (i 0)
    refine ⟨t, flush0_5 t, ?_⟩
    have e : ((cfg0.win 5).blk t).view.emb (ix2 p (i 1 : Fin 1024)) = i :=
      (emb5 t p _).trans ((congrArg (fun z => ix2 z (i 1 : Fin 1024)) hp).trans (eq_ix2 i).symm)
    exact e ▸ ((cfg0.win 5).blk t).view.emb_mem_set (ix2 p (i 1 : Fin 1024))

theorem final6 (c : Dev nD) : (dats m 0 c).arrAt 6 cfg0.N = DX m c :=
  (dats m 0 c).arrAt_eq_of_cover 6 (DX m c) (fun t _ => flushed6_eq m c t) fun i => by
    obtain ⟨t, p, hp⟩ := row_in_block (i 0)
    refine ⟨t, flush0_6 t, ?_⟩
    have e : ((cfg0.win 6).blk t).view.emb (ix2 p (i 1 : Fin 1024)) = i :=
      (emb6 t p _).trans ((congrArg (fun z => ix2 z (i 1 : Fin 1024)) hp).trans (eq_ix2 i).symm)
    exact e ▸ ((cfg0.win 6).blk t).view.emb_mem_set (ix2 p (i 1 : Fin 1024))

/-! ## The gain's gradient: summed over the points -/

/-- A function of the array's rows, extended by zero past the last row. -/
def rowsExt (f : Fin 4096 → EReal) (n : Nat) : EReal := if h : n < 4096 then f ⟨n, h⟩ else 0

theorem outs7 (c : Dev nD) (q : Fin 1024) : ∀ (n : Nat) (h : n < cfg0.N),
    (outsAt0 m c n h).2.2 (ix2 0 q) = ∑ i ∈ Finset.range (512 * (n + 1)), rowsExt (fun p => DGrow m c p q) i := by
  have block (t : Fin cfg0.N) : ∑ p : Fin 512, dgAt (n := 512) (iblk m c 0 t) (iblk m c 1 t) (iblk m c 2 t) p q
      = ∑ k ∈ Finset.range 512, rowsExt (fun p => DGrow m c p q) (512 * t.val + k) := by
    rw [← Fin.sum_univ_eq_sum_range (fun k => rowsExt (fun p => DGrow m c p q) (512 * t.val + k)) 512]
    refine Finset.sum_congr rfl fun p _ => ?_
    rw [dgAt_iblk, rowsExt, dif_pos (show 512 * t.val + p.val < 4096 by have := lt8 t; omega)]
    rfl
  intro n
  induction n with
  | zero =>
    intro h
    rw [show outsAt0 m c 0 h = outsAt0 m c (⟨0, h⟩ : Fin cfg0.N).val (⟨0, h⟩ : Fin cfg0.N).isLt from rfl,
      outsAt0_A m c ⟨0, h⟩ (Nat.zero_mod _) (Nat.not_succ_le_zero 0)]
    dsimp only
    rw [(outs_A ..).2.2, pay7_apply, block]
    simp
  | succ n ih =>
    intro h
    have hN : n + 1 < 8 := lt_of_lt_of_eq h N_0
    have e := outsAt0_B m c ⟨n + 1, h⟩ (by dsimp only; omega) (by dsimp only; omega)
    rw [show outsAt0 m c (n + 1) h = outsAt0 m c (⟨n + 1, h⟩ : Fin cfg0.N).val (⟨n + 1, h⟩ : Fin cfg0.N).isLt from rfl, e]
    dsimp only
    rw [(outs_B ..).2.2, pay1_apply, block]
    simp only [Nat.add_sub_cancel]
    rw [ih, show 512 * (n + 1 + 1) = 512 * (n + 1) + 512 by ring, Finset.sum_range_add]

theorem flushed7_eq (c : Dev nD) (t : Fin cfg0.N) (hf : (cfg0.win 7).flush t = true) :
    (dats m 0 c).flushed 7 t = ((cfg0.win 7).blk t).view.read (Elt Ideal) (DG m c) := by
  have h7 : t.val = 7 := by have := (flush0_7 t).mp hf; have := lt8 t; omega
  rw [flushed7]
  funext j
  obtain ⟨p, q, rfl⟩ : ∃ (p : Fin 1) (q : Fin 1024), j = ix2 p q := ⟨j 0, j 1, eq_ix2 j⟩
  obtain rfl : p = 0 := Subsingleton.elim _ _
  show (outsAt0 m c t.val t.isLt).2.2 (ix2 0 q) = DG m c (((cfg0.win 7).blk t).view.emb (ix2 (0 : Fin 1) q))
  rw [emb7, outs7, h7]
  show ∑ i ∈ Finset.range 4096, _ = ∑ p : Fin 4096, DGrow m c p q
  rw [← Fin.sum_univ_eq_sum_range (rowsExt fun p => DGrow m c p q) 4096]
  exact Finset.sum_congr rfl fun p _ => dif_pos p.isLt

theorem final7 (c : Dev nD) : (dats m 0 c).arrAt 7 cfg0.N = DG m c :=
  (dats m 0 c).arrAt_eq_of_cover 7 (DG m c) (flushed7_eq m c) fun i => by
    have hN : 7 < cfg0.N := by rw [show cfg0.N = 8 from N_0]; decide
    refine ⟨⟨7, hN⟩, (flush0_7 _).mpr rfl, ?_⟩
    have e : ((cfg0.win 7).blk ⟨7, hN⟩).view.emb (ix2 (0 : Fin 1) (i 1 : Fin 1024)) = i :=
      (emb7 _ _).trans ((congrArg (fun z => ix2 z (i 1 : Fin 1024)) (Subsingleton.elim (0 : Fin 1) (i 0))).trans (eq_ix2 i).symm)
    exact e ▸ ((cfg0.win 7).blk ⟨7, hN⟩).view.emb_mem_set (ix2 (0 : Fin 1) (i 1 : Fin 1024))

/-- The run, its three results named. -/
theorem run : θ_run defs (onTc (τ := τ) (main (F := Ideal))) ⟨m, fun _ => 0, ρ⟩ fun r => ∀ c : Dev nD,
      r.2.mem ((c : Thread nD τ).loc main_v0_0) = DX m c
      ∧ r.2.mem ((c : Thread nD τ).loc main_v0_1) = DX m c
      ∧ r.2.mem ((c : Thread nD τ).loc main_v0_2) = DG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c),
    (h c).2.2.1.trans (final7 m c), (h c).2.2.2⟩) (run_blocks m ρ)

end Cert.NormInIdeal.Value

end
-- ==== Proof.NormInClaims.lean ====
/- The claims about NormIn, put together: the derivative of the norm and the product after it is read as the same functions
  of the arguments as the kernel, so the two end with the same three arrays. -/
module

public import proofs.«01_k».proof.Defs
public import proofs.«01_k».proof.Proof.Gen.NormIn.Frame
public import proofs.«01_k».proof.Proof.Gen.NormInIdeal.Frame
public import proofs.«01_k».proof.Proof.Gen.NormInRefIdeal.Run
public import proofs.«01_k».proof.Proof.Gen.NormInRefIdeal.Read
public import proofs.«01_k».proof.Proof.NormInArrays
public import proofs.«01_k».proof.Proof.NormReference
public import Idealize.ShloMosaic.Lib.Quiescent

@[expose] public section

set_option maxRecDepth 16384

noncomputable section

namespace Cert.NormInRefIdeal.Read

open Cert.NormInRefIdeal Cert.NormInRefIdeal.Gen Cert.NormRow Idealize.ShloMosaic Idealize.ShloMosaic.TcCoe Idealize.SL.Sem Idealize.ShloMosaic.StableHlo
open Cert.NormInIdeal.Value (dy row rr dxAt dgAt rowLen smallEps)

variable (x0 : (⟨S4096x3200, .bf16⟩ : BufTy).Contents (Elt Ideal)) (x1 : (⟨S1024x3200, .bf16⟩ : BufTy).Contents (Elt Ideal))
  (x2 : (⟨S4096x1024, .f32⟩ : BufTy).Contents (Elt Ideal)) (x3 : (⟨S1x1024, .f32⟩ : BufTy).Contents (Elt Ideal))
  (x4 : (⟨S4096x1024, .f32⟩ : BufTy).Contents (Elt Ideal))

/-- The mean of the squares of a row plus the small constant. -/
theorem v7_apply (p : Fin 4096) : val_main_v7 (F := Ideal) x2 (ix2 p 0)
    = Ideal.div (∑ j, row x2 p j * row x2 p j) rowLen + smallEps := by
  pointwise [val_main_v7, val_main_v6, val_main_v5, val_main_v4, val_main_v3, val_main_v2, val_main_v1, val_main_cst, val_main_cst_0, val_main_cst_1]

theorem v8_apply (p : Fin 4096) : val_main_v8 (F := Ideal) x2 (ix2 p 0) = rr x2 p := by
  pointwise [val_main_v8]
  rw [v7_apply]; rfl

theorem v18_apply (p : Fin 4096) (q : Fin 1024) : val_main_v18 (F := Ideal) x0 x1 (ix2 p q) = dy x0 x1 p q := by
  pointwise [val_main_v18, val_main_v17, val_main_v0]
  rfl

theorem v23_apply (p : Fin 4096) (q : Fin 1024) :
    val_main_v23 (F := Ideal) x0 x1 x3 (ix2 p q) = dy x0 x1 p q * x3 (ix2 0 q) := by
  pointwise [val_main_v23, val_main_v22]
  rw [v18_apply]

theorem v34_apply (p : Fin 4096) (q : Fin 1024) :
    val_main_v34 (F := Ideal) x0 x1 x2 x3 (ix2 p q)
      = gradMean rowLen smallEps (Ideal.ofBits FTy.f32 0xBF000000#32) (row x2 p) (fun k => dy x0 x1 p k * x3 (ix2 0 k)) := by
  pointwise [val_main_v34, val_main_v33, val_main_v32, val_main_v31, val_main_v30, val_main_v26, val_main_v25, val_main_v24, val_main_v11,
    val_main_v10, val_main_v9, val_main_cst_2, val_main_cst_4, val_main_cst_5, val_main_cst_6]
  refine (Finset.sum_congr rfl fun z _ => ?_).trans (Fin.sum_univ_one fun _ => gradMean rowLen smallEps _ (row x2 p)
    fun k => dy x0 x1 p k * x3 (ix2 0 k))
  obtain rfl : z = 0 := Subsingleton.elim _ _
  simp only [v23_apply, v7_apply, v8_apply]
  rfl

/-- The derivative with respect to the norm's argument is the kernel's form of it. -/
theorem v38_apply (p : Fin 4096) (q : Fin 1024) :
    val_main_v38 (F := Ideal) x0 x1 x2 x3 x4 (ix2 p q) = dxAt x0 x1 x2 x3 x4 p q := by
  pointwise [val_main_v38, val_main_v37, val_main_v36, val_main_v35, val_main_v29, val_main_v28, val_main_v27]
  rw [v23_apply, v8_apply, v34_apply]
  obtain ⟨ε, hε, e⟩ : ∃ ε : ℝ, 0 < ε ∧ smallEps = (ε : EReal) := Cert.NormRefIdeal.Read.smallEps_pos
  unfold dxAt rr
  rw [e, show rowLen = ((1024 : ℝ) : EReal) from Cert.NormRefIdeal.Read.rowLen_eq, kernelDx_eq 1024 ε (by norm_num) hε,
    Cert.NormRefIdeal.Read.minusHalf_eq]
  rfl

/-- The derivative with respect to the gain. -/
theorem v21_apply (q : Fin 1024) :
    val_main_v21 (F := Ideal) x0 x1 x2 (ix2 0 q) = ∑ p : Fin 4096, dgAt x0 x1 x2 p q := by
  pointwise [val_main_v21, val_main_v20, val_main_v19, val_main_v13, val_main_v12, val_main_cst_3]
  refine Finset.sum_congr rfl fun p _ => ?_
  rw [v8_apply, v18_apply, mul_comm]
  rfl

end Cert.NormInRefIdeal.Read

namespace Cert.Proof

open Idealize.ShloMosaic Idealize.SL.Sem
open Cert.NormInRefIdeal.Read

/-- The reference stops with its arguments unchanged; it has no semaphore whose counter could differ from zero. -/
theorem normInRef_frame : quiescent_NormInRefIdeal := fun m ρ _ =>
  (θ_run _ _ _).mono (fun r h => ⟨fun c => (h c).2.2.2, sem_eq_zero_of_no_sems (by decide) r.2⟩)
    (Cert.NormInRefIdeal.Value.run (F := Ideal) m ρ)

/-- The kernel and the derivative of the norm after the product end with equal results. -/
theorem normIn_algebraic : algebraic_NormInIdeal_NormInRefIdeal := fun m ρ m' ρ' _ hag => by
  refine ⟨fun c => Cert.NormInIdeal.Value.DX m c, fun c => Cert.NormInIdeal.Value.DX m c, fun c => Cert.NormInIdeal.Value.DG m c,
    Cert.NormInIdeal.Value.run m ρ, (θ_run _ _ _).mono (fun r h c => ?_) (Cert.NormInRefIdeal.Value.run (F := Ideal) m' ρ')⟩
  obtain ⟨h0, h1, h2, h3⟩ := h c
  obtain ⟨a0, a1, a2, a3, a4⟩ := hag c
  have e38 : ∀ (p : Fin 4096) (q : Fin 1024), Cert.NormInRefIdeal.Value.res_main_v38 m' c (ix2 p q)
      = Cert.NormInIdeal.Value.DX m c (ix2 p q) := fun p q => by
    rw [val_main_v38_eq, a0, a1, a2, a3, a4]
    exact v38_apply _ _ _ _ _ p q
  refine ⟨h0.trans (funext fun i => ?_), h1.trans (funext fun i => ?_), h2.trans (funext fun i => ?_), h3⟩
  · rw [eq_ix2 i]; exact e38 _ _
  · rw [eq_ix2 i, val_main_v39_eq]
    refine Eq.trans ?_ (e38 _ _)
    rw [val_main_v38_eq]; rfl
  · obtain ⟨p, q, rfl⟩ : ∃ (p : Fin 1) (q : Fin 1024), i = ix2 p q := ⟨i 0, i 1, eq_ix2 i⟩
    obtain rfl : p = 0 := Subsingleton.elim _ _
    rw [val_main_v21_eq, a0, a1, a2]
    exact v21_apply _ _ _ q

end Cert.Proof

end
-- ==== Proof.NormQKernel.lean ====
/-
  The kernel that backs the queries' gradients through the projection and the
  root-mean-square norm before it, read as a function of its arguments: what each of the eight grid points writes.
-/
module

public import proofs.«01_k».proof.Proof.Gen.NormQIdeal.Value
public import proofs.«01_k».proof.Proof.NormRow
public import Idealize.ShloMosaic.Lib.Pointwise

@[expose] public section

set_option maxRecDepth 16384

noncomputable section

namespace Cert.NormQIdeal.Value

open Cert.NormQIdeal Cert.NormQIdeal.Gen Cert.NormRow Idealize.ShloMosaic Idealize.ShloMosaic.TcCoe Idealize.SL.Sem
open Idealize.ShloMosaic.Pipeline (Dat)

/-- The length of a row, as the programs print it. -/
abbrev rowLen : EReal := Ideal.ofBits FTy.f32 0x44800000#32
/-- The norm's small positive constant, as the programs print it. -/
abbrev smallEps : EReal := Ideal.ofBits FTy.f32 0x358637BD#32

/-! ## The closed forms -/

section Forms

variable {n : Nat} (a : (⟨2, ![n, 1536]⟩ : Shape).Idx → EReal) (w : S1024x1536.Idx → EReal)
  (x : (⟨2, ![n, 1024]⟩ : Shape).Idx → EReal) (g : S1x1024.Idx → EReal) (d : (⟨2, ![n, 1024]⟩ : Shape).Idx → EReal)

/-- The gradient that reaches the norm's output: the product with the transposed weight. -/
def dy (p : Fin n) (q : Fin 1024) : EReal := ∑ k : Fin 1536, a (ix2 p k) * w (ix2 q k)

/-- Row `p` of an array. -/
abbrev row (p : Fin n) : Fin 1024 → EReal := fun k => x (ix2 p k)

/-- The reciprocal root of row `p`. -/
def rr (p : Fin n) : EReal := recip rowLen smallEps (row x p)

/-- The gradient of the norm's argument at row `p`, column `q`. -/
def dxAt (p : Fin n) (q : Fin 1024) : EReal :=
  kernelDx rowLen smallEps (row x p) (fun k => dy a w p k * g (ix2 0 k)) (d (ix2 p q)) q

/-- What row `p` adds to the gradient of the gain at column `q`. -/
def dgAt (p : Fin n) (q : Fin 1024) : EReal := dy a w p q * (x (ix2 p q) * rr x p)

end Forms

/-! ## The payloads at an index -/

section Payloads

variable (v0 : Vec Ideal S512x1536 .bf16) (v1 : Vec Ideal S1024x1536 .bf16) (v3 : Vec Ideal S512x1024 .f32)
  (v14 : Vec Ideal S1x1024 .f32) (v27 : Vec Ideal S512x1024 .f32)

theorem pay2_apply (p : Fin 512) (q : Fin 1024) : k0_pay2 v0 v1 (ix2 p q) = dy v0 v1 p q := by
  pointwise [k0_pay2]; rfl

theorem pay3_apply (p : Fin 512) : k0_pay3 v3 (ix2 p 0) = rr v3 p := by
  pointwise [k0_pay3]; rfl

theorem pay4_apply (p : Fin 512) (q : Fin 1024) : k0_pay4 v3 (ix2 p q) = v3 (ix2 p q) * rr v3 p := by
  pointwise [k0_pay4]; rw [pay3_apply]

theorem pay5_apply (p : Fin 512) (q : Fin 1024) : k0_pay5 v0 v1 v3 v14 v27 (ix2 p q) = dxAt v0 v1 v3 v14 v27 p q := by
  pointwise [k0_pay5, k0_pay4]
  simp only [pay2_apply, pay3_apply]
  rfl

theorem pay7_apply (q : Fin 1024) : k0_pay7 v0 v1 v3 (ix2 0 q) = ∑ p : Fin 512, dgAt v0 v1 v3 p q := by
  pointwise [k0_pay7]
  simp only [pay2_apply, pay4_apply]
  rfl

theorem pay1_apply (w : Vec Ideal S1x1024 .f32) (q : Fin 1024) :
    k0_pay1 (k0_pay7 v0 v1 v3) w (ix2 0 q) = w (ix2 0 q) + ∑ p : Fin 512, dgAt v0 v1 v3 p q := by
  rw [← pay7_apply]
  pointwise [k0_pay1]

end Payloads

/-! ## What the body leaves in the output buffers, in either case -/

theorem hz : (![0, 0] : Fin 2 → Nat) = fun _ => 0 := funext fun a => by fin_cases a <;> rfl

section Outs

variable {F : FTy → Type} [FloatOps F]
  (c : Dev nD) (i : grid0.Coords) (a1 : Memref sig .tc .vmem S512x1536 .bf16) (h1 : a1.IsWhole) (a2 : Memref sig .tc .vmem S1024x1536 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole)
  (x0 : Vec F S512x1536 .bf16) (x1 : Vec F S1024x1536 .bf16) (x2 : Vec F S512x1024 .f32) (x3 : Vec F S1x1024 .f32) (x4 : Vec F S512x1024 .f32) (xo : Vec F S1x1024 .f32)

/-- At the first point the sum over the rows starts. -/
theorem outs_A (hc0 : cond0_0 i) (hc1 : ¬cond0_1 i) :
    out0_A_5 c i a1 h1 a2 h2 a3 h3 a4 h4 a5 h5 a6 h6 a7 h7 a8 h8 hc0 hc1 x0 x1 x2 x3 x4 = k0_pay5 x0 x1 x2 x3 x4
    ∧ out0_A_6 c i a1 h1 a2 h2 a3 h3 a4 h4 a5 h5 a6 h6 a7 h7 a8 h8 hc0 hc1 x0 x1 x2 x3 x4 = k0_pay6 x0 x1 x2 x3 x4
    ∧ out0_A_7 c i a1 h1 a2 h2 a3 h3 a4 h4 a5 h5 a6 h6 a7 h7 a8 h8 hc0 hc1 x0 x1 x2 x3 x4 = k0_pay7 x0 x1 x2 := by
  refine ⟨(View.read_writes_eq_canon _ _ _ (cover0_A_5 c i a1 h1 a2 h2 a3 h3 a4 h4 a5 h5 a6 h6 a7 h7 a8 h8 hc0 hc1 x0 x1 x2 x3 x4)).trans ?_,
    (View.read_writes_eq_canon _ _ _ (cover0_A_6 c i a1 h1 a2 h2 a3 h3 a4 h4 a5 h5 a6 h6 a7 h7 a8 h8 hc0 hc1 x0 x1 x2 x3 x4)).trans ?_,
    (View.read_writes_eq_canon _ _ _ (cover0_A_7 c i a1 h1 a2 h2 a3 h3 a4 h4 a5 h5 a6 h6 a7 h7 a8 h8 hc0 hc1 x0 x1 x2 x3 x4)).trans ?_⟩
  all_goals
    unfold kernelRun0_A
    dsimp only
    sl_unfold_words
    rw [View.canon_unit_zero hz]
    simp only [View.readAt_eq_ld, h1.read_unread, h2.read_unread, h3.read_unread, h4.read_unread, h5.read_unread, h8.read_unread,
      View.ld_unit_zero (S := S512x1536) hz, View.ld_unit_zero (S := S1024x1536) hz, View.ld_unit_zero (S := S512x1024) hz,
      View.ld_unit_zero (S := S1x1024) hz]

/-- At a later point it goes on from what the point before left. -/
theorem outs_B (hc0 : ¬cond0_0 i) (hc1 : cond0_1 i) :
    out0_B_5 c i a1 h1 a2 h2 a3 h3 a4 h4 a5 h5 a6 h6 a7 h7 a8 h8 hc0 hc1 x0 x1 x2 x3 x4 xo = k0_pay5 x0 x1 x2 x3 x4
    ∧ out0_B_6 c i a1 h1 a2 h2 a3 h3 a4 h4 a5 h5 a6 h6 a7 h7 a8 h8 hc0 hc1 x0 x1 x2 x3 x4 xo = k0_pay6 x0 x1 x2 x3 x4
    ∧ out0_B_7 c i a1 h1 a2 h2 a3 h3 a4 h4 a5 h5 a6 h6 a7 h7 a8 h8 hc0 hc1 x0 x1 x2 x3 x4 xo = k0_pay1 (k0_pay7 x0 x1 x2) xo := by
  refine ⟨(View.read_writes_eq_canon _ _ _ (cover0_B_5 c i a1 h1 a2 h2 a3 h3 a4 h4 a5 h5 a6 h6 a7 h7 a8 h8 hc0 hc1 x0 x1 x2 x3 x4 xo)).trans ?_,
    (View.read_writes_eq_canon _ _ _ (cover0_B_6 c i a1 h1 a2 h2 a3 h3 a4 h4 a5 h5 a6 h6 a7 h7 a8 h8 hc0 hc1 x0 x1 x2 x3 x4 xo)).trans ?_,
    (View.read_writes_eq_canon _ _ _ (cover0_B_7 c i a1 h1 a2 h2 a3 h3 a4 h4 a5 h5 a6 h6 a7 h7 a8 h8 hc0 hc1 x0 x1 x2 x3 x4 xo)).trans ?_⟩
  all_goals
    unfold kernelRun0_B
    dsimp only
    sl_unfold_words
    rw [View.canon_unit_zero hz]
    simp only [View.readAt_eq_ld, h1.read_unread, h2.read_unread, h3.read_unread, h4.read_unread, h5.read_unread, h8.read_unread,
      View.ld_unit_zero (S := S512x1536) hz, View.ld_unit_zero (S := S1024x1536) hz, View.ld_unit_zero (S := S512x1024) hz,
      View.ld_unit_zero (S := S1x1024) hz]

end Outs

end Cert.NormQIdeal.Value

end
-- ==== Proof.NormQArrays.lean ====
/-
  The three result arrays of the norm-gradient kernel after its run, as functions of the argument arrays: the rows are
  visited in eight blocks of 512, each block's gradient written to its own place, the gain's gradient summed over
  the blocks.
-/
module

public import proofs.«01_k».proof.Proof.NormQKernel
public import proofs.«01_k».proof.Proof.AdamRow

@[expose] public section

set_option maxRecDepth 16384

noncomputable section

namespace Cert.NormQIdeal.Value

open Cert.NormQIdeal Cert.NormQIdeal.Gen Cert.AdamRow Cert.NormRow Idealize.ShloMosaic Idealize.ShloMosaic.TcCoe Idealize.SL.Sem
open Idealize.ShloMosaic.Pipeline (Dat)

/-! ## Where a block lies in its array -/

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = t.val ∧ win0_2.index t (1 : Fin 2) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 2) = t.val ∧ win0_4.index t (1 : Fin 2) = 0 := (by decide +kernel : ∀ t : Fin grid0.N, _)
theorem at5 : ∀ t : Fin cfg0.N, win0_5.index t (0 : Fin 2) = t.val ∧ win0_5.index t (1 : Fin 2) = 0 := (by decide +kernel : ∀ t : Fin grid0.N, _)
theorem at6 : ∀ t : Fin cfg0.N, win0_6.index t (0 : Fin 2) = t.val ∧ win0_6.index t (1 : Fin 2) = 0 := (by decide +kernel : ∀ t : Fin grid0.N, _)
theorem at7 : ∀ t : Fin cfg0.N, win0_7.index t (0 : Fin 2) = 0 ∧ win0_7.index t (1 : Fin 2) = 0 := (by decide +kernel : ∀ t : Fin grid0.N, _)

theorem lt8 (t : Fin cfg0.N) : t.val < 8 := lt_of_lt_of_eq t.isLt N_0

/-- Row `p` of block `t`, in the array. -/
def at_ (t : Fin cfg0.N) (p : Fin 512) : Fin 4096 := ⟨512 * t.val + p.val, by have := lt8 t; omega⟩

theorem emb0 (t : Fin cfg0.N) (p : Fin 512) (k : Fin 1536) : ((cfg0.win 0).blk t).view.emb (ix2 p k) = ix2 (at_ t p) k := row2 (at0 t) rfl rfl rfl
theorem emb1 (t : Fin cfg0.N) (p : Fin 1024) (k : Fin 1536) : ((cfg0.win 1).blk t).view.emb (ix2 p k) = ix2 p k := whole2 (at1 t) rfl rfl
theorem emb2 (t : Fin cfg0.N) (p : Fin 512) (k : Fin 1024) : ((cfg0.win 2).blk t).view.emb (ix2 p k) = ix2 (at_ t p) k := row2 (at2 t) rfl rfl rfl
theorem emb3 (t : Fin cfg0.N) (k : Fin 1024) : ((cfg0.win 3).blk t).view.emb (ix2 (0 : Fin 1) k) = ix2 (0 : Fin 1) k := whole2 (at3 t) rfl rfl
theorem emb4 (t : Fin cfg0.N) (p : Fin 512) (k : Fin 1024) : ((cfg0.win 4).blk t).view.emb (ix2 p k) = ix2 (at_ t p) k := row2 (at4 t) rfl rfl rfl
theorem emb5 (t : Fin cfg0.N) (p : Fin 512) (k : Fin 1024) : ((cfg0.win 5).blk t).view.emb (ix2 p k) = ix2 (at_ t p) k := row2 (at5 t) rfl rfl rfl
theorem emb6 (t : Fin cfg0.N) (p : Fin 512) (k : Fin 1024) : ((cfg0.win 6).blk t).view.emb (ix2 p k) = ix2 (at_ t p) k := row2 (at6 t) rfl rfl rfl
theorem emb7 (t : Fin cfg0.N) (k : Fin 1024) : ((cfg0.win 7).blk t).view.emb (ix2 (0 : Fin 1) k) = ix2 (0 : Fin 1) k := whole2 (at7 t) rfl rfl

/-! ## The arrays -/

variable (m : (ℓ : Loc nD τ sig) → Buf (Elt Ideal) ℓ) (ρ : Dev nD → PrngReg)

/-- The norm argument's gradient, as one array. -/
def DX (c : Dev nD) : S4096x1024.Idx → EReal := fun j =>
  dxAt (n := 4096) (m ((c : Thread nD τ).loc main_arg0)) (m ((c : Thread nD τ).loc main_arg1)) (m ((c : Thread nD τ).loc main_arg2)) (m ((c : Thread nD τ).loc main_arg3)) (m ((c : Thread nD τ).loc main_arg4))
    (j 0) (j 1)

/-- What row `p` of the arrays adds to the gain's gradient at column `q`. -/
def DGrow (c : Dev nD) (p : Fin 4096) (q : Fin 1024) : EReal :=
  dgAt (n := 4096) (m ((c : Thread nD τ).loc main_arg0)) (m ((c : Thread nD τ).loc main_arg1)) (m ((c : Thread nD τ).loc main_arg2)) p q

/-- The gain's gradient. -/
def DG (c : Dev nD) : S1x1024.Idx → EReal := fun j => ∑ p : Fin 4096, DGrow m c p (j 1)

theorem iblk0_apply (c : Dev nD) (t : Fin cfg0.N) (p : Fin 512) (k : Fin 1536) :
    (iblk m c 0 t : Vec Ideal S512x1536 .bf16) (ix2 p k) = m ((c : Thread nD τ).loc main_arg0) (ix2 (at_ t p) k) := by
  show V m c main_arg0 (((cfg0.win 0).blk t).view.emb (ix2 p k)) = _; rw [emb0, V_main_arg0]
theorem iblk1_apply (c : Dev nD) (t : Fin cfg0.N) (p : Fin 1024) (k : Fin 1536) :
    (iblk m c 1 t : Vec Ideal S1024x1536 .bf16) (ix2 p k) = m ((c : Thread nD τ).loc main_arg1) (ix2 p k) := by
  show V m c main_arg1 (((cfg0.win 1).blk t).view.emb (ix2 p k)) = _; rw [emb1, V_main_arg1]
theorem iblk2_apply (c : Dev nD) (t : Fin cfg0.N) (p : Fin 512) (k : Fin 1024) :
    (iblk m c 2 t : Vec Ideal S512x1024 .f32) (ix2 p k) = m ((c : Thread nD τ).loc main_arg2) (ix2 (at_ t p) k) := by
  show V m c main_arg2 (((cfg0.win 2).blk t).view.emb (ix2 p k)) = _; rw [emb2, V_main_arg2]
theorem iblk3_apply (c : Dev nD) (t : Fin cfg0.N) (k : Fin 1024) :
    (iblk m c 3 t : Vec Ideal S1x1024 .f32) (ix2 0 k) = m ((c : Thread nD τ).loc main_arg3) (ix2 0 k) := by
  show V m c main_arg3 (((cfg0.win 3).blk t).view.emb (ix2 (0 : Fin 1) k)) = _; rw [emb3, V_main_arg3]
theorem iblk4_apply (c : Dev nD) (t : Fin cfg0.N) (p : Fin 512) (k : Fin 1024) :
    (iblk m c 4 t : Vec Ideal S512x1024 .f32) (ix2 p k) = m ((c : Thread nD τ).loc main_arg4) (ix2 (at_ t p) k) := by
  show V m c main_arg4 (((cfg0.win 4).blk t).view.emb (ix2 p k)) = _; rw [emb4, V_main_arg4]

theorem row_iblk (c : Dev nD) (t : Fin cfg0.N) (p : Fin 512) :
    row (n := 512) (iblk m c 2 t) p = row (n := 4096) (m ((c : Thread nD τ).loc main_arg2)) (at_ t p) :=
  funext fun k => iblk2_apply m c t p k

/-- The gradient of a row of the block is the gradient of that row of the array. -/
theorem dxAt_iblk (c : Dev nD) (t : Fin cfg0.N) (p : Fin 512) (q : Fin 1024) :
    dxAt (n := 512) (iblk m c 0 t) (iblk m c 1 t) (iblk m c 2 t) (iblk m c 3 t) (iblk m c 4 t) p q
      = DX m c (ix2 (at_ t p) q) := by
  simp only [DX, dxAt, dy, row_iblk, iblk0_apply, iblk1_apply, iblk2_apply, iblk3_apply, iblk4_apply]
  rfl

theorem dgAt_iblk (c : Dev nD) (t : Fin cfg0.N) (p : Fin 512) (q : Fin 1024) :
    dgAt (n := 512) (iblk m c 0 t) (iblk m c 1 t) (iblk m c 2 t) p q
      = DGrow m c (at_ t p) q := by
  simp only [DGrow, dgAt, rr, dy, row_iblk, iblk0_apply, iblk1_apply, iblk2_apply]

/-! ## The gradient of the norm's argument: one block a point -/

theorem outs5 (c : Dev nD) (t : Fin cfg0.N) : (outsAt0 m c t.val t.isLt).1
    = k0_pay5 (iblk m c 0 t) (iblk m c 1 t) (iblk m c 2 t) (iblk m c 3 t) (iblk m c 4 t) := by
  by_cases h : t.val % 8 = 0
  · have h1 : ¬1 ≤ t.val := by have := lt8 t; omega
    rw [outsAt0_A m c t h h1]; dsimp only; rw [(outs_A ..).1]
  · have h1 : 1 ≤ t.val := by omega
    rw [outsAt0_B m c t h h1]; dsimp only; rw [(outs_B ..).1]

theorem outs6 (c : Dev nD) (t : Fin cfg0.N) : (outsAt0 m c t.val t.isLt).2.1
    = k0_pay6 (iblk m c 0 t) (iblk m c 1 t) (iblk m c 2 t) (iblk m c 3 t) (iblk m c 4 t) := by
  by_cases h : t.val % 8 = 0
  · have h1 : ¬1 ≤ t.val := by have := lt8 t; omega
    rw [outsAt0_A m c t h h1]; dsimp only; rw [(outs_A ..).2.1]
  · have h1 : 1 ≤ t.val := by omega
    rw [outsAt0_B m c t h h1]; dsimp only; rw [(outs_B ..).2.1]

theorem flushed5_eq (c : Dev nD) (t : Fin cfg0.N) :
    (dats m 0 c).flushed 5 t = ((cfg0.win 5).blk t).view.read (Elt Ideal) (DX m c) := by
  rw [flushed5, outs5]
  funext j
  obtain ⟨p, q, rfl⟩ : ∃ (p : Fin 512) (q : Fin 1024), j = ix2 p q := ⟨j 0, j 1, eq_ix2 j⟩
  show k0_pay5 (F := Ideal) _ _ _ _ _ (ix2 p q) = DX m c (((cfg0.win 5).blk t).view.emb (ix2 p q))
  rw [emb5, pay5_apply, dxAt_iblk]

theorem flushed6_eq (c : Dev nD) (t : Fin cfg0.N) :
    (dats m 0 c).flushed 6 t = ((cfg0.win 6).blk t).view.read (Elt Ideal) (DX m c) := by
  rw [flushed6, outs6]
  funext j
  obtain ⟨p, q, rfl⟩ : ∃ (p : Fin 512) (q : Fin 1024), j = ix2 p q := ⟨j 0, j 1, eq_ix2 j⟩
  show k0_pay5 (F := Ideal) _ _ _ _ _ (ix2 p q) = DX m c (((cfg0.win 6).blk t).view.emb (ix2 p q))
  rw [emb6, pay5_apply, dxAt_iblk]

/-- The grid point whose block holds array row `i`, and the row's place in it. -/
theorem row_in_block (i : Fin 4096) : ∃ (t : Fin cfg0.N) (p : Fin 512), at_ t p = i :=
  ⟨⟨i.val / 512, by rw [show cfg0.N = 8 from N_0]; omega⟩, ⟨i.val % 512, by omega⟩, Fin.ext (by show 512 * (i.val / 512) + i.val % 512 = i.val; omega)⟩

theorem final5 (c : Dev nD) : (dats m 0 c).arrAt 5 cfg0.N = DX m c :=
  (dats m 0 c).arrAt_eq_of_cover 5 (DX m c) (fun t _ => flushed5_eq m c t) fun i => by
    obtain ⟨t, p, hp⟩ := row_in_block (i 0)
    refine ⟨t, flush0_5 t, ?_⟩
    have e : ((cfg0.win 5).blk t).view.emb (ix2 p (i 1 : Fin 1024)) = i :=
      (emb5 t p _).trans ((congrArg (fun z => ix2 z (i 1 : Fin 1024)) hp).trans (eq_ix2 i).symm)
    exact e ▸ ((cfg0.win 5).blk t).view.emb_mem_set (ix2 p (i 1 : Fin 1024))

theorem final6 (c : Dev nD) : (dats m 0 c).arrAt 6 cfg0.N = DX m c :=
  (dats m 0 c).arrAt_eq_of_cover 6 (DX m c) (fun t _ => flushed6_eq m c t) fun i => by
    obtain ⟨t, p, hp⟩ := row_in_block (i 0)
    refine ⟨t, flush0_6 t, ?_⟩
    have e : ((cfg0.win 6).blk t).view.emb (ix2 p (i 1 : Fin 1024)) = i :=
      (emb6 t p _).trans ((congrArg (fun z => ix2 z (i 1 : Fin 1024)) hp).trans (eq_ix2 i).symm)
    exact e ▸ ((cfg0.win 6).blk t).view.emb_mem_set (ix2 p (i 1 : Fin 1024))

/-! ## The gain's gradient: summed over the points -/

/-- A function of the array's rows, extended by zero past the last row. -/
def rowsExt (f : Fin 4096 → EReal) (n : Nat) : EReal := if h : n < 4096 then f ⟨n, h⟩ else 0

theorem outs7 (c : Dev nD) (q : Fin 1024) : ∀ (n : Nat) (h : n < cfg0.N),
    (outsAt0 m c n h).2.2 (ix2 0 q) = ∑ i ∈ Finset.range (512 * (n + 1)), rowsExt (fun p => DGrow m c p q) i := by
  have block (t : Fin cfg0.N) : ∑ p : Fin 512, dgAt (n := 512) (iblk m c 0 t) (iblk m c 1 t) (iblk m c 2 t) p q
      = ∑ k ∈ Finset.range 512, rowsExt (fun p => DGrow m c p q) (512 * t.val + k) := by
    rw [← Fin.sum_univ_eq_sum_range (fun k => rowsExt (fun p => DGrow m c p q) (512 * t.val + k)) 512]
    refine Finset.sum_congr rfl fun p _ => ?_
    rw [dgAt_iblk, rowsExt, dif_pos (show 512 * t.val + p.val < 4096 by have := lt8 t; omega)]
    rfl
  intro n
  induction n with
  | zero =>
    intro h
    rw [show outsAt0 m c 0 h = outsAt0 m c (⟨0, h⟩ : Fin cfg0.N).val (⟨0, h⟩ : Fin cfg0.N).isLt from rfl,
      outsAt0_A m c ⟨0, h⟩ (Nat.zero_mod _) (Nat.not_succ_le_zero 0)]
    dsimp only
    rw [(outs_A ..).2.2, pay7_apply, block]
    simp
  | succ n ih =>
    intro h
    have hN : n + 1 < 8 := lt_of_lt_of_eq h N_0
    have e := outsAt0_B m c ⟨n + 1, h⟩ (by dsimp only; omega) (by dsimp only; omega)
    rw [show outsAt0 m c (n + 1) h = outsAt0 m c (⟨n + 1, h⟩ : Fin cfg0.N).val (⟨n + 1, h⟩ : Fin cfg0.N).isLt from rfl, e]
    dsimp only
    rw [(outs_B ..).2.2, pay1_apply, block]
    simp only [Nat.add_sub_cancel]
    rw [ih, show 512 * (n + 1 + 1) = 512 * (n + 1) + 512 by ring, Finset.sum_range_add]

theorem flushed7_eq (c : Dev nD) (t : Fin cfg0.N) (hf : (cfg0.win 7).flush t = true) :
    (dats m 0 c).flushed 7 t = ((cfg0.win 7).blk t).view.read (Elt Ideal) (DG m c) := by
  have h7 : t.val = 7 := by have := (flush0_7 t).mp hf; have := lt8 t; omega
  rw [flushed7]
  funext j
  obtain ⟨p, q, rfl⟩ : ∃ (p : Fin 1) (q : Fin 1024), j = ix2 p q := ⟨j 0, j 1, eq_ix2 j⟩
  obtain rfl : p = 0 := Subsingleton.elim _ _
  show (outsAt0 m c t.val t.isLt).2.2 (ix2 0 q) = DG m c (((cfg0.win 7).blk t).view.emb (ix2 (0 : Fin 1) q))
  rw [emb7, outs7, h7]
  show ∑ i ∈ Finset.range 4096, _ = ∑ p : Fin 4096, DGrow m c p q
  rw [← Fin.sum_univ_eq_sum_range (rowsExt fun p => DGrow m c p q) 4096]
  exact Finset.sum_congr rfl fun p _ => dif_pos p.isLt

theorem final7 (c : Dev nD) : (dats m 0 c).arrAt 7 cfg0.N = DG m c :=
  (dats m 0 c).arrAt_eq_of_cover 7 (DG m c) (flushed7_eq m c) fun i => by
    have hN : 7 < cfg0.N := by rw [show cfg0.N = 8 from N_0]; decide
    refine ⟨⟨7, hN⟩, (flush0_7 _).mpr rfl, ?_⟩
    have e : ((cfg0.win 7).blk ⟨7, hN⟩).view.emb (ix2 (0 : Fin 1) (i 1 : Fin 1024)) = i :=
      (emb7 _ _).trans ((congrArg (fun z => ix2 z (i 1 : Fin 1024)) (Subsingleton.elim (0 : Fin 1) (i 0))).trans (eq_ix2 i).symm)
    exact e ▸ ((cfg0.win 7).blk ⟨7, hN⟩).view.emb_mem_set (ix2 (0 : Fin 1) (i 1 : Fin 1024))

/-- The run, its three results named. -/
theorem run : θ_run defs (onTc (τ := τ) (main (F := Ideal))) ⟨m, fun _ => 0, ρ⟩ fun r => ∀ c : Dev nD,
      r.2.mem ((c : Thread nD τ).loc main_v0_0) = DX m c
      ∧ r.2.mem ((c : Thread nD τ).loc main_v0_1) = DX m c
      ∧ r.2.mem ((c : Thread nD τ).loc main_v0_2) = DG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c),
    (h c).2.2.1.trans (final7 m c), (h c).2.2.2⟩) (run_blocks m ρ)

end Cert.NormQIdeal.Value

end
-- ==== Proof.NormQClaims.lean ====
/- The claims about NormQ, put together: the derivative of the norm and the product after it is read as the same functions
  of the arguments as the kernel, so the two end with the same three arrays. -/
module

public import proofs.«01_k».proof.Defs
public import proofs.«01_k».proof.Proof.Gen.NormQ.Frame
public import proofs.«01_k».proof.Proof.Gen.NormQIdeal.Frame
public import proofs.«01_k».proof.Proof.Gen.NormQRefIdeal.Run
public import proofs.«01_k».proof.Proof.Gen.NormQRefIdeal.Read
public import proofs.«01_k».proof.Proof.NormQArrays
public import proofs.«01_k».proof.Proof.NormReference
public import Idealize.ShloMosaic.Lib.Quiescent

@[expose] public section

set_option maxRecDepth 16384

noncomputable section

namespace Cert.NormQRefIdeal.Read

open Cert.NormQRefIdeal Cert.NormQRefIdeal.Gen Cert.NormRow Idealize.ShloMosaic Idealize.ShloMosaic.TcCoe Idealize.SL.Sem Idealize.ShloMosaic.StableHlo
open Cert.NormQIdeal.Value (dy row rr dxAt dgAt rowLen smallEps)

variable (x0 : (⟨S4096x1536, .bf16⟩ : BufTy).Contents (Elt Ideal)) (x1 : (⟨S1024x1536, .bf16⟩ : BufTy).Contents (Elt Ideal))
  (x2 : (⟨S4096x1024, .f32⟩ : BufTy).Contents (Elt Ideal)) (x3 : (⟨S1x1024, .f32⟩ : BufTy).Contents (Elt Ideal))
  (x4 : (⟨S4096x1024, .f32⟩ : BufTy).Contents (Elt Ideal))

/-- The mean of the squares of a row plus the small constant. -/
theorem v7_apply (p : Fin 4096) : val_main_v7 (F := Ideal) x2 (ix2 p 0)
    = Ideal.div (∑ j, row x2 p j * row x2 p j) rowLen + smallEps := by
  pointwise [val_main_v7, val_main_v6, val_main_v5, val_main_v4, val_main_v3, val_main_v2, val_main_v1, val_main_cst, val_main_cst_0, val_main_cst_1]

theorem v8_apply (p : Fin 4096) : val_main_v8 (F := Ideal) x2 (ix2 p 0) = rr x2 p := by
  pointwise [val_main_v8]
  rw [v7_apply]; rfl

theorem v18_apply (p : Fin 4096) (q : Fin 1024) : val_main_v18 (F := Ideal) x0 x1 (ix2 p q) = dy x0 x1 p q := by
  pointwise [val_main_v18, val_main_v17, val_main_v0]
  rfl

theorem v23_apply (p : Fin 4096) (q : Fin 1024) :
    val_main_v23 (F := Ideal) x0 x1 x3 (ix2 p q) = dy x0 x1 p q * x3 (ix2 0 q) := by
  pointwise [val_main_v23, val_main_v22]
  rw [v18_apply]

theorem v34_apply (p : Fin 4096) (q : Fin 1024) :
    val_main_v34 (F := Ideal) x0 x1 x2 x3 (ix2 p q)
      = gradMean rowLen smallEps (Ideal.ofBits FTy.f32 0xBF000000#32) (row x2 p) (fun k => dy x0 x1 p k * x3 (ix2 0 k)) := by
  pointwise [val_main_v34, val_main_v33, val_main_v32, val_main_v31, val_main_v30, val_main_v26, val_main_v25, val_main_v24, val_main_v11,
    val_main_v10, val_main_v9, val_main_cst_2, val_main_cst_4, val_main_cst_5, val_main_cst_6]
  refine (Finset.sum_congr rfl fun z _ => ?_).trans (Fin.sum_univ_one fun _ => gradMean rowLen smallEps _ (row x2 p)
    fun k => dy x0 x1 p k * x3 (ix2 0 k))
  obtain rfl : z = 0 := Subsingleton.elim _ _
  simp only [v23_apply, v7_apply, v8_apply]
  rfl

/-- The derivative with respect to the norm's argument is the kernel's form of it. -/
theorem v38_apply (p : Fin 4096) (q : Fin 1024) :
    val_main_v38 (F := Ideal) x0 x1 x2 x3 x4 (ix2 p q) = dxAt x0 x1 x2 x3 x4 p q := by
  pointwise [val_main_v38, val_main_v37, val_main_v36, val_main_v35, val_main_v29, val_main_v28, val_main_v27]
  rw [v23_apply, v8_apply, v34_apply]
  obtain ⟨ε, hε, e⟩ : ∃ ε : ℝ, 0 < ε ∧ smallEps = (ε : EReal) := Cert.NormRefIdeal.Read.smallEps_pos
  unfold dxAt rr
  rw [e, show rowLen = ((1024 : ℝ) : EReal) from Cert.NormRefIdeal.Read.rowLen_eq, kernelDx_eq 1024 ε (by norm_num) hε,
    Cert.NormRefIdeal.Read.minusHalf_eq]
  rfl

/-- The derivative with respect to the gain. -/
theorem v21_apply (q : Fin 1024) :
    val_main_v21 (F := Ideal) x0 x1 x2 (ix2 0 q) = ∑ p : Fin 4096, dgAt x0 x1 x2 p q := by
  pointwise [val_main_v21, val_main_v20, val_main_v19, val_main_v13, val_main_v12, val_main_cst_3]
  refine Finset.sum_congr rfl fun p _ => ?_
  rw [v8_apply, v18_apply, mul_comm]
  rfl

end Cert.NormQRefIdeal.Read

namespace Cert.Proof

open Idealize.ShloMosaic Idealize.SL.Sem
open Cert.NormQRefIdeal.Read

/-- The reference stops with its arguments unchanged; it has no semaphore whose counter could differ from zero. -/
theorem normQRef_frame : quiescent_NormQRefIdeal := fun m ρ _ =>
  (θ_run _ _ _).mono (fun r h => ⟨fun c => (h c).2.2.2, sem_eq_zero_of_no_sems (by decide) r.2⟩)
    (Cert.NormQRefIdeal.Value.run (F := Ideal) m ρ)

/-- The kernel and the derivative of the norm after the product end with equal results. -/
theorem normQ_algebraic : algebraic_NormQIdeal_NormQRefIdeal := fun m ρ m' ρ' _ hag => by
  refine ⟨fun c => Cert.NormQIdeal.Value.DX m c, fun c => Cert.NormQIdeal.Value.DX m c, fun c => Cert.NormQIdeal.Value.DG m c,
    Cert.NormQIdeal.Value.run m ρ, (θ_run _ _ _).mono (fun r h c => ?_) (Cert.NormQRefIdeal.Value.run (F := Ideal) m' ρ')⟩
  obtain ⟨h0, h1, h2, h3⟩ := h c
  obtain ⟨a0, a1, a2, a3, a4⟩ := hag c
  have e38 : ∀ (p : Fin 4096) (q : Fin 1024), Cert.NormQRefIdeal.Value.res_main_v38 m' c (ix2 p q)
      = Cert.NormQIdeal.Value.DX m c (ix2 p q) := fun p q => by
    rw [val_main_v38_eq, a0, a1, a2, a3, a4]
    exact v38_apply _ _ _ _ _ p q
  refine ⟨h0.trans (funext fun i => ?_), h1.trans (funext fun i => ?_), h2.trans (funext fun i => ?_), h3⟩
  · rw [eq_ix2 i]; exact e38 _ _
  · rw [eq_ix2 i, val_main_v39_eq]
    refine Eq.trans ?_ (e38 _ _)
    rw [val_main_v38_eq]; rfl
  · obtain ⟨p, q, rfl⟩ : ∃ (p : Fin 1) (q : Fin 1024), i = ix2 p q := ⟨i 0, i 1, eq_ix2 i⟩
    obtain rfl : p = 0 := Subsingleton.elim _ _
    rw [val_main_v21_eq, a0, a1, a2]
    exact v21_apply _ _ _ q

end Cert.Proof

end
-- ==== Proof.AdamInStep.lean ====
/- The optimiser's step for the columns of the first projection a device holds, in 2 blocks of 512 rows; the reference reads the same. -/
module

public import proofs.«01_k».proof.Defs
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.AdamRow
public import Idealize.ShloMosaic.Lib.Quiescent

@[expose] public section

set_option maxRecDepth 16384

noncomputable section

namespace Cert.AdamInIdeal.Value

open Cert.AdamInIdeal Cert.AdamInIdeal.Gen Cert.AdamRow Idealize.ShloMosaic Idealize.ShloMosaic.TcCoe Idealize.SL.Sem

/-! ## One block -/

section
variable (x0 x1 x2 : Vec Ideal S512x386 .f32) (x3 : Vec Ideal S8x512x386 .bf16)

theorem sum_eq : k0_pay5 (F := Ideal) x0 x1 x2 x3 = totals x3 := by
  funext j
  obtain ⟨p, q, rfl⟩ := split2 (a := 512) (b := 386) j
  have e : ∀ y0 y1 y2 y3 y4 y5 y6 y7 : Vec Ideal S1x512x386 .bf16, k0_pay4 (F := Ideal) y0 y1 y2 y3 y4 y5 y6 y7 (ix2 p q)
      = total fun d => (![y0, y1, y2, y3, y4, y5, y6, y7] d) (ix3 0 p q) := fun _ _ _ _ _ _ _ _ => by
    pointwise [k0_pay4]
    rfl
  refine (e ..).trans (congrArg total (funext fun d => ?_))
  match d with
  | 0 | 1 | 2 | 3 | 4 | 5 | 6 | 7 => exact congrArg x3 (place3 rfl (by show 0 + 1 * p.val = p.val; omega) (by show 0 + 1 * q.val = q.val; omega))

/-- The one store is the whole block, and each block is loaded whole. -/
theorem put (x : Vec Ideal S512x386 .f32) : View.canon [⟨r0_8, x⟩] = x := View.canon_unit_zero (S := S512x386) (by decide) _ _
theorem get : View.ld x0 r0_8 = x0 := View.ld_unit_zero (S := S512x386) (by decide) _ _

theorem out4_eq : out0_4 (F := Ideal) x0 x1 x2 x3 = totals x3 := by
  unfold out0_4
  exact (put _).trans (sum_eq x0 x1 x2 x3)
theorem out5_eq : out0_5 (F := Ideal) x0 x1 x2 x3 = changes x0 x1 x2 x3 := by
  unfold out0_5
  rw [put, get, get, get, sum_eq]; rfl
theorem out6_eq : out0_6 (F := Ideal) x0 x1 x2 x3 = means x1 x3 := by
  unfold out0_6
  rw [put, get, sum_eq]; rfl
theorem out7_eq : out0_7 (F := Ideal) x0 x1 x2 x3 = squares x2 x3 := by
  unfold out0_7
  rw [put, get, sum_eq]; rfl
end

/-! ## The whole arrays -/

/-- Place `j` of block `t`, in the array. -/
def at_ (t : Fin cfg0.N) (j : S512x386.Idx) : S1024x386.Idx :=
  ix2 ⟨512 * t.val + (j 0).val, by have : t.val < 2 := lt_of_lt_of_eq t.isLt N_0; have : (j 0).val < 512 := (j 0).isLt; omega⟩ (j 1)

theorem at0 : Rows (n := grid0.N) win0_0.index := by decide +kernel
theorem at1 : Rows (n := grid0.N) win0_1.index := by decide +kernel
theorem at2 : Rows (n := grid0.N) win0_2.index := by decide +kernel
theorem at4 : Rows (n := grid0.N) win0_4.index := by decide +kernel
theorem at5 : Rows (n := grid0.N) win0_5.index := by decide +kernel
theorem at6 : Rows (n := grid0.N) win0_6.index := by decide +kernel
theorem at7 : Rows (n := grid0.N) win0_7.index := by decide +kernel
theorem at3 : Stacks (n := grid0.N) win0_3.index := by decide +kernel

variable (m : (ℓ : Loc nD τ sig) → Buf (Elt Ideal) ℓ) (ρ : Dev nD → PrngReg) (c : Dev nD)

/-- The arguments. -/
abbrev A0 : S1024x386.Idx → EReal := m ((c : Thread nD τ).loc main_arg0)
abbrev A1 : S1024x386.Idx → EReal := m ((c : Thread nD τ).loc main_arg1)
abbrev A2 : S1024x386.Idx → EReal := m ((c : Thread nD τ).loc main_arg2)
abbrev A3 : S8x1024x386.Idx → EReal := m ((c : Thread nD τ).loc main_arg3)

section
variable (t : Fin cfg0.N) (j : S512x386.Idx)

theorem emb4 : (((cfg0.win 4).blk t).view.emb j : S1024x386.Idx) = at_ t j := row2 (at4 t) rfl rfl rfl
theorem emb5 : (((cfg0.win 5).blk t).view.emb j : S1024x386.Idx) = at_ t j := row2 (at5 t) rfl rfl rfl
theorem emb6 : (((cfg0.win 6).blk t).view.emb j : S1024x386.Idx) = at_ t j := row2 (at6 t) rfl rfl rfl
theorem emb7 : (((cfg0.win 7).blk t).view.emb j : S1024x386.Idx) = at_ t j := row2 (at7 t) rfl rfl rfl
theorem in0 : (iblk m c 0 t : Vec Ideal S512x386 .f32) j = A0 m c (at_ t j) := congrArg (A0 m c) (row2 (at0 t) rfl rfl rfl)
theorem in1 : (iblk m c 1 t : Vec Ideal S512x386 .f32) j = A1 m c (at_ t j) := congrArg (A1 m c) (row2 (at1 t) rfl rfl rfl)
theorem in2 : (iblk m c 2 t : Vec Ideal S512x386 .f32) j = A2 m c (at_ t j) := congrArg (A2 m c) (row2 (at2 t) rfl rfl rfl)
theorem in3 : totals (iblk m c 3 t : Vec Ideal S8x512x386 .bf16) j = totals (A3 m c) (at_ t j) :=
  congrArg total (funext fun _ => congrArg (A3 m c) (row3 (at3 t) rfl rfl rfl rfl))
end

/-- Every place of the array lies in a block. -/
def blockOf (i : S1024x386.Idx) : Fin cfg0.N := ⟨(i 0).val / 512, by rw [show cfg0.N = 2 from N_0]; have : (i 0).val < 1024 := (i 0).isLt; omega⟩
def inBlock (i : S1024x386.Idx) : S512x386.Idx := ix2 ⟨(i 0).val % 512, Nat.mod_lt _ (by decide)⟩ (i 1)
theorem back (i : S1024x386.Idx) : at_ (blockOf i) (inBlock i) = i :=
  place2 (by show 512 * ((i 0).val / 512) + (i 0).val % 512 = (i 0).val; omega) rfl

theorem final4 : (dats m 0 c).arrAt 4 cfg0.N = totals (A3 m c) :=
  (dats m 0 c).arrAt_eq_of_cover 4 _ (fun t _ => by
    rw [flushed4, out4_eq]
    exact funext fun j : S512x386.Idx => (in3 m c t j).trans (congrArg (totals (A3 m c)) (emb4 t j)).symm)
    fun i => ⟨blockOf i, flush0_4 _, Finset.mem_map.2 ⟨inBlock i, Finset.mem_univ _, (emb4 (blockOf i) (inBlock i)).trans (back i)⟩⟩
theorem final5 : (dats m 0 c).arrAt 5 cfg0.N = changes (A0 m c) (A1 m c) (A2 m c) (A3 m c) :=
  (dats m 0 c).arrAt_eq_of_cover 5 _ (fun t _ => by
    rw [flushed5, out5_eq]
    exact funext fun j : S512x386.Idx => (change_congr (in0 m c t j) (in1 m c t j) (in2 m c t j) (in3 m c t j)).trans (congrArg (changes (A0 m c) (A1 m c) (A2 m c) (A3 m c)) (emb5 t j)).symm)
    fun i => ⟨blockOf i, flush0_5 _, Finset.mem_map.2 ⟨inBlock i, Finset.mem_univ _, (emb5 (blockOf i) (inBlock i)).trans (back i)⟩⟩
theorem final6 : (dats m 0 c).arrAt 6 cfg0.N = means (A1 m c) (A3 m c) :=
  (dats m 0 c).arrAt_eq_of_cover 6 _ (fun t _ => by
    rw [flushed6, out6_eq]
    exact funext fun j : S512x386.Idx => (congrArg₂ mean (in1 m c t j) (in3 m c t j)).trans (congrArg (means (A1 m c) (A3 m c)) (emb6 t j)).symm)
    fun i => ⟨blockOf i, flush0_6 _, Finset.mem_map.2 ⟨inBlock i, Finset.mem_univ _, (emb6 (blockOf i) (inBlock i)).trans (back i)⟩⟩
theorem final7 : (dats m 0 c).arrAt 7 cfg0.N = squares (A2 m c) (A3 m c) :=
  (dats m 0 c).arrAt_eq_of_cover 7 _ (fun t _ => by
    rw [flushed7, out7_eq]
    exact funext fun j : S512x386.Idx => (congrArg₂ square (in2 m c t j) (in3 m c t j)).trans (congrArg (squares (A2 m c) (A3 m c)) (emb7 t j)).symm)
    fun i => ⟨blockOf i, flush0_7 _, Finset.mem_map.2 ⟨inBlock i, Finset.mem_univ _, (emb7 (blockOf i) (inBlock i)).trans (back i)⟩⟩

end Cert.AdamInIdeal.Value

namespace Cert.Proof

open Idealize.ShloMosaic Idealize.SL.Sem Cert.AdamRow Cert.AdamInRefIdeal Cert.AdamInRefIdeal.Gen Cert.AdamInRefIdeal.Read Cert.AdamInIdeal.Value

theorem adamIn_total (x : S8x1024x386.Idx → EReal) : val_main_v1 (F := Ideal) x = totals x := by
  funext i
  obtain ⟨p, q, rfl⟩ := split2 (a := 1024) (b := 386) i
  rw [totals_eq]
  pointwise [val_main_v1, val_main_v0, val_main_cst]

theorem adamInRef_frame : quiescent_AdamInRefIdeal := fun m ρ _ =>
  (θ_run _ _ _).mono (fun r h => ⟨fun c => (h c).2.2.2.2, sem_eq_zero_of_no_sems (by decide) r.2⟩)
    (Cert.AdamInRefIdeal.Value.run (F := Ideal) m ρ)

/-- The kernel and the optimiser's formula end with equal results. -/
theorem adamIn_algebraic : algebraic_AdamInIdeal_AdamInRefIdeal := fun m ρ m' ρ' _ hag => by
  refine ⟨_, _, _, _, (θ_run _ _ _).mono (fun r h c => ⟨(h c).1.trans (final4 m c), (h c).2.1.trans (final5 m c),
      (h c).2.2.1.trans (final6 m c), (h c).2.2.2.1.trans (final7 m c), (h c).2.2.2.2⟩) (Cert.AdamInIdeal.Value.run_blocks m ρ),
    (θ_run _ _ _).mono (fun r h c => ?_) (Cert.AdamInRefIdeal.Value.run (F := Ideal) m' ρ')⟩
  obtain ⟨h0, h1, h2, h3, h4⟩ := h c
  obtain ⟨a0, a1, a2, a3⟩ := hag c
  refine ⟨h0.trans ?_, h1.trans (funext fun i => ?_), h2.trans (funext fun i => ?_), h3.trans (funext fun i => ?_), h4⟩
  · rw [val_main_v1_eq, a3]; exact adamIn_total _
  · rw [val_main_v25_eq, a0, a1, a2, a3]; exact congrArg (change _ _ _) (congrFun (adamIn_total _) i)
  · rw [val_main_v6_eq, a1, a3]; exact congrArg (mean _) (congrFun (adamIn_total _) i)
  · rw [val_main_v12_eq, a2, a3]; exact congrArg (square _) (congrFun (adamIn_total _) i)

end Cert.Proof

end
-- ==== Proof.AdamOutStep.lean ====
/- The optimiser's step for the rows of the output projection a device holds, in one block; the reference reads the same. -/
module

public import proofs.«01_k».proof.Defs
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.AdamRow
public import Idealize.ShloMosaic.Lib.Quiescent

@[expose] public section

set_option maxRecDepth 16384

noncomputable section

namespace Cert.AdamOutIdeal.Value

open Cert.AdamOutIdeal Cert.AdamOutIdeal.Gen Cert.AdamRow Idealize.ShloMosaic Idealize.ShloMosaic.TcCoe Idealize.SL.Sem

section
variable (x0 x1 x2 : Vec Ideal S128x1024 .f32) (x3 : Vec Ideal S8x128x1024 .bf16)

theorem sum_eq : k0_pay5 (F := Ideal) x0 x1 x2 x3 = totals x3 := by
  funext j
  obtain ⟨p, q, rfl⟩ := split2 (a := 128) (b := 1024) j
  have e : ∀ y0 y1 y2 y3 y4 y5 y6 y7 : Vec Ideal S1x128x1024 .bf16, k0_pay4 (F := Ideal) y0 y1 y2 y3 y4 y5 y6 y7 (ix2 p q)
      = total fun d => (![y0, y1, y2, y3, y4, y5, y6, y7] d) (ix3 0 p q) := fun _ _ _ _ _ _ _ _ => by
    pointwise [k0_pay4]
    rfl
  refine (e ..).trans (congrArg total (funext fun d => ?_))
  match d with
  | 0 | 1 | 2 | 3 | 4 | 5 | 6 | 7 => exact congrArg x3 (place3 rfl (by show 0 + 1 * p.val = p.val; omega) (by show 0 + 1 * q.val = q.val; omega))

theorem r4 : G4 (F := Ideal) x0 x1 x2 x3 = totals x3 := sum_eq x0 x1 x2 x3
theorem r5 : G5 (F := Ideal) x0 x1 x2 x3 = changes x0 x1 x2 x3 := by
  show k0_pay3 (F := Ideal) (k0_pay5 x0 x1 x2 x3) x0 x1 x2 = _
  rw [sum_eq]; rfl
theorem r6 : G6 (F := Ideal) x0 x1 x2 x3 = means x1 x3 := by
  show k0_pay1 (F := Ideal) (k0_pay5 x0 x1 x2 x3) x1 = _
  rw [sum_eq]; rfl
theorem r7 : G7 (F := Ideal) x0 x1 x2 x3 = squares x2 x3 := by
  show k0_pay2 (F := Ideal) (k0_pay5 x0 x1 x2 x3) x2 = _
  rw [sum_eq]; rfl
end

end Cert.AdamOutIdeal.Value

namespace Cert.Proof

open Idealize.ShloMosaic Idealize.SL.Sem Cert.AdamRow Cert.AdamOutRefIdeal Cert.AdamOutRefIdeal.Gen Cert.AdamOutRefIdeal.Read Cert.AdamOutIdeal.Value

theorem adamOut_total (x : S8x128x1024.Idx → EReal) : val_main_v1 (F := Ideal) x = totals x := by
  funext i
  obtain ⟨p, q, rfl⟩ := split2 (a := 128) (b := 1024) i
  rw [totals_eq]
  pointwise [val_main_v1, val_main_v0, val_main_cst]

theorem adamOutRef_frame : quiescent_AdamOutRefIdeal := fun m ρ _ =>
  (θ_run _ _ _).mono (fun r h => ⟨fun c => (h c).2.2.2.2, sem_eq_zero_of_no_sems (by decide) r.2⟩)
    (Cert.AdamOutRefIdeal.Value.run (F := Ideal) m ρ)

/-- The kernel and the optimiser's formula end with equal results. -/
theorem adamOut_algebraic : algebraic_AdamOutIdeal_AdamOutRefIdeal := fun m ρ m' ρ' _ hag => by
  refine ⟨_, _, _, _, (θ_run _ _ _).mono (fun r h c => ⟨(h c).1.trans (r4 ..), (h c).2.1.trans (r5 ..),
      (h c).2.2.1.trans (r6 ..), (h c).2.2.2.1.trans (r7 ..), (h c).2.2.2.2⟩) (Cert.AdamOutIdeal.Value.run m ρ),
    (θ_run _ _ _).mono (fun r h c => ?_) (Cert.AdamOutRefIdeal.Value.run (F := Ideal) m' ρ')⟩
  obtain ⟨h0, h1, h2, h3, h4⟩ := h c
  obtain ⟨a0, a1, a2, a3⟩ := hag c
  refine ⟨h0.trans ?_, h1.trans (funext fun i => ?_), h2.trans (funext fun i => ?_), h3.trans (funext fun i => ?_), h4⟩
  · rw [val_main_v1_eq, a3]; exact adamOut_total _
  · rw [val_main_v25_eq, a0, a1, a2, a3]; exact congrArg (change _ _ _) (congrFun (adamOut_total _) i)
  · rw [val_main_v6_eq, a1, a3]; exact congrArg (mean _) (congrFun (adamOut_total _) i)
  · rw [val_main_v12_eq, a2, a3]; exact congrArg (square _) (congrFun (adamOut_total _) i)

end Cert.Proof

end
-- ==== Proof.AdamQueryStep.lean ====
/- The optimiser's step for the columns of the query projection a device holds, in one block; the reference reads the same. -/
module

public import proofs.«01_k».proof.Defs
public import proofs.«01_k».proof.Proof.Gen.AdamQuery.Frame
public import proofs.«01_k».proof.Proof.Gen.AdamQueryIdeal.Value
public import proofs.«01_k».proof.Proof.Gen.AdamQueryRefIdeal.Run
public import proofs.«01_k».proof.Proof.Gen.AdamQueryRefIdeal.Read
public import proofs.«01_k».proof.Proof.AdamRow
public import Idealize.ShloMosaic.Lib.Quiescent

@[expose] public section

set_option maxRecDepth 16384

noncomputable section

namespace Cert.AdamQueryIdeal.Value

open Cert.AdamQueryIdeal Cert.AdamQueryIdeal.Gen Cert.AdamRow Idealize.ShloMosaic Idealize.ShloMosaic.TcCoe Idealize.SL.Sem

section
variable (x0 x1 x2 : Vec Ideal S1024x192 .f32) (x3 : Vec Ideal S8x1024x192 .bf16)

theorem sum_eq : k0_pay5 (F := Ideal) x0 x1 x2 x3 = totals x3 := by
  funext j
  obtain ⟨p, q, rfl⟩ := split2 (a := 1024) (b := 192) j
  have e : ∀ y0 y1 y2 y3 y4 y5 y6 y7 : Vec Ideal S1x1024x192 .bf16, k0_pay4 (F := Ideal) y0 y1 y2 y3 y4 y5 y6 y7 (ix2 p q)
      = total fun d => (![y0, y1, y2, y3, y4, y5, y6, y7] d) (ix3 0 p q) := fun _ _ _ _ _ _ _ _ => by
    pointwise [k0_pay4]
    rfl
  refine (e ..).trans (congrArg total (funext fun d => ?_))
  match d with
  | 0 | 1 | 2 | 3 | 4 | 5 | 6 | 7 => exact congrArg x3 (place3 rfl (by show 0 + 1 * p.val = p.val; omega) (by show 0 + 1 * q.val = q.val; omega))

theorem r4 : G4 (F := Ideal) x0 x1 x2 x3 = totals x3 := sum_eq x0 x1 x2 x3
theorem r5 : G5 (F := Ideal) x0 x1 x2 x3 = changes x0 x1 x2 x3 := by
  show k0_pay3 (F := Ideal) (k0_pay5 x0 x1 x2 x3) x0 x1 x2 = _
  rw [sum_eq]; rfl
theorem r6 : G6 (F := Ideal) x0 x1 x2 x3 = means x1 x3 := by
  show k0_pay1 (F := Ideal) (k0_pay5 x0 x1 x2 x3) x1 = _
  rw [sum_eq]; rfl
theorem r7 : G7 (F := Ideal) x0 x1 x2 x3 = squares x2 x3 := by
  show k0_pay2 (F := Ideal) (k0_pay5 x0 x1 x2 x3) x2 = _
  rw [sum_eq]; rfl
end

end Cert.AdamQueryIdeal.Value

namespace Cert.Proof

open Idealize.ShloMosaic Idealize.SL.Sem Cert.AdamRow Cert.AdamQueryRefIdeal Cert.AdamQueryRefIdeal.Gen Cert.AdamQueryRefIdeal.Read Cert.AdamQueryIdeal.Value

theorem adamQuery_total (x : S8x1024x192.Idx → EReal) : val_main_v1 (F := Ideal) x = totals x := by
  funext i
  obtain ⟨p, q, rfl⟩ := split2 (a := 1024) (b := 192) i
  rw [totals_eq]
  pointwise [val_main_v1, val_main_v0, val_main_cst]

theorem adamQueryRef_frame : quiescent_AdamQueryRefIdeal := fun m ρ _ =>
  (θ_run _ _ _).mono (fun r h => ⟨fun c => (h c).2.2.2.2, sem_eq_zero_of_no_sems (by decide) r.2⟩)
    (Cert.AdamQueryRefIdeal.Value.run (F := Ideal) m ρ)

/-- The kernel and the optimiser's formula end with equal results. -/
theorem adamQuery_algebraic : algebraic_AdamQueryIdeal_AdamQueryRefIdeal := fun m ρ m' ρ' _ hag => by
  refine ⟨_, _, _, _, (θ_run _ _ _).mono (fun r h c => ⟨(h c).1.trans (r4 ..), (h c).2.1.trans (r5 ..),
      (h c).2.2.1.trans (r6 ..), (h c).2.2.2.1.trans (r7 ..), (h c).2.2.2.2⟩) (Cert.AdamQueryIdeal.Value.run m ρ),
    (θ_run _ _ _).mono (fun r h c => ?_) (Cert.AdamQueryRefIdeal.Value.run (F := Ideal) m' ρ')⟩
  obtain ⟨h0, h1, h2, h3, h4⟩ := h c
  obtain ⟨a0, a1, a2, a3⟩ := hag c
  refine ⟨h0.trans ?_, h1.trans (funext fun i => ?_), h2.trans (funext fun i => ?_), h3.trans (funext fun i => ?_), h4⟩
  · rw [val_main_v1_eq, a3]; exact adamQuery_total _
  · rw [val_main_v25_eq, a0, a1, a2, a3]; exact congrArg (change _ _ _) (congrFun (adamQuery_total _) i)
  · rw [val_main_v6_eq, a1, a3]; exact congrArg (mean _) (congrFun (adamQuery_total _) i)
  · rw [val_main_v12_eq, a2, a3]; exact congrArg (square _) (congrFun (adamQuery_total _) i)

end Cert.Proof

end
-- ==== Proof.AdamBoutStep.lean ====
/- The optimiser's step for the columns of the second output projection a device holds, in one block; the reference reads the same. -/
module

public import proofs.«01_k».proof.Defs
public import proofs.«01_k».proof.Proof.Gen.AdamBout.Frame
public import proofs.«01_k».proof.Proof.Gen.AdamBoutIdeal.Value
public import proofs.«01_k».proof.Proof.Gen.AdamBoutRefIdeal.Run
public import proofs.«01_k».proof.Proof.Gen.AdamBoutRefIdeal.Read
public import proofs.«01_k».proof.Proof.AdamRow
public import Idealize.ShloMosaic.Lib.Quiescent

@[expose] public section

set_option maxRecDepth 16384

noncomputable section

namespace Cert.AdamBoutIdeal.Value

open Cert.AdamBoutIdeal Cert.AdamBoutIdeal.Gen Cert.AdamRow Idealize.ShloMosaic Idealize.ShloMosaic.TcCoe Idealize.SL.Sem

section
variable (x0 x1 x2 : Vec Ideal S512x128 .f32) (x3 : Vec Ideal S8x512x128 .bf16)

theorem sum_eq : k0_pay5 (F := Ideal) x0 x1 x2 x3 = totals x3 := by
  funext j
  obtain ⟨p, q, rfl⟩ := split2 (a := 512) (b := 128) j
  have e : ∀ y0 y1 y2 y3 y4 y5 y6 y7 : Vec Ideal S1x512x128 .bf16, k0_pay4 (F := Ideal) y0 y1 y2 y3 y4 y5 y6 y7 (ix2 p q)
      = total fun d => (![y0, y1, y2, y3, y4, y5, y6, y7] d) (ix3 0 p q) := fun _ _ _ _ _ _ _ _ => by
    pointwise [k0_pay4]
    rfl
  refine (e ..).trans (congrArg total (funext fun d => ?_))
  match d with
  | 0 | 1 | 2 | 3 | 4 | 5 | 6 | 7 => exact congrArg x3 (place3 rfl (by show 0 + 1 * p.val = p.val; omega) (by show 0 + 1 * q.val = q.val; omega))

theorem r4 : G4 (F := Ideal) x0 x1 x2 x3 = totals x3 := sum_eq x0 x1 x2 x3
theorem r5 : G5 (F := Ideal) x0 x1 x2 x3 = changes x0 x1 x2 x3 := by
  show k0_pay3 (F := Ideal) (k0_pay5 x0 x1 x2 x3) x0 x1 x2 = _
  rw [sum_eq]; rfl
theorem r6 : G6 (F := Ideal) x0 x1 x2 x3 = means x1 x3 := by
  show k0_pay1 (F := Ideal) (k0_pay5 x0 x1 x2 x3) x1 = _
  rw [sum_eq]; rfl
theorem r7 : G7 (F := Ideal) x0 x1 x2 x3 = squares x2 x3 := by
  show k0_pay2 (F := Ideal) (k0_pay5 x0 x1 x2 x3) x2 = _
  rw [sum_eq]; rfl
end

end Cert.AdamBoutIdeal.Value

namespace Cert.Proof

open Idealize.ShloMosaic Idealize.SL.Sem Cert.AdamRow Cert.AdamBoutRefIdeal Cert.AdamBoutRefIdeal.Gen Cert.AdamBoutRefIdeal.Read Cert.AdamBoutIdeal.Value

theorem adamBout_total (x : S8x512x128.Idx → EReal) : val_main_v1 (F := Ideal) x = totals x := by
  funext i
  obtain ⟨p, q, rfl⟩ := split2 (a := 512) (b := 128) i
  rw [totals_eq]
  pointwise [val_main_v1, val_main_v0, val_main_cst]

theorem adamBoutRef_frame : quiescent_AdamBoutRefIdeal := fun m ρ _ =>
  (θ_run _ _ _).mono (fun r h => ⟨fun c => (h c).2.2.2.2, sem_eq_zero_of_no_sems (by decide) r.2⟩)
    (Cert.AdamBoutRefIdeal.Value.run (F := Ideal) m ρ)

/-- The kernel and the optimiser's formula end with equal results. -/
theorem adamBout_algebraic : algebraic_AdamBoutIdeal_AdamBoutRefIdeal := fun m ρ m' ρ' _ hag => by
  refine ⟨_, _, _, _, (θ_run _ _ _).mono (fun r h c => ⟨(h c).1.trans (r4 ..), (h c).2.1.trans (r5 ..),
      (h c).2.2.1.trans (r6 ..), (h c).2.2.2.1.trans (r7 ..), (h c).2.2.2.2⟩) (Cert.AdamBoutIdeal.Value.run m ρ),
    (θ_run _ _ _).mono (fun r h c => ?_) (Cert.AdamBoutRefIdeal.Value.run (F := Ideal) m' ρ')⟩
  obtain ⟨h0, h1, h2, h3, h4⟩ := h c
  obtain ⟨a0, a1, a2, a3⟩ := hag c
  refine ⟨h0.trans ?_, h1.trans (funext fun i => ?_), h2.trans (funext fun i => ?_), h3.trans (funext fun i => ?_), h4⟩
  · rw [val_main_v1_eq, a3]; exact adamBout_total _
  · rw [val_main_v25_eq, a0, a1, a2, a3]; exact congrArg (change _ _ _) (congrFun (adamBout_total _) i)
  · rw [val_main_v6_eq, a1, a3]; exact congrArg (mean _) (congrFun (adamBout_total _) i)
  · rw [val_main_v12_eq, a2, a3]; exact congrArg (square _) (congrFun (adamBout_total _) i)

end Cert.Proof

end
-- ==== Proof.AdamKvStep.lean ====
/- The optimiser's step for the columns of the key and value projections a device holds, in 2 blocks of 512 rows; the reference reads the same. -/
module

public import proofs.«01_k».proof.Defs
public import proofs.«01_k».proof.Proof.Gen.AdamKv.Frame
public import proofs.«01_k».proof.Proof.Gen.AdamKvIdeal.Value
public import proofs.«01_k».proof.Proof.Gen.AdamKvRefIdeal.Run
public import proofs.«01_k».proof.Proof.Gen.AdamKvRefIdeal.Read
public import proofs.«01_k».proof.Proof.AdamRow
public import Idealize.ShloMosaic.Lib.Quiescent

@[expose] public section

set_option maxRecDepth 16384

noncomputable section

namespace Cert.AdamKvIdeal.Value

open Cert.AdamKvIdeal Cert.AdamKvIdeal.Gen Cert.AdamRow Idealize.ShloMosaic Idealize.ShloMosaic.TcCoe Idealize.SL.Sem

/-! ## One block -/

section
variable (x0 x1 x2 : Vec Ideal S512x384 .f32) (x3 : Vec Ideal S8x512x384 .bf16)

theorem sum_eq : k0_pay5 (F := Ideal) x0 x1 x2 x3 = totals x3 := by
  funext j
  obtain ⟨p, q, rfl⟩ := split2 (a := 512) (b := 384) j
  have e : ∀ y0 y1 y2 y3 y4 y5 y6 y7 : Vec Ideal S1x512x384 .bf16, k0_pay4 (F := Ideal) y0 y1 y2 y3 y4 y5 y6 y7 (ix2 p q)
      = total fun d => (![y0, y1, y2, y3, y4, y5, y6, y7] d) (ix3 0 p q) := fun _ _ _ _ _ _ _ _ => by
    pointwise [k0_pay4]
    rfl
  refine (e ..).trans (congrArg total (funext fun d => ?_))
  match d with
  | 0 | 1 | 2 | 3 | 4 | 5 | 6 | 7 => exact congrArg x3 (place3 rfl (by show 0 + 1 * p.val = p.val; omega) (by show 0 + 1 * q.val = q.val; omega))

/-- The one store is the whole block, and each block is loaded whole. -/
theorem put (x : Vec Ideal S512x384 .f32) : View.canon [⟨r0_8, x⟩] = x := View.canon_unit_zero (S := S512x384) (by decide) _ _
theorem get : View.ld x0 r0_8 = x0 := View.ld_unit_zero (S := S512x384) (by decide) _ _

theorem out4_eq : out0_4 (F := Ideal) x0 x1 x2 x3 = totals x3 := by
  unfold out0_4
  exact (put _).trans (sum_eq x0 x1 x2 x3)
theorem out5_eq : out0_5 (F := Ideal) x0 x1 x2 x3 = changes x0 x1 x2 x3 := by
  unfold out0_5
  rw [put, get, get, get, sum_eq]; rfl
theorem out6_eq : out0_6 (F := Ideal) x0 x1 x2 x3 = means x1 x3 := by
  unfold out0_6
  rw [put, get, sum_eq]; rfl
theorem out7_eq : out0_7 (F := Ideal) x0 x1 x2 x3 = squares x2 x3 := by
  unfold out0_7
  rw [put, get, sum_eq]; rfl
end

/-! ## The whole arrays -/

/-- Place `j` of block `t`, in the array. -/
def at_ (t : Fin cfg0.N) (j : S512x384.Idx) : S1024x384.Idx :=
  ix2 ⟨512 * t.val + (j 0).val, by have : t.val < 2 := lt_of_lt_of_eq t.isLt N_0; have : (j 0).val < 512 := (j 0).isLt; omega⟩ (j 1)

theorem at0 : Rows (n := grid0.N) win0_0.index := by decide +kernel
theorem at1 : Rows (n := grid0.N) win0_1.index := by decide +kernel
theorem at2 : Rows (n := grid0.N) win0_2.index := by decide +kernel
theorem at4 : Rows (n := grid0.N) win0_4.index := by decide +kernel
theorem at5 : Rows (n := grid0.N) win0_5.index := by decide +kernel
theorem at6 : Rows (n := grid0.N) win0_6.index := by decide +kernel
theorem at7 : Rows (n := grid0.N) win0_7.index := by decide +kernel
theorem at3 : Stacks (n := grid0.N) win0_3.index := by decide +kernel

variable (m : (ℓ : Loc nD τ sig) → Buf (Elt Ideal) ℓ) (ρ : Dev nD → PrngReg) (c : Dev nD)

/-- The arguments. -/
abbrev A0 : S1024x384.Idx → EReal := m ((c : Thread nD τ).loc main_arg0)
abbrev A1 : S1024x384.Idx → EReal := m ((c : Thread nD τ).loc main_arg1)
abbrev A2 : S1024x384.Idx → EReal := m ((c : Thread nD τ).loc main_arg2)
abbrev A3 : S8x1024x384.Idx → EReal := m ((c : Thread nD τ).loc main_arg3)

section
variable (t : Fin cfg0.N) (j : S512x384.Idx)

theorem emb4 : (((cfg0.win 4).blk t).view.emb j : S1024x384.Idx) = at_ t j := row2 (at4 t) rfl rfl rfl
theorem emb5 : (((cfg0.win 5).blk t).view.emb j : S1024x384.Idx) = at_ t j := row2 (at5 t) rfl rfl rfl
theorem emb6 : (((cfg0.win 6).blk t).view.emb j : S1024x384.Idx) = at_ t j := row2 (at6 t) rfl rfl rfl
theorem emb7 : (((cfg0.win 7).blk t).view.emb j : S1024x384.Idx) = at_ t j := row2 (at7 t) rfl rfl rfl
theorem in0 : (iblk m c 0 t : Vec Ideal S512x384 .f32) j = A0 m c (at_ t j) := congrArg (A0 m c) (row2 (at0 t) rfl rfl rfl)
theorem in1 : (iblk m c 1 t : Vec Ideal S512x384 .f32) j = A1 m c (at_ t j) := congrArg (A1 m c) (row2 (at1 t) rfl rfl rfl)
theorem in2 : (iblk m c 2 t : Vec Ideal S512x384 .f32) j = A2 m c (at_ t j) := congrArg (A2 m c) (row2 (at2 t) rfl rfl rfl)
theorem in3 : totals (iblk m c 3 t : Vec Ideal S8x512x384 .bf16) j = totals (A3 m c) (at_ t j) :=
  congrArg total (funext fun _ => congrArg (A3 m c) (row3 (at3 t) rfl rfl rfl rfl))
end

/-- Every place of the array lies in a block. -/
def blockOf (i : S1024x384.Idx) : Fin cfg0.N := ⟨(i 0).val / 512, by rw [show cfg0.N = 2 from N_0]; have : (i 0).val < 1024 := (i 0).isLt; omega⟩
def inBlock (i : S1024x384.Idx) : S512x384.Idx := ix2 ⟨(i 0).val % 512, Nat.mod_lt _ (by decide)⟩ (i 1)
theorem back (i : S1024x384.Idx) : at_ (blockOf i) (inBlock i) = i :=
  place2 (by show 512 * ((i 0).val / 512) + (i 0).val % 512 = (i 0).val; omega) rfl

theorem final4 : (dats m 0 c).arrAt 4 cfg0.N = totals (A3 m c) :=
  (dats m 0 c).arrAt_eq_of_cover 4 _ (fun t _ => by
    rw [flushed4, out4_eq]
    exact funext fun j : S512x384.Idx => (in3 m c t j).trans (congrArg (totals (A3 m c)) (emb4 t j)).symm)
    fun i => ⟨blockOf i, flush0_4 _, Finset.mem_map.2 ⟨inBlock i, Finset.mem_univ _, (emb4 (blockOf i) (inBlock i)).trans (back i)⟩⟩
theorem final5 : (dats m 0 c).arrAt 5 cfg0.N = changes (A0 m c) (A1 m c) (A2 m c) (A3 m c) :=
  (dats m 0 c).arrAt_eq_of_cover 5 _ (fun t _ => by
    rw [flushed5, out5_eq]
    exact funext fun j : S512x384.Idx => (change_congr (in0 m c t j) (in1 m c t j) (in2 m c t j) (in3 m c t j)).trans (congrArg (changes (A0 m c) (A1 m c) (A2 m c) (A3 m c)) (emb5 t j)).symm)
    fun i => ⟨blockOf i, flush0_5 _, Finset.mem_map.2 ⟨inBlock i, Finset.mem_univ _, (emb5 (blockOf i) (inBlock i)).trans (back i)⟩⟩
theorem final6 : (dats m 0 c).arrAt 6 cfg0.N = means (A1 m c) (A3 m c) :=
  (dats m 0 c).arrAt_eq_of_cover 6 _ (fun t _ => by
    rw [flushed6, out6_eq]
    exact funext fun j : S512x384.Idx => (congrArg₂ mean (in1 m c t j) (in3 m c t j)).trans (congrArg (means (A1 m c) (A3 m c)) (emb6 t j)).symm)
    fun i => ⟨blockOf i, flush0_6 _, Finset.mem_map.2 ⟨inBlock i, Finset.mem_univ _, (emb6 (blockOf i) (inBlock i)).trans (back i)⟩⟩
theorem final7 : (dats m 0 c).arrAt 7 cfg0.N = squares (A2 m c) (A3 m c) :=
  (dats m 0 c).arrAt_eq_of_cover 7 _ (fun t _ => by
    rw [flushed7, out7_eq]
    exact funext fun j : S512x384.Idx => (congrArg₂ square (in2 m c t j) (in3 m c t j)).trans (congrArg (squares (A2 m c) (A3 m c)) (emb7 t j)).symm)
    fun i => ⟨blockOf i, flush0_7 _, Finset.mem_map.2 ⟨inBlock i, Finset.mem_univ _, (emb7 (blockOf i) (inBlock i)).trans (back i)⟩⟩

end Cert.AdamKvIdeal.Value

namespace Cert.Proof

open Idealize.ShloMosaic Idealize.SL.Sem Cert.AdamRow Cert.AdamKvRefIdeal Cert.AdamKvRefIdeal.Gen Cert.AdamKvRefIdeal.Read Cert.AdamKvIdeal.Value

theorem adamKv_total (x : S8x1024x384.Idx → EReal) : val_main_v1 (F := Ideal) x = totals x := by
  funext i
  obtain ⟨p, q, rfl⟩ := split2 (a := 1024) (b := 384) i
  rw [totals_eq]
  pointwise [val_main_v1, val_main_v0, val_main_cst]

theorem adamKvRef_frame : quiescent_AdamKvRefIdeal := fun m ρ _ =>
  (θ_run _ _ _).mono (fun r h => ⟨fun c => (h c).2.2.2.2, sem_eq_zero_of_no_sems (by decide) r.2⟩)
    (Cert.AdamKvRefIdeal.Value.run (F := Ideal) m ρ)

/-- The kernel and the optimiser's formula end with equal results. -/
theorem adamKv_algebraic : algebraic_AdamKvIdeal_AdamKvRefIdeal := fun m ρ m' ρ' _ hag => by
  refine ⟨_, _, _, _, (θ_run _ _ _).mono (fun r h c => ⟨(h c).1.trans (final4 m c), (h c).2.1.trans (final5 m c),
      (h c).2.2.1.trans (final6 m c), (h c).2.2.2.1.trans (final7 m c), (h c).2.2.2.2⟩) (Cert.AdamKvIdeal.Value.run_blocks m ρ),
    (θ_run _ _ _).mono (fun r h c => ?_) (Cert.AdamKvRefIdeal.Value.run (F := Ideal) m' ρ')⟩
  obtain ⟨h0, h1, h2, h3, h4⟩ := h c
  obtain ⟨a0, a1, a2, a3⟩ := hag c
  refine ⟨h0.trans ?_, h1.trans (funext fun i => ?_), h2.trans (funext fun i => ?_), h3.trans (funext fun i => ?_), h4⟩
  · rw [val_main_v1_eq, a3]; exact adamKv_total _
  · rw [val_main_v25_eq, a0, a1, a2, a3]; exact congrArg (change _ _ _) (congrFun (adamKv_total _) i)
  · rw [val_main_v6_eq, a1, a3]; exact congrArg (mean _) (congrFun (adamKv_total _) i)
  · rw [val_main_v12_eq, a2, a3]; exact congrArg (square _) (congrFun (adamKv_total _) i)

end Cert.Proof

end
-- ==== Proof.AdamUpStep.lean ====
/- The optimiser's step for the columns of the up-projection a device holds, in 4 blocks of 256 rows; the reference reads the same. -/
module

public import proofs.«01_k».proof.Defs
public import proofs.«01_k».proof.Proof.Gen.AdamUp.Frame
public import proofs.«01_k».proof.Proof.Gen.AdamUpIdeal.Value
public import proofs.«01_k».proof.Proof.Gen.AdamUpRefIdeal.Run
public import proofs.«01_k».proof.Proof.Gen.AdamUpRefIdeal.Read
public import proofs.«01_k».proof.Proof.AdamRow
public import Idealize.ShloMosaic.Lib.Quiescent

@[expose] public section

set_option maxRecDepth 16384

noncomputable section

namespace Cert.AdamUpIdeal.Value

open Cert.AdamUpIdeal Cert.AdamUpIdeal.Gen Cert.AdamRow Idealize.ShloMosaic Idealize.ShloMosaic.TcCoe Idealize.SL.Sem

/-! ## One block -/

section
variable (x0 x1 x2 : Vec Ideal S256x704 .f32) (x3 : Vec Ideal S8x256x704 .bf16)

theorem sum_eq : k0_pay5 (F := Ideal) x0 x1 x2 x3 = totals x3 := by
  funext j
  obtain ⟨p, q, rfl⟩ := split2 (a := 256) (b := 704) j
  have e : ∀ y0 y1 y2 y3 y4 y5 y6 y7 : Vec Ideal S1x256x704 .bf16, k0_pay4 (F := Ideal) y0 y1 y2 y3 y4 y5 y6 y7 (ix2 p q)
      = total fun d => (![y0, y1, y2, y3, y4, y5, y6, y7] d) (ix3 0 p q) := fun _ _ _ _ _ _ _ _ => by
    pointwise [k0_pay4]
    rfl
  refine (e ..).trans (congrArg total (funext fun d => ?_))
  match d with
  | 0 | 1 | 2 | 3 | 4 | 5 | 6 | 7 => exact congrArg x3 (place3 rfl (by show 0 + 1 * p.val = p.val; omega) (by show 0 + 1 * q.val = q.val; omega))

/-- The one store is the whole block, and each block is loaded whole. -/
theorem put (x : Vec Ideal S256x704 .f32) : View.canon [⟨r0_8, x⟩] = x := View.canon_unit_zero (S := S256x704) (by decide) _ _
theorem get : View.ld x0 r0_8 = x0 := View.ld_unit_zero (S := S256x704) (by decide) _ _

theorem out4_eq : out0_4 (F := Ideal) x0 x1 x2 x3 = totals x3 := by
  unfold out0_4
  exact (put _).trans (sum_eq x0 x1 x2 x3)
theorem out5_eq : out0_5 (F := Ideal) x0 x1 x2 x3 = changes x0 x1 x2 x3 := by
  unfold out0_5
  rw [put, get, get, get, sum_eq]; rfl
theorem out6_eq : out0_6 (F := Ideal) x0 x1 x2 x3 = means x1 x3 := by
  unfold out0_6
  rw [put, get, sum_eq]; rfl
theorem out7_eq : out0_7 (F := Ideal) x0 x1 x2 x3 = squares x2 x3 := by
  unfold out0_7
  rw [put, get, sum_eq]; rfl
end

/-! ## The whole arrays -/

/-- Place `j` of block `t`, in the array. -/
def at_ (t : Fin cfg0.N) (j : S256x704.Idx) : S1024x704.Idx :=
  ix2 ⟨256 * t.val + (j 0).val, by have : t.val < 4 := lt_of_lt_of_eq t.isLt N_0; have : (j 0).val < 256 := (j 0).isLt; omega⟩ (j 1)

theorem at0 : Rows (n := grid0.N) win0_0.index := by decide +kernel
theorem at1 : Rows (n := grid0.N) win0_1.index := by decide +kernel
theorem at2 : Rows (n := grid0.N) win0_2.index := by decide +kernel
theorem at4 : Rows (n := grid0.N) win0_4.index := by decide +kernel
theorem at5 : Rows (n := grid0.N) win0_5.index := by decide +kernel
theorem at6 : Rows (n := grid0.N) win0_6.index := by decide +kernel
theorem at7 : Rows (n := grid0.N) win0_7.index := by decide +kernel
theorem at3 : Stacks (n := grid0.N) win0_3.index := by decide +kernel

variable (m : (ℓ : Loc nD τ sig) → Buf (Elt Ideal) ℓ) (ρ : Dev nD → PrngReg) (c : Dev nD)

/-- The arguments. -/
abbrev A0 : S1024x704.Idx → EReal := m ((c : Thread nD τ).loc main_arg0)
abbrev A1 : S1024x704.Idx → EReal := m ((c : Thread nD τ).loc main_arg1)
abbrev A2 : S1024x704.Idx → EReal := m ((c : Thread nD τ).loc main_arg2)
abbrev A3 : S8x1024x704.Idx → EReal := m ((c : Thread nD τ).loc main_arg3)

section
variable (t : Fin cfg0.N) (j : S256x704.Idx)

theorem emb4 : (((cfg0.win 4).blk t).view.emb j : S1024x704.Idx) = at_ t j := row2 (at4 t) rfl rfl rfl
theorem emb5 : (((cfg0.win 5).blk t).view.emb j : S1024x704.Idx) = at_ t j := row2 (at5 t) rfl rfl rfl
theorem emb6 : (((cfg0.win 6).blk t).view.emb j : S1024x704.Idx) = at_ t j := row2 (at6 t) rfl rfl rfl
theorem emb7 : (((cfg0.win 7).blk t).view.emb j : S1024x704.Idx) = at_ t j := row2 (at7 t) rfl rfl rfl
theorem in0 : (iblk m c 0 t : Vec Ideal S256x704 .f32) j = A0 m c (at_ t j) := congrArg (A0 m c) (row2 (at0 t) rfl rfl rfl)
theorem in1 : (iblk m c 1 t : Vec Ideal S256x704 .f32) j = A1 m c (at_ t j) := congrArg (A1 m c) (row2 (at1 t) rfl rfl rfl)
theorem in2 : (iblk m c 2 t : Vec Ideal S256x704 .f32) j = A2 m c (at_ t j) := congrArg (A2 m c) (row2 (at2 t) rfl rfl rfl)
theorem in3 : totals (iblk m c 3 t : Vec Ideal S8x256x704 .bf16) j = totals (A3 m c) (at_ t j) :=
  congrArg total (funext fun _ => congrArg (A3 m c) (row3 (at3 t) rfl rfl rfl rfl))
end

/-- Every place of the array lies in a block. -/
def blockOf (i : S1024x704.Idx) : Fin cfg0.N := ⟨(i 0).val / 256, by rw [show cfg0.N = 4 from N_0]; have : (i 0).val < 1024 := (i 0).isLt; omega⟩
def inBlock (i : S1024x704.Idx) : S256x704.Idx := ix2 ⟨(i 0).val % 256, Nat.mod_lt _ (by decide)⟩ (i 1)
theorem back (i : S1024x704.Idx) : at_ (blockOf i) (inBlock i) = i :=
  place2 (by show 256 * ((i 0).val / 256) + (i 0).val % 256 = (i 0).val; omega) rfl

theorem final4 : (dats m 0 c).arrAt 4 cfg0.N = totals (A3 m c) :=
  (dats m 0 c).arrAt_eq_of_cover 4 _ (fun t _ => by
    rw [flushed4, out4_eq]
    exact funext fun j : S256x704.Idx => (in3 m c t j).trans (congrArg (totals (A3 m c)) (emb4 t j)).symm)
    fun i => ⟨blockOf i, flush0_4 _, Finset.mem_map.2 ⟨inBlock i, Finset.mem_univ _, (emb4 (blockOf i) (inBlock i)).trans (back i)⟩⟩
theorem final5 : (dats m 0 c).arrAt 5 cfg0.N = changes (A0 m c) (A1 m c) (A2 m c) (A3 m c) :=
  (dats m 0 c).arrAt_eq_of_cover 5 _ (fun t _ => by
    rw [flushed5, out5_eq]
    exact funext fun j : S256x704.Idx => (change_congr (in0 m c t j) (in1 m c t j) (in2 m c t j) (in3 m c t j)).trans (congrArg (changes (A0 m c) (A1 m c) (A2 m c) (A3 m c)) (emb5 t j)).symm)
    fun i => ⟨blockOf i, flush0_5 _, Finset.mem_map.2 ⟨inBlock i, Finset.mem_univ _, (emb5 (blockOf i) (inBlock i)).trans (back i)⟩⟩
theorem final6 : (dats m 0 c).arrAt 6 cfg0.N = means (A1 m c) (A3 m c) :=
  (dats m 0 c).arrAt_eq_of_cover 6 _ (fun t _ => by
    rw [flushed6, out6_eq]
    exact funext fun j : S256x704.Idx => (congrArg₂ mean (in1 m c t j) (in3 m c t j)).trans (congrArg (means (A1 m c) (A3 m c)) (emb6 t j)).symm)
    fun i => ⟨blockOf i, flush0_6 _, Finset.mem_map.2 ⟨inBlock i, Finset.mem_univ _, (emb6 (blockOf i) (inBlock i)).trans (back i)⟩⟩
theorem final7 : (dats m 0 c).arrAt 7 cfg0.N = squares (A2 m c) (A3 m c) :=
  (dats m 0 c).arrAt_eq_of_cover 7 _ (fun t _ => by
    rw [flushed7, out7_eq]
    exact funext fun j : S256x704.Idx => (congrArg₂ square (in2 m c t j) (in3 m c t j)).trans (congrArg (squares (A2 m c) (A3 m c)) (emb7 t j)).symm)
    fun i => ⟨blockOf i, flush0_7 _, Finset.mem_map.2 ⟨inBlock i, Finset.mem_univ _, (emb7 (blockOf i) (inBlock i)).trans (back i)⟩⟩

end Cert.AdamUpIdeal.Value

namespace Cert.Proof

open Idealize.ShloMosaic Idealize.SL.Sem Cert.AdamRow Cert.AdamUpRefIdeal Cert.AdamUpRefIdeal.Gen Cert.AdamUpRefIdeal.Read Cert.AdamUpIdeal.Value

theorem adamUp_total (x : S8x1024x704.Idx → EReal) : val_main_v1 (F := Ideal) x = totals x := by
  funext i
  obtain ⟨p, q, rfl⟩ := split2 (a := 1024) (b := 704) i
  rw [totals_eq]
  pointwise [val_main_v1, val_main_v0, val_main_cst]

theorem adamUpRef_frame : quiescent_AdamUpRefIdeal := fun m ρ _ =>
  (θ_run _ _ _).mono (fun r h => ⟨fun c => (h c).2.2.2.2, sem_eq_zero_of_no_sems (by decide) r.2⟩)
    (Cert.AdamUpRefIdeal.Value.run (F := Ideal) m ρ)

/-- The kernel and the optimiser's formula end with equal results. -/
theorem adamUp_algebraic : algebraic_AdamUpIdeal_AdamUpRefIdeal := fun m ρ m' ρ' _ hag => by
  refine ⟨_, _, _, _, (θ_run _ _ _).mono (fun r h c => ⟨(h c).1.trans (final4 m c), (h c).2.1.trans (final5 m c),
      (h c).2.2.1.trans (final6 m c), (h c).2.2.2.1.trans (final7 m c), (h c).2.2.2.2⟩) (Cert.AdamUpIdeal.Value.run_blocks m ρ),
    (θ_run _ _ _).mono (fun r h c => ?_) (Cert.AdamUpRefIdeal.Value.run (F := Ideal) m' ρ')⟩
  obtain ⟨h0, h1, h2, h3, h4⟩ := h c
  obtain ⟨a0, a1, a2, a3⟩ := hag c
  refine ⟨h0.trans ?_, h1.trans (funext fun i => ?_), h2.trans (funext fun i => ?_), h3.trans (funext fun i => ?_), h4⟩
  · rw [val_main_v1_eq, a3]; exact adamUp_total _
  · rw [val_main_v25_eq, a0, a1, a2, a3]; exact congrArg (change _ _ _) (congrFun (adamUp_total _) i)
  · rw [val_main_v6_eq, a1, a3]; exact congrArg (mean _) (congrFun (adamUp_total _) i)
  · rw [val_main_v12_eq, a2, a3]; exact congrArg (square _) (congrFun (adamUp_total _) i)

end Cert.Proof

end
-- ==== Proof.AdamDownStep.lean ====
/- The optimiser's step for the rows of the down-projection a device holds, in 11 blocks of 32 rows; the reference reads the same. -/
module

public import proofs.«01_k».proof.Defs
public import proofs.«01_k».proof.Proof.Gen.AdamDown.Frame
public import proofs.«01_k».proof.Proof.Gen.AdamDownIdeal.Value
public import proofs.«01_k».proof.Proof.Gen.AdamDownRefIdeal.Run
public import proofs.«01_k».proof.Proof.Gen.AdamDownRefIdeal.Read
public import proofs.«01_k».proof.Proof.AdamRow
public import Idealize.ShloMosaic.Lib.Quiescent

@[expose] public section

set_option maxRecDepth 16384

noncomputable section

namespace Cert.AdamDownIdeal.Value

open Cert.AdamDownIdeal Cert.AdamDownIdeal.Gen Cert.AdamRow Idealize.ShloMosaic Idealize.ShloMosaic.TcCoe Idealize.SL.Sem

/-! ## One block -/

section
variable (x0 x1 x2 : Vec Ideal S32x1024 .f32) (x3 : Vec Ideal S8x32x1024 .bf16)

theorem sum_eq : k0_pay5 (F := Ideal) x0 x1 x2 x3 = totals x3 := by
  funext j
  obtain ⟨p, q, rfl⟩ := split2 (a := 32) (b := 1024) j
  have e : ∀ y0 y1 y2 y3 y4 y5 y6 y7 : Vec Ideal S1x32x1024 .bf16, k0_pay4 (F := Ideal) y0 y1 y2 y3 y4 y5 y6 y7 (ix2 p q)
      = total fun d => (![y0, y1, y2, y3, y4, y5, y6, y7] d) (ix3 0 p q) := fun _ _ _ _ _ _ _ _ => by
    pointwise [k0_pay4]
    rfl
  refine (e ..).trans (congrArg total (funext fun d => ?_))
  match d with
  | 0 | 1 | 2 | 3 | 4 | 5 | 6 | 7 => exact congrArg x3 (place3 rfl (by show 0 + 1 * p.val = p.val; omega) (by show 0 + 1 * q.val = q.val; omega))

/-- The one store is the whole block, and each block is loaded whole. -/
theorem put (x : Vec Ideal S32x1024 .f32) : View.canon [⟨r0_8, x⟩] = x := View.canon_unit_zero (S := S32x1024) (by decide) _ _
theorem get : View.ld x0 r0_8 = x0 := View.ld_unit_zero (S := S32x1024) (by decide) _ _

theorem out4_eq : out0_4 (F := Ideal) x0 x1 x2 x3 = totals x3 := by
  unfold out0_4
  exact (put _).trans (sum_eq x0 x1 x2 x3)
theorem out5_eq : out0_5 (F := Ideal) x0 x1 x2 x3 = changes x0 x1 x2 x3 := by
  unfold out0_5
  rw [put, get, get, get, sum_eq]; rfl
theorem out6_eq : out0_6 (F := Ideal) x0 x1 x2 x3 = means x1 x3 := by
  unfold out0_6
  rw [put, get, sum_eq]; rfl
theorem out7_eq : out0_7 (F := Ideal) x0 x1 x2 x3 = squares x2 x3 := by
  unfold out0_7
  rw [put, get, sum_eq]; rfl
end

/-! ## The whole arrays -/

/-- Place `j` of block `t`, in the array. -/
def at_ (t : Fin cfg0.N) (j : S32x1024.Idx) : S352x1024.Idx :=
  ix2 ⟨32 * t.val + (j 0).val, by have : t.val < 11 := lt_of_lt_of_eq t.isLt N_0; have : (j 0).val < 32 := (j 0).isLt; omega⟩ (j 1)

theorem at0 : Rows (n := grid0.N) win0_0.index := by decide +kernel
theorem at1 : Rows (n := grid0.N) win0_1.index := by decide +kernel
theorem at2 : Rows (n := grid0.N) win0_2.index := by decide +kernel
theorem at4 : Rows (n := grid0.N) win0_4.index := by decide +kernel
theorem at5 : Rows (n := grid0.N) win0_5.index := by decide +kernel
theorem at6 : Rows (n := grid0.N) win0_6.index := by decide +kernel
theorem at7 : Rows (n := grid0.N) win0_7.index := by decide +kernel
theorem at3 : Stacks (n := grid0.N) win0_3.index := by decide +kernel

variable (m : (ℓ : Loc nD τ sig) → Buf (Elt Ideal) ℓ) (ρ : Dev nD → PrngReg) (c : Dev nD)

/-- The arguments. -/
abbrev A0 : S352x1024.Idx → EReal := m ((c : Thread nD τ).loc main_arg0)
abbrev A1 : S352x1024.Idx → EReal := m ((c : Thread nD τ).loc main_arg1)
abbrev A2 : S352x1024.Idx → EReal := m ((c : Thread nD τ).loc main_arg2)
abbrev A3 : S8x352x1024.Idx → EReal := m ((c : Thread nD τ).loc main_arg3)

section
variable (t : Fin cfg0.N) (j : S32x1024.Idx)

theorem emb4 : (((cfg0.win 4).blk t).view.emb j : S352x1024.Idx) = at_ t j := row2 (at4 t) rfl rfl rfl
theorem emb5 : (((cfg0.win 5).blk t).view.emb j : S352x1024.Idx) = at_ t j := row2 (at5 t) rfl rfl rfl
theorem emb6 : (((cfg0.win 6).blk t).view.emb j : S352x1024.Idx) = at_ t j := row2 (at6 t) rfl rfl rfl
theorem emb7 : (((cfg0.win 7).blk t).view.emb j : S352x1024.Idx) = at_ t j := row2 (at7 t) rfl rfl rfl
theorem in0 : (iblk m c 0 t : Vec Ideal S32x1024 .f32) j = A0 m c (at_ t j) := congrArg (A0 m c) (row2 (at0 t) rfl rfl rfl)
theorem in1 : (iblk m c 1 t : Vec Ideal S32x1024 .f32) j = A1 m c (at_ t j) := congrArg (A1 m c) (row2 (at1 t) rfl rfl rfl)
theorem in2 : (iblk m c 2 t : Vec Ideal S32x1024 .f32) j = A2 m c (at_ t j) := congrArg (A2 m c) (row2 (at2 t) rfl rfl rfl)
theorem in3 : totals (iblk m c 3 t : Vec Ideal S8x32x1024 .bf16) j = totals (A3 m c) (at_ t j) :=
  congrArg total (funext fun _ => congrArg (A3 m c) (row3 (at3 t) rfl rfl rfl rfl))
end

/-- Every place of the array lies in a block. -/
def blockOf (i : S352x1024.Idx) : Fin cfg0.N := ⟨(i 0).val / 32, by rw [show cfg0.N = 11 from N_0]; have : (i 0).val < 352 := (i 0).isLt; omega⟩
def inBlock (i : S352x1024.Idx) : S32x1024.Idx := ix2 ⟨(i 0).val % 32, Nat.mod_lt _ (by decide)⟩ (i 1)
theorem back (i : S352x1024.Idx) : at_ (blockOf i) (inBlock i) = i :=
  place2 (by show 32 * ((i 0).val / 32) + (i 0).val % 32 = (i 0).val; omega) rfl

theorem final4 : (dats m 0 c).arrAt 4 cfg0.N = totals (A3 m c) :=
  (dats m 0 c).arrAt_eq_of_cover 4 _ (fun t _ => by
    rw [flushed4, out4_eq]
    exact funext fun j : S32x1024.Idx => (in3 m c t j).trans (congrArg (totals (A3 m c)) (emb4 t j)).symm)
    fun i => ⟨blockOf i, flush0_4 _, Finset.mem_map.2 ⟨inBlock i, Finset.mem_univ _, (emb4 (blockOf i) (inBlock i)).trans (back i)⟩⟩
theorem final5 : (dats m 0 c).arrAt 5 cfg0.N = changes (A0 m c) (A1 m c) (A2 m c) (A3 m c) :=
  (dats m 0 c).arrAt_eq_of_cover 5 _ (fun t _ => by
    rw [flushed5, out5_eq]
    exact funext fun j : S32x1024.Idx => (change_congr (in0 m c t j) (in1 m c t j) (in2 m c t j) (in3 m c t j)).trans (congrArg (changes (A0 m c) (A1 m c) (A2 m c) (A3 m c)) (emb5 t j)).symm)
    fun i => ⟨blockOf i, flush0_5 _, Finset.mem_map.2 ⟨inBlock i, Finset.mem_univ _, (emb5 (blockOf i) (inBlock i)).trans (back i)⟩⟩
theorem final6 : (dats m 0 c).arrAt 6 cfg0.N = means (A1 m c) (A3 m c) :=
  (dats m 0 c).arrAt_eq_of_cover 6 _ (fun t _ => by
    rw [flushed6, out6_eq]
    exact funext fun j : S32x1024.Idx => (congrArg₂ mean (in1 m c t j) (in3 m c t j)).trans (congrArg (means (A1 m c) (A3 m c)) (emb6 t j)).symm)
    fun i => ⟨blockOf i, flush0_6 _, Finset.mem_map.2 ⟨inBlock i, Finset.mem_univ _, (emb6 (blockOf i) (inBlock i)).trans (back i)⟩⟩
theorem final7 : (dats m 0 c).arrAt 7 cfg0.N = squares (A2 m c) (A3 m c) :=
  (dats m 0 c).arrAt_eq_of_cover 7 _ (fun t _ => by
    rw [flushed7, out7_eq]
    exact funext fun j : S32x1024.Idx => (congrArg₂ square (in2 m c t j) (in3 m c t j)).trans (congrArg (squares (A2 m c) (A3 m c)) (emb7 t j)).symm)
    fun i => ⟨blockOf i, flush0_7 _, Finset.mem_map.2 ⟨inBlock i, Finset.mem_univ _, (emb7 (blockOf i) (inBlock i)).trans (back i)⟩⟩

end Cert.AdamDownIdeal.Value

namespace Cert.Proof

open Idealize.ShloMosaic Idealize.SL.Sem Cert.AdamRow Cert.AdamDownRefIdeal Cert.AdamDownRefIdeal.Gen Cert.AdamDownRefIdeal.Read Cert.AdamDownIdeal.Value

theorem adamDown_total (x : S8x352x1024.Idx → EReal) : val_main_v1 (F := Ideal) x = totals x := by
  funext i
  obtain ⟨p, q, rfl⟩ := split2 (a := 352) (b := 1024) i
  rw [totals_eq]
  pointwise [val_main_v1, val_main_v0, val_main_cst]

theorem adamDownRef_frame : quiescent_AdamDownRefIdeal := fun m ρ _ =>
  (θ_run _ _ _).mono (fun r h => ⟨fun c => (h c).2.2.2.2, sem_eq_zero_of_no_sems (by decide) r.2⟩)
    (Cert.AdamDownRefIdeal.Value.run (F := Ideal) m ρ)

/-- The kernel and the optimiser's formula end with equal results. -/
theorem adamDown_algebraic : algebraic_AdamDownIdeal_AdamDownRefIdeal := fun m ρ m' ρ' _ hag => by
  refine ⟨_, _, _, _, (θ_run _ _ _).mono (fun r h c => ⟨(h c).1.trans (final4 m c), (h c).2.1.trans (final5 m c),
      (h c).2.2.1.trans (final6 m c), (h c).2.2.2.1.trans (final7 m c), (h c).2.2.2.2⟩) (Cert.AdamDownIdeal.Value.run_blocks m ρ),
    (θ_run _ _ _).mono (fun r h c => ?_) (Cert.AdamDownRefIdeal.Value.run (F := Ideal) m' ρ')⟩
  obtain ⟨h0, h1, h2, h3, h4⟩ := h c
  obtain ⟨a0, a1, a2, a3⟩ := hag c
  refine ⟨h0.trans ?_, h1.trans (funext fun i => ?_), h2.trans (funext fun i => ?_), h3.trans (funext fun i => ?_), h4⟩
  · rw [val_main_v1_eq, a3]; exact adamDown_total _
  · rw [val_main_v25_eq, a0, a1, a2, a3]; exact congrArg (change _ _ _) (congrFun (adamDown_total _) i)
  · rw [val_main_v6_eq, a1, a3]; exact congrArg (mean _) (congrFun (adamDown_total _) i)
  · rw [val_main_v12_eq, a2, a3]; exact congrArg (square _) (congrFun (adamDown_total _) i)

end Cert.Proof

end
-- ==== Proof.AdamConvStep.lean ====
/- The optimiser's step for the columns of the convolution's weights a device holds, in one block; the reference reads the same. -/
module

public import proofs.«01_k».proof.Defs
public import proofs.«01_k».proof.Proof.Gen.AdamConv.Frame
public import proofs.«01_k».proof.Proof.Gen.AdamConvIdeal.Value
public import proofs.«01_k».proof.Proof.Gen.AdamConvRefIdeal.Run
public import proofs.«01_k».proof.Proof.Gen.AdamConvRefIdeal.Read
public import proofs.«01_k».proof.Proof.AdamRow
public import Idealize.ShloMosaic.Lib.Quiescent

@[expose] public section

set_option maxRecDepth 16384

noncomputable section

namespace Cert.AdamConvIdeal.Value

open Cert.AdamConvIdeal Cert.AdamConvIdeal.Gen Cert.AdamRow Idealize.ShloMosaic Idealize.ShloMosaic.TcCoe Idealize.SL.Sem

section
variable (x0 x1 x2 : Vec Ideal S3x704 .f32) (x3 : Vec Ideal S8x3x704 .f32)

theorem sum_eq : k0_pay5 (F := Ideal) x0 x1 x2 x3 = totals x3 := by
  funext j
  obtain ⟨p, q, rfl⟩ := split2 (a := 3) (b := 704) j
  have e : ∀ y0 y1 y2 y3 y4 y5 y6 y7 : Vec Ideal S1x3x704 .f32, k0_pay4 (F := Ideal) y0 y1 y2 y3 y4 y5 y6 y7 (ix2 p q)
      = total fun d => (![y0, y1, y2, y3, y4, y5, y6, y7] d) (ix3 0 p q) := fun _ _ _ _ _ _ _ _ => by
    pointwise [k0_pay4]
    rfl
  refine (e ..).trans (congrArg total (funext fun d => ?_))
  match d with
  | 0 | 1 | 2 | 3 | 4 | 5 | 6 | 7 => exact congrArg x3 (place3 rfl (by show 0 + 1 * p.val = p.val; omega) (by show 0 + 1 * q.val = q.val; omega))

theorem r4 : G4 (F := Ideal) x0 x1 x2 x3 = totals x3 := sum_eq x0 x1 x2 x3
theorem r5 : G5 (F := Ideal) x0 x1 x2 x3 = changes x0 x1 x2 x3 := by
  show k0_pay3 (F := Ideal) (k0_pay5 x0 x1 x2 x3) x0 x1 x2 = _
  rw [sum_eq]; rfl
theorem r6 : G6 (F := Ideal) x0 x1 x2 x3 = means x1 x3 := by
  show k0_pay1 (F := Ideal) (k0_pay5 x0 x1 x2 x3) x1 = _
  rw [sum_eq]; rfl
theorem r7 : G7 (F := Ideal) x0 x1 x2 x3 = squares x2 x3 := by
  show k0_pay2 (F := Ideal) (k0_pay5 x0 x1 x2 x3) x2 = _
  rw [sum_eq]; rfl
end

end Cert.AdamConvIdeal.Value

namespace Cert.Proof

open Idealize.ShloMosaic Idealize.SL.Sem Cert.AdamRow Cert.AdamConvRefIdeal Cert.AdamConvRefIdeal.Gen Cert.AdamConvRefIdeal.Read Cert.AdamConvIdeal.Value

theorem adamConv_total (x : S8x3x704.Idx → EReal) : val_main_v0 (F := Ideal) x = totals x := by
  funext i
  obtain ⟨p, q, rfl⟩ := split2 (a := 3) (b := 704) i
  rw [totals_eq]
  pointwise [val_main_v0, val_main_cst]

theorem adamConvRef_frame : quiescent_AdamConvRefIdeal := fun m ρ _ =>
  (θ_run _ _ _).mono (fun r h => ⟨fun c => (h c).2.2.2.2, sem_eq_zero_of_no_sems (by decide) r.2⟩)
    (Cert.AdamConvRefIdeal.Value.run (F := Ideal) m ρ)

/-- The kernel and the optimiser's formula end with equal results. -/
theorem adamConv_algebraic : algebraic_AdamConvIdeal_AdamConvRefIdeal := fun m ρ m' ρ' _ hag => by
  refine ⟨_, _, _, _, (θ_run _ _ _).mono (fun r h c => ⟨(h c).1.trans (r4 ..), (h c).2.1.trans (r5 ..),
      (h c).2.2.1.trans (r6 ..), (h c).2.2.2.1.trans (r7 ..), (h c).2.2.2.2⟩) (Cert.AdamConvIdeal.Value.run m ρ),
    (θ_run _ _ _).mono (fun r h c => ?_) (Cert.AdamConvRefIdeal.Value.run (F := Ideal) m' ρ')⟩
  obtain ⟨h0, h1, h2, h3, h4⟩ := h c
  obtain ⟨a0, a1, a2, a3⟩ := hag c
  refine ⟨h0.trans ?_, h1.trans (funext fun i => ?_), h2.trans (funext fun i => ?_), h3.trans (funext fun i => ?_), h4⟩
  · rw [val_main_v0_eq, a3]; exact adamConv_total _
  · rw [val_main_v24_eq, a0, a1, a2, a3]; exact congrArg (change _ _ _) (congrFun (adamConv_total _) i)
  · rw [val_main_v5_eq, a1, a3]; exact congrArg (mean _) (congrFun (adamConv_total _) i)
  · rw [val_main_v11_eq, a2, a3]; exact congrArg (square _) (congrFun (adamConv_total _) i)

end Cert.Proof

end
-- ==== Proof.AdamSmallStep.lean ====
/- The optimiser's step for the loss and the weights every device holds, packed in one array, in one block; the reference reads the same. -/
module

public import proofs.«01_k».proof.Defs
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.AdamRow
public import Idealize.ShloMosaic.Lib.Quiescent

@[expose] public section

set_option maxRecDepth 16384

noncomputable section

namespace Cert.AdamSmallIdeal.Value

open Cert.AdamSmallIdeal Cert.AdamSmallIdeal.Gen Cert.AdamRow Idealize.ShloMosaic Idealize.ShloMosaic.TcCoe Idealize.SL.Sem

section
variable (x0 x1 x2 : Vec Ideal S144x128 .f32) (x3 : Vec Ideal S8x144x128 .f32)

theorem sum_eq : k0_pay5 (F := Ideal) x0 x1 x2 x3 = totals x3 := by
  funext j
  obtain ⟨p, q, rfl⟩ := split2 (a := 144) (b := 128) j
  have e : ∀ y0 y1 y2 y3 y4 y5 y6 y7 : Vec Ideal S1x144x128 .f32, k0_pay4 (F := Ideal) y0 y1 y2 y3 y4 y5 y6 y7 (ix2 p q)
      = total fun d => (![y0, y1, y2, y3, y4, y5, y6, y7] d) (ix3 0 p q) := fun _ _ _ _ _ _ _ _ => by
    pointwise [k0_pay4]
    rfl
  refine (e ..).trans (congrArg total (funext fun d => ?_))
  match d with
  | 0 | 1 | 2 | 3 | 4 | 5 | 6 | 7 => exact congrArg x3 (place3 rfl (by show 0 + 1 * p.val = p.val; omega) (by show 0 + 1 * q.val = q.val; omega))

theorem r4 : G4 (F := Ideal) x0 x1 x2 x3 = totals x3 := sum_eq x0 x1 x2 x3
theorem r5 : G5 (F := Ideal) x0 x1 x2 x3 = changes x0 x1 x2 x3 := by
  show k0_pay3 (F := Ideal) (k0_pay5 x0 x1 x2 x3) x0 x1 x2 = _
  rw [sum_eq]; rfl
theorem r6 : G6 (F := Ideal) x0 x1 x2 x3 = means x1 x3 := by
  show k0_pay1 (F := Ideal) (k0_pay5 x0 x1 x2 x3) x1 = _
  rw [sum_eq]; rfl
theorem r7 : G7 (F := Ideal) x0 x1 x2 x3 = squares x2 x3 := by
  show k0_pay2 (F := Ideal) (k0_pay5 x0 x1 x2 x3) x2 = _
  rw [sum_eq]; rfl
end

end Cert.AdamSmallIdeal.Value

namespace Cert.Proof

open Idealize.ShloMosaic Idealize.SL.Sem Cert.AdamRow Cert.AdamSmallRefIdeal Cert.AdamSmallRefIdeal.Gen Cert.AdamSmallRefIdeal.Read Cert.AdamSmallIdeal.Value

theorem adamSmall_total (x : S8x144x128.Idx → EReal) : val_main_v0 (F := Ideal) x = totals x := by
  funext i
  obtain ⟨p, q, rfl⟩ := split2 (a := 144) (b := 128) i
  rw [totals_eq]
  pointwise [val_main_v0, val_main_cst]

theorem adamSmallRef_frame : quiescent_AdamSmallRefIdeal := fun m ρ _ =>
  (θ_run _ _ _).mono (fun r h => ⟨fun c => (h c).2.2.2.2, sem_eq_zero_of_no_sems (by decide) r.2⟩)
    (Cert.AdamSmallRefIdeal.Value.run (F := Ideal) m ρ)

/-- The kernel and the optimiser's formula end with equal results. -/
theorem adamSmall_algebraic : algebraic_AdamSmallIdeal_AdamSmallRefIdeal := fun m ρ m' ρ' _ hag => by
  refine ⟨_, _, _, _, (θ_run _ _ _).mono (fun r h c => ⟨(h c).1.trans (r4 ..), (h c).2.1.trans (r5 ..),
      (h c).2.2.1.trans (r6 ..), (h c).2.2.2.1.trans (r7 ..), (h c).2.2.2.2⟩) (Cert.AdamSmallIdeal.Value.run m ρ),
    (θ_run _ _ _).mono (fun r h c => ?_) (Cert.AdamSmallRefIdeal.Value.run (F := Ideal) m' ρ')⟩
  obtain ⟨h0, h1, h2, h3, h4⟩ := h c
  obtain ⟨a0, a1, a2, a3⟩ := hag c
  refine ⟨h0.trans ?_, h1.trans (funext fun i => ?_), h2.trans (funext fun i => ?_), h3.trans (funext fun i => ?_), h4⟩
  · rw [val_main_v0_eq, a3]; exact adamSmall_total _
  · rw [val_main_v24_eq, a0, a1, a2, a3]; exact congrArg (change _ _ _) (congrFun (adamSmall_total _) i)
  · rw [val_main_v5_eq, a1, a3]; exact congrArg (mean _) (congrFun (adamSmall_total _) i)
  · rw [val_main_v11_eq, a2, a3]; exact congrArg (square _) (congrFun (adamSmall_total _) i)

end Cert.Proof

end
-- ==== Proof.LossKernel.lean ====
/- The loss head: the loss of the normalised rows against their targets, its derivative by the rows and by the gain.
   Closed forms, and what the kernel's body leaves in its four output buffers at a grid point. -/
module

public import proofs.«01_k».proof.Proof.Gen.LossIdeal.Value
public import proofs.«01_k».proof.Proof.NormRow
public import proofs.«01_k».proof.Proof.AdamRow
public import Idealize.ShloMosaic.Lib.Pointwise
public import Idealize.ShloMosaic.Lib.Tactic

@[expose] public section

set_option maxRecDepth 16384

noncomputable section

namespace Cert.LossIdeal.Value

open Cert.LossIdeal Cert.LossIdeal.Gen Cert.NormRow Idealize.ShloMosaic Idealize.ShloMosaic.TcCoe Idealize.SL.Sem
open Idealize.ShloMosaic.Pipeline (Dat)

/-- The length of a row. -/
abbrev rowLen : EReal := Ideal.ofBits FTy.f32 0x44800000#32
/-- The norm's small positive constant. -/
abbrev smallEps : EReal := Ideal.ofBits FTy.f32 0x358637BD#32
/-- One half. -/
abbrev half : EReal := Ideal.ofBits FTy.f32 0x3F000000#32

/-! ## The closed forms -/

section Forms
variable {n : Nat} (x t : (⟨2, ![n, 1024]⟩ : Shape).Idx → EReal) (g : S1x1024.Idx → EReal)

/-- Row `p` of an array. -/
abbrev row (p : Fin n) : Fin 1024 → EReal := fun k => x (ix2 p k)

/-- The reciprocal root of row `p`. -/
def rr (p : Fin n) : EReal := recip rowLen smallEps (row x p)

/-- The normalised row minus its target. -/
def err (p : Fin n) (q : Fin 1024) : EReal := x (ix2 p q) * rr x p * g (ix2 0 q) - t (ix2 p q)

/-- The loss's derivative by the norm's output. -/
def dy (p : Fin n) (q : Fin 1024) : EReal := Ideal.div (err x t g p q) rowLen

/-- The mean square of row `p`'s error. -/
def meanSq (p : Fin n) : EReal := Ideal.div (∑ q : Fin 1024, err x t g p q * err x t g p q) rowLen

/-- The loss's derivative by the rows. -/
def dxAt (p : Fin n) (q : Fin 1024) : EReal :=
  kernelDx rowLen smallEps (row x p) (fun k => dy x t g p k * g (ix2 0 k)) 0 q

/-- What row `p` adds to the derivative by the gain. -/
def dgAt (p : Fin n) (q : Fin 1024) : EReal := dy x t g p q * (x (ix2 p q) * rr x p)

end Forms

/-! ## The payloads at an index -/

section Payloads
variable (v0 : Vec Ideal S512x1024 .f32) (v1 : Vec Ideal S1x1024 .f32) (v14 : Vec Ideal S512x1024 .f32)

theorem pay6_apply (p : Fin 512) : k0_pay6 v0 (ix2 p 0) = rr v0 p := by
  pointwise [k0_pay6]; rfl

theorem pay7_apply (p : Fin 512) (q : Fin 1024) : k0_pay7 v0 (ix2 p q) = v0 (ix2 p q) * rr v0 p := by
  pointwise [k0_pay7]; rw [pay6_apply]

theorem pay8_apply (p : Fin 512) (q : Fin 1024) : k0_pay8 v0 v1 v14 (ix2 p q) = err v0 v14 v1 p q := by
  pointwise [k0_pay8]; rw [pay7_apply]; rfl

theorem pay9_apply : k0_pay9 v0 v1 v14 (ix2 0 0) = half * ∑ p : Fin 512, meanSq v0 v14 v1 p := by
  pointwise [k0_pay9]
  simp only [pay8_apply]
  rfl

theorem pay10_apply (p : Fin 512) (q : Fin 1024) : k0_pay10 v0 v1 v14 (ix2 p q) = dy v0 v14 v1 p q := by
  pointwise [k0_pay10]; rw [pay8_apply]; rfl

theorem pay11_apply (p : Fin 512) (q : Fin 1024) : k0_pay11 v0 v1 v14 (ix2 p q) = dxAt v0 v14 v1 p q := by
  pointwise [k0_pay11]
  simp only [pay10_apply, pay7_apply, pay6_apply]
  exact (add_zero _).symm

theorem pay2_apply (q : Fin 1024) : k0_pay2 (k0_pay7 v0) (k0_pay10 v0 v1 v14) (ix2 0 q) = ∑ p : Fin 512, dgAt v0 v14 v1 p q := by
  pointwise [k0_pay2]
  simp only [pay10_apply, pay7_apply]
  rfl

theorem pay4_apply (w : Vec Ideal S1x1024 .f32) (q : Fin 1024) :
    k0_pay4 (k0_pay7 v0) (k0_pay10 v0 v1 v14) w (ix2 0 q) = w (ix2 0 q) + ∑ p : Fin 512, dgAt v0 v14 v1 p q := by
  rw [← pay2_apply]
  pointwise [k0_pay4]

theorem pay3_apply (v : Vec Ideal S1x1 .f32) (p : Fin 8) (q : Fin 128) : k0_pay3 (F := Ideal) v (ix2 p q) = v (ix2 0 0) := by
  pointwise [k0_pay3]

theorem pay5_apply (v : Vec Ideal S1x1 .f32) (w : Vec Ideal S8x128 .f32) (p : Fin 8) (q : Fin 128) :
    k0_pay5 (F := Ideal) v w (ix2 p q) = w (ix2 p q) + v (ix2 0 0) := by
  pointwise [k0_pay5]

end Payloads

/-! ## What the body leaves in the output buffers, in either case -/

theorem hz : (![0, 0] : Fin 2 → Nat) = fun _ => 0 := funext fun a => by fin_cases a <;> rfl

section Outs
variable {F : FTy → Type} [FloatOps F]
  (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole) (a4 : Memref sig .tc .vmem S8x128 .f32) (h4 : a4.IsWhole) (a5 : Memref sig .tc .vmem S512x1024 .f32) (h5 : a5.IsWhole) (a6 : Memref sig .tc .vmem S512x1024 .bf16) (h6 : a6.IsWhole) (a7 : Memref sig .tc .vmem S1x1024 .f32) (h7 : a7.IsWhole)
  (x0 x1 : Vec F S512x1024 .f32) (x2 : Vec F S1x1024 .f32) (y : Vec F S8x128 .f32) (z : Vec F S1x1024 .f32)

/-- At the first point the two sums start. -/
theorem outs_A (hc0 : cond0_0 i) (hc1 : ¬cond0_1 i) :
    out0_A_3 c i a1 h1 a2 h2 a3 h3 a4 h4 a5 h5 a6 h6 a7 h7 hc0 hc1 x0 x1 x2 = k0_pay3 (k0_pay9 x0 x2 x1)
    ∧ out0_A_4 c i a1 h1 a2 h2 a3 h3 a4 h4 a5 h5 a6 h6 a7 h7 hc0 hc1 x0 x1 x2 = k0_pay11 x0 x2 x1
    ∧ out0_A_5 c i a1 h1 a2 h2 a3 h3 a4 h4 a5 h5 a6 h6 a7 h7 hc0 hc1 x0 x1 x2 = k0_pay1 (k0_pay11 x0 x2 x1)
    ∧ out0_A_6 c i a1 h1 a2 h2 a3 h3 a4 h4 a5 h5 a6 h6 a7 h7 hc0 hc1 x0 x1 x2 = k0_pay2 (k0_pay7 x0) (k0_pay10 x0 x2 x1) := by
  refine ⟨(View.read_writes_eq_canon _ _ _ (cover0_A_3 c i a1 h1 a2 h2 a3 h3 a4 h4 a5 h5 a6 h6 a7 h7 hc0 hc1 x0 x1 x2)).trans ?_,
    (View.read_writes_eq_canon _ _ _ (cover0_A_4 c i a1 h1 a2 h2 a3 h3 a4 h4 a5 h5 a6 h6 a7 h7 hc0 hc1 x0 x1 x2)).trans ?_,
    (View.read_writes_eq_canon _ _ _ (cover0_A_5 c i a1 h1 a2 h2 a3 h3 a4 h4 a5 h5 a6 h6 a7 h7 hc0 hc1 x0 x1 x2)).trans ?_,
    (View.read_writes_eq_canon _ _ _ (cover0_A_6 c i a1 h1 a2 h2 a3 h3 a4 h4 a5 h5 a6 h6 a7 h7 hc0 hc1 x0 x1 x2)).trans ?_⟩
  all_goals
    unfold kernelRun0_A
    dsimp only
    sl_unfold_words
    rw [View.canon_unit_zero hz]
    simp only [View.readAt_eq_ld, h1.read_unread, h2.read_unread, h3.read_unread,
      View.ld_unit_zero (S := S512x1024) hz, View.ld_unit_zero (S := S1x1024) hz]

/-- At a later point they go on from what the point before left. -/
theorem outs_B (hc0 : ¬cond0_0 i) (hc1 : cond0_1 i) :
    out0_B_3 c i a1 h1 a2 h2 a3 h3 a4 h4 a5 h5 a6 h6 a7 h7 hc0 hc1 x0 x1 x2 y z = k0_pay5 (k0_pay9 x0 x2 x1) y
    ∧ out0_B_4 c i a1 h1 a2 h2 a3 h3 a4 h4 a5 h5 a6 h6 a7 h7 hc0 hc1 x0 x1 x2 y z = k0_pay11 x0 x2 x1
    ∧ out0_B_5 c i a1 h1 a2 h2 a3 h3 a4 h4 a5 h5 a6 h6 a7 h7 hc0 hc1 x0 x1 x2 y z = k0_pay1 (k0_pay11 x0 x2 x1)
    ∧ out0_B_6 c i a1 h1 a2 h2 a3 h3 a4 h4 a5 h5 a6 h6 a7 h7 hc0 hc1 x0 x1 x2 y z = k0_pay4 (k0_pay7 x0) (k0_pay10 x0 x2 x1) z := by
  refine ⟨(View.read_writes_eq_canon _ _ _ (cover0_B_3 c i a1 h1 a2 h2 a3 h3 a4 h4 a5 h5 a6 h6 a7 h7 hc0 hc1 x0 x1 x2 y z)).trans ?_,
    (View.read_writes_eq_canon _ _ _ (cover0_B_4 c i a1 h1 a2 h2 a3 h3 a4 h4 a5 h5 a6 h6 a7 h7 hc0 hc1 x0 x1 x2 y z)).trans ?_,
    (View.read_writes_eq_canon _ _ _ (cover0_B_5 c i a1 h1 a2 h2 a3 h3 a4 h4 a5 h5 a6 h6 a7 h7 hc0 hc1 x0 x1 x2 y z)).trans ?_,
    (View.read_writes_eq_canon _ _ _ (cover0_B_6 c i a1 h1 a2 h2 a3 h3 a4 h4 a5 h5 a6 h6 a7 h7 hc0 hc1 x0 x1 x2 y z)).trans ?_⟩
  all_goals
    unfold kernelRun0_B
    dsimp only
    sl_unfold_words
    rw [View.canon_unit_zero hz]
    simp only [View.readAt_eq_ld, h1.read_unread, h2.read_unread, h3.read_unread, h4.read_unread, h7.read_unread,
      View.ld_unit_zero (S := S512x1024) hz, View.ld_unit_zero (S := S1x1024) hz, View.ld_unit_zero (S := S8x128) hz]

end Outs

end Cert.LossIdeal.Value

end
-- ==== Proof.LossArrays.lean ====
/- The loss head's four arrays: the two derivatives by the rows are written a block a point; the loss and the derivative by
   the gain are summed over the eight points. -/
module

public import proofs.«01_k».proof.Proof.LossKernel

@[expose] public section

set_option maxRecDepth 16384

noncomputable section

namespace Cert.LossIdeal.Value

open Cert.LossIdeal Cert.LossIdeal.Gen Cert.NormRow Cert.AdamRow Idealize.ShloMosaic Idealize.ShloMosaic.TcCoe Idealize.SL.Sem
open Idealize.ShloMosaic.Pipeline (Dat)

/-! ## Where a block lies in its array -/

theorem at0 : Rows win0_0.index := (by decide +kernel : ∀ t : Fin grid0.N, _)
theorem at1 : Rows win0_1.index := (by decide +kernel : ∀ t : Fin grid0.N, _)
theorem at2 : ∀ t : Fin cfg0.N, win0_2.index t (0 : Fin 2) = 0 ∧ win0_2.index t (1 : Fin 2) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : Rows win0_4.index := (by decide +kernel : ∀ t : Fin grid0.N, _)
theorem at5 : Rows win0_5.index := (by decide +kernel : ∀ t : Fin grid0.N, _)
theorem at6 : ∀ t : Fin cfg0.N, win0_6.index t (0 : Fin 2) = 0 ∧ win0_6.index t (1 : Fin 2) = 0 := (by decide +kernel : ∀ t : Fin grid0.N, _)

theorem lt8 (t : Fin cfg0.N) : t.val < 8 := lt_of_lt_of_eq t.isLt N_0

/-- Row `p` of block `t`, in the array. -/
def at_ (t : Fin cfg0.N) (p : Fin 512) : Fin 4096 := ⟨512 * t.val + p.val, by have := lt8 t; omega⟩

theorem emb0 (t : Fin cfg0.N) (p : Fin 512) (k : Fin 1024) : ((cfg0.win 0).blk t).view.emb (ix2 p k) = ix2 (at_ t p) k := row2 (at0 t) rfl rfl rfl
theorem emb1 (t : Fin cfg0.N) (p : Fin 512) (k : Fin 1024) : ((cfg0.win 1).blk t).view.emb (ix2 p k) = ix2 (at_ t p) k := row2 (at1 t) rfl rfl rfl
theorem emb4 (t : Fin cfg0.N) (p : Fin 512) (k : Fin 1024) : ((cfg0.win 4).blk t).view.emb (ix2 p k) = ix2 (at_ t p) k := row2 (at4 t) rfl rfl rfl
theorem emb5 (t : Fin cfg0.N) (p : Fin 512) (k : Fin 1024) : ((cfg0.win 5).blk t).view.emb (ix2 p k) = ix2 (at_ t p) k := row2 (at5 t) rfl rfl rfl
theorem emb2 (t : Fin cfg0.N) (p : Fin 1) (k : Fin 1024) : ((cfg0.win 2).blk t).view.emb (ix2 p k) = ix2 p k := by
  obtain ⟨e0, e1⟩ := at2 t
  exact place2 (by show win0_2.index t (0 : Fin 2) * 1 + 1 * p.val = p.val; omega) (by show win0_2.index t (1 : Fin 2) * 1024 + 1 * k.val = k.val; omega)
theorem emb3 (t : Fin cfg0.N) (p : Fin 8) (k : Fin 128) : ((cfg0.win 3).blk t).view.emb (ix2 p k) = ix2 p k := by
  obtain ⟨e0, e1⟩ := at3 t
  exact place2 (by show win0_3.index t (0 : Fin 2) * 8 + 1 * p.val = p.val; omega) (by show win0_3.index t (1 : Fin 2) * 128 + 1 * k.val = k.val; omega)
theorem emb6 (t : Fin cfg0.N) (p : Fin 1) (k : Fin 1024) : ((cfg0.win 6).blk t).view.emb (ix2 p k) = ix2 p k := by
  obtain ⟨e0, e1⟩ := at6 t
  exact place2 (by show win0_6.index t (0 : Fin 2) * 1 + 1 * p.val = p.val; omega) (by show win0_6.index t (1 : Fin 2) * 1024 + 1 * k.val = k.val; omega)

/-! ## The arrays -/

variable (m : (ℓ : Loc nD τ sig) → Buf (Elt Ideal) ℓ) (ρ : Dev nD → PrngReg)

/-- The arguments: rows, targets, gain. -/
abbrev AX (c : Dev nD) : S4096x1024.Idx → EReal := m ((c : Thread nD τ).loc main_arg0)
abbrev AT (c : Dev nD) : S4096x1024.Idx → EReal := m ((c : Thread nD τ).loc main_arg1)
abbrev AG (c : Dev nD) : S1x1024.Idx → EReal := m ((c : Thread nD τ).loc main_arg2)

/-- The loss, in every place of its array. -/
def LS (c : Dev nD) : S8x128.Idx → EReal := fun _ => ∑ p : Fin 4096, half * meanSq (AX m c) (AT m c) (AG m c) p

/-- The derivative by the rows. -/
def DX (c : Dev nD) : S4096x1024.Idx → EReal := fun j => dxAt (AX m c) (AT m c) (AG m c) (j 0) (j 1)

/-- The derivative by the gain. -/
def DG (c : Dev nD) : S1x1024.Idx → EReal := fun j => ∑ p : Fin 4096, dgAt (AX m c) (AT m c) (AG m c) p (j 1)

theorem iblk0_apply (c : Dev nD) (t : Fin cfg0.N) (p : Fin 512) (k : Fin 1024) :
    (iblk m c 0 t : Vec Ideal S512x1024 .f32) (ix2 p k) = AX m c (ix2 (at_ t p) k) := congrArg (AX m c) (emb0 t p k)
theorem iblk1_apply (c : Dev nD) (t : Fin cfg0.N) (p : Fin 512) (k : Fin 1024) :
    (iblk m c 1 t : Vec Ideal S512x1024 .f32) (ix2 p k) = AT m c (ix2 (at_ t p) k) := congrArg (AT m c) (emb1 t p k)
theorem iblk2_apply (c : Dev nD) (t : Fin cfg0.N) (k : Fin 1024) :
    (iblk m c 2 t : Vec Ideal S1x1024 .f32) (ix2 0 k) = AG m c (ix2 0 k) := congrArg (AG m c) (emb2 t 0 k)

theorem row_iblk (c : Dev nD) (t : Fin cfg0.N) (p : Fin 512) : row (n := 512) (iblk m c 0 t) p = row (AX m c) (at_ t p) :=
  funext fun k => iblk0_apply m c t p k

theorem err_iblk (c : Dev nD) (t : Fin cfg0.N) (p : Fin 512) (q : Fin 1024) :
    err (n := 512) (iblk m c 0 t) (iblk m c 1 t) (iblk m c 2 t) p q = err (AX m c) (AT m c) (AG m c) (at_ t p) q := by
  simp only [err, rr, row_iblk, iblk0_apply, iblk1_apply, iblk2_apply]

theorem meanSq_iblk (c : Dev nD) (t : Fin cfg0.N) (p : Fin 512) :
    meanSq (n := 512) (iblk m c 0 t) (iblk m c 1 t) (iblk m c 2 t) p = meanSq (AX m c) (AT m c) (AG m c) (at_ t p) := by
  simp only [meanSq, err_iblk]

theorem dxAt_iblk (c : Dev nD) (t : Fin cfg0.N) (p : Fin 512) (q : Fin 1024) :
    dxAt (n := 512) (iblk m c 0 t) (iblk m c 1 t) (iblk m c 2 t) p q = DX m c (ix2 (at_ t p) q) := by
  simp only [DX, dxAt, dy, row_iblk, err_iblk, iblk2_apply]
  rfl

theorem dgAt_iblk (c : Dev nD) (t : Fin cfg0.N) (p : Fin 512) (q : Fin 1024) :
    dgAt (n := 512) (iblk m c 0 t) (iblk m c 1 t) (iblk m c 2 t) p q = dgAt (AX m c) (AT m c) (AG m c) (at_ t p) q := by
  simp only [dgAt, rr, dy, row_iblk, err_iblk, iblk0_apply]

/-! ## The derivative by the rows: one block a point -/

theorem outs45 (c : Dev nD) (t : Fin cfg0.N) :
    (outsAt0 m c t.val t.isLt).2.1 = k0_pay11 (iblk m c 0 t) (iblk m c 2 t) (iblk m c 1 t)
    ∧ (outsAt0 m c t.val t.isLt).2.2.1 = k0_pay1 (k0_pay11 (iblk m c 0 t) (iblk m c 2 t) (iblk m c 1 t)) := by
  by_cases h : t.val % 8 = 0
  · have h1 : ¬1 ≤ t.val := by have := lt8 t; omega
    rw [outsAt0_A m c t h h1]; dsimp only; rw [(outs_A ..).2.1, (outs_A ..).2.2.1]; exact ⟨rfl, rfl⟩
  · have h1 : 1 ≤ t.val := by omega
    rw [outsAt0_B m c t h h1]; dsimp only; rw [(outs_B ..).2.1, (outs_B ..).2.2.1]; exact ⟨rfl, rfl⟩

theorem flushed4_eq (c : Dev nD) (t : Fin cfg0.N) : (dats m 0 c).flushed 4 t = ((cfg0.win 4).blk t).view.read (Elt Ideal) (DX m c) := by
  rw [flushed4, (outs45 m c t).1]
  funext j
  obtain ⟨p, q, rfl⟩ := split2 (a := 512) (b := 1024) j
  show k0_pay11 (F := Ideal) _ _ _ (ix2 p q) = DX m c (((cfg0.win 4).blk t).view.emb (ix2 p q))
  rw [emb4, pay11_apply, dxAt_iblk]

theorem flushed5_eq (c : Dev nD) (t : Fin cfg0.N) : (dats m 0 c).flushed 5 t = ((cfg0.win 5).blk t).view.read (Elt Ideal) (DX m c) := by
  rw [flushed5, (outs45 m c t).2]
  funext j
  obtain ⟨p, q, rfl⟩ := split2 (a := 512) (b := 1024) j
  show k0_pay11 (F := Ideal) _ _ _ (ix2 p q) = DX m c (((cfg0.win 5).blk t).view.emb (ix2 p q))
  rw [emb5, pay11_apply, dxAt_iblk]

/-- The grid point whose block holds array row `i`, and the row's place in it. -/
theorem row_in_block (i : Fin 4096) : ∃ (t : Fin cfg0.N) (p : Fin 512), at_ t p = i :=
  ⟨⟨i.val / 512, by rw [show cfg0.N = 8 from N_0]; omega⟩, ⟨i.val % 512, by omega⟩, Fin.ext (by show 512 * (i.val / 512) + i.val % 512 = i.val; omega)⟩

theorem final4 (c : Dev nD) : (dats m 0 c).arrAt 4 cfg0.N = DX m c :=
  (dats m 0 c).arrAt_eq_of_cover 4 (DX m c) (fun t _ => flushed4_eq m c t) fun i => by
    obtain ⟨P, q, rfl⟩ := split2 (a := 4096) (b := 1024) i
    obtain ⟨t, p, rfl⟩ := row_in_block P
    exact ⟨t, flush0_4 t, Finset.mem_map.2 ⟨ix2 p q, Finset.mem_univ _, emb4 t p q⟩⟩

theorem final5 (c : Dev nD) : (dats m 0 c).arrAt 5 cfg0.N = DX m c :=
  (dats m 0 c).arrAt_eq_of_cover 5 (DX m c) (fun t _ => flushed5_eq m c t) fun i => by
    obtain ⟨P, q, rfl⟩ := split2 (a := 4096) (b := 1024) i
    obtain ⟨t, p, rfl⟩ := row_in_block P
    exact ⟨t, flush0_5 t, Finset.mem_map.2 ⟨ix2 p q, Finset.mem_univ _, emb5 t p q⟩⟩

/-! ## The loss and the derivative by the gain: summed over the points -/

/-- A function of the array's rows, extended by zero past the last row. -/
def rowsExt (f : Fin 4096 → EReal) (n : Nat) : EReal := if h : n < 4096 then f ⟨n, h⟩ else 0

/-- A sum over the rows of one block. -/
theorem block_sum (f : Fin 4096 → EReal) (t : Fin cfg0.N) :
    ∑ p : Fin 512, f (at_ t p) = ∑ k ∈ Finset.range 512, rowsExt f (512 * t.val + k) := by
  rw [← Fin.sum_univ_eq_sum_range (fun k => rowsExt f (512 * t.val + k)) 512]
  refine Finset.sum_congr rfl fun p _ => ?_
  rw [rowsExt, dif_pos (show 512 * t.val + p.val < 4096 by have := lt8 t; omega)]
  rfl

/-- A sum over all rows. -/
theorem whole_sum (f : Fin 4096 → EReal) : ∑ i ∈ Finset.range 4096, rowsExt f i = ∑ p, f p := by
  rw [← Fin.sum_univ_eq_sum_range (rowsExt f) 4096]
  exact Finset.sum_congr rfl fun p _ => dif_pos p.isLt

theorem half_eq : half = ((1 / 2 : ℝ) : EReal) := by
  simp [half, Ideal.ofBits, Ideal.ieee]; rw [← EReal.coe_mul]; norm_num

theorem lossBlock (c : Dev nD) (t : Fin cfg0.N) : k0_pay9 (F := Ideal) (iblk m c 0 t) (iblk m c 2 t) (iblk m c 1 t) (ix2 0 0)
    = ∑ k ∈ Finset.range 512, rowsExt (fun p => half * meanSq (AX m c) (AT m c) (AG m c) p) (512 * t.val + k) := by
  rw [pay9_apply, half_eq, coe_mul_sum _ _ _ (by norm_num), ← block_sum]
  simp only [meanSq_iblk]

theorem gainBlock (c : Dev nD) (t : Fin cfg0.N) (q : Fin 1024) :
    ∑ p : Fin 512, dgAt (n := 512) (iblk m c 0 t) (iblk m c 1 t) (iblk m c 2 t) p q
      = ∑ k ∈ Finset.range 512, rowsExt (fun p => dgAt (AX m c) (AT m c) (AG m c) p q) (512 * t.val + k) := by
  rw [← block_sum]
  simp only [dgAt_iblk]

theorem outs36 (c : Dev nD) (a : Fin 8) (b : Fin 128) (q : Fin 1024) : ∀ (n : Nat) (h : n < cfg0.N),
    (outsAt0 m c n h).1 (ix2 a b)
      = ∑ i ∈ Finset.range (512 * (n + 1)), rowsExt (fun p => half * meanSq (AX m c) (AT m c) (AG m c) p) i
    ∧ (outsAt0 m c n h).2.2.2 (ix2 0 q)
      = ∑ i ∈ Finset.range (512 * (n + 1)), rowsExt (fun p => dgAt (AX m c) (AT m c) (AG m c) p q) i := by
  intro n
  induction n with
  | zero =>
    intro h
    rw [show outsAt0 m c 0 h = outsAt0 m c (⟨0, h⟩ : Fin cfg0.N).val (⟨0, h⟩ : Fin cfg0.N).isLt from rfl,
      outsAt0_A m c ⟨0, h⟩ (Nat.zero_mod _) (Nat.not_succ_le_zero 0)]
    dsimp only
    rw [(outs_A ..).1, (outs_A ..).2.2.2, pay3_apply, pay2_apply, lossBlock, gainBlock]
    simp
  | succ n ih =>
    intro h
    have hN : n + 1 < 8 := lt_of_lt_of_eq h N_0
    have e := outsAt0_B m c ⟨n + 1, h⟩ (by dsimp only; omega) (by dsimp only; omega)
    rw [show outsAt0 m c (n + 1) h = outsAt0 m c (⟨n + 1, h⟩ : Fin cfg0.N).val (⟨n + 1, h⟩ : Fin cfg0.N).isLt from rfl, e]
    dsimp only
    rw [(outs_B ..).1, (outs_B ..).2.2.2, pay5_apply, pay4_apply, lossBlock, gainBlock]
    simp only [Nat.add_sub_cancel]
    rw [(ih _).1, (ih _).2, show 512 * (n + 1 + 1) = 512 * (n + 1) + 512 by ring, Finset.sum_range_add, Finset.sum_range_add]
    exact ⟨rfl, rfl⟩

theorem flushed3_eq (c : Dev nD) (t : Fin cfg0.N) (hf : (cfg0.win 3).flush t = true) :
    (dats m 0 c).flushed 3 t = ((cfg0.win 3).blk t).view.read (Elt Ideal) (LS m c) := by
  have h7 : t.val = 7 := by have := (flush0_3 t).mp hf; have := lt8 t; omega
  rw [flushed3]
  funext j
  obtain ⟨p, q, rfl⟩ := split2 (a := 8) (b := 128) j
  show (outsAt0 m c t.val t.isLt).1 (ix2 p q) = LS m c (((cfg0.win 3).blk t).view.emb (ix2 p q))
  rw [(outs36 m c p q 0 _ _).1, h7]
  exact whole_sum _

theorem flushed6_eq (c : Dev nD) (t : Fin cfg0.N) (hf : (cfg0.win 6).flush t = true) :
    (dats m 0 c).flushed 6 t = ((cfg0.win 6).blk t).view.read (Elt Ideal) (DG m c) := by
  have h7 : t.val = 7 := by have := (flush0_6 t).mp hf; have := lt8 t; omega
  rw [flushed6]
  funext j
  obtain ⟨p, q, rfl⟩ := split2 (a := 1) (b := 1024) j
  obtain rfl : p = 0 := Subsingleton.elim _ _
  show (outsAt0 m c t.val t.isLt).2.2.2 (ix2 0 q) = DG m c (((cfg0.win 6).blk t).view.emb (ix2 (0 : Fin 1) q))
  rw [emb6, (outs36 m c 0 0 q _ _).2, h7]
  exact whole_sum _

theorem lt7 : 7 < cfg0.N := by rw [show cfg0.N = 8 from N_0]; decide

theorem final3 (c : Dev nD) : (dats m 0 c).arrAt 3 cfg0.N = LS m c :=
  (dats m 0 c).arrAt_eq_of_cover 3 (LS m c) (flushed3_eq m c) fun i => by
    obtain ⟨p, q, rfl⟩ := split2 (a := 8) (b := 128) i
    exact ⟨⟨7, lt7⟩, (flush0_3 _).mpr rfl, Finset.mem_map.2 ⟨ix2 p q, Finset.mem_univ _, emb3 _ p q⟩⟩

theorem final6 (c : Dev nD) : (dats m 0 c).arrAt 6 cfg0.N = DG m c :=
  (dats m 0 c).arrAt_eq_of_cover 6 (DG m c) (flushed6_eq m c) fun i => by
    obtain ⟨p, q, rfl⟩ := split2 (a := 1) (b := 1024) i
    exact ⟨⟨7, lt7⟩, (flush0_6 _).mpr rfl, Finset.mem_map.2 ⟨ix2 p q, Finset.mem_univ _, emb6 _ p q⟩⟩

/-- The run, its four results named. -/
theorem run : θ_run defs (onTc (τ := τ) (main (F := Ideal))) ⟨m, fun _ => 0, ρ⟩ fun r => ∀ c : Dev nD,
      r.2.mem ((c : Thread nD τ).loc main_v0_0) = LS m c
      ∧ r.2.mem ((c : Thread nD τ).loc main_v0_1) = DX m c
      ∧ r.2.mem ((c : Thread nD τ).loc main_v0_2) = DX m c
      ∧ r.2.mem ((c : Thread nD τ).loc main_v0_3) = DG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2.1.trans (final5 m c),
    (h c).2.2.2.1.trans (final6 m c), (h c).2.2.2.2⟩) (run_blocks m ρ)

end Cert.LossIdeal.Value

end
-- ==== Proof.LossClaims.lean ====
/- The claims about the loss head, put together: the loss and its derivatives are read as the same functions of the arguments
   as the kernel, so the two end with the same four arrays. -/
module

public import proofs.«01_k».proof.Defs
public import proofs.«01_k».proof.Proof.Gen.Loss.Frame
public import proofs.«01_k».proof.Proof.Gen.LossRefIdeal.Run
public import proofs.«01_k».proof.Proof.Gen.LossRefIdeal.Read
public import proofs.«01_k».proof.Proof.LossArrays
public import proofs.«01_k».proof.Proof.NormReference
public import Idealize.ShloMosaic.Lib.Quiescent

@[expose] public section

set_option maxRecDepth 16384

noncomputable section

namespace Cert.LossRefIdeal.Read

open Cert.LossRefIdeal Cert.LossRefIdeal.Gen Cert.NormRow Idealize.ShloMosaic Idealize.ShloMosaic.TcCoe Idealize.SL.Sem Idealize.ShloMosaic.StableHlo
open Cert.LossIdeal.Value (row rr err dy meanSq dxAt dgAt rowLen smallEps half half_eq)

variable (x0 x1 : (⟨S4096x1024, .f32⟩ : BufTy).Contents (Elt Ideal)) (x2 : (⟨S1x1024, .f32⟩ : BufTy).Contents (Elt Ideal))

theorem two_eq : Ideal.ofBits FTy.f32 0x40000000#32 = ((2 : ℝ) : EReal) := by
  simp [Ideal.ofBits, Ideal.ieee]; rw [← EReal.coe_mul]; norm_num

/-- The mean of the squares of a row plus the small constant. -/
theorem v6_apply (p : Fin 4096) : val_main_v6 (F := Ideal) x0 (ix2 p 0)
    = Ideal.div (∑ j, row x0 p j * row x0 p j) rowLen + smallEps := by
  pointwise [val_main_v6, val_main_v5, val_main_v4, val_main_v3, val_main_v2, val_main_v1, val_main_v0, val_main_cst, val_main_cst_0, val_main_cst_1]

theorem v7_apply (p : Fin 4096) : val_main_v7 (F := Ideal) x0 (ix2 p 0) = rr x0 p := by
  pointwise [val_main_v7]
  rw [v6_apply]; rfl

theorem v15_apply (p : Fin 4096) (q : Fin 1024) : val_main_v15 (F := Ideal) x0 x1 x2 (ix2 p q) = err x0 x1 x2 p q := by
  pointwise [val_main_v15, val_main_v14, val_main_v13, val_main_v12, val_main_v11]
  rw [v7_apply]; rfl

/-- Half of a row's length's part of twice the error is that part of the error. -/
theorem v29_apply (p : Fin 4096) (q : Fin 1024) : val_main_v29 (F := Ideal) x0 x1 x2 (ix2 p q) = dy x0 x1 x2 p q := by
  pointwise [val_main_v29, val_main_v28, val_main_v27, val_main_v26, val_main_v25, val_main_v24, val_main_v18, val_main_v17, val_main_cst_3,
    val_main_cst_8, val_main_cst_9, val_main_cst_10]
  rw [v15_apply]
  unfold dy
  rw [show Ideal.ofBits FTy.f32 0x44800000#32 = ((1024 : ℝ) : EReal) from Cert.NormRefIdeal.Read.rowLen_eq, two_eq,
    show rowLen = ((1024 : ℝ) : EReal) from Cert.NormRefIdeal.Read.rowLen_eq,
    show Ideal.ofBits FTy.f32 0x3F000000#32 = ((1 / 2 : ℝ) : EReal) from half_eq, Ideal.div_coe (by norm_num), Ideal.div_coe (by norm_num), ← mul_assoc, ← EReal.coe_mul, ← EReal.coe_mul, mul_comm]
  norm_num

theorem v34_apply (p : Fin 4096) (q : Fin 1024) :
    val_main_v34 (F := Ideal) x0 x1 x2 (ix2 p q) = dy x0 x1 x2 p q * x2 (ix2 0 q) := by
  pointwise [val_main_v34, val_main_v33]
  rw [v29_apply]

theorem v44_apply (p : Fin 4096) (q : Fin 1024) : val_main_v44 (F := Ideal) x0 x1 x2 (ix2 p q)
    = gradMean rowLen smallEps (Ideal.ofBits FTy.f32 0xBF000000#32) (row x0 p) (fun k => dy x0 x1 x2 p k * x2 (ix2 0 k)) := by
  pointwise [val_main_v44, val_main_v43, val_main_v42, val_main_v41, val_main_v40, val_main_v37, val_main_v36, val_main_v35, val_main_v10,
    val_main_v9, val_main_v8, val_main_cst_2, val_main_cst_12, val_main_cst_13, val_main_cst_14]
  refine (Finset.sum_congr rfl fun z _ => ?_).trans (Fin.sum_univ_one fun _ => gradMean rowLen smallEps _ (row x0 p)
    fun k => dy x0 x1 x2 p k * x2 (ix2 0 k))
  obtain rfl : z = 0 := Subsingleton.elim _ _
  simp only [v34_apply, v6_apply, v7_apply]
  rfl

/-- The derivative by the rows is the kernel's form of it. -/
theorem v48_apply (p : Fin 4096) (q : Fin 1024) : val_main_v48 (F := Ideal) x0 x1 x2 (ix2 p q) = dxAt x0 x1 x2 p q := by
  pointwise [val_main_v48, val_main_v47, val_main_v46, val_main_v45, val_main_v39, val_main_v38]
  rw [v34_apply, v7_apply, v44_apply]
  obtain ⟨ε, hε, e⟩ : ∃ ε : ℝ, 0 < ε ∧ smallEps = (ε : EReal) := Cert.NormRefIdeal.Read.smallEps_pos
  unfold dxAt rr
  rw [e, show rowLen = ((1024 : ℝ) : EReal) from Cert.NormRefIdeal.Read.rowLen_eq, kernelDx_eq 1024 ε (by norm_num) hε,
    Cert.NormRefIdeal.Read.minusHalf_eq]
  unfold referenceDx
  rw [zero_add]

/-- The derivative by the gain. -/
theorem v32_apply (q : Fin 1024) : val_main_v32 (F := Ideal) x0 x1 x2 (ix2 0 q) = ∑ p : Fin 4096, dgAt x0 x1 x2 p q := by
  pointwise [val_main_v32, val_main_v31, val_main_v30, val_main_v12, val_main_v11, val_main_cst_11]
  refine Finset.sum_congr rfl fun p _ => ?_
  rw [v7_apply, v29_apply, mul_comm]
  rfl

/-- The loss: one half may be taken row by row. -/
theorem v49_apply (a : Fin 8) (b : Fin 128) :
    val_main_v49 (F := Ideal) x0 x1 x2 (ix2 a b) = ∑ p : Fin 4096, half * meanSq x0 x1 x2 p := by
  pointwise [val_main_v49, val_main_v23, val_main_v22, val_main_v21, val_main_v20, val_main_v19, val_main_v16, val_main_cst_4, val_main_cst_5,
    val_main_cst_6, val_main_cst_7]
  simp only [v15_apply]
  rw [half_eq, ← coe_mul_sum _ _ _ (by norm_num), ← half_eq]
  rfl

end Cert.LossRefIdeal.Read

namespace Cert.Proof

open Idealize.ShloMosaic Idealize.SL.Sem
open Cert.LossRefIdeal.Read

/-- The reference stops with its arguments unchanged; it has no semaphore whose counter could differ from zero. -/
theorem lossRef_frame : quiescent_LossRefIdeal := fun m ρ _ =>
  (θ_run _ _ _).mono (fun r h => ⟨fun c => (h c).2.2.2.2, sem_eq_zero_of_no_sems (by decide) r.2⟩)
    (Cert.LossRefIdeal.Value.run (F := Ideal) m ρ)

/-- The kernel and the loss with its derivatives end with equal results. -/
theorem loss_algebraic : algebraic_LossIdeal_LossRefIdeal := fun m ρ m' ρ' _ hag => by
  refine ⟨fun c => Cert.LossIdeal.Value.LS m c, fun c => Cert.LossIdeal.Value.DX m c, fun c => Cert.LossIdeal.Value.DX m c,
    fun c => Cert.LossIdeal.Value.DG m c, Cert.LossIdeal.Value.run m ρ,
    (θ_run _ _ _).mono (fun r h c => ?_) (Cert.LossRefIdeal.Value.run (F := Ideal) m' ρ')⟩
  obtain ⟨h0, h1, h2, h3, h4⟩ := h c
  obtain ⟨a0, a1, a2⟩ := hag c
  have e48 : ∀ (p : Fin 4096) (q : Fin 1024), Cert.LossRefIdeal.Value.res_main_v48 m' c (ix2 p q)
      = Cert.LossIdeal.Value.DX m c (ix2 p q) := fun p q => by
    rw [val_main_v48_eq, a0, a1, a2]
    exact v48_apply _ _ _ p q
  refine ⟨h0.trans (funext fun i => ?_), h1.trans (funext fun i => ?_), h2.trans (funext fun i => ?_), h3.trans (funext fun i => ?_), h4⟩
  · rw [eq_ix2 i, val_main_v49_eq, a0, a1, a2]
    exact v49_apply _ _ _ _ _
  · rw [eq_ix2 i]; exact e48 _ _
  · rw [eq_ix2 i, val_main_v50_eq]
    refine Eq.trans ?_ (e48 _ _)
    rw [val_main_v48_eq]; rfl
  · obtain ⟨p, q, rfl⟩ : ∃ (p : Fin 1) (q : Fin 1024), i = ix2 p q := ⟨i 0, i 1, eq_ix2 i⟩
    obtain rfl : p = 0 := Subsingleton.elim _ _
    rw [val_main_v32_eq, a0, a1, a2]
    exact v32_apply _ _ _ q

end Cert.Proof

end
-- ==== Proof.DoaProduct.lean ====
/-
  The derivative of the first layer's attention by its output projection: at each of the eight grid points 512 rows of
  it; together they are the whole array.
-/
module

public import proofs.«01_k».proof.Proof.Gen.DoaIdeal.Value
public import proofs.«01_k».proof.Proof.AdamRow
public import Idealize.ShloMosaic.Lib.Pointwise
public import Idealize.ShloMosaic.Lib.Tactic

@[expose] public section

set_option maxRecDepth 16384

noncomputable section

namespace Cert.DoaIdeal.Value

open Cert.DoaIdeal Cert.DoaIdeal.Gen Cert.AdamRow Idealize.ShloMosaic Idealize.ShloMosaic.TcCoe Idealize.SL.Sem
open Idealize.ShloMosaic.Pipeline (Dat)

/-! ## One block -/

theorem pay_apply (x : Vec Ideal S512x1024 .bf16) (w : Vec Ideal S1024x1024 .bf16) (p : Fin 512) (q : Fin 1024) :
    k0_pay1 (F := Ideal) x w (ix2 p q) = ∑ k : Fin 1024, x (ix2 p k) * w (ix2 q k) := by
  pointwise [k0_pay1]

/-- The terms of an element of the product. -/
def terms (x : Vec Ideal S512x1024 .bf16) (w : Vec Ideal S1024x1024 .bf16) (p : Fin 512) (q k : Fin 1024) : EReal := x (ix2 p k) * w (ix2 q k)

/-- The one store leaves the product with the transposed array. -/
theorem out_apply (x : Vec Ideal S512x1024 .bf16) (w : Vec Ideal S1024x1024 .bf16) (p : Fin 512) (q : Fin 1024) :
    out0_2 (F := Ideal) x w (ix2 p q) = ∑ k, terms x w p q k := by
  unfold out0_2
  rw [View.canon_unit_zero (S := S512x1024) (by decide), View.ld_unit_zero (S := S512x1024) (by decide), View.ld_unit_zero (S := S1024x1024) (by decide)]
  exact pay_apply x w p q

/-! ## The whole array -/

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = t.val ∧ win0_2.index t (1 : Fin 2) = 0 := (by decide +kernel : ∀ t : Fin grid0.N, _)

theorem lt8 (t : Fin cfg0.N) : t.val < 8 := lt_of_lt_of_eq t.isLt N_0

/-- Row `p` of block `t`, in the array. -/
def at_ (t : Fin cfg0.N) (p : Fin 512) : Fin 4096 := ⟨512 * t.val + p.val, by have := lt8 t; omega⟩

theorem emb0 (t : Fin cfg0.N) (p : Fin 512) (k : Fin 1024) : ((cfg0.win 0).blk t).view.emb (ix2 p k) = ix2 (at_ t p) k := row2 (at0 t) rfl rfl rfl
theorem emb1 (t : Fin cfg0.N) (p : Fin 1024) (k : Fin 1024) : ((cfg0.win 1).blk t).view.emb (ix2 p k) = ix2 p k := whole2 (at1 t) rfl rfl
theorem emb2 (t : Fin cfg0.N) (p : Fin 512) (k : Fin 1024) : ((cfg0.win 2).blk t).view.emb (ix2 p k) = ix2 (at_ t p) k := row2 (at2 t) rfl rfl rfl

/-- A product of an array and a transposed one. -/
def prod (x : S4096x1024.Idx → EReal) (w : S1024x1024.Idx → EReal) (j : S4096x1024.Idx) : EReal :=
  ∑ k : Fin 1024, x (ix2 (j 0) k) * w (ix2 (j 1) k)

variable (m : (ℓ : Loc nD τ sig) → Buf (Elt Ideal) ℓ) (ρ : Dev nD → PrngReg)

/-- That, of the argument arrays. -/
def PR (c : Dev nD) : S4096x1024.Idx → EReal :=
  prod (m ((c : Thread nD τ).loc main_arg0)) (m ((c : Thread nD τ).loc main_arg1))

theorem iblk0_apply (c : Dev nD) (t : Fin cfg0.N) (p : Fin 512) (k : Fin 1024) :
    (iblk m c 0 t : Vec Ideal S512x1024 .bf16) (ix2 p k) = m ((c : Thread nD τ).loc main_arg0) (ix2 (at_ t p) k) := by
  show V m c main_arg0 (((cfg0.win 0).blk t).view.emb (ix2 p k)) = _; rw [emb0, V_main_arg0]
theorem iblk1_apply (c : Dev nD) (t : Fin cfg0.N) (p : Fin 1024) (k : Fin 1024) :
    (iblk m c 1 t : Vec Ideal S1024x1024 .bf16) (ix2 p k) = m ((c : Thread nD τ).loc main_arg1) (ix2 p k) := by
  show V m c main_arg1 (((cfg0.win 1).blk t).view.emb (ix2 p k)) = _; rw [emb1, V_main_arg1]

theorem flushed2_eq (c : Dev nD) (t : Fin cfg0.N) : (dats m 0 c).flushed 2 t = ((cfg0.win 2).blk t).view.read (Elt Ideal) (PR m c) := by
  rw [flushed2]
  funext j
  obtain ⟨p, q, rfl⟩ : ∃ (p : Fin 512) (q : Fin 1024), j = ix2 p q := ⟨j 0, j 1, eq_ix2 j⟩
  show out0_2 (F := Ideal) (iblk m c 0 t) (iblk m c 1 t) (ix2 p q) = PR m c (((cfg0.win 2).blk t).view.emb (ix2 p q))
  rw [emb2, out_apply]
  unfold PR prod
  refine Finset.sum_congr rfl fun k _ => ?_
  exact congrArg₂ (fun a b : EReal => a * b) (iblk0_apply m c t p k) (iblk1_apply m c t q k)

theorem final2 (c : Dev nD) : (dats m 0 c).arrAt 2 cfg0.N = PR m c :=
  (dats m 0 c).arrAt_eq_of_cover 2 (PR m c) (fun t _ => flushed2_eq m c t) fun i => by
    obtain ⟨P, q, rfl⟩ : ∃ (P : Fin 4096) (q : Fin 1024), i = ix2 P q := ⟨i 0, i 1, eq_ix2 i⟩
    have hN : P.val / 512 < cfg0.N := by rw [show cfg0.N = 8 from N_0]; omega
    refine ⟨⟨P.val / 512, hN⟩, flush0_2 _, ?_⟩
    have e : ((cfg0.win 2).blk ⟨P.val / 512, hN⟩).view.emb (ix2 (⟨P.val % 512, by omega⟩ : Fin 512) q) = ix2 P q :=
      (emb2 _ _ _).trans (congrArg (fun z => ix2 z q) (Fin.ext (by show 512 * (P.val / 512) + P.val % 512 = P.val; omega)))
    exact e ▸ ((cfg0.win 2).blk ⟨P.val / 512, hN⟩).view.emb_mem_set (ix2 (⟨P.val % 512, by omega⟩ : Fin 512) q)

/-- The run, its result named. -/
theorem run_prod : θ_run defs (onTc (τ := τ) (main (F := Ideal))) ⟨m, fun _ => 0, ρ⟩ fun r => ∀ c : Dev nD,
      r.2.mem ((c : Thread nD τ).loc main_v0) = PR m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (run_blocks m ρ)

end Cert.DoaIdeal.Value

end
-- ==== Proof.BoutProduct.lean ====
/-
  The output projection of the second layer with the residual: at each of the eight grid points 512 rows of
  it; together they are the whole array.
-/
module

public import proofs.«01_k».proof.Proof.Gen.BoutIdeal.Value
public import proofs.«01_k».proof.Proof.AdamRow
public import Idealize.ShloMosaic.Lib.Pointwise
public import Idealize.ShloMosaic.Lib.Tactic

@[expose] public section

set_option maxRecDepth 16384

noncomputable section

namespace Cert.BoutIdeal.Value

open Cert.BoutIdeal Cert.BoutIdeal.Gen Cert.AdamRow Idealize.ShloMosaic Idealize.ShloMosaic.TcCoe Idealize.SL.Sem
open Idealize.ShloMosaic.Pipeline (Dat)

/-! ## One block -/

theorem pay_apply (x : Vec Ideal S512x512 .bf16) (w : Vec Ideal S512x1024 .bf16) (r : Vec Ideal S512x1024 .f32) (p : Fin 512) (q : Fin 1024) :
    k0_pay1 (F := Ideal) x w r (ix2 p q) = (∑ k : Fin 512, x (ix2 p k) * w (ix2 k q)) + r (ix2 p q) := by
  pointwise [k0_pay1]

/-- The one store leaves the product plus the residual. -/
theorem out_apply (x : Vec Ideal S512x512 .bf16) (w : Vec Ideal S512x1024 .bf16) (r : Vec Ideal S512x1024 .f32) (p : Fin 512) (q : Fin 1024) :
    out0_3 (F := Ideal) x w r (ix2 p q) = (∑ k : Fin 512, x (ix2 p k) * w (ix2 k q)) + r (ix2 p q) := by
  unfold out0_3
  rw [View.canon_unit_zero (S := S512x1024) (by decide), View.ld_unit_zero (S := S512x512) (by decide), View.ld_unit_zero (S := S512x1024) (by decide),
    View.ld_unit_zero (S := S512x1024) (by decide)]
  exact pay_apply x w r p q

/-! ## The whole array -/

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = t.val ∧ win0_2.index t (1 : Fin 2) = 0 := (by decide +kernel : ∀ t : Fin grid0.N, _)
theorem at3 : ∀ t : Fin cfg0.N, win0_3.index t (0 : Fin 2) = t.val ∧ win0_3.index t (1 : Fin 2) = 0 := (by decide +kernel : ∀ t : Fin grid0.N, _)

theorem lt8 (t : Fin cfg0.N) : t.val < 8 := lt_of_lt_of_eq t.isLt N_0

/-- Row `p` of block `t`, in the array. -/
def at_ (t : Fin cfg0.N) (p : Fin 512) : Fin 4096 := ⟨512 * t.val + p.val, by have := lt8 t; omega⟩

theorem emb0 (t : Fin cfg0.N) (p : Fin 512) (k : Fin 512) : ((cfg0.win 0).blk t).view.emb (ix2 p k) = ix2 (at_ t p) k := row2 (at0 t) rfl rfl rfl
theorem emb1 (t : Fin cfg0.N) (p : Fin 512) (k : Fin 1024) : ((cfg0.win 1).blk t).view.emb (ix2 p k) = ix2 p k := whole2 (at1 t) rfl rfl
theorem emb2 (t : Fin cfg0.N) (p : Fin 512) (k : Fin 1024) : ((cfg0.win 2).blk t).view.emb (ix2 p k) = ix2 (at_ t p) k := row2 (at2 t) rfl rfl rfl
theorem emb3 (t : Fin cfg0.N) (p : Fin 512) (k : Fin 1024) : ((cfg0.win 3).blk t).view.emb (ix2 p k) = ix2 (at_ t p) k := row2 (at3 t) rfl rfl rfl

/-- A product of two arrays plus a third. -/
def prod (x : S4096x512.Idx → EReal) (w : S512x1024.Idx → EReal) (r : S4096x1024.Idx → EReal) (j : S4096x1024.Idx) : EReal :=
  (∑ k : Fin 512, x (ix2 (j 0) k) * w (ix2 k (j 1))) + r j

variable (m : (ℓ : Loc nD τ sig) → Buf (Elt Ideal) ℓ) (ρ : Dev nD → PrngReg)

/-- That, of the argument arrays. -/
def PR (c : Dev nD) : S4096x1024.Idx → EReal :=
  prod (m ((c : Thread nD τ).loc main_arg0)) (m ((c : Thread nD τ).loc main_arg1)) (m ((c : Thread nD τ).loc main_arg2))

theorem iblk0_apply (c : Dev nD) (t : Fin cfg0.N) (p : Fin 512) (k : Fin 512) :
    (iblk m c 0 t : Vec Ideal S512x512 .bf16) (ix2 p k) = m ((c : Thread nD τ).loc main_arg0) (ix2 (at_ t p) k) := by
  show V m c main_arg0 (((cfg0.win 0).blk t).view.emb (ix2 p k)) = _; rw [emb0, V_main_arg0]
theorem iblk1_apply (c : Dev nD) (t : Fin cfg0.N) (p : Fin 512) (k : Fin 1024) :
    (iblk m c 1 t : Vec Ideal S512x1024 .bf16) (ix2 p k) = m ((c : Thread nD τ).loc main_arg1) (ix2 p k) := by
  show V m c main_arg1 (((cfg0.win 1).blk t).view.emb (ix2 p k)) = _; rw [emb1, V_main_arg1]
theorem iblk2_apply (c : Dev nD) (t : Fin cfg0.N) (p : Fin 512) (k : Fin 1024) :
    (iblk m c 2 t : Vec Ideal S512x1024 .f32) (ix2 p k) = m ((c : Thread nD τ).loc main_arg2) (ix2 (at_ t p) k) := by
  show V m c main_arg2 (((cfg0.win 2).blk t).view.emb (ix2 p k)) = _; rw [emb2, V_main_arg2]

theorem flushed3_eq (c : Dev nD) (t : Fin cfg0.N) : (dats m 0 c).flushed 3 t = ((cfg0.win 3).blk t).view.read (Elt Ideal) (PR m c) := by
  rw [flushed3]
  funext j
  obtain ⟨p, q, rfl⟩ : ∃ (p : Fin 512) (q : Fin 1024), j = ix2 p q := ⟨j 0, j 1, eq_ix2 j⟩
  show out0_3 (F := Ideal) (iblk m c 0 t) (iblk m c 1 t) (iblk m c 2 t) (ix2 p q) = PR m c (((cfg0.win 3).blk t).view.emb (ix2 p q))
  rw [emb3, out_apply, iblk2_apply]
  refine congrArg₂ (fun a b : EReal => a + b) (Finset.sum_congr rfl fun k _ => ?_) rfl
  exact congrArg₂ (fun a b : EReal => a * b) (iblk0_apply m c t p k) (iblk1_apply m c t k q)

theorem final3 (c : Dev nD) : (dats m 0 c).arrAt 3 cfg0.N = PR m c :=
  (dats m 0 c).arrAt_eq_of_cover 3 (PR m c) (fun t _ => flushed3_eq m c t) fun i => by
    obtain ⟨P, q, rfl⟩ : ∃ (P : Fin 4096) (q : Fin 1024), i = ix2 P q := ⟨i 0, i 1, eq_ix2 i⟩
    have hN : P.val / 512 < cfg0.N := by rw [show cfg0.N = 8 from N_0]; omega
    refine ⟨⟨P.val / 512, hN⟩, flush0_3 _, ?_⟩
    have e : ((cfg0.win 3).blk ⟨P.val / 512, hN⟩).view.emb (ix2 (⟨P.val % 512, by omega⟩ : Fin 512) q) = ix2 P q :=
      (emb3 _ _ _).trans (congrArg (fun z => ix2 z q) (Fin.ext (by show 512 * (P.val / 512) + P.val % 512 = P.val; omega)))
    exact e ▸ ((cfg0.win 3).blk ⟨P.val / 512, hN⟩).view.emb_mem_set (ix2 (⟨P.val % 512, by omega⟩ : Fin 512) q)

/-- The run, its result named. -/
theorem run_prod : θ_run defs (onTc (τ := τ) (main (F := Ideal))) ⟨m, fun _ => 0, ρ⟩ fun r => ∀ c : Dev nD,
      r.2.mem ((c : Thread nD τ).loc main_v0) = PR m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩) (run_blocks m ρ)

end Cert.BoutIdeal.Value

end
-- ==== Proof.OutClaims.lean ====
/- The claims about two products by a layer's output projection, put together: each call and its reference end with the same array. -/
module

public import proofs.«01_k».proof.Defs
public import proofs.«01_k».proof.Proof.Gen.Doa.Frame
public import proofs.«01_k».proof.Proof.Gen.DoaRefIdeal.Run
public import proofs.«01_k».proof.Proof.Gen.DoaRefIdeal.Read
public import proofs.«01_k».proof.Proof.DoaProduct
public import proofs.«01_k».proof.Proof.Gen.Bout.Frame
public import proofs.«01_k».proof.Proof.Gen.BoutRefIdeal.Run
public import proofs.«01_k».proof.Proof.Gen.BoutRefIdeal.Read
public import proofs.«01_k».proof.Proof.BoutProduct
public import Idealize.ShloMosaic.Lib.Quiescent

@[expose] public section

set_option maxRecDepth 16384

noncomputable section

namespace Cert.Proof

open Idealize.ShloMosaic Idealize.SL.Sem

section Doa
open Cert.DoaRefIdeal Cert.DoaRefIdeal.Read

theorem doaRef_apply (x : (⟨S4096x1024, .bf16⟩ : BufTy).Contents (Elt Ideal)) (w : (⟨S1024x1024, .bf16⟩ : BufTy).Contents (Elt Ideal))
    (p : Fin 4096) (q : Fin 1024) :
    val_main_v5 (F := Ideal) x w (ix2 p q) = Cert.DoaIdeal.Value.prod x w (ix2 p q) := by
  pointwise [val_main_v5, val_main_v4, val_main_v3, val_main_v0]
  rfl

theorem doaRef_frame : quiescent_DoaRefIdeal := fun m ρ _ =>
  (θ_run _ _ _).mono (fun r h => ⟨fun c => (h c).2, sem_eq_zero_of_no_sems (by decide) r.2⟩)
    (Cert.DoaRefIdeal.Value.run (F := Ideal) m ρ)

/-- The kernel and the derivative of the product end with equal results. -/
theorem doa_algebraic : algebraic_DoaIdeal_DoaRefIdeal := fun m ρ m' ρ' _ hag => by
  refine ⟨fun c => Cert.DoaIdeal.Value.PR m c, Cert.DoaIdeal.Value.run_prod m ρ,
    (θ_run _ _ _).mono (fun r h c => ?_) (Cert.DoaRefIdeal.Value.run (F := Ideal) m' ρ')⟩
  obtain ⟨h0, h1⟩ := h c
  obtain ⟨a0, a1⟩ := hag c
  refine ⟨h0.trans (funext fun i => ?_), h1⟩
  rw [eq_ix2 i, val_main_v5_eq, a0, a1]
  exact doaRef_apply _ _ _ _

end Doa

section Bout
open Cert.BoutRefIdeal Cert.BoutRefIdeal.Read

theorem boutRef_apply (x : (⟨S4096x512, .bf16⟩ : BufTy).Contents (Elt Ideal)) (w : (⟨S512x1024, .bf16⟩ : BufTy).Contents (Elt Ideal))
    (r : (⟨S4096x1024, .f32⟩ : BufTy).Contents (Elt Ideal)) (p : Fin 4096) (q : Fin 1024) :
    val_main_v3 (F := Ideal) x w r (ix2 p q) = Cert.BoutIdeal.Value.prod x w r (ix2 p q) := by
  pointwise [val_main_v3, val_main_v2, val_main_v1, val_main_v0]
  exact add_comm _ _

theorem boutRef_frame : quiescent_BoutRefIdeal := fun m ρ _ =>
  (θ_run _ _ _).mono (fun r h => ⟨fun c => (h c).2, sem_eq_zero_of_no_sems (by decide) r.2⟩)
    (Cert.BoutRefIdeal.Value.run (F := Ideal) m ρ)

/-- The kernel and the residual plus the product end with equal results. -/
theorem bout_algebraic : algebraic_BoutIdeal_BoutRefIdeal := fun m ρ m' ρ' _ hag => by
  refine ⟨fun c => Cert.BoutIdeal.Value.PR m c, Cert.BoutIdeal.Value.run_prod m ρ,
    (θ_run _ _ _).mono (fun r h c => ?_) (Cert.BoutRefIdeal.Value.run (F := Ideal) m' ρ')⟩
  obtain ⟨h0, h1⟩ := h c
  obtain ⟨a0, a1, a2⟩ := hag c
  refine ⟨h0.trans (funext fun i => ?_), h1⟩
  rw [eq_ix2 i, val_main_v3_eq, a0, a1, a2]
  exact boutRef_apply _ _ _ _ _

end Bout

end Cert.Proof

end
-- ==== Proof.lean ====
/- The proof of the certificate's claim: the programs' stated facts first, then the frames and the value claims in the order of the statement. -/
module

public import proofs.«01_k».proof.Proof.Gen.NormIdeal.Value
public import proofs.«01_k».proof.Proof.Gen.NormRefIdeal.Run
public import proofs.«01_k».proof.Proof.Gen.NormRefIdeal.Read
public import proofs.«01_k».proof.Proof.Gen.WgradIdeal.Value
public import proofs.«01_k».proof.Proof.Gen.WgradRefIdeal.Run
public import proofs.«01_k».proof.Proof.Gen.WgradRefIdeal.Read
public import proofs.«01_k».proof.Proof.Gen.Dil
public import proofs.«01_k».proof.Proof.Gen.Dil.Frame
public import proofs.«01_k».proof.Proof.Gen.DilIdeal
public import proofs.«01_k».proof.Proof.Gen.DilIdeal.Frame
public import proofs.«01_k».proof.Proof.Gen.DilIdeal.Value
public import proofs.«01_k».proof.Proof.Gen.DilRefIdeal
public import proofs.«01_k».proof.Proof.Gen.DilRefIdeal.Run
public import proofs.«01_k».proof.Proof.Gen.DilRefIdeal.Read
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Dact
public import proofs.«01_k».proof.Proof.Gen.Dact.Frame
public import proofs.«01_k».proof.Proof.Gen.DactIdeal
public import proofs.«01_k».proof.Proof.Gen.DactIdeal.Frame
public import proofs.«01_k».proof.Proof.Gen.DactIdeal.Value
public import proofs.«01_k».proof.Proof.Gen.DactRefIdeal
public import proofs.«01_k».proof.Proof.Gen.DactRefIdeal.Run
public import proofs.«01_k».proof.Proof.Gen.DactRefIdeal.Read
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Query
public import proofs.«01_k».proof.Proof.Gen.Query.Frame
public import proofs.«01_k».proof.Proof.Gen.QueryIdeal
public import proofs.«01_k».proof.Proof.Gen.QueryIdeal.Frame
public import proofs.«01_k».proof.Proof.Gen.QueryIdeal.Value
public import proofs.«01_k».proof.Proof.Gen.QueryRefIdeal
public import proofs.«01_k».proof.Proof.Gen.QueryRefIdeal.Run
public import proofs.«01_k».proof.Proof.Gen.QueryRefIdeal.Read
public import proofs.«01_k».proof.Proof.Gen.Aout
public import proofs.«01_k».proof.Proof.Gen.Aout.Frame
public import proofs.«01_k».proof.Proof.Gen.AoutIdeal
public import proofs.«01_k».proof.Proof.Gen.AoutIdeal.Frame
public import proofs.«01_k».proof.Proof.Gen.AoutIdeal.Value
public import proofs.«01_k».proof.Proof.Gen.AoutRefIdeal
public import proofs.«01_k».proof.Proof.Gen.AoutRefIdeal.Run
public import proofs.«01_k».proof.Proof.Gen.AoutRefIdeal.Read
public import proofs.«01_k».proof.Proof.Gen.WgradKv
public import proofs.«01_k».proof.Proof.Gen.WgradKv.Frame
public import proofs.«01_k».proof.Proof.Gen.WgradKvIdeal
public import proofs.«01_k».proof.Proof.Gen.WgradKvIdeal.Frame
public import proofs.«01_k».proof.Proof.Gen.WgradKvIdeal.Value
public import proofs.«01_k».proof.Proof.Gen.WgradKvRefIdeal
public import proofs.«01_k».proof.Proof.Gen.WgradKvRefIdeal.Run
public import proofs.«01_k».proof.Proof.Gen.WgradKvRefIdeal.Read
public import proofs.«01_k».proof.Proof.Gen.WgradIn
public import proofs.«01_k».proof.Proof.Gen.WgradIn.Frame
public import proofs.«01_k».proof.Proof.Gen.WgradInIdeal
public import proofs.«01_k».proof.Proof.Gen.WgradInIdeal.Frame
public import proofs.«01_k».proof.Proof.Gen.WgradInIdeal.Value
public import proofs.«01_k».proof.Proof.Gen.WgradInRefIdeal
public import proofs.«01_k».proof.Proof.Gen.WgradInRefIdeal.Run
public import proofs.«01_k».proof.Proof.Gen.WgradInRefIdeal.Read
public import proofs.«01_k».proof.Proof.Gen.WgradQ
public import proofs.«01_k».proof.Proof.Gen.WgradQ.Frame
public import proofs.«01_k».proof.Proof.Gen.WgradQIdeal
public import proofs.«01_k».proof.Proof.Gen.WgradQIdeal.Frame
public import proofs.«01_k».proof.Proof.Gen.WgradQIdeal.Value
public import proofs.«01_k».proof.Proof.Gen.WgradQRefIdeal
public import proofs.«01_k».proof.Proof.Gen.WgradQRefIdeal.Run
public import proofs.«01_k».proof.Proof.Gen.WgradQRefIdeal.Read
public import proofs.«01_k».proof.Proof.Gen.NormKv
public import proofs.«01_k».proof.Proof.Gen.NormKv.Frame
public import proofs.«01_k».proof.Proof.Gen.NormKvIdeal
public import proofs.«01_k».proof.Proof.Gen.NormKvIdeal.Frame
public import proofs.«01_k».proof.Proof.Gen.NormKvIdeal.Value
public import proofs.«01_k».proof.Proof.Gen.NormKvRefIdeal
public import proofs.«01_k».proof.Proof.Gen.NormKvRefIdeal.Run
public import proofs.«01_k».proof.Proof.Gen.NormKvRefIdeal.Read
public import proofs.«01_k».proof.Proof.Gen.NormIn
public import proofs.«01_k».proof.Proof.Gen.NormIn.Frame
public import proofs.«01_k».proof.Proof.Gen.NormInIdeal
public import proofs.«01_k».proof.Proof.Gen.NormInIdeal.Frame
public import proofs.«01_k».proof.Proof.Gen.NormInIdeal.Value
public import proofs.«01_k».proof.Proof.Gen.NormInRefIdeal
public import proofs.«01_k».proof.Proof.Gen.NormInRefIdeal.Run
public import proofs.«01_k».proof.Proof.Gen.NormInRefIdeal.Read
public import proofs.«01_k».proof.Proof.Gen.NormQ
public import proofs.«01_k».proof.Proof.Gen.NormQ.Frame
public import proofs.«01_k».proof.Proof.Gen.NormQIdeal
public import proofs.«01_k».proof.Proof.Gen.NormQIdeal.Frame
public import proofs.«01_k».proof.Proof.Gen.NormQIdeal.Value
public import proofs.«01_k».proof.Proof.Gen.NormQRefIdeal
public import proofs.«01_k».proof.Proof.Gen.NormQRefIdeal.Run
public import proofs.«01_k».proof.Proof.Gen.NormQRefIdeal.Read
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamQuery
public import proofs.«01_k».proof.Proof.Gen.AdamQuery.Frame
public import proofs.«01_k».proof.Proof.Gen.AdamQueryIdeal
public import proofs.«01_k».proof.Proof.Gen.AdamQueryIdeal.Frame
public import proofs.«01_k».proof.Proof.Gen.AdamQueryIdeal.Value
public import proofs.«01_k».proof.Proof.Gen.AdamQueryRefIdeal
public import proofs.«01_k».proof.Proof.Gen.AdamQueryRefIdeal.Run
public import proofs.«01_k».proof.Proof.Gen.AdamQueryRefIdeal.Read
public import proofs.«01_k».proof.Proof.Gen.AdamBout
public import proofs.«01_k».proof.Proof.Gen.AdamBout.Frame
public import proofs.«01_k».proof.Proof.Gen.AdamBoutIdeal
public import proofs.«01_k».proof.Proof.Gen.AdamBoutIdeal.Frame
public import proofs.«01_k».proof.Proof.Gen.AdamBoutIdeal.Value
public import proofs.«01_k».proof.Proof.Gen.AdamBoutRefIdeal
public import proofs.«01_k».proof.Proof.Gen.AdamBoutRefIdeal.Run
public import proofs.«01_k».proof.Proof.Gen.AdamBoutRefIdeal.Read
public import proofs.«01_k».proof.Proof.Gen.AdamKv
public import proofs.«01_k».proof.Proof.Gen.AdamKv.Frame
public import proofs.«01_k».proof.Proof.Gen.AdamKvIdeal
public import proofs.«01_k».proof.Proof.Gen.AdamKvIdeal.Frame
public import proofs.«01_k».proof.Proof.Gen.AdamKvIdeal.Value
public import proofs.«01_k».proof.Proof.Gen.AdamKvRefIdeal
public import proofs.«01_k».proof.Proof.Gen.AdamKvRefIdeal.Run
public import proofs.«01_k».proof.Proof.Gen.AdamKvRefIdeal.Read
public import proofs.«01_k».proof.Proof.Gen.AdamUp
public import proofs.«01_k».proof.Proof.Gen.AdamUp.Frame
public import proofs.«01_k».proof.Proof.Gen.AdamUpIdeal
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamUpRefIdeal.Read
public import proofs.«01_k».proof.Proof.Gen.AdamDown
public import proofs.«01_k».proof.Proof.Gen.AdamDown.Frame
public import proofs.«01_k».proof.Proof.Gen.AdamDownIdeal
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.Gen.AdamConv
public import proofs.«01_k».proof.Proof.Gen.AdamConv.Frame
public import proofs.«01_k».proof.Proof.Gen.AdamConvIdeal
public import proofs.«01_k».proof.Proof.Gen.AdamConvIdeal.Frame
public import proofs.«01_k».proof.Proof.Gen.AdamConvIdeal.Value
public import proofs.«01_k».proof.Proof.Gen.AdamConvRefIdeal
public import proofs.«01_k».proof.Proof.Gen.AdamConvRefIdeal.Run
public import proofs.«01_k».proof.Proof.Gen.AdamConvRefIdeal.Read
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Doa
public import proofs.«01_k».proof.Proof.Gen.Doa.Frame
public import proofs.«01_k».proof.Proof.Gen.DoaIdeal
public import proofs.«01_k».proof.Proof.Gen.DoaIdeal.Frame
public import proofs.«01_k».proof.Proof.Gen.DoaIdeal.Value
public import proofs.«01_k».proof.Proof.Gen.DoaRefIdeal
public import proofs.«01_k».proof.Proof.Gen.DoaRefIdeal.Run
public import proofs.«01_k».proof.Proof.Gen.DoaRefIdeal.Read
public import proofs.«01_k».proof.Proof.Gen.Bout
public import proofs.«01_k».proof.Proof.Gen.Bout.Frame
public import proofs.«01_k».proof.Proof.Gen.BoutIdeal
public import proofs.«01_k».proof.Proof.Gen.BoutIdeal.Frame
public import proofs.«01_k».proof.Proof.Gen.BoutIdeal.Value
public import proofs.«01_k».proof.Proof.Gen.BoutRefIdeal
public import proofs.«01_k».proof.Proof.Gen.BoutRefIdeal.Run
public import proofs.«01_k».proof.Proof.Gen.BoutRefIdeal.Read
public import proofs.«01_k».proof.Defs
public import proofs.«01_k».proof.Proof.NormClaims
public import proofs.«01_k».proof.Proof.WgradClaims
public import proofs.«01_k».proof.Proof.DilClaims
public import proofs.«01_k».proof.Proof.FfnClaims
public import proofs.«01_k».proof.Proof.ProjClaims
public import proofs.«01_k».proof.Proof.WgradKvClaims
public import proofs.«01_k».proof.Proof.WgradInClaims
public import proofs.«01_k».proof.Proof.WgradQClaims
public import proofs.«01_k».proof.Proof.NormKvClaims
public import proofs.«01_k».proof.Proof.NormInClaims
public import proofs.«01_k».proof.Proof.NormQClaims
public import proofs.«01_k».proof.Proof.AdamInStep
public import proofs.«01_k».proof.Proof.AdamOutStep
public import proofs.«01_k».proof.Proof.AdamQueryStep
public import proofs.«01_k».proof.Proof.AdamBoutStep
public import proofs.«01_k».proof.Proof.AdamKvStep
public import proofs.«01_k».proof.Proof.AdamUpStep
public import proofs.«01_k».proof.Proof.AdamDownStep
public import proofs.«01_k».proof.Proof.AdamConvStep
public import proofs.«01_k».proof.Proof.AdamSmallStep
public import proofs.«01_k».proof.Proof.LossClaims
public import proofs.«01_k».proof.Proof.OutClaims
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.Wgrad
public import proofs.«01_k».proof.Proof.Gen.Wgrad.Frame
public import proofs.«01_k».proof.Proof.Gen.WgradIdeal
public import proofs.«01_k».proof.Proof.Gen.WgradIdeal.Frame
public import proofs.«01_k».proof.Proof.Gen.WgradRefIdeal
public import Idealize.ShloMosaic.Adequacy
public import Idealize.ShloMosaic.Init

@[expose] public section

noncomputable section

namespace Cert.Proof

open Idealize.ShloMosaic Idealize.SL.Sem

theorem claim : Cert.Claim := ⟨Cert.Norm.Gen.facts, Cert.NormIdeal.Gen.facts, Cert.NormRefIdeal.Gen.facts,
  Cert.Wgrad.Gen.facts, Cert.WgradIdeal.Gen.facts, Cert.WgradRefIdeal.Gen.facts,
  Cert.Dil.Gen.facts, Cert.DilIdeal.Gen.facts, Cert.DilRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Dact.Gen.facts, Cert.DactIdeal.Gen.facts, Cert.DactRefIdeal.Gen.facts,
  Cert.Proj.Gen.facts, Cert.ProjIdeal.Gen.facts, Cert.ProjRefIdeal.Gen.facts,
  Cert.Query.Gen.facts, Cert.QueryIdeal.Gen.facts, Cert.QueryRefIdeal.Gen.facts,
  Cert.Aout.Gen.facts, Cert.AoutIdeal.Gen.facts, Cert.AoutRefIdeal.Gen.facts,
  Cert.WgradKv.Gen.facts, Cert.WgradKvIdeal.Gen.facts, Cert.WgradKvRefIdeal.Gen.facts,
  Cert.WgradIn.Gen.facts, Cert.WgradInIdeal.Gen.facts, Cert.WgradInRefIdeal.Gen.facts,
  Cert.WgradQ.Gen.facts, Cert.WgradQIdeal.Gen.facts, Cert.WgradQRefIdeal.Gen.facts,
  Cert.NormKv.Gen.facts, Cert.NormKvIdeal.Gen.facts, Cert.NormKvRefIdeal.Gen.facts,
  Cert.NormIn.Gen.facts, Cert.NormInIdeal.Gen.facts, Cert.NormInRefIdeal.Gen.facts,
  Cert.NormQ.Gen.facts, Cert.NormQIdeal.Gen.facts, Cert.NormQRefIdeal.Gen.facts,
  Cert.AdamIn.Gen.facts, Cert.AdamInIdeal.Gen.facts, Cert.AdamInRefIdeal.Gen.facts,
  Cert.AdamOut.Gen.facts, Cert.AdamOutIdeal.Gen.facts, Cert.AdamOutRefIdeal.Gen.facts,
  Cert.AdamQuery.Gen.facts, Cert.AdamQueryIdeal.Gen.facts, Cert.AdamQueryRefIdeal.Gen.facts,
  Cert.AdamBout.Gen.facts, Cert.AdamBoutIdeal.Gen.facts, Cert.AdamBoutRefIdeal.Gen.facts,
  Cert.AdamKv.Gen.facts, Cert.AdamKvIdeal.Gen.facts, Cert.AdamKvRefIdeal.Gen.facts,
  Cert.AdamUp.Gen.facts, Cert.AdamUpIdeal.Gen.facts, Cert.AdamUpRefIdeal.Gen.facts,
  Cert.AdamDown.Gen.facts, Cert.AdamDownIdeal.Gen.facts, Cert.AdamDownRefIdeal.Gen.facts,
  Cert.AdamConv.Gen.facts, Cert.AdamConvIdeal.Gen.facts, Cert.AdamConvRefIdeal.Gen.facts,
  Cert.AdamSmall.Gen.facts, Cert.AdamSmallIdeal.Gen.facts, Cert.AdamSmallRefIdeal.Gen.facts,
  Cert.Loss.Gen.facts, Cert.LossIdeal.Gen.facts, Cert.LossRefIdeal.Gen.facts,
  Cert.Doa.Gen.facts, Cert.DoaIdeal.Gen.facts, Cert.DoaRefIdeal.Gen.facts,
  Cert.Bout.Gen.facts, Cert.BoutIdeal.Gen.facts, Cert.BoutRefIdeal.Gen.facts,
  Cert.Pre_finite.Value.facts,
  fun m ρ _ => Cert.Norm.Gen.frame m ρ, fun m ρ _ => Cert.NormIdeal.Gen.frame m ρ, normRef_frame,
  fun m ρ _ => Cert.Wgrad.Gen.frame m ρ, fun m ρ _ => Cert.WgradIdeal.Gen.frame m ρ, wgradRef_frame,
  fun m ρ _ => Cert.Dil.Gen.frame m ρ, fun m ρ _ => Cert.DilIdeal.Gen.frame m ρ, fun m ρ _ => Cert.DilIdeal.Gen.frame m ρ,
  dilRef_frame, dilRef_frame_finite,
  fun m ρ _ => Cert.Up.Gen.frame m ρ, fun m ρ _ => Cert.UpIdeal.Gen.frame m ρ, upRef_frame,
  fun m ρ _ => Cert.Down.Gen.frame m ρ, fun m ρ _ => Cert.DownIdeal.Gen.frame m ρ, downRef_frame,
  fun m ρ _ => Cert.Dact.Gen.frame m ρ, fun m ρ _ => Cert.DactIdeal.Gen.frame m ρ, dactRef_frame,
  fun m ρ _ => Cert.Proj.Gen.frame m ρ, fun m ρ _ => Cert.ProjIdeal.Gen.frame m ρ, projRef_frame,
  fun m ρ _ => Cert.Query.Gen.frame m ρ, fun m ρ _ => Cert.QueryIdeal.Gen.frame m ρ, queryRef_frame,
  fun m ρ _ => Cert.Aout.Gen.frame m ρ, fun m ρ _ => Cert.AoutIdeal.Gen.frame m ρ, aoutRef_frame,
  fun m ρ _ => Cert.WgradKv.Gen.frame m ρ, fun m ρ _ => Cert.WgradKvIdeal.Gen.frame m ρ, wgradKvRef_frame,
  fun m ρ _ => Cert.WgradIn.Gen.frame m ρ, fun m ρ _ => Cert.WgradInIdeal.Gen.frame m ρ, wgradInRef_frame,
  fun m ρ _ => Cert.WgradQ.Gen.frame m ρ, fun m ρ _ => Cert.WgradQIdeal.Gen.frame m ρ, wgradQRef_frame,
  fun m ρ _ => Cert.NormKv.Gen.frame m ρ, fun m ρ _ => Cert.NormKvIdeal.Gen.frame m ρ, normKvRef_frame,
  fun m ρ _ => Cert.NormIn.Gen.frame m ρ, fun m ρ _ => Cert.NormInIdeal.Gen.frame m ρ, normInRef_frame,
  fun m ρ _ => Cert.NormQ.Gen.frame m ρ, fun m ρ _ => Cert.NormQIdeal.Gen.frame m ρ, normQRef_frame,
  fun m ρ _ => Cert.AdamIn.Gen.frame m ρ, fun m ρ _ => Cert.AdamInIdeal.Gen.frame m ρ, adamInRef_frame,
  fun m ρ _ => Cert.AdamOut.Gen.frame m ρ, fun m ρ _ => Cert.AdamOutIdeal.Gen.frame m ρ, adamOutRef_frame,
  fun m ρ _ => Cert.AdamQuery.Gen.frame m ρ, fun m ρ _ => Cert.AdamQueryIdeal.Gen.frame m ρ, adamQueryRef_frame,
  fun m ρ _ => Cert.AdamBout.Gen.frame m ρ, fun m ρ _ => Cert.AdamBoutIdeal.Gen.frame m ρ, adamBoutRef_frame,
  fun m ρ _ => Cert.AdamKv.Gen.frame m ρ, fun m ρ _ => Cert.AdamKvIdeal.Gen.frame m ρ, adamKvRef_frame,
  fun m ρ _ => Cert.AdamUp.Gen.frame m ρ, fun m ρ _ => Cert.AdamUpIdeal.Gen.frame m ρ, adamUpRef_frame,
  fun m ρ _ => Cert.AdamDown.Gen.frame m ρ, fun m ρ _ => Cert.AdamDownIdeal.Gen.frame m ρ, adamDownRef_frame,
  fun m ρ _ => Cert.AdamConv.Gen.frame m ρ, fun m ρ _ => Cert.AdamConvIdeal.Gen.frame m ρ, adamConvRef_frame,
  fun m ρ _ => Cert.AdamSmall.Gen.frame m ρ, fun m ρ _ => Cert.AdamSmallIdeal.Gen.frame m ρ, adamSmallRef_frame,
  fun m ρ _ => Cert.Loss.Gen.frame m ρ, fun m ρ _ => Cert.LossIdeal.Gen.frame m ρ, lossRef_frame,
  fun m ρ _ => Cert.Doa.Gen.frame m ρ, fun m ρ _ => Cert.DoaIdeal.Gen.frame m ρ, doaRef_frame,
  fun m ρ _ => Cert.Bout.Gen.frame m ρ, fun m ρ _ => Cert.BoutIdeal.Gen.frame m ρ, boutRef_frame,
  trivial, norm_algebraic, trivial, wgrad_algebraic, dil_preserves, dil_algebraic, trivial, up_algebraic, trivial, down_algebraic, trivial, dact_algebraic, trivial, proj_algebraic, trivial, query_algebraic, trivial, aout_algebraic, trivial, wgradKv_algebraic, trivial, wgradIn_algebraic, trivial, wgradQ_algebraic, trivial, normKv_algebraic, trivial, normIn_algebraic, trivial, normQ_algebraic, trivial, adamIn_algebraic, trivial, adamOut_algebraic, trivial, adamQuery_algebraic, trivial, adamBout_algebraic, trivial, adamKv_algebraic, trivial, adamUp_algebraic, trivial, adamDown_algebraic, trivial, adamConv_algebraic, trivial, adamSmall_algebraic, trivial, loss_algebraic, trivial, doa_algebraic, trivial, bout_algebraic⟩

end Cert.Proof

end
